-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_WOutSib (m : (ℓ : Loc Cert.WOutSib.nD Cert.WOutSib.τ Cert.WOutSib.sig) → Buf (Elt Bits) ℓ) : Prop :=
  True

def Pre_WOutSibIdeal (m : (ℓ : Loc Cert.WOutSibIdeal.nD Cert.WOutSibIdeal.τ Cert.WOutSibIdeal.sig) → Buf (Elt Ideal) ℓ) : Prop :=
  True

def Pre_WOutSibReferenceIdeal (m : (ℓ : Loc Cert.WOutSibReferenceIdeal.nD Cert.WOutSibReferenceIdeal.τ Cert.WOutSibReferenceIdeal.sig) → Buf (Elt Ideal) ℓ) : Prop :=
  True

def Pre_WInPair (m : (ℓ : Loc Cert.WInPair.nD Cert.WInPair.τ Cert.WInPair.sig) → Buf (Elt Bits) ℓ) : Prop :=
  True

def Pre_WInPairIdeal (m : (ℓ : Loc Cert.WInPairIdeal.nD Cert.WInPairIdeal.τ Cert.WInPairIdeal.sig) → Buf (Elt Ideal) ℓ) : Prop :=
  True

def Pre_WInPairReferenceIdeal (m : (ℓ : Loc Cert.WInPairReferenceIdeal.nD Cert.WInPairReferenceIdeal.τ Cert.WInPairReferenceIdeal.sig) → Buf (Elt Ideal) ℓ) : Prop :=
  True

def Pre_WOutPair (m : (ℓ : Loc Cert.WOutPair.nD Cert.WOutPair.τ Cert.WOutPair.sig) → Buf (Elt Bits) ℓ) : Prop :=
  True

def Pre_WOutPairIdeal (m : (ℓ : Loc Cert.WOutPairIdeal.nD Cert.WOutPairIdeal.τ Cert.WOutPairIdeal.sig) → Buf (Elt Ideal) ℓ) : Prop :=
  True

def Pre_WOutPairReferenceIdeal (m : (ℓ : Loc Cert.WOutPairReferenceIdeal.nD Cert.WOutPairReferenceIdeal.τ Cert.WOutPairReferenceIdeal.sig) → Buf (Elt Ideal) ℓ) : Prop :=
  True

def Pre_WInShare (m : (ℓ : Loc Cert.WInShare.nD Cert.WInShare.τ Cert.WInShare.sig) → Buf (Elt Bits) ℓ) : Prop :=
  True

def Pre_WInShareIdeal (m : (ℓ : Loc Cert.WInShareIdeal.nD Cert.WInShareIdeal.τ Cert.WInShareIdeal.sig) → Buf (Elt Ideal) ℓ) : Prop :=
  True

def Pre_WInShareReferenceIdeal (m : (ℓ : Loc Cert.WInShareReferenceIdeal.nD Cert.WInShareReferenceIdeal.τ Cert.WInShareReferenceIdeal.sig) → Buf (Elt Ideal) ℓ) : Prop :=
  True

def Pre_WOutShare (m : (ℓ : Loc Cert.WOutShare.nD Cert.WOutShare.τ Cert.WOutShare.sig) → Buf (Elt Bits) ℓ) : Prop :=
  True

def Pre_WOutShareIdeal (m : (ℓ : Loc Cert.WOutShareIdeal.nD Cert.WOutShareIdeal.τ Cert.WOutShareIdeal.sig) → Buf (Elt Ideal) ℓ) : Prop :=
  True

def Pre_WOutShareReferenceIdeal (m : (ℓ : Loc Cert.WOutShareReferenceIdeal.nD Cert.WOutShareReferenceIdeal.τ Cert.WOutShareReferenceIdeal.sig) → Buf (Elt Ideal) ℓ) : Prop :=
  True

def Pre_RepStep (m : (ℓ : Loc Cert.RepStep.nD Cert.RepStep.τ Cert.RepStep.sig) → Buf (Elt Bits) ℓ) : Prop :=
  True

def Pre_RepStepIdeal (m : (ℓ : Loc Cert.RepStepIdeal.nD Cert.RepStepIdeal.τ Cert.RepStepIdeal.sig) → Buf (Elt Ideal) ℓ) : Prop :=
  True

def Pre_RepStepReferenceIdeal (m : (ℓ : Loc Cert.RepStepReferenceIdeal.nD Cert.RepStepReferenceIdeal.τ Cert.RepStepReferenceIdeal.sig) → Buf (Elt Ideal) ℓ) : Prop :=
  True

def Pre_SmallStep (m : (ℓ : Loc Cert.SmallStep.nD Cert.SmallStep.τ Cert.SmallStep.sig) → Buf (Elt Bits) ℓ) : Prop :=
  True

def Pre_SmallStepIdeal (m : (ℓ : Loc Cert.SmallStepIdeal.nD Cert.SmallStepIdeal.τ Cert.SmallStepIdeal.sig) → Buf (Elt Ideal) ℓ) : Prop :=
  True

def Pre_SmallStepReferenceIdeal (m : (ℓ : Loc Cert.SmallStepReferenceIdeal.nD Cert.SmallStepReferenceIdeal.τ Cert.SmallStepReferenceIdeal.sig) → Buf (Elt Ideal) ℓ) : Prop :=
  True

def Pre_WInStep (m : (ℓ : Loc Cert.WInStep.nD Cert.WInStep.τ Cert.WInStep.sig) → Buf (Elt Bits) ℓ) : Prop :=
  True

def Pre_WInStepIdeal (m : (ℓ : Loc Cert.WInStepIdeal.nD Cert.WInStepIdeal.τ Cert.WInStepIdeal.sig) → Buf (Elt Ideal) ℓ) : Prop :=
  True

def Pre_WInStepReferenceIdeal (m : (ℓ : Loc Cert.WInStepReferenceIdeal.nD Cert.WInStepReferenceIdeal.τ Cert.WInStepReferenceIdeal.sig) → Buf (Elt Ideal) ℓ) : Prop :=
  True

def Pre_WOutStep (m : (ℓ : Loc Cert.WOutStep.nD Cert.WOutStep.τ Cert.WOutStep.sig) → Buf (Elt Bits) ℓ) : Prop :=
  True

def Pre_WOutStepIdeal (m : (ℓ : Loc Cert.WOutStepIdeal.nD Cert.WOutStepIdeal.τ Cert.WOutStepIdeal.sig) → Buf (Elt Ideal) ℓ) : Prop :=
  True

def Pre_WOutStepReferenceIdeal (m : (ℓ : Loc Cert.WOutStepReferenceIdeal.nD Cert.WOutStepReferenceIdeal.τ Cert.WOutStepReferenceIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_WInSum (m : (ℓ : Loc Cert.WInSum.nD Cert.WInSum.τ Cert.WInSum.sig) → Buf (Elt Bits) ℓ) : Prop :=
  True

def Pre_WInSumIdeal (m : (ℓ : Loc Cert.WInSumIdeal.nD Cert.WInSumIdeal.τ Cert.WInSumIdeal.sig) → Buf (Elt Ideal) ℓ) : Prop :=
  True

def Pre_WInSumReferenceIdeal (m : (ℓ : Loc Cert.WInSumReferenceIdeal.nD Cert.WInSumReferenceIdeal.τ Cert.WInSumReferenceIdeal.sig) → Buf (Elt Ideal) ℓ) : Prop :=
  True

def Pre_WOutSum (m : (ℓ : Loc Cert.WOutSum.nD Cert.WOutSum.τ Cert.WOutSum.sig) → Buf (Elt Bits) ℓ) : Prop :=
  True

def Pre_WOutSumIdeal (m : (ℓ : Loc Cert.WOutSumIdeal.nD Cert.WOutSumIdeal.τ Cert.WOutSumIdeal.sig) → Buf (Elt Ideal) ℓ) : Prop :=
  True

def Pre_WOutSumReferenceIdeal (m : (ℓ : Loc Cert.WOutSumReferenceIdeal.nD Cert.WOutSumReferenceIdeal.τ Cert.WOutSumReferenceIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumReferenceIdeal (m : (ℓ : Loc Cert.SmallSumReferenceIdeal.nD Cert.SmallSumReferenceIdeal.τ Cert.SmallSumReferenceIdeal.sig) → Buf (Elt Ideal) ℓ) : Prop :=
  True

def Pre_WOutAdd (m : (ℓ : Loc Cert.WOutAdd.nD Cert.WOutAdd.τ Cert.WOutAdd.sig) → Buf (Elt Bits) ℓ) : Prop :=
  True

def Pre_WOutAddIdeal (m : (ℓ : Loc Cert.WOutAddIdeal.nD Cert.WOutAddIdeal.τ Cert.WOutAddIdeal.sig) → Buf (Elt Ideal) ℓ) : Prop :=
  True

def Pre_WOutAddReferenceIdeal (m : (ℓ : Loc Cert.WOutAddReferenceIdeal.nD Cert.WOutAddReferenceIdeal.τ Cert.WOutAddReferenceIdeal.sig) → Buf (Elt Ideal) ℓ) : Prop :=
  True

def Pre_SmallAdd (m : (ℓ : Loc Cert.SmallAdd.nD Cert.SmallAdd.τ Cert.SmallAdd.sig) → Buf (Elt Bits) ℓ) : Prop :=
  True

def Pre_SmallAddIdeal (m : (ℓ : Loc Cert.SmallAddIdeal.nD Cert.SmallAddIdeal.τ Cert.SmallAddIdeal.sig) → Buf (Elt Ideal) ℓ) : Prop :=
  True

def Pre_SmallAddReferenceIdeal (m : (ℓ : Loc Cert.SmallAddReferenceIdeal.nD Cert.SmallAddReferenceIdeal.τ Cert.SmallAddReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MetaGrads (m : (ℓ : Loc Cert.MetaGrads.nD Cert.MetaGrads.τ Cert.MetaGrads.sig) → Buf (Elt Bits) ℓ) : Prop :=
  True

def Pre_MetaGradsIdeal (m : (ℓ : Loc Cert.MetaGradsIdeal.nD Cert.MetaGradsIdeal.τ Cert.MetaGradsIdeal.sig) → Buf (Elt Ideal) ℓ) : Prop :=
  True

def Pre_MetaGradsReferenceIdeal (m : (ℓ : Loc Cert.MetaGradsReferenceIdeal.nD Cert.MetaGradsReferenceIdeal.τ Cert.MetaGradsReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutReferenceIdeal (m : (ℓ : Loc Cert.DWOutReferenceIdeal.nD Cert.DWOutReferenceIdeal.τ Cert.DWOutReferenceIdeal.sig) → Buf (Elt Ideal) ℓ) : Prop :=
  True

def Pre_DOutProj (m : (ℓ : Loc Cert.DOutProj.nD Cert.DOutProj.τ Cert.DOutProj.sig) → Buf (Elt Bits) ℓ) : Prop :=
  True

def Pre_DOutProjIdeal (m : (ℓ : Loc Cert.DOutProjIdeal.nD Cert.DOutProjIdeal.τ Cert.DOutProjIdeal.sig) → Buf (Elt Ideal) ℓ) : Prop :=
  True

def Pre_DOutProjReferenceIdeal (m : (ℓ : Loc Cert.DOutProjReferenceIdeal.nD Cert.DOutProjReferenceIdeal.τ Cert.DOutProjReferenceIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInReferenceIdeal (m : (ℓ : Loc Cert.DWInReferenceIdeal.nD Cert.DWInReferenceIdeal.τ Cert.DWInReferenceIdeal.sig) → Buf (Elt Ideal) ℓ) : Prop :=
  True

def Pre_DInProj (m : (ℓ : Loc Cert.DInProj.nD Cert.DInProj.τ Cert.DInProj.sig) → Buf (Elt Bits) ℓ) : Prop :=
  True

def Pre_DInProjIdeal (m : (ℓ : Loc Cert.DInProjIdeal.nD Cert.DInProjIdeal.τ Cert.DInProjIdeal.sig) → Buf (Elt Ideal) ℓ) : Prop :=
  True

def Pre_DInProjReferenceIdeal (m : (ℓ : Loc Cert.DInProjReferenceIdeal.nD Cert.DInProjReferenceIdeal.τ Cert.DInProjReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_WOutSib [hWOutSib : Cert.WOutSib.Facts] : Prop :=
  ∀ (m : (ℓ : Loc Cert.WOutSib.nD Cert.WOutSib.τ Cert.WOutSib.sig) → Buf (Elt Bits) ℓ) (g : Dev Cert.WOutSib.nD → PrngReg), Pre_WOutSib m →
    θ_run (Cert.WOutSib.defs (F := Bits)) (onTc (τ := Cert.WOutSib.τ) (Cert.WOutSib.main (F := Bits))) ⟨m, fun _ => 0, g⟩ (fun r => (∀ c : Dev Cert.WOutSib.nD,
      r.2.mem ((c.tc : Thread Cert.WOutSib.nD Cert.WOutSib.τ).loc Cert.WOutSib.main_arg0) = m ((c.tc : Thread Cert.WOutSib.nD Cert.WOutSib.τ).loc Cert.WOutSib.main_arg0))
      ∧ r.2.sem = fun _ => 0)

def quiescent_WOutSibIdeal [hWOutSibIdeal : Cert.WOutSibIdeal.Facts] : Prop :=
  ∀ (m : (ℓ : Loc Cert.WOutSibIdeal.nD Cert.WOutSibIdeal.τ Cert.WOutSibIdeal.sig) → Buf (Elt Ideal) ℓ) (g : Dev Cert.WOutSibIdeal.nD → PrngReg), Pre_WOutSibIdeal m →
    θ_run (Cert.WOutSibIdeal.defs (F := Ideal)) (onTc (τ := Cert.WOutSibIdeal.τ) (Cert.WOutSibIdeal.main (F := Ideal))) ⟨m, fun _ => 0, g⟩ (fun r => (∀ c : Dev Cert.WOutSibIdeal.nD,
      r.2.mem ((c.tc : Thread Cert.WOutSibIdeal.nD Cert.WOutSibIdeal.τ).loc Cert.WOutSibIdeal.main_arg0) = m ((c.tc : Thread Cert.WOutSibIdeal.nD Cert.WOutSibIdeal.τ).loc Cert.WOutSibIdeal.main_arg0))
      ∧ r.2.sem = fun _ => 0)

def quiescent_WOutSibReferenceIdeal [hWOutSibReferenceIdeal : Cert.WOutSibReferenceIdeal.Facts] : Prop :=
  ∀ (m : (ℓ : Loc Cert.WOutSibReferenceIdeal.nD Cert.WOutSibReferenceIdeal.τ Cert.WOutSibReferenceIdeal.sig) → Buf (Elt Ideal) ℓ) (g : Dev Cert.WOutSibReferenceIdeal.nD → PrngReg), Pre_WOutSibReferenceIdeal m →
    θ_run (Cert.WOutSibReferenceIdeal.defs (F := Ideal)) (onTc (τ := Cert.WOutSibReferenceIdeal.τ) (Cert.WOutSibReferenceIdeal.main (F := Ideal))) ⟨m, fun _ => 0, g⟩ (fun r => (∀ c : Dev Cert.WOutSibReferenceIdeal.nD,
      r.2.mem ((c.tc : Thread Cert.WOutSibReferenceIdeal.nD Cert.WOutSibReferenceIdeal.τ).loc Cert.WOutSibReferenceIdeal.main_arg0) = m ((c.tc : Thread Cert.WOutSibReferenceIdeal.nD Cert.WOutSibReferenceIdeal.τ).loc Cert.WOutSibReferenceIdeal.main_arg0))
      ∧ r.2.sem = fun _ => 0)

def quiescent_WInPair [hWInPair : Cert.WInPair.Facts] : Prop :=
  ∀ (m : (ℓ : Loc Cert.WInPair.nD Cert.WInPair.τ Cert.WInPair.sig) → Buf (Elt Bits) ℓ) (g : Dev Cert.WInPair.nD → PrngReg), Pre_WInPair m →
    θ_run (Cert.WInPair.defs (F := Bits)) (onTc (τ := Cert.WInPair.τ) (Cert.WInPair.main (F := Bits))) ⟨m, fun _ => 0, g⟩ (fun r => (∀ c : Dev Cert.WInPair.nD,
      r.2.mem ((c.tc : Thread Cert.WInPair.nD Cert.WInPair.τ).loc Cert.WInPair.main_arg0) = m ((c.tc : Thread Cert.WInPair.nD Cert.WInPair.τ).loc Cert.WInPair.main_arg0))
      ∧ r.2.sem = fun _ => 0)

def quiescent_WInPairIdeal [hWInPairIdeal : Cert.WInPairIdeal.Facts] : Prop :=
  ∀ (m : (ℓ : Loc Cert.WInPairIdeal.nD Cert.WInPairIdeal.τ Cert.WInPairIdeal.sig) → Buf (Elt Ideal) ℓ) (g : Dev Cert.WInPairIdeal.nD → PrngReg), Pre_WInPairIdeal m →
    θ_run (Cert.WInPairIdeal.defs (F := Ideal)) (onTc (τ := Cert.WInPairIdeal.τ) (Cert.WInPairIdeal.main (F := Ideal))) ⟨m, fun _ => 0, g⟩ (fun r => (∀ c : Dev Cert.WInPairIdeal.nD,
      r.2.mem ((c.tc : Thread Cert.WInPairIdeal.nD Cert.WInPairIdeal.τ).loc Cert.WInPairIdeal.main_arg0) = m ((c.tc : Thread Cert.WInPairIdeal.nD Cert.WInPairIdeal.τ).loc Cert.WInPairIdeal.main_arg0))
      ∧ r.2.sem = fun _ => 0)

def quiescent_WInPairReferenceIdeal [hWInPairReferenceIdeal : Cert.WInPairReferenceIdeal.Facts] : Prop :=
  ∀ (m : (ℓ : Loc Cert.WInPairReferenceIdeal.nD Cert.WInPairReferenceIdeal.τ Cert.WInPairReferenceIdeal.sig) → Buf (Elt Ideal) ℓ) (g : Dev Cert.WInPairReferenceIdeal.nD → PrngReg), Pre_WInPairReferenceIdeal m →
    θ_run (Cert.WInPairReferenceIdeal.defs (F := Ideal)) (onTc (τ := Cert.WInPairReferenceIdeal.τ) (Cert.WInPairReferenceIdeal.main (F := Ideal))) ⟨m, fun _ => 0, g⟩ (fun r => (∀ c : Dev Cert.WInPairReferenceIdeal.nD,
      r.2.mem ((c.tc : Thread Cert.WInPairReferenceIdeal.nD Cert.WInPairReferenceIdeal.τ).loc Cert.WInPairReferenceIdeal.main_arg0) = m ((c.tc : Thread Cert.WInPairReferenceIdeal.nD Cert.WInPairReferenceIdeal.τ).loc Cert.WInPairReferenceIdeal.main_arg0))
      ∧ r.2.sem = fun _ => 0)

def quiescent_WOutPair [hWOutPair : Cert.WOutPair.Facts] : Prop :=
  ∀ (m : (ℓ : Loc Cert.WOutPair.nD Cert.WOutPair.τ Cert.WOutPair.sig) → Buf (Elt Bits) ℓ) (g : Dev Cert.WOutPair.nD → PrngReg), Pre_WOutPair m →
    θ_run (Cert.WOutPair.defs (F := Bits)) (onTc (τ := Cert.WOutPair.τ) (Cert.WOutPair.main (F := Bits))) ⟨m, fun _ => 0, g⟩ (fun r => (∀ c : Dev Cert.WOutPair.nD,
      r.2.mem ((c.tc : Thread Cert.WOutPair.nD Cert.WOutPair.τ).loc Cert.WOutPair.main_arg0) = m ((c.tc : Thread Cert.WOutPair.nD Cert.WOutPair.τ).loc Cert.WOutPair.main_arg0))
      ∧ r.2.sem = fun _ => 0)

def quiescent_WOutPairIdeal [hWOutPairIdeal : Cert.WOutPairIdeal.Facts] : Prop :=
  ∀ (m : (ℓ : Loc Cert.WOutPairIdeal.nD Cert.WOutPairIdeal.τ Cert.WOutPairIdeal.sig) → Buf (Elt Ideal) ℓ) (g : Dev Cert.WOutPairIdeal.nD → PrngReg), Pre_WOutPairIdeal m →
    θ_run (Cert.WOutPairIdeal.defs (F := Ideal)) (onTc (τ := Cert.WOutPairIdeal.τ) (Cert.WOutPairIdeal.main (F := Ideal))) ⟨m, fun _ => 0, g⟩ (fun r => (∀ c : Dev Cert.WOutPairIdeal.nD,
      r.2.mem ((c.tc : Thread Cert.WOutPairIdeal.nD Cert.WOutPairIdeal.τ).loc Cert.WOutPairIdeal.main_arg0) = m ((c.tc : Thread Cert.WOutPairIdeal.nD Cert.WOutPairIdeal.τ).loc Cert.WOutPairIdeal.main_arg0))
      ∧ r.2.sem = fun _ => 0)

def quiescent_WOutPairReferenceIdeal [hWOutPairReferenceIdeal : Cert.WOutPairReferenceIdeal.Facts] : Prop :=
  ∀ (m : (ℓ : Loc Cert.WOutPairReferenceIdeal.nD Cert.WOutPairReferenceIdeal.τ Cert.WOutPairReferenceIdeal.sig) → Buf (Elt Ideal) ℓ) (g : Dev Cert.WOutPairReferenceIdeal.nD → PrngReg), Pre_WOutPairReferenceIdeal m →
    θ_run (Cert.WOutPairReferenceIdeal.defs (F := Ideal)) (onTc (τ := Cert.WOutPairReferenceIdeal.τ) (Cert.WOutPairReferenceIdeal.main (F := Ideal))) ⟨m, fun _ => 0, g⟩ (fun r => (∀ c : Dev Cert.WOutPairReferenceIdeal.nD,
      r.2.mem ((c.tc : Thread Cert.WOutPairReferenceIdeal.nD Cert.WOutPairReferenceIdeal.τ).loc Cert.WOutPairReferenceIdeal.main_arg0) = m ((c.tc : Thread Cert.WOutPairReferenceIdeal.nD Cert.WOutPairReferenceIdeal.τ).loc Cert.WOutPairReferenceIdeal.main_arg0))
      ∧ r.2.sem = fun _ => 0)

def quiescent_WInShare [hWInShare : Cert.WInShare.Facts] : Prop :=
  ∀ (m : (ℓ : Loc Cert.WInShare.nD Cert.WInShare.τ Cert.WInShare.sig) → Buf (Elt Bits) ℓ) (g : Dev Cert.WInShare.nD → PrngReg), Pre_WInShare m →
    θ_run (Cert.WInShare.defs (F := Bits)) (onTc (τ := Cert.WInShare.τ) (Cert.WInShare.main (F := Bits))) ⟨m, fun _ => 0, g⟩ (fun r => (∀ c : Dev Cert.WInShare.nD,
      r.2.mem ((c.tc : Thread Cert.WInShare.nD Cert.WInShare.τ).loc Cert.WInShare.main_arg0) = m ((c.tc : Thread Cert.WInShare.nD Cert.WInShare.τ).loc Cert.WInShare.main_arg0))
      ∧ r.2.sem = fun _ => 0)

def quiescent_WInShareIdeal [hWInShareIdeal : Cert.WInShareIdeal.Facts] : Prop :=
  ∀ (m : (ℓ : Loc Cert.WInShareIdeal.nD Cert.WInShareIdeal.τ Cert.WInShareIdeal.sig) → Buf (Elt Ideal) ℓ) (g : Dev Cert.WInShareIdeal.nD → PrngReg), Pre_WInShareIdeal m →
    θ_run (Cert.WInShareIdeal.defs (F := Ideal)) (onTc (τ := Cert.WInShareIdeal.τ) (Cert.WInShareIdeal.main (F := Ideal))) ⟨m, fun _ => 0, g⟩ (fun r => (∀ c : Dev Cert.WInShareIdeal.nD,
      r.2.mem ((c.tc : Thread Cert.WInShareIdeal.nD Cert.WInShareIdeal.τ).loc Cert.WInShareIdeal.main_arg0) = m ((c.tc : Thread Cert.WInShareIdeal.nD Cert.WInShareIdeal.τ).loc Cert.WInShareIdeal.main_arg0))
      ∧ r.2.sem = fun _ => 0)

def quiescent_WInShareReferenceIdeal [hWInShareReferenceIdeal : Cert.WInShareReferenceIdeal.Facts] : Prop :=
  ∀ (m : (ℓ : Loc Cert.WInShareReferenceIdeal.nD Cert.WInShareReferenceIdeal.τ Cert.WInShareReferenceIdeal.sig) → Buf (Elt Ideal) ℓ) (g : Dev Cert.WInShareReferenceIdeal.nD → PrngReg), Pre_WInShareReferenceIdeal m →
    θ_run (Cert.WInShareReferenceIdeal.defs (F := Ideal)) (onTc (τ := Cert.WInShareReferenceIdeal.τ) (Cert.WInShareReferenceIdeal.main (F := Ideal))) ⟨m, fun _ => 0, g⟩ (fun r => (∀ c : Dev Cert.WInShareReferenceIdeal.nD,
      r.2.mem ((c.tc : Thread Cert.WInShareReferenceIdeal.nD Cert.WInShareReferenceIdeal.τ).loc Cert.WInShareReferenceIdeal.main_arg0) = m ((c.tc : Thread Cert.WInShareReferenceIdeal.nD Cert.WInShareReferenceIdeal.τ).loc Cert.WInShareReferenceIdeal.main_arg0))
      ∧ r.2.sem = fun _ => 0)

def quiescent_WOutShare [hWOutShare : Cert.WOutShare.Facts] : Prop :=
  ∀ (m : (ℓ : Loc Cert.WOutShare.nD Cert.WOutShare.τ Cert.WOutShare.sig) → Buf (Elt Bits) ℓ) (g : Dev Cert.WOutShare.nD → PrngReg), Pre_WOutShare m →
    θ_run (Cert.WOutShare.defs (F := Bits)) (onTc (τ := Cert.WOutShare.τ) (Cert.WOutShare.main (F := Bits))) ⟨m, fun _ => 0, g⟩ (fun r => (∀ c : Dev Cert.WOutShare.nD,
      r.2.mem ((c.tc : Thread Cert.WOutShare.nD Cert.WOutShare.τ).loc Cert.WOutShare.main_arg0) = m ((c.tc : Thread Cert.WOutShare.nD Cert.WOutShare.τ).loc Cert.WOutShare.main_arg0))
      ∧ r.2.sem = fun _ => 0)

def quiescent_WOutShareIdeal [hWOutShareIdeal : Cert.WOutShareIdeal.Facts] : Prop :=
  ∀ (m : (ℓ : Loc Cert.WOutShareIdeal.nD Cert.WOutShareIdeal.τ Cert.WOutShareIdeal.sig) → Buf (Elt Ideal) ℓ) (g : Dev Cert.WOutShareIdeal.nD → PrngReg), Pre_WOutShareIdeal m →
    θ_run (Cert.WOutShareIdeal.defs (F := Ideal)) (onTc (τ := Cert.WOutShareIdeal.τ) (Cert.WOutShareIdeal.main (F := Ideal))) ⟨m, fun _ => 0, g⟩ (fun r => (∀ c : Dev Cert.WOutShareIdeal.nD,
      r.2.mem ((c.tc : Thread Cert.WOutShareIdeal.nD Cert.WOutShareIdeal.τ).loc Cert.WOutShareIdeal.main_arg0) = m ((c.tc : Thread Cert.WOutShareIdeal.nD Cert.WOutShareIdeal.τ).loc Cert.WOutShareIdeal.main_arg0))
      ∧ r.2.sem = fun _ => 0)

def quiescent_WOutShareReferenceIdeal [hWOutShareReferenceIdeal : Cert.WOutShareReferenceIdeal.Facts] : Prop :=
  ∀ (m : (ℓ : Loc Cert.WOutShareReferenceIdeal.nD Cert.WOutShareReferenceIdeal.τ Cert.WOutShareReferenceIdeal.sig) → Buf (Elt Ideal) ℓ) (g : Dev Cert.WOutShareReferenceIdeal.nD → PrngReg), Pre_WOutShareReferenceIdeal m →
    θ_run (Cert.WOutShareReferenceIdeal.defs (F := Ideal)) (onTc (τ := Cert.WOutShareReferenceIdeal.τ) (Cert.WOutShareReferenceIdeal.main (F := Ideal))) ⟨m, fun _ => 0, g⟩ (fun r => (∀ c : Dev Cert.WOutShareReferenceIdeal.nD,
      r.2.mem ((c.tc : Thread Cert.WOutShareReferenceIdeal.nD Cert.WOutShareReferenceIdeal.τ).loc Cert.WOutShareReferenceIdeal.main_arg0) = m ((c.tc : Thread Cert.WOutShareReferenceIdeal.nD Cert.WOutShareReferenceIdeal.τ).loc Cert.WOutShareReferenceIdeal.main_arg0))
      ∧ r.2.sem = fun _ => 0)

def quiescent_RepStep [hRepStep : Cert.RepStep.Facts] : Prop :=
  ∀ (m : (ℓ : Loc Cert.RepStep.nD Cert.RepStep.τ Cert.RepStep.sig) → Buf (Elt Bits) ℓ) (g : Dev Cert.RepStep.nD → PrngReg), Pre_RepStep m →
    θ_run (Cert.RepStep.defs (F := Bits)) (onTc (τ := Cert.RepStep.τ) (Cert.RepStep.main (F := Bits))) ⟨m, fun _ => 0, g⟩ (fun r => (∀ c : Dev Cert.RepStep.nD,
      r.2.mem ((c.tc : Thread Cert.RepStep.nD Cert.RepStep.τ).loc Cert.RepStep.main_arg0) = m ((c.tc : Thread Cert.RepStep.nD Cert.RepStep.τ).loc Cert.RepStep.main_arg0)
      ∧ r.2.mem ((c.tc : Thread Cert.RepStep.nD Cert.RepStep.τ).loc Cert.RepStep.main_arg1) = m ((c.tc : Thread Cert.RepStep.nD Cert.RepStep.τ).loc Cert.RepStep.main_arg1)
      ∧ r.2.mem ((c.tc : Thread Cert.RepStep.nD Cert.RepStep.τ).loc Cert.RepStep.main_arg2) = m ((c.tc : Thread Cert.RepStep.nD Cert.RepStep.τ).loc Cert.RepStep.main_arg2)
      ∧ r.2.mem ((c.tc : Thread Cert.RepStep.nD Cert.RepStep.τ).loc Cert.RepStep.main_arg3) = m ((c.tc : Thread Cert.RepStep.nD Cert.RepStep.τ).loc Cert.RepStep.main_arg3))
      ∧ r.2.sem = fun _ => 0)

def quiescent_RepStepIdeal [hRepStepIdeal : Cert.RepStepIdeal.Facts] : Prop :=
  ∀ (m : (ℓ : Loc Cert.RepStepIdeal.nD Cert.RepStepIdeal.τ Cert.RepStepIdeal.sig) → Buf (Elt Ideal) ℓ) (g : Dev Cert.RepStepIdeal.nD → PrngReg), Pre_RepStepIdeal m →
    θ_run (Cert.RepStepIdeal.defs (F := Ideal)) (onTc (τ := Cert.RepStepIdeal.τ) (Cert.RepStepIdeal.main (F := Ideal))) ⟨m, fun _ => 0, g⟩ (fun r => (∀ c : Dev Cert.RepStepIdeal.nD,
      r.2.mem ((c.tc : Thread Cert.RepStepIdeal.nD Cert.RepStepIdeal.τ).loc Cert.RepStepIdeal.main_arg0) = m ((c.tc : Thread Cert.RepStepIdeal.nD Cert.RepStepIdeal.τ).loc Cert.RepStepIdeal.main_arg0)
      ∧ r.2.mem ((c.tc : Thread Cert.RepStepIdeal.nD Cert.RepStepIdeal.τ).loc Cert.RepStepIdeal.main_arg1) = m ((c.tc : Thread Cert.RepStepIdeal.nD Cert.RepStepIdeal.τ).loc Cert.RepStepIdeal.main_arg1)
      ∧ r.2.mem ((c.tc : Thread Cert.RepStepIdeal.nD Cert.RepStepIdeal.τ).loc Cert.RepStepIdeal.main_arg2) = m ((c.tc : Thread Cert.RepStepIdeal.nD Cert.RepStepIdeal.τ).loc Cert.RepStepIdeal.main_arg2)
      ∧ r.2.mem ((c.tc : Thread Cert.RepStepIdeal.nD Cert.RepStepIdeal.τ).loc Cert.RepStepIdeal.main_arg3) = m ((c.tc : Thread Cert.RepStepIdeal.nD Cert.RepStepIdeal.τ).loc Cert.RepStepIdeal.main_arg3))
      ∧ r.2.sem = fun _ => 0)

def quiescent_RepStepReferenceIdeal [hRepStepReferenceIdeal : Cert.RepStepReferenceIdeal.Facts] : Prop :=
  ∀ (m : (ℓ : Loc Cert.RepStepReferenceIdeal.nD Cert.RepStepReferenceIdeal.τ Cert.RepStepReferenceIdeal.sig) → Buf (Elt Ideal) ℓ) (g : Dev Cert.RepStepReferenceIdeal.nD → PrngReg), Pre_RepStepReferenceIdeal m →
    θ_run (Cert.RepStepReferenceIdeal.defs (F := Ideal)) (onTc (τ := Cert.RepStepReferenceIdeal.τ) (Cert.RepStepReferenceIdeal.main (F := Ideal))) ⟨m, fun _ => 0, g⟩ (fun r => (∀ c : Dev Cert.RepStepReferenceIdeal.nD,
      r.2.mem ((c.tc : Thread Cert.RepStepReferenceIdeal.nD Cert.RepStepReferenceIdeal.τ).loc Cert.RepStepReferenceIdeal.main_arg0) = m ((c.tc : Thread Cert.RepStepReferenceIdeal.nD Cert.RepStepReferenceIdeal.τ).loc Cert.RepStepReferenceIdeal.main_arg0)
      ∧ r.2.mem ((c.tc : Thread Cert.RepStepReferenceIdeal.nD Cert.RepStepReferenceIdeal.τ).loc Cert.RepStepReferenceIdeal.main_arg1) = m ((c.tc : Thread Cert.RepStepReferenceIdeal.nD Cert.RepStepReferenceIdeal.τ).loc Cert.RepStepReferenceIdeal.main_arg1)
      ∧ r.2.mem ((c.tc : Thread Cert.RepStepReferenceIdeal.nD Cert.RepStepReferenceIdeal.τ).loc Cert.RepStepReferenceIdeal.main_arg2) = m ((c.tc : Thread Cert.RepStepReferenceIdeal.nD Cert.RepStepReferenceIdeal.τ).loc Cert.RepStepReferenceIdeal.main_arg2)
      ∧ r.2.mem ((c.tc : Thread Cert.RepStepReferenceIdeal.nD Cert.RepStepReferenceIdeal.τ).loc Cert.RepStepReferenceIdeal.main_arg3) = m ((c.tc : Thread Cert.RepStepReferenceIdeal.nD Cert.RepStepReferenceIdeal.τ).loc Cert.RepStepReferenceIdeal.main_arg3))
      ∧ r.2.sem = fun _ => 0)

def quiescent_SmallStep [hSmallStep : Cert.SmallStep.Facts] : Prop :=
  ∀ (m : (ℓ : Loc Cert.SmallStep.nD Cert.SmallStep.τ Cert.SmallStep.sig) → Buf (Elt Bits) ℓ) (g : Dev Cert.SmallStep.nD → PrngReg), Pre_SmallStep m →
    θ_run (Cert.SmallStep.defs (F := Bits)) (onTc (τ := Cert.SmallStep.τ) (Cert.SmallStep.main (F := Bits))) ⟨m, fun _ => 0, g⟩ (fun r => (∀ c : Dev Cert.SmallStep.nD,
      r.2.mem ((c.tc : Thread Cert.SmallStep.nD Cert.SmallStep.τ).loc Cert.SmallStep.main_arg0) = m ((c.tc : Thread Cert.SmallStep.nD Cert.SmallStep.τ).loc Cert.SmallStep.main_arg0)
      ∧ r.2.mem ((c.tc : Thread Cert.SmallStep.nD Cert.SmallStep.τ).loc Cert.SmallStep.main_arg1) = m ((c.tc : Thread Cert.SmallStep.nD Cert.SmallStep.τ).loc Cert.SmallStep.main_arg1)
      ∧ r.2.mem ((c.tc : Thread Cert.SmallStep.nD Cert.SmallStep.τ).loc Cert.SmallStep.main_arg2) = m ((c.tc : Thread Cert.SmallStep.nD Cert.SmallStep.τ).loc Cert.SmallStep.main_arg2)
      ∧ r.2.mem ((c.tc : Thread Cert.SmallStep.nD Cert.SmallStep.τ).loc Cert.SmallStep.main_arg3) = m ((c.tc : Thread Cert.SmallStep.nD Cert.SmallStep.τ).loc Cert.SmallStep.main_arg3))
      ∧ r.2.sem = fun _ => 0)

def quiescent_SmallStepIdeal [hSmallStepIdeal : Cert.SmallStepIdeal.Facts] : Prop :=
  ∀ (m : (ℓ : Loc Cert.SmallStepIdeal.nD Cert.SmallStepIdeal.τ Cert.SmallStepIdeal.sig) → Buf (Elt Ideal) ℓ) (g : Dev Cert.SmallStepIdeal.nD → PrngReg), Pre_SmallStepIdeal m →
    θ_run (Cert.SmallStepIdeal.defs (F := Ideal)) (onTc (τ := Cert.SmallStepIdeal.τ) (Cert.SmallStepIdeal.main (F := Ideal))) ⟨m, fun _ => 0, g⟩ (fun r => (∀ c : Dev Cert.SmallStepIdeal.nD,
      r.2.mem ((c.tc : Thread Cert.SmallStepIdeal.nD Cert.SmallStepIdeal.τ).loc Cert.SmallStepIdeal.main_arg0) = m ((c.tc : Thread Cert.SmallStepIdeal.nD Cert.SmallStepIdeal.τ).loc Cert.SmallStepIdeal.main_arg0)
      ∧ r.2.mem ((c.tc : Thread Cert.SmallStepIdeal.nD Cert.SmallStepIdeal.τ).loc Cert.SmallStepIdeal.main_arg1) = m ((c.tc : Thread Cert.SmallStepIdeal.nD Cert.SmallStepIdeal.τ).loc Cert.SmallStepIdeal.main_arg1)
      ∧ r.2.mem ((c.tc : Thread Cert.SmallStepIdeal.nD Cert.SmallStepIdeal.τ).loc Cert.SmallStepIdeal.main_arg2) = m ((c.tc : Thread Cert.SmallStepIdeal.nD Cert.SmallStepIdeal.τ).loc Cert.SmallStepIdeal.main_arg2)
      ∧ r.2.mem ((c.tc : Thread Cert.SmallStepIdeal.nD Cert.SmallStepIdeal.τ).loc Cert.SmallStepIdeal.main_arg3) = m ((c.tc : Thread Cert.SmallStepIdeal.nD Cert.SmallStepIdeal.τ).loc Cert.SmallStepIdeal.main_arg3))
      ∧ r.2.sem = fun _ => 0)

def quiescent_SmallStepReferenceIdeal [hSmallStepReferenceIdeal : Cert.SmallStepReferenceIdeal.Facts] : Prop :=
  ∀ (m : (ℓ : Loc Cert.SmallStepReferenceIdeal.nD Cert.SmallStepReferenceIdeal.τ Cert.SmallStepReferenceIdeal.sig) → Buf (Elt Ideal) ℓ) (g : Dev Cert.SmallStepReferenceIdeal.nD → PrngReg), Pre_SmallStepReferenceIdeal m →
    θ_run (Cert.SmallStepReferenceIdeal.defs (F := Ideal)) (onTc (τ := Cert.SmallStepReferenceIdeal.τ) (Cert.SmallStepReferenceIdeal.main (F := Ideal))) ⟨m, fun _ => 0, g⟩ (fun r => (∀ c : Dev Cert.SmallStepReferenceIdeal.nD,
      r.2.mem ((c.tc : Thread Cert.SmallStepReferenceIdeal.nD Cert.SmallStepReferenceIdeal.τ).loc Cert.SmallStepReferenceIdeal.main_arg0) = m ((c.tc : Thread Cert.SmallStepReferenceIdeal.nD Cert.SmallStepReferenceIdeal.τ).loc Cert.SmallStepReferenceIdeal.main_arg0)
      ∧ r.2.mem ((c.tc : Thread Cert.SmallStepReferenceIdeal.nD Cert.SmallStepReferenceIdeal.τ).loc Cert.SmallStepReferenceIdeal.main_arg1) = m ((c.tc : Thread Cert.SmallStepReferenceIdeal.nD Cert.SmallStepReferenceIdeal.τ).loc Cert.SmallStepReferenceIdeal.main_arg1)
      ∧ r.2.mem ((c.tc : Thread Cert.SmallStepReferenceIdeal.nD Cert.SmallStepReferenceIdeal.τ).loc Cert.SmallStepReferenceIdeal.main_arg2) = m ((c.tc : Thread Cert.SmallStepReferenceIdeal.nD Cert.SmallStepReferenceIdeal.τ).loc Cert.SmallStepReferenceIdeal.main_arg2)
      ∧ r.2.mem ((c.tc : Thread Cert.SmallStepReferenceIdeal.nD Cert.SmallStepReferenceIdeal.τ).loc Cert.SmallStepReferenceIdeal.main_arg3) = m ((c.tc : Thread Cert.SmallStepReferenceIdeal.nD Cert.SmallStepReferenceIdeal.τ).loc Cert.SmallStepReferenceIdeal.main_arg3))
      ∧ r.2.sem = fun _ => 0)

def quiescent_WInStep [hWInStep : Cert.WInStep.Facts] : Prop :=
  ∀ (m : (ℓ : Loc Cert.WInStep.nD Cert.WInStep.τ Cert.WInStep.sig) → Buf (Elt Bits) ℓ) (g : Dev Cert.WInStep.nD → PrngReg), Pre_WInStep m →
    θ_run (Cert.WInStep.defs (F := Bits)) (onTc (τ := Cert.WInStep.τ) (Cert.WInStep.main (F := Bits))) ⟨m, fun _ => 0, g⟩ (fun r => (∀ c : Dev Cert.WInStep.nD,
      r.2.mem ((c.tc : Thread Cert.WInStep.nD Cert.WInStep.τ).loc Cert.WInStep.main_arg0) = m ((c.tc : Thread Cert.WInStep.nD Cert.WInStep.τ).loc Cert.WInStep.main_arg0)
      ∧ r.2.mem ((c.tc : Thread Cert.WInStep.nD Cert.WInStep.τ).loc Cert.WInStep.main_arg1) = m ((c.tc : Thread Cert.WInStep.nD Cert.WInStep.τ).loc Cert.WInStep.main_arg1)
      ∧ r.2.mem ((c.tc : Thread Cert.WInStep.nD Cert.WInStep.τ).loc Cert.WInStep.main_arg2) = m ((c.tc : Thread Cert.WInStep.nD Cert.WInStep.τ).loc Cert.WInStep.main_arg2)
      ∧ r.2.mem ((c.tc : Thread Cert.WInStep.nD Cert.WInStep.τ).loc Cert.WInStep.main_arg3) = m ((c.tc : Thread Cert.WInStep.nD Cert.WInStep.τ).loc Cert.WInStep.main_arg3))
      ∧ r.2.sem = fun _ => 0)

def quiescent_WInStepIdeal [hWInStepIdeal : Cert.WInStepIdeal.Facts] : Prop :=
  ∀ (m : (ℓ : Loc Cert.WInStepIdeal.nD Cert.WInStepIdeal.τ Cert.WInStepIdeal.sig) → Buf (Elt Ideal) ℓ) (g : Dev Cert.WInStepIdeal.nD → PrngReg), Pre_WInStepIdeal m →
    θ_run (Cert.WInStepIdeal.defs (F := Ideal)) (onTc (τ := Cert.WInStepIdeal.τ) (Cert.WInStepIdeal.main (F := Ideal))) ⟨m, fun _ => 0, g⟩ (fun r => (∀ c : Dev Cert.WInStepIdeal.nD,
      r.2.mem ((c.tc : Thread Cert.WInStepIdeal.nD Cert.WInStepIdeal.τ).loc Cert.WInStepIdeal.main_arg0) = m ((c.tc : Thread Cert.WInStepIdeal.nD Cert.WInStepIdeal.τ).loc Cert.WInStepIdeal.main_arg0)
      ∧ r.2.mem ((c.tc : Thread Cert.WInStepIdeal.nD Cert.WInStepIdeal.τ).loc Cert.WInStepIdeal.main_arg1) = m ((c.tc : Thread Cert.WInStepIdeal.nD Cert.WInStepIdeal.τ).loc Cert.WInStepIdeal.main_arg1)
      ∧ r.2.mem ((c.tc : Thread Cert.WInStepIdeal.nD Cert.WInStepIdeal.τ).loc Cert.WInStepIdeal.main_arg2) = m ((c.tc : Thread Cert.WInStepIdeal.nD Cert.WInStepIdeal.τ).loc Cert.WInStepIdeal.main_arg2)
      ∧ r.2.mem ((c.tc : Thread Cert.WInStepIdeal.nD Cert.WInStepIdeal.τ).loc Cert.WInStepIdeal.main_arg3) = m ((c.tc : Thread Cert.WInStepIdeal.nD Cert.WInStepIdeal.τ).loc Cert.WInStepIdeal.main_arg3))
      ∧ r.2.sem = fun _ => 0)

def quiescent_WInStepReferenceIdeal [hWInStepReferenceIdeal : Cert.WInStepReferenceIdeal.Facts] : Prop :=
  ∀ (m : (ℓ : Loc Cert.WInStepReferenceIdeal.nD Cert.WInStepReferenceIdeal.τ Cert.WInStepReferenceIdeal.sig) → Buf (Elt Ideal) ℓ) (g : Dev Cert.WInStepReferenceIdeal.nD → PrngReg), Pre_WInStepReferenceIdeal m →
    θ_run (Cert.WInStepReferenceIdeal.defs (F := Ideal)) (onTc (τ := Cert.WInStepReferenceIdeal.τ) (Cert.WInStepReferenceIdeal.main (F := Ideal))) ⟨m, fun _ => 0, g⟩ (fun r => (∀ c : Dev Cert.WInStepReferenceIdeal.nD,
      r.2.mem ((c.tc : Thread Cert.WInStepReferenceIdeal.nD Cert.WInStepReferenceIdeal.τ).loc Cert.WInStepReferenceIdeal.main_arg0) = m ((c.tc : Thread Cert.WInStepReferenceIdeal.nD Cert.WInStepReferenceIdeal.τ).loc Cert.WInStepReferenceIdeal.main_arg0)
      ∧ r.2.mem ((c.tc : Thread Cert.WInStepReferenceIdeal.nD Cert.WInStepReferenceIdeal.τ).loc Cert.WInStepReferenceIdeal.main_arg1) = m ((c.tc : Thread Cert.WInStepReferenceIdeal.nD Cert.WInStepReferenceIdeal.τ).loc Cert.WInStepReferenceIdeal.main_arg1)
      ∧ r.2.mem ((c.tc : Thread Cert.WInStepReferenceIdeal.nD Cert.WInStepReferenceIdeal.τ).loc Cert.WInStepReferenceIdeal.main_arg2) = m ((c.tc : Thread Cert.WInStepReferenceIdeal.nD Cert.WInStepReferenceIdeal.τ).loc Cert.WInStepReferenceIdeal.main_arg2)
      ∧ r.2.mem ((c.tc : Thread Cert.WInStepReferenceIdeal.nD Cert.WInStepReferenceIdeal.τ).loc Cert.WInStepReferenceIdeal.main_arg3) = m ((c.tc : Thread Cert.WInStepReferenceIdeal.nD Cert.WInStepReferenceIdeal.τ).loc Cert.WInStepReferenceIdeal.main_arg3))
      ∧ r.2.sem = fun _ => 0)

def quiescent_WOutStep [hWOutStep : Cert.WOutStep.Facts] : Prop :=
  ∀ (m : (ℓ : Loc Cert.WOutStep.nD Cert.WOutStep.τ Cert.WOutStep.sig) → Buf (Elt Bits) ℓ) (g : Dev Cert.WOutStep.nD → PrngReg), Pre_WOutStep m →
    θ_run (Cert.WOutStep.defs (F := Bits)) (onTc (τ := Cert.WOutStep.τ) (Cert.WOutStep.main (F := Bits))) ⟨m, fun _ => 0, g⟩ (fun r => (∀ c : Dev Cert.WOutStep.nD,
      r.2.mem ((c.tc : Thread Cert.WOutStep.nD Cert.WOutStep.τ).loc Cert.WOutStep.main_arg0) = m ((c.tc : Thread Cert.WOutStep.nD Cert.WOutStep.τ).loc Cert.WOutStep.main_arg0)
      ∧ r.2.mem ((c.tc : Thread Cert.WOutStep.nD Cert.WOutStep.τ).loc Cert.WOutStep.main_arg1) = m ((c.tc : Thread Cert.WOutStep.nD Cert.WOutStep.τ).loc Cert.WOutStep.main_arg1)
      ∧ r.2.mem ((c.tc : Thread Cert.WOutStep.nD Cert.WOutStep.τ).loc Cert.WOutStep.main_arg2) = m ((c.tc : Thread Cert.WOutStep.nD Cert.WOutStep.τ).loc Cert.WOutStep.main_arg2)
      ∧ r.2.mem ((c.tc : Thread Cert.WOutStep.nD Cert.WOutStep.τ).loc Cert.WOutStep.main_arg3) = m ((c.tc : Thread Cert.WOutStep.nD Cert.WOutStep.τ).loc Cert.WOutStep.main_arg3))
      ∧ r.2.sem = fun _ => 0)

def quiescent_WOutStepIdeal [hWOutStepIdeal : Cert.WOutStepIdeal.Facts] : Prop :=
  ∀ (m : (ℓ : Loc Cert.WOutStepIdeal.nD Cert.WOutStepIdeal.τ Cert.WOutStepIdeal.sig) → Buf (Elt Ideal) ℓ) (g : Dev Cert.WOutStepIdeal.nD → PrngReg), Pre_WOutStepIdeal m →
    θ_run (Cert.WOutStepIdeal.defs (F := Ideal)) (onTc (τ := Cert.WOutStepIdeal.τ) (Cert.WOutStepIdeal.main (F := Ideal))) ⟨m, fun _ => 0, g⟩ (fun r => (∀ c : Dev Cert.WOutStepIdeal.nD,
      r.2.mem ((c.tc : Thread Cert.WOutStepIdeal.nD Cert.WOutStepIdeal.τ).loc Cert.WOutStepIdeal.main_arg0) = m ((c.tc : Thread Cert.WOutStepIdeal.nD Cert.WOutStepIdeal.τ).loc Cert.WOutStepIdeal.main_arg0)
      ∧ r.2.mem ((c.tc : Thread Cert.WOutStepIdeal.nD Cert.WOutStepIdeal.τ).loc Cert.WOutStepIdeal.main_arg1) = m ((c.tc : Thread Cert.WOutStepIdeal.nD Cert.WOutStepIdeal.τ).loc Cert.WOutStepIdeal.main_arg1)
      ∧ r.2.mem ((c.tc : Thread Cert.WOutStepIdeal.nD Cert.WOutStepIdeal.τ).loc Cert.WOutStepIdeal.main_arg2) = m ((c.tc : Thread Cert.WOutStepIdeal.nD Cert.WOutStepIdeal.τ).loc Cert.WOutStepIdeal.main_arg2)
      ∧ r.2.mem ((c.tc : Thread Cert.WOutStepIdeal.nD Cert.WOutStepIdeal.τ).loc Cert.WOutStepIdeal.main_arg3) = m ((c.tc : Thread Cert.WOutStepIdeal.nD Cert.WOutStepIdeal.τ).loc Cert.WOutStepIdeal.main_arg3))
      ∧ r.2.sem = fun _ => 0)

def quiescent_WOutStepReferenceIdeal [hWOutStepReferenceIdeal : Cert.WOutStepReferenceIdeal.Facts] : Prop :=
  ∀ (m : (ℓ : Loc Cert.WOutStepReferenceIdeal.nD Cert.WOutStepReferenceIdeal.τ Cert.WOutStepReferenceIdeal.sig) → Buf (Elt Ideal) ℓ) (g : Dev Cert.WOutStepReferenceIdeal.nD → PrngReg), Pre_WOutStepReferenceIdeal m →
    θ_run (Cert.WOutStepReferenceIdeal.defs (F := Ideal)) (onTc (τ := Cert.WOutStepReferenceIdeal.τ) (Cert.WOutStepReferenceIdeal.main (F := Ideal))) ⟨m, fun _ => 0, g⟩ (fun r => (∀ c : Dev Cert.WOutStepReferenceIdeal.nD,
      r.2.mem ((c.tc : Thread Cert.WOutStepReferenceIdeal.nD Cert.WOutStepReferenceIdeal.τ).loc Cert.WOutStepReferenceIdeal.main_arg0) = m ((c.tc : Thread Cert.WOutStepReferenceIdeal.nD Cert.WOutStepReferenceIdeal.τ).loc Cert.WOutStepReferenceIdeal.main_arg0)
      ∧ r.2.mem ((c.tc : Thread Cert.WOutStepReferenceIdeal.nD Cert.WOutStepReferenceIdeal.τ).loc Cert.WOutStepReferenceIdeal.main_arg1) = m ((c.tc : Thread Cert.WOutStepReferenceIdeal.nD Cert.WOutStepReferenceIdeal.τ).loc Cert.WOutStepReferenceIdeal.main_arg1)
      ∧ r.2.mem ((c.tc : Thread Cert.WOutStepReferenceIdeal.nD Cert.WOutStepReferenceIdeal.τ).loc Cert.WOutStepReferenceIdeal.main_arg2) = m ((c.tc : Thread Cert.WOutStepReferenceIdeal.nD Cert.WOutStepReferenceIdeal.τ).loc Cert.WOutStepReferenceIdeal.main_arg2)
      ∧ r.2.mem ((c.tc : Thread Cert.WOutStepReferenceIdeal.nD Cert.WOutStepReferenceIdeal.τ).loc Cert.WOutStepReferenceIdeal.main_arg3) = m ((c.tc : Thread Cert.WOutStepReferenceIdeal.nD Cert.WOutStepReferenceIdeal.τ).loc Cert.WOutStepReferenceIdeal.main_arg3))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2)
      ∧ r.2.mem ((c.tc : Thread Cert.GradXReferenceIdeal.nD Cert.GradXReferenceIdeal.τ).loc Cert.GradXReferenceIdeal.main_arg3) = m ((c.tc : Thread Cert.GradXReferenceIdeal.nD Cert.GradXReferenceIdeal.τ).loc Cert.GradXReferenceIdeal.main_arg3))
      ∧ r.2.sem = fun _ => 0)

def quiescent_WInSum [hWInSum : Cert.WInSum.Facts] : Prop :=
  ∀ (m : (ℓ : Loc Cert.WInSum.nD Cert.WInSum.τ Cert.WInSum.sig) → Buf (Elt Bits) ℓ) (g : Dev Cert.WInSum.nD → PrngReg), Pre_WInSum m →
    θ_run (Cert.WInSum.defs (F := Bits)) (onTc (τ := Cert.WInSum.τ) (Cert.WInSum.main (F := Bits))) ⟨m, fun _ => 0, g⟩ (fun r => (∀ c : Dev Cert.WInSum.nD,
      r.2.mem ((c.tc : Thread Cert.WInSum.nD Cert.WInSum.τ).loc Cert.WInSum.main_arg0) = m ((c.tc : Thread Cert.WInSum.nD Cert.WInSum.τ).loc Cert.WInSum.main_arg0))
      ∧ r.2.sem = fun _ => 0)

def quiescent_WInSumIdeal [hWInSumIdeal : Cert.WInSumIdeal.Facts] : Prop :=
  ∀ (m : (ℓ : Loc Cert.WInSumIdeal.nD Cert.WInSumIdeal.τ Cert.WInSumIdeal.sig) → Buf (Elt Ideal) ℓ) (g : Dev Cert.WInSumIdeal.nD → PrngReg), Pre_WInSumIdeal m →
    θ_run (Cert.WInSumIdeal.defs (F := Ideal)) (onTc (τ := Cert.WInSumIdeal.τ) (Cert.WInSumIdeal.main (F := Ideal))) ⟨m, fun _ => 0, g⟩ (fun r => (∀ c : Dev Cert.WInSumIdeal.nD,
      r.2.mem ((c.tc : Thread Cert.WInSumIdeal.nD Cert.WInSumIdeal.τ).loc Cert.WInSumIdeal.main_arg0) = m ((c.tc : Thread Cert.WInSumIdeal.nD Cert.WInSumIdeal.τ).loc Cert.WInSumIdeal.main_arg0))
      ∧ r.2.sem = fun _ => 0)

def quiescent_WInSumReferenceIdeal [hWInSumReferenceIdeal : Cert.WInSumReferenceIdeal.Facts] : Prop :=
  ∀ (m : (ℓ : Loc Cert.WInSumReferenceIdeal.nD Cert.WInSumReferenceIdeal.τ Cert.WInSumReferenceIdeal.sig) → Buf (Elt Ideal) ℓ) (g : Dev Cert.WInSumReferenceIdeal.nD → PrngReg), Pre_WInSumReferenceIdeal m →
    θ_run (Cert.WInSumReferenceIdeal.defs (F := Ideal)) (onTc (τ := Cert.WInSumReferenceIdeal.τ) (Cert.WInSumReferenceIdeal.main (F := Ideal))) ⟨m, fun _ => 0, g⟩ (fun r => (∀ c : Dev Cert.WInSumReferenceIdeal.nD,
      r.2.mem ((c.tc : Thread Cert.WInSumReferenceIdeal.nD Cert.WInSumReferenceIdeal.τ).loc Cert.WInSumReferenceIdeal.main_arg0) = m ((c.tc : Thread Cert.WInSumReferenceIdeal.nD Cert.WInSumReferenceIdeal.τ).loc Cert.WInSumReferenceIdeal.main_arg0))
      ∧ r.2.sem = fun _ => 0)

def quiescent_WOutSum [hWOutSum : Cert.WOutSum.Facts] : Prop :=
  ∀ (m : (ℓ : Loc Cert.WOutSum.nD Cert.WOutSum.τ Cert.WOutSum.sig) → Buf (Elt Bits) ℓ) (g : Dev Cert.WOutSum.nD → PrngReg), Pre_WOutSum m →
    θ_run (Cert.WOutSum.defs (F := Bits)) (onTc (τ := Cert.WOutSum.τ) (Cert.WOutSum.main (F := Bits))) ⟨m, fun _ => 0, g⟩ (fun r => (∀ c : Dev Cert.WOutSum.nD,
      r.2.mem ((c.tc : Thread Cert.WOutSum.nD Cert.WOutSum.τ).loc Cert.WOutSum.main_arg0) = m ((c.tc : Thread Cert.WOutSum.nD Cert.WOutSum.τ).loc Cert.WOutSum.main_arg0))
      ∧ r.2.sem = fun _ => 0)

def quiescent_WOutSumIdeal [hWOutSumIdeal : Cert.WOutSumIdeal.Facts] : Prop :=
  ∀ (m : (ℓ : Loc Cert.WOutSumIdeal.nD Cert.WOutSumIdeal.τ Cert.WOutSumIdeal.sig) → Buf (Elt Ideal) ℓ) (g : Dev Cert.WOutSumIdeal.nD → PrngReg), Pre_WOutSumIdeal m →
    θ_run (Cert.WOutSumIdeal.defs (F := Ideal)) (onTc (τ := Cert.WOutSumIdeal.τ) (Cert.WOutSumIdeal.main (F := Ideal))) ⟨m, fun _ => 0, g⟩ (fun r => (∀ c : Dev Cert.WOutSumIdeal.nD,
      r.2.mem ((c.tc : Thread Cert.WOutSumIdeal.nD Cert.WOutSumIdeal.τ).loc Cert.WOutSumIdeal.main_arg0) = m ((c.tc : Thread Cert.WOutSumIdeal.nD Cert.WOutSumIdeal.τ).loc Cert.WOutSumIdeal.main_arg0))
      ∧ r.2.sem = fun _ => 0)

def quiescent_WOutSumReferenceIdeal [hWOutSumReferenceIdeal : Cert.WOutSumReferenceIdeal.Facts] : Prop :=
  ∀ (m : (ℓ : Loc Cert.WOutSumReferenceIdeal.nD Cert.WOutSumReferenceIdeal.τ Cert.WOutSumReferenceIdeal.sig) → Buf (Elt Ideal) ℓ) (g : Dev Cert.WOutSumReferenceIdeal.nD → PrngReg), Pre_WOutSumReferenceIdeal m →
    θ_run (Cert.WOutSumReferenceIdeal.defs (F := Ideal)) (onTc (τ := Cert.WOutSumReferenceIdeal.τ) (Cert.WOutSumReferenceIdeal.main (F := Ideal))) ⟨m, fun _ => 0, g⟩ (fun r => (∀ c : Dev Cert.WOutSumReferenceIdeal.nD,
      r.2.mem ((c.tc : Thread Cert.WOutSumReferenceIdeal.nD Cert.WOutSumReferenceIdeal.τ).loc Cert.WOutSumReferenceIdeal.main_arg0) = m ((c.tc : Thread Cert.WOutSumReferenceIdeal.nD Cert.WOutSumReferenceIdeal.τ).loc Cert.WOutSumReferenceIdeal.main_arg0))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumReferenceIdeal [hSmallSumReferenceIdeal : Cert.SmallSumReferenceIdeal.Facts] : Prop :=
  ∀ (m : (ℓ : Loc Cert.SmallSumReferenceIdeal.nD Cert.SmallSumReferenceIdeal.τ Cert.SmallSumReferenceIdeal.sig) → Buf (Elt Ideal) ℓ) (g : Dev Cert.SmallSumReferenceIdeal.nD → PrngReg), Pre_SmallSumReferenceIdeal m →
    θ_run (Cert.SmallSumReferenceIdeal.defs (F := Ideal)) (onTc (τ := Cert.SmallSumReferenceIdeal.τ) (Cert.SmallSumReferenceIdeal.main (F := Ideal))) ⟨m, fun _ => 0, g⟩ (fun r => (∀ c : Dev Cert.SmallSumReferenceIdeal.nD,
      r.2.mem ((c.tc : Thread Cert.SmallSumReferenceIdeal.nD Cert.SmallSumReferenceIdeal.τ).loc Cert.SmallSumReferenceIdeal.main_arg0) = m ((c.tc : Thread Cert.SmallSumReferenceIdeal.nD Cert.SmallSumReferenceIdeal.τ).loc Cert.SmallSumReferenceIdeal.main_arg0))
      ∧ r.2.sem = fun _ => 0)

def quiescent_WOutAdd [hWOutAdd : Cert.WOutAdd.Facts] : Prop :=
  ∀ (m : (ℓ : Loc Cert.WOutAdd.nD Cert.WOutAdd.τ Cert.WOutAdd.sig) → Buf (Elt Bits) ℓ) (g : Dev Cert.WOutAdd.nD → PrngReg), Pre_WOutAdd m →
    θ_run (Cert.WOutAdd.defs (F := Bits)) (onTc (τ := Cert.WOutAdd.τ) (Cert.WOutAdd.main (F := Bits))) ⟨m, fun _ => 0, g⟩ (fun r => (∀ c : Dev Cert.WOutAdd.nD,
      r.2.mem ((c.tc : Thread Cert.WOutAdd.nD Cert.WOutAdd.τ).loc Cert.WOutAdd.main_arg0) = m ((c.tc : Thread Cert.WOutAdd.nD Cert.WOutAdd.τ).loc Cert.WOutAdd.main_arg0)
      ∧ r.2.mem ((c.tc : Thread Cert.WOutAdd.nD Cert.WOutAdd.τ).loc Cert.WOutAdd.main_arg1) = m ((c.tc : Thread Cert.WOutAdd.nD Cert.WOutAdd.τ).loc Cert.WOutAdd.main_arg1))
      ∧ r.2.sem = fun _ => 0)

def quiescent_WOutAddIdeal [hWOutAddIdeal : Cert.WOutAddIdeal.Facts] : Prop :=
  ∀ (m : (ℓ : Loc Cert.WOutAddIdeal.nD Cert.WOutAddIdeal.τ Cert.WOutAddIdeal.sig) → Buf (Elt Ideal) ℓ) (g : Dev Cert.WOutAddIdeal.nD → PrngReg), Pre_WOutAddIdeal m →
    θ_run (Cert.WOutAddIdeal.defs (F := Ideal)) (onTc (τ := Cert.WOutAddIdeal.τ) (Cert.WOutAddIdeal.main (F := Ideal))) ⟨m, fun _ => 0, g⟩ (fun r => (∀ c : Dev Cert.WOutAddIdeal.nD,
      r.2.mem ((c.tc : Thread Cert.WOutAddIdeal.nD Cert.WOutAddIdeal.τ).loc Cert.WOutAddIdeal.main_arg0) = m ((c.tc : Thread Cert.WOutAddIdeal.nD Cert.WOutAddIdeal.τ).loc Cert.WOutAddIdeal.main_arg0)
      ∧ r.2.mem ((c.tc : Thread Cert.WOutAddIdeal.nD Cert.WOutAddIdeal.τ).loc Cert.WOutAddIdeal.main_arg1) = m ((c.tc : Thread Cert.WOutAddIdeal.nD Cert.WOutAddIdeal.τ).loc Cert.WOutAddIdeal.main_arg1))
      ∧ r.2.sem = fun _ => 0)

def quiescent_WOutAddReferenceIdeal [hWOutAddReferenceIdeal : Cert.WOutAddReferenceIdeal.Facts] : Prop :=
  ∀ (m : (ℓ : Loc Cert.WOutAddReferenceIdeal.nD Cert.WOutAddReferenceIdeal.τ Cert.WOutAddReferenceIdeal.sig) → Buf (Elt Ideal) ℓ) (g : Dev Cert.WOutAddReferenceIdeal.nD → PrngReg), Pre_WOutAddReferenceIdeal m →
    θ_run (Cert.WOutAddReferenceIdeal.defs (F := Ideal)) (onTc (τ := Cert.WOutAddReferenceIdeal.τ) (Cert.WOutAddReferenceIdeal.main (F := Ideal))) ⟨m, fun _ => 0, g⟩ (fun r => (∀ c : Dev Cert.WOutAddReferenceIdeal.nD,
      r.2.mem ((c.tc : Thread Cert.WOutAddReferenceIdeal.nD Cert.WOutAddReferenceIdeal.τ).loc Cert.WOutAddReferenceIdeal.main_arg0) = m ((c.tc : Thread Cert.WOutAddReferenceIdeal.nD Cert.WOutAddReferenceIdeal.τ).loc Cert.WOutAddReferenceIdeal.main_arg0)
      ∧ r.2.mem ((c.tc : Thread Cert.WOutAddReferenceIdeal.nD Cert.WOutAddReferenceIdeal.τ).loc Cert.WOutAddReferenceIdeal.main_arg1) = m ((c.tc : Thread Cert.WOutAddReferenceIdeal.nD Cert.WOutAddReferenceIdeal.τ).loc Cert.WOutAddReferenceIdeal.main_arg1))
      ∧ r.2.sem = fun _ => 0)

def quiescent_SmallAdd [hSmallAdd : Cert.SmallAdd.Facts] : Prop :=
  ∀ (m : (ℓ : Loc Cert.SmallAdd.nD Cert.SmallAdd.τ Cert.SmallAdd.sig) → Buf (Elt Bits) ℓ) (g : Dev Cert.SmallAdd.nD → PrngReg), Pre_SmallAdd m →
    θ_run (Cert.SmallAdd.defs (F := Bits)) (onTc (τ := Cert.SmallAdd.τ) (Cert.SmallAdd.main (F := Bits))) ⟨m, fun _ => 0, g⟩ (fun r => (∀ c : Dev Cert.SmallAdd.nD,
      r.2.mem ((c.tc : Thread Cert.SmallAdd.nD Cert.SmallAdd.τ).loc Cert.SmallAdd.main_arg0) = m ((c.tc : Thread Cert.SmallAdd.nD Cert.SmallAdd.τ).loc Cert.SmallAdd.main_arg0)
      ∧ r.2.mem ((c.tc : Thread Cert.SmallAdd.nD Cert.SmallAdd.τ).loc Cert.SmallAdd.main_arg1) = m ((c.tc : Thread Cert.SmallAdd.nD Cert.SmallAdd.τ).loc Cert.SmallAdd.main_arg1))
      ∧ r.2.sem = fun _ => 0)

def quiescent_SmallAddIdeal [hSmallAddIdeal : Cert.SmallAddIdeal.Facts] : Prop :=
  ∀ (m : (ℓ : Loc Cert.SmallAddIdeal.nD Cert.SmallAddIdeal.τ Cert.SmallAddIdeal.sig) → Buf (Elt Ideal) ℓ) (g : Dev Cert.SmallAddIdeal.nD → PrngReg), Pre_SmallAddIdeal m →
    θ_run (Cert.SmallAddIdeal.defs (F := Ideal)) (onTc (τ := Cert.SmallAddIdeal.τ) (Cert.SmallAddIdeal.main (F := Ideal))) ⟨m, fun _ => 0, g⟩ (fun r => (∀ c : Dev Cert.SmallAddIdeal.nD,
      r.2.mem ((c.tc : Thread Cert.SmallAddIdeal.nD Cert.SmallAddIdeal.τ).loc Cert.SmallAddIdeal.main_arg0) = m ((c.tc : Thread Cert.SmallAddIdeal.nD Cert.SmallAddIdeal.τ).loc Cert.SmallAddIdeal.main_arg0)
      ∧ r.2.mem ((c.tc : Thread Cert.SmallAddIdeal.nD Cert.SmallAddIdeal.τ).loc Cert.SmallAddIdeal.main_arg1) = m ((c.tc : Thread Cert.SmallAddIdeal.nD Cert.SmallAddIdeal.τ).loc Cert.SmallAddIdeal.main_arg1))
      ∧ r.2.sem = fun _ => 0)

def quiescent_SmallAddReferenceIdeal [hSmallAddReferenceIdeal : Cert.SmallAddReferenceIdeal.Facts] : Prop :=
  ∀ (m : (ℓ : Loc Cert.SmallAddReferenceIdeal.nD Cert.SmallAddReferenceIdeal.τ Cert.SmallAddReferenceIdeal.sig) → Buf (Elt Ideal) ℓ) (g : Dev Cert.SmallAddReferenceIdeal.nD → PrngReg), Pre_SmallAddReferenceIdeal m →
    θ_run (Cert.SmallAddReferenceIdeal.defs (F := Ideal)) (onTc (τ := Cert.SmallAddReferenceIdeal.τ) (Cert.SmallAddReferenceIdeal.main (F := Ideal))) ⟨m, fun _ => 0, g⟩ (fun r => (∀ c : Dev Cert.SmallAddReferenceIdeal.nD,
      r.2.mem ((c.tc : Thread Cert.SmallAddReferenceIdeal.nD Cert.SmallAddReferenceIdeal.τ).loc Cert.SmallAddReferenceIdeal.main_arg0) = m ((c.tc : Thread Cert.SmallAddReferenceIdeal.nD Cert.SmallAddReferenceIdeal.τ).loc Cert.SmallAddReferenceIdeal.main_arg0)
      ∧ r.2.mem ((c.tc : Thread Cert.SmallAddReferenceIdeal.nD Cert.SmallAddReferenceIdeal.τ).loc Cert.SmallAddReferenceIdeal.main_arg1) = m ((c.tc : Thread Cert.SmallAddReferenceIdeal.nD Cert.SmallAddReferenceIdeal.τ).loc Cert.SmallAddReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_MetaGrads [hMetaGrads : Cert.MetaGrads.Facts] : Prop :=
  ∀ (m : (ℓ : Loc Cert.MetaGrads.nD Cert.MetaGrads.τ Cert.MetaGrads.sig) → Buf (Elt Bits) ℓ) (g : Dev Cert.MetaGrads.nD → PrngReg), Pre_MetaGrads m →
    θ_run (Cert.MetaGrads.defs (F := Bits)) (onTc (τ := Cert.MetaGrads.τ) (Cert.MetaGrads.main (F := Bits))) ⟨m, fun _ => 0, g⟩ (fun r => (∀ c : Dev Cert.MetaGrads.nD,
      r.2.mem ((c.tc : Thread Cert.MetaGrads.nD Cert.MetaGrads.τ).loc Cert.MetaGrads.main_arg0) = m ((c.tc : Thread Cert.MetaGrads.nD Cert.MetaGrads.τ).loc Cert.MetaGrads.main_arg0)
      ∧ r.2.mem ((c.tc : Thread Cert.MetaGrads.nD Cert.MetaGrads.τ).loc Cert.MetaGrads.main_arg1) = m ((c.tc : Thread Cert.MetaGrads.nD Cert.MetaGrads.τ).loc Cert.MetaGrads.main_arg1)
      ∧ r.2.mem ((c.tc : Thread Cert.MetaGrads.nD Cert.MetaGrads.τ).loc Cert.MetaGrads.main_arg2) = m ((c.tc : Thread Cert.MetaGrads.nD Cert.MetaGrads.τ).loc Cert.MetaGrads.main_arg2)
      ∧ r.2.mem ((c.tc : Thread Cert.MetaGrads.nD Cert.MetaGrads.τ).loc Cert.MetaGrads.main_arg3) = m ((c.tc : Thread Cert.MetaGrads.nD Cert.MetaGrads.τ).loc Cert.MetaGrads.main_arg3))
      ∧ r.2.sem = fun _ => 0)

def quiescent_MetaGradsIdeal [hMetaGradsIdeal : Cert.MetaGradsIdeal.Facts] : Prop :=
  ∀ (m : (ℓ : Loc Cert.MetaGradsIdeal.nD Cert.MetaGradsIdeal.τ Cert.MetaGradsIdeal.sig) → Buf (Elt Ideal) ℓ) (g : Dev Cert.MetaGradsIdeal.nD → PrngReg), Pre_MetaGradsIdeal m →
    θ_run (Cert.MetaGradsIdeal.defs (F := Ideal)) (onTc (τ := Cert.MetaGradsIdeal.τ) (Cert.MetaGradsIdeal.main (F := Ideal))) ⟨m, fun _ => 0, g⟩ (fun r => (∀ c : Dev Cert.MetaGradsIdeal.nD,
      r.2.mem ((c.tc : Thread Cert.MetaGradsIdeal.nD Cert.MetaGradsIdeal.τ).loc Cert.MetaGradsIdeal.main_arg0) = m ((c.tc : Thread Cert.MetaGradsIdeal.nD Cert.MetaGradsIdeal.τ).loc Cert.MetaGradsIdeal.main_arg0)
      ∧ r.2.mem ((c.tc : Thread Cert.MetaGradsIdeal.nD Cert.MetaGradsIdeal.τ).loc Cert.MetaGradsIdeal.main_arg1) = m ((c.tc : Thread Cert.MetaGradsIdeal.nD Cert.MetaGradsIdeal.τ).loc Cert.MetaGradsIdeal.main_arg1)
      ∧ r.2.mem ((c.tc : Thread Cert.MetaGradsIdeal.nD Cert.MetaGradsIdeal.τ).loc Cert.MetaGradsIdeal.main_arg2) = m ((c.tc : Thread Cert.MetaGradsIdeal.nD Cert.MetaGradsIdeal.τ).loc Cert.MetaGradsIdeal.main_arg2)
      ∧ r.2.mem ((c.tc : Thread Cert.MetaGradsIdeal.nD Cert.MetaGradsIdeal.τ).loc Cert.MetaGradsIdeal.main_arg3) = m ((c.tc : Thread Cert.MetaGradsIdeal.nD Cert.MetaGradsIdeal.τ).loc Cert.MetaGradsIdeal.main_arg3))
      ∧ r.2.sem = fun _ => 0)

def quiescent_MetaGradsReferenceIdeal [hMetaGradsReferenceIdeal : Cert.MetaGradsReferenceIdeal.Facts] : Prop :=
  ∀ (m : (ℓ : Loc Cert.MetaGradsReferenceIdeal.nD Cert.MetaGradsReferenceIdeal.τ Cert.MetaGradsReferenceIdeal.sig) → Buf (Elt Ideal) ℓ) (g : Dev Cert.MetaGradsReferenceIdeal.nD → PrngReg), Pre_MetaGradsReferenceIdeal m →
    θ_run (Cert.MetaGradsReferenceIdeal.defs (F := Ideal)) (onTc (τ := Cert.MetaGradsReferenceIdeal.τ) (Cert.MetaGradsReferenceIdeal.main (F := Ideal))) ⟨m, fun _ => 0, g⟩ (fun r => (∀ c : Dev Cert.MetaGradsReferenceIdeal.nD,
      r.2.mem ((c.tc : Thread Cert.MetaGradsReferenceIdeal.nD Cert.MetaGradsReferenceIdeal.τ).loc Cert.MetaGradsReferenceIdeal.main_arg0) = m ((c.tc : Thread Cert.MetaGradsReferenceIdeal.nD Cert.MetaGradsReferenceIdeal.τ).loc Cert.MetaGradsReferenceIdeal.main_arg0)
      ∧ r.2.mem ((c.tc : Thread Cert.MetaGradsReferenceIdeal.nD Cert.MetaGradsReferenceIdeal.τ).loc Cert.MetaGradsReferenceIdeal.main_arg1) = m ((c.tc : Thread Cert.MetaGradsReferenceIdeal.nD Cert.MetaGradsReferenceIdeal.τ).loc Cert.MetaGradsReferenceIdeal.main_arg1)
      ∧ r.2.mem ((c.tc : Thread Cert.MetaGradsReferenceIdeal.nD Cert.MetaGradsReferenceIdeal.τ).loc Cert.MetaGradsReferenceIdeal.main_arg2) = m ((c.tc : Thread Cert.MetaGradsReferenceIdeal.nD Cert.MetaGradsReferenceIdeal.τ).loc Cert.MetaGradsReferenceIdeal.main_arg2)
      ∧ r.2.mem ((c.tc : Thread Cert.MetaGradsReferenceIdeal.nD Cert.MetaGradsReferenceIdeal.τ).loc Cert.MetaGradsReferenceIdeal.main_arg3) = m ((c.tc : Thread Cert.MetaGradsReferenceIdeal.nD Cert.MetaGradsReferenceIdeal.τ).loc Cert.MetaGradsReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ r.2.sem = fun _ => 0)

def quiescent_DWOutReferenceIdeal [hDWOutReferenceIdeal : Cert.DWOutReferenceIdeal.Facts] : Prop :=
  ∀ (m : (ℓ : Loc Cert.DWOutReferenceIdeal.nD Cert.DWOutReferenceIdeal.τ Cert.DWOutReferenceIdeal.sig) → Buf (Elt Ideal) ℓ) (g : Dev Cert.DWOutReferenceIdeal.nD → PrngReg), Pre_DWOutReferenceIdeal m →
    θ_run (Cert.DWOutReferenceIdeal.defs (F := Ideal)) (onTc (τ := Cert.DWOutReferenceIdeal.τ) (Cert.DWOutReferenceIdeal.main (F := Ideal))) ⟨m, fun _ => 0, g⟩ (fun r => (∀ c : Dev Cert.DWOutReferenceIdeal.nD,
      r.2.mem ((c.tc : Thread Cert.DWOutReferenceIdeal.nD Cert.DWOutReferenceIdeal.τ).loc Cert.DWOutReferenceIdeal.main_arg0) = m ((c.tc : Thread Cert.DWOutReferenceIdeal.nD Cert.DWOutReferenceIdeal.τ).loc Cert.DWOutReferenceIdeal.main_arg0)
      ∧ r.2.mem ((c.tc : Thread Cert.DWOutReferenceIdeal.nD Cert.DWOutReferenceIdeal.τ).loc Cert.DWOutReferenceIdeal.main_arg1) = m ((c.tc : Thread Cert.DWOutReferenceIdeal.nD Cert.DWOutReferenceIdeal.τ).loc Cert.DWOutReferenceIdeal.main_arg1))
      ∧ r.2.sem = fun _ => 0)

def quiescent_DOutProj [hDOutProj : Cert.DOutProj.Facts] : Prop :=
  ∀ (m : (ℓ : Loc Cert.DOutProj.nD Cert.DOutProj.τ Cert.DOutProj.sig) → Buf (Elt Bits) ℓ) (g : Dev Cert.DOutProj.nD → PrngReg), Pre_DOutProj m →
    θ_run (Cert.DOutProj.defs (F := Bits)) (onTc (τ := Cert.DOutProj.τ) (Cert.DOutProj.main (F := Bits))) ⟨m, fun _ => 0, g⟩ (fun r => (∀ c : Dev Cert.DOutProj.nD,
      r.2.mem ((c.tc : Thread Cert.DOutProj.nD Cert.DOutProj.τ).loc Cert.DOutProj.main_arg0) = m ((c.tc : Thread Cert.DOutProj.nD Cert.DOutProj.τ).loc Cert.DOutProj.main_arg0)
      ∧ r.2.mem ((c.tc : Thread Cert.DOutProj.nD Cert.DOutProj.τ).loc Cert.DOutProj.main_arg1) = m ((c.tc : Thread Cert.DOutProj.nD Cert.DOutProj.τ).loc Cert.DOutProj.main_arg1)
      ∧ r.2.mem ((c.tc : Thread Cert.DOutProj.nD Cert.DOutProj.τ).loc Cert.DOutProj.main_arg2) = m ((c.tc : Thread Cert.DOutProj.nD Cert.DOutProj.τ).loc Cert.DOutProj.main_arg2))
      ∧ r.2.sem = fun _ => 0)

def quiescent_DOutProjIdeal [hDOutProjIdeal : Cert.DOutProjIdeal.Facts] : Prop :=
  ∀ (m : (ℓ : Loc Cert.DOutProjIdeal.nD Cert.DOutProjIdeal.τ Cert.DOutProjIdeal.sig) → Buf (Elt Ideal) ℓ) (g : Dev Cert.DOutProjIdeal.nD → PrngReg), Pre_DOutProjIdeal m →
    θ_run (Cert.DOutProjIdeal.defs (F := Ideal)) (onTc (τ := Cert.DOutProjIdeal.τ) (Cert.DOutProjIdeal.main (F := Ideal))) ⟨m, fun _ => 0, g⟩ (fun r => (∀ c : Dev Cert.DOutProjIdeal.nD,
      r.2.mem ((c.tc : Thread Cert.DOutProjIdeal.nD Cert.DOutProjIdeal.τ).loc Cert.DOutProjIdeal.main_arg0) = m ((c.tc : Thread Cert.DOutProjIdeal.nD Cert.DOutProjIdeal.τ).loc Cert.DOutProjIdeal.main_arg0)
      ∧ r.2.mem ((c.tc : Thread Cert.DOutProjIdeal.nD Cert.DOutProjIdeal.τ).loc Cert.DOutProjIdeal.main_arg1) = m ((c.tc : Thread Cert.DOutProjIdeal.nD Cert.DOutProjIdeal.τ).loc Cert.DOutProjIdeal.main_arg1)
      ∧ r.2.mem ((c.tc : Thread Cert.DOutProjIdeal.nD Cert.DOutProjIdeal.τ).loc Cert.DOutProjIdeal.main_arg2) = m ((c.tc : Thread Cert.DOutProjIdeal.nD Cert.DOutProjIdeal.τ).loc Cert.DOutProjIdeal.main_arg2))
      ∧ r.2.sem = fun _ => 0)

def quiescent_DOutProjReferenceIdeal [hDOutProjReferenceIdeal : Cert.DOutProjReferenceIdeal.Facts] : Prop :=
  ∀ (m : (ℓ : Loc Cert.DOutProjReferenceIdeal.nD Cert.DOutProjReferenceIdeal.τ Cert.DOutProjReferenceIdeal.sig) → Buf (Elt Ideal) ℓ) (g : Dev Cert.DOutProjReferenceIdeal.nD → PrngReg), Pre_DOutProjReferenceIdeal m →
    θ_run (Cert.DOutProjReferenceIdeal.defs (F := Ideal)) (onTc (τ := Cert.DOutProjReferenceIdeal.τ) (Cert.DOutProjReferenceIdeal.main (F := Ideal))) ⟨m, fun _ => 0, g⟩ (fun r => (∀ c : Dev Cert.DOutProjReferenceIdeal.nD,
      r.2.mem ((c.tc : Thread Cert.DOutProjReferenceIdeal.nD Cert.DOutProjReferenceIdeal.τ).loc Cert.DOutProjReferenceIdeal.main_arg0) = m ((c.tc : Thread Cert.DOutProjReferenceIdeal.nD Cert.DOutProjReferenceIdeal.τ).loc Cert.DOutProjReferenceIdeal.main_arg0)
      ∧ r.2.mem ((c.tc : Thread Cert.DOutProjReferenceIdeal.nD Cert.DOutProjReferenceIdeal.τ).loc Cert.DOutProjReferenceIdeal.main_arg1) = m ((c.tc : Thread Cert.DOutProjReferenceIdeal.nD Cert.DOutProjReferenceIdeal.τ).loc Cert.DOutProjReferenceIdeal.main_arg1)
      ∧ r.2.mem ((c.tc : Thread Cert.DOutProjReferenceIdeal.nD Cert.DOutProjReferenceIdeal.τ).loc Cert.DOutProjReferenceIdeal.main_arg2) = m ((c.tc : Thread Cert.DOutProjReferenceIdeal.nD Cert.DOutProjReferenceIdeal.τ).loc Cert.DOutProjReferenceIdeal.main_arg2))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ r.2.sem = fun _ => 0)

def quiescent_DWInReferenceIdeal [hDWInReferenceIdeal : Cert.DWInReferenceIdeal.Facts] : Prop :=
  ∀ (m : (ℓ : Loc Cert.DWInReferenceIdeal.nD Cert.DWInReferenceIdeal.τ Cert.DWInReferenceIdeal.sig) → Buf (Elt Ideal) ℓ) (g : Dev Cert.DWInReferenceIdeal.nD → PrngReg), Pre_DWInReferenceIdeal m →
    θ_run (Cert.DWInReferenceIdeal.defs (F := Ideal)) (onTc (τ := Cert.DWInReferenceIdeal.τ) (Cert.DWInReferenceIdeal.main (F := Ideal))) ⟨m, fun _ => 0, g⟩ (fun r => (∀ c : Dev Cert.DWInReferenceIdeal.nD,
      r.2.mem ((c.tc : Thread Cert.DWInReferenceIdeal.nD Cert.DWInReferenceIdeal.τ).loc Cert.DWInReferenceIdeal.main_arg0) = m ((c.tc : Thread Cert.DWInReferenceIdeal.nD Cert.DWInReferenceIdeal.τ).loc Cert.DWInReferenceIdeal.main_arg0)
      ∧ r.2.mem ((c.tc : Thread Cert.DWInReferenceIdeal.nD Cert.DWInReferenceIdeal.τ).loc Cert.DWInReferenceIdeal.main_arg1) = m ((c.tc : Thread Cert.DWInReferenceIdeal.nD Cert.DWInReferenceIdeal.τ).loc Cert.DWInReferenceIdeal.main_arg1))
      ∧ r.2.sem = fun _ => 0)

def quiescent_DInProj [hDInProj : Cert.DInProj.Facts] : Prop :=
  ∀ (m : (ℓ : Loc Cert.DInProj.nD Cert.DInProj.τ Cert.DInProj.sig) → Buf (Elt Bits) ℓ) (g : Dev Cert.DInProj.nD → PrngReg), Pre_DInProj m →
    θ_run (Cert.DInProj.defs (F := Bits)) (onTc (τ := Cert.DInProj.τ) (Cert.DInProj.main (F := Bits))) ⟨m, fun _ => 0, g⟩ (fun r => (∀ c : Dev Cert.DInProj.nD,
      r.2.mem ((c.tc : Thread Cert.DInProj.nD Cert.DInProj.τ).loc Cert.DInProj.main_arg0) = m ((c.tc : Thread Cert.DInProj.nD Cert.DInProj.τ).loc Cert.DInProj.main_arg0)
      ∧ r.2.mem ((c.tc : Thread Cert.DInProj.nD Cert.DInProj.τ).loc Cert.DInProj.main_arg1) = m ((c.tc : Thread Cert.DInProj.nD Cert.DInProj.τ).loc Cert.DInProj.main_arg1)
      ∧ r.2.mem ((c.tc : Thread Cert.DInProj.nD Cert.DInProj.τ).loc Cert.DInProj.main_arg2) = m ((c.tc : Thread Cert.DInProj.nD Cert.DInProj.τ).loc Cert.DInProj.main_arg2))
      ∧ r.2.sem = fun _ => 0)

def quiescent_DInProjIdeal [hDInProjIdeal : Cert.DInProjIdeal.Facts] : Prop :=
  ∀ (m : (ℓ : Loc Cert.DInProjIdeal.nD Cert.DInProjIdeal.τ Cert.DInProjIdeal.sig) → Buf (Elt Ideal) ℓ) (g : Dev Cert.DInProjIdeal.nD → PrngReg), Pre_DInProjIdeal m →
    θ_run (Cert.DInProjIdeal.defs (F := Ideal)) (onTc (τ := Cert.DInProjIdeal.τ) (Cert.DInProjIdeal.main (F := Ideal))) ⟨m, fun _ => 0, g⟩ (fun r => (∀ c : Dev Cert.DInProjIdeal.nD,
      r.2.mem ((c.tc : Thread Cert.DInProjIdeal.nD Cert.DInProjIdeal.τ).loc Cert.DInProjIdeal.main_arg0) = m ((c.tc : Thread Cert.DInProjIdeal.nD Cert.DInProjIdeal.τ).loc Cert.DInProjIdeal.main_arg0)
      ∧ r.2.mem ((c.tc : Thread Cert.DInProjIdeal.nD Cert.DInProjIdeal.τ).loc Cert.DInProjIdeal.main_arg1) = m ((c.tc : Thread Cert.DInProjIdeal.nD Cert.DInProjIdeal.τ).loc Cert.DInProjIdeal.main_arg1)
      ∧ r.2.mem ((c.tc : Thread Cert.DInProjIdeal.nD Cert.DInProjIdeal.τ).loc Cert.DInProjIdeal.main_arg2) = m ((c.tc : Thread Cert.DInProjIdeal.nD Cert.DInProjIdeal.τ).loc Cert.DInProjIdeal.main_arg2))
      ∧ r.2.sem = fun _ => 0)

def quiescent_DInProjReferenceIdeal [hDInProjReferenceIdeal : Cert.DInProjReferenceIdeal.Facts] : Prop :=
  ∀ (m : (ℓ : Loc Cert.DInProjReferenceIdeal.nD Cert.DInProjReferenceIdeal.τ Cert.DInProjReferenceIdeal.sig) → Buf (Elt Ideal) ℓ) (g : Dev Cert.DInProjReferenceIdeal.nD → PrngReg), Pre_DInProjReferenceIdeal m →
    θ_run (Cert.DInProjReferenceIdeal.defs (F := Ideal)) (onTc (τ := Cert.DInProjReferenceIdeal.τ) (Cert.DInProjReferenceIdeal.main (F := Ideal))) ⟨m, fun _ => 0, g⟩ (fun r => (∀ c : Dev Cert.DInProjReferenceIdeal.nD,
      r.2.mem ((c.tc : Thread Cert.DInProjReferenceIdeal.nD Cert.DInProjReferenceIdeal.τ).loc Cert.DInProjReferenceIdeal.main_arg0) = m ((c.tc : Thread Cert.DInProjReferenceIdeal.nD Cert.DInProjReferenceIdeal.τ).loc Cert.DInProjReferenceIdeal.main_arg0)
      ∧ r.2.mem ((c.tc : Thread Cert.DInProjReferenceIdeal.nD Cert.DInProjReferenceIdeal.τ).loc Cert.DInProjReferenceIdeal.main_arg1) = m ((c.tc : Thread Cert.DInProjReferenceIdeal.nD Cert.DInProjReferenceIdeal.τ).loc Cert.DInProjReferenceIdeal.main_arg1)
      ∧ r.2.mem ((c.tc : Thread Cert.DInProjReferenceIdeal.nD Cert.DInProjReferenceIdeal.τ).loc Cert.DInProjReferenceIdeal.main_arg2) = m ((c.tc : Thread Cert.DInProjReferenceIdeal.nD Cert.DInProjReferenceIdeal.τ).loc Cert.DInProjReferenceIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8448]⟩ ⟨2, ![16384, 8448]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 8448]⟩ ⟨3, ![8, 1024, 8448]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def preserves_WOutSib_WOutSibIdeal : Prop :=
  True

def algebraic_WOutSibIdeal_WOutSibReferenceIdeal [hWOutSibIdeal : Cert.WOutSibIdeal.Facts] [hWOutSibReferenceIdeal : Cert.WOutSibReferenceIdeal.Facts] : Prop :=
  ∀ (m : (ℓ : Loc Cert.WOutSibIdeal.nD Cert.WOutSibIdeal.τ Cert.WOutSibIdeal.sig) → Buf (Elt Ideal) ℓ) (g : Dev Cert.WOutSibIdeal.nD → PrngReg)
    (m' : (ℓ : Loc Cert.WOutSibReferenceIdeal.nD Cert.WOutSibReferenceIdeal.τ Cert.WOutSibReferenceIdeal.sig) → Buf (Elt Ideal) ℓ) (g' : Dev Cert.WOutSibReferenceIdeal.nD → PrngReg), Pre_WOutSibIdeal m →
    (∀ c : Dev Cert.WOutSibIdeal.nD,
      m ((c.tc : Thread Cert.WOutSibIdeal.nD Cert.WOutSibIdeal.τ).loc Cert.WOutSibIdeal.main_arg0) = Layout.block ⟨3, ![4, 256, 2048]⟩ ⟨3, ![32, 256, 2048]⟩ 0 8 c (m' (((0 : Dev Cert.WOutSibReferenceIdeal.nD).tc : Thread Cert.WOutSibReferenceIdeal.nD Cert.WOutSibReferenceIdeal.τ).loc Cert.WOutSibReferenceIdeal.main_arg0))) →
    ∃ (v0 : Buf (Elt Ideal) (((0 : Dev Cert.WOutSibReferenceIdeal.nD).tc : Thread Cert.WOutSibReferenceIdeal.nD Cert.WOutSibReferenceIdeal.τ).loc Cert.WOutSibReferenceIdeal.main_v8)),
      θ_run (Cert.WOutSibIdeal.defs (F := Ideal)) (onTc (τ := Cert.WOutSibIdeal.τ) (Cert.WOutSibIdeal.main (F := Ideal))) ⟨m, fun _ => 0, g⟩ (fun r => ∀ c : Dev Cert.WOutSibIdeal.nD,
          r.2.mem ((c.tc : Thread Cert.WOutSibIdeal.nD Cert.WOutSibIdeal.τ).loc Cert.WOutSibIdeal.main_v1) = Layout.block ⟨4, ![1, 4, 256, 2048]⟩ ⟨4, ![8, 4, 256, 2048]⟩ 0 8 c v0
          ∧ r.2.mem ((c.tc : Thread Cert.WOutSibIdeal.nD Cert.WOutSibIdeal.τ).loc Cert.WOutSibIdeal.main_arg0) = m ((c.tc : Thread Cert.WOutSibIdeal.nD Cert.WOutSibIdeal.τ).loc Cert.WOutSibIdeal.main_arg0))
      ∧ θ_run (Cert.WOutSibReferenceIdeal.defs (F := Ideal)) (onTc (τ := Cert.WOutSibReferenceIdeal.τ) (Cert.WOutSibReferenceIdeal.main (F := Ideal))) ⟨m', fun _ => 0, g'⟩ (fun r =>
          r.2.mem (((0 : Dev Cert.WOutSibReferenceIdeal.nD).tc : Thread Cert.WOutSibReferenceIdeal.nD Cert.WOutSibReferenceIdeal.τ).loc Cert.WOutSibReferenceIdeal.main_v8) = v0
          ∧ r.2.mem (((0 : Dev Cert.WOutSibReferenceIdeal.nD).tc : Thread Cert.WOutSibReferenceIdeal.nD Cert.WOutSibReferenceIdeal.τ).loc Cert.WOutSibReferenceIdeal.main_arg0) = m' (((0 : Dev Cert.WOutSibReferenceIdeal.nD).tc : Thread Cert.WOutSibReferenceIdeal.nD Cert.WOutSibReferenceIdeal.τ).loc Cert.WOutSibReferenceIdeal.main_arg0))

def preserves_WInPair_WInPairIdeal : Prop :=
  True

def algebraic_WInPairIdeal_WInPairReferenceIdeal [hWInPairIdeal : Cert.WInPairIdeal.Facts] [hWInPairReferenceIdeal : Cert.WInPairReferenceIdeal.Facts] : Prop :=
  ∀ (m : (ℓ : Loc Cert.WInPairIdeal.nD Cert.WInPairIdeal.τ Cert.WInPairIdeal.sig) → Buf (Elt Ideal) ℓ) (g : Dev Cert.WInPairIdeal.nD → PrngReg)
    (m' : (ℓ : Loc Cert.WInPairReferenceIdeal.nD Cert.WInPairReferenceIdeal.τ Cert.WInPairReferenceIdeal.sig) → Buf (Elt Ideal) ℓ) (g' : Dev Cert.WInPairReferenceIdeal.nD → PrngReg), Pre_WInPairIdeal m →
    (∀ c : Dev Cert.WInPairIdeal.nD,
      m ((c.tc : Thread Cert.WInPairIdeal.nD Cert.WInPairIdeal.τ).loc Cert.WInPairIdeal.main_arg0) = Layout.block ⟨2, ![1024, 8448]⟩ ⟨2, ![8192, 8448]⟩ 0 8 c (m' (((0 : Dev Cert.WInPairReferenceIdeal.nD).tc : Thread Cert.WInPairReferenceIdeal.nD Cert.WInPairReferenceIdeal.τ).loc Cert.WInPairReferenceIdeal.main_arg0))) →
    ∃ (v0 : Buf (Elt Ideal) (((0 : Dev Cert.WInPairReferenceIdeal.nD).tc : Thread Cert.WInPairReferenceIdeal.nD Cert.WInPairReferenceIdeal.τ).loc Cert.WInPairReferenceIdeal.main_v2)),
      θ_run (Cert.WInPairIdeal.defs (F := Ideal)) (onTc (τ := Cert.WInPairIdeal.τ) (Cert.WInPairIdeal.main (F := Ideal))) ⟨m, fun _ => 0, g⟩ (fun r => ∀ c : Dev Cert.WInPairIdeal.nD,
          r.2.mem ((c.tc : Thread Cert.WInPairIdeal.nD Cert.WInPairIdeal.τ).loc Cert.WInPairIdeal.main_v6) = Layout.block ⟨3, ![2, 1024, 8448]⟩ ⟨3, ![16, 1024, 8448]⟩ 0 8 c v0
          ∧ r.2.mem ((c.tc : Thread Cert.WInPairIdeal.nD Cert.WInPairIdeal.τ).loc Cert.WInPairIdeal.main_arg0) = m ((c.tc : Thread Cert.WInPairIdeal.nD Cert.WInPairIdeal.τ).loc Cert.WInPairIdeal.main_arg0))
      ∧ θ_run (Cert.WInPairReferenceIdeal.defs (F := Ideal)) (onTc (τ := Cert.WInPairReferenceIdeal.τ) (Cert.WInPairReferenceIdeal.main (F := Ideal))) ⟨m', fun _ => 0, g'⟩ (fun r =>
          r.2.mem (((0 : Dev Cert.WInPairReferenceIdeal.nD).tc : Thread Cert.WInPairReferenceIdeal.nD Cert.WInPairReferenceIdeal.τ).loc Cert.WInPairReferenceIdeal.main_v2) = v0
          ∧ r.2.mem (((0 : Dev Cert.WInPairReferenceIdeal.nD).tc : Thread Cert.WInPairReferenceIdeal.nD Cert.WInPairReferenceIdeal.τ).loc Cert.WInPairReferenceIdeal.main_arg0) = m' (((0 : Dev Cert.WInPairReferenceIdeal.nD).tc : Thread Cert.WInPairReferenceIdeal.nD Cert.WInPairReferenceIdeal.τ).loc Cert.WInPairReferenceIdeal.main_arg0))

def preserves_WOutPair_WOutPairIdeal : Prop :=
  True

def algebraic_WOutPairIdeal_WOutPairReferenceIdeal [hWOutPairIdeal : Cert.WOutPairIdeal.Facts] [hWOutPairReferenceIdeal : Cert.WOutPairReferenceIdeal.Facts] : Prop :=
  ∀ (m : (ℓ : Loc Cert.WOutPairIdeal.nD Cert.WOutPairIdeal.τ Cert.WOutPairIdeal.sig) → Buf (Elt Ideal) ℓ) (g : Dev Cert.WOutPairIdeal.nD → PrngReg)
    (m' : (ℓ : Loc Cert.WOutPairReferenceIdeal.nD Cert.WOutPairReferenceIdeal.τ Cert.WOutPairReferenceIdeal.sig) → Buf (Elt Ideal) ℓ) (g' : Dev Cert.WOutPairReferenceIdeal.nD → PrngReg), Pre_WOutPairIdeal m →
    (∀ c : Dev Cert.WOutPairIdeal.nD,
      m ((c.tc : Thread Cert.WOutPairIdeal.nD Cert.WOutPairIdeal.τ).loc Cert.WOutPairIdeal.main_arg0) = Layout.block ⟨3, ![4, 256, 2048]⟩ ⟨3, ![32, 256, 2048]⟩ 0 8 c (m' (((0 : Dev Cert.WOutPairReferenceIdeal.nD).tc : Thread Cert.WOutPairReferenceIdeal.nD Cert.WOutPairReferenceIdeal.τ).loc Cert.WOutPairReferenceIdeal.main_arg0))) →
    ∃ (v0 : Buf (Elt Ideal) (((0 : Dev Cert.WOutPairReferenceIdeal.nD).tc : Thread Cert.WOutPairReferenceIdeal.nD Cert.WOutPairReferenceIdeal.τ).loc Cert.WOutPairReferenceIdeal.main_v2)),
      θ_run (Cert.WOutPairIdeal.defs (F := Ideal)) (onTc (τ := Cert.WOutPairIdeal.τ) (Cert.WOutPairIdeal.main (F := Ideal))) ⟨m, fun _ => 0, g⟩ (fun r => ∀ c : Dev Cert.WOutPairIdeal.nD,
          r.2.mem ((c.tc : Thread Cert.WOutPairIdeal.nD Cert.WOutPairIdeal.τ).loc Cert.WOutPairIdeal.main_v6) = Layout.block ⟨4, ![2, 4, 256, 2048]⟩ ⟨4, ![16, 4, 256, 2048]⟩ 0 8 c v0
          ∧ r.2.mem ((c.tc : Thread Cert.WOutPairIdeal.nD Cert.WOutPairIdeal.τ).loc Cert.WOutPairIdeal.main_arg0) = m ((c.tc : Thread Cert.WOutPairIdeal.nD Cert.WOutPairIdeal.τ).loc Cert.WOutPairIdeal.main_arg0))
      ∧ θ_run (Cert.WOutPairReferenceIdeal.defs (F := Ideal)) (onTc (τ := Cert.WOutPairReferenceIdeal.τ) (Cert.WOutPairReferenceIdeal.main (F := Ideal))) ⟨m', fun _ => 0, g'⟩ (fun r =>
          r.2.mem (((0 : Dev Cert.WOutPairReferenceIdeal.nD).tc : Thread Cert.WOutPairReferenceIdeal.nD Cert.WOutPairReferenceIdeal.τ).loc Cert.WOutPairReferenceIdeal.main_v2) = v0
          ∧ r.2.mem (((0 : Dev Cert.WOutPairReferenceIdeal.nD).tc : Thread Cert.WOutPairReferenceIdeal.nD Cert.WOutPairReferenceIdeal.τ).loc Cert.WOutPairReferenceIdeal.main_arg0) = m' (((0 : Dev Cert.WOutPairReferenceIdeal.nD).tc : Thread Cert.WOutPairReferenceIdeal.nD Cert.WOutPairReferenceIdeal.τ).loc Cert.WOutPairReferenceIdeal.main_arg0))

def preserves_WInShare_WInShareIdeal : Prop :=
  True

def algebraic_WInShareIdeal_WInShareReferenceIdeal [hWInShareIdeal : Cert.WInShareIdeal.Facts] [hWInShareReferenceIdeal : Cert.WInShareReferenceIdeal.Facts] : Prop :=
  ∀ (m : (ℓ : Loc Cert.WInShareIdeal.nD Cert.WInShareIdeal.τ Cert.WInShareIdeal.sig) → Buf (Elt Ideal) ℓ) (g : Dev Cert.WInShareIdeal.nD → PrngReg)
    (m' : (ℓ : Loc Cert.WInShareReferenceIdeal.nD Cert.WInShareReferenceIdeal.τ Cert.WInShareReferenceIdeal.sig) → Buf (Elt Ideal) ℓ) (g' : Dev Cert.WInShareReferenceIdeal.nD → PrngReg), Pre_WInShareIdeal m →
    (∀ c : Dev Cert.WInShareIdeal.nD,
      m ((c.tc : Thread Cert.WInShareIdeal.nD Cert.WInShareIdeal.τ).loc Cert.WInShareIdeal.main_arg0) = Layout.block ⟨2, ![1024, 2084]⟩ ⟨2, ![8192, 2084]⟩ 0 8 c (m' (((0 : Dev Cert.WInShareReferenceIdeal.nD).tc : Thread Cert.WInShareReferenceIdeal.nD Cert.WInShareReferenceIdeal.τ).loc Cert.WInShareReferenceIdeal.main_arg0))) →
    ∃ (v0 : Buf (Elt Ideal) (((0 : Dev Cert.WInShareReferenceIdeal.nD).tc : Thread Cert.WInShareReferenceIdeal.nD Cert.WInShareReferenceIdeal.τ).loc Cert.WInShareReferenceIdeal.main_v2)),
      θ_run (Cert.WInShareIdeal.defs (F := Ideal)) (onTc (τ := Cert.WInShareIdeal.τ) (Cert.WInShareIdeal.main (F := Ideal))) ⟨m, fun _ => 0, g⟩ (fun r => ∀ c : Dev Cert.WInShareIdeal.nD,
          r.2.mem ((c.tc : Thread Cert.WInShareIdeal.nD Cert.WInShareIdeal.τ).loc Cert.WInShareIdeal.main_v6) = Layout.block ⟨3, ![2, 1024, 2084]⟩ ⟨3, ![16, 1024, 2084]⟩ 0 8 c v0
          ∧ r.2.mem ((c.tc : Thread Cert.WInShareIdeal.nD Cert.WInShareIdeal.τ).loc Cert.WInShareIdeal.main_arg0) = m ((c.tc : Thread Cert.WInShareIdeal.nD Cert.WInShareIdeal.τ).loc Cert.WInShareIdeal.main_arg0))
      ∧ θ_run (Cert.WInShareReferenceIdeal.defs (F := Ideal)) (onTc (τ := Cert.WInShareReferenceIdeal.τ) (Cert.WInShareReferenceIdeal.main (F := Ideal))) ⟨m', fun _ => 0, g'⟩ (fun r =>
          r.2.mem (((0 : Dev Cert.WInShareReferenceIdeal.nD).tc : Thread Cert.WInShareReferenceIdeal.nD Cert.WInShareReferenceIdeal.τ).loc Cert.WInShareReferenceIdeal.main_v2) = v0
          ∧ r.2.mem (((0 : Dev Cert.WInShareReferenceIdeal.nD).tc : Thread Cert.WInShareReferenceIdeal.nD Cert.WInShareReferenceIdeal.τ).loc Cert.WInShareReferenceIdeal.main_arg0) = m' (((0 : Dev Cert.WInShareReferenceIdeal.nD).tc : Thread Cert.WInShareReferenceIdeal.nD Cert.WInShareReferenceIdeal.τ).loc Cert.WInShareReferenceIdeal.main_arg0))

def preserves_WOutShare_WOutShareIdeal : Prop :=
  True

def algebraic_WOutShareIdeal_WOutShareReferenceIdeal [hWOutShareIdeal : Cert.WOutShareIdeal.Facts] [hWOutShareReferenceIdeal : Cert.WOutShareReferenceIdeal.Facts] : Prop :=
  ∀ (m : (ℓ : Loc Cert.WOutShareIdeal.nD Cert.WOutShareIdeal.τ Cert.WOutShareIdeal.sig) → Buf (Elt Ideal) ℓ) (g : Dev Cert.WOutShareIdeal.nD → PrngReg)
    (m' : (ℓ : Loc Cert.WOutShareReferenceIdeal.nD Cert.WOutShareReferenceIdeal.τ Cert.WOutShareReferenceIdeal.sig) → Buf (Elt Ideal) ℓ) (g' : Dev Cert.WOutShareReferenceIdeal.nD → PrngReg), Pre_WOutShareIdeal m →
    (∀ c : Dev Cert.WOutShareIdeal.nD,
      m ((c.tc : Thread Cert.WOutShareIdeal.nD Cert.WOutShareIdeal.τ).loc Cert.WOutShareIdeal.main_arg0) = Layout.block ⟨2, ![256, 2048]⟩ ⟨2, ![2048, 2048]⟩ 0 8 c (m' (((0 : Dev Cert.WOutShareReferenceIdeal.nD).tc : Thread Cert.WOutShareReferenceIdeal.nD Cert.WOutShareReferenceIdeal.τ).loc Cert.WOutShareReferenceIdeal.main_arg0))) →
    ∃ (v0 : Buf (Elt Ideal) (((0 : Dev Cert.WOutShareReferenceIdeal.nD).tc : Thread Cert.WOutShareReferenceIdeal.nD Cert.WOutShareReferenceIdeal.τ).loc Cert.WOutShareReferenceIdeal.main_v2)),
      θ_run (Cert.WOutShareIdeal.defs (F := Ideal)) (onTc (τ := Cert.WOutShareIdeal.τ) (Cert.WOutShareIdeal.main (F := Ideal))) ⟨m, fun _ => 0, g⟩ (fun r => ∀ c : Dev Cert.WOutShareIdeal.nD,
          r.2.mem ((c.tc : Thread Cert.WOutShareIdeal.nD Cert.WOutShareIdeal.τ).loc Cert.WOutShareIdeal.main_v6) = Layout.block ⟨3, ![2, 256, 2048]⟩ ⟨3, ![16, 256, 2048]⟩ 0 8 c v0
          ∧ r.2.mem ((c.tc : Thread Cert.WOutShareIdeal.nD Cert.WOutShareIdeal.τ).loc Cert.WOutShareIdeal.main_arg0) = m ((c.tc : Thread Cert.WOutShareIdeal.nD Cert.WOutShareIdeal.τ).loc Cert.WOutShareIdeal.main_arg0))
      ∧ θ_run (Cert.WOutShareReferenceIdeal.defs (F := Ideal)) (onTc (τ := Cert.WOutShareReferenceIdeal.τ) (Cert.WOutShareReferenceIdeal.main (F := Ideal))) ⟨m', fun _ => 0, g'⟩ (fun r =>
          r.2.mem (((0 : Dev Cert.WOutShareReferenceIdeal.nD).tc : Thread Cert.WOutShareReferenceIdeal.nD Cert.WOutShareReferenceIdeal.τ).loc Cert.WOutShareReferenceIdeal.main_v2) = v0
          ∧ r.2.mem (((0 : Dev Cert.WOutShareReferenceIdeal.nD).tc : Thread Cert.WOutShareReferenceIdeal.nD Cert.WOutShareReferenceIdeal.τ).loc Cert.WOutShareReferenceIdeal.main_arg0) = m' (((0 : Dev Cert.WOutShareReferenceIdeal.nD).tc : Thread Cert.WOutShareReferenceIdeal.nD Cert.WOutShareReferenceIdeal.τ).loc Cert.WOutShareReferenceIdeal.main_arg0))

def preserves_RepStep_RepStepIdeal : Prop :=
  True

def algebraic_RepStepIdeal_RepStepReferenceIdeal [hRepStepIdeal : Cert.RepStepIdeal.Facts] [hRepStepReferenceIdeal : Cert.RepStepReferenceIdeal.Facts] : Prop :=
  ∀ (m : (ℓ : Loc Cert.RepStepIdeal.nD Cert.RepStepIdeal.τ Cert.RepStepIdeal.sig) → Buf (Elt Ideal) ℓ) (g : Dev Cert.RepStepIdeal.nD → PrngReg)
    (m' : (ℓ : Loc Cert.RepStepReferenceIdeal.nD Cert.RepStepReferenceIdeal.τ Cert.RepStepReferenceIdeal.sig) → Buf (Elt Ideal) ℓ) (g' : Dev Cert.RepStepReferenceIdeal.nD → PrngReg), Pre_RepStepIdeal m →
    (∀ c : Dev Cert.RepStepIdeal.nD,
      m' ((c.tc : Thread Cert.RepStepReferenceIdeal.nD Cert.RepStepReferenceIdeal.τ).loc Cert.RepStepReferenceIdeal.main_arg0) = m ((c.tc : Thread Cert.RepStepIdeal.nD Cert.RepStepIdeal.τ).loc Cert.RepStepIdeal.main_arg0)
      ∧ m' ((c.tc : Thread Cert.RepStepReferenceIdeal.nD Cert.RepStepReferenceIdeal.τ).loc Cert.RepStepReferenceIdeal.main_arg1) = m ((c.tc : Thread Cert.RepStepIdeal.nD Cert.RepStepIdeal.τ).loc Cert.RepStepIdeal.main_arg1)
      ∧ m' ((c.tc : Thread Cert.RepStepReferenceIdeal.nD Cert.RepStepReferenceIdeal.τ).loc Cert.RepStepReferenceIdeal.main_arg2) = m ((c.tc : Thread Cert.RepStepIdeal.nD Cert.RepStepIdeal.τ).loc Cert.RepStepIdeal.main_arg2)
      ∧ m' ((c.tc : Thread Cert.RepStepReferenceIdeal.nD Cert.RepStepReferenceIdeal.τ).loc Cert.RepStepReferenceIdeal.main_arg3) = m ((c.tc : Thread Cert.RepStepIdeal.nD Cert.RepStepIdeal.τ).loc Cert.RepStepIdeal.main_arg3)) →
    ∃ (v0 : (c : Dev Cert.RepStepIdeal.nD) → Buf (Elt Ideal) ((c.tc : Thread Cert.RepStepIdeal.nD Cert.RepStepIdeal.τ).loc Cert.RepStepIdeal.main_v0_0)) (v1 : (c : Dev Cert.RepStepIdeal.nD) → Buf (Elt Ideal) ((c.tc : Thread Cert.RepStepIdeal.nD Cert.RepStepIdeal.τ).loc Cert.RepStepIdeal.main_v0_1)) (v2 : (c : Dev Cert.RepStepIdeal.nD) → Buf (Elt Ideal) ((c.tc : Thread Cert.RepStepIdeal.nD Cert.RepStepIdeal.τ).loc Cert.RepStepIdeal.main_v0_2)) (v3 : (c : Dev Cert.RepStepIdeal.nD) → Buf (Elt Ideal) ((c.tc : Thread Cert.RepStepIdeal.nD Cert.RepStepIdeal.τ).loc Cert.RepStepIdeal.main_v0_3)),
      θ_run (Cert.RepStepIdeal.defs (F := Ideal)) (onTc (τ := Cert.RepStepIdeal.τ) (Cert.RepStepIdeal.main (F := Ideal))) ⟨m, fun _ => 0, g⟩ (fun r => ∀ c : Dev Cert.RepStepIdeal.nD,
          r.2.mem ((c.tc : Thread Cert.RepStepIdeal.nD Cert.RepStepIdeal.τ).loc Cert.RepStepIdeal.main_v0_0) = v0 c
          ∧ r.2.mem ((c.tc : Thread Cert.RepStepIdeal.nD Cert.RepStepIdeal.τ).loc Cert.RepStepIdeal.main_v0_1) = v1 c
          ∧ r.2.mem ((c.tc : Thread Cert.RepStepIdeal.nD Cert.RepStepIdeal.τ).loc Cert.RepStepIdeal.main_v0_2) = v2 c
          ∧ r.2.mem ((c.tc : Thread Cert.RepStepIdeal.nD Cert.RepStepIdeal.τ).loc Cert.RepStepIdeal.main_v0_3) = v3 c
          ∧ r.2.mem ((c.tc : Thread Cert.RepStepIdeal.nD Cert.RepStepIdeal.τ).loc Cert.RepStepIdeal.main_arg0) = m ((c.tc : Thread Cert.RepStepIdeal.nD Cert.RepStepIdeal.τ).loc Cert.RepStepIdeal.main_arg0)
          ∧ r.2.mem ((c.tc : Thread Cert.RepStepIdeal.nD Cert.RepStepIdeal.τ).loc Cert.RepStepIdeal.main_arg1) = m ((c.tc : Thread Cert.RepStepIdeal.nD Cert.RepStepIdeal.τ).loc Cert.RepStepIdeal.main_arg1)
          ∧ r.2.mem ((c.tc : Thread Cert.RepStepIdeal.nD Cert.RepStepIdeal.τ).loc Cert.RepStepIdeal.main_arg2) = m ((c.tc : Thread Cert.RepStepIdeal.nD Cert.RepStepIdeal.τ).loc Cert.RepStepIdeal.main_arg2)
          ∧ r.2.mem ((c.tc : Thread Cert.RepStepIdeal.nD Cert.RepStepIdeal.τ).loc Cert.RepStepIdeal.main_arg3) = m ((c.tc : Thread Cert.RepStepIdeal.nD Cert.RepStepIdeal.τ).loc Cert.RepStepIdeal.main_arg3))
      ∧ θ_run (Cert.RepStepReferenceIdeal.defs (F := Ideal)) (onTc (τ := Cert.RepStepReferenceIdeal.τ) (Cert.RepStepReferenceIdeal.main (F := Ideal))) ⟨m', fun _ => 0, g'⟩ (fun r => ∀ c : Dev Cert.RepStepReferenceIdeal.nD,
          r.2.mem ((c.tc : Thread Cert.RepStepReferenceIdeal.nD Cert.RepStepReferenceIdeal.τ).loc Cert.RepStepReferenceIdeal.main_v22) = v0 c
          ∧ r.2.mem ((c.tc : Thread Cert.RepStepReferenceIdeal.nD Cert.RepStepReferenceIdeal.τ).loc Cert.RepStepReferenceIdeal.main_v46) = v1 c
          ∧ r.2.mem ((c.tc : Thread Cert.RepStepReferenceIdeal.nD Cert.RepStepReferenceIdeal.τ).loc Cert.RepStepReferenceIdeal.main_v27) = v2 c
          ∧ r.2.mem ((c.tc : Thread Cert.RepStepReferenceIdeal.nD Cert.RepStepReferenceIdeal.τ).loc Cert.RepStepReferenceIdeal.main_v33) = v3 c
          ∧ r.2.mem ((c.tc : Thread Cert.RepStepReferenceIdeal.nD Cert.RepStepReferenceIdeal.τ).loc Cert.RepStepReferenceIdeal.main_arg0) = m' ((c.tc : Thread Cert.RepStepReferenceIdeal.nD Cert.RepStepReferenceIdeal.τ).loc Cert.RepStepReferenceIdeal.main_arg0)
          ∧ r.2.mem ((c.tc : Thread Cert.RepStepReferenceIdeal.nD Cert.RepStepReferenceIdeal.τ).loc Cert.RepStepReferenceIdeal.main_arg1) = m' ((c.tc : Thread Cert.RepStepReferenceIdeal.nD Cert.RepStepReferenceIdeal.τ).loc Cert.RepStepReferenceIdeal.main_arg1)
          ∧ r.2.mem ((c.tc : Thread Cert.RepStepReferenceIdeal.nD Cert.RepStepReferenceIdeal.τ).loc Cert.RepStepReferenceIdeal.main_arg2) = m' ((c.tc : Thread Cert.RepStepReferenceIdeal.nD Cert.RepStepReferenceIdeal.τ).loc Cert.RepStepReferenceIdeal.main_arg2)
          ∧ r.2.mem ((c.tc : Thread Cert.RepStepReferenceIdeal.nD Cert.RepStepReferenceIdeal.τ).loc Cert.RepStepReferenceIdeal.main_arg3) = m' ((c.tc : Thread Cert.RepStepReferenceIdeal.nD Cert.RepStepReferenceIdeal.τ).loc Cert.RepStepReferenceIdeal.main_arg3))

def preserves_SmallStep_SmallStepIdeal : Prop :=
  True

def algebraic_SmallStepIdeal_SmallStepReferenceIdeal [hSmallStepIdeal : Cert.SmallStepIdeal.Facts] [hSmallStepReferenceIdeal : Cert.SmallStepReferenceIdeal.Facts] : Prop :=
  ∀ (m : (ℓ : Loc Cert.SmallStepIdeal.nD Cert.SmallStepIdeal.τ Cert.SmallStepIdeal.sig) → Buf (Elt Ideal) ℓ) (g : Dev Cert.SmallStepIdeal.nD → PrngReg)
    (m' : (ℓ : Loc Cert.SmallStepReferenceIdeal.nD Cert.SmallStepReferenceIdeal.τ Cert.SmallStepReferenceIdeal.sig) → Buf (Elt Ideal) ℓ) (g' : Dev Cert.SmallStepReferenceIdeal.nD → PrngReg), Pre_SmallStepIdeal m →
    (∀ c : Dev Cert.SmallStepIdeal.nD,
      m' ((c.tc : Thread Cert.SmallStepReferenceIdeal.nD Cert.SmallStepReferenceIdeal.τ).loc Cert.SmallStepReferenceIdeal.main_arg0) = m ((c.tc : Thread Cert.SmallStepIdeal.nD Cert.SmallStepIdeal.τ).loc Cert.SmallStepIdeal.main_arg0)
      ∧ m' ((c.tc : Thread Cert.SmallStepReferenceIdeal.nD Cert.SmallStepReferenceIdeal.τ).loc Cert.SmallStepReferenceIdeal.main_arg1) = m ((c.tc : Thread Cert.SmallStepIdeal.nD Cert.SmallStepIdeal.τ).loc Cert.SmallStepIdeal.main_arg1)
      ∧ m' ((c.tc : Thread Cert.SmallStepReferenceIdeal.nD Cert.SmallStepReferenceIdeal.τ).loc Cert.SmallStepReferenceIdeal.main_arg2) = m ((c.tc : Thread Cert.SmallStepIdeal.nD Cert.SmallStepIdeal.τ).loc Cert.SmallStepIdeal.main_arg2)
      ∧ m' ((c.tc : Thread Cert.SmallStepReferenceIdeal.nD Cert.SmallStepReferenceIdeal.τ).loc Cert.SmallStepReferenceIdeal.main_arg3) = m ((c.tc : Thread Cert.SmallStepIdeal.nD Cert.SmallStepIdeal.τ).loc Cert.SmallStepIdeal.main_arg3)) →
    ∃ (v0 : (c : Dev Cert.SmallStepIdeal.nD) → Buf (Elt Ideal) ((c.tc : Thread Cert.SmallStepIdeal.nD Cert.SmallStepIdeal.τ).loc Cert.SmallStepIdeal.main_v0_0)) (v1 : (c : Dev Cert.SmallStepIdeal.nD) → Buf (Elt Ideal) ((c.tc : Thread Cert.SmallStepIdeal.nD Cert.SmallStepIdeal.τ).loc Cert.SmallStepIdeal.main_v0_1)) (v2 : (c : Dev Cert.SmallStepIdeal.nD) → Buf (Elt Ideal) ((c.tc : Thread Cert.SmallStepIdeal.nD Cert.SmallStepIdeal.τ).loc Cert.SmallStepIdeal.main_v0_2)) (v3 : (c : Dev Cert.SmallStepIdeal.nD) → Buf (Elt Ideal) ((c.tc : Thread Cert.SmallStepIdeal.nD Cert.SmallStepIdeal.τ).loc Cert.SmallStepIdeal.main_v0_3)),
      θ_run (Cert.SmallStepIdeal.defs (F := Ideal)) (onTc (τ := Cert.SmallStepIdeal.τ) (Cert.SmallStepIdeal.main (F := Ideal))) ⟨m, fun _ => 0, g⟩ (fun r => ∀ c : Dev Cert.SmallStepIdeal.nD,
          r.2.mem ((c.tc : Thread Cert.SmallStepIdeal.nD Cert.SmallStepIdeal.τ).loc Cert.SmallStepIdeal.main_v0_0) = v0 c
          ∧ r.2.mem ((c.tc : Thread Cert.SmallStepIdeal.nD Cert.SmallStepIdeal.τ).loc Cert.SmallStepIdeal.main_v0_1) = v1 c
          ∧ r.2.mem ((c.tc : Thread Cert.SmallStepIdeal.nD Cert.SmallStepIdeal.τ).loc Cert.SmallStepIdeal.main_v0_2) = v2 c
          ∧ r.2.mem ((c.tc : Thread Cert.SmallStepIdeal.nD Cert.SmallStepIdeal.τ).loc Cert.SmallStepIdeal.main_v0_3) = v3 c
          ∧ r.2.mem ((c.tc : Thread Cert.SmallStepIdeal.nD Cert.SmallStepIdeal.τ).loc Cert.SmallStepIdeal.main_arg0) = m ((c.tc : Thread Cert.SmallStepIdeal.nD Cert.SmallStepIdeal.τ).loc Cert.SmallStepIdeal.main_arg0)
          ∧ r.2.mem ((c.tc : Thread Cert.SmallStepIdeal.nD Cert.SmallStepIdeal.τ).loc Cert.SmallStepIdeal.main_arg1) = m ((c.tc : Thread Cert.SmallStepIdeal.nD Cert.SmallStepIdeal.τ).loc Cert.SmallStepIdeal.main_arg1)
          ∧ r.2.mem ((c.tc : Thread Cert.SmallStepIdeal.nD Cert.SmallStepIdeal.τ).loc Cert.SmallStepIdeal.main_arg2) = m ((c.tc : Thread Cert.SmallStepIdeal.nD Cert.SmallStepIdeal.τ).loc Cert.SmallStepIdeal.main_arg2)
          ∧ r.2.mem ((c.tc : Thread Cert.SmallStepIdeal.nD Cert.SmallStepIdeal.τ).loc Cert.SmallStepIdeal.main_arg3) = m ((c.tc : Thread Cert.SmallStepIdeal.nD Cert.SmallStepIdeal.τ).loc Cert.SmallStepIdeal.main_arg3))
      ∧ θ_run (Cert.SmallStepReferenceIdeal.defs (F := Ideal)) (onTc (τ := Cert.SmallStepReferenceIdeal.τ) (Cert.SmallStepReferenceIdeal.main (F := Ideal))) ⟨m', fun _ => 0, g'⟩ (fun r => ∀ c : Dev Cert.SmallStepReferenceIdeal.nD,
          r.2.mem ((c.tc : Thread Cert.SmallStepReferenceIdeal.nD Cert.SmallStepReferenceIdeal.τ).loc Cert.SmallStepReferenceIdeal.main_v0) = v0 c
          ∧ r.2.mem ((c.tc : Thread Cert.SmallStepReferenceIdeal.nD Cert.SmallStepReferenceIdeal.τ).loc Cert.SmallStepReferenceIdeal.main_v24) = v1 c
          ∧ r.2.mem ((c.tc : Thread Cert.SmallStepReferenceIdeal.nD Cert.SmallStepReferenceIdeal.τ).loc Cert.SmallStepReferenceIdeal.main_v5) = v2 c
          ∧ r.2.mem ((c.tc : Thread Cert.SmallStepReferenceIdeal.nD Cert.SmallStepReferenceIdeal.τ).loc Cert.SmallStepReferenceIdeal.main_v11) = v3 c
          ∧ r.2.mem ((c.tc : Thread Cert.SmallStepReferenceIdeal.nD Cert.SmallStepReferenceIdeal.τ).loc Cert.SmallStepReferenceIdeal.main_arg0) = m' ((c.tc : Thread Cert.SmallStepReferenceIdeal.nD Cert.SmallStepReferenceIdeal.τ).loc Cert.SmallStepReferenceIdeal.main_arg0)
          ∧ r.2.mem ((c.tc : Thread Cert.SmallStepReferenceIdeal.nD Cert.SmallStepReferenceIdeal.τ).loc Cert.SmallStepReferenceIdeal.main_arg1) = m' ((c.tc : Thread Cert.SmallStepReferenceIdeal.nD Cert.SmallStepReferenceIdeal.τ).loc Cert.SmallStepReferenceIdeal.main_arg1)
          ∧ r.2.mem ((c.tc : Thread Cert.SmallStepReferenceIdeal.nD Cert.SmallStepReferenceIdeal.τ).loc Cert.SmallStepReferenceIdeal.main_arg2) = m' ((c.tc : Thread Cert.SmallStepReferenceIdeal.nD Cert.SmallStepReferenceIdeal.τ).loc Cert.SmallStepReferenceIdeal.main_arg2)
          ∧ r.2.mem ((c.tc : Thread Cert.SmallStepReferenceIdeal.nD Cert.SmallStepReferenceIdeal.τ).loc Cert.SmallStepReferenceIdeal.main_arg3) = m' ((c.tc : Thread Cert.SmallStepReferenceIdeal.nD Cert.SmallStepReferenceIdeal.τ).loc Cert.SmallStepReferenceIdeal.main_arg3))

def preserves_WInStep_WInStepIdeal : Prop :=
  True

def algebraic_WInStepIdeal_WInStepReferenceIdeal [hWInStepIdeal : Cert.WInStepIdeal.Facts] [hWInStepReferenceIdeal : Cert.WInStepReferenceIdeal.Facts] : Prop :=
  ∀ (m : (ℓ : Loc Cert.WInStepIdeal.nD Cert.WInStepIdeal.τ Cert.WInStepIdeal.sig) → Buf (Elt Ideal) ℓ) (g : Dev Cert.WInStepIdeal.nD → PrngReg)
    (m' : (ℓ : Loc Cert.WInStepReferenceIdeal.nD Cert.WInStepReferenceIdeal.τ Cert.WInStepReferenceIdeal.sig) → Buf (Elt Ideal) ℓ) (g' : Dev Cert.WInStepReferenceIdeal.nD → PrngReg), Pre_WInStepIdeal m →
    (∀ c : Dev Cert.WInStepIdeal.nD,
      m' ((c.tc : Thread Cert.WInStepReferenceIdeal.nD Cert.WInStepReferenceIdeal.τ).loc Cert.WInStepReferenceIdeal.main_arg0) = m ((c.tc : Thread Cert.WInStepIdeal.nD Cert.WInStepIdeal.τ).loc Cert.WInStepIdeal.main_arg0)
      ∧ m' ((c.tc : Thread Cert.WInStepReferenceIdeal.nD Cert.WInStepReferenceIdeal.τ).loc Cert.WInStepReferenceIdeal.main_arg1) = m ((c.tc : Thread Cert.WInStepIdeal.nD Cert.WInStepIdeal.τ).loc Cert.WInStepIdeal.main_arg1)
      ∧ m' ((c.tc : Thread Cert.WInStepReferenceIdeal.nD Cert.WInStepReferenceIdeal.τ).loc Cert.WInStepReferenceIdeal.main_arg2) = m ((c.tc : Thread Cert.WInStepIdeal.nD Cert.WInStepIdeal.τ).loc Cert.WInStepIdeal.main_arg2)
      ∧ m' ((c.tc : Thread Cert.WInStepReferenceIdeal.nD Cert.WInStepReferenceIdeal.τ).loc Cert.WInStepReferenceIdeal.main_arg3) = m ((c.tc : Thread Cert.WInStepIdeal.nD Cert.WInStepIdeal.τ).loc Cert.WInStepIdeal.main_arg3)) →
    ∃ (v0 : (c : Dev Cert.WInStepIdeal.nD) → Buf (Elt Ideal) ((c.tc : Thread Cert.WInStepIdeal.nD Cert.WInStepIdeal.τ).loc Cert.WInStepIdeal.main_v0_0)) (v1 : (c : Dev Cert.WInStepIdeal.nD) → Buf (Elt Ideal) ((c.tc : Thread Cert.WInStepIdeal.nD Cert.WInStepIdeal.τ).loc Cert.WInStepIdeal.main_v0_1)) (v2 : (c : Dev Cert.WInStepIdeal.nD) → Buf (Elt Ideal) ((c.tc : Thread Cert.WInStepIdeal.nD Cert.WInStepIdeal.τ).loc Cert.WInStepIdeal.main_v0_2)) (v3 : (c : Dev Cert.WInStepIdeal.nD) → Buf (Elt Ideal) ((c.tc : Thread Cert.WInStepIdeal.nD Cert.WInStepIdeal.τ).loc Cert.WInStepIdeal.main_v0_3)),
      θ_run (Cert.WInStepIdeal.defs (F := Ideal)) (onTc (τ := Cert.WInStepIdeal.τ) (Cert.WInStepIdeal.main (F := Ideal))) ⟨m, fun _ => 0, g⟩ (fun r => ∀ c : Dev Cert.WInStepIdeal.nD,
          r.2.mem ((c.tc : Thread Cert.WInStepIdeal.nD Cert.WInStepIdeal.τ).loc Cert.WInStepIdeal.main_v0_0) = v0 c
          ∧ r.2.mem ((c.tc : Thread Cert.WInStepIdeal.nD Cert.WInStepIdeal.τ).loc Cert.WInStepIdeal.main_v0_1) = v1 c
          ∧ r.2.mem ((c.tc : Thread Cert.WInStepIdeal.nD Cert.WInStepIdeal.τ).loc Cert.WInStepIdeal.main_v0_2) = v2 c
          ∧ r.2.mem ((c.tc : Thread Cert.WInStepIdeal.nD Cert.WInStepIdeal.τ).loc Cert.WInStepIdeal.main_v0_3) = v3 c
          ∧ r.2.mem ((c.tc : Thread Cert.WInStepIdeal.nD Cert.WInStepIdeal.τ).loc Cert.WInStepIdeal.main_arg0) = m ((c.tc : Thread Cert.WInStepIdeal.nD Cert.WInStepIdeal.τ).loc Cert.WInStepIdeal.main_arg0)
          ∧ r.2.mem ((c.tc : Thread Cert.WInStepIdeal.nD Cert.WInStepIdeal.τ).loc Cert.WInStepIdeal.main_arg1) = m ((c.tc : Thread Cert.WInStepIdeal.nD Cert.WInStepIdeal.τ).loc Cert.WInStepIdeal.main_arg1)
          ∧ r.2.mem ((c.tc : Thread Cert.WInStepIdeal.nD Cert.WInStepIdeal.τ).loc Cert.WInStepIdeal.main_arg2) = m ((c.tc : Thread Cert.WInStepIdeal.nD Cert.WInStepIdeal.τ).loc Cert.WInStepIdeal.main_arg2)
          ∧ r.2.mem ((c.tc : Thread Cert.WInStepIdeal.nD Cert.WInStepIdeal.τ).loc Cert.WInStepIdeal.main_arg3) = m ((c.tc : Thread Cert.WInStepIdeal.nD Cert.WInStepIdeal.τ).loc Cert.WInStepIdeal.main_arg3))
      ∧ θ_run (Cert.WInStepReferenceIdeal.defs (F := Ideal)) (onTc (τ := Cert.WInStepReferenceIdeal.τ) (Cert.WInStepReferenceIdeal.main (F := Ideal))) ⟨m', fun _ => 0, g'⟩ (fun r => ∀ c : Dev Cert.WInStepReferenceIdeal.nD,
          r.2.mem ((c.tc : Thread Cert.WInStepReferenceIdeal.nD Cert.WInStepReferenceIdeal.τ).loc Cert.WInStepReferenceIdeal.main_v0) = v0 c
          ∧ r.2.mem ((c.tc : Thread Cert.WInStepReferenceIdeal.nD Cert.WInStepReferenceIdeal.τ).loc Cert.WInStepReferenceIdeal.main_v24) = v1 c
          ∧ r.2.mem ((c.tc : Thread Cert.WInStepReferenceIdeal.nD Cert.WInStepReferenceIdeal.τ).loc Cert.WInStepReferenceIdeal.main_v5) = v2 c
          ∧ r.2.mem ((c.tc : Thread Cert.WInStepReferenceIdeal.nD Cert.WInStepReferenceIdeal.τ).loc Cert.WInStepReferenceIdeal.main_v11) = v3 c
          ∧ r.2.mem ((c.tc : Thread Cert.WInStepReferenceIdeal.nD Cert.WInStepReferenceIdeal.τ).loc Cert.WInStepReferenceIdeal.main_arg0) = m' ((c.tc : Thread Cert.WInStepReferenceIdeal.nD Cert.WInStepReferenceIdeal.τ).loc Cert.WInStepReferenceIdeal.main_arg0)
          ∧ r.2.mem ((c.tc : Thread Cert.WInStepReferenceIdeal.nD Cert.WInStepReferenceIdeal.τ).loc Cert.WInStepReferenceIdeal.main_arg1) = m' ((c.tc : Thread Cert.WInStepReferenceIdeal.nD Cert.WInStepReferenceIdeal.τ).loc Cert.WInStepReferenceIdeal.main_arg1)
          ∧ r.2.mem ((c.tc : Thread Cert.WInStepReferenceIdeal.nD Cert.WInStepReferenceIdeal.τ).loc Cert.WInStepReferenceIdeal.main_arg2) = m' ((c.tc : Thread Cert.WInStepReferenceIdeal.nD Cert.WInStepReferenceIdeal.τ).loc Cert.WInStepReferenceIdeal.main_arg2)
          ∧ r.2.mem ((c.tc : Thread Cert.WInStepReferenceIdeal.nD Cert.WInStepReferenceIdeal.τ).loc Cert.WInStepReferenceIdeal.main_arg3) = m' ((c.tc : Thread Cert.WInStepReferenceIdeal.nD Cert.WInStepReferenceIdeal.τ).loc Cert.WInStepReferenceIdeal.main_arg3))

def preserves_WOutStep_WOutStepIdeal : Prop :=
  True

def algebraic_WOutStepIdeal_WOutStepReferenceIdeal [hWOutStepIdeal : Cert.WOutStepIdeal.Facts] [hWOutStepReferenceIdeal : Cert.WOutStepReferenceIdeal.Facts] : Prop :=
  ∀ (m : (ℓ : Loc Cert.WOutStepIdeal.nD Cert.WOutStepIdeal.τ Cert.WOutStepIdeal.sig) → Buf (Elt Ideal) ℓ) (g : Dev Cert.WOutStepIdeal.nD → PrngReg)
    (m' : (ℓ : Loc Cert.WOutStepReferenceIdeal.nD Cert.WOutStepReferenceIdeal.τ Cert.WOutStepReferenceIdeal.sig) → Buf (Elt Ideal) ℓ) (g' : Dev Cert.WOutStepReferenceIdeal.nD → PrngReg), Pre_WOutStepIdeal m →
    (∀ c : Dev Cert.WOutStepIdeal.nD,
      m' ((c.tc : Thread Cert.WOutStepReferenceIdeal.nD Cert.WOutStepReferenceIdeal.τ).loc Cert.WOutStepReferenceIdeal.main_arg0) = m ((c.tc : Thread Cert.WOutStepIdeal.nD Cert.WOutStepIdeal.τ).loc Cert.WOutStepIdeal.main_arg0)
      ∧ m' ((c.tc : Thread Cert.WOutStepReferenceIdeal.nD Cert.WOutStepReferenceIdeal.τ).loc Cert.WOutStepReferenceIdeal.main_arg1) = m ((c.tc : Thread Cert.WOutStepIdeal.nD Cert.WOutStepIdeal.τ).loc Cert.WOutStepIdeal.main_arg1)
      ∧ m' ((c.tc : Thread Cert.WOutStepReferenceIdeal.nD Cert.WOutStepReferenceIdeal.τ).loc Cert.WOutStepReferenceIdeal.main_arg2) = m ((c.tc : Thread Cert.WOutStepIdeal.nD Cert.WOutStepIdeal.τ).loc Cert.WOutStepIdeal.main_arg2)
      ∧ m' ((c.tc : Thread Cert.WOutStepReferenceIdeal.nD Cert.WOutStepReferenceIdeal.τ).loc Cert.WOutStepReferenceIdeal.main_arg3) = m ((c.tc : Thread Cert.WOutStepIdeal.nD Cert.WOutStepIdeal.τ).loc Cert.WOutStepIdeal.main_arg3)) →
    ∃ (v0 : (c : Dev Cert.WOutStepIdeal.nD) → Buf (Elt Ideal) ((c.tc : Thread Cert.WOutStepIdeal.nD Cert.WOutStepIdeal.τ).loc Cert.WOutStepIdeal.main_v0_0)) (v1 : (c : Dev Cert.WOutStepIdeal.nD) → Buf (Elt Ideal) ((c.tc : Thread Cert.WOutStepIdeal.nD Cert.WOutStepIdeal.τ).loc Cert.WOutStepIdeal.main_v0_1)) (v2 : (c : Dev Cert.WOutStepIdeal.nD) → Buf (Elt Ideal) ((c.tc : Thread Cert.WOutStepIdeal.nD Cert.WOutStepIdeal.τ).loc Cert.WOutStepIdeal.main_v0_2)) (v3 : (c : Dev Cert.WOutStepIdeal.nD) → Buf (Elt Ideal) ((c.tc : Thread Cert.WOutStepIdeal.nD Cert.WOutStepIdeal.τ).loc Cert.WOutStepIdeal.main_v0_3)),
      θ_run (Cert.WOutStepIdeal.defs (F := Ideal)) (onTc (τ := Cert.WOutStepIdeal.τ) (Cert.WOutStepIdeal.main (F := Ideal))) ⟨m, fun _ => 0, g⟩ (fun r => ∀ c : Dev Cert.WOutStepIdeal.nD,
          r.2.mem ((c.tc : Thread Cert.WOutStepIdeal.nD Cert.WOutStepIdeal.τ).loc Cert.WOutStepIdeal.main_v0_0) = v0 c
          ∧ r.2.mem ((c.tc : Thread Cert.WOutStepIdeal.nD Cert.WOutStepIdeal.τ).loc Cert.WOutStepIdeal.main_v0_1) = v1 c
          ∧ r.2.mem ((c.tc : Thread Cert.WOutStepIdeal.nD Cert.WOutStepIdeal.τ).loc Cert.WOutStepIdeal.main_v0_2) = v2 c
          ∧ r.2.mem ((c.tc : Thread Cert.WOutStepIdeal.nD Cert.WOutStepIdeal.τ).loc Cert.WOutStepIdeal.main_v0_3) = v3 c
          ∧ r.2.mem ((c.tc : Thread Cert.WOutStepIdeal.nD Cert.WOutStepIdeal.τ).loc Cert.WOutStepIdeal.main_arg0) = m ((c.tc : Thread Cert.WOutStepIdeal.nD Cert.WOutStepIdeal.τ).loc Cert.WOutStepIdeal.main_arg0)
          ∧ r.2.mem ((c.tc : Thread Cert.WOutStepIdeal.nD Cert.WOutStepIdeal.τ).loc Cert.WOutStepIdeal.main_arg1) = m ((c.tc : Thread Cert.WOutStepIdeal.nD Cert.WOutStepIdeal.τ).loc Cert.WOutStepIdeal.main_arg1)
          ∧ r.2.mem ((c.tc : Thread Cert.WOutStepIdeal.nD Cert.WOutStepIdeal.τ).loc Cert.WOutStepIdeal.main_arg2) = m ((c.tc : Thread Cert.WOutStepIdeal.nD Cert.WOutStepIdeal.τ).loc Cert.WOutStepIdeal.main_arg2)
          ∧ r.2.mem ((c.tc : Thread Cert.WOutStepIdeal.nD Cert.WOutStepIdeal.τ).loc Cert.WOutStepIdeal.main_arg3) = m ((c.tc : Thread Cert.WOutStepIdeal.nD Cert.WOutStepIdeal.τ).loc Cert.WOutStepIdeal.main_arg3))
      ∧ θ_run (Cert.WOutStepReferenceIdeal.defs (F := Ideal)) (onTc (τ := Cert.WOutStepReferenceIdeal.τ) (Cert.WOutStepReferenceIdeal.main (F := Ideal))) ⟨m', fun _ => 0, g'⟩ (fun r => ∀ c : Dev Cert.WOutStepReferenceIdeal.nD,
          r.2.mem ((c.tc : Thread Cert.WOutStepReferenceIdeal.nD Cert.WOutStepReferenceIdeal.τ).loc Cert.WOutStepReferenceIdeal.main_v0) = v0 c
          ∧ r.2.mem ((c.tc : Thread Cert.WOutStepReferenceIdeal.nD Cert.WOutStepReferenceIdeal.τ).loc Cert.WOutStepReferenceIdeal.main_v24) = v1 c
          ∧ r.2.mem ((c.tc : Thread Cert.WOutStepReferenceIdeal.nD Cert.WOutStepReferenceIdeal.τ).loc Cert.WOutStepReferenceIdeal.main_v5) = v2 c
          ∧ r.2.mem ((c.tc : Thread Cert.WOutStepReferenceIdeal.nD Cert.WOutStepReferenceIdeal.τ).loc Cert.WOutStepReferenceIdeal.main_v11) = v3 c
          ∧ r.2.mem ((c.tc : Thread Cert.WOutStepReferenceIdeal.nD Cert.WOutStepReferenceIdeal.τ).loc Cert.WOutStepReferenceIdeal.main_arg0) = m' ((c.tc : Thread Cert.WOutStepReferenceIdeal.nD Cert.WOutStepReferenceIdeal.τ).loc Cert.WOutStepReferenceIdeal.main_arg0)
          ∧ r.2.mem ((c.tc : Thread Cert.WOutStepReferenceIdeal.nD Cert.WOutStepReferenceIdeal.τ).loc Cert.WOutStepReferenceIdeal.main_arg1) = m' ((c.tc : Thread Cert.WOutStepReferenceIdeal.nD Cert.WOutStepReferenceIdeal.τ).loc Cert.WOutStepReferenceIdeal.main_arg1)
          ∧ r.2.mem ((c.tc : Thread Cert.WOutStepReferenceIdeal.nD Cert.WOutStepReferenceIdeal.τ).loc Cert.WOutStepReferenceIdeal.main_arg2) = m' ((c.tc : Thread Cert.WOutStepReferenceIdeal.nD Cert.WOutStepReferenceIdeal.τ).loc Cert.WOutStepReferenceIdeal.main_arg2)
          ∧ r.2.mem ((c.tc : Thread Cert.WOutStepReferenceIdeal.nD Cert.WOutStepReferenceIdeal.τ).loc Cert.WOutStepReferenceIdeal.main_arg3) = m' ((c.tc : Thread Cert.WOutStepReferenceIdeal.nD Cert.WOutStepReferenceIdeal.τ).loc Cert.WOutStepReferenceIdeal.main_arg3))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)
      ∧ m' ((c.tc : Thread Cert.GradXReferenceIdeal.nD Cert.GradXReferenceIdeal.τ).loc Cert.GradXReferenceIdeal.main_arg2) = m ((c.tc : Thread Cert.GradXIdeal.nD Cert.GradXIdeal.τ).loc Cert.GradXIdeal.main_arg2)
      ∧ m' ((c.tc : Thread Cert.GradXReferenceIdeal.nD Cert.GradXReferenceIdeal.τ).loc Cert.GradXReferenceIdeal.main_arg3) = m ((c.tc : Thread Cert.GradXIdeal.nD Cert.GradXIdeal.τ).loc Cert.GradXIdeal.main_arg3)) →
    ∃ (v0 : (c : Dev Cert.GradXIdeal.nD) → Buf (Elt Ideal) ((c.tc : Thread Cert.GradXIdeal.nD Cert.GradXIdeal.τ).loc Cert.GradXIdeal.main_v0_0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v34) = v0 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2)
          ∧ r.2.mem ((c.tc : Thread Cert.GradXReferenceIdeal.nD Cert.GradXReferenceIdeal.τ).loc Cert.GradXReferenceIdeal.main_arg3) = m' ((c.tc : Thread Cert.GradXReferenceIdeal.nD Cert.GradXReferenceIdeal.τ).loc Cert.GradXReferenceIdeal.main_arg3))

def preserves_WInSum_WInSumIdeal : Prop :=
  True

def algebraic_WInSumIdeal_WInSumReferenceIdeal [hWInSumIdeal : Cert.WInSumIdeal.Facts] [hWInSumReferenceIdeal : Cert.WInSumReferenceIdeal.Facts] : Prop :=
  ∀ (m : (ℓ : Loc Cert.WInSumIdeal.nD Cert.WInSumIdeal.τ Cert.WInSumIdeal.sig) → Buf (Elt Ideal) ℓ) (g : Dev Cert.WInSumIdeal.nD → PrngReg)
    (m' : (ℓ : Loc Cert.WInSumReferenceIdeal.nD Cert.WInSumReferenceIdeal.τ Cert.WInSumReferenceIdeal.sig) → Buf (Elt Ideal) ℓ) (g' : Dev Cert.WInSumReferenceIdeal.nD → PrngReg), Pre_WInSumIdeal m →
    (∀ c : Dev Cert.WInSumIdeal.nD,
      m' ((c.tc : Thread Cert.WInSumReferenceIdeal.nD Cert.WInSumReferenceIdeal.τ).loc Cert.WInSumReferenceIdeal.main_arg0) = m ((c.tc : Thread Cert.WInSumIdeal.nD Cert.WInSumIdeal.τ).loc Cert.WInSumIdeal.main_arg0)) →
    ∃ (v0 : (c : Dev Cert.WInSumIdeal.nD) → Buf (Elt Ideal) ((c.tc : Thread Cert.WInSumIdeal.nD Cert.WInSumIdeal.τ).loc Cert.WInSumIdeal.main_v0)),
      θ_run (Cert.WInSumIdeal.defs (F := Ideal)) (onTc (τ := Cert.WInSumIdeal.τ) (Cert.WInSumIdeal.main (F := Ideal))) ⟨m, fun _ => 0, g⟩ (fun r => ∀ c : Dev Cert.WInSumIdeal.nD,
          r.2.mem ((c.tc : Thread Cert.WInSumIdeal.nD Cert.WInSumIdeal.τ).loc Cert.WInSumIdeal.main_v0) = v0 c
          ∧ r.2.mem ((c.tc : Thread Cert.WInSumIdeal.nD Cert.WInSumIdeal.τ).loc Cert.WInSumIdeal.main_arg0) = m ((c.tc : Thread Cert.WInSumIdeal.nD Cert.WInSumIdeal.τ).loc Cert.WInSumIdeal.main_arg0))
      ∧ θ_run (Cert.WInSumReferenceIdeal.defs (F := Ideal)) (onTc (τ := Cert.WInSumReferenceIdeal.τ) (Cert.WInSumReferenceIdeal.main (F := Ideal))) ⟨m', fun _ => 0, g'⟩ (fun r => ∀ c : Dev Cert.WInSumReferenceIdeal.nD,
          r.2.mem ((c.tc : Thread Cert.WInSumReferenceIdeal.nD Cert.WInSumReferenceIdeal.τ).loc Cert.WInSumReferenceIdeal.main_v1) = v0 c
          ∧ r.2.mem ((c.tc : Thread Cert.WInSumReferenceIdeal.nD Cert.WInSumReferenceIdeal.τ).loc Cert.WInSumReferenceIdeal.main_arg0) = m' ((c.tc : Thread Cert.WInSumReferenceIdeal.nD Cert.WInSumReferenceIdeal.τ).loc Cert.WInSumReferenceIdeal.main_arg0))

def preserves_WOutSum_WOutSumIdeal : Prop :=
  True

def algebraic_WOutSumIdeal_WOutSumReferenceIdeal [hWOutSumIdeal : Cert.WOutSumIdeal.Facts] [hWOutSumReferenceIdeal : Cert.WOutSumReferenceIdeal.Facts] : Prop :=
  ∀ (m : (ℓ : Loc Cert.WOutSumIdeal.nD Cert.WOutSumIdeal.τ Cert.WOutSumIdeal.sig) → Buf (Elt Ideal) ℓ) (g : Dev Cert.WOutSumIdeal.nD → PrngReg)
    (m' : (ℓ : Loc Cert.WOutSumReferenceIdeal.nD Cert.WOutSumReferenceIdeal.τ Cert.WOutSumReferenceIdeal.sig) → Buf (Elt Ideal) ℓ) (g' : Dev Cert.WOutSumReferenceIdeal.nD → PrngReg), Pre_WOutSumIdeal m →
    (∀ c : Dev Cert.WOutSumIdeal.nD,
      m' ((c.tc : Thread Cert.WOutSumReferenceIdeal.nD Cert.WOutSumReferenceIdeal.τ).loc Cert.WOutSumReferenceIdeal.main_arg0) = m ((c.tc : Thread Cert.WOutSumIdeal.nD Cert.WOutSumIdeal.τ).loc Cert.WOutSumIdeal.main_arg0)) →
    ∃ (v0 : (c : Dev Cert.WOutSumIdeal.nD) → Buf (Elt Ideal) ((c.tc : Thread Cert.WOutSumIdeal.nD Cert.WOutSumIdeal.τ).loc Cert.WOutSumIdeal.main_v0)),
      θ_run (Cert.WOutSumIdeal.defs (F := Ideal)) (onTc (τ := Cert.WOutSumIdeal.τ) (Cert.WOutSumIdeal.main (F := Ideal))) ⟨m, fun _ => 0, g⟩ (fun r => ∀ c : Dev Cert.WOutSumIdeal.nD,
          r.2.mem ((c.tc : Thread Cert.WOutSumIdeal.nD Cert.WOutSumIdeal.τ).loc Cert.WOutSumIdeal.main_v0) = v0 c
          ∧ r.2.mem ((c.tc : Thread Cert.WOutSumIdeal.nD Cert.WOutSumIdeal.τ).loc Cert.WOutSumIdeal.main_arg0) = m ((c.tc : Thread Cert.WOutSumIdeal.nD Cert.WOutSumIdeal.τ).loc Cert.WOutSumIdeal.main_arg0))
      ∧ θ_run (Cert.WOutSumReferenceIdeal.defs (F := Ideal)) (onTc (τ := Cert.WOutSumReferenceIdeal.τ) (Cert.WOutSumReferenceIdeal.main (F := Ideal))) ⟨m', fun _ => 0, g'⟩ (fun r => ∀ c : Dev Cert.WOutSumReferenceIdeal.nD,
          r.2.mem ((c.tc : Thread Cert.WOutSumReferenceIdeal.nD Cert.WOutSumReferenceIdeal.τ).loc Cert.WOutSumReferenceIdeal.main_v1) = v0 c
          ∧ r.2.mem ((c.tc : Thread Cert.WOutSumReferenceIdeal.nD Cert.WOutSumReferenceIdeal.τ).loc Cert.WOutSumReferenceIdeal.main_arg0) = m' ((c.tc : Thread Cert.WOutSumReferenceIdeal.nD Cert.WOutSumReferenceIdeal.τ).loc Cert.WOutSumReferenceIdeal.main_arg0))

def preserves_SmallSum_SmallSumIdeal : Prop :=
  True

def algebraic_SmallSumIdeal_SmallSumReferenceIdeal [hSmallSumIdeal : Cert.SmallSumIdeal.Facts] [hSmallSumReferenceIdeal : Cert.SmallSumReferenceIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumReferenceIdeal.nD Cert.SmallSumReferenceIdeal.τ Cert.SmallSumReferenceIdeal.sig) → Buf (Elt Ideal) ℓ) (g' : Dev Cert.SmallSumReferenceIdeal.nD → PrngReg), Pre_SmallSumIdeal m →
    (∀ c : Dev Cert.SmallSumIdeal.nD,
      m' ((c.tc : Thread Cert.SmallSumReferenceIdeal.nD Cert.SmallSumReferenceIdeal.τ).loc Cert.SmallSumReferenceIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumReferenceIdeal.defs (F := Ideal)) (onTc (τ := Cert.SmallSumReferenceIdeal.τ) (Cert.SmallSumReferenceIdeal.main (F := Ideal))) ⟨m', fun _ => 0, g'⟩ (fun r => ∀ c : Dev Cert.SmallSumReferenceIdeal.nD,
          r.2.mem ((c.tc : Thread Cert.SmallSumReferenceIdeal.nD Cert.SmallSumReferenceIdeal.τ).loc Cert.SmallSumReferenceIdeal.main_v1) = v0 c
          ∧ r.2.mem ((c.tc : Thread Cert.SmallSumReferenceIdeal.nD Cert.SmallSumReferenceIdeal.τ).loc Cert.SmallSumReferenceIdeal.main_arg0) = m' ((c.tc : Thread Cert.SmallSumReferenceIdeal.nD Cert.SmallSumReferenceIdeal.τ).loc Cert.SmallSumReferenceIdeal.main_arg0))

def preserves_WOutAdd_WOutAddIdeal : Prop :=
  True

def algebraic_WOutAddIdeal_WOutAddReferenceIdeal [hWOutAddIdeal : Cert.WOutAddIdeal.Facts] [hWOutAddReferenceIdeal : Cert.WOutAddReferenceIdeal.Facts] : Prop :=
  ∀ (m : (ℓ : Loc Cert.WOutAddIdeal.nD Cert.WOutAddIdeal.τ Cert.WOutAddIdeal.sig) → Buf (Elt Ideal) ℓ) (g : Dev Cert.WOutAddIdeal.nD → PrngReg)
    (m' : (ℓ : Loc Cert.WOutAddReferenceIdeal.nD Cert.WOutAddReferenceIdeal.τ Cert.WOutAddReferenceIdeal.sig) → Buf (Elt Ideal) ℓ) (g' : Dev Cert.WOutAddReferenceIdeal.nD → PrngReg), Pre_WOutAddIdeal m →
    (∀ c : Dev Cert.WOutAddIdeal.nD,
      m' ((c.tc : Thread Cert.WOutAddReferenceIdeal.nD Cert.WOutAddReferenceIdeal.τ).loc Cert.WOutAddReferenceIdeal.main_arg0) = m ((c.tc : Thread Cert.WOutAddIdeal.nD Cert.WOutAddIdeal.τ).loc Cert.WOutAddIdeal.main_arg0)
      ∧ m' ((c.tc : Thread Cert.WOutAddReferenceIdeal.nD Cert.WOutAddReferenceIdeal.τ).loc Cert.WOutAddReferenceIdeal.main_arg1) = m ((c.tc : Thread Cert.WOutAddIdeal.nD Cert.WOutAddIdeal.τ).loc Cert.WOutAddIdeal.main_arg1)) →
    ∃ (v0 : (c : Dev Cert.WOutAddIdeal.nD) → Buf (Elt Ideal) ((c.tc : Thread Cert.WOutAddIdeal.nD Cert.WOutAddIdeal.τ).loc Cert.WOutAddIdeal.main_v0)),
      θ_run (Cert.WOutAddIdeal.defs (F := Ideal)) (onTc (τ := Cert.WOutAddIdeal.τ) (Cert.WOutAddIdeal.main (F := Ideal))) ⟨m, fun _ => 0, g⟩ (fun r => ∀ c : Dev Cert.WOutAddIdeal.nD,
          r.2.mem ((c.tc : Thread Cert.WOutAddIdeal.nD Cert.WOutAddIdeal.τ).loc Cert.WOutAddIdeal.main_v0) = v0 c
          ∧ r.2.mem ((c.tc : Thread Cert.WOutAddIdeal.nD Cert.WOutAddIdeal.τ).loc Cert.WOutAddIdeal.main_arg0) = m ((c.tc : Thread Cert.WOutAddIdeal.nD Cert.WOutAddIdeal.τ).loc Cert.WOutAddIdeal.main_arg0)
          ∧ r.2.mem ((c.tc : Thread Cert.WOutAddIdeal.nD Cert.WOutAddIdeal.τ).loc Cert.WOutAddIdeal.main_arg1) = m ((c.tc : Thread Cert.WOutAddIdeal.nD Cert.WOutAddIdeal.τ).loc Cert.WOutAddIdeal.main_arg1))
      ∧ θ_run (Cert.WOutAddReferenceIdeal.defs (F := Ideal)) (onTc (τ := Cert.WOutAddReferenceIdeal.τ) (Cert.WOutAddReferenceIdeal.main (F := Ideal))) ⟨m', fun _ => 0, g'⟩ (fun r => ∀ c : Dev Cert.WOutAddReferenceIdeal.nD,
          r.2.mem ((c.tc : Thread Cert.WOutAddReferenceIdeal.nD Cert.WOutAddReferenceIdeal.τ).loc Cert.WOutAddReferenceIdeal.main_v1) = v0 c
          ∧ r.2.mem ((c.tc : Thread Cert.WOutAddReferenceIdeal.nD Cert.WOutAddReferenceIdeal.τ).loc Cert.WOutAddReferenceIdeal.main_arg0) = m' ((c.tc : Thread Cert.WOutAddReferenceIdeal.nD Cert.WOutAddReferenceIdeal.τ).loc Cert.WOutAddReferenceIdeal.main_arg0)
          ∧ r.2.mem ((c.tc : Thread Cert.WOutAddReferenceIdeal.nD Cert.WOutAddReferenceIdeal.τ).loc Cert.WOutAddReferenceIdeal.main_arg1) = m' ((c.tc : Thread Cert.WOutAddReferenceIdeal.nD Cert.WOutAddReferenceIdeal.τ).loc Cert.WOutAddReferenceIdeal.main_arg1))

def preserves_SmallAdd_SmallAddIdeal : Prop :=
  True

def algebraic_SmallAddIdeal_SmallAddReferenceIdeal [hSmallAddIdeal : Cert.SmallAddIdeal.Facts] [hSmallAddReferenceIdeal : Cert.SmallAddReferenceIdeal.Facts] : Prop :=
  ∀ (m : (ℓ : Loc Cert.SmallAddIdeal.nD Cert.SmallAddIdeal.τ Cert.SmallAddIdeal.sig) → Buf (Elt Ideal) ℓ) (g : Dev Cert.SmallAddIdeal.nD → PrngReg)
    (m' : (ℓ : Loc Cert.SmallAddReferenceIdeal.nD Cert.SmallAddReferenceIdeal.τ Cert.SmallAddReferenceIdeal.sig) → Buf (Elt Ideal) ℓ) (g' : Dev Cert.SmallAddReferenceIdeal.nD → PrngReg), Pre_SmallAddIdeal m →
    (∀ c : Dev Cert.SmallAddIdeal.nD,
      m' ((c.tc : Thread Cert.SmallAddReferenceIdeal.nD Cert.SmallAddReferenceIdeal.τ).loc Cert.SmallAddReferenceIdeal.main_arg0) = m ((c.tc : Thread Cert.SmallAddIdeal.nD Cert.SmallAddIdeal.τ).loc Cert.SmallAddIdeal.main_arg0)
      ∧ m' ((c.tc : Thread Cert.SmallAddReferenceIdeal.nD Cert.SmallAddReferenceIdeal.τ).loc Cert.SmallAddReferenceIdeal.main_arg1) = m ((c.tc : Thread Cert.SmallAddIdeal.nD Cert.SmallAddIdeal.τ).loc Cert.SmallAddIdeal.main_arg1)) →
    ∃ (v0 : (c : Dev Cert.SmallAddIdeal.nD) → Buf (Elt Ideal) ((c.tc : Thread Cert.SmallAddIdeal.nD Cert.SmallAddIdeal.τ).loc Cert.SmallAddIdeal.main_v0)),
      θ_run (Cert.SmallAddIdeal.defs (F := Ideal)) (onTc (τ := Cert.SmallAddIdeal.τ) (Cert.SmallAddIdeal.main (F := Ideal))) ⟨m, fun _ => 0, g⟩ (fun r => ∀ c : Dev Cert.SmallAddIdeal.nD,
          r.2.mem ((c.tc : Thread Cert.SmallAddIdeal.nD Cert.SmallAddIdeal.τ).loc Cert.SmallAddIdeal.main_v0) = v0 c
          ∧ r.2.mem ((c.tc : Thread Cert.SmallAddIdeal.nD Cert.SmallAddIdeal.τ).loc Cert.SmallAddIdeal.main_arg0) = m ((c.tc : Thread Cert.SmallAddIdeal.nD Cert.SmallAddIdeal.τ).loc Cert.SmallAddIdeal.main_arg0)
          ∧ r.2.mem ((c.tc : Thread Cert.SmallAddIdeal.nD Cert.SmallAddIdeal.τ).loc Cert.SmallAddIdeal.main_arg1) = m ((c.tc : Thread Cert.SmallAddIdeal.nD Cert.SmallAddIdeal.τ).loc Cert.SmallAddIdeal.main_arg1))
      ∧ θ_run (Cert.SmallAddReferenceIdeal.defs (F := Ideal)) (onTc (τ := Cert.SmallAddReferenceIdeal.τ) (Cert.SmallAddReferenceIdeal.main (F := Ideal))) ⟨m', fun _ => 0, g'⟩ (fun r => ∀ c : Dev Cert.SmallAddReferenceIdeal.nD,
          r.2.mem ((c.tc : Thread Cert.SmallAddReferenceIdeal.nD Cert.SmallAddReferenceIdeal.τ).loc Cert.SmallAddReferenceIdeal.main_v1) = v0 c
          ∧ r.2.mem ((c.tc : Thread Cert.SmallAddReferenceIdeal.nD Cert.SmallAddReferenceIdeal.τ).loc Cert.SmallAddReferenceIdeal.main_arg0) = m' ((c.tc : Thread Cert.SmallAddReferenceIdeal.nD Cert.SmallAddReferenceIdeal.τ).loc Cert.SmallAddReferenceIdeal.main_arg0)
          ∧ r.2.mem ((c.tc : Thread Cert.SmallAddReferenceIdeal.nD Cert.SmallAddReferenceIdeal.τ).loc Cert.SmallAddReferenceIdeal.main_arg1) = m' ((c.tc : Thread Cert.SmallAddReferenceIdeal.nD Cert.SmallAddReferenceIdeal.τ).loc Cert.SmallAddReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_MetaGrads_MetaGradsIdeal : Prop :=
  True

def algebraic_MetaGradsIdeal_MetaGradsReferenceIdeal [hMetaGradsIdeal : Cert.MetaGradsIdeal.Facts] [hMetaGradsReferenceIdeal : Cert.MetaGradsReferenceIdeal.Facts] : Prop :=
  ∀ (m : (ℓ : Loc Cert.MetaGradsIdeal.nD Cert.MetaGradsIdeal.τ Cert.MetaGradsIdeal.sig) → Buf (Elt Ideal) ℓ) (g : Dev Cert.MetaGradsIdeal.nD → PrngReg)
    (m' : (ℓ : Loc Cert.MetaGradsReferenceIdeal.nD Cert.MetaGradsReferenceIdeal.τ Cert.MetaGradsReferenceIdeal.sig) → Buf (Elt Ideal) ℓ) (g' : Dev Cert.MetaGradsReferenceIdeal.nD → PrngReg), Pre_MetaGradsIdeal m →
    (∀ c : Dev Cert.MetaGradsIdeal.nD,
      m' ((c.tc : Thread Cert.MetaGradsReferenceIdeal.nD Cert.MetaGradsReferenceIdeal.τ).loc Cert.MetaGradsReferenceIdeal.main_arg0) = m ((c.tc : Thread Cert.MetaGradsIdeal.nD Cert.MetaGradsIdeal.τ).loc Cert.MetaGradsIdeal.main_arg0)
      ∧ m' ((c.tc : Thread Cert.MetaGradsReferenceIdeal.nD Cert.MetaGradsReferenceIdeal.τ).loc Cert.MetaGradsReferenceIdeal.main_arg1) = m ((c.tc : Thread Cert.MetaGradsIdeal.nD Cert.MetaGradsIdeal.τ).loc Cert.MetaGradsIdeal.main_arg1)
      ∧ m' ((c.tc : Thread Cert.MetaGradsReferenceIdeal.nD Cert.MetaGradsReferenceIdeal.τ).loc Cert.MetaGradsReferenceIdeal.main_arg2) = m ((c.tc : Thread Cert.MetaGradsIdeal.nD Cert.MetaGradsIdeal.τ).loc Cert.MetaGradsIdeal.main_arg2)
      ∧ m' ((c.tc : Thread Cert.MetaGradsReferenceIdeal.nD Cert.MetaGradsReferenceIdeal.τ).loc Cert.MetaGradsReferenceIdeal.main_arg3) = m ((c.tc : Thread Cert.MetaGradsIdeal.nD Cert.MetaGradsIdeal.τ).loc Cert.MetaGradsIdeal.main_arg3)) →
    ∃ (v0 : (c : Dev Cert.MetaGradsIdeal.nD) → Buf (Elt Ideal) ((c.tc : Thread Cert.MetaGradsIdeal.nD Cert.MetaGradsIdeal.τ).loc Cert.MetaGradsIdeal.main_v0_0)) (v1 : (c : Dev Cert.MetaGradsIdeal.nD) → Buf (Elt Ideal) ((c.tc : Thread Cert.MetaGradsIdeal.nD Cert.MetaGradsIdeal.τ).loc Cert.MetaGradsIdeal.main_v0_1)),
      θ_run (Cert.MetaGradsIdeal.defs (F := Ideal)) (onTc (τ := Cert.MetaGradsIdeal.τ) (Cert.MetaGradsIdeal.main (F := Ideal))) ⟨m, fun _ => 0, g⟩ (fun r => ∀ c : Dev Cert.MetaGradsIdeal.nD,
          r.2.mem ((c.tc : Thread Cert.MetaGradsIdeal.nD Cert.MetaGradsIdeal.τ).loc Cert.MetaGradsIdeal.main_v0_0) = v0 c
          ∧ r.2.mem ((c.tc : Thread Cert.MetaGradsIdeal.nD Cert.MetaGradsIdeal.τ).loc Cert.MetaGradsIdeal.main_v0_1) = v1 c
          ∧ r.2.mem ((c.tc : Thread Cert.MetaGradsIdeal.nD Cert.MetaGradsIdeal.τ).loc Cert.MetaGradsIdeal.main_arg0) = m ((c.tc : Thread Cert.MetaGradsIdeal.nD Cert.MetaGradsIdeal.τ).loc Cert.MetaGradsIdeal.main_arg0)
          ∧ r.2.mem ((c.tc : Thread Cert.MetaGradsIdeal.nD Cert.MetaGradsIdeal.τ).loc Cert.MetaGradsIdeal.main_arg1) = m ((c.tc : Thread Cert.MetaGradsIdeal.nD Cert.MetaGradsIdeal.τ).loc Cert.MetaGradsIdeal.main_arg1)
          ∧ r.2.mem ((c.tc : Thread Cert.MetaGradsIdeal.nD Cert.MetaGradsIdeal.τ).loc Cert.MetaGradsIdeal.main_arg2) = m ((c.tc : Thread Cert.MetaGradsIdeal.nD Cert.MetaGradsIdeal.τ).loc Cert.MetaGradsIdeal.main_arg2)
          ∧ r.2.mem ((c.tc : Thread Cert.MetaGradsIdeal.nD Cert.MetaGradsIdeal.τ).loc Cert.MetaGradsIdeal.main_arg3) = m ((c.tc : Thread Cert.MetaGradsIdeal.nD Cert.MetaGradsIdeal.τ).loc Cert.MetaGradsIdeal.main_arg3))
      ∧ θ_run (Cert.MetaGradsReferenceIdeal.defs (F := Ideal)) (onTc (τ := Cert.MetaGradsReferenceIdeal.τ) (Cert.MetaGradsReferenceIdeal.main (F := Ideal))) ⟨m', fun _ => 0, g'⟩ (fun r => ∀ c : Dev Cert.MetaGradsReferenceIdeal.nD,
          r.2.mem ((c.tc : Thread Cert.MetaGradsReferenceIdeal.nD Cert.MetaGradsReferenceIdeal.τ).loc Cert.MetaGradsReferenceIdeal.main_v37) = v0 c
          ∧ r.2.mem ((c.tc : Thread Cert.MetaGradsReferenceIdeal.nD Cert.MetaGradsReferenceIdeal.τ).loc Cert.MetaGradsReferenceIdeal.main_v19) = v1 c
          ∧ r.2.mem ((c.tc : Thread Cert.MetaGradsReferenceIdeal.nD Cert.MetaGradsReferenceIdeal.τ).loc Cert.MetaGradsReferenceIdeal.main_arg0) = m' ((c.tc : Thread Cert.MetaGradsReferenceIdeal.nD Cert.MetaGradsReferenceIdeal.τ).loc Cert.MetaGradsReferenceIdeal.main_arg0)
          ∧ r.2.mem ((c.tc : Thread Cert.MetaGradsReferenceIdeal.nD Cert.MetaGradsReferenceIdeal.τ).loc Cert.MetaGradsReferenceIdeal.main_arg1) = m' ((c.tc : Thread Cert.MetaGradsReferenceIdeal.nD Cert.MetaGradsReferenceIdeal.τ).loc Cert.MetaGradsReferenceIdeal.main_arg1)
          ∧ r.2.mem ((c.tc : Thread Cert.MetaGradsReferenceIdeal.nD Cert.MetaGradsReferenceIdeal.τ).loc Cert.MetaGradsReferenceIdeal.main_arg2) = m' ((c.tc : Thread Cert.MetaGradsReferenceIdeal.nD Cert.MetaGradsReferenceIdeal.τ).loc Cert.MetaGradsReferenceIdeal.main_arg2)
          ∧ r.2.mem ((c.tc : Thread Cert.MetaGradsReferenceIdeal.nD Cert.MetaGradsReferenceIdeal.τ).loc Cert.MetaGradsReferenceIdeal.main_arg3) = m' ((c.tc : Thread Cert.MetaGradsReferenceIdeal.nD Cert.MetaGradsReferenceIdeal.τ).loc Cert.MetaGradsReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v0) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_DWOut_DWOutIdeal : Prop :=
  True

def algebraic_DWOutIdeal_DWOutReferenceIdeal [hDWOutIdeal : Cert.DWOutIdeal.Facts] [hDWOutReferenceIdeal : Cert.DWOutReferenceIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutReferenceIdeal.nD Cert.DWOutReferenceIdeal.τ Cert.DWOutReferenceIdeal.sig) → Buf (Elt Ideal) ℓ) (g' : Dev Cert.DWOutReferenceIdeal.nD → PrngReg), Pre_DWOutIdeal m →
    (∀ c : Dev Cert.DWOutIdeal.nD,
      m' ((c.tc : Thread Cert.DWOutReferenceIdeal.nD Cert.DWOutReferenceIdeal.τ).loc Cert.DWOutReferenceIdeal.main_arg0) = m ((c.tc : Thread Cert.DWOutIdeal.nD Cert.DWOutIdeal.τ).loc Cert.DWOutIdeal.main_arg0)
      ∧ m' ((c.tc : Thread Cert.DWOutReferenceIdeal.nD Cert.DWOutReferenceIdeal.τ).loc Cert.DWOutReferenceIdeal.main_arg1) = m ((c.tc : Thread Cert.DWOutIdeal.nD Cert.DWOutIdeal.τ).loc Cert.DWOutIdeal.main_arg1)) →
    ∃ (v0 : (c : Dev Cert.DWOutIdeal.nD) → Buf (Elt Ideal) ((c.tc : Thread Cert.DWOutIdeal.nD Cert.DWOutIdeal.τ).loc Cert.DWOutIdeal.main_v0)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v0) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ θ_run (Cert.DWOutReferenceIdeal.defs (F := Ideal)) (onTc (τ := Cert.DWOutReferenceIdeal.τ) (Cert.DWOutReferenceIdeal.main (F := Ideal))) ⟨m', fun _ => 0, g'⟩ (fun r => ∀ c : Dev Cert.DWOutReferenceIdeal.nD,
          r.2.mem ((c.tc : Thread Cert.DWOutReferenceIdeal.nD Cert.DWOutReferenceIdeal.τ).loc Cert.DWOutReferenceIdeal.main_v0) = v0 c
          ∧ r.2.mem ((c.tc : Thread Cert.DWOutReferenceIdeal.nD Cert.DWOutReferenceIdeal.τ).loc Cert.DWOutReferenceIdeal.main_arg0) = m' ((c.tc : Thread Cert.DWOutReferenceIdeal.nD Cert.DWOutReferenceIdeal.τ).loc Cert.DWOutReferenceIdeal.main_arg0)
          ∧ r.2.mem ((c.tc : Thread Cert.DWOutReferenceIdeal.nD Cert.DWOutReferenceIdeal.τ).loc Cert.DWOutReferenceIdeal.main_arg1) = m' ((c.tc : Thread Cert.DWOutReferenceIdeal.nD Cert.DWOutReferenceIdeal.τ).loc Cert.DWOutReferenceIdeal.main_arg1))

def preserves_DOutProj_DOutProjIdeal : Prop :=
  True

def algebraic_DOutProjIdeal_DOutProjReferenceIdeal [hDOutProjIdeal : Cert.DOutProjIdeal.Facts] [hDOutProjReferenceIdeal : Cert.DOutProjReferenceIdeal.Facts] : Prop :=
  ∀ (m : (ℓ : Loc Cert.DOutProjIdeal.nD Cert.DOutProjIdeal.τ Cert.DOutProjIdeal.sig) → Buf (Elt Ideal) ℓ) (g : Dev Cert.DOutProjIdeal.nD → PrngReg)
    (m' : (ℓ : Loc Cert.DOutProjReferenceIdeal.nD Cert.DOutProjReferenceIdeal.τ Cert.DOutProjReferenceIdeal.sig) → Buf (Elt Ideal) ℓ) (g' : Dev Cert.DOutProjReferenceIdeal.nD → PrngReg), Pre_DOutProjIdeal m →
    (∀ c : Dev Cert.DOutProjIdeal.nD,
      m' ((c.tc : Thread Cert.DOutProjReferenceIdeal.nD Cert.DOutProjReferenceIdeal.τ).loc Cert.DOutProjReferenceIdeal.main_arg0) = m ((c.tc : Thread Cert.DOutProjIdeal.nD Cert.DOutProjIdeal.τ).loc Cert.DOutProjIdeal.main_arg0)
      ∧ m' ((c.tc : Thread Cert.DOutProjReferenceIdeal.nD Cert.DOutProjReferenceIdeal.τ).loc Cert.DOutProjReferenceIdeal.main_arg1) = m ((c.tc : Thread Cert.DOutProjIdeal.nD Cert.DOutProjIdeal.τ).loc Cert.DOutProjIdeal.main_arg1)
      ∧ m' ((c.tc : Thread Cert.DOutProjReferenceIdeal.nD Cert.DOutProjReferenceIdeal.τ).loc Cert.DOutProjReferenceIdeal.main_arg2) = m ((c.tc : Thread Cert.DOutProjIdeal.nD Cert.DOutProjIdeal.τ).loc Cert.DOutProjIdeal.main_arg2)) →
    ∃ (v0 : (c : Dev Cert.DOutProjIdeal.nD) → Buf (Elt Ideal) ((c.tc : Thread Cert.DOutProjIdeal.nD Cert.DOutProjIdeal.τ).loc Cert.DOutProjIdeal.main_v0)),
      θ_run (Cert.DOutProjIdeal.defs (F := Ideal)) (onTc (τ := Cert.DOutProjIdeal.τ) (Cert.DOutProjIdeal.main (F := Ideal))) ⟨m, fun _ => 0, g⟩ (fun r => ∀ c : Dev Cert.DOutProjIdeal.nD,
          r.2.mem ((c.tc : Thread Cert.DOutProjIdeal.nD Cert.DOutProjIdeal.τ).loc Cert.DOutProjIdeal.main_v0) = v0 c
          ∧ r.2.mem ((c.tc : Thread Cert.DOutProjIdeal.nD Cert.DOutProjIdeal.τ).loc Cert.DOutProjIdeal.main_arg0) = m ((c.tc : Thread Cert.DOutProjIdeal.nD Cert.DOutProjIdeal.τ).loc Cert.DOutProjIdeal.main_arg0)
          ∧ r.2.mem ((c.tc : Thread Cert.DOutProjIdeal.nD Cert.DOutProjIdeal.τ).loc Cert.DOutProjIdeal.main_arg1) = m ((c.tc : Thread Cert.DOutProjIdeal.nD Cert.DOutProjIdeal.τ).loc Cert.DOutProjIdeal.main_arg1)
          ∧ r.2.mem ((c.tc : Thread Cert.DOutProjIdeal.nD Cert.DOutProjIdeal.τ).loc Cert.DOutProjIdeal.main_arg2) = m ((c.tc : Thread Cert.DOutProjIdeal.nD Cert.DOutProjIdeal.τ).loc Cert.DOutProjIdeal.main_arg2))
      ∧ θ_run (Cert.DOutProjReferenceIdeal.defs (F := Ideal)) (onTc (τ := Cert.DOutProjReferenceIdeal.τ) (Cert.DOutProjReferenceIdeal.main (F := Ideal))) ⟨m', fun _ => 0, g'⟩ (fun r => ∀ c : Dev Cert.DOutProjReferenceIdeal.nD,
          r.2.mem ((c.tc : Thread Cert.DOutProjReferenceIdeal.nD Cert.DOutProjReferenceIdeal.τ).loc Cert.DOutProjReferenceIdeal.main_v1) = v0 c
          ∧ r.2.mem ((c.tc : Thread Cert.DOutProjReferenceIdeal.nD Cert.DOutProjReferenceIdeal.τ).loc Cert.DOutProjReferenceIdeal.main_arg0) = m' ((c.tc : Thread Cert.DOutProjReferenceIdeal.nD Cert.DOutProjReferenceIdeal.τ).loc Cert.DOutProjReferenceIdeal.main_arg0)
          ∧ r.2.mem ((c.tc : Thread Cert.DOutProjReferenceIdeal.nD Cert.DOutProjReferenceIdeal.τ).loc Cert.DOutProjReferenceIdeal.main_arg1) = m' ((c.tc : Thread Cert.DOutProjReferenceIdeal.nD Cert.DOutProjReferenceIdeal.τ).loc Cert.DOutProjReferenceIdeal.main_arg1)
          ∧ r.2.mem ((c.tc : Thread Cert.DOutProjReferenceIdeal.nD Cert.DOutProjReferenceIdeal.τ).loc Cert.DOutProjReferenceIdeal.main_arg2) = m' ((c.tc : Thread Cert.DOutProjReferenceIdeal.nD Cert.DOutProjReferenceIdeal.τ).loc Cert.DOutProjReferenceIdeal.main_arg2))

def preserves_DWIn_DWInIdeal : Prop :=
  True

def algebraic_DWInIdeal_DWInReferenceIdeal [hDWInIdeal : Cert.DWInIdeal.Facts] [hDWInReferenceIdeal : Cert.DWInReferenceIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInReferenceIdeal.nD Cert.DWInReferenceIdeal.τ Cert.DWInReferenceIdeal.sig) → Buf (Elt Ideal) ℓ) (g' : Dev Cert.DWInReferenceIdeal.nD → PrngReg), Pre_DWInIdeal m →
    (∀ c : Dev Cert.DWInIdeal.nD,
      m' ((c.tc : Thread Cert.DWInReferenceIdeal.nD Cert.DWInReferenceIdeal.τ).loc Cert.DWInReferenceIdeal.main_arg0) = m ((c.tc : Thread Cert.DWInIdeal.nD Cert.DWInIdeal.τ).loc Cert.DWInIdeal.main_arg0)
      ∧ m' ((c.tc : Thread Cert.DWInReferenceIdeal.nD Cert.DWInReferenceIdeal.τ).loc Cert.DWInReferenceIdeal.main_arg1) = m ((c.tc : Thread Cert.DWInIdeal.nD Cert.DWInIdeal.τ).loc Cert.DWInIdeal.main_arg1)) →
    ∃ (v0 : (c : Dev Cert.DWInIdeal.nD) → Buf (Elt Ideal) ((c.tc : Thread Cert.DWInIdeal.nD Cert.DWInIdeal.τ).loc Cert.DWInIdeal.main_v0)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v0) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ θ_run (Cert.DWInReferenceIdeal.defs (F := Ideal)) (onTc (τ := Cert.DWInReferenceIdeal.τ) (Cert.DWInReferenceIdeal.main (F := Ideal))) ⟨m', fun _ => 0, g'⟩ (fun r => ∀ c : Dev Cert.DWInReferenceIdeal.nD,
          r.2.mem ((c.tc : Thread Cert.DWInReferenceIdeal.nD Cert.DWInReferenceIdeal.τ).loc Cert.DWInReferenceIdeal.main_v0) = v0 c
          ∧ r.2.mem ((c.tc : Thread Cert.DWInReferenceIdeal.nD Cert.DWInReferenceIdeal.τ).loc Cert.DWInReferenceIdeal.main_arg0) = m' ((c.tc : Thread Cert.DWInReferenceIdeal.nD Cert.DWInReferenceIdeal.τ).loc Cert.DWInReferenceIdeal.main_arg0)
          ∧ r.2.mem ((c.tc : Thread Cert.DWInReferenceIdeal.nD Cert.DWInReferenceIdeal.τ).loc Cert.DWInReferenceIdeal.main_arg1) = m' ((c.tc : Thread Cert.DWInReferenceIdeal.nD Cert.DWInReferenceIdeal.τ).loc Cert.DWInReferenceIdeal.main_arg1))

def preserves_DInProj_DInProjIdeal : Prop :=
  True

def algebraic_DInProjIdeal_DInProjReferenceIdeal [hDInProjIdeal : Cert.DInProjIdeal.Facts] [hDInProjReferenceIdeal : Cert.DInProjReferenceIdeal.Facts] : Prop :=
  ∀ (m : (ℓ : Loc Cert.DInProjIdeal.nD Cert.DInProjIdeal.τ Cert.DInProjIdeal.sig) → Buf (Elt Ideal) ℓ) (g : Dev Cert.DInProjIdeal.nD → PrngReg)
    (m' : (ℓ : Loc Cert.DInProjReferenceIdeal.nD Cert.DInProjReferenceIdeal.τ Cert.DInProjReferenceIdeal.sig) → Buf (Elt Ideal) ℓ) (g' : Dev Cert.DInProjReferenceIdeal.nD → PrngReg), Pre_DInProjIdeal m →
    (∀ c : Dev Cert.DInProjIdeal.nD,
      m' ((c.tc : Thread Cert.DInProjReferenceIdeal.nD Cert.DInProjReferenceIdeal.τ).loc Cert.DInProjReferenceIdeal.main_arg0) = m ((c.tc : Thread Cert.DInProjIdeal.nD Cert.DInProjIdeal.τ).loc Cert.DInProjIdeal.main_arg0)
      ∧ m' ((c.tc : Thread Cert.DInProjReferenceIdeal.nD Cert.DInProjReferenceIdeal.τ).loc Cert.DInProjReferenceIdeal.main_arg1) = m ((c.tc : Thread Cert.DInProjIdeal.nD Cert.DInProjIdeal.τ).loc Cert.DInProjIdeal.main_arg1)
      ∧ m' ((c.tc : Thread Cert.DInProjReferenceIdeal.nD Cert.DInProjReferenceIdeal.τ).loc Cert.DInProjReferenceIdeal.main_arg2) = m ((c.tc : Thread Cert.DInProjIdeal.nD Cert.DInProjIdeal.τ).loc Cert.DInProjIdeal.main_arg2)) →
    ∃ (v0 : (c : Dev Cert.DInProjIdeal.nD) → Buf (Elt Ideal) ((c.tc : Thread Cert.DInProjIdeal.nD Cert.DInProjIdeal.τ).loc Cert.DInProjIdeal.main_v0)),
      θ_run (Cert.DInProjIdeal.defs (F := Ideal)) (onTc (τ := Cert.DInProjIdeal.τ) (Cert.DInProjIdeal.main (F := Ideal))) ⟨m, fun _ => 0, g⟩ (fun r => ∀ c : Dev Cert.DInProjIdeal.nD,
          r.2.mem ((c.tc : Thread Cert.DInProjIdeal.nD Cert.DInProjIdeal.τ).loc Cert.DInProjIdeal.main_v0) = v0 c
          ∧ r.2.mem ((c.tc : Thread Cert.DInProjIdeal.nD Cert.DInProjIdeal.τ).loc Cert.DInProjIdeal.main_arg0) = m ((c.tc : Thread Cert.DInProjIdeal.nD Cert.DInProjIdeal.τ).loc Cert.DInProjIdeal.main_arg0)
          ∧ r.2.mem ((c.tc : Thread Cert.DInProjIdeal.nD Cert.DInProjIdeal.τ).loc Cert.DInProjIdeal.main_arg1) = m ((c.tc : Thread Cert.DInProjIdeal.nD Cert.DInProjIdeal.τ).loc Cert.DInProjIdeal.main_arg1)
          ∧ r.2.mem ((c.tc : Thread Cert.DInProjIdeal.nD Cert.DInProjIdeal.τ).loc Cert.DInProjIdeal.main_arg2) = m ((c.tc : Thread Cert.DInProjIdeal.nD Cert.DInProjIdeal.τ).loc Cert.DInProjIdeal.main_arg2))
      ∧ θ_run (Cert.DInProjReferenceIdeal.defs (F := Ideal)) (onTc (τ := Cert.DInProjReferenceIdeal.τ) (Cert.DInProjReferenceIdeal.main (F := Ideal))) ⟨m', fun _ => 0, g'⟩ (fun r => ∀ c : Dev Cert.DInProjReferenceIdeal.nD,
          r.2.mem ((c.tc : Thread Cert.DInProjReferenceIdeal.nD Cert.DInProjReferenceIdeal.τ).loc Cert.DInProjReferenceIdeal.main_v1) = v0 c
          ∧ r.2.mem ((c.tc : Thread Cert.DInProjReferenceIdeal.nD Cert.DInProjReferenceIdeal.τ).loc Cert.DInProjReferenceIdeal.main_arg0) = m' ((c.tc : Thread Cert.DInProjReferenceIdeal.nD Cert.DInProjReferenceIdeal.τ).loc Cert.DInProjReferenceIdeal.main_arg0)
          ∧ r.2.mem ((c.tc : Thread Cert.DInProjReferenceIdeal.nD Cert.DInProjReferenceIdeal.τ).loc Cert.DInProjReferenceIdeal.main_arg1) = m' ((c.tc : Thread Cert.DInProjReferenceIdeal.nD Cert.DInProjReferenceIdeal.τ).loc Cert.DInProjReferenceIdeal.main_arg1)
          ∧ r.2.mem ((c.tc : Thread Cert.DInProjReferenceIdeal.nD Cert.DInProjReferenceIdeal.τ).loc Cert.DInProjReferenceIdeal.main_arg2) = m' ((c.tc : Thread Cert.DInProjReferenceIdeal.nD Cert.DInProjReferenceIdeal.τ).loc Cert.DInProjReferenceIdeal.main_arg2))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v22) = v0 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def Claim : Prop :=
  ∃ (hKernel : Cert.Kernel.Facts) (hKernelIdeal : Cert.KernelIdeal.Facts) (hReferenceIdeal : Cert.ReferenceIdeal.Facts) (hWOutSib : Cert.WOutSib.Facts) (hWOutSibIdeal : Cert.WOutSibIdeal.Facts) (hWOutSibReferenceIdeal : Cert.WOutSibReferenceIdeal.Facts) (hWInPair : Cert.WInPair.Facts) (hWInPairIdeal : Cert.WInPairIdeal.Facts) (hWInPairReferenceIdeal : Cert.WInPairReferenceIdeal.Facts) (hWOutPair : Cert.WOutPair.Facts) (hWOutPairIdeal : Cert.WOutPairIdeal.Facts) (hWOutPairReferenceIdeal : Cert.WOutPairReferenceIdeal.Facts) (hWInShare : Cert.WInShare.Facts) (hWInShareIdeal : Cert.WInShareIdeal.Facts) (hWInShareReferenceIdeal : Cert.WInShareReferenceIdeal.Facts) (hWOutShare : Cert.WOutShare.Facts) (hWOutShareIdeal : Cert.WOutShareIdeal.Facts) (hWOutShareReferenceIdeal : Cert.WOutShareReferenceIdeal.Facts) (hRepStep : Cert.RepStep.Facts) (hRepStepIdeal : Cert.RepStepIdeal.Facts) (hRepStepReferenceIdeal : Cert.RepStepReferenceIdeal.Facts) (hSmallStep : Cert.SmallStep.Facts) (hSmallStepIdeal : Cert.SmallStepIdeal.Facts) (hSmallStepReferenceIdeal : Cert.SmallStepReferenceIdeal.Facts) (hWInStep : Cert.WInStep.Facts) (hWInStepIdeal : Cert.WInStepIdeal.Facts) (hWInStepReferenceIdeal : Cert.WInStepReferenceIdeal.Facts) (hWOutStep : Cert.WOutStep.Facts) (hWOutStepIdeal : Cert.WOutStepIdeal.Facts) (hWOutStepReferenceIdeal : Cert.WOutStepReferenceIdeal.Facts) (hGradX : Cert.GradX.Facts) (hGradXIdeal : Cert.GradXIdeal.Facts) (hGradXReferenceIdeal : Cert.GradXReferenceIdeal.Facts) (hWInSum : Cert.WInSum.Facts) (hWInSumIdeal : Cert.WInSumIdeal.Facts) (hWInSumReferenceIdeal : Cert.WInSumReferenceIdeal.Facts) (hWOutSum : Cert.WOutSum.Facts) (hWOutSumIdeal : Cert.WOutSumIdeal.Facts) (hWOutSumReferenceIdeal : Cert.WOutSumReferenceIdeal.Facts) (hSmallSum : Cert.SmallSum.Facts) (hSmallSumIdeal : Cert.SmallSumIdeal.Facts) (hSmallSumReferenceIdeal : Cert.SmallSumReferenceIdeal.Facts) (hWOutAdd : Cert.WOutAdd.Facts) (hWOutAddIdeal : Cert.WOutAddIdeal.Facts) (hWOutAddReferenceIdeal : Cert.WOutAddReferenceIdeal.Facts) (hSmallAdd : Cert.SmallAdd.Facts) (hSmallAddIdeal : Cert.SmallAddIdeal.Facts) (hSmallAddReferenceIdeal : Cert.SmallAddReferenceIdeal.Facts) (hNorm : Cert.Norm.Facts) (hNormIdeal : Cert.NormIdeal.Facts) (hNormReferenceIdeal : Cert.NormReferenceIdeal.Facts) (hMetaGrads : Cert.MetaGrads.Facts) (hMetaGradsIdeal : Cert.MetaGradsIdeal.Facts) (hMetaGradsReferenceIdeal : Cert.MetaGradsReferenceIdeal.Facts) (hInProj : Cert.InProj.Facts) (hInProjIdeal : Cert.InProjIdeal.Facts) (hInProjReferenceIdeal : Cert.InProjReferenceIdeal.Facts) (hDWOut : Cert.DWOut.Facts) (hDWOutIdeal : Cert.DWOutIdeal.Facts) (hDWOutReferenceIdeal : Cert.DWOutReferenceIdeal.Facts) (hDOutProj : Cert.DOutProj.Facts) (hDOutProjIdeal : Cert.DOutProjIdeal.Facts) (hDOutProjReferenceIdeal : Cert.DOutProjReferenceIdeal.Facts) (hDWIn : Cert.DWIn.Facts) (hDWInIdeal : Cert.DWInIdeal.Facts) (hDWInReferenceIdeal : Cert.DWInReferenceIdeal.Facts) (hDInProj : Cert.DInProj.Facts) (hDInProjIdeal : Cert.DInProjIdeal.Facts) (hDInProjReferenceIdeal : Cert.DInProjReferenceIdeal.Facts) (hLoss : Cert.Loss.Facts) (hLossIdeal : Cert.LossIdeal.Facts) (hLossReferenceIdeal : Cert.LossReferenceIdeal.Facts),
    quiescent_Kernel (hKernel := hKernel)
    ∧ quiescent_KernelIdeal (hKernelIdeal := hKernelIdeal)
    ∧ quiescent_ReferenceIdeal (hReferenceIdeal := hReferenceIdeal)
    ∧ quiescent_WOutSib (hWOutSib := hWOutSib)
    ∧ quiescent_WOutSibIdeal (hWOutSibIdeal := hWOutSibIdeal)
    ∧ quiescent_WOutSibReferenceIdeal (hWOutSibReferenceIdeal := hWOutSibReferenceIdeal)
    ∧ quiescent_WInPair (hWInPair := hWInPair)
    ∧ quiescent_WInPairIdeal (hWInPairIdeal := hWInPairIdeal)
    ∧ quiescent_WInPairReferenceIdeal (hWInPairReferenceIdeal := hWInPairReferenceIdeal)
    ∧ quiescent_WOutPair (hWOutPair := hWOutPair)
    ∧ quiescent_WOutPairIdeal (hWOutPairIdeal := hWOutPairIdeal)
    ∧ quiescent_WOutPairReferenceIdeal (hWOutPairReferenceIdeal := hWOutPairReferenceIdeal)
    ∧ quiescent_WInShare (hWInShare := hWInShare)
    ∧ quiescent_WInShareIdeal (hWInShareIdeal := hWInShareIdeal)
    ∧ quiescent_WInShareReferenceIdeal (hWInShareReferenceIdeal := hWInShareReferenceIdeal)
    ∧ quiescent_WOutShare (hWOutShare := hWOutShare)
    ∧ quiescent_WOutShareIdeal (hWOutShareIdeal := hWOutShareIdeal)
    ∧ quiescent_WOutShareReferenceIdeal (hWOutShareReferenceIdeal := hWOutShareReferenceIdeal)
    ∧ quiescent_RepStep (hRepStep := hRepStep)
    ∧ quiescent_RepStepIdeal (hRepStepIdeal := hRepStepIdeal)
    ∧ quiescent_RepStepReferenceIdeal (hRepStepReferenceIdeal := hRepStepReferenceIdeal)
    ∧ quiescent_SmallStep (hSmallStep := hSmallStep)
    ∧ quiescent_SmallStepIdeal (hSmallStepIdeal := hSmallStepIdeal)
    ∧ quiescent_SmallStepReferenceIdeal (hSmallStepReferenceIdeal := hSmallStepReferenceIdeal)
    ∧ quiescent_WInStep (hWInStep := hWInStep)
    ∧ quiescent_WInStepIdeal (hWInStepIdeal := hWInStepIdeal)
    ∧ quiescent_WInStepReferenceIdeal (hWInStepReferenceIdeal := hWInStepReferenceIdeal)
    ∧ quiescent_WOutStep (hWOutStep := hWOutStep)
    ∧ quiescent_WOutStepIdeal (hWOutStepIdeal := hWOutStepIdeal)
    ∧ quiescent_WOutStepReferenceIdeal (hWOutStepReferenceIdeal := hWOutStepReferenceIdeal)
    ∧ quiescent_GradX (hGradX := hGradX)
    ∧ quiescent_GradXIdeal (hGradXIdeal := hGradXIdeal)
    ∧ quiescent_GradXReferenceIdeal (hGradXReferenceIdeal := hGradXReferenceIdeal)
    ∧ quiescent_WInSum (hWInSum := hWInSum)
    ∧ quiescent_WInSumIdeal (hWInSumIdeal := hWInSumIdeal)
    ∧ quiescent_WInSumReferenceIdeal (hWInSumReferenceIdeal := hWInSumReferenceIdeal)
    ∧ quiescent_WOutSum (hWOutSum := hWOutSum)
    ∧ quiescent_WOutSumIdeal (hWOutSumIdeal := hWOutSumIdeal)
    ∧ quiescent_WOutSumReferenceIdeal (hWOutSumReferenceIdeal := hWOutSumReferenceIdeal)
    ∧ quiescent_SmallSum (hSmallSum := hSmallSum)
    ∧ quiescent_SmallSumIdeal (hSmallSumIdeal := hSmallSumIdeal)
    ∧ quiescent_SmallSumReferenceIdeal (hSmallSumReferenceIdeal := hSmallSumReferenceIdeal)
    ∧ quiescent_WOutAdd (hWOutAdd := hWOutAdd)
    ∧ quiescent_WOutAddIdeal (hWOutAddIdeal := hWOutAddIdeal)
    ∧ quiescent_WOutAddReferenceIdeal (hWOutAddReferenceIdeal := hWOutAddReferenceIdeal)
    ∧ quiescent_SmallAdd (hSmallAdd := hSmallAdd)
    ∧ quiescent_SmallAddIdeal (hSmallAddIdeal := hSmallAddIdeal)
    ∧ quiescent_SmallAddReferenceIdeal (hSmallAddReferenceIdeal := hSmallAddReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_MetaGrads (hMetaGrads := hMetaGrads)
    ∧ quiescent_MetaGradsIdeal (hMetaGradsIdeal := hMetaGradsIdeal)
    ∧ quiescent_MetaGradsReferenceIdeal (hMetaGradsReferenceIdeal := hMetaGradsReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_DWOut (hDWOut := hDWOut)
    ∧ quiescent_DWOutIdeal (hDWOutIdeal := hDWOutIdeal)
    ∧ quiescent_DWOutReferenceIdeal (hDWOutReferenceIdeal := hDWOutReferenceIdeal)
    ∧ quiescent_DOutProj (hDOutProj := hDOutProj)
    ∧ quiescent_DOutProjIdeal (hDOutProjIdeal := hDOutProjIdeal)
    ∧ quiescent_DOutProjReferenceIdeal (hDOutProjReferenceIdeal := hDOutProjReferenceIdeal)
    ∧ quiescent_DWIn (hDWIn := hDWIn)
    ∧ quiescent_DWInIdeal (hDWInIdeal := hDWInIdeal)
    ∧ quiescent_DWInReferenceIdeal (hDWInReferenceIdeal := hDWInReferenceIdeal)
    ∧ quiescent_DInProj (hDInProj := hDInProj)
    ∧ quiescent_DInProjIdeal (hDInProjIdeal := hDInProjIdeal)
    ∧ quiescent_DInProjReferenceIdeal (hDInProjReferenceIdeal := hDInProjReferenceIdeal)
    ∧ quiescent_Loss (hLoss := hLoss)
    ∧ quiescent_LossIdeal (hLossIdeal := hLossIdeal)
    ∧ quiescent_LossReferenceIdeal (hLossReferenceIdeal := hLossReferenceIdeal)
    ∧ preserves_Kernel_KernelIdeal
    ∧ algebraic_KernelIdeal_ReferenceIdeal (hKernelIdeal := hKernelIdeal) (hReferenceIdeal := hReferenceIdeal)
    ∧ preserves_WOutSib_WOutSibIdeal
    ∧ algebraic_WOutSibIdeal_WOutSibReferenceIdeal (hWOutSibIdeal := hWOutSibIdeal) (hWOutSibReferenceIdeal := hWOutSibReferenceIdeal)
    ∧ preserves_WInPair_WInPairIdeal
    ∧ algebraic_WInPairIdeal_WInPairReferenceIdeal (hWInPairIdeal := hWInPairIdeal) (hWInPairReferenceIdeal := hWInPairReferenceIdeal)
    ∧ preserves_WOutPair_WOutPairIdeal
    ∧ algebraic_WOutPairIdeal_WOutPairReferenceIdeal (hWOutPairIdeal := hWOutPairIdeal) (hWOutPairReferenceIdeal := hWOutPairReferenceIdeal)
    ∧ preserves_WInShare_WInShareIdeal
    ∧ algebraic_WInShareIdeal_WInShareReferenceIdeal (hWInShareIdeal := hWInShareIdeal) (hWInShareReferenceIdeal := hWInShareReferenceIdeal)
    ∧ preserves_WOutShare_WOutShareIdeal
    ∧ algebraic_WOutShareIdeal_WOutShareReferenceIdeal (hWOutShareIdeal := hWOutShareIdeal) (hWOutShareReferenceIdeal := hWOutShareReferenceIdeal)
    ∧ preserves_RepStep_RepStepIdeal
    ∧ algebraic_RepStepIdeal_RepStepReferenceIdeal (hRepStepIdeal := hRepStepIdeal) (hRepStepReferenceIdeal := hRepStepReferenceIdeal)
    ∧ preserves_SmallStep_SmallStepIdeal
    ∧ algebraic_SmallStepIdeal_SmallStepReferenceIdeal (hSmallStepIdeal := hSmallStepIdeal) (hSmallStepReferenceIdeal := hSmallStepReferenceIdeal)
    ∧ preserves_WInStep_WInStepIdeal
    ∧ algebraic_WInStepIdeal_WInStepReferenceIdeal (hWInStepIdeal := hWInStepIdeal) (hWInStepReferenceIdeal := hWInStepReferenceIdeal)
    ∧ preserves_WOutStep_WOutStepIdeal
    ∧ algebraic_WOutStepIdeal_WOutStepReferenceIdeal (hWOutStepIdeal := hWOutStepIdeal) (hWOutStepReferenceIdeal := hWOutStepReferenceIdeal)
    ∧ preserves_GradX_GradXIdeal
    ∧ algebraic_GradXIdeal_GradXReferenceIdeal (hGradXIdeal := hGradXIdeal) (hGradXReferenceIdeal := hGradXReferenceIdeal)
    ∧ preserves_WInSum_WInSumIdeal
    ∧ algebraic_WInSumIdeal_WInSumReferenceIdeal (hWInSumIdeal := hWInSumIdeal) (hWInSumReferenceIdeal := hWInSumReferenceIdeal)
    ∧ preserves_WOutSum_WOutSumIdeal
    ∧ algebraic_WOutSumIdeal_WOutSumReferenceIdeal (hWOutSumIdeal := hWOutSumIdeal) (hWOutSumReferenceIdeal := hWOutSumReferenceIdeal)
    ∧ preserves_SmallSum_SmallSumIdeal
    ∧ algebraic_SmallSumIdeal_SmallSumReferenceIdeal (hSmallSumIdeal := hSmallSumIdeal) (hSmallSumReferenceIdeal := hSmallSumReferenceIdeal)
    ∧ preserves_WOutAdd_WOutAddIdeal
    ∧ algebraic_WOutAddIdeal_WOutAddReferenceIdeal (hWOutAddIdeal := hWOutAddIdeal) (hWOutAddReferenceIdeal := hWOutAddReferenceIdeal)
    ∧ preserves_SmallAdd_SmallAddIdeal
    ∧ algebraic_SmallAddIdeal_SmallAddReferenceIdeal (hSmallAddIdeal := hSmallAddIdeal) (hSmallAddReferenceIdeal := hSmallAddReferenceIdeal)
    ∧ preserves_Norm_NormIdeal
    ∧ algebraic_NormIdeal_NormReferenceIdeal (hNormIdeal := hNormIdeal) (hNormReferenceIdeal := hNormReferenceIdeal)
    ∧ preserves_MetaGrads_MetaGradsIdeal
    ∧ algebraic_MetaGradsIdeal_MetaGradsReferenceIdeal (hMetaGradsIdeal := hMetaGradsIdeal) (hMetaGradsReferenceIdeal := hMetaGradsReferenceIdeal)
    ∧ preserves_InProj_InProjIdeal
    ∧ algebraic_InProjIdeal_InProjReferenceIdeal (hInProjIdeal := hInProjIdeal) (hInProjReferenceIdeal := hInProjReferenceIdeal)
    ∧ preserves_DWOut_DWOutIdeal
    ∧ algebraic_DWOutIdeal_DWOutReferenceIdeal (hDWOutIdeal := hDWOutIdeal) (hDWOutReferenceIdeal := hDWOutReferenceIdeal)
    ∧ preserves_DOutProj_DOutProjIdeal
    ∧ algebraic_DOutProjIdeal_DOutProjReferenceIdeal (hDOutProjIdeal := hDOutProjIdeal) (hDOutProjReferenceIdeal := hDOutProjReferenceIdeal)
    ∧ preserves_DWIn_DWInIdeal
    ∧ algebraic_DWInIdeal_DWInReferenceIdeal (hDWInIdeal := hDWInIdeal) (hDWInReferenceIdeal := hDWInReferenceIdeal)
    ∧ preserves_DInProj_DInProjIdeal
    ∧ algebraic_DInProjIdeal_DInProjReferenceIdeal (hDInProjIdeal := hDInProjIdeal) (hDInProjReferenceIdeal := hDInProjReferenceIdeal)
    ∧ preserves_Loss_LossIdeal
    ∧ algebraic_LossIdeal_LossReferenceIdeal (hLossIdeal := hLossIdeal) (hLossReferenceIdeal := hLossReferenceIdeal)
-- ==== Kernel.lean ====
abbrev S2048x8448 : Shape := ⟨2, ![2048, 8448]⟩
abbrev S1x1024x8448 : Shape := ⟨3, ![1, 1024, 8448]⟩
abbrev S8 : Shape := ⟨1, ![8]⟩
abbrev S1 : Shape := ⟨1, ![1]⟩
abbrev S_ : Shape := ⟨0, ![]⟩
abbrev S1024x8448 : Shape := ⟨2, ![1024, 8448]⟩
abbrev S128x8448 : Shape := ⟨2, ![128, 8448]⟩

abbrev nBuf : Space → Nat
  | .hbm => 2
  | .vmem => 0
  | .smem => 0
  | _ => 0

abbrev bufTy : (tb : Table) → Fin (tcTables nBuf tb) → BufTy
  | .hbm, ⟨0, _⟩ => ⟨S2048x8448, .f32⟩
  | .hbm, ⟨1, _⟩ => ⟨S1x1024x8448, .f32⟩
  | _, _ => ⟨S2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 2 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32 : BitVec 32 := 1024#32
  let v10 : BitVec 32 := Scalar.muli v9 c1024_i32
  let c0_i32_35 : BitVec 32 := 0#32
  ![v10.toNat, 0]
def k0_dev1 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v11 : BitVec 32 := Scalar.addi v2 c0_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_27 : BitVec 32 := 4#32
  let v44 : BitVec 32 := Scalar.muli v21 c4_i32_27
  let v45 : BitVec 32 := Scalar.addi c0_i32_28 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_10 : BitVec 32 := 0#32
  let v22 : BitVec 32 := Scalar.addi v5 c0_i32_10
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_29 : BitVec 32 := 2#32
  let v46 : BitVec 32 := Scalar.muli v32 c2_i32_29
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v33 : BitVec 32 := Scalar.addi v8 c1_i32_17
  let c2_i32_18 : BitVec 32 := 2#32
  let c0_i32_19 : BitVec 32 := 0#32
  let v34 : BitVec 1 := Scalar.cmpi .eq c2_i32_18 c0_i32_19
  let c1_i32_20 : BitVec 32 := 1#32
  let v35 : BitVec 32 := Scalar.select v34 c1_i32_20 c2_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1_i32_30 : BitVec 32 := 1#32
  let v48 : BitVec 32 := Scalar.muli v43 c1_i32_30
  let v49 : BitVec 32 := Scalar.addi v47 v48
  v49.toNat
def k0_dev2 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v11 : BitVec 32 := Scalar.addi v2 c0_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_41 : BitVec 32 := 4#32
  let v59 : BitVec 32 := Scalar.muli v21 c4_i32_41
  let v60 : BitVec 32 := Scalar.addi c0_i32_42 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_10 : BitVec 32 := 0#32
  let v22 : BitVec 32 := Scalar.addi v5 c0_i32_10
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_43 : BitVec 32 := 2#32
  let v61 : BitVec 32 := Scalar.muli v32 c2_i32_43
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v33 : BitVec 32 := Scalar.addi v8 c1_i32_17
  let c2_i32_18 : BitVec 32 := 2#32
  let c0_i32_19 : BitVec 32 := 0#32
  let v34 : BitVec 1 := Scalar.cmpi .eq c2_i32_18 c0_i32_19
  let c1_i32_20 : BitVec 32 := 1#32
  let v35 : BitVec 32 := Scalar.select v34 c1_i32_20 c2_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1_i32_44 : BitVec 32 := 1#32
  let v63 : BitVec 32 := Scalar.muli v43 c1_i32_44
  let v64 : BitVec 32 := Scalar.addi v62 v63
  v64.toNat
def k0_dev3 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v11 : BitVec 32 := Scalar.addi v2 c0_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_54 : BitVec 32 := 4#32
  let v74 : BitVec 32 := Scalar.muli v21 c4_i32_54
  let v75 : BitVec 32 := Scalar.addi c0_i32_55 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_10 : BitVec 32 := 0#32
  let v22 : BitVec 32 := Scalar.addi v5 c0_i32_10
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_56 : BitVec 32 := 2#32
  let v76 : BitVec 32 := Scalar.muli v32 c2_i32_56
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v33 : BitVec 32 := Scalar.addi v8 c1_i32_17
  let c2_i32_18 : BitVec 32 := 2#32
  let c0_i32_19 : BitVec 32 := 0#32
  let v34 : BitVec 1 := Scalar.cmpi .eq c2_i32_18 c0_i32_19
  let c1_i32_20 : BitVec 32 := 1#32
  let v35 : BitVec 32 := Scalar.select v34 c1_i32_20 c2_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1_i32_57 : BitVec 32 := 1#32
  let v78 : BitVec 32 := Scalar.muli v43 c1_i32_57
  let v79 : BitVec 32 := Scalar.addi v77 v78
  v79.toNat
def k0_dev4 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v11 : BitVec 32 := Scalar.addi v2 c0_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_66 : BitVec 32 := 4#32
  let v89 : BitVec 32 := Scalar.muli v21 c4_i32_66
  let v90 : BitVec 32 := Scalar.addi c0_i32_67 v89
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_10 : BitVec 32 := 0#32
  let v22 : BitVec 32 := Scalar.addi v5 c0_i32_10
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_68 : BitVec 32 := 2#32
  let v91 : BitVec 32 := Scalar.muli v32 c2_i32_68
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v33 : BitVec 32 := Scalar.addi v8 c1_i32_17
  let c2_i32_18 : BitVec 32 := 2#32
  let c0_i32_19 : BitVec 32 := 0#32
  let v34 : BitVec 1 := Scalar.cmpi .eq c2_i32_18 c0_i32_19
  let c1_i32_20 : BitVec 32 := 1#32
  let v35 : BitVec 32 := Scalar.select v34 c1_i32_20 c2_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1_i32_69 : BitVec 32 := 1#32
  let v93 : BitVec 32 := Scalar.muli v43 c1_i32_69
  let v94 : BitVec 32 := Scalar.addi v92 v93
  v94.toNat
def k0_dev5 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v11 : BitVec 32 := Scalar.addi v2 c0_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_79 : BitVec 32 := 4#32
  let v104 : BitVec 32 := Scalar.muli v21 c4_i32_79
  let v105 : BitVec 32 := Scalar.addi c0_i32_80 v104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_10 : BitVec 32 := 0#32
  let v22 : BitVec 32 := Scalar.addi v5 c0_i32_10
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_81 : BitVec 32 := 2#32
  let v106 : BitVec 32 := Scalar.muli v32 c2_i32_81
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v33 : BitVec 32 := Scalar.addi v8 c1_i32_17
  let c2_i32_18 : BitVec 32 := 2#32
  let c0_i32_19 : BitVec 32 := 0#32
  let v34 : BitVec 1 := Scalar.cmpi .eq c2_i32_18 c0_i32_19
  let c1_i32_20 : BitVec 32 := 1#32
  let v35 : BitVec 32 := Scalar.select v34 c1_i32_20 c2_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1_i32_82 : BitVec 32 := 1#32
  let v108 : BitVec 32 := Scalar.muli v43 c1_i32_82
  let v109 : BitVec 32 := Scalar.addi v107 v108
  v109.toNat
def k0_dev6 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v11 : BitVec 32 := Scalar.addi v2 c0_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_91 : BitVec 32 := 4#32
  let v119 : BitVec 32 := Scalar.muli v21 c4_i32_91
  let v120 : BitVec 32 := Scalar.addi c0_i32_92 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_10 : BitVec 32 := 0#32
  let v22 : BitVec 32 := Scalar.addi v5 c0_i32_10
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_93 : BitVec 32 := 2#32
  let v121 : BitVec 32 := Scalar.muli v32 c2_i32_93
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v33 : BitVec 32 := Scalar.addi v8 c1_i32_17
  let c2_i32_18 : BitVec 32 := 2#32
  let c0_i32_19 : BitVec 32 := 0#32
  let v34 : BitVec 1 := Scalar.cmpi .eq c2_i32_18 c0_i32_19
  let c1_i32_20 : BitVec 32 := 1#32
  let v35 : BitVec 32 := Scalar.select v34 c1_i32_20 c2_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1_i32_94 : BitVec 32 := 1#32
  let v123 : BitVec 32 := Scalar.muli v43 c1_i32_94
  let v124 : BitVec 32 := Scalar.addi v122 v123
  v124.toNat
def k0_dev7 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v11 : BitVec 32 := Scalar.addi v2 c0_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_103 : BitVec 32 := 4#32
  let v134 : BitVec 32 := Scalar.muli v21 c4_i32_103
  let v135 : BitVec 32 := Scalar.addi c0_i32_104 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_10 : BitVec 32 := 0#32
  let v22 : BitVec 32 := Scalar.addi v5 c0_i32_10
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_105 : BitVec 32 := 2#32
  let v136 : BitVec 32 := Scalar.muli v32 c2_i32_105
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v33 : BitVec 32 := Scalar.addi v8 c1_i32_17
  let c2_i32_18 : BitVec 32 := 2#32
  let c0_i32_19 : BitVec 32 := 0#32
  let v34 : BitVec 1 := Scalar.cmpi .eq c2_i32_18 c0_i32_19
  let c1_i32_20 : BitVec 32 := 1#32
  let v35 : BitVec 32 := Scalar.select v34 c1_i32_20 c2_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1_i32_106 : BitVec 32 := 1#32
  let v138 : BitVec 32 := Scalar.muli v43 c1_i32_106
  let v139 : BitVec 32 := Scalar.addi v137 v138
  v139.toNat
def k0_dev8 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v11 : BitVec 32 := Scalar.addi v2 c0_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_115 : BitVec 32 := 4#32
  let v149 : BitVec 32 := Scalar.muli v21 c4_i32_115
  let v150 : BitVec 32 := Scalar.addi c0_i32_116 v149
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_10 : BitVec 32 := 0#32
  let v22 : BitVec 32 := Scalar.addi v5 c0_i32_10
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c2_i32_117 : BitVec 32 := 2#32
  let v151 : BitVec 32 := Scalar.muli v32 c2_i32_117
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v33 : BitVec 32 := Scalar.addi v8 c1_i32_17
  let c2_i32_18 : BitVec 32 := 2#32
  let c0_i32_19 : BitVec 32 := 0#32
  let v34 : BitVec 1 := Scalar.cmpi .eq c2_i32_18 c0_i32_19
  let c1_i32_20 : BitVec 32 := 1#32
  let v35 : BitVec 32 := Scalar.select v34 c1_i32_20 c2_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1_i32_118 : BitVec 32 := 1#32
  let v153 : BitVec 32 := Scalar.muli v43 c1_i32_118
  let v154 : BitVec 32 := Scalar.addi v152 v153
  v154.toNat
-- ==== ReferenceIdeal.lean ====
abbrev S16384x8448 : Shape := ⟨2, ![16384, 8448]⟩
abbrev S4x2x2x1024x8448 : Shape := ⟨5, ![4, 2, 2, 1024, 8448]⟩
abbrev S4x1x1x1024x8448 : Shape := ⟨5, ![4, 1, 1, 1024, 8448]⟩
abbrev S4x1024x8448 : Shape := ⟨3, ![4, 1024, 8448]⟩
abbrev S4x1x1024x8448 : Shape := ⟨4, ![4, 1, 1024, 8448]⟩
abbrev S4x2x1024x8448 : Shape := ⟨4, ![4, 2, 1024, 8448]⟩
abbrev S8x1024x8448 : Shape := ⟨3, ![8, 1024, 8448]⟩

abbrev nBuf : Space → Nat
  | .hbm => 10
  | .vmem => 0
  | .smem => 0
  | _ => 0

abbrev bufTy : (tb : Table) → Fin (tcTables nBuf tb) → BufTy
  | .hbm, ⟨0, _⟩ => ⟨S16384x8448, .f32⟩
  | .hbm, ⟨1, _⟩ => ⟨S4x2x2x1024x8448, .f32⟩
  | .hbm, ⟨2, _⟩ => ⟨S4x1x1x1024x8448, .f32⟩
  | .hbm, ⟨3, _⟩ => ⟨S4x1024x8448, .f32⟩
  | .hbm, ⟨4, _⟩ => ⟨S4x1x1x1024x8448, .f32⟩
  | .hbm, ⟨5, _⟩ => ⟨S4x1024x8448, .f32⟩
  | .hbm, ⟨6, _⟩ => ⟨S4x1x1024x8448, .f32⟩
  | .hbm, ⟨7, _⟩ => ⟨S4x1x1024x8448, .f32⟩
  | .hbm, ⟨8, _⟩ => ⟨S4x2x1024x8448, .f32⟩
  | .hbm, ⟨9, _⟩ => ⟨S8x1024x8448, .f32⟩
  | _, _ => ⟨S16384x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== WOutSib.lean ====
abbrev S4x256x2048 : Shape := ⟨3, ![4, 256, 2048]⟩
abbrev S1x4x256x2048 : Shape := ⟨4, ![1, 4, 256, 2048]⟩
abbrev S4 : Shape := ⟨1, ![4]⟩
abbrev S1 : Shape := ⟨1, ![1]⟩
abbrev S_ : Shape := ⟨0, ![]⟩
abbrev S1x256x2048 : Shape := ⟨3, ![1, 256, 2048]⟩

abbrev nBuf : Space → Nat
  | .hbm => 2
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x4x256x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_26 : BitVec 32 := 4#32
  let v42 : BitVec 32 := Scalar.muli v19 c4_i32_26
  let v43 : BitVec 32 := Scalar.addi c0_i32_27 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_28 : BitVec 32 := 2#32
  let v44 : BitVec 32 := Scalar.muli v30 c2_i32_28
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_29 : BitVec 32 := 1#32
  let v46 : BitVec 32 := Scalar.muli v41 c1_i32_29
  let v47 : BitVec 32 := Scalar.addi v45 v46
  v47.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_42 : BitVec 32 := 4#32
  let v56 : BitVec 32 := Scalar.muli v19 c4_i32_42
  let v57 : BitVec 32 := Scalar.addi c0_i32_43 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_44 : BitVec 32 := 2#32
  let v58 : BitVec 32 := Scalar.muli v30 c2_i32_44
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_45 : BitVec 32 := 1#32
  let v60 : BitVec 32 := Scalar.muli v41 c1_i32_45
  let v61 : BitVec 32 := Scalar.addi v59 v60
  v61.toNat
def k0_dev3 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_58 : BitVec 32 := 4#32
  let v70 : BitVec 32 := Scalar.muli v19 c4_i32_58
  let v71 : BitVec 32 := Scalar.addi c0_i32_59 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_60 : BitVec 32 := 2#32
  let v72 : BitVec 32 := Scalar.muli v30 c2_i32_60
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_61 : BitVec 32 := 1#32
  let v74 : BitVec 32 := Scalar.muli v41 c1_i32_61
  let v75 : BitVec 32 := Scalar.addi v73 v74
  v75.toNat
def k0_dev4 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_73 : BitVec 32 := 4#32
  let v84 : BitVec 32 := Scalar.muli v19 c4_i32_73
  let v85 : BitVec 32 := Scalar.addi c0_i32_74 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_75 : BitVec 32 := 2#32
  let v86 : BitVec 32 := Scalar.muli v30 c2_i32_75
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_76 : BitVec 32 := 1#32
  let v88 : BitVec 32 := Scalar.muli v41 c1_i32_76
  let v89 : BitVec 32 := Scalar.addi v87 v88
  v89.toNat
-- ==== WOutSibReferenceIdeal.lean ====
abbrev S32x256x2048 : Shape := ⟨3, ![32, 256, 2048]⟩
abbrev S4x2x4x256x2048 : Shape := ⟨5, ![4, 2, 4, 256, 2048]⟩
abbrev S4x1x4x256x2048 : Shape := ⟨5, ![4, 1, 4, 256, 2048]⟩
abbrev S4x4x256x2048 : Shape := ⟨4, ![4, 4, 256, 2048]⟩
abbrev S8x4x256x2048 : Shape := ⟨4, ![8, 4, 256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S4x2x4x256x2048, .f32⟩
  | .hbm, ⟨2, _⟩ => ⟨S4x1x4x256x2048, .f32⟩
  | .hbm, ⟨3, _⟩ => ⟨S4x4x256x2048, .f32⟩
  | .hbm, ⟨4, _⟩ => ⟨S4x1x4x256x2048, .f32⟩
  | .hbm, ⟨5, _⟩ => ⟨S4x4x256x2048, .f32⟩
  | .hbm, ⟨6, _⟩ => ⟨S4x1x4x256x2048, .f32⟩
  | .hbm, ⟨7, _⟩ => ⟨S4x1x4x256x2048, .f32⟩
  | .hbm, ⟨8, _⟩ => ⟨S4x2x4x256x2048, .f32⟩
  | .hbm, ⟨9, _⟩ => ⟨S8x4x256x2048, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== WInPair.lean ====
abbrev S1024x8448 : Shape := ⟨2, ![1024, 8448]⟩
abbrev S2x1024x8448 : Shape := ⟨3, ![2, 1024, 8448]⟩
abbrev S4 : Shape := ⟨1, ![4]⟩
abbrev S1 : Shape := ⟨1, ![1]⟩
abbrev S_ : Shape := ⟨0, ![]⟩
abbrev S1x1024x8448 : Shape := ⟨3, ![1, 1024, 8448]⟩
abbrev S256x8448 : Shape := ⟨2, ![256, 8448]⟩
abbrev S1x256x8448 : Shape := ⟨3, ![1, 256, 8448]⟩

abbrev nBuf : Space → Nat
  | .hbm => 17
  | .vmem => 0
  | .smem => 0
  | _ => 0

abbrev bufTy : (tb : Table) → Fin (tcTables nBuf tb) → BufTy
  | .hbm, ⟨0, _⟩ => ⟨S1024x8448, .bf16⟩
  | .hbm, ⟨1, _⟩ => ⟨S2x1024x8448, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x1024x8448, .bf16⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x1024x8448, .bf16⟩
  | _, _ => ⟨S1024x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let c0_i32_30 : BitVec 32 := 0#32
  ![v8.toNat, 0, 0]
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let c0_i32_30 : BitVec 32 := 0#32
  ![v8.toNat, 0, 0]
def k0_dev1 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_25 : BitVec 32 := 4#32
  let v42 : BitVec 32 := Scalar.muli v19 c4_i32_25
  let v43 : BitVec 32 := Scalar.addi c0_i32_26 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_27 : BitVec 32 := 2#32
  let v44 : BitVec 32 := Scalar.muli v30 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_28 : BitVec 32 := 1#32
  let v46 : BitVec 32 := Scalar.muli v41 c1_i32_28
  let v47 : BitVec 32 := Scalar.addi v45 v46
  v47.toNat
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_42 : BitVec 32 := 0#32
  ![v8.toNat, 256, 0]
def k0_dev2 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_37 : BitVec 32 := 4#32
  let v56 : BitVec 32 := Scalar.muli v19 c4_i32_37
  let v57 : BitVec 32 := Scalar.addi c0_i32_38 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_39 : BitVec 32 := 2#32
  let v58 : BitVec 32 := Scalar.muli v30 c2_i32_39
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_40 : BitVec 32 := 1#32
  let v60 : BitVec 32 := Scalar.muli v41 c1_i32_40
  let v61 : BitVec 32 := Scalar.addi v59 v60
  v61.toNat
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_53 : BitVec 32 := 0#32
  ![v8.toNat, 512, 0]
def k0_dev3 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_48 : BitVec 32 := 4#32
  let v70 : BitVec 32 := Scalar.muli v19 c4_i32_48
  let v71 : BitVec 32 := Scalar.addi c0_i32_49 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_50 : BitVec 32 := 2#32
  let v72 : BitVec 32 := Scalar.muli v30 c2_i32_50
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_51 : BitVec 32 := 1#32
  let v74 : BitVec 32 := Scalar.muli v41 c1_i32_51
  let v75 : BitVec 32 := Scalar.addi v73 v74
  v75.toNat
def k0_off5 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_63 : BitVec 32 := 0#32
  ![v8.toNat, 768, 0]
def k0_dev4 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_58 : BitVec 32 := 4#32
  let v84 : BitVec 32 := Scalar.muli v19 c4_i32_58
  let v85 : BitVec 32 := Scalar.addi c0_i32_59 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_60 : BitVec 32 := 2#32
  let v86 : BitVec 32 := Scalar.muli v30 c2_i32_60
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_61 : BitVec 32 := 1#32
  let v88 : BitVec 32 := Scalar.muli v41 c1_i32_61
  let v89 : BitVec 32 := Scalar.addi v87 v88
  v89.toNat
def k0_off6 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v120 : BitVec 32 := Scalar.addi v8 c1_i32_81
  let c2_i32_82 : BitVec 32 := 2#32
  let c0_i32_83 : BitVec 32 := 0#32
  let v121 : BitVec 1 := Scalar.cmpi .eq c2_i32_82 c0_i32_83
  let c1_i32_84 : BitVec 32 := 1#32
  let v122 : BitVec 32 := Scalar.select v121 c1_i32_84 c2_i32_82
  let v123 : BitVec 32 := Scalar.remsi v120 v122
  let c0_i32_86 : BitVec 32 := 0#32
  let v125 : BitVec 1 := Scalar.cmpi .slt v123 c0_i32_86
  let c0_i32_87 : BitVec 32 := 0#32
  let v126 : BitVec 1 := Scalar.cmpi .slt v122 c0_i32_87
  let v127 : BitVec 1 := Scalar.xori v125 v126
  let c0_i32_85 : BitVec 32 := 0#32
  let v124 : BitVec 1 := Scalar.cmpi .ne v123 c0_i32_85
  let v128 : BitVec 1 := Scalar.andi v127 v124
  let v129 : BitVec 32 := Scalar.addi v123 v122
  let v130 : BitVec 32 := Scalar.select v128 v129 v123
  let c0_i32_94 : BitVec 32 := 0#32
  let c0_i32_95 : BitVec 32 := 0#32
  ![v130.toNat, 0, 0]
def k0_off7 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v120 : BitVec 32 := Scalar.addi v8 c1_i32_81
  let c2_i32_82 : BitVec 32 := 2#32
  let c0_i32_83 : BitVec 32 := 0#32
  let v121 : BitVec 1 := Scalar.cmpi .eq c2_i32_82 c0_i32_83
  let c1_i32_84 : BitVec 32 := 1#32
  let v122 : BitVec 32 := Scalar.select v121 c1_i32_84 c2_i32_82
  let v123 : BitVec 32 := Scalar.remsi v120 v122
  let c0_i32_86 : BitVec 32 := 0#32
  let v125 : BitVec 1 := Scalar.cmpi .slt v123 c0_i32_86
  let c0_i32_87 : BitVec 32 := 0#32
  let v126 : BitVec 1 := Scalar.cmpi .slt v122 c0_i32_87
  let v127 : BitVec 1 := Scalar.xori v125 v126
  let c0_i32_85 : BitVec 32 := 0#32
  let v124 : BitVec 1 := Scalar.cmpi .ne v123 c0_i32_85
  let v128 : BitVec 1 := Scalar.andi v127 v124
  let v129 : BitVec 32 := Scalar.addi v123 v122
  let v130 : BitVec 32 := Scalar.select v128 v129 v123
  let c0_i32_94 : BitVec 32 := 0#32
  let c0_i32_95 : BitVec 32 := 0#32
  ![v130.toNat, 0, 0]
def k0_off8 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v120 : BitVec 32 := Scalar.addi v8 c1_i32_81
  let c2_i32_82 : BitVec 32 := 2#32
  let c0_i32_83 : BitVec 32 := 0#32
  let v121 : BitVec 1 := Scalar.cmpi .eq c2_i32_82 c0_i32_83
  let c1_i32_84 : BitVec 32 := 1#32
  let v122 : BitVec 32 := Scalar.select v121 c1_i32_84 c2_i32_82
  let v123 : BitVec 32 := Scalar.remsi v120 v122
  let c0_i32_86 : BitVec 32 := 0#32
  let v125 : BitVec 1 := Scalar.cmpi .slt v123 c0_i32_86
  let c0_i32_87 : BitVec 32 := 0#32
  let v126 : BitVec 1 := Scalar.cmpi .slt v122 c0_i32_87
  let v127 : BitVec 1 := Scalar.xori v125 v126
  let c0_i32_85 : BitVec 32 := 0#32
  let v124 : BitVec 1 := Scalar.cmpi .ne v123 c0_i32_85
  let v128 : BitVec 1 := Scalar.andi v127 v124
  let v129 : BitVec 32 := Scalar.addi v123 v122
  let v130 : BitVec 32 := Scalar.select v128 v129 v123
  let c0_i32_107 : BitVec 32 := 0#32
  ![v130.toNat, 256, 0]
def k0_off9 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v120 : BitVec 32 := Scalar.addi v8 c1_i32_81
  let c2_i32_82 : BitVec 32 := 2#32
  let c0_i32_83 : BitVec 32 := 0#32
  let v121 : BitVec 1 := Scalar.cmpi .eq c2_i32_82 c0_i32_83
  let c1_i32_84 : BitVec 32 := 1#32
  let v122 : BitVec 32 := Scalar.select v121 c1_i32_84 c2_i32_82
  let v123 : BitVec 32 := Scalar.remsi v120 v122
  let c0_i32_86 : BitVec 32 := 0#32
  let v125 : BitVec 1 := Scalar.cmpi .slt v123 c0_i32_86
  let c0_i32_87 : BitVec 32 := 0#32
  let v126 : BitVec 1 := Scalar.cmpi .slt v122 c0_i32_87
  let v127 : BitVec 1 := Scalar.xori v125 v126
  let c0_i32_85 : BitVec 32 := 0#32
  let v124 : BitVec 1 := Scalar.cmpi .ne v123 c0_i32_85
  let v128 : BitVec 1 := Scalar.andi v127 v124
  let v129 : BitVec 32 := Scalar.addi v123 v122
  let v130 : BitVec 32 := Scalar.select v128 v129 v123
  let c0_i32_119 : BitVec 32 := 0#32
  ![v130.toNat, 512, 0]
def k0_off10 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v120 : BitVec 32 := Scalar.addi v8 c1_i32_81
  let c2_i32_82 : BitVec 32 := 2#32
  let c0_i32_83 : BitVec 32 := 0#32
  let v121 : BitVec 1 := Scalar.cmpi .eq c2_i32_82 c0_i32_83
  let c1_i32_84 : BitVec 32 := 1#32
  let v122 : BitVec 32 := Scalar.select v121 c1_i32_84 c2_i32_82
  let v123 : BitVec 32 := Scalar.remsi v120 v122
  let c0_i32_86 : BitVec 32 := 0#32
  let v125 : BitVec 1 := Scalar.cmpi .slt v123 c0_i32_86
  let c0_i32_87 : BitVec 32 := 0#32
  let v126 : BitVec 1 := Scalar.cmpi .slt v122 c0_i32_87
  let v127 : BitVec 1 := Scalar.xori v125 v126
  let c0_i32_85 : BitVec 32 := 0#32
  let v124 : BitVec 1 := Scalar.cmpi .ne v123 c0_i32_85
  let v128 : BitVec 1 := Scalar.andi v127 v124
  let v129 : BitVec 32 := Scalar.addi v123 v122
  let v130 : BitVec 32 := Scalar.select v128 v129 v123
  let c0_i32_131 : BitVec 32 := 0#32
  ![v130.toNat, 768, 0]
-- ==== WInPairIdeal.lean ====
abbrev S1024x8448 : Shape := ⟨2, ![1024, 8448]⟩
abbrev S2x1024x8448 : Shape := ⟨3, ![2, 1024, 8448]⟩
abbrev S4 : Shape := ⟨1, ![4]⟩
abbrev S1 : Shape := ⟨1, ![1]⟩
abbrev S_ : Shape := ⟨0, ![]⟩
abbrev S1x1024x8448 : Shape := ⟨3, ![1, 1024, 8448]⟩
abbrev S256x8448 : Shape := ⟨2, ![256, 8448]⟩
abbrev S1x256x8448 : Shape := ⟨3, ![1, 256, 8448]⟩

abbrev nBuf : Space → Nat
  | .hbm => 17
  | .vmem => 0
  | .smem => 0
  | _ => 0

abbrev bufTy : (tb : Table) → Fin (tcTables nBuf tb) → BufTy
  | .hbm, ⟨0, _⟩ => ⟨S1024x8448, .bf16⟩
  | .hbm, ⟨1, _⟩ => ⟨S2x1024x8448, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x1024x8448, .bf16⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x1024x8448, .bf16⟩
  | _, _ => ⟨S1024x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let c0_i32_30 : BitVec 32 := 0#32
  ![v8.toNat, 0, 0]
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let c0_i32_30 : BitVec 32 := 0#32
  ![v8.toNat, 0, 0]
def k0_dev1 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_25 : BitVec 32 := 4#32
  let v42 : BitVec 32 := Scalar.muli v19 c4_i32_25
  let v43 : BitVec 32 := Scalar.addi c0_i32_26 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_27 : BitVec 32 := 2#32
  let v44 : BitVec 32 := Scalar.muli v30 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_28 : BitVec 32 := 1#32
  let v46 : BitVec 32 := Scalar.muli v41 c1_i32_28
  let v47 : BitVec 32 := Scalar.addi v45 v46
  v47.toNat
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_42 : BitVec 32 := 0#32
  ![v8.toNat, 256, 0]
def k0_dev2 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_37 : BitVec 32 := 4#32
  let v56 : BitVec 32 := Scalar.muli v19 c4_i32_37
  let v57 : BitVec 32 := Scalar.addi c0_i32_38 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_39 : BitVec 32 := 2#32
  let v58 : BitVec 32 := Scalar.muli v30 c2_i32_39
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_40 : BitVec 32 := 1#32
  let v60 : BitVec 32 := Scalar.muli v41 c1_i32_40
  let v61 : BitVec 32 := Scalar.addi v59 v60
  v61.toNat
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_53 : BitVec 32 := 0#32
  ![v8.toNat, 512, 0]
def k0_dev3 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_48 : BitVec 32 := 4#32
  let v70 : BitVec 32 := Scalar.muli v19 c4_i32_48
  let v71 : BitVec 32 := Scalar.addi c0_i32_49 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_50 : BitVec 32 := 2#32
  let v72 : BitVec 32 := Scalar.muli v30 c2_i32_50
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_51 : BitVec 32 := 1#32
  let v74 : BitVec 32 := Scalar.muli v41 c1_i32_51
  let v75 : BitVec 32 := Scalar.addi v73 v74
  v75.toNat
def k0_off5 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_63 : BitVec 32 := 0#32
  ![v8.toNat, 768, 0]
def k0_dev4 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_58 : BitVec 32 := 4#32
  let v84 : BitVec 32 := Scalar.muli v19 c4_i32_58
  let v85 : BitVec 32 := Scalar.addi c0_i32_59 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_60 : BitVec 32 := 2#32
  let v86 : BitVec 32 := Scalar.muli v30 c2_i32_60
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_61 : BitVec 32 := 1#32
  let v88 : BitVec 32 := Scalar.muli v41 c1_i32_61
  let v89 : BitVec 32 := Scalar.addi v87 v88
  v89.toNat
def k0_off6 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v120 : BitVec 32 := Scalar.addi v8 c1_i32_81
  let c2_i32_82 : BitVec 32 := 2#32
  let c0_i32_83 : BitVec 32 := 0#32
  let v121 : BitVec 1 := Scalar.cmpi .eq c2_i32_82 c0_i32_83
  let c1_i32_84 : BitVec 32 := 1#32
  let v122 : BitVec 32 := Scalar.select v121 c1_i32_84 c2_i32_82
  let v123 : BitVec 32 := Scalar.remsi v120 v122
  let c0_i32_86 : BitVec 32 := 0#32
  let v125 : BitVec 1 := Scalar.cmpi .slt v123 c0_i32_86
  let c0_i32_87 : BitVec 32 := 0#32
  let v126 : BitVec 1 := Scalar.cmpi .slt v122 c0_i32_87
  let v127 : BitVec 1 := Scalar.xori v125 v126
  let c0_i32_85 : BitVec 32 := 0#32
  let v124 : BitVec 1 := Scalar.cmpi .ne v123 c0_i32_85
  let v128 : BitVec 1 := Scalar.andi v127 v124
  let v129 : BitVec 32 := Scalar.addi v123 v122
  let v130 : BitVec 32 := Scalar.select v128 v129 v123
  let c0_i32_94 : BitVec 32 := 0#32
  let c0_i32_95 : BitVec 32 := 0#32
  ![v130.toNat, 0, 0]
def k0_off7 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v120 : BitVec 32 := Scalar.addi v8 c1_i32_81
  let c2_i32_82 : BitVec 32 := 2#32
  let c0_i32_83 : BitVec 32 := 0#32
  let v121 : BitVec 1 := Scalar.cmpi .eq c2_i32_82 c0_i32_83
  let c1_i32_84 : BitVec 32 := 1#32
  let v122 : BitVec 32 := Scalar.select v121 c1_i32_84 c2_i32_82
  let v123 : BitVec 32 := Scalar.remsi v120 v122
  let c0_i32_86 : BitVec 32 := 0#32
  let v125 : BitVec 1 := Scalar.cmpi .slt v123 c0_i32_86
  let c0_i32_87 : BitVec 32 := 0#32
  let v126 : BitVec 1 := Scalar.cmpi .slt v122 c0_i32_87
  let v127 : BitVec 1 := Scalar.xori v125 v126
  let c0_i32_85 : BitVec 32 := 0#32
  let v124 : BitVec 1 := Scalar.cmpi .ne v123 c0_i32_85
  let v128 : BitVec 1 := Scalar.andi v127 v124
  let v129 : BitVec 32 := Scalar.addi v123 v122
  let v130 : BitVec 32 := Scalar.select v128 v129 v123
  let c0_i32_94 : BitVec 32 := 0#32
  let c0_i32_95 : BitVec 32 := 0#32
  ![v130.toNat, 0, 0]
def k0_off8 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v120 : BitVec 32 := Scalar.addi v8 c1_i32_81
  let c2_i32_82 : BitVec 32 := 2#32
  let c0_i32_83 : BitVec 32 := 0#32
  let v121 : BitVec 1 := Scalar.cmpi .eq c2_i32_82 c0_i32_83
  let c1_i32_84 : BitVec 32 := 1#32
  let v122 : BitVec 32 := Scalar.select v121 c1_i32_84 c2_i32_82
  let v123 : BitVec 32 := Scalar.remsi v120 v122
  let c0_i32_86 : BitVec 32 := 0#32
  let v125 : BitVec 1 := Scalar.cmpi .slt v123 c0_i32_86
  let c0_i32_87 : BitVec 32 := 0#32
  let v126 : BitVec 1 := Scalar.cmpi .slt v122 c0_i32_87
  let v127 : BitVec 1 := Scalar.xori v125 v126
  let c0_i32_85 : BitVec 32 := 0#32
  let v124 : BitVec 1 := Scalar.cmpi .ne v123 c0_i32_85
  let v128 : BitVec 1 := Scalar.andi v127 v124
  let v129 : BitVec 32 := Scalar.addi v123 v122
  let v130 : BitVec 32 := Scalar.select v128 v129 v123
  let c0_i32_107 : BitVec 32 := 0#32
  ![v130.toNat, 256, 0]
def k0_off9 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v120 : BitVec 32 := Scalar.addi v8 c1_i32_81
  let c2_i32_82 : BitVec 32 := 2#32
  let c0_i32_83 : BitVec 32 := 0#32
  let v121 : BitVec 1 := Scalar.cmpi .eq c2_i32_82 c0_i32_83
  let c1_i32_84 : BitVec 32 := 1#32
  let v122 : BitVec 32 := Scalar.select v121 c1_i32_84 c2_i32_82
  let v123 : BitVec 32 := Scalar.remsi v120 v122
  let c0_i32_86 : BitVec 32 := 0#32
  let v125 : BitVec 1 := Scalar.cmpi .slt v123 c0_i32_86
  let c0_i32_87 : BitVec 32 := 0#32
  let v126 : BitVec 1 := Scalar.cmpi .slt v122 c0_i32_87
  let v127 : BitVec 1 := Scalar.xori v125 v126
  let c0_i32_85 : BitVec 32 := 0#32
  let v124 : BitVec 1 := Scalar.cmpi .ne v123 c0_i32_85
  let v128 : BitVec 1 := Scalar.andi v127 v124
  let v129 : BitVec 32 := Scalar.addi v123 v122
  let v130 : BitVec 32 := Scalar.select v128 v129 v123
  let c0_i32_119 : BitVec 32 := 0#32
  ![v130.toNat, 512, 0]
def k0_off10 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v120 : BitVec 32 := Scalar.addi v8 c1_i32_81
  let c2_i32_82 : BitVec 32 := 2#32
  let c0_i32_83 : BitVec 32 := 0#32
  let v121 : BitVec 1 := Scalar.cmpi .eq c2_i32_82 c0_i32_83
  let c1_i32_84 : BitVec 32 := 1#32
  let v122 : BitVec 32 := Scalar.select v121 c1_i32_84 c2_i32_82
  let v123 : BitVec 32 := Scalar.remsi v120 v122
  let c0_i32_86 : BitVec 32 := 0#32
  let v125 : BitVec 1 := Scalar.cmpi .slt v123 c0_i32_86
  let c0_i32_87 : BitVec 32 := 0#32
  let v126 : BitVec 1 := Scalar.cmpi .slt v122 c0_i32_87
  let v127 : BitVec 1 := Scalar.xori v125 v126
  let c0_i32_85 : BitVec 32 := 0#32
  let v124 : BitVec 1 := Scalar.cmpi .ne v123 c0_i32_85
  let v128 : BitVec 1 := Scalar.andi v127 v124
  let v129 : BitVec 32 := Scalar.addi v123 v122
  let v130 : BitVec 32 := Scalar.select v128 v129 v123
  let c0_i32_131 : BitVec 32 := 0#32
  ![v130.toNat, 768, 0]
-- ==== WInPairReferenceIdeal.lean ====
abbrev S8192x8448 : Shape := ⟨2, ![8192, 8448]⟩
abbrev S4x1x2x1024x8448 : Shape := ⟨5, ![4, 1, 2, 1024, 8448]⟩
abbrev S4x2x2x1024x8448 : Shape := ⟨5, ![4, 2, 2, 1024, 8448]⟩
abbrev S16x1024x8448 : Shape := ⟨3, ![16, 1024, 8448]⟩

abbrev nBuf : Space → Nat
  | .hbm => 4
  | .vmem => 0
  | .smem => 0
  | _ => 0

abbrev bufTy : (tb : Table) → Fin (tcTables nBuf tb) → BufTy
  | .hbm, ⟨0, _⟩ => ⟨S8192x8448, .bf16⟩
  | .hbm, ⟨1, _⟩ => ⟨S4x1x2x1024x8448, .bf16⟩
  | .hbm, ⟨2, _⟩ => ⟨S4x2x2x1024x8448, .bf16⟩
  | .hbm, ⟨3, _⟩ => ⟨S16x1024x8448, .bf16⟩
  | _, _ => ⟨S8192x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== WOutPair.lean ====
abbrev S4x256x2048 : Shape := ⟨3, ![4, 256, 2048]⟩
abbrev S2x4x256x2048 : Shape := ⟨4, ![2, 4, 256, 2048]⟩
abbrev S4 : Shape := ⟨1, ![4]⟩
abbrev S1 : Shape := ⟨1, ![1]⟩
abbrev S_ : Shape := ⟨0, ![]⟩
abbrev S1x4x256x2048 : Shape := ⟨4, ![1, 4, 256, 2048]⟩
abbrev S1x256x2048 : Shape := ⟨3, ![1, 256, 2048]⟩
abbrev S1x1x256x2048 : Shape := ⟨4, ![1, 1, 256, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S2x4x256x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x4x256x2048, .bf16⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S2x4x256x2048, .bf16⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_call0_c_3 : Ref sig .tc := ⟨.hbm, 16, rfl⟩
abbrev main_v6 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let c0_i32_30 : BitVec 32 := 0#32
  let c0_i32_31 : BitVec 32 := 0#32
  ![v8.toNat, 0, 0, 0]
def k0_off2 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let c0_i32_30 : BitVec 32 := 0#32
  let c0_i32_31 : BitVec 32 := 0#32
  ![v8.toNat, 0, 0, 0]
def k0_dev1 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_25 : BitVec 32 := 4#32
  let v42 : BitVec 32 := Scalar.muli v19 c4_i32_25
  let v43 : BitVec 32 := Scalar.addi c0_i32_26 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_27 : BitVec 32 := 2#32
  let v44 : BitVec 32 := Scalar.muli v30 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_28 : BitVec 32 := 1#32
  let v46 : BitVec 32 := Scalar.muli v41 c1_i32_28
  let v47 : BitVec 32 := Scalar.addi v45 v46
  v47.toNat
def k0_off3 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_45 : BitVec 32 := 0#32
  let c0_i32_46 : BitVec 32 := 0#32
  ![v8.toNat, 1, 0, 0]
def k0_dev2 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_40 : BitVec 32 := 4#32
  let v56 : BitVec 32 := Scalar.muli v19 c4_i32_40
  let v57 : BitVec 32 := Scalar.addi c0_i32_41 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_42 : BitVec 32 := 2#32
  let v58 : BitVec 32 := Scalar.muli v30 c2_i32_42
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_43 : BitVec 32 := 1#32
  let v60 : BitVec 32 := Scalar.muli v41 c1_i32_43
  let v61 : BitVec 32 := Scalar.addi v59 v60
  v61.toNat
def k0_off4 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_60 : BitVec 32 := 0#32
  let c0_i32_61 : BitVec 32 := 0#32
  ![v8.toNat, 2, 0, 0]
def k0_dev3 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_55 : BitVec 32 := 4#32
  let v70 : BitVec 32 := Scalar.muli v19 c4_i32_55
  let v71 : BitVec 32 := Scalar.addi c0_i32_56 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_57 : BitVec 32 := 2#32
  let v72 : BitVec 32 := Scalar.muli v30 c2_i32_57
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_58 : BitVec 32 := 1#32
  let v74 : BitVec 32 := Scalar.muli v41 c1_i32_58
  let v75 : BitVec 32 := Scalar.addi v73 v74
  v75.toNat
def k0_off5 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_74 : BitVec 32 := 0#32
  let c0_i32_75 : BitVec 32 := 0#32
  ![v8.toNat, 3, 0, 0]
def k0_dev4 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_69 : BitVec 32 := 4#32
  let v84 : BitVec 32 := Scalar.muli v19 c4_i32_69
  let v85 : BitVec 32 := Scalar.addi c0_i32_70 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_71 : BitVec 32 := 2#32
  let v86 : BitVec 32 := Scalar.muli v30 c2_i32_71
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_72 : BitVec 32 := 1#32
  let v88 : BitVec 32 := Scalar.muli v41 c1_i32_72
  let v89 : BitVec 32 := Scalar.addi v87 v88
  v89.toNat
def k0_off6 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v120 : BitVec 32 := Scalar.addi v8 c1_i32_96
  let c2_i32_97 : BitVec 32 := 2#32
  let c0_i32_98 : BitVec 32 := 0#32
  let v121 : BitVec 1 := Scalar.cmpi .eq c2_i32_97 c0_i32_98
  let c1_i32_99 : BitVec 32 := 1#32
  let v122 : BitVec 32 := Scalar.select v121 c1_i32_99 c2_i32_97
  let v123 : BitVec 32 := Scalar.remsi v120 v122
  let c0_i32_101 : BitVec 32 := 0#32
  let v125 : BitVec 1 := Scalar.cmpi .slt v123 c0_i32_101
  let c0_i32_102 : BitVec 32 := 0#32
  let v126 : BitVec 1 := Scalar.cmpi .slt v122 c0_i32_102
  let v127 : BitVec 1 := Scalar.xori v125 v126
  let c0_i32_100 : BitVec 32 := 0#32
  let v124 : BitVec 1 := Scalar.cmpi .ne v123 c0_i32_100
  let v128 : BitVec 1 := Scalar.andi v127 v124
  let v129 : BitVec 32 := Scalar.addi v123 v122
  let v130 : BitVec 32 := Scalar.select v128 v129 v123
  let c0_i32_109 : BitVec 32 := 0#32
  let c0_i32_110 : BitVec 32 := 0#32
  let c0_i32_111 : BitVec 32 := 0#32
  ![v130.toNat, 0, 0, 0]
def k0_off7 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v120 : BitVec 32 := Scalar.addi v8 c1_i32_96
  let c2_i32_97 : BitVec 32 := 2#32
  let c0_i32_98 : BitVec 32 := 0#32
  let v121 : BitVec 1 := Scalar.cmpi .eq c2_i32_97 c0_i32_98
  let c1_i32_99 : BitVec 32 := 1#32
  let v122 : BitVec 32 := Scalar.select v121 c1_i32_99 c2_i32_97
  let v123 : BitVec 32 := Scalar.remsi v120 v122
  let c0_i32_101 : BitVec 32 := 0#32
  let v125 : BitVec 1 := Scalar.cmpi .slt v123 c0_i32_101
  let c0_i32_102 : BitVec 32 := 0#32
  let v126 : BitVec 1 := Scalar.cmpi .slt v122 c0_i32_102
  let v127 : BitVec 1 := Scalar.xori v125 v126
  let c0_i32_100 : BitVec 32 := 0#32
  let v124 : BitVec 1 := Scalar.cmpi .ne v123 c0_i32_100
  let v128 : BitVec 1 := Scalar.andi v127 v124
  let v129 : BitVec 32 := Scalar.addi v123 v122
  let v130 : BitVec 32 := Scalar.select v128 v129 v123
  let c0_i32_109 : BitVec 32 := 0#32
  let c0_i32_110 : BitVec 32 := 0#32
  let c0_i32_111 : BitVec 32 := 0#32
  ![v130.toNat, 0, 0, 0]
def k0_off8 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v120 : BitVec 32 := Scalar.addi v8 c1_i32_96
  let c2_i32_97 : BitVec 32 := 2#32
  let c0_i32_98 : BitVec 32 := 0#32
  let v121 : BitVec 1 := Scalar.cmpi .eq c2_i32_97 c0_i32_98
  let c1_i32_99 : BitVec 32 := 1#32
  let v122 : BitVec 32 := Scalar.select v121 c1_i32_99 c2_i32_97
  let v123 : BitVec 32 := Scalar.remsi v120 v122
  let c0_i32_101 : BitVec 32 := 0#32
  let v125 : BitVec 1 := Scalar.cmpi .slt v123 c0_i32_101
  let c0_i32_102 : BitVec 32 := 0#32
  let v126 : BitVec 1 := Scalar.cmpi .slt v122 c0_i32_102
  let v127 : BitVec 1 := Scalar.xori v125 v126
  let c0_i32_100 : BitVec 32 := 0#32
  let v124 : BitVec 1 := Scalar.cmpi .ne v123 c0_i32_100
  let v128 : BitVec 1 := Scalar.andi v127 v124
  let v129 : BitVec 32 := Scalar.addi v123 v122
  let v130 : BitVec 32 := Scalar.select v128 v129 v123
  let c0_i32_125 : BitVec 32 := 0#32
  let c0_i32_126 : BitVec 32 := 0#32
  ![v130.toNat, 1, 0, 0]
def k0_off9 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v120 : BitVec 32 := Scalar.addi v8 c1_i32_96
  let c2_i32_97 : BitVec 32 := 2#32
  let c0_i32_98 : BitVec 32 := 0#32
  let v121 : BitVec 1 := Scalar.cmpi .eq c2_i32_97 c0_i32_98
  let c1_i32_99 : BitVec 32 := 1#32
  let v122 : BitVec 32 := Scalar.select v121 c1_i32_99 c2_i32_97
  let v123 : BitVec 32 := Scalar.remsi v120 v122
  let c0_i32_101 : BitVec 32 := 0#32
  let v125 : BitVec 1 := Scalar.cmpi .slt v123 c0_i32_101
  let c0_i32_102 : BitVec 32 := 0#32
  let v126 : BitVec 1 := Scalar.cmpi .slt v122 c0_i32_102
  let v127 : BitVec 1 := Scalar.xori v125 v126
  let c0_i32_100 : BitVec 32 := 0#32
  let v124 : BitVec 1 := Scalar.cmpi .ne v123 c0_i32_100
  let v128 : BitVec 1 := Scalar.andi v127 v124
  let v129 : BitVec 32 := Scalar.addi v123 v122
  let v130 : BitVec 32 := Scalar.select v128 v129 v123
  let c0_i32_140 : BitVec 32 := 0#32
  let c0_i32_141 : BitVec 32 := 0#32
  ![v130.toNat, 2, 0, 0]
def k0_off10 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v120 : BitVec 32 := Scalar.addi v8 c1_i32_96
  let c2_i32_97 : BitVec 32 := 2#32
  let c0_i32_98 : BitVec 32 := 0#32
  let v121 : BitVec 1 := Scalar.cmpi .eq c2_i32_97 c0_i32_98
  let c1_i32_99 : BitVec 32 := 1#32
  let v122 : BitVec 32 := Scalar.select v121 c1_i32_99 c2_i32_97
  let v123 : BitVec 32 := Scalar.remsi v120 v122
  let c0_i32_101 : BitVec 32 := 0#32
  let v125 : BitVec 1 := Scalar.cmpi .slt v123 c0_i32_101
  let c0_i32_102 : BitVec 32 := 0#32
  let v126 : BitVec 1 := Scalar.cmpi .slt v122 c0_i32_102
  let v127 : BitVec 1 := Scalar.xori v125 v126
  let c0_i32_100 : BitVec 32 := 0#32
  let v124 : BitVec 1 := Scalar.cmpi .ne v123 c0_i32_100
  let v128 : BitVec 1 := Scalar.andi v127 v124
  let v129 : BitVec 32 := Scalar.addi v123 v122
  let v130 : BitVec 32 := Scalar.select v128 v129 v123
  let c0_i32_155 : BitVec 32 := 0#32
  let c0_i32_156 : BitVec 32 := 0#32
  ![v130.toNat, 3, 0, 0]
-- ==== WOutPairReferenceIdeal.lean ====
abbrev S32x256x2048 : Shape := ⟨3, ![32, 256, 2048]⟩
abbrev S4x1x2x4x256x2048 : Shape := ⟨6, ![4, 1, 2, 4, 256, 2048]⟩
abbrev S4x2x2x4x256x2048 : Shape := ⟨6, ![4, 2, 2, 4, 256, 2048]⟩
abbrev S16x4x256x2048 : Shape := ⟨4, ![16, 4, 256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S32x256x2048, .bf16⟩
  | .hbm, ⟨1, _⟩ => ⟨S4x1x2x4x256x2048, .bf16⟩
  | .hbm, ⟨2, _⟩ => ⟨S4x2x2x4x256x2048, .bf16⟩
  | .hbm, ⟨3, _⟩ => ⟨S16x4x256x2048, .bf16⟩
  | _, _ => ⟨S32x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== WInShare.lean ====
abbrev S1024x2084 : Shape := ⟨2, ![1024, 2084]⟩
abbrev S2x1024x2084 : Shape := ⟨3, ![2, 1024, 2084]⟩
abbrev S8 : Shape := ⟨1, ![8]⟩
abbrev S1 : Shape := ⟨1, ![1]⟩
abbrev S_ : Shape := ⟨0, ![]⟩
abbrev S1x1024x2084 : Shape := ⟨3, ![1, 1024, 2084]⟩
abbrev S128x2084 : Shape := ⟨2, ![128, 2084]⟩

abbrev nBuf : Space → Nat
  | .hbm => 17
  | .vmem => 0
  | .smem => 0
  | _ => 0

abbrev bufTy : (tb : Table) → Fin (tcTables nBuf tb) → BufTy
  | .hbm, ⟨0, _⟩ => ⟨S1024x2084, .f32⟩
  | .hbm, ⟨1, _⟩ => ⟨S2x1024x2084, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x1024x2084, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x1024x2084, .f32⟩
  | _, _ => ⟨S1024x2084, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let c0_i32_30 : BitVec 32 := 0#32
  ![v8.toNat, 0, 0]
def k0_dev1 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_25 : BitVec 32 := 4#32
  let v42 : BitVec 32 := Scalar.muli v19 c4_i32_25
  let v43 : BitVec 32 := Scalar.addi c0_i32_26 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_27 : BitVec 32 := 2#32
  let v44 : BitVec 32 := Scalar.muli v30 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_28 : BitVec 32 := 1#32
  let v46 : BitVec 32 := Scalar.muli v41 c1_i32_28
  let v47 : BitVec 32 := Scalar.addi v45 v46
  v47.toNat
def k0_dev2 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_37 : BitVec 32 := 4#32
  let v56 : BitVec 32 := Scalar.muli v19 c4_i32_37
  let v57 : BitVec 32 := Scalar.addi c0_i32_38 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_39 : BitVec 32 := 2#32
  let v58 : BitVec 32 := Scalar.muli v30 c2_i32_39
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_40 : BitVec 32 := 1#32
  let v60 : BitVec 32 := Scalar.muli v41 c1_i32_40
  let v61 : BitVec 32 := Scalar.addi v59 v60
  v61.toNat
def k0_dev3 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_48 : BitVec 32 := 4#32
  let v70 : BitVec 32 := Scalar.muli v19 c4_i32_48
  let v71 : BitVec 32 := Scalar.addi c0_i32_49 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_50 : BitVec 32 := 2#32
  let v72 : BitVec 32 := Scalar.muli v30 c2_i32_50
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_51 : BitVec 32 := 1#32
  let v74 : BitVec 32 := Scalar.muli v41 c1_i32_51
  let v75 : BitVec 32 := Scalar.addi v73 v74
  v75.toNat
def k0_dev4 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_58 : BitVec 32 := 4#32
  let v84 : BitVec 32 := Scalar.muli v19 c4_i32_58
  let v85 : BitVec 32 := Scalar.addi c0_i32_59 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_60 : BitVec 32 := 2#32
  let v86 : BitVec 32 := Scalar.muli v30 c2_i32_60
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_61 : BitVec 32 := 1#32
  let v88 : BitVec 32 := Scalar.muli v41 c1_i32_61
  let v89 : BitVec 32 := Scalar.addi v87 v88
  v89.toNat
def k0_dev5 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_69 : BitVec 32 := 4#32
  let v98 : BitVec 32 := Scalar.muli v19 c4_i32_69
  let v99 : BitVec 32 := Scalar.addi c0_i32_70 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_71 : BitVec 32 := 2#32
  let v100 : BitVec 32 := Scalar.muli v30 c2_i32_71
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_72 : BitVec 32 := 1#32
  let v102 : BitVec 32 := Scalar.muli v41 c1_i32_72
  let v103 : BitVec 32 := Scalar.addi v101 v102
  v103.toNat
def k0_dev6 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_79 : BitVec 32 := 4#32
  let v112 : BitVec 32 := Scalar.muli v19 c4_i32_79
  let v113 : BitVec 32 := Scalar.addi c0_i32_80 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_81 : BitVec 32 := 2#32
  let v114 : BitVec 32 := Scalar.muli v30 c2_i32_81
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_82 : BitVec 32 := 1#32
  let v116 : BitVec 32 := Scalar.muli v41 c1_i32_82
  let v117 : BitVec 32 := Scalar.addi v115 v116
  v117.toNat
def k0_dev7 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_89 : BitVec 32 := 4#32
  let v126 : BitVec 32 := Scalar.muli v19 c4_i32_89
  let v127 : BitVec 32 := Scalar.addi c0_i32_90 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_91 : BitVec 32 := 2#32
  let v128 : BitVec 32 := Scalar.muli v30 c2_i32_91
  let v129 : BitVec 32 := Scalar.addi v127 v128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_92 : BitVec 32 := 1#32
  let v130 : BitVec 32 := Scalar.muli v41 c1_i32_92
  let v131 : BitVec 32 := Scalar.addi v129 v130
  v131.toNat
def k0_dev8 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_99 : BitVec 32 := 4#32
  let v140 : BitVec 32 := Scalar.muli v19 c4_i32_99
  let v141 : BitVec 32 := Scalar.addi c0_i32_100 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_101 : BitVec 32 := 2#32
  let v142 : BitVec 32 := Scalar.muli v30 c2_i32_101
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_102 : BitVec 32 := 1#32
  let v144 : BitVec 32 := Scalar.muli v41 c1_i32_102
  let v145 : BitVec 32 := Scalar.addi v143 v144
  v145.toNat
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v176 : BitVec 32 := Scalar.addi v8 c1_i32_122
  let c2_i32_123 : BitVec 32 := 2#32
  let c0_i32_124 : BitVec 32 := 0#32
  let v177 : BitVec 1 := Scalar.cmpi .eq c2_i32_123 c0_i32_124
  let c1_i32_125 : BitVec 32 := 1#32
  let v178 : BitVec 32 := Scalar.select v177 c1_i32_125 c2_i32_123
  let v179 : BitVec 32 := Scalar.remsi v176 v178
  let c0_i32_127 : BitVec 32 := 0#32
  let v181 : BitVec 1 := Scalar.cmpi .slt v179 c0_i32_127
  let c0_i32_128 : BitVec 32 := 0#32
  let v182 : BitVec 1 := Scalar.cmpi .slt v178 c0_i32_128
  let v183 : BitVec 1 := Scalar.xori v181 v182
  let c0_i32_126 : BitVec 32 := 0#32
  let v180 : BitVec 1 := Scalar.cmpi .ne v179 c0_i32_126
  let v184 : BitVec 1 := Scalar.andi v183 v180
  let v185 : BitVec 32 := Scalar.addi v179 v178
  let v186 : BitVec 32 := Scalar.select v184 v185 v179
  let c0_i32_135 : BitVec 32 := 0#32
  let c0_i32_136 : BitVec 32 := 0#32
  ![v186.toNat, 0, 0]
-- ==== WInShareIdeal.lean ====
abbrev S1024x2084 : Shape := ⟨2, ![1024, 2084]⟩
abbrev S2x1024x2084 : Shape := ⟨3, ![2, 1024, 2084]⟩
abbrev S8 : Shape := ⟨1, ![8]⟩
abbrev S1 : Shape := ⟨1, ![1]⟩
abbrev S_ : Shape := ⟨0, ![]⟩
abbrev S1x1024x2084 : Shape := ⟨3, ![1, 1024, 2084]⟩
abbrev S128x2084 : Shape := ⟨2, ![128, 2084]⟩

abbrev nBuf : Space → Nat
  | .hbm => 17
  | .vmem => 0
  | .smem => 0
  | _ => 0

abbrev bufTy : (tb : Table) → Fin (tcTables nBuf tb) → BufTy
  | .hbm, ⟨0, _⟩ => ⟨S1024x2084, .f32⟩
  | .hbm, ⟨1, _⟩ => ⟨S2x1024x2084, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x1024x2084, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x1024x2084, .f32⟩
  | _, _ => ⟨S1024x2084, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let c0_i32_30 : BitVec 32 := 0#32
  ![v8.toNat, 0, 0]
def k0_dev1 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_25 : BitVec 32 := 4#32
  let v42 : BitVec 32 := Scalar.muli v19 c4_i32_25
  let v43 : BitVec 32 := Scalar.addi c0_i32_26 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_27 : BitVec 32 := 2#32
  let v44 : BitVec 32 := Scalar.muli v30 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_28 : BitVec 32 := 1#32
  let v46 : BitVec 32 := Scalar.muli v41 c1_i32_28
  let v47 : BitVec 32 := Scalar.addi v45 v46
  v47.toNat
def k0_dev2 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_37 : BitVec 32 := 4#32
  let v56 : BitVec 32 := Scalar.muli v19 c4_i32_37
  let v57 : BitVec 32 := Scalar.addi c0_i32_38 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_39 : BitVec 32 := 2#32
  let v58 : BitVec 32 := Scalar.muli v30 c2_i32_39
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_40 : BitVec 32 := 1#32
  let v60 : BitVec 32 := Scalar.muli v41 c1_i32_40
  let v61 : BitVec 32 := Scalar.addi v59 v60
  v61.toNat
def k0_dev3 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_48 : BitVec 32 := 4#32
  let v70 : BitVec 32 := Scalar.muli v19 c4_i32_48
  let v71 : BitVec 32 := Scalar.addi c0_i32_49 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_50 : BitVec 32 := 2#32
  let v72 : BitVec 32 := Scalar.muli v30 c2_i32_50
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_51 : BitVec 32 := 1#32
  let v74 : BitVec 32 := Scalar.muli v41 c1_i32_51
  let v75 : BitVec 32 := Scalar.addi v73 v74
  v75.toNat
def k0_dev4 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_58 : BitVec 32 := 4#32
  let v84 : BitVec 32 := Scalar.muli v19 c4_i32_58
  let v85 : BitVec 32 := Scalar.addi c0_i32_59 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_60 : BitVec 32 := 2#32
  let v86 : BitVec 32 := Scalar.muli v30 c2_i32_60
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_61 : BitVec 32 := 1#32
  let v88 : BitVec 32 := Scalar.muli v41 c1_i32_61
  let v89 : BitVec 32 := Scalar.addi v87 v88
  v89.toNat
def k0_dev5 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_69 : BitVec 32 := 4#32
  let v98 : BitVec 32 := Scalar.muli v19 c4_i32_69
  let v99 : BitVec 32 := Scalar.addi c0_i32_70 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_71 : BitVec 32 := 2#32
  let v100 : BitVec 32 := Scalar.muli v30 c2_i32_71
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_72 : BitVec 32 := 1#32
  let v102 : BitVec 32 := Scalar.muli v41 c1_i32_72
  let v103 : BitVec 32 := Scalar.addi v101 v102
  v103.toNat
def k0_dev6 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_79 : BitVec 32 := 4#32
  let v112 : BitVec 32 := Scalar.muli v19 c4_i32_79
  let v113 : BitVec 32 := Scalar.addi c0_i32_80 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_81 : BitVec 32 := 2#32
  let v114 : BitVec 32 := Scalar.muli v30 c2_i32_81
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_82 : BitVec 32 := 1#32
  let v116 : BitVec 32 := Scalar.muli v41 c1_i32_82
  let v117 : BitVec 32 := Scalar.addi v115 v116
  v117.toNat
def k0_dev7 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_89 : BitVec 32 := 4#32
  let v126 : BitVec 32 := Scalar.muli v19 c4_i32_89
  let v127 : BitVec 32 := Scalar.addi c0_i32_90 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_91 : BitVec 32 := 2#32
  let v128 : BitVec 32 := Scalar.muli v30 c2_i32_91
  let v129 : BitVec 32 := Scalar.addi v127 v128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_92 : BitVec 32 := 1#32
  let v130 : BitVec 32 := Scalar.muli v41 c1_i32_92
  let v131 : BitVec 32 := Scalar.addi v129 v130
  v131.toNat
def k0_dev8 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_99 : BitVec 32 := 4#32
  let v140 : BitVec 32 := Scalar.muli v19 c4_i32_99
  let v141 : BitVec 32 := Scalar.addi c0_i32_100 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_101 : BitVec 32 := 2#32
  let v142 : BitVec 32 := Scalar.muli v30 c2_i32_101
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_102 : BitVec 32 := 1#32
  let v144 : BitVec 32 := Scalar.muli v41 c1_i32_102
  let v145 : BitVec 32 := Scalar.addi v143 v144
  v145.toNat
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v176 : BitVec 32 := Scalar.addi v8 c1_i32_122
  let c2_i32_123 : BitVec 32 := 2#32
  let c0_i32_124 : BitVec 32 := 0#32
  let v177 : BitVec 1 := Scalar.cmpi .eq c2_i32_123 c0_i32_124
  let c1_i32_125 : BitVec 32 := 1#32
  let v178 : BitVec 32 := Scalar.select v177 c1_i32_125 c2_i32_123
  let v179 : BitVec 32 := Scalar.remsi v176 v178
  let c0_i32_127 : BitVec 32 := 0#32
  let v181 : BitVec 1 := Scalar.cmpi .slt v179 c0_i32_127
  let c0_i32_128 : BitVec 32 := 0#32
  let v182 : BitVec 1 := Scalar.cmpi .slt v178 c0_i32_128
  let v183 : BitVec 1 := Scalar.xori v181 v182
  let c0_i32_126 : BitVec 32 := 0#32
  let v180 : BitVec 1 := Scalar.cmpi .ne v179 c0_i32_126
  let v184 : BitVec 1 := Scalar.andi v183 v180
  let v185 : BitVec 32 := Scalar.addi v179 v178
  let v186 : BitVec 32 := Scalar.select v184 v185 v179
  let c0_i32_135 : BitVec 32 := 0#32
  let c0_i32_136 : BitVec 32 := 0#32
  ![v186.toNat, 0, 0]
-- ==== WInShareReferenceIdeal.lean ====
abbrev S8192x2084 : Shape := ⟨2, ![8192, 2084]⟩
abbrev S4x1x2x1024x2084 : Shape := ⟨5, ![4, 1, 2, 1024, 2084]⟩
abbrev S4x2x2x1024x2084 : Shape := ⟨5, ![4, 2, 2, 1024, 2084]⟩
abbrev S16x1024x2084 : Shape := ⟨3, ![16, 1024, 2084]⟩

abbrev nBuf : Space → Nat
  | .hbm => 4
  | .vmem => 0
  | .smem => 0
  | _ => 0

abbrev bufTy : (tb : Table) → Fin (tcTables nBuf tb) → BufTy
  | .hbm, ⟨0, _⟩ => ⟨S8192x2084, .f32⟩
  | .hbm, ⟨1, _⟩ => ⟨S4x1x2x1024x2084, .f32⟩
  | .hbm, ⟨2, _⟩ => ⟨S4x2x2x1024x2084, .f32⟩
  | .hbm, ⟨3, _⟩ => ⟨S16x1024x2084, .f32⟩
  | _, _ => ⟨S8192x2084, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== WOutShare.lean ====
abbrev S256x2048 : Shape := ⟨2, ![256, 2048]⟩
abbrev S2x256x2048 : Shape := ⟨3, ![2, 256, 2048]⟩
abbrev S8 : Shape := ⟨1, ![8]⟩
abbrev S1 : Shape := ⟨1, ![1]⟩
abbrev S_ : Shape := ⟨0, ![]⟩
abbrev S1x256x2048 : Shape := ⟨3, ![1, 256, 2048]⟩
abbrev S32x2048 : Shape := ⟨2, ![32, 2048]⟩

abbrev nBuf : Space → Nat
  | .hbm => 17
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2x256x2048, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x256x2048, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let c0_i32_30 : BitVec 32 := 0#32
  ![v8.toNat, 0, 0]
def k0_dev1 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_25 : BitVec 32 := 4#32
  let v42 : BitVec 32 := Scalar.muli v19 c4_i32_25
  let v43 : BitVec 32 := Scalar.addi c0_i32_26 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_27 : BitVec 32 := 2#32
  let v44 : BitVec 32 := Scalar.muli v30 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_28 : BitVec 32 := 1#32
  let v46 : BitVec 32 := Scalar.muli v41 c1_i32_28
  let v47 : BitVec 32 := Scalar.addi v45 v46
  v47.toNat
def k0_dev2 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_37 : BitVec 32 := 4#32
  let v56 : BitVec 32 := Scalar.muli v19 c4_i32_37
  let v57 : BitVec 32 := Scalar.addi c0_i32_38 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_39 : BitVec 32 := 2#32
  let v58 : BitVec 32 := Scalar.muli v30 c2_i32_39
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_40 : BitVec 32 := 1#32
  let v60 : BitVec 32 := Scalar.muli v41 c1_i32_40
  let v61 : BitVec 32 := Scalar.addi v59 v60
  v61.toNat
def k0_dev3 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_48 : BitVec 32 := 4#32
  let v70 : BitVec 32 := Scalar.muli v19 c4_i32_48
  let v71 : BitVec 32 := Scalar.addi c0_i32_49 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_50 : BitVec 32 := 2#32
  let v72 : BitVec 32 := Scalar.muli v30 c2_i32_50
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_51 : BitVec 32 := 1#32
  let v74 : BitVec 32 := Scalar.muli v41 c1_i32_51
  let v75 : BitVec 32 := Scalar.addi v73 v74
  v75.toNat
def k0_dev4 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_58 : BitVec 32 := 4#32
  let v84 : BitVec 32 := Scalar.muli v19 c4_i32_58
  let v85 : BitVec 32 := Scalar.addi c0_i32_59 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_60 : BitVec 32 := 2#32
  let v86 : BitVec 32 := Scalar.muli v30 c2_i32_60
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_61 : BitVec 32 := 1#32
  let v88 : BitVec 32 := Scalar.muli v41 c1_i32_61
  let v89 : BitVec 32 := Scalar.addi v87 v88
  v89.toNat
def k0_dev5 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_69 : BitVec 32 := 4#32
  let v98 : BitVec 32 := Scalar.muli v19 c4_i32_69
  let v99 : BitVec 32 := Scalar.addi c0_i32_70 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_71 : BitVec 32 := 2#32
  let v100 : BitVec 32 := Scalar.muli v30 c2_i32_71
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_72 : BitVec 32 := 1#32
  let v102 : BitVec 32 := Scalar.muli v41 c1_i32_72
  let v103 : BitVec 32 := Scalar.addi v101 v102
  v103.toNat
def k0_dev6 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_79 : BitVec 32 := 4#32
  let v112 : BitVec 32 := Scalar.muli v19 c4_i32_79
  let v113 : BitVec 32 := Scalar.addi c0_i32_80 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_81 : BitVec 32 := 2#32
  let v114 : BitVec 32 := Scalar.muli v30 c2_i32_81
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_82 : BitVec 32 := 1#32
  let v116 : BitVec 32 := Scalar.muli v41 c1_i32_82
  let v117 : BitVec 32 := Scalar.addi v115 v116
  v117.toNat
def k0_dev7 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_89 : BitVec 32 := 4#32
  let v126 : BitVec 32 := Scalar.muli v19 c4_i32_89
  let v127 : BitVec 32 := Scalar.addi c0_i32_90 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_91 : BitVec 32 := 2#32
  let v128 : BitVec 32 := Scalar.muli v30 c2_i32_91
  let v129 : BitVec 32 := Scalar.addi v127 v128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_92 : BitVec 32 := 1#32
  let v130 : BitVec 32 := Scalar.muli v41 c1_i32_92
  let v131 : BitVec 32 := Scalar.addi v129 v130
  v131.toNat
def k0_dev8 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_99 : BitVec 32 := 4#32
  let v140 : BitVec 32 := Scalar.muli v19 c4_i32_99
  let v141 : BitVec 32 := Scalar.addi c0_i32_100 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_101 : BitVec 32 := 2#32
  let v142 : BitVec 32 := Scalar.muli v30 c2_i32_101
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_102 : BitVec 32 := 1#32
  let v144 : BitVec 32 := Scalar.muli v41 c1_i32_102
  let v145 : BitVec 32 := Scalar.addi v143 v144
  v145.toNat
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v176 : BitVec 32 := Scalar.addi v8 c1_i32_122
  let c2_i32_123 : BitVec 32 := 2#32
  let c0_i32_124 : BitVec 32 := 0#32
  let v177 : BitVec 1 := Scalar.cmpi .eq c2_i32_123 c0_i32_124
  let c1_i32_125 : BitVec 32 := 1#32
  let v178 : BitVec 32 := Scalar.select v177 c1_i32_125 c2_i32_123
  let v179 : BitVec 32 := Scalar.remsi v176 v178
  let c0_i32_127 : BitVec 32 := 0#32
  let v181 : BitVec 1 := Scalar.cmpi .slt v179 c0_i32_127
  let c0_i32_128 : BitVec 32 := 0#32
  let v182 : BitVec 1 := Scalar.cmpi .slt v178 c0_i32_128
  let v183 : BitVec 1 := Scalar.xori v181 v182
  let c0_i32_126 : BitVec 32 := 0#32
  let v180 : BitVec 1 := Scalar.cmpi .ne v179 c0_i32_126
  let v184 : BitVec 1 := Scalar.andi v183 v180
  let v185 : BitVec 32 := Scalar.addi v179 v178
  let v186 : BitVec 32 := Scalar.select v184 v185 v179
  let c0_i32_135 : BitVec 32 := 0#32
  let c0_i32_136 : BitVec 32 := 0#32
  ![v186.toNat, 0, 0]
-- ==== WOutShareIdeal.lean ====
abbrev S256x2048 : Shape := ⟨2, ![256, 2048]⟩
abbrev S2x256x2048 : Shape := ⟨3, ![2, 256, 2048]⟩
abbrev S8 : Shape := ⟨1, ![8]⟩
abbrev S1 : Shape := ⟨1, ![1]⟩
abbrev S_ : Shape := ⟨0, ![]⟩
abbrev S1x256x2048 : Shape := ⟨3, ![1, 256, 2048]⟩
abbrev S32x2048 : Shape := ⟨2, ![32, 2048]⟩

abbrev nBuf : Space → Nat
  | .hbm => 17
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2x256x2048, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x256x2048, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let c0_i32_30 : BitVec 32 := 0#32
  ![v8.toNat, 0, 0]
def k0_dev1 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_25 : BitVec 32 := 4#32
  let v42 : BitVec 32 := Scalar.muli v19 c4_i32_25
  let v43 : BitVec 32 := Scalar.addi c0_i32_26 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_27 : BitVec 32 := 2#32
  let v44 : BitVec 32 := Scalar.muli v30 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_28 : BitVec 32 := 1#32
  let v46 : BitVec 32 := Scalar.muli v41 c1_i32_28
  let v47 : BitVec 32 := Scalar.addi v45 v46
  v47.toNat
def k0_dev2 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_37 : BitVec 32 := 4#32
  let v56 : BitVec 32 := Scalar.muli v19 c4_i32_37
  let v57 : BitVec 32 := Scalar.addi c0_i32_38 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_39 : BitVec 32 := 2#32
  let v58 : BitVec 32 := Scalar.muli v30 c2_i32_39
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_40 : BitVec 32 := 1#32
  let v60 : BitVec 32 := Scalar.muli v41 c1_i32_40
  let v61 : BitVec 32 := Scalar.addi v59 v60
  v61.toNat
def k0_dev3 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_48 : BitVec 32 := 4#32
  let v70 : BitVec 32 := Scalar.muli v19 c4_i32_48
  let v71 : BitVec 32 := Scalar.addi c0_i32_49 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_50 : BitVec 32 := 2#32
  let v72 : BitVec 32 := Scalar.muli v30 c2_i32_50
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_51 : BitVec 32 := 1#32
  let v74 : BitVec 32 := Scalar.muli v41 c1_i32_51
  let v75 : BitVec 32 := Scalar.addi v73 v74
  v75.toNat
def k0_dev4 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_58 : BitVec 32 := 4#32
  let v84 : BitVec 32 := Scalar.muli v19 c4_i32_58
  let v85 : BitVec 32 := Scalar.addi c0_i32_59 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_60 : BitVec 32 := 2#32
  let v86 : BitVec 32 := Scalar.muli v30 c2_i32_60
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_61 : BitVec 32 := 1#32
  let v88 : BitVec 32 := Scalar.muli v41 c1_i32_61
  let v89 : BitVec 32 := Scalar.addi v87 v88
  v89.toNat
def k0_dev5 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_69 : BitVec 32 := 4#32
  let v98 : BitVec 32 := Scalar.muli v19 c4_i32_69
  let v99 : BitVec 32 := Scalar.addi c0_i32_70 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_71 : BitVec 32 := 2#32
  let v100 : BitVec 32 := Scalar.muli v30 c2_i32_71
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_72 : BitVec 32 := 1#32
  let v102 : BitVec 32 := Scalar.muli v41 c1_i32_72
  let v103 : BitVec 32 := Scalar.addi v101 v102
  v103.toNat
def k0_dev6 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_79 : BitVec 32 := 4#32
  let v112 : BitVec 32 := Scalar.muli v19 c4_i32_79
  let v113 : BitVec 32 := Scalar.addi c0_i32_80 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_81 : BitVec 32 := 2#32
  let v114 : BitVec 32 := Scalar.muli v30 c2_i32_81
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_82 : BitVec 32 := 1#32
  let v116 : BitVec 32 := Scalar.muli v41 c1_i32_82
  let v117 : BitVec 32 := Scalar.addi v115 v116
  v117.toNat
def k0_dev7 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_89 : BitVec 32 := 4#32
  let v126 : BitVec 32 := Scalar.muli v19 c4_i32_89
  let v127 : BitVec 32 := Scalar.addi c0_i32_90 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_91 : BitVec 32 := 2#32
  let v128 : BitVec 32 := Scalar.muli v30 c2_i32_91
  let v129 : BitVec 32 := Scalar.addi v127 v128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_92 : BitVec 32 := 1#32
  let v130 : BitVec 32 := Scalar.muli v41 c1_i32_92
  let v131 : BitVec 32 := Scalar.addi v129 v130
  v131.toNat
def k0_dev8 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.addi v2 c0_i32
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c4_i32_99 : BitVec 32 := 4#32
  let v140 : BitVec 32 := Scalar.muli v19 c4_i32_99
  let v141 : BitVec 32 := Scalar.addi c0_i32_100 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v20 : BitVec 32 := Scalar.addi v5 c0_i32_9
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c2_i32_101 : BitVec 32 := 2#32
  let v142 : BitVec 32 := Scalar.muli v30 c2_i32_101
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v31 : BitVec 32 := Scalar.addi v8 c1_i32_16
  let c2_i32_17 : BitVec 32 := 2#32
  let c0_i32_18 : BitVec 32 := 0#32
  let v32 : BitVec 1 := Scalar.cmpi .eq c2_i32_17 c0_i32_18
  let c1_i32_19 : BitVec 32 := 1#32
  let v33 : BitVec 32 := Scalar.select v32 c1_i32_19 c2_i32_17
  let v34 : BitVec 32 := Scalar.remsi v31 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c1_i32_102 : BitVec 32 := 1#32
  let v144 : BitVec 32 := Scalar.muli v41 c1_i32_102
  let v145 : BitVec 32 := Scalar.addi v143 v144
  v145.toNat
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v176 : BitVec 32 := Scalar.addi v8 c1_i32_122
  let c2_i32_123 : BitVec 32 := 2#32
  let c0_i32_124 : BitVec 32 := 0#32
  let v177 : BitVec 1 := Scalar.cmpi .eq c2_i32_123 c0_i32_124
  let c1_i32_125 : BitVec 32 := 1#32
  let v178 : BitVec 32 := Scalar.select v177 c1_i32_125 c2_i32_123
  let v179 : BitVec 32 := Scalar.remsi v176 v178
  let c0_i32_127 : BitVec 32 := 0#32
  let v181 : BitVec 1 := Scalar.cmpi .slt v179 c0_i32_127
  let c0_i32_128 : BitVec 32 := 0#32
  let v182 : BitVec 1 := Scalar.cmpi .slt v178 c0_i32_128
  let v183 : BitVec 1 := Scalar.xori v181 v182
  let c0_i32_126 : BitVec 32 := 0#32
  let v180 : BitVec 1 := Scalar.cmpi .ne v179 c0_i32_126
  let v184 : BitVec 1 := Scalar.andi v183 v180
  let v185 : BitVec 32 := Scalar.addi v179 v178
  let v186 : BitVec 32 := Scalar.select v184 v185 v179
  let c0_i32_135 : BitVec 32 := 0#32
  let c0_i32_136 : BitVec 32 := 0#32
  ![v186.toNat, 0, 0]
-- ==== WOutShareReferenceIdeal.lean ====
abbrev S2048x2048 : Shape := ⟨2, ![2048, 2048]⟩
abbrev S4x1x2x256x2048 : Shape := ⟨5, ![4, 1, 2, 256, 2048]⟩
abbrev S4x2x2x256x2048 : Shape := ⟨5, ![4, 2, 2, 256, 2048]⟩
abbrev S16x256x2048 : Shape := ⟨3, ![16, 256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x1x2x256x2048, .f32⟩
  | .hbm, ⟨2, _⟩ => ⟨S4x2x2x256x2048, .f32⟩
  | .hbm, ⟨3, _⟩ => ⟨S16x256x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== RepStep.lean ====
abbrev S8x120x128 : Shape := ⟨3, ![8, 120, 128]⟩
abbrev S120x128 : Shape := ⟨2, ![120, 128]⟩
abbrev S1x120x128 : Shape := ⟨3, ![1, 120, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S120x128, .f32⟩
  | .hbm, ⟨5, _⟩ => ⟨S120x128, .f32⟩
  | .hbm, ⟨6, _⟩ => ⟨S120x128, .f32⟩
  | .hbm, ⟨7, _⟩ => ⟨S120x128, .f32⟩
  | .local _ .vmem, ⟨0, _⟩ => ⟨S8x120x128, .f32⟩
  | .local _ .vmem, ⟨1, _⟩ => ⟨S120x128, .f32⟩
  | .local _ .vmem, ⟨2, _⟩ => ⟨S120x128, .f32⟩
  | .local _ .vmem, ⟨3, _⟩ => ⟨S120x128, .f32⟩
  | .local _ .vmem, ⟨4, _⟩ => ⟨S120x128, .f32⟩
  | .local _ .vmem, ⟨5, _⟩ => ⟨S120x128, .f32⟩
  | .local _ .vmem, ⟨6, _⟩ => ⟨S120x128, .f32⟩
  | .local _ .vmem, ⟨7, _⟩ => ⟨S120x128, .f32⟩
  | _, _ => ⟨S8x120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S120x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RepStepIdeal.lean ====
abbrev S8x120x128 : Shape := ⟨3, ![8, 120, 128]⟩
abbrev S120x128 : Shape := ⟨2, ![120, 128]⟩
abbrev S1x120x128 : Shape := ⟨3, ![1, 120, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S120x128, .f32⟩
  | .hbm, ⟨5, _⟩ => ⟨S120x128, .f32⟩
  | .hbm, ⟨6, _⟩ => ⟨S120x128, .f32⟩
  | .hbm, ⟨7, _⟩ => ⟨S120x128, .f32⟩
  | .local _ .vmem, ⟨0, _⟩ => ⟨S8x120x128, .f32⟩
  | .local _ .vmem, ⟨1, _⟩ => ⟨S120x128, .f32⟩
  | .local _ .vmem, ⟨2, _⟩ => ⟨S120x128, .f32⟩
  | .local _ .vmem, ⟨3, _⟩ => ⟨S120x128, .f32⟩
  | .local _ .vmem, ⟨4, _⟩ => ⟨S120x128, .f32⟩
  | .local _ .vmem, ⟨5, _⟩ => ⟨S120x128, .f32⟩
  | .local _ .vmem, ⟨6, _⟩ => ⟨S120x128, .f32⟩
  | .local _ .vmem, ⟨7, _⟩ => ⟨S120x128, .f32⟩
  | _, _ => ⟨S8x120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S120x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RepStepReferenceIdeal.lean ====
abbrev S8x120x128 : Shape := ⟨3, ![8, 120, 128]⟩
abbrev S120x128 : Shape := ⟨2, ![120, 128]⟩
abbrev S1x120x128 : Shape := ⟨3, ![1, 120, 128]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8x120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S1x120x128, .f32⟩
  | .hbm, ⟨5, _⟩ => ⟨S120x128, .f32⟩
  | .hbm, ⟨6, _⟩ => ⟨S1x120x128, .f32⟩
  | .hbm, ⟨7, _⟩ => ⟨S120x128, .f32⟩
  | .hbm, ⟨8, _⟩ => ⟨S120x128, .f32⟩
  | .hbm, ⟨9, _⟩ => ⟨S1x120x128, .f32⟩
  | .hbm, ⟨10, _⟩ => ⟨S120x128, .f32⟩
  | .hbm, ⟨11, _⟩ => ⟨S120x128, .f32⟩
  | .hbm, ⟨12, _⟩ => ⟨S1x120x128, .f32⟩
  | .hbm, ⟨13, _⟩ => ⟨S120x128, .f32⟩
  | .hbm, ⟨14, _⟩ => ⟨S120x128, .f32⟩
  | .hbm, ⟨15, _⟩ => ⟨S1x120x128, .f32⟩
  | .hbm, ⟨16, _⟩ => ⟨S120x128, .f32⟩
  | .hbm, ⟨17, _⟩ => ⟨S120x128, .f32⟩
  | .hbm, ⟨18, _⟩ => ⟨S1x120x128, .f32⟩
  | .hbm, ⟨19, _⟩ => ⟨S120x128, .f32⟩
  | .hbm, ⟨20, _⟩ => ⟨S120x128, .f32⟩
  | .hbm, ⟨21, _⟩ => ⟨S1x120x128, .f32⟩
  | .hbm, ⟨22, _⟩ => ⟨S120x128, .f32⟩
  | .hbm, ⟨23, _⟩ => ⟨S120x128, .f32⟩
  | .hbm, ⟨24, _⟩ => ⟨S1x120x128, .f32⟩
  | .hbm, ⟨25, _⟩ => ⟨S120x128, .f32⟩
  | .hbm, ⟨26, _⟩ => ⟨S120x128, .f32⟩
  | .hbm, ⟨27, _⟩ => ⟨S_, .f32⟩
  | .hbm, ⟨28, _⟩ => ⟨S120x128, .f32⟩
  | .hbm, ⟨29, _⟩ => ⟨S120x128, .f32⟩
  | .hbm, ⟨30, _⟩ => ⟨S_, .f32⟩
  | .hbm, ⟨31, _⟩ => ⟨S120x128, .f32⟩
  | .hbm, ⟨32, _⟩ => ⟨S120x128, .f32⟩
  | .hbm, ⟨33, _⟩ => ⟨S120x128, .f32⟩
  | .hbm, ⟨34, _⟩ => ⟨S_, .f32⟩
  | .hbm, ⟨35, _⟩ => ⟨S120x128, .f32⟩
  | .hbm, ⟨36, _⟩ => ⟨S120x128, .f32⟩
  | .hbm, ⟨37, _⟩ => ⟨S120x128, .f32⟩
  | .hbm, ⟨38, _⟩ => ⟨S_, .f32⟩
  | .hbm, ⟨39, _⟩ => ⟨S120x128, .f32⟩
  | .hbm, ⟨40, _⟩ => ⟨S120x128, .f32⟩
  | .hbm, ⟨41, _⟩ => ⟨S120x128, .f32⟩
  | .hbm, ⟨42, _⟩ => ⟨S_, .f32⟩
  | .hbm, ⟨43, _⟩ => ⟨S120x128, .f32⟩
  | .hbm, ⟨44, _⟩ => ⟨S120x128, .f32⟩
  | .hbm, ⟨45, _⟩ => ⟨S_, .f32⟩
  | .hbm, ⟨46, _⟩ => ⟨S120x128, .f32⟩
  | .hbm, ⟨47, _⟩ => ⟨S120x128, .f32⟩
  | .hbm, ⟨48, _⟩ => ⟨S120x128, .f32⟩
  | .hbm, ⟨49, _⟩ => ⟨S_, .f32⟩
  | .hbm, ⟨50, _⟩ => ⟨S120x128, .f32⟩
  | .hbm, ⟨51, _⟩ => ⟨S120x128, .f32⟩
  | .hbm, ⟨52, _⟩ => ⟨S120x128, .f32⟩
  | .hbm, ⟨53, _⟩ => ⟨S_, .f32⟩
  | .hbm, ⟨54, _⟩ => ⟨S120x128, .f32⟩
  | .hbm, ⟨55, _⟩ => ⟨S120x128, .f32⟩
  | .hbm, ⟨56, _⟩ => ⟨S120x128, .f32⟩
  | .hbm, ⟨57, _⟩ => ⟨S_, .f32⟩
  | .hbm, ⟨58, _⟩ => ⟨S120x128, .f32⟩
  | .hbm, ⟨59, _⟩ => ⟨S120x128, .f32⟩
  | _, _ => ⟨S8x120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== SmallStep.lean ====
abbrev S1x64x1024 : Shape := ⟨3, ![1, 64, 1024]⟩
abbrev S64x1024 : Shape := ⟨2, ![64, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64x1024, .f32⟩
  | .hbm, ⟨7, _⟩ => ⟨S64x1024, .f32⟩
  | .local _ .vmem, ⟨0, _⟩ => ⟨S1x64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | _, _ => ⟨S1x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmallStepIdeal.lean ====
abbrev S1x64x1024 : Shape := ⟨3, ![1, 64, 1024]⟩
abbrev S64x1024 : Shape := ⟨2, ![64, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64x1024, .f32⟩
  | .hbm, ⟨7, _⟩ => ⟨S64x1024, .f32⟩
  | .local _ .vmem, ⟨0, _⟩ => ⟨S1x64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | _, _ => ⟨S1x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmallStepReferenceIdeal.lean ====
abbrev S1x64x1024 : Shape := ⟨3, ![1, 64, 1024]⟩
abbrev S64x1024 : Shape := ⟨2, ![64, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S_, .f32⟩
  | .hbm, ⟨6, _⟩ => ⟨S64x1024, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .f32⟩
  | .hbm, ⟨11, _⟩ => ⟨S64x1024, .f32⟩
  | .hbm, ⟨12, _⟩ => ⟨S_, .f32⟩
  | .hbm, ⟨13, _⟩ => ⟨S64x1024, .f32⟩
  | .hbm, ⟨14, _⟩ => ⟨S64x1024, .f32⟩
  | .hbm, ⟨15, _⟩ => ⟨S64x1024, .f32⟩
  | .hbm, ⟨16, _⟩ => ⟨S_, .f32⟩
  | .hbm, ⟨17, _⟩ => ⟨S64x1024, .f32⟩
  | .hbm, ⟨18, _⟩ => ⟨S64x1024, .f32⟩
  | .hbm, ⟨19, _⟩ => ⟨S64x1024, .f32⟩
  | .hbm, ⟨20, _⟩ => ⟨S_, .f32⟩
  | .hbm, ⟨21, _⟩ => ⟨S64x1024, .f32⟩
  | .hbm, ⟨22, _⟩ => ⟨S64x1024, .f32⟩
  | .hbm, ⟨23, _⟩ => ⟨S_, .f32⟩
  | .hbm, ⟨24, _⟩ => ⟨S64x1024, .f32⟩
  | .hbm, ⟨25, _⟩ => ⟨S64x1024, .f32⟩
  | .hbm, ⟨26, _⟩ => ⟨S64x1024, .f32⟩
  | .hbm, ⟨27, _⟩ => ⟨S_, .f32⟩
  | .hbm, ⟨28, _⟩ => ⟨S64x1024, .f32⟩
  | .hbm, ⟨29, _⟩ => ⟨S64x1024, .f32⟩
  | .hbm, ⟨30, _⟩ => ⟨S64x1024, .f32⟩
  | .hbm, ⟨31, _⟩ => ⟨S_, .f32⟩
  | .hbm, ⟨32, _⟩ => ⟨S64x1024, .f32⟩
  | .hbm, ⟨33, _⟩ => ⟨S64x1024, .f32⟩
  | .hbm, ⟨34, _⟩ => ⟨S64x1024, .f32⟩
  | .hbm, ⟨35, _⟩ => ⟨S_, .f32⟩
  | .hbm, ⟨36, _⟩ => ⟨S64x1024, .f32⟩
  | .hbm, ⟨37, _⟩ => ⟨S64x1024, .f32⟩
  | _, _ => ⟨S1x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== WInStep.lean ====
abbrev S1x2048x2084 : Shape := ⟨3, ![1, 2048, 2084]⟩
abbrev S2048x2084 : Shape := ⟨2, ![2048, 2084]⟩
abbrev S1x128x2084 : Shape := ⟨3, ![1, 128, 2084]⟩
abbrev S128x2084 : Shape := ⟨2, ![128, 2084]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x2084, .f32⟩
  | .hbm, ⟨1, _⟩ => ⟨S2048x2084, .f32⟩
  | .hbm, ⟨2, _⟩ => ⟨S2048x2084, .f32⟩
  | .hbm, ⟨3, _⟩ => ⟨S2048x2084, .f32⟩
  | .hbm, ⟨4, _⟩ => ⟨S2048x2084, .f32⟩
  | .hbm, ⟨5, _⟩ => ⟨S2048x2084, .f32⟩
  | .hbm, ⟨6, _⟩ => ⟨S2048x2084, .f32⟩
  | .hbm, ⟨7, _⟩ => ⟨S2048x2084, .f32⟩
  | .local _ .vmem, ⟨0, _⟩ => ⟨S1x128x2084, .f32⟩
  | .local _ .vmem, ⟨1, _⟩ => ⟨S1x128x2084, .f32⟩
  | .local _ .vmem, ⟨2, _⟩ => ⟨S128x2084, .f32⟩
  | .local _ .vmem, ⟨3, _⟩ => ⟨S128x2084, .f32⟩
  | .local _ .vmem, ⟨4, _⟩ => ⟨S128x2084, .f32⟩
  | .local _ .vmem, ⟨5, _⟩ => ⟨S128x2084, .f32⟩
  | .local _ .vmem, ⟨6, _⟩ => ⟨S128x2084, .f32⟩
  | .local _ .vmem, ⟨7, _⟩ => ⟨S128x2084, .f32⟩
  | .local _ .vmem, ⟨8, _⟩ => ⟨S128x2084, .f32⟩
  | .local _ .vmem, ⟨9, _⟩ => ⟨S128x2084, .f32⟩
  | .local _ .vmem, ⟨10, _⟩ => ⟨S128x2084, .f32⟩
  | .local _ .vmem, ⟨11, _⟩ => ⟨S128x2084, .f32⟩
  | .local _ .vmem, ⟨12, _⟩ => ⟨S128x2084, .f32⟩
  | .local _ .vmem, ⟨13, _⟩ => ⟨S128x2084, .f32⟩
  | .local _ .vmem, ⟨14, _⟩ => ⟨S128x2084, .f32⟩
  | .local _ .vmem, ⟨15, _⟩ => ⟨S128x2084, .f32⟩
  | _, _ => ⟨S1x2048x2084, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2084 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2084 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2084 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2084 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2084 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2084 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2084 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2084 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WInStepIdeal.lean ====
abbrev S1x2048x2084 : Shape := ⟨3, ![1, 2048, 2084]⟩
abbrev S2048x2084 : Shape := ⟨2, ![2048, 2084]⟩
abbrev S1x128x2084 : Shape := ⟨3, ![1, 128, 2084]⟩
abbrev S128x2084 : Shape := ⟨2, ![128, 2084]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x2084, .f32⟩
  | .hbm, ⟨1, _⟩ => ⟨S2048x2084, .f32⟩
  | .hbm, ⟨2, _⟩ => ⟨S2048x2084, .f32⟩
  | .hbm, ⟨3, _⟩ => ⟨S2048x2084, .f32⟩
  | .hbm, ⟨4, _⟩ => ⟨S2048x2084, .f32⟩
  | .hbm, ⟨5, _⟩ => ⟨S2048x2084, .f32⟩
  | .hbm, ⟨6, _⟩ => ⟨S2048x2084, .f32⟩
  | .hbm, ⟨7, _⟩ => ⟨S2048x2084, .f32⟩
  | .local _ .vmem, ⟨0, _⟩ => ⟨S1x128x2084, .f32⟩
  | .local _ .vmem, ⟨1, _⟩ => ⟨S1x128x2084, .f32⟩
  | .local _ .vmem, ⟨2, _⟩ => ⟨S128x2084, .f32⟩
  | .local _ .vmem, ⟨3, _⟩ => ⟨S128x2084, .f32⟩
  | .local _ .vmem, ⟨4, _⟩ => ⟨S128x2084, .f32⟩
  | .local _ .vmem, ⟨5, _⟩ => ⟨S128x2084, .f32⟩
  | .local _ .vmem, ⟨6, _⟩ => ⟨S128x2084, .f32⟩
  | .local _ .vmem, ⟨7, _⟩ => ⟨S128x2084, .f32⟩
  | .local _ .vmem, ⟨8, _⟩ => ⟨S128x2084, .f32⟩
  | .local _ .vmem, ⟨9, _⟩ => ⟨S128x2084, .f32⟩
  | .local _ .vmem, ⟨10, _⟩ => ⟨S128x2084, .f32⟩
  | .local _ .vmem, ⟨11, _⟩ => ⟨S128x2084, .f32⟩
  | .local _ .vmem, ⟨12, _⟩ => ⟨S128x2084, .f32⟩
  | .local _ .vmem, ⟨13, _⟩ => ⟨S128x2084, .f32⟩
  | .local _ .vmem, ⟨14, _⟩ => ⟨S128x2084, .f32⟩
  | .local _ .vmem, ⟨15, _⟩ => ⟨S128x2084, .f32⟩
  | _, _ => ⟨S1x2048x2084, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2084 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2084 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2084 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2084 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2084 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2084 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2084 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2084 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WInStepReferenceIdeal.lean ====
abbrev S1x2048x2084 : Shape := ⟨3, ![1, 2048, 2084]⟩
abbrev S2048x2084 : Shape := ⟨2, ![2048, 2084]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x2084, .f32⟩
  | .hbm, ⟨1, _⟩ => ⟨S2048x2084, .f32⟩
  | .hbm, ⟨2, _⟩ => ⟨S2048x2084, .f32⟩
  | .hbm, ⟨3, _⟩ => ⟨S2048x2084, .f32⟩
  | .hbm, ⟨4, _⟩ => ⟨S2048x2084, .f32⟩
  | .hbm, ⟨5, _⟩ => ⟨S_, .f32⟩
  | .hbm, ⟨6, _⟩ => ⟨S2048x2084, .f32⟩
  | .hbm, ⟨7, _⟩ => ⟨S2048x2084, .f32⟩
  | .hbm, ⟨8, _⟩ => ⟨S_, .f32⟩
  | .hbm, ⟨9, _⟩ => ⟨S2048x2084, .f32⟩
  | .hbm, ⟨10, _⟩ => ⟨S2048x2084, .f32⟩
  | .hbm, ⟨11, _⟩ => ⟨S2048x2084, .f32⟩
  | .hbm, ⟨12, _⟩ => ⟨S_, .f32⟩
  | .hbm, ⟨13, _⟩ => ⟨S2048x2084, .f32⟩
  | .hbm, ⟨14, _⟩ => ⟨S2048x2084, .f32⟩
  | .hbm, ⟨15, _⟩ => ⟨S2048x2084, .f32⟩
  | .hbm, ⟨16, _⟩ => ⟨S_, .f32⟩
  | .hbm, ⟨17, _⟩ => ⟨S2048x2084, .f32⟩
  | .hbm, ⟨18, _⟩ => ⟨S2048x2084, .f32⟩
  | .hbm, ⟨19, _⟩ => ⟨S2048x2084, .f32⟩
  | .hbm, ⟨20, _⟩ => ⟨S_, .f32⟩
  | .hbm, ⟨21, _⟩ => ⟨S2048x2084, .f32⟩
  | .hbm, ⟨22, _⟩ => ⟨S2048x2084, .f32⟩
  | .hbm, ⟨23, _⟩ => ⟨S_, .f32⟩
  | .hbm, ⟨24, _⟩ => ⟨S2048x2084, .f32⟩
  | .hbm, ⟨25, _⟩ => ⟨S2048x2084, .f32⟩
  | .hbm, ⟨26, _⟩ => ⟨S2048x2084, .f32⟩
  | .hbm, ⟨27, _⟩ => ⟨S_, .f32⟩
  | .hbm, ⟨28, _⟩ => ⟨S2048x2084, .f32⟩
  | .hbm, ⟨29, _⟩ => ⟨S2048x2084, .f32⟩
  | .hbm, ⟨30, _⟩ => ⟨S2048x2084, .f32⟩
  | .hbm, ⟨31, _⟩ => ⟨S_, .f32⟩
  | .hbm, ⟨32, _⟩ => ⟨S2048x2084, .f32⟩
  | .hbm, ⟨33, _⟩ => ⟨S2048x2084, .f32⟩
  | .hbm, ⟨34, _⟩ => ⟨S2048x2084, .f32⟩
  | .hbm, ⟨35, _⟩ => ⟨S_, .f32⟩
  | .hbm, ⟨36, _⟩ => ⟨S2048x2084, .f32⟩
  | .hbm, ⟨37, _⟩ => ⟨S2048x2084, .f32⟩
  | _, _ => ⟨S1x2048x2084, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== WOutStep.lean ====
abbrev S1x512x2048 : Shape := ⟨3, ![1, 512, 2048]⟩
abbrev S512x2048 : Shape := ⟨2, ![512, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S1x128x2048, .f32⟩
  | .local _ .vmem, ⟨1, _⟩ => ⟨S1x128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WOutStepIdeal.lean ====
abbrev S1x512x2048 : Shape := ⟨3, ![1, 512, 2048]⟩
abbrev S512x2048 : Shape := ⟨2, ![512, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S1x128x2048, .f32⟩
  | .local _ .vmem, ⟨1, _⟩ => ⟨S1x128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WOutStepReferenceIdeal.lean ====
abbrev S1x512x2048 : Shape := ⟨3, ![1, 512, 2048]⟩
abbrev S512x2048 : Shape := ⟨2, ![512, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S_, .f32⟩
  | .hbm, ⟨6, _⟩ => ⟨S512x2048, .f32⟩
  | .hbm, ⟨7, _⟩ => ⟨S512x2048, .f32⟩
  | .hbm, ⟨8, _⟩ => ⟨S_, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== GradX.lean ====
abbrev S4160x2048 : Shape := ⟨2, ![4160, 2048]⟩
abbrev S1x2048 : Shape := ⟨2, ![1, 2048]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4160x2048, .f32⟩
  | .hbm, ⟨1, _⟩ => ⟨S1x2048, .f32⟩
  | .hbm, ⟨2, _⟩ => ⟨S4160x2048, .f32⟩
  | .hbm, ⟨3, _⟩ => ⟨S4160x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_mult1 (i : grid0.Coords) : BitVec 32 :=
  let c16_i32 : BitVec 32 := 16#32
  let arg0 : BitVec 32 := BitVec.ofNat 32 (i 0).val
  let c256_i32 : BitVec 32 := 256#32
  let v0 : BitVec 32 := Scalar.muli arg0 c256_i32
  let v1 : BitVec 32 := Scalar.addi c16_i32 v0
  v1
def k0_mult2 (i : grid0.Coords) : BitVec 32 :=
  let c16_i32 : BitVec 32 := 16#32
  let arg0 : BitVec 32 := BitVec.ofNat 32 (i 0).val
  let c256_i32 : BitVec 32 := 256#32
  let v0 : BitVec 32 := Scalar.muli arg0 c256_i32
  let v1 : BitVec 32 := Scalar.addi c16_i32 v0
  v1
def k0_mult3 (i : grid0.Coords) : BitVec 32 :=
  let c16_i32 : BitVec 32 := 16#32
  let arg0 : BitVec 32 := BitVec.ofNat 32 (i 0).val
  let c256_i32 : BitVec 32 := 256#32
  let v0 : BitVec 32 := Scalar.muli arg0 c256_i32
  let v1 : BitVec 32 := Scalar.addi c16_i32 v0
  v1
def cc0_transform_0 (i : grid0.Coords) : Fin 2 → Nat :=
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.addi c16_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.addi c16_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.addi c16_i32 v0
  let v2 : BitVec 32 := v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GradXReferenceIdeal.lean ====
abbrev S4160x2048 : Shape := ⟨2, ![4160, 2048]⟩
abbrev S1x2048 : Shape := ⟨2, ![1, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S4160x2048, .f32⟩
  | .hbm, ⟨1, _⟩ => ⟨S1x2048, .f32⟩
  | .hbm, ⟨2, _⟩ => ⟨S4160x2048, .f32⟩
  | .hbm, ⟨3, _⟩ => ⟨S4160x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | _, _ => ⟨S4160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== WInSum.lean ====
abbrev S4x1024x2084 : Shape := ⟨3, ![4, 1024, 2084]⟩
abbrev S1024x2084 : Shape := ⟨2, ![1024, 2084]⟩
abbrev S4x128x2084 : Shape := ⟨3, ![4, 128, 2084]⟩
abbrev S128x2084 : Shape := ⟨2, ![128, 2084]⟩
abbrev S1x128x2084 : Shape := ⟨3, ![1, 128, 2084]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x2084, .bf16⟩
  | .hbm, ⟨1, _⟩ => ⟨S1024x2084, .f32⟩
  | .local _ .vmem, ⟨0, _⟩ => ⟨S4x128x2084, .bf16⟩
  | .local _ .vmem, ⟨1, _⟩ => ⟨S4x128x2084, .bf16⟩
  | .local _ .vmem, ⟨2, _⟩ => ⟨S128x2084, .f32⟩
  | .local _ .vmem, ⟨3, _⟩ => ⟨S128x2084, .f32⟩
  | _, _ => ⟨S4x1024x2084, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2084 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2084 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WInSumIdeal.lean ====
abbrev S4x1024x2084 : Shape := ⟨3, ![4, 1024, 2084]⟩
abbrev S1024x2084 : Shape := ⟨2, ![1024, 2084]⟩
abbrev S4x128x2084 : Shape := ⟨3, ![4, 128, 2084]⟩
abbrev S128x2084 : Shape := ⟨2, ![128, 2084]⟩
abbrev S1x128x2084 : Shape := ⟨3, ![1, 128, 2084]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x2084, .bf16⟩
  | .hbm, ⟨1, _⟩ => ⟨S1024x2084, .f32⟩
  | .local _ .vmem, ⟨0, _⟩ => ⟨S4x128x2084, .bf16⟩
  | .local _ .vmem, ⟨1, _⟩ => ⟨S4x128x2084, .bf16⟩
  | .local _ .vmem, ⟨2, _⟩ => ⟨S128x2084, .f32⟩
  | .local _ .vmem, ⟨3, _⟩ => ⟨S128x2084, .f32⟩
  | _, _ => ⟨S4x1024x2084, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2084 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2084 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WInSumReferenceIdeal.lean ====
abbrev S4x1024x2084 : Shape := ⟨3, ![4, 1024, 2084]⟩
abbrev S_ : Shape := ⟨0, ![]⟩
abbrev S1024x2084 : Shape := ⟨2, ![1024, 2084]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x2084, .bf16⟩
  | .hbm, ⟨1, _⟩ => ⟨S4x1024x2084, .f32⟩
  | .hbm, ⟨2, _⟩ => ⟨S_, .f32⟩
  | .hbm, ⟨3, _⟩ => ⟨S1024x2084, .f32⟩
  | _, _ => ⟨S4x1024x2084, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== WOutSum.lean ====
abbrev S4x256x2048 : Shape := ⟨3, ![4, 256, 2048]⟩
abbrev S256x2048 : Shape := ⟨2, ![256, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WOutSumIdeal.lean ====
abbrev S4x256x2048 : Shape := ⟨3, ![4, 256, 2048]⟩
abbrev S256x2048 : Shape := ⟨2, ![256, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WOutSumReferenceIdeal.lean ====
abbrev S4x256x2048 : Shape := ⟨3, ![4, 256, 2048]⟩
abbrev S_ : Shape := ⟨0, ![]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S_, .f32⟩
  | .hbm, ⟨3, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SmallSum.lean ====
abbrev S4x32x1024 : Shape := ⟨3, ![4, 32, 1024]⟩
abbrev S32x1024 : Shape := ⟨2, ![32, 1024]⟩
abbrev S1x32x1024 : Shape := ⟨3, ![1, 32, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x32x1024, .bf16⟩
  | .hbm, ⟨1, _⟩ => ⟨S32x1024, .f32⟩
  | .local _ .vmem, ⟨0, _⟩ => ⟨S4x32x1024, .bf16⟩
  | .local _ .vmem, ⟨1, _⟩ => ⟨S32x1024, .f32⟩
  | _, _ => ⟨S4x32x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SmallSumIdeal.lean ====
abbrev S4x32x1024 : Shape := ⟨3, ![4, 32, 1024]⟩
abbrev S32x1024 : Shape := ⟨2, ![32, 1024]⟩
abbrev S1x32x1024 : Shape := ⟨3, ![1, 32, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x32x1024, .bf16⟩
  | .hbm, ⟨1, _⟩ => ⟨S32x1024, .f32⟩
  | .local _ .vmem, ⟨0, _⟩ => ⟨S4x32x1024, .bf16⟩
  | .local _ .vmem, ⟨1, _⟩ => ⟨S32x1024, .f32⟩
  | _, _ => ⟨S4x32x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SmallSumReferenceIdeal.lean ====
abbrev S4x32x1024 : Shape := ⟨3, ![4, 32, 1024]⟩
abbrev S_ : Shape := ⟨0, ![]⟩
abbrev S32x1024 : Shape := ⟨2, ![32, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x32x1024, .bf16⟩
  | .hbm, ⟨1, _⟩ => ⟨S4x32x1024, .f32⟩
  | .hbm, ⟨2, _⟩ => ⟨S_, .f32⟩
  | .hbm, ⟨3, _⟩ => ⟨S32x1024, .f32⟩
  | _, _ => ⟨S4x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== WOutAdd.lean ====
abbrev S4x256x2048 : Shape := ⟨3, ![4, 256, 2048]⟩
abbrev S4x128x2048 : Shape := ⟨3, ![4, 128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .bf16⟩
  | .local _ .vmem, ⟨0, _⟩ => ⟨S4x128x2048, .f32⟩
  | .local _ .vmem, ⟨1, _⟩ => ⟨S4x128x2048, .f32⟩
  | .local _ .vmem, ⟨2, _⟩ => ⟨S4x128x2048, .f32⟩
  | .local _ .vmem, ⟨3, _⟩ => ⟨S4x128x2048, .f32⟩
  | .local _ .vmem, ⟨4, _⟩ => ⟨S4x128x2048, .bf16⟩
  | .local _ .vmem, ⟨5, _⟩ => ⟨S4x128x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WOutAddIdeal.lean ====
abbrev S4x256x2048 : Shape := ⟨3, ![4, 256, 2048]⟩
abbrev S4x128x2048 : Shape := ⟨3, ![4, 128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .bf16⟩
  | .local _ .vmem, ⟨0, _⟩ => ⟨S4x128x2048, .f32⟩
  | .local _ .vmem, ⟨1, _⟩ => ⟨S4x128x2048, .f32⟩
  | .local _ .vmem, ⟨2, _⟩ => ⟨S4x128x2048, .f32⟩
  | .local _ .vmem, ⟨3, _⟩ => ⟨S4x128x2048, .f32⟩
  | .local _ .vmem, ⟨4, _⟩ => ⟨S4x128x2048, .bf16⟩
  | .local _ .vmem, ⟨5, _⟩ => ⟨S4x128x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WOutAddReferenceIdeal.lean ====
abbrev S4x256x2048 : Shape := ⟨3, ![4, 256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .f32⟩
  | .hbm, ⟨3, _⟩ => ⟨S4x256x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SmallAdd.lean ====
abbrev S4x32x1024 : Shape := ⟨3, ![4, 32, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x32x1024, .f32⟩
  | .hbm, ⟨1, _⟩ => ⟨S4x32x1024, .f32⟩
  | .hbm, ⟨2, _⟩ => ⟨S4x32x1024, .bf16⟩
  | .local _ .vmem, ⟨0, _⟩ => ⟨S4x32x1024, .f32⟩
  | .local _ .vmem, ⟨1, _⟩ => ⟨S4x32x1024, .f32⟩
  | .local _ .vmem, ⟨2, _⟩ => ⟨S4x32x1024, .bf16⟩
  | _, _ => ⟨S4x32x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SmallAddReferenceIdeal.lean ====
abbrev S4x32x1024 : Shape := ⟨3, ![4, 32, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x32x1024, .f32⟩
  | .hbm, ⟨1, _⟩ => ⟨S4x32x1024, .f32⟩
  | .hbm, ⟨2, _⟩ => ⟨S4x32x1024, .f32⟩
  | .hbm, ⟨3, _⟩ => ⟨S4x32x1024, .bf16⟩
  | _, _ => ⟨S4x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Norm.lean ====
abbrev S4160x2048 : Shape := ⟨2, ![4160, 2048]⟩
abbrev S1x2048 : Shape := ⟨2, ![1, 2048]⟩
abbrev S208x2048 : Shape := ⟨2, ![208, 2048]⟩
abbrev S208 : Shape := ⟨1, ![208]⟩
abbrev S208x1 : Shape := ⟨2, ![208, 1]⟩

abbrev nBuf : Space → Nat
  | .hbm => 3
  | .vmem => 5
  | .smem => 0
  | _ => 0

abbrev bufTy : (tb : Table) → Fin (tcTables nBuf tb) → BufTy
  | .hbm, ⟨0, _⟩ => ⟨S4160x2048, .f32⟩
  | .hbm, ⟨1, _⟩ => ⟨S1x2048, .f32⟩
  | .hbm, ⟨2, _⟩ => ⟨S4160x2048, .bf16⟩
  | .local _ .vmem, ⟨0, _⟩ => ⟨S208x2048, .f32⟩
  | .local _ .vmem, ⟨1, _⟩ => ⟨S208x2048, .f32⟩
  | .local _ .vmem, ⟨2, _⟩ => ⟨S1x2048, .f32⟩
  | .local _ .vmem, ⟨3, _⟩ => ⟨S208x2048, .bf16⟩
  | .local _ .vmem, ⟨4, _⟩ => ⟨S208x2048, .bf16⟩
  | _, _ => ⟨S4160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S208x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4160x2048 : Shape := ⟨2, ![4160, 2048]⟩
abbrev S1x2048 : Shape := ⟨2, ![1, 2048]⟩
abbrev S_ : Shape := ⟨0, ![]⟩
abbrev S4160 : Shape := ⟨1, ![4160]⟩
abbrev S4160x1 : Shape := ⟨2, ![4160, 1]⟩

abbrev nBuf : Space → Nat
  | .hbm => 18
  | .vmem => 0
  | .smem => 0
  | _ => 0

abbrev bufTy : (tb : Table) → Fin (tcTables nBuf tb) → BufTy
  | .hbm, ⟨0, _⟩ => ⟨S4160x2048, .f32⟩
  | .hbm, ⟨1, _⟩ => ⟨S1x2048, .f32⟩
  | .hbm, ⟨2, _⟩ => ⟨S4160x2048, .f32⟩
  | .hbm, ⟨3, _⟩ => ⟨S_, .f32⟩
  | .hbm, ⟨4, _⟩ => ⟨S4160, .f32⟩
  | .hbm, ⟨5, _⟩ => ⟨S4160x1, .f32⟩
  | .hbm, ⟨6, _⟩ => ⟨S_, .f32⟩
  | .hbm, ⟨7, _⟩ => ⟨S4160x1, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S4160x1, .f32⟩
  | .hbm, ⟨13, _⟩ => ⟨S4160x2048, .f32⟩
  | .hbm, ⟨14, _⟩ => ⟨S4160x2048, .f32⟩
  | .hbm, ⟨15, _⟩ => ⟨S4160x2048, .f32⟩
  | .hbm, ⟨16, _⟩ => ⟨S4160x2048, .f32⟩
  | .hbm, ⟨17, _⟩ => ⟨S4160x2048, .bf16⟩
  | _, _ => ⟨S4160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MetaGrads.lean ====
abbrev S4160x2048 : Shape := ⟨2, ![4160, 2048]⟩
abbrev S1x2048 : Shape := ⟨2, ![1, 2048]⟩
abbrev S16x2048 : Shape := ⟨2, ![16, 2048]⟩
abbrev S16 : Shape := ⟨1, ![16]⟩
abbrev S16x1 : Shape := ⟨2, ![16, 1]⟩
abbrev S2048 : Shape := ⟨1, ![2048]⟩

abbrev nBuf : Space → Nat
  | .hbm => 6
  | .vmem => 6
  | .smem => 0
  | _ => 0

abbrev bufTy : (tb : Table) → Fin (tcTables nBuf tb) → BufTy
  | .hbm, ⟨0, _⟩ => ⟨S4160x2048, .f32⟩
  | .hbm, ⟨1, _⟩ => ⟨S1x2048, .f32⟩
  | .hbm, ⟨2, _⟩ => ⟨S4160x2048, .f32⟩
  | .hbm, ⟨3, _⟩ => ⟨S4160x2048, .f32⟩
  | .hbm, ⟨4, _⟩ => ⟨S16x2048, .f32⟩
  | .hbm, ⟨5, _⟩ => ⟨S1x2048, .f32⟩
  | .local _ .vmem, ⟨0, _⟩ => ⟨S16x2048, .f32⟩
  | .local _ .vmem, ⟨1, _⟩ => ⟨S1x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S1x2048, .f32⟩
  | _, _ => ⟨S4160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MetaGradsReferenceIdeal.lean ====
abbrev S4160x2048 : Shape := ⟨2, ![4160, 2048]⟩
abbrev S1x2048 : Shape := ⟨2, ![1, 2048]⟩
abbrev S16x2048 : Shape := ⟨2, ![16, 2048]⟩
abbrev S_ : Shape := ⟨0, ![]⟩
abbrev S16 : Shape := ⟨1, ![16]⟩
abbrev S16x1 : Shape := ⟨2, ![16, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S4160x2048, .f32⟩
  | .hbm, ⟨1, _⟩ => ⟨S1x2048, .f32⟩
  | .hbm, ⟨2, _⟩ => ⟨S4160x2048, .f32⟩
  | .hbm, ⟨3, _⟩ => ⟨S4160x2048, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16, .f32⟩
  | .hbm, ⟨8, _⟩ => ⟨S16x1, .f32⟩
  | .hbm, ⟨9, _⟩ => ⟨S_, .f32⟩
  | .hbm, ⟨10, _⟩ => ⟨S16x1, .f32⟩
  | .hbm, ⟨11, _⟩ => ⟨S16x1, .f32⟩
  | .hbm, ⟨12, _⟩ => ⟨S_, .f32⟩
  | .hbm, ⟨13, _⟩ => ⟨S16x1, .f32⟩
  | .hbm, ⟨14, _⟩ => ⟨S16x1, .f32⟩
  | .hbm, ⟨15, _⟩ => ⟨S16x1, .f32⟩
  | .hbm, ⟨16, _⟩ => ⟨S16x1, .f32⟩
  | .hbm, ⟨17, _⟩ => ⟨S_, .f32⟩
  | .hbm, ⟨18, _⟩ => ⟨S16x1, .f32⟩
  | .hbm, ⟨19, _⟩ => ⟨S16x1, .f32⟩
  | .hbm, ⟨20, _⟩ => ⟨S16x2048, .f32⟩
  | .hbm, ⟨21, _⟩ => ⟨S16x2048, .f32⟩
  | .hbm, ⟨22, _⟩ => ⟨S16x2048, .f32⟩
  | .hbm, ⟨23, _⟩ => ⟨S16x2048, .f32⟩
  | .hbm, ⟨24, _⟩ => ⟨S16x2048, .f32⟩
  | .hbm, ⟨25, _⟩ => ⟨S16x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S16x2048, .f32⟩
  | .hbm, ⟨30, _⟩ => ⟨S16x2048, .f32⟩
  | .hbm, ⟨31, _⟩ => ⟨S16x2048, .f32⟩
  | .hbm, ⟨32, _⟩ => ⟨S_, .f32⟩
  | .hbm, ⟨33, _⟩ => ⟨S16, .f32⟩
  | .hbm, ⟨34, _⟩ => ⟨S16x1, .f32⟩
  | .hbm, ⟨35, _⟩ => ⟨S16x2048, .f32⟩
  | .hbm, ⟨36, _⟩ => ⟨S16x2048, .f32⟩
  | .hbm, ⟨37, _⟩ => ⟨S16x1, .f32⟩
  | .hbm, ⟨38, _⟩ => ⟨S_, .f32⟩
  | .hbm, ⟨39, _⟩ => ⟨S16x1, .f32⟩
  | .hbm, ⟨40, _⟩ => ⟨S16x1, .f32⟩
  | .hbm, ⟨41, _⟩ => ⟨S_, .f32⟩
  | .hbm, ⟨42, _⟩ => ⟨S16, .f32⟩
  | .hbm, ⟨43, _⟩ => ⟨S16x2048, .f32⟩
  | .hbm, ⟨44, _⟩ => ⟨S16x2048, .f32⟩
  | .hbm, ⟨45, _⟩ => ⟨S16x2048, .f32⟩
  | .hbm, ⟨46, _⟩ => ⟨S16x2048, .f32⟩
  | .hbm, ⟨47, _⟩ => ⟨S16x2048, .f32⟩
  | .hbm, ⟨48, _⟩ => ⟨S16x2048, .f32⟩
  | .hbm, ⟨49, _⟩ => ⟨S16x2048, .f32⟩
  | _, _ => ⟨S4160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== InProj.lean ====
abbrev S4160x2048 : Shape := ⟨2, ![4160, 2048]⟩
abbrev S2048x8448 : Shape := ⟨2, ![2048, 8448]⟩
abbrev S8x128 : Shape := ⟨2, ![8, 128]⟩
abbrev S4160x8448 : Shape := ⟨2, ![4160, 8448]⟩
abbrev S832x2048 : Shape := ⟨2, ![832, 2048]⟩
abbrev S2048x1408 : Shape := ⟨2, ![2048, 1408]⟩
abbrev S832x1408 : Shape := ⟨2, ![832, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S2048x8448, .bf16⟩
  | .hbm, ⟨2, _⟩ => ⟨S8x128, .f32⟩
  | .hbm, ⟨3, _⟩ => ⟨S4160x8448, .f32⟩
  | .local _ .vmem, ⟨0, _⟩ => ⟨S832x2048, .bf16⟩
  | .local _ .vmem, ⟨1, _⟩ => ⟨S832x2048, .bf16⟩
  | .local _ .vmem, ⟨2, _⟩ => ⟨S2048x1408, .bf16⟩
  | .local _ .vmem, ⟨3, _⟩ => ⟨S2048x1408, .bf16⟩
  | .local _ .vmem, ⟨4, _⟩ => ⟨S8x128, .f32⟩
  | .local _ .vmem, ⟨5, _⟩ => ⟨S832x1408, .f32⟩
  | .local _ .vmem, ⟨6, _⟩ => ⟨S832x1408, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![5, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S832x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjReferenceIdeal.lean ====
abbrev S4160x2048 : Shape := ⟨2, ![4160, 2048]⟩
abbrev S2048x8448 : Shape := ⟨2, ![2048, 8448]⟩
abbrev S8x128 : Shape := ⟨2, ![8, 128]⟩
abbrev S4160x8448 : Shape := ⟨2, ![4160, 8448]⟩

abbrev nBuf : Space → Nat
  | .hbm => 4
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S2048x8448, .bf16⟩
  | .hbm, ⟨2, _⟩ => ⟨S8x128, .f32⟩
  | .hbm, ⟨3, _⟩ => ⟨S4160x8448, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== DWOut.lean ====
abbrev S2048x4160 : Shape := ⟨2, ![2048, 4160]⟩
abbrev S4160x2048 : Shape := ⟨2, ![4160, 2048]⟩
abbrev S2048x2048 : Shape := ⟨2, ![2048, 2048]⟩
abbrev S512x4160 : Shape := ⟨2, ![512, 4160]⟩
abbrev S4160x1024 : Shape := ⟨2, ![4160, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4160, .bf16⟩
  | .hbm, ⟨1, _⟩ => ⟨S4160x2048, .bf16⟩
  | .hbm, ⟨2, _⟩ => ⟨S2048x2048, .f32⟩
  | .local _ .vmem, ⟨0, _⟩ => ⟨S512x4160, .bf16⟩
  | .local _ .vmem, ⟨1, _⟩ => ⟨S512x4160, .bf16⟩
  | .local _ .vmem, ⟨2, _⟩ => ⟨S4160x1024, .bf16⟩
  | .local _ .vmem, ⟨3, _⟩ => ⟨S4160x1024, .bf16⟩
  | .local _ .vmem, ⟨4, _⟩ => ⟨S512x1024, .f32⟩
  | .local _ .vmem, ⟨5, _⟩ => ⟨S512x1024, .f32⟩
  | _, _ => ⟨S2048x4160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWOutReferenceIdeal.lean ====
abbrev S2048x4160 : Shape := ⟨2, ![2048, 4160]⟩
abbrev S4160x2048 : Shape := ⟨2, ![4160, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x4160, .bf16⟩
  | .hbm, ⟨1, _⟩ => ⟨S4160x2048, .bf16⟩
  | .hbm, ⟨2, _⟩ => ⟨S2048x2048, .f32⟩
  | _, _ => ⟨S2048x4160, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DOutProj.lean ====
abbrev S4160x2048 : Shape := ⟨2, ![4160, 2048]⟩
abbrev S2048x2048 : Shape := ⟨2, ![2048, 2048]⟩
abbrev S8x128 : Shape := ⟨2, ![8, 128]⟩
abbrev S832x2048 : Shape := ⟨2, ![832, 2048]⟩
abbrev S1024x2048 : Shape := ⟨2, ![1024, 2048]⟩
abbrev S832x1024 : Shape := ⟨2, ![832, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S2048x2048, .bf16⟩
  | .hbm, ⟨2, _⟩ => ⟨S8x128, .f32⟩
  | .hbm, ⟨3, _⟩ => ⟨S4160x2048, .f32⟩
  | .local _ .vmem, ⟨0, _⟩ => ⟨S832x2048, .bf16⟩
  | .local _ .vmem, ⟨1, _⟩ => ⟨S832x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S832x1024, .f32⟩
  | .local _ .vmem, ⟨6, _⟩ => ⟨S832x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DOutProjReferenceIdeal.lean ====
abbrev S4160x2048 : Shape := ⟨2, ![4160, 2048]⟩
abbrev S2048x2048 : Shape := ⟨2, ![2048, 2048]⟩
abbrev S8x128 : Shape := ⟨2, ![8, 128]⟩

abbrev nBuf : Space → Nat
  | .hbm => 5
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S2048x2048, .bf16⟩
  | .hbm, ⟨2, _⟩ => ⟨S8x128, .f32⟩
  | .hbm, ⟨3, _⟩ => ⟨S2048x2048, .bf16⟩
  | .hbm, ⟨4, _⟩ => ⟨S4160x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DWIn.lean ====
abbrev S2048x4160 : Shape := ⟨2, ![2048, 4160]⟩
abbrev S4160x8448 : Shape := ⟨2, ![4160, 8448]⟩
abbrev S2048x8448 : Shape := ⟨2, ![2048, 8448]⟩
abbrev S1024x4160 : Shape := ⟨2, ![1024, 4160]⟩
abbrev S4160x768 : Shape := ⟨2, ![4160, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x4160, .bf16⟩
  | .hbm, ⟨1, _⟩ => ⟨S4160x8448, .bf16⟩
  | .hbm, ⟨2, _⟩ => ⟨S2048x8448, .f32⟩
  | .local _ .vmem, ⟨0, _⟩ => ⟨S1024x4160, .bf16⟩
  | .local _ .vmem, ⟨1, _⟩ => ⟨S1024x4160, .bf16⟩
  | .local _ .vmem, ⟨2, _⟩ => ⟨S4160x768, .bf16⟩
  | .local _ .vmem, ⟨3, _⟩ => ⟨S4160x768, .bf16⟩
  | .local _ .vmem, ⟨4, _⟩ => ⟨S1024x768, .f32⟩
  | .local _ .vmem, ⟨5, _⟩ => ⟨S1024x768, .f32⟩
  | _, _ => ⟨S2048x4160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWInReferenceIdeal.lean ====
abbrev S2048x4160 : Shape := ⟨2, ![2048, 4160]⟩
abbrev S4160x8448 : Shape := ⟨2, ![4160, 8448]⟩
abbrev S2048x8448 : Shape := ⟨2, ![2048, 8448]⟩

abbrev nBuf : Space → Nat
  | .hbm => 3
  | .vmem => 0
  | .smem => 0
  | _ => 0

abbrev bufTy : (tb : Table) → Fin (tcTables nBuf tb) → BufTy
  | .hbm, ⟨0, _⟩ => ⟨S2048x4160, .bf16⟩
  | .hbm, ⟨1, _⟩ => ⟨S4160x8448, .bf16⟩
  | .hbm, ⟨2, _⟩ => ⟨S2048x8448, .f32⟩
  | _, _ => ⟨S2048x4160, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DInProj.lean ====
abbrev S4160x8448 : Shape := ⟨2, ![4160, 8448]⟩
abbrev S2048x8448 : Shape := ⟨2, ![2048, 8448]⟩
abbrev S8x128 : Shape := ⟨2, ![8, 128]⟩
abbrev S4160x2048 : Shape := ⟨2, ![4160, 2048]⟩
abbrev S832x1408 : Shape := ⟨2, ![832, 1408]⟩
abbrev S2048x1408 : Shape := ⟨2, ![2048, 1408]⟩
abbrev S832x2048 : Shape := ⟨2, ![832, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4160x8448, .bf16⟩
  | .hbm, ⟨1, _⟩ => ⟨S2048x8448, .bf16⟩
  | .hbm, ⟨2, _⟩ => ⟨S8x128, .f32⟩
  | .hbm, ⟨3, _⟩ => ⟨S4160x2048, .f32⟩
  | .local _ .vmem, ⟨0, _⟩ => ⟨S832x1408, .bf16⟩
  | .local _ .vmem, ⟨1, _⟩ => ⟨S832x1408, .bf16⟩
  | .local _ .vmem, ⟨2, _⟩ => ⟨S2048x1408, .bf16⟩
  | .local _ .vmem, ⟨3, _⟩ => ⟨S2048x1408, .bf16⟩
  | .local _ .vmem, ⟨4, _⟩ => ⟨S8x128, .f32⟩
  | .local _ .vmem, ⟨5, _⟩ => ⟨S832x2048, .f32⟩
  | .local _ .vmem, ⟨6, _⟩ => ⟨S832x2048, .f32⟩
  | _, _ => ⟨S4160x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![5, 1, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S832x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S832x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DInProjReferenceIdeal.lean ====
abbrev S4160x8448 : Shape := ⟨2, ![4160, 8448]⟩
abbrev S2048x8448 : Shape := ⟨2, ![2048, 8448]⟩
abbrev S8x128 : Shape := ⟨2, ![8, 128]⟩
abbrev S8448x2048 : Shape := ⟨2, ![8448, 2048]⟩
abbrev S4160x2048 : Shape := ⟨2, ![4160, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4160x8448, .bf16⟩
  | .hbm, ⟨1, _⟩ => ⟨S2048x8448, .bf16⟩
  | .hbm, ⟨2, _⟩ => ⟨S8x128, .f32⟩
  | .hbm, ⟨3, _⟩ => ⟨S8448x2048, .bf16⟩
  | .hbm, ⟨4, _⟩ => ⟨S4160x2048, .f32⟩
  | _, _ => ⟨S4160x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Loss.lean ====
abbrev S4160x2048 : Shape := ⟨2, ![4160, 2048]⟩
abbrev S2048x2048 : Shape := ⟨2, ![2048, 2048]⟩
abbrev S4096x2048 : Shape := ⟨2, ![4096, 2048]⟩
abbrev S1x2048 : Shape := ⟨2, ![1, 2048]⟩
abbrev S8x128 : Shape := ⟨2, ![8, 128]⟩
abbrev S208x2048 : Shape := ⟨2, ![208, 2048]⟩
abbrev S208x1 : Shape := ⟨2, ![208, 1]⟩
abbrev S208 : Shape := ⟨1, ![208]⟩
abbrev S2048 : Shape := ⟨1, ![2048]⟩
abbrev S1 : Shape := ⟨1, ![1]⟩
abbrev S1x1 : Shape := ⟨2, ![1, 1]⟩

abbrev nBuf : Space → Nat
  | .hbm => 9
  | .vmem => 14
  | .smem => 0
  | _ => 0

abbrev bufTy : (tb : Table) → Fin (tcTables nBuf tb) → BufTy
  | .hbm, ⟨0, _⟩ => ⟨S4160x2048, .f32⟩
  | .hbm, ⟨1, _⟩ => ⟨S4160x2048, .bf16⟩
  | .hbm, ⟨2, _⟩ => ⟨S2048x2048, .bf16⟩
  | .hbm, ⟨3, _⟩ => ⟨S4096x2048, .f32⟩
  | .hbm, ⟨4, _⟩ => ⟨S1x2048, .f32⟩
  | .hbm, ⟨5, _⟩ => ⟨S8x128, .f32⟩
  | .hbm, ⟨6, _⟩ => ⟨S4160x2048, .f32⟩
  | .hbm, ⟨7, _⟩ => ⟨S4160x2048, .bf16⟩
  | .hbm, ⟨8, _⟩ => ⟨S1x2048, .f32⟩
  | .local _ .vmem, ⟨0, _⟩ => ⟨S208x2048, .f32⟩
  | .local _ .vmem, ⟨1, _⟩ => ⟨S208x2048, .f32⟩
  | .local _ .vmem, ⟨2, _⟩ => ⟨S208x2048, .bf16⟩
  | .local _ .vmem, ⟨3, _⟩ => ⟨S208x2048, .bf16⟩
  | .local _ .vmem, ⟨4, _⟩ => ⟨S2048x2048, .bf16⟩
  | .local _ .vmem, ⟨5, _⟩ => ⟨S208x2048, .f32⟩
  | .local _ .vmem, ⟨6, _⟩ => ⟨S208x2048, .f32⟩
  | .local _ .vmem, ⟨7, _⟩ => ⟨S1x2048, .f32⟩
  | .local _ .vmem, ⟨8, _⟩ => ⟨S8x128, .f32⟩
  | .local _ .vmem, ⟨9, _⟩ => ⟨S208x2048, .f32⟩
  | .local _ .vmem, ⟨10, _⟩ => ⟨S208x2048, .f32⟩
  | .local _ .vmem, ⟨11, _⟩ => ⟨S208x2048, .bf16⟩
  | .local _ .vmem, ⟨12, _⟩ => ⟨S208x2048, .bf16⟩
  | .local _ .vmem, ⟨13, _⟩ => ⟨S1x2048, .f32⟩
  | _, _ => ⟨S4160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![20], ![false]⟩

def k0_mult1 (i : grid0.Coords) : BitVec 32 :=
  let c3888_i32 : BitVec 32 := 3888#32
  let c0_i32 : BitVec 32 := 0#32
  let arg0 : BitVec 32 := BitVec.ofNat 32 (i 0).val
  let c208_i32 : BitVec 32 := 208#32
  let v0 : BitVec 32 := Scalar.muli arg0 c208_i32
  let c16_i32 : BitVec 32 := 16#32
  let v1 : BitVec 32 := Scalar.subi v0 c16_i32
  let v2 : BitVec 32 := Scalar.maxsi c0_i32 v1
  let v3 : BitVec 32 := Scalar.minsi c3888_i32 v2
  v3
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c208_i32 : BitVec 32 := 208#32
  let v0 : BitVec 32 := Scalar.muli arg0 c208_i32
  let c16_i32 : BitVec 32 := 16#32
  let v1 : BitVec 32 := Scalar.subi v0 c16_i32
  let c0_i32 : BitVec 32 := 0#32
  let c3888_i32 : BitVec 32 := 3888#32
  let v2 : BitVec 32 := Scalar.maxsi c0_i32 v1
  let v3 : BitVec 32 := Scalar.minsi c3888_i32 v2
  let v4 : BitVec 32 := v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S208x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S208x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S208x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossReferenceIdeal.lean ====
abbrev S4160x2048 : Shape := ⟨2, ![4160, 2048]⟩
abbrev S2048x2048 : Shape := ⟨2, ![2048, 2048]⟩
abbrev S4096x2048 : Shape := ⟨2, ![4096, 2048]⟩
abbrev S1x2048 : Shape := ⟨2, ![1, 2048]⟩
abbrev S_ : Shape := ⟨0, ![]⟩
abbrev S4160 : Shape := ⟨1, ![4160]⟩
abbrev S4160x1 : Shape := ⟨2, ![4160, 1]⟩
abbrev S4096 : Shape := ⟨1, ![4096]⟩
abbrev S8x128 : Shape := ⟨2, ![8, 128]⟩

abbrev nBuf : Space → Nat
  | .hbm => 35
  | .vmem => 0
  | .smem => 0
  | _ => 0

abbrev bufTy : (tb : Table) → Fin (tcTables nBuf tb) → BufTy
  | .hbm, ⟨0, _⟩ => ⟨S4160x2048, .f32⟩
  | .hbm, ⟨1, _⟩ => ⟨S4160x2048, .bf16⟩
  | .hbm, ⟨2, _⟩ => ⟨S2048x2048, .bf16⟩
  | .hbm, ⟨3, _⟩ => ⟨S4096x2048, .f32⟩
  | .hbm, ⟨4, _⟩ => ⟨S1x2048, .f32⟩
  | .hbm, ⟨5, _⟩ => ⟨S4160x2048, .f32⟩
  | .hbm, ⟨6, _⟩ => ⟨S4160x2048, .f32⟩
  | .hbm, ⟨7, _⟩ => ⟨S4160x2048, .f32⟩
  | .hbm, ⟨8, _⟩ => ⟨S_, .f32⟩
  | .hbm, ⟨9, _⟩ => ⟨S4160, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S_, .f32⟩
  | .hbm, ⟨15, _⟩ => ⟨S4160x1, .f32⟩
  | .hbm, ⟨16, _⟩ => ⟨S4160x1, .f32⟩
  | .hbm, ⟨17, _⟩ => ⟨S4160x1, .f32⟩
  | .hbm, ⟨18, _⟩ => ⟨S4160x2048, .f32⟩
  | .hbm, ⟨19, _⟩ => ⟨S4160x2048, .f32⟩
  | .hbm, ⟨20, _⟩ => ⟨S4160x2048, .f32⟩
  | .hbm, ⟨21, _⟩ => ⟨S4160x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x128, .f32⟩
  | _, _ => ⟨S4160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Proof.Blocks.lean ====
/-
  Where an element of a device's block lies in the whole array, by coordinates.
-/
module

public import Idealize.ShloMosaic.Lib.Layout

@[expose] public section

namespace Cert.Blocks

open Idealize.ShloMosaic Idealize.ShloMosaic.Layout

variable {d : Fin 2 → Nat} {D : Fin 2 → Nat} {e E : Fin 3 → Nat} {f G : Fin 4 → Nat} {k : Nat}

theorem rows0 (h : Tiles ⟨2, d⟩ ⟨2, D⟩ 0 k) (c : Fin k) (i : (⟨2, d⟩ : Shape).Idx) {n r : Nat} (hn : d 0 = n) (hr : (i 0).val = r) :
    (h.idx c i 0).val = c.val * n + r := by subst hn hr; rfl
theorem rows1 (h : Tiles ⟨2, d⟩ ⟨2, D⟩ 0 k) (c : Fin k) (i : (⟨2, d⟩ : Shape).Idx) {r : Nat} (hr : (i 1).val = r) :
    (h.idx c i 1).val = r := by subst hr; rfl
theorem front0 (h : Tiles ⟨3, e⟩ ⟨3, E⟩ 0 k) (c : Fin k) (i : (⟨3, e⟩ : Shape).Idx) {n r : Nat} (hn : e 0 = n) (hr : (i 0).val = r) :
    (h.idx c i 0).val = c.val * n + r := by subst hn hr; rfl
theorem front1 (h : Tiles ⟨3, e⟩ ⟨3, E⟩ 0 k) (c : Fin k) (i : (⟨3, e⟩ : Shape).Idx) : (h.idx c i 1).val = (i 1).val := rfl
theorem front2 (h : Tiles ⟨3, e⟩ ⟨3, E⟩ 0 k) (c : Fin k) (i : (⟨3, e⟩ : Shape).Idx) : (h.idx c i 2).val = (i 2).val := rfl

theorem four0 (h : Tiles ⟨4, f⟩ ⟨4, G⟩ 0 k) (c : Fin k) (i : (⟨4, f⟩ : Shape).Idx) {n r : Nat} (hn : f 0 = n) (hr : (i 0).val = r) :
    (h.idx c i 0).val = c.val * n + r := by subst hn hr; rfl
theorem four1 (h : Tiles ⟨4, f⟩ ⟨4, G⟩ 0 k) (c : Fin k) (i : (⟨4, f⟩ : Shape).Idx) : (h.idx c i 1).val = (i 1).val := rfl
theorem four2 (h : Tiles ⟨4, f⟩ ⟨4, G⟩ 0 k) (c : Fin k) (i : (⟨4, f⟩ : Shape).Idx) : (h.idx c i 2).val = (i 2).val := rfl
theorem four3 (h : Tiles ⟨4, f⟩ ⟨4, G⟩ 0 k) (c : Fin k) (i : (⟨4, f⟩ : Shape).Idx) : (h.idx c i 3).val = (i 3).val := rfl

end Cert.Blocks
-- ==== Proof.Launch.lean ====
/-
  The launch of a program whose first kernel trades data with other cores over its own
  semaphores, and whose `main` goes on after that kernel.

  The first kernel's semaphores are dealt at the launch, to all the cores at once: the invariants
  over them, which other cores pay into, exist before any core starts. The rest of `main` is a list
  of host stretches and further kernels, run in order.
-/
module

public import Idealize.ShloMosaic.Lib.Pipeline.Regions

@[expose] public section

set_option Elab.async false

noncomputable section

namespace Cert.Dealt

open Idealize.ShloMosaic Idealize.ShloMosaic.Pipeline
open Idealize.SL
open Idealize.SL.BI (sProp bigSep bigSep_sep' bigSep_mono bigSep_congr bigSep_univ_prod bigSep_erase)
open scoped Idealize.SL.BI
open Idealize.SL.BI.BIBase Idealize.SL.BI.Laws Idealize.SL.Sem Idealize.SL.ProofMode
open Idealize.SL.RA
open TcCoe
open Idealize.ShloMosaic.Rounds
open PCS

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Labels} {P : Type} [Fintype P] [DecidableEq P]
variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (pin pcs a)))
  (EP : Emb (URounds (GSem nD τ sig) Unit) (MT nD τ sig Ix Val Name U Lvl))
  (defs₀ : Defs nD τ sig Val Λ₀) (𝒱₀ : Variants)

variable [Preorder Lvl] [∀ e, Nonempty (Val e)] [Infinite Name]

/-- No cell has a level: nothing in these programs waits while it owes. -/
abbrev noL : GSem nD τ sig → Finset Ix := fun _ => ∅

omit [Preorder Lvl] in
theorem noLev (lv : GSem nD τ sig → Ix → Lvl) : (BI.emp : sProp 𝕄) ⊢ levAts noL lv := by
  unfold levAts
  rw [bigSep_congr (Ψ := fun _ => (BI.emp : sProp 𝕄)) fun g _ => by rw [BI.bigSep_empty], BI.bigSep_emp_const]

variable {p : P} {K : Type} [Fintype K] {osem : K → SemLoc sig}

/-- A core's boundary before the first kernel, less that kernel's own semaphores. -/
def kept (ho : OwnSemFacts (pcs p).spec osem) (c : Dev nD) : sProp 𝕄 :=
  iprop(scopedBufs (c.tc : Thread nD τ) ∗ cellsSems0 (pin pcs a) p c ∗ idleSems0 (pin pcs a) phinj p ho c ∗ opIdle (c.tc : Thread nD τ))

omit [DecidableEq P] [Fintype P] [Preorder Lvl] [∀ e, Nonempty (Val e)] [Infinite Name] in
theorem boundary_split (hw : WinFacts₀ (pcs p).spec) (ho : OwnSemFacts (pcs p).spec osem) (c : Dev nD) :
    (boundary (c.tc : Thread nD τ) : sProp 𝕄) ⊢ iprop(kept pcs a phinj ho c ∗ ownSems0 osem c) := by
  unfold boundary kept
  rw [scopedSems0_split (pin pcs a) phinj p hw ho c]
  iintro ⟨H1, ⟨⟨H2, H3⟩, H4⟩, H5⟩
  isplitr [H3]
  · isplitl [H1]; · iexact H1
    isplitl [H2]; · iexact H2
    isplitl [H4] <;> iassumption
  · iexact H3

variable (lv : GSem nD τ sig → Ix → Lvl)

include phinj in
/-- The first kernel's step on core `c`, its semaphores already dealt: from what is kept of the
    boundary and `T`, to the whole boundary and `post`. -/
theorem wp_first [EP.LandsIn (upEmb : UEmb _ 𝕄)] (hw : WinFacts₀ (pcs p).spec) (ho : OwnSemFacts (pcs p).spec osem) (c : Dev nD)
    (hbody : BodyObligationLoose (pdats p c) defs₀ 𝒱₀ ι Set.univ)
    (hne : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hwaits : (BI.emp : sProp 𝕄) ⊢ cellsWaits (pin pcs a) pdats ι p c)
    {T X Y Z post : sProp 𝕄}
    (hentry : T ⊢ |={Set.univ}=> iprop((pdats p c).arrays ((pdats p c).arrAt · 0) ∗ prefHeld (pcs p).pre c (fun _ => fullShare) (a p).1
        ∗ (pdats p c).owesAt ι 0 ∗ X ∗ Z))
    (hin : iprop(X ∗ prefHeld (pcs p).pre c (fun _ => fullShare) (a p).1 ∗ scopedRest (pin pcs a p).spec c) ⊢ (pdats p c).Φ 0)
    (hout : (pdats p c).Φ (Fin.last (pin pcs a p).N) ⊢ iprop(Y ∗ ownSems0 osem c ∗ scopedRest (pin pcs a p).spec c))
    (hexit : iprop((pdats p c).arrays ((pdats p c).arrAt · (pin pcs a p).N) ∗ (pdats p c).owesAt ι (Fin.last (pin pcs a p).N) ∗ Y ∗ Z)
      ⊢ |={Set.univ}=> post)
    {α : Type} (k : PUnit → Prog (TpuEff nD τ sig Val (Sig Λ₀ P fun p => (pcs p).Adm) .tc) α) (Q : α → sProp 𝕄) :
    iprop((iprop(boundary (c.tc : Thread nD τ) ∗ post) -∗ wp frame (wpE (Pipeline.defs pcs defs₀) (Variants.lift 𝒱₀) (c.tc : Thread nD τ) none) Set.univ (k ⟨⟩) Q)
        ∗ kept pcs a phinj ho c ∗ T ∗ cellsGhost (pin pcs a) EP p c ∗ toksInit (pin pcs a) EP p c)
      ⊢ wp frame (wpE (Pipeline.defs pcs defs₀) (Variants.lift 𝒱₀) (c.tc : Thread nD τ) none) Set.univ (.op (.customCall (entry p) ()) k) Q := by
  have hss := scopedSems0_split (pin pcs a) phinj p hw ho (Ix := Ix) (Val := Val) (Name := Name) (U := U) (Lvl := Lvl) c
  have hsb := scopedBufs_split (pin pcs a) p hw.stage_scoped hw.stage_inj hstage (nD := nD) (τ := τ) (Ix := Ix) (Val := Val) (Name := Name) (U := U) (Lvl := Lvl) c
  have hout' : iprop((pdats p c).Φ (Fin.last (pin pcs a p).N) ∗ cellsSems0 (pin pcs a) p c ∗ Dat.staging (pin pcs a p) c ∗ idleSems0 (pin pcs a) phinj p ho c)
      ⊢ iprop(Y ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  unfold kept
  iintro ⟨Hk, ⟨Hsc, Hcells, Hidle, Hop⟩, HT, Hg, Ht⟩
  iapply (fupd_wp frame (wpE (Pipeline.defs pcs defs₀) (Variants.lift 𝒱₀) (c.tc : Thread nD τ) none) Set.univ _ _)
  imod (cellsInit_alloc (pin pcs a) pdats EP phinj p c) $$ [Hcells Hg] with ⟨%κ, -, Hinit⟩
  · isplitl [Hcells] <;> iassumption
  imod hentry $$ HT with ⟨Harr, Hpf, HO, HX, HZ⟩
  imodintro
  iapply (wp_customCall_entry_frame pcs a pdats ι EP κ phinj p defs₀ 𝒱₀ (fun _ => fullShare) c Set.univ (fun _ _ => Set.mem_univ _)
      hbody hne none (fun u h => nomatch h) (X := X) (Y := Y) (R := scopedRest (pin pcs a p).spec c) (I := idleSems0 (pin pcs a) phinj p ho c)
      (Entails.of_eq hsb) hin hout' (k := k) (Q := Q)) $$ [Harr HO Hinit Ht Hpf HX Hidle Hsc]
  · isplitl [Harr HO Hinit Ht]
    · unfold EntryPre PerCore.EntryPre
      isplitl [Harr]; · iexact Harr
      isplitl [HO]; · iexact HO
      isplitr; · iapply hwaits; iempintro
      isplitl [Hinit] <;> iassumption
    isplitl [Hpf]; · iexact Hpf
    isplitl [HX]; · iexact HX
    isplitl [Hidle] <;> iassumption
  iintro ⟨Hpost, HY, Hss, Hsb⟩
  ihave Hp := (show EntryPost (pin pcs a) pdats ι p c
      ⊢ iprop((pdats p c).arrays ((pdats p c).arrAt · (pin pcs a p).N) ∗ (pdats p c).owesAt ι (Fin.last (pin pcs a p).N)) from by
    unfold EntryPost PerCore.EntryPost; exact BI.Entails.refl _) $$ Hpost
  icases Hp with ⟨Harr, HO⟩
  iapply (fupd_wp frame (wpE (Pipeline.defs pcs defs₀) (Variants.lift 𝒱₀) (c.tc : Thread nD τ) none) Set.univ _ _)
  imod hexit $$ [Harr HO HY HZ] with Hpost
  · isplitl [Harr]; · iexact Harr
    isplitl [HO]; · iexact HO
    isplitl [HY] <;> iassumption
  imodintro
  iapply Hk
  isplitr [Hpost]
  · unfold boundary
    isplitl [Hsb]; · iexact Hsb
    isplitl [Hss] <;> iassumption
  · iexact Hpost

include phinj in
/-- The launch. `hinit` makes every core's first state at once, from the cores' buffers, their owed
    units and credit, and the first kernel's semaphores, all at zero. -/
theorem run_dealt [EP.LandsIn (upEmb : UEmb _ 𝕄)] (m : (ℓ : Loc nD τ sig) → Buf Val ℓ) (g : Dev nD → PrngReg)
    (main : Dev nD → Prog (TpuEff nD τ sig Val (Sig Λ₀ P fun p => (pcs p).Adm) .tc) PUnit)
    (hw : WinFacts₀ (pcs p).spec) (ho : OwnSemFacts (pcs p).spec osem)
    (hbody : ∀ c, BodyObligationLoose (pdats p c) defs₀ 𝒱₀ ι Set.univ)
    (hne : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hwaits : ∀ c, (BI.emp : sProp 𝕄) ⊢ cellsWaits (pin pcs a) pdats ι p c)
    (segs : Dev nD → List (Seg pcs a pdats ι defs₀ 𝒱₀ noL lv))
    (hmain : ∀ c, main c = .op (.customCall (entry p) ()) fun _ => Seg.run (segs c))
    (hnd : ∀ c, (p :: Seg.pipes (segs c)).Nodup)
    (O₀ : Dev nD → CellTallies nD τ sig Ix) (G : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (T₀ X Y Z T₁ Tₙ : Dev nD → sProp 𝕄)
    (hinit : (bigSep Finset.univ fun c : Dev nD => iprop(unscopedBufs c (fun b => m ((c.tc : Thread nD τ).loc b)) ∗ owes (c.tc : Thread nD τ) (O₀ c) ∅
          ∗ launchCred O₀ c ∗ ownSems0 osem c ∗ G c))
      ⊢ |={Set.univ}=> bigSep Finset.univ T₀)
    (hentry : ∀ c, T₀ c ⊢ |={Set.univ}=> iprop((pdats p c).arrays ((pdats p c).arrAt · 0) ∗ prefHeld (pcs p).pre c (fun _ => fullShare) (a p).1
        ∗ (pdats p c).owesAt ι 0 ∗ X c ∗ Z c))
    (hin : ∀ c, iprop(X c ∗ prefHeld (pcs p).pre c (fun _ => fullShare) (a p).1 ∗ scopedRest (pin pcs a p).spec c) ⊢ (pdats p c).Φ 0)
    (hout : ∀ c, (pdats p c).Φ (Fin.last (pin pcs a p).N) ⊢ iprop(Y c ∗ ownSems0 osem c ∗ scopedRest (pin pcs a p).spec c))
    (hexit : ∀ c, iprop((pdats p c).arrays ((pdats p c).arrAt · (pin pcs a p).N) ∗ (pdats p c).owesAt ι (Fin.last (pin pcs a p).N) ∗ Y c ∗ Z c)
      ⊢ |={Set.univ}=> T₁ c)
    (hch : ∀ c, Seg.ChainsAt c T₁ (segs c) fun c => iprop(Tₙ c ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  let pre : Dev nD → sProp 𝕄 := fun c => iprop(kept pcs a phinj ho c ∗ T₀ c ∗ ghostOn pcs a EP Finset.univ c)
  let fin : Dev nD → sProp 𝕄 := fun c => iprop(Tₙ c ∗ boundary (c.tc : Thread nD τ))
  refine (θ_run (Pipeline.defs pcs defs₀) _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu (Pipeline.defs pcs defs₀) _ _ _
    (reflect_intro_fupd_tc_sems (X := Unit) (Variants.lift 𝒱₀) (owing O₀) 0 (noBookings fun _ => le_rfl) (owing_of_ne O₀) u₀ (fun _ => pre) (fun _ => fin)
      (fun _ => iprop(emp)) Set.univ ?_ (fun _ c => ?_) fun _ => ?_))
  · have hcore (c : Dev nD) :
        iprop(coreInit (Ix := Ix) (Name := Name) (U := U) (Lvl := Lvl) (owing O₀) 0 (⟨m, fun _ => 0, g⟩ : MemSt nD τ sig Val) (c.tc : Thread nD τ) ∗ G c)
          ⊢ iprop(kept pcs a phinj ho c ∗ iprop(unscopedBufs c (fun b => m ((c.tc : Thread nD τ).loc b)) ∗ owes (c.tc : Thread nD τ) (O₀ c) ∅
              ∗ launchCred O₀ c ∗ ownSems0 osem c ∗ G c)) := by
      iintro ⟨Hi, HG⟩
      ihave H := (coreInit_boundary_owing O₀ m g c) $$ Hi
      icases H with ⟨Hb, Hub, -, HO, -, -, Hcr⟩
      ihave Hb' := (boundary_split pcs a phinj hw ho c) $$ Hb
      icases Hb' with ⟨Hk, Hs⟩
      isplitl [Hk]; · iexact Hk
      isplitl [Hub]; · iexact Hub
      isplitl [HO]; · iexact HO
      isplitl [Hcr]; · iexact Hcr
      isplitl [Hs] <;> iassumption
    have hcores : iprop((bigSep Finset.univ fun d : Dev nD =>
            coreInit (Ix := Ix) (Name := Name) (U := U) (Lvl := Lvl) (owing O₀) 0 (⟨m, fun _ => 0, g⟩ : MemSt nD τ sig Val) (d.tc : Thread nD τ)) ∗ bigSep Finset.univ G)
        ⊢ iprop((bigSep Finset.univ fun c : Dev nD => kept pcs a phinj ho c)
            ∗ bigSep Finset.univ fun c : Dev nD => iprop(unscopedBufs c (fun b => m ((c.tc : Thread nD τ).loc b)) ∗ owes (c.tc : Thread nD τ) (O₀ c) ∅
              ∗ launchCred O₀ c ∗ ownSems0 osem c ∗ G c)) := by
      rw [← bigSep_sep', ← bigSep_sep']
      exact bigSep_mono fun c _ => hcore c
    have hghost : iprop((bigSep Finset.univ fun c : Dev nD => bigSep Finset.univ fun p => cellsGhost (pin pcs a) EP p c)
          ∗ (bigSep Finset.univ fun c : Dev nD => bigSep Finset.univ fun p => (toksInit (pin pcs a) EP p c : sProp 𝕄)))
        ⊢ bigSep Finset.univ fun c : Dev nD => ghostOn pcs a EP Finset.univ c := by
      rw [← bigSep_sep']
      exact bigSep_mono fun c _ => show iprop((bigSep Finset.univ fun p => cellsGhost (pin pcs a) EP p c)
            ∗ bigSep Finset.univ fun p => (toksInit (pin pcs a) EP p c : sProp 𝕄)) ⊢ ghostOn pcs a EP Finset.univ c
        from Entails.of_eq (by unfold ghostOn PerCore.ghostOn; rw [bigSep_sep'])
    iintro ⟨Hcores, Hu⟩
    imod hu₀ $$ Hu with ⟨HP, HG⟩
    imod (fund_ghost (pin pcs a) EP phinj) $$ HP with ⟨Hg, Ht⟩
    ihave Hc := hcores $$ [Hcores HG]
    · isplitl [Hcores] <;> iassumption
    icases Hc with ⟨Hk, Hh⟩
    imod hinit $$ Hh with HT
    imodintro
    iexists ()
    isplitr []
    · simp only [pre, bigSep_sep']
      isplitl [Hk]; · iexact Hk
      isplitl [HT]; · iexact HT
      iapply hghost
      isplitl [Hg] <;> iassumption
    · iempintro
  · simp only [pre]
    rw [hmain c]
    have hge := PerCore.ghostOn_erase pcs (fun _ => a) EP (Finset.mem_univ p) c
    iintro ⟨Hk, HT, Hg⟩
    ihave Hg' := (Entails.of_eq hge) $$ Hg
    icases Hg' with ⟨⟨Hg, Ht⟩, Hgr⟩
    iapply (wp_first pcs a pdats ι phinj EP defs₀ 𝒱₀ hw ho c (hbody c) hne hstage (hwaits c) (hentry c) (hin c) (hout c) (hexit c) _ _)
    isplitr [Hk HT Hg Ht]
    · iintro ⟨Hb, HT⟩
      rw [← Seg.run_toR pcs a pdats ι defs₀ 𝒱₀ noL lv (segs c)]
      iapply (RDat.wp_segs pcs a (Dat.toRs pdats) ι phinj EP defs₀ 𝒱₀ noL lv c ((segs c).map (Seg.toR pcs a pdats ι defs₀ 𝒱₀ noL lv)) (Finset.univ.erase p) T₁ _
        (by rw [Seg.pipes_toR pcs a pdats ι defs₀ 𝒱₀ noL lv (segs c)]; exact (List.nodup_cons.mp (hnd c)).2)
        (by rw [Seg.pipes_toR pcs a pdats ι defs₀ 𝒱₀ noL lv (segs c)]
            exact fun q hq => Finset.mem_erase.mpr ⟨fun h => (List.nodup_cons.mp (hnd c)).1 (h ▸ hq), Finset.mem_univ q⟩)
        ((hch c).toR pcs a pdats ι defs₀ 𝒱₀ noL lv))
      isplitr [Hb HT Hgr]
      · iintro ⟨Hb, HT, HW⟩
        unfold post; simp only [liftTc_tc, fin]
        isplitl [HT Hb]
        · isplitl [HT]; · iexact HT
          iexact Hb
        iexact HW
      · isplitl [Hb]; · iexact Hb
        isplitl [HT]; · iexact HT
        isplitr; · iapply (noLev lv); iempintro
        iexact Hgr
    · isplitl [Hk]; · iexact Hk
      isplitl [HT]; · iexact HT
      isplitl [Hg] <;> iassumption
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Dealt
-- ==== Proof.Exchange.lean ====
/-
  One exchange between cores, stated once for every kernel that is one.

  A core owns a family of semaphores, one for each thing it waits for: that a piece it sent has left,
  that a piece another core sent has arrived, that a local copy is done. Each is paid once, by one
  core, a fixed amount, and hands its owner what that wait is for (`pay`). All of this is
  dealt at the launch, to all cores at once.
-/
module

public import proofs.«01_k».proof.Proof.Launch
public import Idealize.ShloMosaic.Lib.Pipeline.Launch
public import Idealize.ShloMosaic.Lib.Pipeline.Kit
public import Idealize.ShloMosaic.Lib.Tactic

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

/-- The launch's own ghost state beside the exchange's. -/
abbrev UU (nD : Nat) (τ : Topo) (sig : RefSig) : Type := UR sig nD τ × UR sig nD τ

local notation "𝕄" => MT nD τ sig Unit Val ℕ (UU nD τ sig) ℕ

variable (nD τ sig Val) in
abbrev EP : Emb (UR sig nD τ) (MT nD τ sig Unit Val ℕ (UU nD τ sig) ℕ) := embL
variable (nD τ sig Val) in
abbrev ER : Emb (UR sig nD τ) (MT nD τ sig Unit Val ℕ (UU nD τ sig) ℕ) := embR

/-- The waits of an exchange with pieces `I` and local copies `K`: a piece sent from here has left; a
    piece from another core has arrived; a local copy is done. -/
abbrev Wt (I K : Type) : Type := I ⊕ (I ⊕ K)

/-- An exchange: the semaphore of each wait, the amount of each piece and copy, and the core a piece
    goes to. -/
structure Plan (nD : Nat) (sig : RefSig) (I K : Type) where
  sem : Wt I K → SemLoc sig
  inj : Function.Injective sem
  size : I → ℕ
  size_pos : ∀ i, 0 < size i
  copied : K → ℕ
  copied_pos : ∀ k, 0 < copied k
  dest : I → Dev nD ≃ Dev nD

variable {I K : Type} [Fintype I] [DecidableEq I] [Fintype K] [DecidableEq K] (P : Plan nD sig I K)

abbrev left (i : I) : Wt I K := Sum.inl i
abbrev came (i : I) : Wt I K := Sum.inr (Sum.inl i)
abbrev copy (k : K) : Wt I K := Sum.inr (Sum.inr k)

/-- What a wait is paid. -/
def Plan.amt : Wt I K → ℕ
  | .inl i => P.size i
  | .inr (.inl i) => P.size i
  | .inr (.inr k) => P.copied k

theorem Plan.amt_pos : ∀ j : Wt I K, 0 < P.amt j
  | .inl i => P.size_pos i
  | .inr (.inl i) => P.size_pos i
  | .inr (.inr k) => P.copied_pos k

/-- Whose wait `j` a core pays. -/
def Plan.peer : Wt I K → Dev nD ≃ Dev nD
  | .inl _ => Equiv.refl _
  | .inr (.inl i) => P.dest i
  | .inr (.inr _) => Equiv.refl _

abbrev Plan.cell (c : Dev nD) (j : Wt I K) : GSem nD τ sig := ((c : Thread nD τ), P.sem j)

theorem cell_inj : Function.Injective (fun x : Dev nD × Wt I K => (P.cell x.1 x.2 : GSem nD τ sig)) := by
  rintro ⟨c, j⟩ ⟨c', j'⟩ h
  have h1 : c = c' := congrArg (fun g : GSem nD τ sig => g.1.1) h
  have h2 : j = j' := P.inj (congrArg Prod.snd h)
  rw [h1, h2]

/-- The wait a semaphore is for. -/
def Plan.find (g : GSem nD τ sig) : Option (Dev nD × Wt I K) := Function.partialInv (fun x : Dev nD × Wt I K => (P.cell x.1 x.2 : GSem nD τ sig)) g

theorem find_cell (c : Dev nD) (j : Wt I K) : P.find (P.cell c j : GSem nD τ sig) = some (c, j) :=
  Function.partialInv_left (cell_inj P) (c, j)

variable (pay : Dev nD → Wt I K → sProp (MT nD τ sig Unit Val ℕ (UU nD τ sig) ℕ))

/-- Each wait is paid once, whole. -/
def sched : Rounds.Schedule (GSem nD τ sig) Unit (MT nD τ sig Unit Val ℕ (UU nD τ sig) ℕ) where
  duties g r := if r = 0 then {()} else ∅
  amount g _ _ := match P.find g with
    | some x => P.amt x.2
    | none => 1
  payload g _ _ := match P.find g with
    | some x => pay x.1 x.2
    | none => iprop(emp)
  amount_pos g _ _ _ := by
    cases h : P.find g with
    | some x => exact P.amt_pos x.2
    | none => exact Nat.one_pos

theorem duties_zero (g : GSem nD τ sig) : (sched P pay).duties g 0 = {()} := by
  show (if 0 = 0 then ({()} : Finset Unit) else ∅) = _
  exact if_pos rfl
theorem duties_later (g : GSem nD τ sig) (r : ℕ) (hr : 1 ≤ r) : (sched P pay).duties g r = ∅ := if_neg (by omega)
theorem amount_cell (c : Dev nD) (j : Wt I K) : (sched (τ := τ) P pay).amount (P.cell c j) 0 () = P.amt j := by
  show (match P.find (P.cell c j : GSem nD τ sig) with | some x => P.amt x.2 | none => 1) = _
  rw [find_cell]
theorem payload_cell (c : Dev nD) (j : Wt I K) : (sched (τ := τ) P pay).payload (P.cell c j) 0 () = pay c j := by
  show (match P.find (P.cell c j : GSem nD τ sig) with | some x => pay x.1 x.2 | none => iprop(emp)) = _
  rw [find_cell]
theorem expect_cell (c : Dev nD) (j : Wt I K) : (sched (τ := τ) P pay).expect (P.cell c j) 0 = P.amt j := by
  unfold Schedule.expect Schedule.amountOf; rw [duties_zero, Finset.sum_singleton, amount_cell]

/-- What is handed over at a wait can be kept by an invariant. -/
class Pays (pay : Dev nD → Wt I K → sProp (MT nD τ sig Unit Val ℕ (UU nD τ sig) ℕ)) where
  st : ∀ c j, BI.Storable (upEmb : UEmb _ (MT nD τ sig Unit Val ℕ (UU nD τ sig) ℕ)) (pay c j)

variable [hst : Pays pay]

instance sched_storable (g : GSem nD τ sig) (r : ℕ) (d : Unit) : BI.Storable (upEmb : UEmb _ 𝕄) ((sched P pay).payload g r d) := by
  show BI.Storable upEmb (match P.find g with | some x => pay x.1 x.2 | none => iprop(emp))
  cases P.find g with
  | some x => exact hst.st x.1 x.2
  | none => infer_instance

/-! ## What a core owes at the launch -/

/-- What core `c` owes while the pieces `S` are yet to be sent. -/
def owed (c : Dev nD) (S : Finset I) : CellTallies nD τ sig Unit := ∑ i ∈ S, tallyAt (P.cell (P.dest i c) (came i)) () (P.size i)

abbrev O₀ (c : Dev nD) : CellTallies nD τ sig Unit := owed P c Finset.univ

theorem owed_erase (c : Dev nD) (S : Finset I) (i : I) (h : i ∈ S) :
    (owed P c S : CellTallies nD τ sig Unit) = owed P c (S.erase i) + tallyAt (P.cell (P.dest i c) (came i)) () (P.size i) :=
  (Finset.sum_erase_add S _ h).symm

theorem owed_came (d c : Dev nD) (i : I) :
    (O₀ P d : CellTallies nD τ sig Unit) (P.cell c (came i)) () = if d = (P.dest i).symm c then P.size i else 0 := by
  unfold O₀ owed
  rw [Finset.sum_apply, Finsupp.finset_sum_apply, Finset.sum_eq_single i]
  · rw [tallyAt_apply]
    by_cases hd : d = (P.dest i).symm c
    · subst hd; rw [Equiv.apply_symm_apply, if_pos ⟨rfl, rfl⟩, if_pos rfl]
    · rw [if_neg hd, if_neg]
      rintro ⟨h1, -⟩
      have : c = P.dest i d := congrArg (fun g : GSem nD τ sig => g.1.1) h1
      exact hd (by rw [this, Equiv.symm_apply_apply])
  · intro k _ hk
    rw [tallyAt_ne_cell, Finsupp.zero_apply]
    intro e
    have h2 : (came i : Wt I K) = came k := P.inj (congrArg Prod.snd e)
    exact hk (Sum.inl.inj (Sum.inr.inj h2)).symm
  · intro h; exact absurd (Finset.mem_univ i) h

/-- The credit the launch gives a core for a piece another core sends. -/
theorem launch_came (c : Dev nD) (i : I) :
    tallyOn (P.cell c (came i)) (launchCredit (Pipeline.owing (O₀ (τ := τ) P)) 0 (P.cell c (came i))) = (tallyAt (P.cell c (came i)) () (P.size i) : CellTallies nD τ sig Unit) := by
  unfold tallyAt; refine congrArg _ (Finsupp.ext fun u => ?_); cases u
  rw [Pipeline.launchCredit_owing, Finsupp.single_eq_same, Finset.sum_congr rfl fun d _ => owed_came P d c i,
    Finset.sum_ite_eq' Finset.univ ((P.dest i).symm c) fun _ => P.size i, if_pos (Finset.mem_univ _)]

/-- The credit core `c` starts with. -/
def creds (c : Dev nD) : sProp 𝕄 := bigSep Finset.univ fun i => cred (tallyAt (P.cell c (came i)) () (P.size i))

theorem creds_intro (c : Dev nD) : (Pipeline.launchCred (O₀ P) c : sProp 𝕄) ⊢ creds P c := by
  unfold Pipeline.launchCred creds
  refine (bigSep_subset (t := Finset.univ.map ⟨fun i : I => P.sem (came i), fun i k h => Sum.inl.inj (Sum.inr.inj (P.inj h))⟩) (Finset.subset_univ _)).trans ?_
  rw [bigSep_map]
  exact bigSep_mono fun i _ => Entails.of_eq (congrArg cred (launch_came P c i))

/-! ## Dealing at the launch -/

def cells : Finset (GSem nD τ sig) := Finset.univ.map ⟨fun x : Dev nD × Wt I K => P.cell x.1 x.2, cell_inj P⟩
def toks : Finset (GSem nD τ sig × ℕ × Unit) :=
  Finset.univ.map ⟨fun x : Dev nD × Wt I K => (P.cell x.1 x.2, 0, ()), fun _ _ h => cell_inj P (congrArg Prod.fst h)⟩

/-- What a core is given before the deal. -/
def G (c : Dev nD) : sProp 𝕄 :=
  iprop((bigSep Finset.univ fun j => roundState (ER nD τ sig Val) (sched P pay) (P.cell c j) 0)
    ∗ (bigSep Finset.univ fun j => iprop(atPos (ER nD τ sig Val) (P.cell c j) 0 ∅ 0))
    ∗ (bigSep Finset.univ fun j => iprop(reached (ER nD τ sig Val) (P.cell c j) 0))
    ∗ (bigSep Finset.univ fun j => iprop(dutyTok (ER nD τ sig Val) (P.cell c j) 0 ())))

theorem fund : BI.own (ER nD τ sig Val (initOf (cells P) (toks P))) ⊢ (|==> bigSep Finset.univ (G P pay) : sProp 𝕄) := by
  have hX (Φ : GSem nD τ sig → sProp 𝕄) : bigSep (cells P) Φ = bigSep Finset.univ fun c : Dev nD => bigSep Finset.univ fun j : Wt I K => Φ (P.cell c j) := by
    unfold cells; rw [bigSep_map, bigSep_univ_prod]; rfl
  have hT : bigSep (toks P) (fun x => (dutyTok (ER nD τ sig Val) x.1 x.2.1 x.2.2 : sProp 𝕄))
      = bigSep Finset.univ fun c : Dev nD => bigSep Finset.univ fun j : Wt I K => dutyTok (ER nD τ sig Val) (P.cell c j) 0 () := by
    unfold toks; rw [bigSep_map, bigSep_univ_prod]; rfl
  iintro HX
  imod (Rounds.fund (ER nD τ sig Val) (sched P pay) (cells P) (toks P)) $$ HX with ⟨Hst, Hr, Hat, Htok⟩
  imodintro
  ihave Hst' := (Entails.of_eq (hX fun g => roundState (ER nD τ sig Val) (sched P pay) g 0)) $$ Hst
  ihave Hat' := (Entails.of_eq (hX fun g => atPos (ER nD τ sig Val) g 0 ∅ 0)) $$ Hat
  ihave Hr' := (Entails.of_eq (hX fun g => reached (ER nD τ sig Val) g 0)) $$ Hr
  ihave Htok' := (Entails.of_eq hT) $$ Htok
  unfold G; simp only [bigSep_sep']
  isplitl [Hst']; · iexact Hst'
  isplitl [Hat']; · iexact Hat'
  isplitl [Hr'] <;> iassumption

/-- The invariants of all the cores' semaphores, and that each is at its one round. -/
def records (κ : Dev nD × Wt I K → ℕ) : sProp 𝕄 :=
  iprop((bigSep Finset.univ fun x : Dev nD × Wt I K => cellInv (ER nD τ sig Val) (sched P pay) (κ x) (P.cell x.1 x.2))
    ∗ bigSep Finset.univ fun x : Dev nD × Wt I K => reached (ER nD τ sig Val) (P.cell x.1 x.2) 0)

instance records_persistent (κ : Dev nD × Wt I K → ℕ) : BI.Persistent (records P pay κ) := by unfold records; infer_instance

/-- What a core starts with: the invariants; its own waits at their start; the right to pay the waits
    it pays; the credit for the waits others pay. -/
def start (κ : Dev nD × Wt I K → ℕ) (c : Dev nD) : sProp 𝕄 :=
  iprop(records P pay κ
    ∗ (bigSep Finset.univ fun j => iprop(atPos (ER nD τ sig Val) (P.cell c j) 0 ∅ 0))
    ∗ (bigSep Finset.univ fun j => iprop(dutyTok (ER nD τ sig Val) (P.cell (P.peer j c) j) 0 ()))
    ∗ creds P c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem alloc (c : Dev nD) :
    iprop((bigSep Finset.univ fun j => semVal (P.cell c j) 0) ∗ bigSep Finset.univ fun j => roundState (ER nD τ sig Val) (sched P pay) (P.cell c j) 0)
      ⊢ (|={Set.univ}=> bigSep Finset.univ fun j => iprop(∃ κ : ℕ, cellInv (ER nD τ sig Val) (sched P pay) κ (P.cell c j)) : sProp 𝕄) := by
  rw [← bigSep_sep']
  exact (bigSep_mono fun j _ => (Rounds.body_intro (ER nD τ sig Val) (sched P pay) (P.cell c j)).trans inv_alloc).trans (bigSep_fupd _ _)

/-- The deal, with `A` per core handed along. -/
theorem deal (A : Dev nD → sProp 𝕄) :
    (bigSep Finset.univ fun c : Dev nD => iprop(A c ∗ Pipeline.launchCred (O₀ P) c ∗ Pipeline.ownSems0 (τ := τ) P.sem c ∗ G P pay c))
      ⊢ |={Set.univ}=> iprop(∃ κ, (bigSep Finset.univ A) ∗ bigSep Finset.univ (start P pay κ)) := by
  have halloc : (bigSep Finset.univ fun c : Dev nD => iprop((bigSep Finset.univ fun j => semVal (P.cell c j) 0) ∗ bigSep Finset.univ fun j => roundState (ER nD τ sig Val) (sched P pay) (P.cell c j) 0))
      ⊢ (|={Set.univ}=> bigSep Finset.univ fun c : Dev nD => bigSep Finset.univ fun j => iprop(∃ κ : ℕ, cellInv (ER nD τ sig Val) (sched P pay) κ (P.cell c j)) : sProp 𝕄) :=
    (bigSep_mono fun c _ => alloc P pay c).trans (bigSep_fupd _ _)
  have hcr : (bigSep Finset.univ fun c : Dev nD => (Pipeline.launchCred (O₀ (τ := τ) P) c : sProp 𝕄)) ⊢ bigSep Finset.univ fun c : Dev nD => creds P c :=
    bigSep_mono fun c _ => creds_intro P c
  unfold G Pipeline.ownSems0
  simp only [bigSep_sep']
  iintro ⟨HA, Hcr, Hs, Hst, Hat, Hr, Htok⟩
  imod halloc $$ [Hs Hst] with HI
  · simp only [bigSep_sep']; isplitl [Hs] <;> iassumption
  ihave HI' := (Entails.of_eq (bigSep_univ_prod (fun x : Dev nD × Wt I K => iprop(∃ κ : ℕ, cellInv (ER nD τ sig Val) (sched P pay) κ (P.cell x.1 x.2) : sProp 𝕄))).symm) $$ HI
  ihave Hr' := (Entails.of_eq (bigSep_univ_prod (fun x : Dev nD × Wt I K => (reached (ER nD τ sig Val) (P.cell x.1 x.2) 0 : sProp 𝕄))).symm) $$ Hr
  ihave HK := (BI.bigSep_exists_pi Finset.univ (fun (x : Dev nD × Wt I K) (κ : ℕ) => (cellInv (ER nD τ sig Val) (sched P pay) κ (P.cell x.1 x.2) : sProp 𝕄))) $$ HI'
  icases HK with ⟨%κ, #HI⟩
  icases Hr' with #Hr
  imodintro
  iexists κ
  isplitl [HA]; · iexact HA
  have htok : (bigSep Finset.univ fun c : Dev nD => bigSep Finset.univ fun j => (dutyTok (ER nD τ sig Val) (P.cell c j) 0 () : sProp 𝕄))
      = bigSep Finset.univ fun c : Dev nD => bigSep Finset.univ fun j => (dutyTok (ER nD τ sig Val) (P.cell (P.peer j c) j) 0 () : sProp 𝕄) := by
    rw [bigSep_univ_comm, bigSep_univ_comm (fun (c : Dev nD) j => (dutyTok (ER nD τ sig Val) (P.cell (P.peer j c) j) 0 () : sProp 𝕄))]
    exact bigSep_congr fun j _ => bigSep_univ_equiv (P.peer j) (fun c : Dev nD => (dutyTok (ER nD τ sig Val) (P.cell c j) 0 () : sProp 𝕄))
  ihave Htok' := (Entails.of_eq htok) $$ Htok
  ihave Hcr' := hcr $$ Hcr
  iapply (with_persistent (R := records P pay κ)
    (Φ := fun c => iprop((bigSep Finset.univ fun j => iprop(atPos (ER nD τ sig Val) (P.cell c j) 0 ∅ 0))
      ∗ (bigSep Finset.univ fun j => iprop(dutyTok (ER nD τ sig Val) (P.cell (P.peer j c) j) 0 ())) ∗ creds P c))
    fun c _ => by unfold start; exact BI.Entails.refl _)
  isplitr
  · unfold records; isplitl <;> iassumption
  simp only [bigSep_sep']
  isplitl [Hat]; · iexact Hat
  isplitl [Htok'] <;> iassumption

/-! ## The steps -/

theorem inv_at (κ : Dev nD × Wt I K → ℕ) (c : Dev nD) (j : Wt I K) :
    records P pay κ ⊢ cellInv (ER nD τ sig Val) (sched P pay) (κ (c, j)) (P.cell c j) := by
  have h : (bigSep Finset.univ fun x : Dev nD × Wt I K => cellInv (ER nD τ sig Val) (sched P pay) (κ x) (P.cell x.1 x.2))
      ⊢ cellInv (ER nD τ sig Val) (sched P pay) (κ (c, j)) (P.cell c j) := bigSep_elim (Finset.mem_univ (c, j))
  unfold records
  iintro ⟨H, -⟩
  iapply h; iexact H

theorem reached_at (κ : Dev nD × Wt I K → ℕ) (c : Dev nD) (j : Wt I K) :
    records P pay κ ⊢ reached (ER nD τ sig Val) (P.cell c j) 0 := by
  have h : (bigSep Finset.univ fun x : Dev nD × Wt I K => (reached (ER nD τ sig Val) (P.cell x.1 x.2) 0 : sProp 𝕄))
      ⊢ reached (ER nD τ sig Val) (P.cell c j) 0 := bigSep_elim (Finset.mem_univ (c, j))
  unfold records
  iintro ⟨-, H⟩
  iapply h; iexact H

/-- A core owing `O`. -/
def owing (c : Dev nD) (O : CellTallies nD τ sig Unit) : sProp 𝕄 := iprop(∃ W, owes (c : Thread nD τ) O W)

variable {Λ : Labels} {defs : Defs nD τ sig Val Λ} (𝒱 : Variants)

/-- A piece sent: it leaves for `n`, which pays wait `js` here and wait `jr` there. -/
theorem wp_send (κ : Dev nD × Wt I K → ℕ) (c n : Dev nD) (js jr : Wt I K) (hjs : P.peer js c = c) (hn : n = P.peer jr c) {s : Shape} {e : EltTy} {sp sp' : Space}
    {src : Memref sig .tc sp s e} {dst : Memref sig .tc sp' s e} {sS sR : SemLoc sig} (hS : sS = P.sem js) (hR : sR = P.sem jr)
    {hsc : (dst : Memref sig (Dev.tc n : Thread nD τ).2.kind sp' s e).view.ref.isScScratch = false}
    {hsrc : src.view.WordExact} {hdst : (dst : Memref sig (Dev.tc n : Thread nD τ).2.kind sp' s e).view.WordExact}
    {hsem : DmaTarget.Typed sp sR (.remote (Dev.tc n : Thread nD τ) (dst : Memref sig (Dev.tc n : Thread nD τ).2.kind sp' s e) sS hsc)}
    {α : Type} {Q : α → sProp 𝕄} {k : PUnit → Prog (TpuEff nD τ sig Val Λ .tc) α} {q : PosShare TreeShare}
    {fs : Buf Val (src.view.loc (c : Thread nD τ))} {fd : Buf Val (dst.view.loc (n : Thread nD τ))}
    (hN : dst.view.amount sR = P.amt jr) (hN' : P.amt js = P.amt jr) {O : CellTallies nD τ sig Unit} {O' : CellTallies nD τ sig Unit}
    (hO : O' = O + tallyAt (P.cell (P.peer jr c) jr) () (P.amt jr))
    (hpay₁ : (src.view.loc (c : Thread nD τ) ↦[src.view.set]{q} fs) ⊢ pay c js)
    (hpay₂ : (dst.view.loc (n : Thread nD τ) ↦[dst.view.set]{fullShare} (dst.view.write Val fd (src.view.read Val fs) Finset.univ)) ⊢ pay n jr)
    (hr : τ.routes (c : Thread nD τ) (n : Thread nD τ) = true := by routes) :
    iprop(records P pay κ ∗ (src.view.loc (c : Thread nD τ) ↦[src.view.set]{q} fs) ∗ (dst.view.loc (n : Thread nD τ) ↦[dst.view.set]{fullShare} fd)
        ∗ owing c O' ∗ dutyTok (ER nD τ sig Val) (P.cell (P.peer js c) js) 0 () ∗ dutyTok (ER nD τ sig Val) (P.cell (P.peer jr c) jr) 0 ())
      ⊢ iprop(((cred (tallyAt (P.cell c js) () (P.amt js)) ∗ owing c O) -∗ wp frame (wpE defs 𝒱 (c : Thread nD τ) none) Set.univ (k ⟨⟩) Q)
          -∗ wp frame (wpE defs 𝒱 (c : Thread nD τ) none) Set.univ
              (.op (.enqueueDma src (.remote (Dev.tc n : Thread nD τ) dst sS hsc) sR hsrc hdst hsem) k) Q) := by
  subst hn hS hR
  rw [hjs]
  unfold owing
  iintro ⟨#HI, Hs, Hd, ⟨%W, HO⟩, Ht, Ht'⟩ Hk
  iapply (Rounds.wp_send_pointsTo 𝒱 (ER nD τ sig Val) (sched P pay) (c : Thread nD τ) none (κ₁ := κ (c, js)) (κ₂ := κ (P.peer jr c, jr))
    (r₁ := 0) (r₂ := 0) (d₁ := ()) (d₂ := ()) (fd := fd)
    (by rw [duties_zero]; exact Finset.mem_singleton_self _) (by rw [duties_zero]; exact Finset.mem_singleton_self _)
    () () (P.amt jr) hN ((amount_cell P pay c js).trans hN') (amount_cell P pay (P.peer jr c) jr) O hO (W := W)
    (hpay₁.trans (Entails.of_eq (payload_cell P pay c js).symm))
    (hpay₂.trans (Entails.of_eq (payload_cell P pay (P.peer jr c) jr).symm)) (hr := hr)) $$ [Hs Hd HO Ht Ht']
  · isplitr; · iapply (inv_at P pay κ c js); iexact HI
    isplitr; · iapply (inv_at P pay κ (P.peer jr c) jr); iexact HI
    isplitl [Hs]; · iexact Hs
    isplitl [Hd]; · iexact Hd
    isplitl [HO]; · iexact HO
    isplitl [Ht]; · iexact Ht
    isplitr; · iapply (reached_at P pay κ c js); iexact HI
    isplitl [Ht']; · iexact Ht'
    iapply (reached_at P pay κ (P.peer jr c) jr); iexact HI
  iintro ⟨Hc, HO⟩
  iapply Hk
  rw [hN']
  isplitl [Hc]; · iexact Hc
  iexists W; iexact HO

/-- A local copy started: it pays wait `j` of its own core. -/
theorem wp_copy (κ : Dev nD × Wt I K → ℕ) (c : Dev nD) (j : Wt I K) (hj : P.peer j c = c) {s : Shape} {e : EltTy} {sp sp' : Space}
    {src : Memref sig (c : Thread nD τ).2.kind sp s e} {dst : Memref sig (c : Thread nD τ).2.kind sp' s e} {sS : SemLoc sig} (hS : sS = P.sem j)
    {hsrc : src.view.WordExact} {hdst : dst.view.WordExact} {hsem : DmaTarget.Typed (nD := nD) sp sS (.here dst)}
    {α : Type} {Q : α → sProp 𝕄} {k : PUnit → Prog (TpuEff nD τ sig Val Λ (c : Thread nD τ).2) α} {q : PosShare TreeShare}
    {fs : Buf Val (src.view.loc (c : Thread nD τ))} {fd : Buf Val (dst.view.loc (c : Thread nD τ))}
    (hN : dst.view.amount sS = P.amt j)
    (hpay : iprop((dst.view.loc (c : Thread nD τ) ↦[dst.view.set]{fullShare} (dst.view.write Val fd (src.view.read Val fs) Finset.univ))
      ∗ (src.view.loc (c : Thread nD τ) ↦[src.view.set]{q} fs)) ⊢ pay c j) :
    iprop(records P pay κ ∗ (src.view.loc (c : Thread nD τ) ↦[src.view.set]{q} fs) ∗ (dst.view.loc (c : Thread nD τ) ↦[dst.view.set]{fullShare} fd)
        ∗ dutyTok (ER nD τ sig Val) (P.cell (P.peer j c) j) 0 ())
      ⊢ iprop((cred (tallyAt (P.cell c j) () (P.amt j)) -∗ wp frame (wpE defs 𝒱 (c : Thread nD τ) none) Set.univ (k ⟨⟩) Q)
          -∗ wp frame (wpE defs 𝒱 (c : Thread nD τ) none) Set.univ (.op (.enqueueDma src (.here dst) sS hsrc hdst hsem) k) Q) := by
  subst hS
  rw [hj]
  iintro ⟨#HI, Hs, Hd, Ht⟩ Hk
  iapply (Rounds.wp_copy_pointsTo 𝒱 (ER nD τ sig Val) (sched P pay) (c : Thread nD τ) none (κ := κ (c, j)) (r := 0) (d := ()) (fd := fd)
    (by rw [duties_zero]; exact Finset.mem_singleton_self _) () (P.amt j) hN (amount_cell P pay c j)
    (hpay.trans (Entails.of_eq (payload_cell P pay c j).symm))) $$ [Hs Hd Ht]
  · isplitr; · iapply (inv_at P pay κ c j); iexact HI
    isplitl [Hs]; · iexact Hs
    isplitl [Hd]; · iexact Hd
    isplitl [Ht]; · iexact Ht
    iapply (reached_at P pay κ c j); iexact HI
  iintro Hc
  iapply Hk
  iexact Hc

/-- A wait, done once and for all: the core gets what it waited for and its semaphore back at zero. -/
theorem wp_wait (κ : Dev nD × Wt I K → ℕ) (c : Dev nD) (j : Wt I K) {w : TpuEff nD τ sig Val Λ .tc PUnit} {sm : SemLoc sig} {N : ℕ} (hS : sm = P.sem j)
    (hw : ∀ K : PUnit → sProp 𝕄, wpE defs 𝒱 (c : Thread nD τ) none Set.univ w K = waitSpec (c : Thread nD τ) Set.univ sm N K) (hN : N = P.amt j)
    {α : Type} {Q : α → sProp 𝕄} {k : PUnit → Prog (TpuEff nD τ sig Val Λ .tc) α} :
    iprop(records P pay κ ∗ cred (tallyAt (P.cell c j) () (P.amt j)) ∗ owing c 0 ∗ atPos (ER nD τ sig Val) (P.cell c j) 0 ∅ 0)
      ⊢ iprop(((owing c 0 ∗ semVal (P.cell c j) 0 ∗ pay c j) -∗ wp frame (wpE defs 𝒱 (c : Thread nD τ) none) Set.univ (k ⟨⟩) Q)
          -∗ wp frame (wpE defs 𝒱 (c : Thread nD τ) none) Set.univ (.op w k) Q) := by
  subst hS hN
  have hrest : bigSep ((sched P pay).duties (P.cell c j : GSem nD τ sig) 0 \ ∅) (fun u => (sched P pay).payload (P.cell c j) 0 u) = pay c j := by
    rw [Finset.sdiff_empty, duties_zero, bigSep_singleton, payload_cell]
  unfold owing
  iintro ⟨#HI, Hc, ⟨%W, HO⟩, Hat⟩ Hk
  iapply (Rounds.wp_wait_rest_token 𝒱 (ER nD τ sig Val) (sched P pay) (c : Thread nD τ) none (κ := κ (c, j)) hw (Set.mem_univ _) ()
    (O := 0) (W := W) (R := 0) (m := 0) (T := ∅) (by rw [Nat.zero_add, expect_cell])) $$ [Hc HO Hat]
  · isplitr; · iapply (inv_at P pay κ c j); iexact HI
    isplitl [Hc]; · iexact Hc
    isplitl [HO]; · iexact HO
    isplitr; · rw [MayWait_zero]; iempintro
    iexact Hat
  iintro ⟨HO, Hat, -, Hpay⟩
  ihave Hp := (Entails.of_eq hrest) $$ Hpay
  iapply (fupd_wp frame (wpE defs 𝒱 (c : Thread nD τ) none) Set.univ _ _)
  imod (Rounds.cell_close (ER nD τ sig Val) (sched P pay) (Set.mem_univ (κ (c, j))) (fun h => h) (R := 0 + 1) (duties_later P pay (P.cell c j))) $$ [Hat] with Hz
  · isplitr; · iapply (inv_at P pay κ c j); iexact HI
    iexact Hat
  imodintro
  iapply Hk
  isplitl [HO]; · iexists _; iexact HO
  isplitl [Hz] <;> iassumption

/-! ## An exchange as a whole

  `has c i` is the piece core `c` sends and `room c i` the place it goes to on the other core, before it is
  sent; `got c i` is a piece that came to `c`. -/

variable (has room got : Dev nD → I → sProp (MT nD τ sig Unit Val ℕ (UU nD τ sig) ℕ)) (done : Dev nD → K → sProp (MT nD τ sig Unit Val ℕ (UU nD τ sig) ℕ))
  (todo : Dev nD → K → sProp (MT nD τ sig Unit Val ℕ (UU nD τ sig) ℕ))

/-- What each wait hands over. -/
def hands (c : Dev nD) : Wt I K → sProp (MT nD τ sig Unit Val ℕ (UU nD τ sig) ℕ)
  | .inl i => has c i
  | .inr (.inl i) => got c i
  | .inr (.inr k) => done c k

variable [hp : Pays (hands has got done)]

theorem bigSep_none {T : Type} (Φ : T → sProp 𝕄) : bigSep ∅ Φ = iprop(emp) := bigSep_empty

theorem bigSep_wt (Φ : Wt I K → sProp 𝕄) : bigSep Finset.univ Φ
    = iprop((bigSep Finset.univ fun i => Φ (left i)) ∗ (bigSep Finset.univ fun i => Φ (came i)) ∗ bigSep Finset.univ fun k => Φ (copy k)) := by
  rw [bigSep_univ_sum, bigSep_univ_sum (fun j => Φ (Sum.inr j))]; rfl

/-- While copies `A` are yet to be started and pieces `S` yet to be sent. -/
def sending (κ : Dev nD × Wt I K → ℕ) (c : Dev nD) (A : Finset K) (S : Finset I) : sProp 𝕄 :=
  iprop(records P (hands has got done) κ ∗ owing c (owed P c S)
    ∗ (bigSep A fun k => iprop(todo c k ∗ dutyTok (ER nD τ sig Val) (P.cell c (copy k)) 0 ()))
    ∗ (bigSep Aᶜ fun k => cred (tallyAt (P.cell c (copy k)) () (P.copied k)))
    ∗ (bigSep S fun i => iprop(has c i ∗ room c i ∗ dutyTok (ER nD τ sig Val) (P.cell c (left i)) 0 () ∗ dutyTok (ER nD τ sig Val) (P.cell (P.dest i c) (came i)) 0 ()))
    ∗ (bigSep Sᶜ fun i => cred (tallyAt (P.cell c (left i)) () (P.size i)))
    ∗ creds P c
    ∗ bigSep Finset.univ fun j => iprop(atPos (ER nD τ sig Val) (P.cell c j) 0 ∅ 0))

/-- While the waits `S` are yet to be done. -/
def waiting (κ : Dev nD × Wt I K → ℕ) (c : Dev nD) (S : Finset (Wt I K)) : sProp 𝕄 :=
  iprop(records P (hands has got done) κ ∗ owing c 0
    ∗ (bigSep S fun j => iprop(cred (tallyAt (P.cell c j) () (P.amt j)) ∗ atPos (ER nD τ sig Val) (P.cell c j) 0 ∅ 0))
    ∗ bigSep Sᶜ fun j => iprop(semVal (P.cell c j) 0 ∗ hands has got done c j))

theorem sending_start (κ : Dev nD × Wt I K → ℕ) (c : Dev nD) :
    iprop(start P (hands has got done) κ c ∗ owing c (O₀ P c) ∗ (bigSep Finset.univ fun k => todo c k) ∗ (bigSep Finset.univ fun i => has c i) ∗ (bigSep Finset.univ fun i => room c i))
      ⊢ sending P has room got done todo κ c Finset.univ Finset.univ := by
  unfold start sending
  simp only [bigSep_sep', Finset.compl_univ, bigSep_none]
  rw [bigSep_wt (fun j => dutyTok (ER nD τ sig Val) (P.cell (P.peer j c) j) 0 ())]
  iintro ⟨⟨#HI, Hat, ⟨Hl, Hc, Hk⟩, Hcr⟩, HO, Htodo, Hhas, Hroom⟩
  isplitr; · iexact HI
  isplitl [HO]; · iexact HO
  isplitl [Htodo Hk]
  · isplitl [Htodo]; · iexact Htodo
    iexact Hk
  isplitr; · iempintro
  isplitl [Hhas Hroom Hl Hc]
  · isplitl [Hhas]; · iexact Hhas
    isplitl [Hroom]; · iexact Hroom
    isplitl [Hl]; · iexact Hl
    iexact Hc
  isplitr; · iempintro
  isplitl [Hcr] <;> iassumption

theorem waiting_start (κ : Dev nD × Wt I K → ℕ) (c : Dev nD) :
    sending P has room got done todo κ c ∅ ∅ ⊢ waiting P has got done κ c Finset.univ := by
  unfold waiting sending creds
  simp only [bigSep_sep', Finset.compl_univ, Finset.compl_empty, bigSep_none]
  rw [bigSep_wt (fun j => cred (tallyAt (P.cell c j) () (P.amt j)))]
  rw [show (owed P c ∅ : CellTallies nD τ sig Unit) = 0 from rfl]
  iintro ⟨#HI, HO, -, Hk, -, Hl, Hc, Hat⟩
  isplitr; · iexact HI
  isplitl [HO]; · iexact HO
  isplitl [Hk Hl Hc Hat]
  · isplitl [Hk Hl Hc]
    · isplitl [Hl]; · iexact Hl
      isplitl [Hc]; · iexact Hc
      iexact Hk
    iexact Hat
  isplitr <;> iempintro

theorem waiting_end (κ : Dev nD × Wt I K → ℕ) (c : Dev nD) :
    waiting P has got done κ c ∅ ⊢ iprop(owing c 0 ∗ Pipeline.ownSems0 (τ := τ) P.sem c
      ∗ (bigSep Finset.univ fun i => has c i) ∗ (bigSep Finset.univ fun i => got c i) ∗ (bigSep Finset.univ fun k => done c k)) := by
  unfold waiting Pipeline.ownSems0
  simp only [bigSep_sep', Finset.compl_empty]
  rw [bigSep_wt (fun j => hands has got done c j)]
  iintro ⟨-, HO, -, Hs, Hh, Hg, Hd⟩
  isplitl [HO]; · iexact HO
  isplitl [Hs]; · iexact Hs
  isplitl [Hh]; · iexact Hh
  isplitl [Hg]; · iexact Hg
  iexact Hd

theorem bigSep_one {T : Type} [DecidableEq T] {S : Finset T} {i : T} (h : i ∈ S) (Φ : T → sProp 𝕄) :
    bigSep S Φ = iprop(Φ i ∗ bigSep (S.erase i) Φ) := bigSep_erase h

theorem bigSep_more {T : Type} [DecidableEq T] {S : Finset T} {i : T} (h : i ∉ S) (Φ : T → sProp 𝕄) :
    bigSep (insert i S) Φ = iprop(Φ i ∗ bigSep S Φ) := bigSep_insert h

theorem compl_erase {T : Type} [Fintype T] [DecidableEq T] (S : Finset T) (i : T) : (S.erase i)ᶜ = insert i Sᶜ := by
  ext x; simp only [Finset.mem_compl, Finset.mem_erase, Finset.mem_insert]; tauto

theorem step_send (κ : Dev nD × Wt I K → ℕ) (c n : Dev nD) (A : Finset K) (S : Finset I) (i : I) (hi : i ∈ S) (hn : n = P.dest i c) {s : Shape} {e : EltTy} {sp sp' : Space}
    {src : Memref sig .tc sp s e} {dst : Memref sig .tc sp' s e} {sS sR : SemLoc sig} (hS : sS = P.sem (left i)) (hR : sR = P.sem (came i))
    {hsc : (dst : Memref sig (Dev.tc n : Thread nD τ).2.kind sp' s e).view.ref.isScScratch = false}
    {hsrc : src.view.WordExact} {hdst : (dst : Memref sig (Dev.tc n : Thread nD τ).2.kind sp' s e).view.WordExact}
    {hsem : DmaTarget.Typed sp sR (.remote (Dev.tc n : Thread nD τ) (dst : Memref sig (Dev.tc n : Thread nD τ).2.kind sp' s e) sS hsc)}
    {α : Type} {Q : α → sProp 𝕄} {k : PUnit → Prog (TpuEff nD τ sig Val Λ .tc) α} (q : PosShare TreeShare)
    (fs : Buf Val (src.view.loc (c : Thread nD τ))) (fd : Buf Val (dst.view.loc (n : Thread nD τ)))
    (hN : dst.view.amount sR = P.size i)
    (hhas : has c i = (src.view.loc (c : Thread nD τ) ↦[src.view.set]{q} fs))
    (hroom : room c i ⊢ (dst.view.loc (n : Thread nD τ) ↦[dst.view.set]{fullShare} fd))
    (hgot : (dst.view.loc (n : Thread nD τ) ↦[dst.view.set]{fullShare} (dst.view.write Val fd (src.view.read Val fs) Finset.univ)) ⊢ got n i)
    (hr : τ.routes (c : Thread nD τ) (n : Thread nD τ) = true := by routes) :
    sending P has room got done todo κ c A S
      ⊢ iprop((sending P has room got done todo κ c A (S.erase i) -∗ wp frame (wpE defs 𝒱 (c : Thread nD τ) none) Set.univ (k ⟨⟩) Q)
          -∗ wp frame (wpE defs 𝒱 (c : Thread nD τ) none) Set.univ
              (.op (.enqueueDma src (.remote (Dev.tc n : Thread nD τ) dst sS hsc) sR hsrc hdst hsem) k) Q) := by
  unfold sending
  rw [compl_erase S i, bigSep_more (by simpa using hi), bigSep_one hi]
  iintro ⟨#HI, HO, HA, HA', ⟨⟨Hs, Hd, Ht, Ht'⟩, HS⟩, HS', Hcr, Hat⟩ Hk
  ihave Hs' := (Entails.of_eq hhas) $$ Hs
  ihave Hd' := hroom $$ Hd
  iapply (wp_send P (hands has got done) 𝒱 κ c n (left i) (came i) rfl hn hS hR (hsc := hsc) hN rfl (owed_erase P c S i hi) (Entails.of_eq hhas.symm) hgot hr) $$ [HO Hs' Hd' Ht Ht']
  · isplitr; · iexact HI
    isplitl [Hs']; · iexact Hs'
    isplitl [Hd']; · iexact Hd'
    isplitl [HO]; · iexact HO
    isplitl [Ht]; · iexact Ht
    iexact Ht'
  iintro ⟨Hc, HO⟩
  iapply Hk
  isplitr; · iexact HI
  isplitl [HO]; · iexact HO
  isplitl [HA]; · iexact HA
  isplitl [HA']; · iexact HA'
  isplitl [HS]; · iexact HS
  isplitl [Hc HS']
  · isplitl [Hc]; · iexact Hc
    iexact HS'
  isplitl [Hcr] <;> iassumption

theorem step_copy (κ : Dev nD × Wt I K → ℕ) (c : Dev nD) (A : Finset K) (S : Finset I) (x : K) (hx : x ∈ A) {s : Shape} {e : EltTy} {sp sp' : Space}
    {src : Memref sig (c : Thread nD τ).2.kind sp s e} {dst : Memref sig (c : Thread nD τ).2.kind sp' s e} {sS : SemLoc sig} (hS : sS = P.sem (copy x))
    {hsrc : src.view.WordExact} {hdst : dst.view.WordExact} {hsem : DmaTarget.Typed (nD := nD) sp sS (.here dst)}
    {α : Type} {Q : α → sProp 𝕄} {k : PUnit → Prog (TpuEff nD τ sig Val Λ (c : Thread nD τ).2) α} (q : PosShare TreeShare)
    (fs : Buf Val (src.view.loc (c : Thread nD τ))) (fd : Buf Val (dst.view.loc (c : Thread nD τ)))
    (hN : dst.view.amount sS = P.copied x)
    (htodo : todo c x ⊢ iprop((src.view.loc (c : Thread nD τ) ↦[src.view.set]{q} fs) ∗ (dst.view.loc (c : Thread nD τ) ↦[dst.view.set]{fullShare} fd)))
    (hdone : iprop((dst.view.loc (c : Thread nD τ) ↦[dst.view.set]{fullShare} (dst.view.write Val fd (src.view.read Val fs) Finset.univ))
      ∗ (src.view.loc (c : Thread nD τ) ↦[src.view.set]{q} fs)) ⊢ done c x) :
    sending P has room got done todo κ c A S
      ⊢ iprop((sending P has room got done todo κ c (A.erase x) S -∗ wp frame (wpE defs 𝒱 (c : Thread nD τ) none) Set.univ (k ⟨⟩) Q)
          -∗ wp frame (wpE defs 𝒱 (c : Thread nD τ) none) Set.univ (.op (.enqueueDma src (.here dst) sS hsrc hdst hsem) k) Q) := by
  unfold sending
  rw [compl_erase A x, bigSep_more (by simpa using hx), bigSep_one hx]
  iintro ⟨#HI, HO, ⟨⟨Ht, Hd⟩, HA⟩, HA', HS, HS', Hcr, Hat⟩ Hk
  ihave Ht' := htodo $$ Ht
  icases Ht' with ⟨Hs, Hr⟩
  iapply (wp_copy P (hands has got done) 𝒱 κ c (copy x) rfl hS hN hdone) $$ [Hs Hr Hd]
  · isplitr; · iexact HI
    isplitl [Hs]; · iexact Hs
    isplitl [Hr]; · iexact Hr
    iexact Hd
  iintro Hc
  iapply Hk
  isplitr; · iexact HI
  isplitl [HO]; · iexact HO
  isplitl [HA]; · iexact HA
  isplitl [Hc HA']
  · isplitl [Hc]; · iexact Hc
    iexact HA'
  isplitl [HS]; · iexact HS
  isplitl [HS']; · iexact HS'
  isplitl [Hcr] <;> iassumption

theorem step_wait (κ : Dev nD × Wt I K → ℕ) (c : Dev nD) (S : Finset (Wt I K)) (j : Wt I K) (hj : j ∈ S)
    {w : TpuEff nD τ sig Val Λ .tc PUnit} {sm : SemLoc sig} {N : ℕ} (hS : sm = P.sem j)
    (hw : ∀ Kt : PUnit → sProp 𝕄, wpE defs 𝒱 (c : Thread nD τ) none Set.univ w Kt = waitSpec (c : Thread nD τ) Set.univ sm N Kt) (hN : N = P.amt j)
    {α : Type} {Q : α → sProp 𝕄} {k : PUnit → Prog (TpuEff nD τ sig Val Λ .tc) α} :
    waiting P has got done κ c S
      ⊢ iprop((waiting P has got done κ c (S.erase j) -∗ wp frame (wpE defs 𝒱 (c : Thread nD τ) none) Set.univ (k ⟨⟩) Q)
          -∗ wp frame (wpE defs 𝒱 (c : Thread nD τ) none) Set.univ (.op w k) Q) := by
  unfold waiting
  rw [compl_erase S j, bigSep_more (by simpa using hj), bigSep_one hj]
  iintro ⟨#HI, HO, ⟨⟨Hc, Hat⟩, HS⟩, HS'⟩ Hk
  iapply (wp_wait P (hands has got done) 𝒱 κ c j hS hw hN) $$ [HO Hc Hat]
  · isplitr; · iexact HI
    isplitl [Hc]; · iexact Hc
    isplitl [HO]; · iexact HO
    iexact Hat
  iintro ⟨HO, Hz, Hp⟩
  iapply Hk
  isplitr; · iexact HI
  isplitl [HO]; · iexact HO
  isplitl [HS]; · iexact HS
  isplitl [Hz Hp]
  · isplitl [Hz] <;> iassumption
  iexact HS'

end Cert.Exchange
-- ==== Proof.Pieces.lean ====
/-
  Buffers cut in pieces: a buffer of every core is handed out piece by piece, each piece to the core
  that writes it, and put together again when all pieces have arrived.
-/
module

public import proofs.«01_k».proof.Proof.Exchange

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (UU nD τ sig) ℕ

variable {J : Type} [Fintype J] [DecidableEq J]

section OneBuffer

variable {ℓ : Loc nD τ sig} (D : J → Finset (Idx ℓ))

/-- The elements of no piece. -/
def rest : Finset (Idx ℓ) := Finset.univ \ Finset.univ.biUnion D

theorem not_mem_of_rest {x : Idx ℓ} (h : x ∈ rest D) (j : J) : x ∉ D j := fun hj =>
  (Finset.mem_sdiff.mp h).2 (Finset.mem_biUnion.mpr ⟨j, Finset.mem_univ _, hj⟩)

variable (hd : ∀ j k, j ≠ k → Disjoint (D j) (D k)) {q : PosShare TreeShare}

include hd in
theorem cut (f : Buf Val ℓ) : (ℓ ↦{q} f : sProp 𝕄) ⊢ iprop((bigSep Finset.univ fun j => ℓ ↦[D j]{q} f) ∗ ℓ ↦[rest D]{q} f) := by
  refine (pointsTo_split_subset (Finset.subset_univ (Finset.univ.biUnion D))).1.trans ?_
  rw [pointsTo_biUnion Finset.univ D fun j _ k _ h => hd j k h]
  exact BI.Entails.refl _

include hd in
theorem uncut (f g : Buf Val ℓ) (h : ∀ x, (∀ j, x ∉ D j) → f x = g x) :
    iprop((bigSep Finset.univ fun j => ℓ ↦[D j]{q} g) ∗ ℓ ↦[rest D]{q} f) ⊢ (ℓ ↦{q} g : sProp 𝕄) := by
  rw [pointsTo_congr (g := g) fun x hx => h x (not_mem_of_rest D hx), ← pointsTo_biUnion Finset.univ D fun j _ k _ h => hd j k h]
  exact (pointsTo_split_subset (Finset.subset_univ (Finset.univ.biUnion D))).2

end OneBuffer

section EveryBuffer

variable (b : Ref sig .tc) (D : (n : Dev nD) → J → Finset (Idx (((n : Thread nD τ).loc b)))) (e : J → Dev nD ≃ Dev nD)

/-- Each core's buffer, cut; piece `j` of core `e j c`'s goes to core `c`. -/
theorem deal_rooms (hd : ∀ n j k, j ≠ k → Disjoint (D n j) (D n k)) (f : (n : Dev nD) → Buf Val ((n : Thread nD τ).loc b)) :
    (bigSep Finset.univ fun n : Dev nD => ((n : Thread nD τ).loc b) ↦{fullShare} f n : sProp 𝕄)
      ⊢ bigSep Finset.univ fun c : Dev nD => iprop((bigSep Finset.univ fun j => ((e j c : Dev nD) : Thread nD τ).loc b ↦[D (e j c) j]{fullShare} f (e j c))
          ∗ ((c : Thread nD τ).loc b) ↦[rest (D c)]{fullShare} f c) := by
  have h : (bigSep Finset.univ fun n : Dev nD => bigSep Finset.univ fun j => ((n : Thread nD τ).loc b ↦[D n j]{fullShare} f n : sProp 𝕄))
      = bigSep Finset.univ fun c : Dev nD => bigSep Finset.univ fun j => ((e j c : Dev nD) : Thread nD τ).loc b ↦[D (e j c) j]{fullShare} f (e j c) := by
    rw [bigSep_univ_comm, bigSep_univ_comm (fun (c : Dev nD) j => (((e j c : Dev nD) : Thread nD τ).loc b ↦[D (e j c) j]{fullShare} f (e j c) : sProp 𝕄))]
    exact bigSep_congr fun j _ => bigSep_univ_equiv (e j) (fun n : Dev nD => ((n : Thread nD τ).loc b ↦[D n j]{fullShare} f n : sProp 𝕄))
  have h2 : (bigSep Finset.univ fun n : Dev nD => ((n : Thread nD τ).loc b) ↦{fullShare} f n : sProp 𝕄)
      ⊢ bigSep Finset.univ fun n : Dev nD => iprop((bigSep Finset.univ fun j => ((n : Thread nD τ).loc b ↦[D n j]{fullShare} f n)) ∗ ((n : Thread nD τ).loc b) ↦[rest (D n)]{fullShare} f n) :=
    bigSep_mono fun n _ => cut (D n) (hd n) (f n)
  refine h2.trans ?_
  simp only [bigSep_sep']
  rw [h]

end EveryBuffer

/-- What the machine holds where a core owns a whole buffer. -/
theorem read_whole (ℓ : Loc nD τ sig) (f : Buf Val ℓ) (s' : Phys nD τ sig Val) : iprop((ℓ ↦{fullShare} f : sProp 𝕄) ∗ SI s') ⊢ iprop(⌜s'.mem.mem ℓ = f⌝ ∗ SI s') := by
  have h := pointsTo_read_all (Ix := Unit) (Name := ℕ) (U := UU nD τ sig) (Lvl := ℕ) ({()} : Finset Unit) (fun _ => ℓ) (fun _ => f) s'
  rw [bigSep_singleton] at h
  refine h.trans ?_
  iintro ⟨%h', H⟩
  isplitr; · ipureintro; exact h' () (Finset.mem_singleton_self _)
  iexact H

theorem slices_apart {sp : Space} {s : Shape} {e : EltTy} {k : Kind} (M : Memref sig k sp s e) (r r' : Rect s) (hr : ∀ a, r.stride a = 1) (hr' : ∀ a, r'.stride a = 1)
    (h : Disjoint r.set r'.set) : Disjoint (M.slice r hr).view.set (M.slice r' hr').view.set := by
  show Disjoint (M.view.slice r).set (M.view.slice r').set
  rw [View.set_slice, View.set_slice]; exact (Finset.disjoint_map _).mpr h

end Cert.Exchange
-- ==== Proof.SibMove.lean ====
/-
  The exchange of the w_in gradient's halves between the two cores of a chip: the cores, the pieces and
  where each piece lands.
-/
module

public import proofs.«01_k».proof.Proof.Pieces
public import proofs.«01_k».proof.Proof.Gen.KernelIdeal
public import proofs.«01_k».proof.Proof.Gen.KernelIdeal.Skeleton
public import proofs.«01_k».proof.Proof.Gen.KernelIdeal.Launch
public import Idealize.ShloMosaic.Lib.ValueLayout

@[expose] public section

set_option Elab.async false

noncomputable section

namespace Cert.Sib

open Idealize.ShloMosaic.ValueIdx
open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-- The other core of `c`'s chip. -/
def mate (c : Dev nD) : Dev nD := ⟨2 * (c.val / 2) + (1 - c.val % 2), by have h : c.val < 8 := c.isLt; show 2 * (c.val / 2) + (1 - c.val % 2) < 8; omega⟩
theorem mate_mate (c : Dev nD) : mate (mate c) = c := by revert c; decide
def mates : Dev nD ≃ Dev nD := ⟨mate, mate, mate_mate, mate_mate⟩

theorem dev1 : ∀ c : Dev nD, (⟨k0_dev1 c, k0_dev1_lt c⟩ : Dev nD) = mates c := by decide +kernel
theorem dev2 : ∀ c : Dev nD, (⟨k0_dev2 c, k0_dev2_lt c⟩ : Dev nD) = mates c := by decide +kernel
theorem dev3 : ∀ c : Dev nD, (⟨k0_dev3 c, k0_dev3_lt c⟩ : Dev nD) = mates c := by decide +kernel
theorem dev4 : ∀ c : Dev nD, (⟨k0_dev4 c, k0_dev4_lt c⟩ : Dev nD) = mates c := by decide +kernel
theorem dev5 : ∀ c : Dev nD, (⟨k0_dev5 c, k0_dev5_lt c⟩ : Dev nD) = mates c := by decide +kernel
theorem dev6 : ∀ c : Dev nD, (⟨k0_dev6 c, k0_dev6_lt c⟩ : Dev nD) = mates c := by decide +kernel
theorem dev7 : ∀ c : Dev nD, (⟨k0_dev7 c, k0_dev7_lt c⟩ : Dev nD) = mates c := by decide +kernel
theorem dev8 : ∀ c : Dev nD, (⟨k0_dev8 c, k0_dev8_lt c⟩ : Dev nD) = mates c := by decide +kernel

/-! ## The pieces -/

theorem inb (i : Fin 8) : ∀ a, (![128 * i.val, 0] : Fin 2 → Nat) a + S128x8448.size a ≤ S1024x8448.size a := by
  have h := i.isLt
  intro a
  match a with
  | ⟨0, _⟩ => show 128 * i.val + 128 ≤ 1024; omega
  | ⟨1, _⟩ => show 0 + 8448 ≤ 8448; exact Nat.le_refl _

/-- The half a core gives away, and piece `i` of it. -/
abbrev srcH (c : Dev nD) : Memref sig .tc .hbm S1024x8448 .f32 :=
  (Memref.whole main_arg0).slice (Rect.unit (s := S2048x8448) (k0_off1 c) S1024x8448.size (k0_off1_inb c)) (fun _ => rfl)
abbrev srcP (c : Dev nD) (i : Fin 8) : Memref sig .tc .hbm S128x8448 .f32 :=
  (srcH c).slice (Rect.unit (s := S1024x8448) ![128 * i.val, 0] S128x8448.size (inb i)) (fun _ => rfl)

/-- Where it lands. -/
abbrev dstH : Memref sig .tc .hbm S1024x8448 .f32 :=
  ((Memref.whole main_v1).slice (Rect.unit (s := S1x1024x8448) ![0, 0, 0] S1x1024x8448.size inb_S1x1024x8448_S1x1024x8448_0_0_0) (fun _ => rfl)).squeeze S1024x8448 squeezes_S1x1024x8448_S1024x8448
abbrev dstP (i : Fin 8) : Memref sig .tc .hbm S128x8448 .f32 :=
  dstH.slice (Rect.unit (s := S1024x8448) ![128 * i.val, 0] S128x8448.size (inb i)) (fun _ => rfl)

theorem rows_apart {i j : Fin 8} (h : i ≠ j) :
    Disjoint (Rect.unit (s := S1024x8448) ![128 * i.val, 0] S128x8448.size (inb i)).set (Rect.unit (s := S1024x8448) ![128 * j.val, 0] S128x8448.size (inb j)).set := by
  refine Rect.unit_disjoint 0 ?_
  have : i.val ≠ j.val := fun e => h (Fin.ext e)
  show 128 * i.val + 128 ≤ 128 * j.val ∨ 128 * j.val + 128 ≤ 128 * i.val
  omega

theorem src_apart (c : Dev nD) {i j : Fin 8} (h : i ≠ j) : Disjoint (srcP c i).view.set (srcP c j).view.set :=
  slices_apart (srcH c) _ _ _ _ (rows_apart h)

theorem dst_apart {i j : Fin 8} (h : i ≠ j) : Disjoint (dstP i).view.set (dstP j).view.set :=
  slices_apart dstH _ _ _ _ (rows_apart h)

/-- The first row of the half a core gives away. -/
def top (c : Dev nD) : Nat := 1024 - 1024 * (c.val % 2)

theorem row_lt (i : Fin 8) (x : Fin 128) : 128 * i.val + x.val < 1024 := by omega
theorem top_lt (c : Dev nD) (r : Fin 1024) : top c + r.val < 2048 := by unfold top; omega

theorem piece_emb (i : Fin 8) (x : S128x8448.Idx) :
    (Rect.unit (s := S1024x8448) ![128 * i.val, 0] S128x8448.size (inb i)).emb x = ix2 (⟨128 * i.val + (x 0).val, row_lt i (x 0)⟩ : Fin 1024) (x 1) := by
  funext a; apply Fin.ext
  fin_cases a <;> simp [ix2]

theorem src_emb (c : Dev nD) (i : Fin 8) (x : S128x8448.Idx) :
    (srcP c i).view.emb x = ix2 (⟨top c + (128 * i.val + (x 0).val), top_lt c ⟨_, row_lt i (x 0)⟩⟩ : Fin 2048) (x 1) := by
  show (Rect.unit (s := S2048x8448) (k0_off1 c) S1024x8448.size (k0_off1_inb c)).emb ((Rect.unit (s := S1024x8448) ![128 * i.val, 0] S128x8448.size (inb i)).emb x) = _
  rw [piece_emb]
  funext a; apply Fin.ext
  have h := k0_off1_eq c
  fin_cases a <;> simp [ix2, h, top]

theorem dst_emb (i : Fin 8) (x : S128x8448.Idx) :
    (dstP i).view.emb x = ix3 (⟨0, Nat.one_pos⟩ : Fin 1) (⟨128 * i.val + (x 0).val, row_lt i (x 0)⟩ : Fin 1024) (x 1) := by
  show (Rect.unit (s := S1x1024x8448) ![0, 0, 0] S1x1024x8448.size inb_S1x1024x8448_S1x1024x8448_0_0_0).emb
    (Shape.reshapeEquiv _ ((Rect.unit (s := S1024x8448) ![128 * i.val, 0] S128x8448.size (inb i)).emb x)) = _
  rw [piece_emb]
  refine (congrArg _ (reshapeEquiv_ix2_1ab (a := 1024) (b := 8448) _ _ _)).trans ?_
  funext a; apply Fin.ext
  fin_cases a <;> simp [ix3]

/-! ## The exchange -/

theorem inb8 (i : Fin 8) : ∀ a, (![i.val] : Fin 1 → Nat) a + S1.size a ≤ S8.size a := by revert i; decide

/-- Semaphore `i` of an array of eight. -/
abbrev at8 (a : DmaSems sig S8) (i : Fin 8) : DmaSem sig := ((a.slice (Rect.unit (s := S8) ![i.val] S1.size (inb8 i))).squeeze S_ squeezes_S1_S_).sem

def sem : Wt (Fin 8) (Fin 0) → SemLoc sig
  | .inl i => .dma (at8 cc0_scratch0 i)
  | .inr (.inl i) => .dma (at8 cc0_scratch1 i)
  | .inr (.inr k) => k.elim0

theorem sem_inj : Function.Injective sem := by decide

def plan : Plan nD sig (Fin 8) (Fin 0) where
  sem := sem
  inj := sem_inj
  size i := (dstP i).view.dmaCredit
  size_pos i := (dstP i).view.dmaCredit_pos (by decide)
  copied k := k.elim0
  copied_pos k := k.elim0
  dest _ := mates

variable (m : (ℓ : Loc nD τ sig) → Buf (Elt F) ℓ)

abbrev gave (c : Dev nD) : Buf (Elt F) ((c : Thread nD τ).loc main_arg0) := m ((c : Thread nD τ).loc main_arg0)

/-- The half core `c` gave away. -/
def gift (c : Dev nD) : S1x1024x8448.Idx → Elt F .f32 :=
  fun y => gave m c (ix2 (⟨top c + (y 1).val, top_lt c (y 1)⟩ : Fin 2048) (y 2))

/-- What core `n` holds in the end: the half its mate gave away. -/
def landed (n : Dev nD) : Buf (Elt F) ((n : Thread nD τ).loc main_v1) := gift m (mate n)

def has (c : Dev nD) (i : Fin 8) : sProp 𝕄 := (srcP c i).view.loc (c : Thread nD τ) ↦[(srcP c i).view.set]{fullShare} gave m c
def room (c : Dev nD) (i : Fin 8) : sProp 𝕄 :=
  (dstP i).view.loc ((mate c : Dev nD) : Thread nD τ) ↦[(dstP i).view.set]{fullShare} m (((mate c : Dev nD) : Thread nD τ).loc main_v1)
def got (n : Dev nD) (i : Fin 8) : sProp 𝕄 := (dstP i).view.loc (n : Thread nD τ) ↦[(dstP i).view.set]{fullShare} landed m n
def nothing (_ : Dev nD) (_ : Fin 0) : sProp 𝕄 := iprop(emp)

instance : Pays (hands (has m) (got m) nothing) where
  st c j := by
    rcases j with i | i | k
    · show BI.Storable upEmb (has m c i); unfold has; infer_instance
    · show BI.Storable upEmb (got m c i); unfold got; infer_instance
    · exact k.elim0

theorem arrives (c : Dev nD) (i : Fin 8) :
    ((dstP i).view.loc ((mate c : Dev nD) : Thread nD τ) ↦[(dstP i).view.set]{fullShare}
      ((dstP i).view.write (Elt F) (m (((mate c : Dev nD) : Thread nD τ).loc main_v1)) ((srcP c i).view.read (Elt F) (gave m c)) Finset.univ) : sProp 𝕄)
      ⊢ got m (mate c) i := by
  unfold got
  refine Entails.of_eq (pointsTo_congr fun y hy => ?_)
  obtain ⟨x, -, rfl⟩ := Finset.mem_map.mp hy
  refine ((dstP i).view.write_emb_of_mem _ _ (Finset.mem_univ x)).trans ?_
  show gave m c ((srcP c i).view.emb x) = landed m (mate c) ((dstP i).view.emb x)
  rw [src_emb, dst_emb]
  show _ = gift m (mate (mate c)) _
  rw [mate_mate]
  rfl

end Cert.Sib
-- ==== Proof.SibRun.lean ====
/-
  The run of the exchange between the two cores of a chip: every core ends, its semaphores are zero
  again, its own array is unchanged, and the half its mate gave away has arrived.
-/
module

public import proofs.«01_k».proof.Proof.SibMove

@[expose] public section

set_option Elab.async false

noncomputable section

namespace Cert.Sib

open Idealize.ShloMosaic.ValueIdx
open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UU nD τ sig) ℕ

variable (m : (ℓ : Loc nD τ sig) → Buf (Elt F) ℓ) (ρ : Dev nD → PrngReg)

abbrev 𝒱₀ : Variants := Variants.none

/-- Piece `i` sent. -/
theorem send (κ : Dev nD × Wt (Fin 8) (Fin 0) → ℕ) (c n : Dev nD) (hn : n = mates c) (S : Finset (Fin 8)) (i : Fin 8) (hi : i ∈ S)
    {hsc : (dstP i : Memref sig (Dev.tc n : Thread nD τ).2.kind .hbm S128x8448 .f32).view.ref.isScScratch = false}
    {hsrc : (srcP c i).view.WordExact} {hdst : (dstP i : Memref sig (Dev.tc n : Thread nD τ).2.kind .hbm S128x8448 .f32).view.WordExact}
    {hsem : DmaTarget.Typed .hbm (.dma (at8 cc0_scratch1 i)) (.remote (Dev.tc n : Thread nD τ) (dstP i : Memref sig (Dev.tc n : Thread nD τ).2.kind .hbm S128x8448 .f32) (.dma (at8 cc0_scratch0 i)) hsc)}
    {α : Type} {Q : α → sProp 𝕄} {k : PUnit → Prog (TpuEff nD τ sig (Elt F) Λ₀ .tc) α} :
    sending plan (has m) (room m) (got m) nothing nothing κ c Finset.univ S
      ⊢ iprop((sending plan (has m) (room m) (got m) nothing nothing κ c Finset.univ (S.erase i) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (srcP c i) (.remote (Dev.tc n : Thread nD τ) (dstP i) (.dma (at8 cc0_scratch0 i)) hsc) (.dma (at8 cc0_scratch1 i)) hsrc hdst hsem) k) Q) := by
  subst hn
  exact step_send plan 𝒱₀ (has m) (room m) (got m) nothing nothing κ c (mates c) Finset.univ S i hi rfl (src := srcP c i) (dst := dstP i) rfl rfl fullShare (gave m c) (m _) rfl rfl
    (BI.Entails.refl _) (arrives m c i)

/-- A wait done. -/
theorem wait (κ : Dev nD × Wt (Fin 8) (Fin 0) → ℕ) (c : Dev nD) (S : Finset (Wt (Fin 8) (Fin 0))) (j : Wt (Fin 8) (Fin 0)) (hj : j ∈ S) {sm : DmaSem sig} (hS : .dma sm = plan.sem j)
    {sp sp' : Space} {s s' : Shape} {e e' : EltTy} {src : Memref sig (c : Thread nD τ).2.kind sp' s' e'} {κ' : Kind} {dst : Memref sig κ' sp s e} {hsrc : src.view.WordExact} {hdst : dst.view.WordExact}
    (hN : dst.view.dmaCredit = plan.amt j)
    {α : Type} {Q : α → sProp 𝕄} {k : PUnit → Prog (TpuEff nD τ sig (Elt F) Λ₀ .tc) α} :
    waiting plan (has m) (got m) nothing κ c S
      ⊢ iprop((waiting plan (has m) (got m) nothing κ c (S.erase j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) :=
  step_wait plan 𝒱₀ (has m) (got m) nothing κ c S j hj hS (wpE_waitDma2_eq 𝒱₀ (c : Thread nD τ) none Set.univ) hN

theorem all_sent (κ : Dev nD × Wt (Fin 8) (Fin 0) → ℕ) (c : Dev nD) (S : Finset (Fin 8)) (h : S = ∅) :
    sending plan (has m) (room m) (got m) nothing nothing κ c Finset.univ S ⊢ waiting plan (has m) (got m) nothing κ c Finset.univ := by
  subst h
  exact waiting_start plan (has m) (room m) (got m) nothing nothing κ c

theorem all_done (κ : Dev nD × Wt (Fin 8) (Fin 0) → ℕ) (c : Dev nD) (S : Finset (Wt (Fin 8) (Fin 0))) (h : S = ∅) :
    waiting plan (has m) (got m) nothing κ c S ⊢ waiting plan (has m) (got m) nothing κ c ∅ := by
  subst h; exact BI.Entails.refl _

set_option maxRecDepth 65536 in
set_option maxHeartbeats 4000000 in
/-- The body: eight pieces sent, eight awaited, eight seen to have left. -/
theorem body (κ : Dev nD × Wt (Fin 8) (Fin 0) → ℕ) (c : Dev nD) (Q : PUnit → sProp 𝕄) :
    sending plan (has m) (room m) (got m) nothing nothing κ c Finset.univ Finset.univ
      ⊢ iprop((waiting plan (has m) (got m) nothing κ c ∅ -∗ Q ⟨⟩)
        -∗ wp frame (wpE (defs₀ (F := F)) 𝒱₀ (c : Thread nD τ) none) Set.univ
          (cc0_rs_w_in_sib (Memref.whole main_arg0) (Memref.isWhole_whole _) (Memref.whole main_v1) (Memref.isWhole_whole _) cc0_scratch0 cc0_scratch1 cc0_scratch2) Q) := by
  rw [cc0_rs_w_in_sib_eq_skeleton]; unfold cc0_rs_w_in_sib_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [Prog.lift, Prog.bind_op, Prog.bind_ret, Prog.pure_eq_ret, wp_deviceId]
  iintro H Hk
  iapply (send m κ c _ (dev1 c) _ 0 (by decide)) $$ H
  iintro H
  iapply (send m κ c _ (dev2 c) _ 1 (by decide)) $$ H
  iintro H
  iapply (send m κ c _ (dev3 c) _ 2 (by decide)) $$ H
  iintro H
  iapply (send m κ c _ (dev4 c) _ 3 (by decide)) $$ H
  iintro H
  iapply (send m κ c _ (dev5 c) _ 4 (by decide)) $$ H
  iintro H
  iapply (send m κ c _ (dev6 c) _ 5 (by decide)) $$ H
  iintro H
  iapply (send m κ c _ (dev7 c) _ 6 (by decide)) $$ H
  iintro H
  iapply (send m κ c _ (dev8 c) _ 7 (by decide)) $$ H
  iintro H
  ihave H := (all_sent m κ c _ (by decide)) $$ H
  iapply (wait m κ c _ (came 0) (by decide) rfl rfl) $$ H
  iintro H
  iapply (wait m κ c _ (came 1) (by decide) rfl rfl) $$ H
  iintro H
  iapply (wait m κ c _ (came 2) (by decide) rfl rfl) $$ H
  iintro H
  iapply (wait m κ c _ (came 3) (by decide) rfl rfl) $$ H
  iintro H
  iapply (wait m κ c _ (came 4) (by decide) rfl rfl) $$ H
  iintro H
  iapply (wait m κ c _ (came 5) (by decide) rfl rfl) $$ H
  iintro H
  iapply (wait m κ c _ (came 6) (by decide) rfl rfl) $$ H
  iintro H
  iapply (wait m κ c _ (came 7) (by decide) rfl rfl) $$ H
  iintro H
  iapply (wait m κ c _ (left 0) (by decide) rfl rfl) $$ H
  iintro H
  iapply (wait m κ c _ (left 1) (by decide) rfl rfl) $$ H
  iintro H
  iapply (wait m κ c _ (left 2) (by decide) rfl rfl) $$ H
  iintro H
  iapply (wait m κ c _ (left 3) (by decide) rfl rfl) $$ H
  iintro H
  iapply (wait m κ c _ (left 4) (by decide) rfl rfl) $$ H
  iintro H
  iapply (wait m κ c _ (left 5) (by decide) rfl rfl) $$ H
  iintro H
  iapply (wait m κ c _ (left 6) (by decide) rfl rfl) $$ H
  iintro H
  iapply (wait m κ c _ (left 7) (by decide) rfl rfl) $$ H
  iintro H
  ihave H := (all_done m κ c _ (by decide)) $$ H
  rw [wp_ret]
  imodintro
  iapply Hk
  iexact H

/-! ## The launch -/

/-- A core's own array but for the pieces it gives away, and its result but for the pieces it gets. -/
def kept (c : Dev nD) : sProp 𝕄 :=
  iprop((((c : Thread nD τ).loc main_arg0) ↦[rest fun i => (srcP c i).view.set]{fullShare} gave m c)
    ∗ (((c : Thread nD τ).loc main_v1) ↦[rest fun i => (dstP i).view.set]{fullShare} m ((c : Thread nD τ).loc main_v1)))

/-- Before the exchange, the launch state dealt; -/
def Φ₀ (c : Dev nD) : sProp 𝕄 :=
  iprop((∃ κ, start plan (hands (has m) (got m) nothing) κ c) ∗ (bigSep Finset.univ fun i => has m c i) ∗ (bigSep Finset.univ fun i => room m c i))
/-- and after it. -/
def Φ₁ (c : Dev nD) : sProp 𝕄 :=
  iprop(Pipeline.ownSems0 (τ := τ) sem c ∗ (bigSep Finset.univ fun i => has m c i) ∗ (bigSep Finset.univ fun i => got m c i))

def dats (_ : Fin 1) (c : Dev nD) : Dat τ (Elt F) Unit ℕ (UU nD τ sig) ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ plan c
    | ⟨_ + 1, _⟩ => 0

theorem body_obligation (c : Dev nD) : BodyObligationLoose (dats (F := F) m 0 c) (defs₀ (F := F)) 𝒱₀ () Set.univ := fun t => by
  rw [fin_N0 t]
  show iprop(Φ₀ m c ∗ (dats m 0 c).owesAt () t0_0.castSucc ∗ bigSep (Finset.univ : Finset (Fin 0)) _)
    ⊢ wp frame (wpE (defs₀ (F := F)) 𝒱₀ c none) Set.univ
      (cc0_rs_w_in_sib (Memref.whole main_arg0) (Memref.isWhole_whole _) (Memref.whole main_v1) (Memref.isWhole_whole _) cc0_scratch0 cc0_scratch1 cc0_scratch2)
      fun _ => iprop(Φ₁ m c ∗ (dats m 0 c).owesAt () t0_0.succ ∗ bigSep (Finset.univ : Finset (Fin 0)) _)
  unfold Φ₀ Φ₁
  iintro ⟨⟨⟨%κ, Hs⟩, Hh, Hr⟩, ⟨%W, %hW, HO⟩, Hw⟩
  ihave H := (sending_start plan (has m) (room m) (got m) nothing nothing κ c) $$ [Hs Hh Hr HO]
  · isplitl [Hs]; · iexact Hs
    isplitl [HO]; · unfold owing; iexists W; iexact HO
    isplitr; · rw [show (Finset.univ : Finset (Fin 0)) = ∅ from rfl, bigSep_none]; iempintro
    isplitl [Hh] <;> iassumption
  iapply (body m κ c _) $$ H
  iintro H
  ihave H' := (waiting_end plan (has m) (got m) nothing κ c) $$ H
  icases H' with ⟨HO, Hz, Hh, Hg, -⟩
  isplitl [Hz Hh Hg]
  · isplitl [Hz]; · iexact Hz
    isplitl [Hh] <;> iassumption
  isplitl [HO]
  · unfold owing
    icases HO with ⟨%W', HO⟩
    iexists W'
    isplitr; · ipureintro; exact fun _ _ => Or.inl trivial
    iexact HO
  · rw [show (Finset.univ : Finset (Fin 0)) = ∅ from rfl, bigSep_none]; iempintro

end Cert.Sib
-- ==== Proof.SibLaunch.lean ====
/-
  The exchange between the two cores of a chip, from the launch: every run ends with each core's own
  array unchanged, every semaphore at zero, and the result holding the half the other core gave away.
-/
module

public import proofs.«01_k».proof.Proof.SibRun
public import proofs.«01_k».proof.Proof.Launch

@[expose] public section

set_option Elab.async false

noncomputable section

namespace Cert.Sib

open Idealize.ShloMosaic.ValueIdx
open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UU nD τ sig) ℕ

variable (m : (ℓ : Loc nD τ sig) → Buf (Elt F) ℓ) (ρ : Dev nD → PrngReg)

/-- Every row of the result is in a piece. -/
theorem dst_cover (x : S1x1024x8448.Idx) : ∃ i, x ∈ (dstP i).view.set := by
  have h : (x 1).val < 1024 := (x 1).isLt
  refine ⟨⟨(x 1).val / 128, by omega⟩, ?_⟩
  refine Finset.mem_map.mpr ⟨ix2 (⟨(x 1).val % 128, by omega⟩ : Fin 128) (x 2), Finset.mem_univ _, ?_⟩
  refine (dst_emb _ _).trans ?_
  funext a; apply Fin.ext
  have h0 : (x 0).val < 1 := (x 0).isLt
  fin_cases a
  · show 0 = (x 0).val; omega
  · show 128 * ((x 1).val / 128) + (x 1).val % 128 = (x 1).val; omega
  · rfl

/-- The two unscoped buffers. -/
theorem buffers (c : Dev nD) (V : (b : Ref sig .tc) → Buf (Elt F) ((c : Thread nD τ).loc b)) :
    (unscopedBufs c V : sProp 𝕄) = iprop((((c : Thread nD τ).loc main_arg0) ↦{fullShare} V main_arg0) ∗ (((c : Thread nD τ).loc main_v1) ↦{fullShare} V main_v1)) := by
  unfold unscopedBufs
  exact bigSep_eq_bigSepL_of_eq [main_arg0, main_v1] (by decide) (by decide) _

theorem ownSemFacts : Pipeline.OwnSemFacts cfg0.spec sem := by
  constructor <;> decide

/-- Launched and dealt; -/
def T₀ (c : Dev nD) : sProp 𝕄 := iprop(Φ₀ m c ∗ kept m c ∗ owing c (O₀ plan c))
/-- ended. -/
def T₁ (c : Dev nD) : sProp 𝕄 :=
  iprop((((c : Thread nD τ).loc main_arg0) ↦{fullShare} gave m c) ∗ (((c : Thread nD τ).loc main_v1) ↦{fullShare} landed m c) ∗ owing c 0)

theorem rooms : (bigSep Finset.univ fun n : Dev nD => (((n : Thread nD τ).loc main_v1) ↦{fullShare} m ((n : Thread nD τ).loc main_v1) : sProp 𝕄))
    ⊢ bigSep Finset.univ fun c : Dev nD => iprop((bigSep Finset.univ fun i => room m c i)
      ∗ (((c : Thread nD τ).loc main_v1) ↦[rest fun i => (dstP i).view.set]{fullShare} m ((c : Thread nD τ).loc main_v1))) :=
  deal_rooms main_v1 (fun _ i => (dstP i).view.set) (fun _ => mates) (fun _ _ _ h => dst_apart h) fun n => m ((n : Thread nD τ).loc main_v1)

theorem regroup {A B C D E : sProp 𝕄} : iprop(A ∗ B ∗ C ∗ D ∗ E) ⊢ iprop((A ∗ B) ∗ C ∗ D ∗ E) := by
  iintro ⟨H1, H2, H3⟩
  isplitl [H1 H2]; · isplitl [H1] <;> iassumption
  iexact H3

theorem dealt (κ : Dev nD × Wt (Fin 8) (Fin 0) → ℕ) (c : Dev nD) : iprop(start plan (hands (has m) (got m) nothing) κ c
        ∗ iprop((bigSep Finset.univ fun i => has m c i) ∗ (((c : Thread nD τ).loc main_arg0) ↦[rest fun i => (srcP c i).view.set]{fullShare} gave m c))
        ∗ iprop((bigSep Finset.univ fun i => room m c i) ∗ (((c : Thread nD τ).loc main_v1) ↦[rest fun i => (dstP i).view.set]{fullShare} m ((c : Thread nD τ).loc main_v1)))
        ∗ owes (c : Thread nD τ) (O₀ plan c) ∅) ⊢ (T₀ m c : sProp 𝕄) := by
  unfold T₀ Φ₀ kept owing
  iintro ⟨Hs, ⟨Hh, Hk⟩, ⟨Hr, Hl⟩, HO⟩
  isplitl [Hs Hh Hr]
  · isplitl [Hs]; · iexists κ; iexact Hs
    isplitl [Hh] <;> iassumption
  isplitl [Hk Hl]; · isplitl [Hk] <;> iassumption
  iexists ∅; iexact HO

theorem launched : (bigSep Finset.univ fun c : Dev nD => iprop(unscopedBufs c (fun b => m ((c : Thread nD τ).loc b)) ∗ owes (c : Thread nD τ) (O₀ plan c) ∅
      ∗ Pipeline.launchCred (O₀ plan) c ∗ Pipeline.ownSems0 (τ := τ) sem c ∗ G plan (hands (has m) (got m) nothing) c) : sProp 𝕄)
    ⊢ |={Set.univ}=> bigSep Finset.univ (T₀ m) := by
  have hA : (bigSep Finset.univ fun c : Dev nD => iprop(unscopedBufs c (fun b => m ((c : Thread nD τ).loc b)) ∗ owes (c : Thread nD τ) (O₀ plan c) ∅
      ∗ Pipeline.launchCred (O₀ plan) c ∗ Pipeline.ownSems0 (τ := τ) sem c ∗ G plan (hands (has m) (got m) nothing) c) : sProp 𝕄)
      ⊢ bigSep Finset.univ fun c : Dev nD => iprop(iprop(unscopedBufs c (fun b => m ((c : Thread nD τ).loc b)) ∗ owes (c : Thread nD τ) (O₀ plan c) ∅)
      ∗ Pipeline.launchCred (O₀ plan) c ∗ Pipeline.ownSems0 (τ := τ) plan.sem c ∗ G plan (hands (has m) (got m) nothing) c) :=
    bigSep_mono fun c _ => regroup
  have hS : (bigSep Finset.univ fun c : Dev nD => (((c : Thread nD τ).loc main_arg0) ↦{fullShare} gave m c : sProp 𝕄))
      ⊢ bigSep Finset.univ fun c : Dev nD => iprop((bigSep Finset.univ fun i => has m c i) ∗ (((c : Thread nD τ).loc main_arg0) ↦[rest fun i => (srcP c i).view.set]{fullShare} gave m c)) :=
    bigSep_mono fun c _ => cut (J := Fin 8) (ℓ := (c : Thread nD τ).loc main_arg0) (fun i => (srcP c i).view.set) (fun _ _ h => src_apart c h) (gave m c)
  have hT (κ : Dev nD × Wt (Fin 8) (Fin 0) → ℕ) : (bigSep Finset.univ fun c : Dev nD => iprop(start plan (hands (has m) (got m) nothing) κ c
        ∗ iprop((bigSep Finset.univ fun i => has m c i) ∗ (((c : Thread nD τ).loc main_arg0) ↦[rest fun i => (srcP c i).view.set]{fullShare} gave m c))
        ∗ iprop((bigSep Finset.univ fun i => room m c i) ∗ (((c : Thread nD τ).loc main_v1) ↦[rest fun i => (dstP i).view.set]{fullShare} m ((c : Thread nD τ).loc main_v1)))
        ∗ owes (c : Thread nD τ) (O₀ plan c) ∅) : sProp 𝕄) ⊢ bigSep Finset.univ (T₀ m) := bigSep_mono fun c _ => dealt m κ c
  refine (hA.trans (deal plan (hands (has m) (got m) nothing) _)).trans (fupd_mono ?_)
  have hB (c : Dev nD) := buffers (F := F) c fun b => m ((c : Thread nD τ).loc b)
  simp only [hB]
  simp only [bigSep_sep'] at hT hS ⊢
  have hR := rooms m
  simp only [bigSep_sep'] at hR
  iintro ⟨%κ, ⟨⟨Ha, Hv⟩, HO⟩, Hst⟩
  ihave Ha := hS $$ Ha
  ihave Hv := hR $$ Hv
  iapply (hT κ)
  isplitl [Hst]; · iexact Hst
  isplitl [Ha]; · iexact Ha
  isplitl [Hv]; · iexact Hv
  iexact HO

theorem ended (c : Dev nD) : iprop((bigSep Finset.univ fun i => has m c i) ∗ (bigSep Finset.univ fun i => got m c i) ∗ kept m c ∗ owing c 0) ⊢ (T₁ m c : sProp 𝕄) := by
  unfold kept T₁
  iintro ⟨Hh, Hg, ⟨Hk, Hl⟩, HO⟩
  ihave Ha := (uncut (J := Fin 8) (ℓ := (c : Thread nD τ).loc main_arg0) (fun i => (srcP c i).view.set) (fun _ _ h => src_apart c h) (gave m c) (gave m c) (fun _ _ => rfl)) $$ [Hh Hk]
  · isplitl [Hh]; · iexact Hh
    iexact Hk
  ihave Hv := (uncut (J := Fin 8) (ℓ := (c : Thread nD τ).loc main_v1) (fun i => (dstP i).view.set) (fun _ _ h => dst_apart h) (m ((c : Thread nD τ).loc main_v1)) (landed m c)
      (fun x h => absurd (dst_cover x) (fun ⟨i, hi⟩ => h i hi))) $$ [Hg Hl]
  · isplitl [Hg]; · iexact Hg
    iexact Hl
  isplitl [Ha]; · iexact Ha
  isplitl [Hv] <;> iassumption

/-- At the end each core's own array is as before, the half the other core gave away has arrived, and all semaphores are zero. -/
theorem run_main : θ_run defs (onTc (τ := τ) (main (F := F))) ⟨m, fun _ => 0, ρ⟩ fun r =>
    (∀ c : Dev nD, r.2.mem ((c : Thread nD τ).loc main_v1) = landed m c ∧ r.2.mem ((c : Thread nD τ).loc main_arg0) = m ((c : Thread nD τ).loc main_arg0))
      ∧ r.2.sem = fun _ => 0 :=
  Cert.Dealt.run_dealt pcfgs (fun p => (cfgs p).toPCfg_adm) (dats m) () cellOf_inj (EP nD τ sig (Elt F)) defs₀ 𝒱₀ (p := 0) (fun _ _ => 0) m ρ main
    winFacts0.to₀ ownSemFacts (body_obligation m) (fun w => w.elim0) (fun w => w.elim0)
    (fun c => Pipeline.cellsWaits_intro cfgs (dats m) () 0 c (R := iprop(emp)) fun w => w.elim0)
    (fun _ => []) (fun _ => rfl) (fun _ => List.nodup_singleton _)
    (O₀ plan) (G plan (hands (has m) (got m) nothing))
    (initOf (Pipeline.cells cfgs cellOf_inj) (Pipeline.launchToks cfgs cellOf_inj), initOf (Exchange.cells plan) (Exchange.toks plan))
    (by
      iintro Hu
      ihave H := (ownU_pair _ _) $$ Hu
      icases H with ⟨HP, HX⟩
      imod (fund plan (hands (has m) (got m) nothing)) $$ HX with HG
      imodintro
      isplitl [HP] <;> iassumption)
    (T₀ m) (Φ₀ m) (fun c => iprop((bigSep Finset.univ fun i => has m c i) ∗ (bigSep Finset.univ fun i => got m c i))) (kept m) (T₁ m)
    (fun c => iprop((((c : Thread nD τ).loc main_arg0) ↦{fullShare} gave m c) ∗ (((c : Thread nD τ).loc main_v1) ↦{fullShare} landed m c)))
    (launched m)
    (fun c => by
      unfold T₀
      iintro ⟨HF, Hk, HO⟩
      imodintro
      isplitr; · iempintro
      isplitr; · iempintro
      isplitl [HO]
      · unfold owing
        icases HO with ⟨%W, HO⟩
        iexists W
        isplitr; · ipureintro; exact fun _ _ => Or.inl trivial
        iexact HO
      isplitl [HF] <;> iassumption)
    (fun c => by
      show _ ⊢ Φ₀ m c
      iintro ⟨H, -⟩
      iexact H)
    (fun c => by
      show Φ₁ m c ⊢ _
      rw [show Pipeline.scopedRest (Pipeline.pin (pcfgs (F := F)) (fun p => (cfgs p).toPCfg_adm) 0).spec c = (BI.emp : sProp 𝕄) from scopedRest0_eq c]
      unfold Φ₁
      iintro ⟨Hz, H⟩
      isplitl [H]; · iexact H
      isplitl [Hz]; · iexact Hz
      iempintro)
    (fun c => by
      iintro ⟨-, ⟨%W, %hW, HO⟩, ⟨Hh, Hg⟩, Hk⟩
      imodintro
      iapply (ended m c)
      isplitl [Hh]; · iexact Hh
      isplitl [Hg]; · iexact Hg
      isplitl [Hk]; · iexact Hk
      unfold owing; iexists W; iexact HO)
    (fun c => by
      show T₁ m c ⊢ _
      unfold T₁ owing
      iintro ⟨Ha, Hv, HO⟩
      isplitl [Ha Hv]; · isplitl [Ha] <;> iassumption
      iexact HO)
    (fun c s => s.mem ((c : Thread nD τ).loc main_v1) = landed m c ∧ s.mem ((c : Thread nD τ).loc main_arg0) = m ((c : Thread nD τ).loc main_arg0))
    (fun c s' => by
      iintro ⟨⟨Ha, Hv⟩, HSI⟩
      ihave H := (read_whole _ _ s') $$ [Ha HSI]
      · isplitl [Ha] <;> iassumption
      icases H with ⟨%ha, HSI⟩
      ihave H := (read_whole _ _ s') $$ [Hv HSI]
      · isplitl [Hv] <;> iassumption
      icases H with ⟨%hv, HSI⟩
      imodintro
      isplitr; · ipureintro; exact ⟨hv, ha⟩
      iexact HSI)
    (fun s h hs => ⟨h, sem_eq_zero_of_scoped (by decide) hs⟩)

end Cert.Sib
-- ==== Proof.SibClaims.lean ====
/-
  The claims about the exchange between the two cores of a chip.
-/
module

public import proofs.«01_k».proof.Defs
public import proofs.«01_k».proof.Proof.Blocks
public import proofs.«01_k».proof.Proof.SibLaunch
public import proofs.«01_k».proof.Proof.Gen.Kernel
public import proofs.«01_k».proof.Proof.Gen.ReferenceIdeal
public import proofs.«01_k».proof.Proof.Gen.ReferenceIdeal.Run
public import Idealize.ShloMosaic.Lib.Pointwise
public import Idealize.ShloMosaic.Lib.Quiescent

@[expose] public section

noncomputable section

namespace Cert.Sib

open Cert.Blocks
open Idealize.ShloMosaic Idealize.ShloMosaic.TcCoe Idealize.SL.Sem

theorem frame_kernel : Cert.quiescent_Kernel := fun m ρ _ =>
  (θ_run Cert.KernelIdeal.defs _ _).mono (fun _ h => ⟨fun c => (h.1 c).2, h.2⟩) (run_main (F := Bits) m ρ)

theorem frame_ideal : Cert.quiescent_KernelIdeal := fun m ρ _ =>
  (θ_run Cert.KernelIdeal.defs _ _).mono (fun _ h => ⟨fun c => (h.1 c).2, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

section Value

open Cert.ReferenceIdeal Cert.ReferenceIdeal.Gen

variable {α : Type}

/-- The reference's result from its argument. -/
def stacked (x : S16384x8448.Idx → α) : S8x1024x8448.Idx → α :=
  shapeCast _ (concatenate S4x2x1024x8448 1 [⟨S4x1x1024x8448, (broadcastInDim S4x1x1024x8448 ![0, 2, 3] bcast_S4x1024x8448_S4x1x1024x8448_0_2_3 (shapeCast _ (extractStridedSlice S4x1x1x1024x8448 ![0, 1, 0, 0, 0] (shapeCast _ x shapeCasts_S16384x8448_S4x2x2x1024x8448) slices_S4x2x2x1024x8448_S4x1x1x1024x8448_0_1_0_0_0) shapeCasts_S4x1x1x1024x8448_S4x1024x8448))⟩, ⟨S4x1x1024x8448, (broadcastInDim S4x1x1024x8448 ![0, 2, 3] bcast_S4x1024x8448_S4x1x1024x8448_0_2_3 (shapeCast _ (extractStridedSlice S4x1x1x1024x8448 ![0, 0, 1, 0, 0] (shapeCast _ x shapeCasts_S16384x8448_S4x2x2x1024x8448) slices_S4x2x2x1024x8448_S4x1x1x1024x8448_0_0_1_0_0) shapeCasts_S4x1x1x1024x8448_S4x1024x8448))⟩] concatenates_S4x1x1024x8448_S4x1x1024x8448_S4x2x1024x8448_d1) shapeCasts_S4x2x1024x8448_S8x1024x8448

theorem stacked_at (x : S16384x8448.Idx → α) (j : S8x1024x8448.Idx) (k : S16384x8448.Idx)
    (h0 : (k 0).val = 2048 * (2 * ((j 0).val / 2) + (1 - (j 0).val % 2)) + (1024 * ((j 0).val % 2) + (j 1).val)) (h1 : (k 1).val = (j 2).val) : stacked x j = x k := by
  unfold stacked
  pointwise
  have hj : (j 0).val < 8 := (j 0).isLt
  split
  · refine congrArg x (funext fun a => Fin.ext ?_)
    fin_cases a
    · show (j 0).val / 2 * 4096 + 2048 + (j 1).val = (k 0).val; omega
    · exact h1.symm
  · refine congrArg x (funext fun a => Fin.ext ?_)
    fin_cases a
    · show (j 0).val / 2 * 4096 + 1024 + (j 1).val = (k 0).val; omega
    · exact h1.symm

end Value

/-- What a core holds in the end is its block of the reference's result. -/
theorem landed_eq (m : (ℓ : Loc Cert.KernelIdeal.nD Cert.KernelIdeal.τ Cert.KernelIdeal.sig) → Buf (Elt Ideal) ℓ) (x : Cert.ReferenceIdeal.S16384x8448.Idx → Elt Ideal .f32)
    (h : ∀ c : Dev Cert.KernelIdeal.nD, m ((c : Thread Cert.KernelIdeal.nD Cert.KernelIdeal.τ).loc Cert.KernelIdeal.main_arg0) = Layout.block ⟨2, ![2048, 8448]⟩ ⟨2, ![16384, 8448]⟩ 0 8 c x)
    (c : Dev Cert.KernelIdeal.nD) : landed m c = Layout.block ⟨3, ![1, 1024, 8448]⟩ ⟨3, ![8, 1024, 8448]⟩ 0 8 c (stacked x) := by
  funext y
  have hy : (y 0).val < 1 := (y 0).isLt
  have hc : c.val < 8 := c.isLt
  have hn : (mate c).val = 2 * (c.val / 2) + (1 - c.val % 2) := rfl
  have ht : top (mate c) = 1024 - 1024 * ((mate c).val % 2) := rfl
  refine (congrFun (h (mate c)) (ValueIdx.ix2 (⟨top (mate c) + (y 1).val, top_lt (mate c) (y 1)⟩ : Fin 2048) (y 2))).trans ?_
  rw [Layout.block_apply, Layout.block_apply]
  refine (stacked_at x _ _ ?_ ?_).symm
  · rw [rows0 (n := 2048) (r := top (mate c) + (y 1).val) _ _ _ rfl rfl, front0 (n := 1) (r := (y 0).val) _ _ _ rfl rfl, front1, ht, hn]
    omega
  · rw [rows1 (r := (y 2).val) _ _ _ rfl, front2]

theorem algebraic : Cert.algebraic_KernelIdeal_ReferenceIdeal := fun m ρ m' ρ' _ h =>
  ⟨stacked (m' (((0 : Dev Cert.ReferenceIdeal.nD) : Thread Cert.ReferenceIdeal.nD Cert.ReferenceIdeal.τ).loc Cert.ReferenceIdeal.main_arg0)),
    (θ_run Cert.KernelIdeal.defs _ _).mono (fun _ hr c => ⟨((hr.1 c).1).trans (landed_eq m _ h c), (hr.1 c).2⟩) (run_main (F := Ideal) m ρ),
    (θ_run Cert.ReferenceIdeal.defs _ _).mono (fun _ hr => ⟨(hr 0).1, (hr 0).2⟩) (Cert.ReferenceIdeal.Value.run m' ρ')⟩

end Cert.Sib
-- ==== Proof.Step.lean ====
/-
  The optimizer step of one element, over the extended reals: from a gradient `g`, a weight `w` and the two moments
  `m` and `v`, the new moments and the change of the weight.
-/
module

public import Idealize.ShloMosaic.PureOps.Ideal
public import Idealize.ShloMosaic.Lib.IdealHost
public import Idealize.ShloMosaic.Lib.Pipeline.Value

@[expose] public section

noncomputable section

namespace Cert.Step

open Idealize.ShloMosaic

/-- The new first moment. -/
def first (g m : Ideal .f32) : Ideal .f32 :=
  FloatOps.addf (FloatOps.mulf (Scalar.ofBits .f32 0x3F666666#32) m) (FloatOps.mulf (Scalar.ofBits .f32 0x3DCCCCCD#32) g)

/-- The new second moment. -/
def second (g v : Ideal .f32) : Ideal .f32 :=
  FloatOps.addf (FloatOps.mulf (Scalar.ofBits .f32 0x3F7FBE77#32) v) (FloatOps.mulf (Scalar.ofBits .f32 0x3A83126F#32) (FloatOps.mulf g g))

/-- The change of the weight. -/
def change (g w m v : Ideal .f32) : Ideal .f32 :=
  FloatOps.mulf (Scalar.ofBits .f32 0xBA83126F#32) (FloatOps.addf
    (FloatOps.divf (FloatOps.mulf (first g m) (Scalar.ofBits .f32 0x3FC48605#32))
      (FloatOps.addf (FloatOps.sqrt (FloatOps.mulf (second g v) (Scalar.ofBits .f32 0x42C8E6D3#32))) (Scalar.ofBits .f32 0x322BCC77#32)))
    (FloatOps.mulf (Scalar.ofBits .f32 0x3C23D70A#32) w))

end Cert.Step

end
-- ==== Proof.RepStep.lean ====
/-
  The optimizer step of the pack of replicated tensors, whose gradient is the sum of the eight devices' parts: the call's claims.
-/
module

public import proofs.«01_k».proof.Defs
public import proofs.«01_k».proof.Proof.Step
public import proofs.«01_k».proof.Proof.Gen.RepStep.Frame
public import proofs.«01_k».proof.Proof.Gen.RepStepIdeal.Value
public import proofs.«01_k».proof.Proof.Gen.RepStepReferenceIdeal.Run
public import Idealize.ShloMosaic.Lib.Pointwise
public import Idealize.ShloMosaic.Lib.Quiescent

@[expose] public section

noncomputable section

namespace Cert.RepStep

open Idealize.ShloMosaic Idealize.ShloMosaic.TcCoe Idealize.SL.Sem

theorem frame_kernel : Cert.quiescent_RepStep := fun m ρ _ => Cert.RepStep.Gen.frame m ρ

theorem frame_ideal : Cert.quiescent_RepStepIdeal := fun m ρ _ => Cert.RepStepIdeal.Gen.frame m ρ

theorem frame_reference : Cert.quiescent_RepStepReferenceIdeal := fun m ρ _ =>
  (θ_run Cert.RepStepReferenceIdeal.defs _ _).mono (fun r h => ⟨fun c => (h c).2.2.2.2, sem_eq_zero_of_no_sems (by decide) r.2⟩)
    (Cert.RepStepReferenceIdeal.Value.run m ρ)

section Reference

open Cert.RepStepReferenceIdeal Cert.RepStepReferenceIdeal.Gen

variable (p : FVec Ideal S8x120x128 .f32) (g w m v : FVec Ideal S120x128 .f32)

/-- A constant at every index. -/
abbrev every (x : BitVec 32) : FVec Ideal S120x128 .f32 := broadcastInDim S120x128 ![] bcast_S_S120x128 (constant S_ .f32 x)

/-- One device's part of the gradient, cut from the eight. -/
abbrev part (off : Fin 3 → Nat) (h : S8x120x128.Slices off S1x120x128) : FVec Ideal S120x128 .f32 :=
  shapeCast S120x128 (extractStridedSlice S1x120x128 off p h) shapeCasts_S1x120x128_S120x128

/-- The reference's gradient: the eight parts added in order. -/
abbrev total : FVec Ideal S120x128 .f32 :=
  addf (addf (addf (addf (addf (addf (addf (part p ![0, 0, 0] slices_S8x120x128_S1x120x128_0_0_0)
    (part p ![1, 0, 0] slices_S8x120x128_S1x120x128_1_0_0)) (part p ![2, 0, 0] slices_S8x120x128_S1x120x128_2_0_0))
    (part p ![3, 0, 0] slices_S8x120x128_S1x120x128_3_0_0)) (part p ![4, 0, 0] slices_S8x120x128_S1x120x128_4_0_0))
    (part p ![5, 0, 0] slices_S8x120x128_S1x120x128_5_0_0)) (part p ![6, 0, 0] slices_S8x120x128_S1x120x128_6_0_0))
    (part p ![7, 0, 0] slices_S8x120x128_S1x120x128_7_0_0)

open Cert.RepStepIdeal.Gen in
/-- The kernel reads each part through a rectangle where the reference slices it. -/
theorem total_kernel : k0_pay5 (F := Ideal) p w m v = total p := by
  unfold k0_pay5 k0_pay3
  simp only [r0_0, r0_1, r0_2, r0_3, r0_4, r0_5, r0_6, r0_7, View.ld_unit]

open Cert.RepStepIdeal.Gen in
theorem first_kernel : k0_pay6 (F := Ideal) p w m v = addf (mulf (every 0x3F666666#32) m) (mulf (every 0x3DCCCCCD#32) (total p)) := by
  have h := total_kernel p w m v
  unfold k0_pay5 at h
  unfold k0_pay6 k0_pay4
  rw [h, View.ld_unit_zero (by funext a; fin_cases a <;> rfl)]
  rfl

open Cert.RepStepIdeal.Gen in
theorem change_kernel (i : S120x128.Idx) :
    k0_pay2 (k0_pay5 (F := Ideal) p w m v) (k0_pay6 p w m v) v w i = Step.change (total p i) (w i) (m i) (v i) := by
  rw [total_kernel, first_kernel]; rfl

open Cert.RepStepIdeal.Gen in
theorem second_kernel (i : S120x128.Idx) : k0_pay1 (k0_pay5 (F := Ideal) p w m v) v i = Step.second (total p i) (v i) := by
  rw [total_kernel]; rfl

theorem first_at (i : S120x128.Idx) : addf (mulf (every 0x3F666666#32) m) (mulf (every 0x3DCCCCCD#32) g) i = Step.first (g i) (m i) := rfl

theorem second_at (i : S120x128.Idx) : addf (mulf (every 0x3F7FBE77#32) v) (mulf (every 0x3A83126F#32) (mulf g g)) i = Step.second (g i) (v i) := rfl

theorem change_at (i : S120x128.Idx) :
    mulf (every 0xBA83126F#32) (addf
      (Host.divf (mulf (addf (mulf (every 0x3F666666#32) m) (mulf (every 0x3DCCCCCD#32) g)) (every 0x3FC48605#32))
        (addf (Host.sqrt (mulf (addf (mulf (every 0x3F7FBE77#32) v) (mulf (every 0x3A83126F#32) (mulf g g))) (every 0x42C8E6D3#32))) (every 0x322BCC77#32)))
      (mulf (every 0x3C23D70A#32) w)) i
    = Step.change (g i) (w i) (m i) (v i) := rfl

end Reference

theorem algebraic : Cert.algebraic_RepStepIdeal_RepStepReferenceIdeal := fun m ρ m' ρ' _ h =>
  ⟨_, _, _, _, Cert.RepStepIdeal.Value.run m ρ,
    (θ_run Cert.RepStepReferenceIdeal.defs _ _).mono (fun _ hr c => by
      obtain ⟨r0, r1, r2, r3, hk⟩ := hr c
      obtain ⟨h0, h1, h2, h3⟩ := h c
      unfold Cert.RepStepReferenceIdeal.Value.res_main_v46 at r1
      refine ⟨r0.trans ?_, r1.trans (funext fun i => ?_), r2.trans (funext fun i => ?_), r3.trans (funext fun i => ?_), hk⟩
      · rw [h0]; exact (total_kernel _ _ _ _).symm
      · rw [h0, h1, h2, h3]; exact (change_at (total _) _ _ _ i).trans (change_kernel _ _ _ _ i).symm
      · rw [h0, h2]; exact (congrFun (first_kernel _ _ _ _) i).symm
      · rw [h0, h3]; exact (second_at (total _) _ i).trans (second_kernel _ _ _ _ i).symm)
      (Cert.RepStepReferenceIdeal.Value.run m' ρ')⟩

end Cert.RepStep

end
-- ==== Proof.SmallStep.lean ====
/-
  The optimizer step of the chip's pack of small sharded tensors: the call's claims.
-/
module

public import proofs.«01_k».proof.Defs
public import proofs.«01_k».proof.Proof.Step
public import proofs.«01_k».proof.Proof.Gen.SmallStep.Frame
public import proofs.«01_k».proof.Proof.Gen.SmallStepIdeal.Value
public import proofs.«01_k».proof.Proof.Gen.SmallStepReferenceIdeal.Run
public import Idealize.ShloMosaic.Lib.Pointwise
public import Idealize.ShloMosaic.Lib.Quiescent

@[expose] public section

noncomputable section

namespace Cert.SmallStep

open Idealize.ShloMosaic Idealize.ShloMosaic.TcCoe Idealize.SL.Sem

theorem frame_kernel : Cert.quiescent_SmallStep := fun m ρ _ => Cert.SmallStep.Gen.frame m ρ

theorem frame_ideal : Cert.quiescent_SmallStepIdeal := fun m ρ _ => Cert.SmallStepIdeal.Gen.frame m ρ

theorem frame_reference : Cert.quiescent_SmallStepReferenceIdeal := fun m ρ _ =>
  (θ_run Cert.SmallStepReferenceIdeal.defs _ _).mono (fun r h => ⟨fun c => (h c).2.2.2.2, sem_eq_zero_of_no_sems (by decide) r.2⟩)
    (Cert.SmallStepReferenceIdeal.Value.run m ρ)

section Reference

open Cert.SmallStepReferenceIdeal Cert.SmallStepReferenceIdeal.Gen

variable (p : FVec Ideal S1x64x1024 .f32) (g w m v : FVec Ideal S64x1024 .f32)

/-- A constant at every index. -/
abbrev every (x : BitVec 32) : FVec Ideal S64x1024 .f32 := broadcastInDim S64x1024 ![] bcast_S_S64x1024 (constant S_ .f32 x)

/-- The reference's gradient. -/
abbrev total : FVec Ideal S64x1024 .f32 := shapeCast S64x1024 p shapeCasts_S1x64x1024_S64x1024

theorem first_at (i : S64x1024.Idx) : addf (mulf (every 0x3F666666#32) m) (mulf (every 0x3DCCCCCD#32) g) i = Step.first (g i) (m i) := rfl

theorem second_at (i : S64x1024.Idx) : addf (mulf (every 0x3F7FBE77#32) v) (mulf (every 0x3A83126F#32) (mulf g g)) i = Step.second (g i) (v i) := rfl

theorem change_at (i : S64x1024.Idx) :
    mulf (every 0xBA83126F#32) (addf
      (Host.divf (mulf (addf (mulf (every 0x3F666666#32) m) (mulf (every 0x3DCCCCCD#32) g)) (every 0x3FC48605#32))
        (addf (Host.sqrt (mulf (addf (mulf (every 0x3F7FBE77#32) v) (mulf (every 0x3A83126F#32) (mulf g g))) (every 0x42C8E6D3#32))) (every 0x322BCC77#32)))
      (mulf (every 0x3C23D70A#32) w)) i
    = Step.change (g i) (w i) (m i) (v i) := rfl

end Reference

theorem algebraic : Cert.algebraic_SmallStepIdeal_SmallStepReferenceIdeal := fun m ρ m' ρ' _ h =>
  ⟨_, _, _, _, Cert.SmallStepIdeal.Value.run m ρ,
    (θ_run Cert.SmallStepReferenceIdeal.defs _ _).mono (fun _ hr c => by
      obtain ⟨r0, r1, r2, r3, hk⟩ := hr c
      obtain ⟨h0, h1, h2, h3⟩ := h c
      refine ⟨r0.trans ?_, r1.trans (funext fun i => ?_), r2.trans (funext fun i => ?_), r3.trans (funext fun i => ?_), hk⟩
      · rw [h0]; rfl
      · rw [h0, h1, h2, h3]; exact change_at (total _) _ _ _ i
      · rw [h0, h2]; exact first_at (total _) _ i
      · rw [h0, h3]; exact second_at (total _) _ i) (Cert.SmallStepReferenceIdeal.Value.run m' ρ')⟩

end Cert.SmallStep

end
-- ==== Proof.WInStep.lean ====
/-
  The optimizer step of the chip's columns of w_in: the call's claims.
-/
module

public import proofs.«01_k».proof.Defs
public import proofs.«01_k».proof.Proof.Step
public import proofs.«01_k».proof.Proof.Gen.WInStep.Frame
public import proofs.«01_k».proof.Proof.Gen.WInStepIdeal.Value
public import proofs.«01_k».proof.Proof.Gen.WInStepReferenceIdeal.Run
public import Idealize.ShloMosaic.Lib.Pointwise
public import Idealize.ShloMosaic.Lib.Quiescent

@[expose] public section

noncomputable section

namespace Cert.WInStepIdeal.Value

open Cert.WInStepIdeal Cert.WInStepIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gradient at an index: there is one part. -/
abbrev g (c : Dev nD) (i : S2048x2084.Idx) : Ideal .f32 := m ((c : Thread nD τ).loc main_arg0) (ValueIdx.ix3 (0 : Fin 1) (i 0) (i 1))

abbrev grad (c : Dev nD) : S2048x2084.Idx → Ideal .f32 := fun i => g m c i
abbrev first (c : Dev nD) : S2048x2084.Idx → Ideal .f32 := fun i => Step.first (g m c i) (m ((c : Thread nD τ).loc main_arg2) i)
abbrev second (c : Dev nD) : S2048x2084.Idx → Ideal .f32 := fun i => Step.second (g m c i) (m ((c : Thread nD τ).loc main_arg3) i)
abbrev change (c : Dev nD) : S2048x2084.Idx → Ideal .f32 := fun i =>
  Step.change (g m c i) (m ((c : Thread nD τ).loc main_arg1) i) (m ((c : Thread nD τ).loc main_arg2) i) (m ((c : Thread nD τ).loc main_arg3) i)

theorem hz3 : (![0, 0, 0] : Fin 3 → ℕ) = fun _ => 0 := by decide
theorem hz2 : (![0, 0] : Fin 2 → ℕ) = fun _ => 0 := by decide

/-- Where an element of a point's block is in the array. -/
abbrev at_ (t : Fin cfg0.N) (y : S128x2084.Idx) : S2048x2084.Idx := (win0_4.blk t).view.emb y

theorem block0 (c : Dev nD) (t : Fin cfg0.N) (y : S128x2084.Idx) (x : S1x128x2084.Idx) (h0 : (x 0).val = 0) (h1 : (x 1).val = (y 0).val) (h2 : (x 2).val = (y 1).val) :
    iblk m c 0 t x = g m c (at_ t y) := by
  refine congrArg (m ((c : Thread nD τ).loc main_arg0)) (funext fun a => Fin.ext ?_)
  fin_cases a
  · exact (win0_0.rect_emb_val_of_index_zero t 0 rfl x).trans h0
  · exact (win0_0.rect_emb_val t x 1).trans (.trans (by rw [h1]; rfl) (win0_4.rect_emb_val t y 0).symm)
  · exact (win0_0.rect_emb_val_of_index_zero t 2 rfl x).trans (h2.trans (win0_4.rect_emb_val_of_index_zero t 1 rfl y).symm)

theorem same (y : S128x2084.Idx) (f : (a : Fin 2) → Fin (S128x2084.size a)) (h0 : (f 0).val = (y 0).val) (h1 : (f 1).val = (y 1).val) : f = y :=
  funext fun a => Fin.ext (by fin_cases a; exacts [h0, h1])

theorem flushed4_eq (c : Dev nD) (t : Fin cfg0.N) : (dats m 0 c).flushed 4 t = (win0_4.blk t).view.read (Elt Ideal) (grad m c) := by
  rw [flushed4]
  funext y
  show out0_4 (iblk m c 0 t) (iblk m c 1 t) (iblk m c 2 t) (iblk m c 3 t) y = grad m c (at_ t y)
  unfold out0_4
  rw [View.ld_unit_zero hz3, canon4_eq]
  exact block0 m c t y _ rfl rfl rfl

theorem flushed6_eq (c : Dev nD) (t : Fin cfg0.N) : (dats m 0 c).flushed 6 t = (win0_6.blk t).view.read (Elt Ideal) (first m c) := by
  rw [flushed6]
  funext y
  show out0_6 (iblk m c 0 t) (iblk m c 1 t) (iblk m c 2 t) (iblk m c 3 t) y = first m c (at_ t y)
  unfold out0_6
  rw [View.ld_unit_zero hz3, View.ld_unit_zero hz2, canon6_eq]
  show Step.first (iblk m c 0 t (ix6_1 y)) (iblk m c 2 t (ix6_0 y)) = _
  rw [block0 m c t y (ix6_1 y) rfl rfl rfl, same y (ix6_0 y) rfl rfl]
  rfl

theorem flushed7_eq (c : Dev nD) (t : Fin cfg0.N) : (dats m 0 c).flushed 7 t = (win0_7.blk t).view.read (Elt Ideal) (second m c) := by
  rw [flushed7]
  funext y
  show out0_7 (iblk m c 0 t) (iblk m c 1 t) (iblk m c 2 t) (iblk m c 3 t) y = second m c (at_ t y)
  unfold out0_7
  rw [View.ld_unit_zero hz3, View.ld_unit_zero hz2, canon7_eq]
  show Step.second (iblk m c 0 t (ix7_1 y)) (iblk m c 3 t (ix7_0 y)) = _
  rw [block0 m c t y (ix7_1 y) rfl rfl rfl, same y (ix7_0 y) rfl rfl]
  rfl

theorem flushed5_eq (c : Dev nD) (t : Fin cfg0.N) : (dats m 0 c).flushed 5 t = (win0_5.blk t).view.read (Elt Ideal) (change m c) := by
  rw [flushed5]
  funext y
  show out0_5 (iblk m c 0 t) (iblk m c 1 t) (iblk m c 2 t) (iblk m c 3 t) y = change m c (at_ t y)
  unfold out0_5
  rw [View.ld_unit_zero hz3, View.ld_unit_zero hz2, View.ld_unit_zero hz2, View.ld_unit_zero hz2, canon5_eq]
  show Step.change (iblk m c 0 t (ix5_1 y)) (iblk m c 1 t (ix5_5 y)) (iblk m c 2 t (ix5_0 y)) (iblk m c 3 t (ix5_2 y)) = _
  rw [block0 m c t y (ix5_1 y) rfl rfl rfl, same y (ix5_0 y) rfl rfl, same y (ix5_2 y) rfl rfl, same y (ix5_5 y) rfl rfl]
  rfl

/-- The point that writes a row. -/
theorem point (i : S2048x2084.Idx) : ∃ t : Fin cfg0.N, win0_4.index t 0 * 128 ≤ (i 0).val ∧ (i 0).val < win0_4.index t 0 * 128 + 128 := by
  have hi : (i 0).val < 2048 := (i 0).isLt
  have hN : grid0.N = 16 := N_0
  have h : ∀ t : Fin grid0.N, win0_4.index t 0 = t.val := by decide +kernel
  refine ⟨⟨(i 0).val / 128, by show _ < grid0.N; omega⟩, ?_⟩
  rw [h ⟨(i 0).val / 128, by omega⟩]
  show (i 0).val / 128 * 128 ≤ (i 0).val ∧ (i 0).val < (i 0).val / 128 * 128 + 128
  omega

/-- The points' blocks cover the array. -/
theorem covered (i : S2048x2084.Idx) : ∃ t : Fin cfg0.N, i ∈ (win0_4.blk t).view.set := by
  obtain ⟨t, h0, h1⟩ := point i
  refine ⟨t, ?_⟩
  show i ∈ ((View.whole main_v0_0).slice (win0_4.rect t)).set
  rw [View.set_slice_whole, Rect.mem_set_unit]
  intro a
  fin_cases a
  · exact ⟨h0, h1⟩
  · have h : (i 1).val < 2084 := (i 1).isLt
    have e : win0_4.index t 1 * win0_4.size 1 = 0 := by rw [show win0_4.index t 1 = 0 from rfl, Nat.zero_mul]
    refine ⟨?_, ?_⟩
    · show win0_4.index t 1 * win0_4.size 1 ≤ (i 1).val
      rw [e]; exact Nat.zero_le _
    · show (i 1).val < win0_4.index t 1 * win0_4.size 1 + 2084
      rw [e]; omega

theorem final4 (c : Dev nD) : (dats m 0 c).arrAt 4 cfg0.N = grad m c :=
  (dats m 0 c).arrAt_eq_of_cover 4 (grad m c) (fun t _ => flushed4_eq m c t) fun i => (covered i).imp fun t h => ⟨flush0_4 t, h⟩

theorem final5 (c : Dev nD) : (dats m 0 c).arrAt 5 cfg0.N = change m c :=
  (dats m 0 c).arrAt_eq_of_cover 5 (change m c) (fun t _ => flushed5_eq m c t) fun i => (covered i).imp fun t h => ⟨flush0_5 t, h⟩

theorem final6 (c : Dev nD) : (dats m 0 c).arrAt 6 cfg0.N = first m c :=
  (dats m 0 c).arrAt_eq_of_cover 6 (first m c) (fun t _ => flushed6_eq m c t) fun i => (covered i).imp fun t h => ⟨flush0_6 t, h⟩

theorem final7 (c : Dev nD) : (dats m 0 c).arrAt 7 cfg0.N = second m c :=
  (dats m 0 c).arrAt_eq_of_cover 7 (second m c) (fun t _ => flushed7_eq m c t) fun i => (covered i).imp fun t h => ⟨flush0_7 t, h⟩

end Cert.WInStepIdeal.Value

namespace Cert.WInStep

open Idealize.ShloMosaic Idealize.ShloMosaic.TcCoe Idealize.SL.Sem

theorem frame_kernel : Cert.quiescent_WInStep := fun m ρ _ => Cert.WInStep.Gen.frame m ρ

theorem frame_ideal : Cert.quiescent_WInStepIdeal := fun m ρ _ => Cert.WInStepIdeal.Gen.frame m ρ

theorem frame_reference : Cert.quiescent_WInStepReferenceIdeal := fun m ρ _ =>
  (θ_run Cert.WInStepReferenceIdeal.defs _ _).mono (fun r h => ⟨fun c => (h c).2.2.2.2, sem_eq_zero_of_no_sems (by decide) r.2⟩)
    (Cert.WInStepReferenceIdeal.Value.run m ρ)

section Reference

open Cert.WInStepReferenceIdeal Cert.WInStepReferenceIdeal.Gen

variable (p : FVec Ideal S1x2048x2084 .f32) (g w m v : FVec Ideal S2048x2084 .f32)

/-- A constant at every index. -/
abbrev every (x : BitVec 32) : FVec Ideal S2048x2084 .f32 := broadcastInDim S2048x2084 ![] bcast_S_S2048x2084 (constant S_ .f32 x)

/-- The reference's gradient. -/
abbrev total : FVec Ideal S2048x2084 .f32 := shapeCast S2048x2084 p shapeCasts_S1x2048x2084_S2048x2084

theorem total_at (i : S2048x2084.Idx) : total p i = p (ValueIdx.ix3 (0 : Fin 1) (i 0) (i 1)) := by
  pointwise
  refine congrArg p (funext fun a => Fin.ext ?_)
  fin_cases a <;> rfl

theorem first_at (i : S2048x2084.Idx) : addf (mulf (every 0x3F666666#32) m) (mulf (every 0x3DCCCCCD#32) g) i = Step.first (g i) (m i) := rfl

theorem second_at (i : S2048x2084.Idx) : addf (mulf (every 0x3F7FBE77#32) v) (mulf (every 0x3A83126F#32) (mulf g g)) i = Step.second (g i) (v i) := rfl

theorem change_at (i : S2048x2084.Idx) :
    mulf (every 0xBA83126F#32) (addf
      (Host.divf (mulf (addf (mulf (every 0x3F666666#32) m) (mulf (every 0x3DCCCCCD#32) g)) (every 0x3FC48605#32))
        (addf (Host.sqrt (mulf (addf (mulf (every 0x3F7FBE77#32) v) (mulf (every 0x3A83126F#32) (mulf g g))) (every 0x42C8E6D3#32))) (every 0x322BCC77#32)))
      (mulf (every 0x3C23D70A#32) w)) i
    = Step.change (g i) (w i) (m i) (v i) := rfl

end Reference

open Cert.WInStepIdeal.Value in
theorem algebraic : Cert.algebraic_WInStepIdeal_WInStepReferenceIdeal := fun m ρ m' ρ' _ h =>
  ⟨fun c => grad m c, fun c => change m c, fun c => first m c, fun c => second m c,
    (θ_run Cert.WInStepIdeal.defs _ _).mono (fun _ hr c => ⟨(hr c).1.trans (final4 m c), (hr c).2.1.trans (final5 m c),
      (hr c).2.2.1.trans (final6 m c), (hr c).2.2.2.1.trans (final7 m c), (hr c).2.2.2.2⟩) (run_blocks m ρ),
    (θ_run Cert.WInStepReferenceIdeal.defs _ _).mono (fun _ hr c => by
      obtain ⟨r0, r1, r2, r3, hk⟩ := hr c
      obtain ⟨h0, h1, h2, h3⟩ := h c
      refine ⟨r0.trans (funext fun i => ?_), r1.trans (funext fun i => ?_), r2.trans (funext fun i => ?_), r3.trans (funext fun i => ?_), hk⟩
      · rw [h0]; exact total_at _ i
      · rw [h0, h1, h2, h3]
        exact (change_at (total _) _ _ _ i).trans (by rw [total_at])
      · rw [h0, h2]
        exact (first_at (total _) _ i).trans (by rw [total_at])
      · rw [h0, h3]
        exact (second_at (total _) _ i).trans (by rw [total_at])) (Cert.WInStepReferenceIdeal.Value.run m' ρ')⟩

end Cert.WInStep

end
-- ==== Proof.WOutStep.lean ====
/-
  The optimizer step of the chip's rows of w_out: the call's claims.
-/
module

public import proofs.«01_k».proof.Defs
public import proofs.«01_k».proof.Proof.Step
public import proofs.«01_k».proof.Proof.Gen.WOutStep.Frame
public import proofs.«01_k».proof.Proof.Gen.WOutStepIdeal.Value
public import proofs.«01_k».proof.Proof.Gen.WOutStepReferenceIdeal.Run
public import Idealize.ShloMosaic.Lib.Pointwise
public import Idealize.ShloMosaic.Lib.Quiescent

@[expose] public section

noncomputable section

namespace Cert.WOutStepIdeal.Value

open Cert.WOutStepIdeal Cert.WOutStepIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gradient at an index: there is one part. -/
abbrev g (c : Dev nD) (i : S512x2048.Idx) : Ideal .f32 := m ((c : Thread nD τ).loc main_arg0) (ValueIdx.ix3 (0 : Fin 1) (i 0) (i 1))

abbrev grad (c : Dev nD) : S512x2048.Idx → Ideal .f32 := fun i => g m c i
abbrev first (c : Dev nD) : S512x2048.Idx → Ideal .f32 := fun i => Step.first (g m c i) (m ((c : Thread nD τ).loc main_arg2) i)
abbrev second (c : Dev nD) : S512x2048.Idx → Ideal .f32 := fun i => Step.second (g m c i) (m ((c : Thread nD τ).loc main_arg3) i)
abbrev change (c : Dev nD) : S512x2048.Idx → Ideal .f32 := fun i =>
  Step.change (g m c i) (m ((c : Thread nD τ).loc main_arg1) i) (m ((c : Thread nD τ).loc main_arg2) i) (m ((c : Thread nD τ).loc main_arg3) i)

theorem hz3 : (![0, 0, 0] : Fin 3 → ℕ) = fun _ => 0 := by decide
theorem hz2 : (![0, 0] : Fin 2 → ℕ) = fun _ => 0 := by decide

/-- Where an element of a point's block is in the array. -/
abbrev at_ (t : Fin cfg0.N) (y : S128x2048.Idx) : S512x2048.Idx := (win0_4.blk t).view.emb y

theorem block0 (c : Dev nD) (t : Fin cfg0.N) (y : S128x2048.Idx) (x : S1x128x2048.Idx) (h0 : (x 0).val = 0) (h1 : (x 1).val = (y 0).val) (h2 : (x 2).val = (y 1).val) :
    iblk m c 0 t x = g m c (at_ t y) := by
  refine congrArg (m ((c : Thread nD τ).loc main_arg0)) (funext fun a => Fin.ext ?_)
  fin_cases a
  · exact (win0_0.rect_emb_val_of_index_zero t 0 rfl x).trans h0
  · exact (win0_0.rect_emb_val t x 1).trans (.trans (by rw [h1]; rfl) (win0_4.rect_emb_val t y 0).symm)
  · exact (win0_0.rect_emb_val_of_index_zero t 2 rfl x).trans (h2.trans (win0_4.rect_emb_val_of_index_zero t 1 rfl y).symm)

theorem same (y : S128x2048.Idx) (f : (a : Fin 2) → Fin (S128x2048.size a)) (h0 : (f 0).val = (y 0).val) (h1 : (f 1).val = (y 1).val) : f = y :=
  funext fun a => Fin.ext (by fin_cases a; exacts [h0, h1])

theorem flushed4_eq (c : Dev nD) (t : Fin cfg0.N) : (dats m 0 c).flushed 4 t = (win0_4.blk t).view.read (Elt Ideal) (grad m c) := by
  rw [flushed4]
  funext y
  show out0_4 (iblk m c 0 t) (iblk m c 1 t) (iblk m c 2 t) (iblk m c 3 t) y = grad m c (at_ t y)
  unfold out0_4
  rw [View.ld_unit_zero hz3, canon4_eq]
  exact block0 m c t y _ rfl rfl rfl

theorem flushed6_eq (c : Dev nD) (t : Fin cfg0.N) : (dats m 0 c).flushed 6 t = (win0_6.blk t).view.read (Elt Ideal) (first m c) := by
  rw [flushed6]
  funext y
  show out0_6 (iblk m c 0 t) (iblk m c 1 t) (iblk m c 2 t) (iblk m c 3 t) y = first m c (at_ t y)
  unfold out0_6
  rw [View.ld_unit_zero hz3, View.ld_unit_zero hz2, canon6_eq]
  show Step.first (iblk m c 0 t (ix6_1 y)) (iblk m c 2 t (ix6_0 y)) = _
  rw [block0 m c t y (ix6_1 y) rfl rfl rfl, same y (ix6_0 y) rfl rfl]
  rfl

theorem flushed7_eq (c : Dev nD) (t : Fin cfg0.N) : (dats m 0 c).flushed 7 t = (win0_7.blk t).view.read (Elt Ideal) (second m c) := by
  rw [flushed7]
  funext y
  show out0_7 (iblk m c 0 t) (iblk m c 1 t) (iblk m c 2 t) (iblk m c 3 t) y = second m c (at_ t y)
  unfold out0_7
  rw [View.ld_unit_zero hz3, View.ld_unit_zero hz2, canon7_eq]
  show Step.second (iblk m c 0 t (ix7_1 y)) (iblk m c 3 t (ix7_0 y)) = _
  rw [block0 m c t y (ix7_1 y) rfl rfl rfl, same y (ix7_0 y) rfl rfl]
  rfl

theorem flushed5_eq (c : Dev nD) (t : Fin cfg0.N) : (dats m 0 c).flushed 5 t = (win0_5.blk t).view.read (Elt Ideal) (change m c) := by
  rw [flushed5]
  funext y
  show out0_5 (iblk m c 0 t) (iblk m c 1 t) (iblk m c 2 t) (iblk m c 3 t) y = change m c (at_ t y)
  unfold out0_5
  rw [View.ld_unit_zero hz3, View.ld_unit_zero hz2, View.ld_unit_zero hz2, View.ld_unit_zero hz2, canon5_eq]
  show Step.change (iblk m c 0 t (ix5_1 y)) (iblk m c 1 t (ix5_5 y)) (iblk m c 2 t (ix5_0 y)) (iblk m c 3 t (ix5_2 y)) = _
  rw [block0 m c t y (ix5_1 y) rfl rfl rfl, same y (ix5_0 y) rfl rfl, same y (ix5_2 y) rfl rfl, same y (ix5_5 y) rfl rfl]
  rfl

/-- The point that writes a row. -/
theorem point (i : S512x2048.Idx) : ∃ t : Fin cfg0.N, win0_4.index t 0 * 128 ≤ (i 0).val ∧ (i 0).val < win0_4.index t 0 * 128 + 128 := by
  have hi : (i 0).val < 512 := (i 0).isLt
  have hN : grid0.N = 4 := N_0
  have h : ∀ t : Fin grid0.N, win0_4.index t 0 = t.val := by decide +kernel
  refine ⟨⟨(i 0).val / 128, by show _ < grid0.N; omega⟩, ?_⟩
  rw [h ⟨(i 0).val / 128, by omega⟩]
  show (i 0).val / 128 * 128 ≤ (i 0).val ∧ (i 0).val < (i 0).val / 128 * 128 + 128
  omega

/-- The points' blocks cover the array. -/
theorem covered (i : S512x2048.Idx) : ∃ t : Fin cfg0.N, i ∈ (win0_4.blk t).view.set := by
  obtain ⟨t, h0, h1⟩ := point i
  refine ⟨t, ?_⟩
  show i ∈ ((View.whole main_v0_0).slice (win0_4.rect t)).set
  rw [View.set_slice_whole, Rect.mem_set_unit]
  intro a
  fin_cases a
  · exact ⟨h0, h1⟩
  · have h : (i 1).val < 2048 := (i 1).isLt
    have e : win0_4.index t 1 * win0_4.size 1 = 0 := by rw [show win0_4.index t 1 = 0 from rfl, Nat.zero_mul]
    refine ⟨?_, ?_⟩
    · show win0_4.index t 1 * win0_4.size 1 ≤ (i 1).val
      rw [e]; exact Nat.zero_le _
    · show (i 1).val < win0_4.index t 1 * win0_4.size 1 + 2048
      rw [e]; omega

theorem final4 (c : Dev nD) : (dats m 0 c).arrAt 4 cfg0.N = grad m c :=
  (dats m 0 c).arrAt_eq_of_cover 4 (grad m c) (fun t _ => flushed4_eq m c t) fun i => (covered i).imp fun t h => ⟨flush0_4 t, h⟩

theorem final5 (c : Dev nD) : (dats m 0 c).arrAt 5 cfg0.N = change m c :=
  (dats m 0 c).arrAt_eq_of_cover 5 (change m c) (fun t _ => flushed5_eq m c t) fun i => (covered i).imp fun t h => ⟨flush0_5 t, h⟩

theorem final6 (c : Dev nD) : (dats m 0 c).arrAt 6 cfg0.N = first m c :=
  (dats m 0 c).arrAt_eq_of_cover 6 (first m c) (fun t _ => flushed6_eq m c t) fun i => (covered i).imp fun t h => ⟨flush0_6 t, h⟩

theorem final7 (c : Dev nD) : (dats m 0 c).arrAt 7 cfg0.N = second m c :=
  (dats m 0 c).arrAt_eq_of_cover 7 (second m c) (fun t _ => flushed7_eq m c t) fun i => (covered i).imp fun t h => ⟨flush0_7 t, h⟩

end Cert.WOutStepIdeal.Value

namespace Cert.WOutStep

open Idealize.ShloMosaic Idealize.ShloMosaic.TcCoe Idealize.SL.Sem

theorem frame_kernel : Cert.quiescent_WOutStep := fun m ρ _ => Cert.WOutStep.Gen.frame m ρ

theorem frame_ideal : Cert.quiescent_WOutStepIdeal := fun m ρ _ => Cert.WOutStepIdeal.Gen.frame m ρ

theorem frame_reference : Cert.quiescent_WOutStepReferenceIdeal := fun m ρ _ =>
  (θ_run Cert.WOutStepReferenceIdeal.defs _ _).mono (fun r h => ⟨fun c => (h c).2.2.2.2, sem_eq_zero_of_no_sems (by decide) r.2⟩)
    (Cert.WOutStepReferenceIdeal.Value.run m ρ)

section Reference

open Cert.WOutStepReferenceIdeal Cert.WOutStepReferenceIdeal.Gen

variable (p : FVec Ideal S1x512x2048 .f32) (g w m v : FVec Ideal S512x2048 .f32)

/-- A constant at every index. -/
abbrev every (x : BitVec 32) : FVec Ideal S512x2048 .f32 := broadcastInDim S512x2048 ![] bcast_S_S512x2048 (constant S_ .f32 x)

/-- The reference's gradient. -/
abbrev total : FVec Ideal S512x2048 .f32 := shapeCast S512x2048 p shapeCasts_S1x512x2048_S512x2048

theorem total_at (i : S512x2048.Idx) : total p i = p (ValueIdx.ix3 (0 : Fin 1) (i 0) (i 1)) := by
  pointwise
  refine congrArg p (funext fun a => Fin.ext ?_)
  fin_cases a <;> rfl

theorem first_at (i : S512x2048.Idx) : addf (mulf (every 0x3F666666#32) m) (mulf (every 0x3DCCCCCD#32) g) i = Step.first (g i) (m i) := rfl

theorem second_at (i : S512x2048.Idx) : addf (mulf (every 0x3F7FBE77#32) v) (mulf (every 0x3A83126F#32) (mulf g g)) i = Step.second (g i) (v i) := rfl

theorem change_at (i : S512x2048.Idx) :
    mulf (every 0xBA83126F#32) (addf
      (Host.divf (mulf (addf (mulf (every 0x3F666666#32) m) (mulf (every 0x3DCCCCCD#32) g)) (every 0x3FC48605#32))
        (addf (Host.sqrt (mulf (addf (mulf (every 0x3F7FBE77#32) v) (mulf (every 0x3A83126F#32) (mulf g g))) (every 0x42C8E6D3#32))) (every 0x322BCC77#32)))
      (mulf (every 0x3C23D70A#32) w)) i
    = Step.change (g i) (w i) (m i) (v i) := rfl

end Reference

open Cert.WOutStepIdeal.Value in
theorem algebraic : Cert.algebraic_WOutStepIdeal_WOutStepReferenceIdeal := fun m ρ m' ρ' _ h =>
  ⟨fun c => grad m c, fun c => change m c, fun c => first m c, fun c => second m c,
    (θ_run Cert.WOutStepIdeal.defs _ _).mono (fun _ hr c => ⟨(hr c).1.trans (final4 m c), (hr c).2.1.trans (final5 m c),
      (hr c).2.2.1.trans (final6 m c), (hr c).2.2.2.1.trans (final7 m c), (hr c).2.2.2.2⟩) (run_blocks m ρ),
    (θ_run Cert.WOutStepReferenceIdeal.defs _ _).mono (fun _ hr c => by
      obtain ⟨r0, r1, r2, r3, hk⟩ := hr c
      obtain ⟨h0, h1, h2, h3⟩ := h c
      refine ⟨r0.trans (funext fun i => ?_), r1.trans (funext fun i => ?_), r2.trans (funext fun i => ?_), r3.trans (funext fun i => ?_), hk⟩
      · rw [h0]; exact total_at _ i
      · rw [h0, h1, h2, h3]
        exact (change_at (total _) _ _ _ i).trans (by rw [total_at])
      · rw [h0, h2]
        exact (first_at (total _) _ i).trans (by rw [total_at])
      · rw [h0, h3]
        exact (second_at (total _) _ i).trans (by rw [total_at])) (Cert.WOutStepReferenceIdeal.Value.run m' ρ')⟩

end Cert.WOutStep

end
-- ==== Proof.Trade.lean ====
/-
  A program that starts with one exchange between cores, whole: its pieces, its run and its launch,
  stated once for every array, cut and pairing of cores.

  Every core cuts an array of its own into pieces and sends each to another core, into a result it never
  reads; then it waits for the pieces sent to it, and for its own to have left. What follows in `main`
  is host operations.
-/
module

public import proofs.«01_k».proof.Proof.Pieces
public import Idealize.ShloMosaic.Lib.Pipeline.Frame
public import Idealize.ShloMosaic.Lib.Quiescent

@[expose] public section

set_option Elab.async false

noncomputable section

namespace Cert.Trade

open Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose PCfg Seg)

variable {nD : Nat} {τ : Topo} {sig : RefSig} {Val : EltTy → Type} {J : Type} [Fintype J] [DecidableEq J]

local notation "𝕄" => MT nD τ sig Unit Val ℕ (UU nD τ sig) ℕ

/-- An exchange of the pieces `J` of the array `a` into the result `b`: piece `j` of core `c` is
    `D c j` of its array and arrives in `E n j` of the result of the core `n` it goes to. `was` is what the
    results hold before it and `landed` what they hold after. -/
structure Deal (nD : Nat) (τ : Topo) (sig : RefSig) (Val : EltTy → Type) (J : Type) [Fintype J] [DecidableEq J] where
  plan : Plan nD sig J (Fin 0)
  a : Ref sig .tc
  b : Ref sig .tc
  ne : a ≠ b
  open_a : a.isScoped = false
  open_b : b.isScoped = false
  D : (c : Dev nD) → J → Finset (Idx ((c : Thread nD τ).loc a))
  apartD : ∀ c j k, j ≠ k → Disjoint (D c j) (D c k)
  E : (n : Dev nD) → J → Finset (Idx ((n : Thread nD τ).loc b))
  apartE : ∀ n j k, j ≠ k → Disjoint (E n j) (E n k)
  m : (ℓ : Loc nD τ sig) → Buf Val ℓ
  landed : (n : Dev nD) → Buf Val ((n : Thread nD τ).loc b)
  same : ∀ n x, (∀ j, x ∉ E n j) → m ((n : Thread nD τ).loc b) x = landed n x

/-- The other core of `c`'s chip. -/
def mate (c : Dev 8) : Dev 8 := ⟨2 * (c.val / 2) + (1 - c.val % 2), by have h : c.val < 8 := c.isLt; omega⟩
theorem mate_mate (c : Dev 8) : mate (mate c) = c := by revert c; decide
def mates : Dev 8 ≃ Dev 8 := ⟨mate, mate, mate_mate, mate_mate⟩

variable (X : Deal nD τ sig Val J)

abbrev Deal.gave (c : Dev nD) : Buf Val ((c : Thread nD τ).loc X.a) := X.m ((c : Thread nD τ).loc X.a)
abbrev Deal.was (n : Dev nD) : Buf Val ((n : Thread nD τ).loc X.b) := X.m ((n : Thread nD τ).loc X.b)

def Deal.has (c : Dev nD) (j : J) : sProp 𝕄 := ((c : Thread nD τ).loc X.a) ↦[X.D c j]{fullShare} X.gave c
def Deal.room (c : Dev nD) (j : J) : sProp 𝕄 :=
  ((X.plan.dest j c : Dev nD) : Thread nD τ).loc X.b ↦[X.E (X.plan.dest j c) j]{fullShare} X.was (X.plan.dest j c)
def Deal.got (n : Dev nD) (j : J) : sProp 𝕄 := ((n : Thread nD τ).loc X.b) ↦[X.E n j]{fullShare} X.landed n
def nothing (_ : Dev nD) (_ : Fin 0) : sProp 𝕄 := iprop(emp)

abbrev Deal.pay : Dev nD → Wt J (Fin 0) → sProp 𝕄 := hands X.has X.got nothing

instance : Pays X.pay where
  st c j := by
    rcases j with i | i | k
    · show BI.Storable upEmb (X.has c i); unfold Deal.has; infer_instance
    · show BI.Storable upEmb (X.got c i); unfold Deal.got; infer_instance
    · exact k.elim0

/-! ## The body -/

section Body

variable {Λ : Labels} {defs : Defs nD τ sig Val Λ} (𝒱 : Variants) (κ : Dev nD × Wt J (Fin 0) → ℕ) (c : Dev nD)

variable (defs) in
/-- `p` does the waits `l` and is then done. -/
def Waits (l : List (Wt J (Fin 0))) (p : Prog (TpuEff nD τ sig Val Λ .tc) PUnit) : Prop := ∀ Q : PUnit → sProp 𝕄,
  waiting X.plan X.has X.got nothing κ c l.toFinset
    ⊢ iprop((waiting X.plan X.has X.got nothing κ c ∅ -∗ Q ⟨⟩) -∗ wp frame (wpE defs 𝒱 (c : Thread nD τ) none) Set.univ p Q)

variable (defs) in
/-- `p` sends the pieces `l`, does every wait and is then done. -/
def Sends (l : List J) (p : Prog (TpuEff nD τ sig Val Λ .tc) PUnit) : Prop := ∀ Q : PUnit → sProp 𝕄,
  sending X.plan X.has X.room X.got nothing nothing κ c Finset.univ l.toFinset
    ⊢ iprop((waiting X.plan X.has X.got nothing κ c ∅ -∗ Q ⟨⟩) -∗ wp frame (wpE defs 𝒱 (c : Thread nD τ) none) Set.univ p Q)

theorem erase_head {T : Type} [DecidableEq T] (i : T) (l : List T) (h : i ∉ l) : (i :: l).toFinset.erase i = l.toFinset := by
  rw [List.toFinset_cons, Finset.erase_insert (by simpa using h)]

theorem Waits.done : Waits X defs 𝒱 κ c [] (.ret ⟨⟩) := fun Q => by
  iintro H Hk
  rw [wp_ret]
  imodintro
  iapply Hk
  iexact H

theorem Waits.step {l : List (Wt J (Fin 0))} {j : Wt J (Fin 0)} {sm : DmaSem sig}
    {sp sp' : Space} {s s' : Shape} {e e' : EltTy} {src : Memref sig (c : Thread nD τ).2.kind sp' s' e'} {κ' : Kind} {dst : Memref sig κ' sp s e} {hsrc : src.view.WordExact} {hdst : dst.view.WordExact}
    {k : PUnit → Prog (TpuEff nD τ sig Val Λ .tc) PUnit}
    (hj : j ∉ l) (hS : .dma sm = X.plan.sem j) (hN : dst.view.dmaCredit = X.plan.amt j) (h : Waits X defs 𝒱 κ c l (k ⟨⟩)) :
    Waits X defs 𝒱 κ c (j :: l) (.op (.waitDma2 sm src dst hsrc hdst) k) := fun Q => by
  iintro H Hk
  iapply (step_wait X.plan 𝒱 X.has X.got nothing κ c (j :: l).toFinset j (by simp) hS (wpE_waitDma2_eq 𝒱 (c : Thread nD τ) none Set.univ) hN) $$ H
  rw [erase_head j l hj]
  iintro H
  iapply (h Q) $$ H
  iexact Hk

theorem Sends.done {l : List (Wt J (Fin 0))} {p : Prog (TpuEff nD τ sig Val Λ .tc) PUnit} (hl : l.toFinset = Finset.univ) (h : Waits X defs 𝒱 κ c l p) : Sends X defs 𝒱 κ c [] p := fun Q =>
  (waiting_start X.plan X.has X.room X.got nothing nothing κ c).trans (hl ▸ h Q)

theorem Sends.step {l : List J} {i : J} {n : Dev nD} {s : Shape} {e : EltTy} {sp sp' : Space}
    {src : Memref sig .tc sp s e} {dst : Memref sig .tc sp' s e} {sS sR : SemLoc sig}
    {hsc : (dst : Memref sig (Dev.tc n : Thread nD τ).2.kind sp' s e).view.ref.isScScratch = false}
    {hsrc : src.view.WordExact} {hdst : (dst : Memref sig (Dev.tc n : Thread nD τ).2.kind sp' s e).view.WordExact}
    {hsem : DmaTarget.Typed sp sR (.remote (Dev.tc n : Thread nD τ) (dst : Memref sig (Dev.tc n : Thread nD τ).2.kind sp' s e) sS hsc)}
    {k : PUnit → Prog (TpuEff nD τ sig Val Λ .tc) PUnit}
    (hi : i ∉ l) (hn : n = X.plan.dest i c) (hS : sS = X.plan.sem (left i)) (hR : sR = X.plan.sem (came i))
    (fs : Buf Val (src.view.loc (c : Thread nD τ))) (fd : Buf Val (dst.view.loc (n : Thread nD τ)))
    (hN : dst.view.amount sR = X.plan.size i)
    (hhas : X.has c i = (src.view.loc (c : Thread nD τ) ↦[src.view.set]{fullShare} fs))
    (hroom : X.room c i ⊢ (dst.view.loc (n : Thread nD τ) ↦[dst.view.set]{fullShare} fd))
    (hgot : (dst.view.loc (n : Thread nD τ) ↦[dst.view.set]{fullShare} (dst.view.write Val fd (src.view.read Val fs) Finset.univ)) ⊢ X.got n i)
    (hr : τ.routes (c : Thread nD τ) (n : Thread nD τ) = true) (h : Sends X defs 𝒱 κ c l (k ⟨⟩)) :
    Sends X defs 𝒱 κ c (i :: l) (.op (.enqueueDma src (.remote (Dev.tc n : Thread nD τ) dst sS hsc) sR hsrc hdst hsem) k) := fun Q => by
  iintro H Hk
  iapply (step_send X.plan 𝒱 X.has X.room X.got nothing nothing κ c n Finset.univ (i :: l).toFinset i (by simp) hn hS hR (hsc := hsc) fullShare fs fd hN hhas hroom hgot hr) $$ H
  rw [erase_head i l hi]
  iintro H
  iapply (h Q) $$ H
  iexact Hk

end Body

/-! ## Before and after -/

/-- Before the exchange, the launch state dealt; -/
def Deal.before (c : Dev nD) : sProp 𝕄 :=
  iprop((∃ κ, start X.plan X.pay κ c) ∗ (bigSep Finset.univ fun i => X.has c i) ∗ (bigSep Finset.univ fun i => X.room c i))
/-- and after it. -/
def Deal.after (c : Dev nD) : sProp 𝕄 :=
  iprop(Pipeline.ownSems0 (τ := τ) X.plan.sem c ∗ (bigSep Finset.univ fun i => X.has c i) ∗ (bigSep Finset.univ fun i => X.got c i))

theorem obligation {Λ : Labels} {defs : Defs nD τ sig Val Λ} (𝒱 : Variants) (c : Dev nD) {p : Prog (TpuEff nD τ sig Val Λ .tc) PUnit} {l : List J} (hl : l.toFinset = Finset.univ)
    (h : ∀ κ, Sends X defs 𝒱 κ c l p) {B B' R R' : sProp 𝕄} (hB : B ⊢ owing c (O₀ X.plan c)) (hB' : owing c 0 ⊢ B') (hR : iprop(emp) ⊢ R') :
    iprop(X.before c ∗ B ∗ R) ⊢ wp frame (wpE defs 𝒱 (c : Thread nD τ) none) Set.univ p fun _ => iprop(X.after c ∗ B' ∗ R') := by
  unfold Deal.before Deal.after
  iintro ⟨⟨⟨%κ, Hs⟩, Hh, Hr⟩, HO, -⟩
  ihave HO := hB $$ HO
  ihave H := (sending_start X.plan X.has X.room X.got nothing nothing κ c) $$ [Hs Hh Hr HO]
  · isplitl [Hs]; · iexact Hs
    isplitl [HO]; · iexact HO
    isplitr; · rw [show (Finset.univ : Finset (Fin 0)) = ∅ from rfl, bigSep_none]; iempintro
    isplitl [Hh] <;> iassumption
  rw [← hl]
  iapply (h κ _) $$ H
  iintro H
  ihave H' := (waiting_end X.plan X.has X.got nothing κ c) $$ H
  icases H' with ⟨HO, Hz, Hh, Hg, -⟩
  isplitl [Hz Hh Hg]
  · isplitl [Hz]; · iexact Hz
    rw [hl]
    isplitl [Hh] <;> iassumption
  isplitl [HO]
  · iapply hB'; iexact HO
  · iapply hR; iempintro

/-- What a core owes, whatever it waited for before. -/
theorem owed_of_within (c : Dev nD) (O : CellTallies nD τ sig Unit) (B : Set (SemLoc sig × Unit)) : Pipeline.owesWithin c O B ⊢ (owing c O : sProp 𝕄) := by
  unfold owing
  iintro ⟨%W, %hW, HO⟩
  iexists W; iexact HO

theorem within_of_owed (c : Dev nD) (O : CellTallies nD τ sig Unit) (B : Set (SemLoc sig × Unit)) (h : ∀ x, x ∈ B) : owing c O ⊢ (Pipeline.owesWithin c O B : sProp 𝕄) := by
  unfold owing
  iintro ⟨%W, HO⟩
  iexists W
  isplitr; · ipureintro; exact fun _ _ => h _
  iexact HO

/-! ## The launch -/

/-- A core's buffers after the exchange: its result holds what landed. -/
abbrev Deal.ends (c : Dev nD) : Valuation τ sig Val := Function.update (fun b => X.m (c, b)) (Proc.devRef (τ := τ) .tc X.b) (X.landed c)

/-- The other buffers. -/
def Deal.others (c : Dev nD) : sProp 𝕄 :=
  bigSep (((Finset.univ.filter fun r : Ref sig .tc => ¬ r.isScoped).erase X.a).erase X.b) fun r => ((c : Thread nD τ).loc r) ↦{fullShare} X.m ((c : Thread nD τ).loc r)

theorem buffers (c : Dev nD) : (unscopedBufs c (fun r => X.m ((c : Thread nD τ).loc r)) : sProp 𝕄)
    = iprop((((c : Thread nD τ).loc X.a) ↦{fullShare} X.gave c) ∗ (((c : Thread nD τ).loc X.b) ↦{fullShare} X.was c) ∗ X.others c) := by
  unfold unscopedBufs Deal.others
  rw [bigSep_erase (i := X.a) (Finset.mem_filter.mpr ⟨Finset.mem_univ _, by simp [X.open_a]⟩),
    bigSep_erase (i := X.b) (Finset.mem_erase.mpr ⟨X.ne.symm, Finset.mem_filter.mpr ⟨Finset.mem_univ _, by simp [X.open_b]⟩⟩)]
  rfl

theorem ends_b (c : Dev nD) : X.ends c (Proc.devRef .tc X.b) = X.landed c := Function.update_self ..

theorem ends_of_ne (c : Dev nD) {r : Ref sig .tc} (h : r ≠ X.b) : X.ends c (Proc.devRef .tc r) = X.m ((c : Thread nD τ).loc r) :=
  Function.update_of_ne (StableHlo.devRef_ne_of_ne h) _ _

theorem ended (c : Dev nD) : iprop((((c : Thread nD τ).loc X.a) ↦{fullShare} X.gave c) ∗ (((c : Thread nD τ).loc X.b) ↦{fullShare} X.landed c) ∗ X.others c)
    = (StableHlo.held (c : Thread nD τ) (Pipeline.ucRefs τ sig) (X.ends c) : sProp 𝕄) := by
  rw [← Pipeline.unscopedBufs_held]
  unfold unscopedBufs Deal.others
  rw [bigSep_erase (i := X.a) (Finset.mem_filter.mpr ⟨Finset.mem_univ _, by simp [X.open_a]⟩),
    bigSep_erase (i := X.b) (Finset.mem_erase.mpr ⟨X.ne.symm, Finset.mem_filter.mpr ⟨Finset.mem_univ _, by simp [X.open_b]⟩⟩)]
  beta_reduce
  rw [ends_b, ends_of_ne X c X.ne]
  exact congrArg (BI.sep _) (congrArg (BI.sep _) (bigSep_congr fun r hr => by rw [ends_of_ne X c (Finset.ne_of_mem_erase hr)]))

/-- What of the two arrays is in no piece, and the other buffers. -/
def Deal.kept (c : Dev nD) : sProp 𝕄 :=
  iprop((((c : Thread nD τ).loc X.a) ↦[rest (X.D c)]{fullShare} X.gave c) ∗ (((c : Thread nD τ).loc X.b) ↦[rest (X.E c)]{fullShare} X.was c) ∗ X.others c)

/-- Launched and dealt; -/
def Deal.start (c : Dev nD) : sProp 𝕄 := iprop(X.before c ∗ X.kept c ∗ owing c (O₀ X.plan c))
/-- ended. -/
def Deal.finish (c : Dev nD) : sProp 𝕄 := iprop(StableHlo.held (c : Thread nD τ) (Pipeline.ucRefs τ sig) (X.ends c) ∗ ∃ W, owes (c : Thread nD τ) (0 : CellTallies nD τ sig Unit) W)

theorem regroup {A B C D E : sProp 𝕄} : iprop(A ∗ B ∗ C ∗ D ∗ E) ⊢ iprop((A ∗ B) ∗ C ∗ D ∗ E) := by
  iintro ⟨H1, H2, H3⟩
  isplitl [H1 H2]; · isplitl [H1] <;> iassumption
  iexact H3

theorem dealt (κ : Dev nD × Wt J (Fin 0) → ℕ) (c : Dev nD) : iprop(Exchange.start X.plan X.pay κ c
        ∗ iprop((bigSep Finset.univ fun i => X.has c i) ∗ (((c : Thread nD τ).loc X.a) ↦[rest (X.D c)]{fullShare} X.gave c))
        ∗ iprop((bigSep Finset.univ fun i => X.room c i) ∗ (((c : Thread nD τ).loc X.b) ↦[rest (X.E c)]{fullShare} X.was c))
        ∗ X.others c ∗ owes (c : Thread nD τ) (O₀ X.plan c) ∅) ⊢ (X.start c : sProp 𝕄) := by
  unfold Deal.start Deal.before Deal.kept owing
  iintro ⟨Hs, ⟨Hh, Hk⟩, ⟨Hr, Hl⟩, Ho, HO⟩
  isplitl [Hs Hh Hr]
  · isplitl [Hs]; · iexists κ; iexact Hs
    isplitl [Hh] <;> iassumption
  isplitl [Hk Hl Ho]
  · isplitl [Hk]; · iexact Hk
    isplitl [Hl] <;> iassumption
  iexists ∅; iexact HO

theorem launched : (bigSep Finset.univ fun c : Dev nD => iprop(unscopedBufs c (fun b => X.m ((c : Thread nD τ).loc b)) ∗ owes (c : Thread nD τ) (O₀ X.plan c) ∅
      ∗ Pipeline.launchCred (O₀ X.plan) c ∗ Pipeline.ownSems0 (τ := τ) X.plan.sem c ∗ G X.plan X.pay c) : sProp 𝕄)
    ⊢ |={Set.univ}=> bigSep Finset.univ X.start := by
  have hA : (bigSep Finset.univ fun c : Dev nD => iprop(unscopedBufs c (fun b => X.m ((c : Thread nD τ).loc b)) ∗ owes (c : Thread nD τ) (O₀ X.plan c) ∅
      ∗ Pipeline.launchCred (O₀ X.plan) c ∗ Pipeline.ownSems0 (τ := τ) X.plan.sem c ∗ G X.plan X.pay c) : sProp 𝕄)
      ⊢ bigSep Finset.univ fun c : Dev nD => iprop(iprop(unscopedBufs c (fun b => X.m ((c : Thread nD τ).loc b)) ∗ owes (c : Thread nD τ) (O₀ X.plan c) ∅)
      ∗ Pipeline.launchCred (O₀ X.plan) c ∗ Pipeline.ownSems0 (τ := τ) X.plan.sem c ∗ G X.plan X.pay c) :=
    bigSep_mono fun c _ => regroup
  have hS : (bigSep Finset.univ fun c : Dev nD => (((c : Thread nD τ).loc X.a) ↦{fullShare} X.gave c : sProp 𝕄))
      ⊢ bigSep Finset.univ fun c : Dev nD => iprop((bigSep Finset.univ fun i => X.has c i) ∗ (((c : Thread nD τ).loc X.a) ↦[rest (X.D c)]{fullShare} X.gave c)) :=
    bigSep_mono fun c _ => cut (ℓ := (c : Thread nD τ).loc X.a) (X.D c) (X.apartD c) (X.gave c)
  have hR : (bigSep Finset.univ fun n : Dev nD => (((n : Thread nD τ).loc X.b) ↦{fullShare} X.was n : sProp 𝕄))
      ⊢ bigSep Finset.univ fun c : Dev nD => iprop((bigSep Finset.univ fun i => X.room c i) ∗ (((c : Thread nD τ).loc X.b) ↦[rest (X.E c)]{fullShare} X.was c)) :=
    deal_rooms X.b X.E X.plan.dest X.apartE X.was
  have hT (κ : Dev nD × Wt J (Fin 0) → ℕ) : (bigSep Finset.univ fun c : Dev nD => iprop(Exchange.start X.plan X.pay κ c
        ∗ iprop((bigSep Finset.univ fun i => X.has c i) ∗ (((c : Thread nD τ).loc X.a) ↦[rest (X.D c)]{fullShare} X.gave c))
        ∗ iprop((bigSep Finset.univ fun i => X.room c i) ∗ (((c : Thread nD τ).loc X.b) ↦[rest (X.E c)]{fullShare} X.was c))
        ∗ X.others c ∗ owes (c : Thread nD τ) (O₀ X.plan c) ∅) : sProp 𝕄) ⊢ bigSep Finset.univ X.start := bigSep_mono fun c _ => dealt X κ c
  refine (hA.trans (deal X.plan X.pay _)).trans (fupd_mono ?_)
  have hB (c : Dev nD) := buffers X c
  simp only [hB]
  simp only [bigSep_sep'] at hT hS hR ⊢
  iintro ⟨%κ, ⟨⟨Ha, Hv, Ho⟩, HO⟩, Hst⟩
  ihave Ha := hS $$ Ha
  ihave Hv := hR $$ Hv
  iapply (hT κ)
  isplitl [Hst]; · iexact Hst
  isplitl [Ha]; · iexact Ha
  isplitl [Hv]; · iexact Hv
  isplitl [Ho]; · iexact Ho
  iexact HO

theorem put_back (c : Dev nD) : iprop((bigSep Finset.univ fun i => X.has c i) ∗ (bigSep Finset.univ fun i => X.got c i) ∗ X.kept c ∗ owing c 0) ⊢ (X.finish c : sProp 𝕄) := by
  unfold Deal.finish Deal.kept
  rw [← ended]
  iintro ⟨Hh, Hg, ⟨Hk, Hl, Ho⟩, HO⟩
  ihave Ha := (uncut (ℓ := (c : Thread nD τ).loc X.a) (X.D c) (X.apartD c) (X.gave c) (X.gave c) (fun _ _ => rfl)) $$ [Hh Hk]
  · isplitl [Hh]; · iexact Hh
    iexact Hk
  ihave Hv := (uncut (ℓ := (c : Thread nD τ).loc X.b) (X.E c) (X.apartE c) (X.was c) (X.landed c) (X.same c)) $$ [Hg Hl]
  · isplitl [Hg]; · iexact Hg
    iexact Hl
  isplitr [HO]
  · isplitl [Ha]; · iexact Ha
    isplitl [Hv] <;> iassumption
  unfold owing; iexact HO

section Run

variable {Λ₀ : Labels} {P : Type} [Fintype P] [DecidableEq P] [∀ e, Nonempty (Val e)]
  (pcs : P → PCfg sig Λ₀ Val) (adm : (p : P) → (pcs p).Adm)
  (pdats : (p : P) → (c : Dev nD) → Dat τ Val Unit ℕ (UU nD τ sig) ℕ (Pipeline.pin pcs adm p) c)
  (phinj : Function.Injective (Pipeline.cellOf (nD := nD) (Pipeline.pin pcs adm))) (defs₀ : Defs nD τ sig Val Λ₀) (𝒱₀ : Variants) {p : P}

include phinj in
/-- Every run of `main`, its first call being the exchange and the rest of it host operations, ends with each core's buffers as the host
    operations leave them from what the exchange left, and all semaphores at zero. -/
theorem run (ρ : Dev nD → PrngReg) (main : Dev nD → Prog (TpuEff nD τ sig Val (Pipeline.Sig Λ₀ P fun p => (pcs p).Adm) .tc) PUnit)
    (hw : Pipeline.WinFacts₀ (pcs p).spec) (ho : Pipeline.OwnSemFacts (pcs p).spec X.plan.sem)
    (hbody : ∀ c, BodyObligationLoose (pdats p c) defs₀ 𝒱₀ () Set.univ)
    (hW : IsEmpty (Fin (Pipeline.pin pcs adm p).W)) (hpre : IsEmpty (Fin (pcs p).pre.K))
    (hwaits : ∀ c, (BI.emp : sProp 𝕄) ⊢ Pipeline.cellsWaits (Pipeline.pin pcs adm) pdats () p c)
    (segs : Dev nD → List (Seg pcs adm pdats () defs₀ 𝒱₀ Cert.Dealt.noL fun _ _ => 0))
    (hmain : ∀ c, main c = .op (.customCall (Pipeline.entry p) ()) fun _ => Seg.run (segs c))
    (hnd : ∀ c, (p :: Seg.pipes (segs c)).Nodup)
    (hrest : ∀ c, (Pipeline.scopedRest (Pipeline.pin pcs adm p).spec c : sProp 𝕄) = BI.emp)
    (h0 : ∀ c, (pdats p c).Φ 0 = X.before c) (hN : ∀ c, (pdats p c).Φ (Fin.last (Pipeline.pin pcs adm p).N) = X.after c)
    (ho0 : ∀ c, owing c (O₀ X.plan c) ⊢ (pdats p c).owesAt () 0) (hoN : ∀ c, (pdats p c).owesAt () (Fin.last (Pipeline.pin pcs adm p).N) ⊢ owing c 0)
    (V : Dev nD → Valuation τ sig Val)
    (hch : ∀ c, Seg.ChainsAt c X.finish (segs c) fun c => iprop(StableHlo.held (c : Thread nD τ) (Pipeline.ucRefs τ sig) (V c) ∗ ∃ W, owes (c : Thread nD τ) (0 : CellTallies nD τ sig Unit) W))
    (hsc : ∀ sm : SemLoc sig, sm.isScoped .tc = true) :
    θ_run (Pipeline.defs pcs defs₀) (onTc main) ⟨X.m, fun _ => 0, ρ⟩ fun r =>
      (∀ (c : Dev nD) (b : Ref sig .tc), b.isScoped = false → r.2.mem ((c : Thread nD τ).loc b) = V c (Proc.devRef .tc b)) ∧ r.2.sem = fun _ => 0 :=
  Cert.Dealt.run_dealt pcs adm pdats () phinj (EP nD τ sig Val) defs₀ 𝒱₀ (p := p) (fun _ _ => 0) X.m ρ main
    hw ho hbody (fun w => hW.elim w) (fun w => hW.elim w) hwaits segs hmain hnd
    (O₀ X.plan) (G X.plan X.pay)
    (initOf (Pipeline.cells (Pipeline.pin pcs adm) phinj) (Pipeline.launchToks (Pipeline.pin pcs adm) phinj), initOf (Exchange.cells X.plan) (Exchange.toks X.plan))
    (by
      iintro Hu
      ihave H := (ownU_pair _ _) $$ Hu
      icases H with ⟨HP, HX⟩
      imod (fund X.plan X.pay) $$ HX with HG
      imodintro
      isplitl [HP] <;> iassumption)
    X.start X.before (fun c => iprop((bigSep Finset.univ fun i => X.has c i) ∗ (bigSep Finset.univ fun i => X.got c i))) X.kept X.finish
    (fun c => StableHlo.held (c : Thread nD τ) (Pipeline.ucRefs τ sig) (V c))
    (launched X)
    (fun c => by
      have hA : (iprop(emp) : sProp 𝕄) ⊢ (pdats p c).arrays ((pdats p c).arrAt · 0) := by
        unfold Dat.arrays; rw [Finset.univ_eq_empty, bigSep_none]
      have hP : (iprop(emp) : sProp 𝕄) ⊢ Pipeline.prefHeld (pcs p).pre c (fun _ => fullShare) (adm p).1 := by
        unfold Pipeline.prefHeld; rw [Finset.univ_eq_empty, bigSep_none]
      unfold Deal.start
      iintro ⟨HF, Hk, HO⟩
      imodintro
      isplitr; · iapply hA; iempintro
      isplitr; · iapply hP; iempintro
      isplitl [HO]; · iapply (ho0 c); iexact HO
      isplitl [HF] <;> iassumption)
    (fun c => by
      rw [h0]
      iintro ⟨H, -⟩
      iexact H)
    (fun c => by
      rw [hN, hrest]
      unfold Deal.after
      iintro ⟨Hz, H⟩
      isplitl [H]; · iexact H
      isplitl [Hz]; · iexact Hz
      iempintro)
    (fun c => by
      iintro ⟨-, HO, ⟨Hh, Hg⟩, Hk⟩
      imodintro
      iapply (put_back X c)
      isplitl [Hh]; · iexact Hh
      isplitl [Hg]; · iexact Hg
      isplitl [Hk]; · iexact Hk
      iapply (hoN c); iexact HO)
    hch
    (fun c s => ∀ b : Ref sig .tc, b.isScoped = false → s.mem ((c : Thread nD τ).loc b) = V c (Proc.devRef .tc b))
    (fun c s' => by
      unfold StableHlo.held
      iintro ⟨Hh, HSI⟩
      ihave Hr := (pointsTo_read_all (Pipeline.ucRefs τ sig) (fun b => ((c : Thread nD τ).1, b)) (V c) s') $$ [Hh HSI]
      · isplitl [Hh] <;> iassumption
      icases Hr with ⟨%h, HSI⟩
      imodintro
      isplitr
      · ipureintro
        exact fun b hb => h (Proc.devRef .tc b) (Finset.mem_filter.mpr ⟨StableHlo.devRef_mem_tcRefs b, fun h' => Bool.false_ne_true (hb.symm.trans h')⟩)
      · iexact HSI)
    (fun s h hs => ⟨h, sem_eq_zero_of_scoped hsc hs⟩)

end Run

end Cert.Trade
-- ==== Proof.WOutSib.lean ====
/-
  The exchange of the w_out gradient's halves between the two cores of a chip, from the launch: every run
  ends with each core's own array unchanged, every semaphore at zero, and the result holding the half the
  other core gave away.
-/
module

public import proofs.«01_k».proof.Proof.Trade
public import proofs.«01_k».proof.Proof.Gen.WOutSibIdeal
public import proofs.«01_k».proof.Proof.Gen.WOutSibIdeal.Skeleton
public import proofs.«01_k».proof.Proof.Gen.WOutSibIdeal.Launch
public import Idealize.ShloMosaic.Lib.ValueLayout

@[expose] public section

set_option Elab.async false

noncomputable section

namespace Cert.WOutSib

open Idealize.ShloMosaic.ValueIdx
open Cert.WOutSibIdeal Cert.WOutSibIdeal.Gen Cert.Exchange Cert.Trade

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UU nD τ sig) ℕ

theorem dev1 : ∀ c : Dev nD, (⟨k0_dev1 c, k0_dev1_lt c⟩ : Dev nD) = mates c := by decide +kernel

/-! ## The pieces -/

theorem inb (i : Fin 4) : ∀ a, (![i.val, 0, 0] : Fin 3 → Nat) a + S1x256x2048.size a ≤ S4x256x2048.size a := by revert i; decide

/-- Piece `i` of the array a core gives away, and where it lands. -/
abbrev srcP (i : Fin 4) : Memref sig .tc .hbm S1x256x2048 .f32 :=
  (Memref.whole main_arg0).slice (Rect.unit (s := S4x256x2048) ![i.val, 0, 0] S1x256x2048.size (inb i)) (fun _ => rfl)
abbrev dstH : Memref sig .tc .hbm S4x256x2048 .f32 :=
  ((Memref.whole main_v1).slice (Rect.unit (s := S1x4x256x2048) ![0, 0, 0, 0] S1x4x256x2048.size inb_S1x4x256x2048_S1x4x256x2048_0_0_0_0) (fun _ => rfl)).squeeze S4x256x2048 squeezes_S1x4x256x2048_S4x256x2048
abbrev dstP (i : Fin 4) : Memref sig .tc .hbm S1x256x2048 .f32 :=
  dstH.slice (Rect.unit (s := S4x256x2048) ![i.val, 0, 0] S1x256x2048.size (inb i)) (fun _ => rfl)

theorem parts_apart {i j : Fin 4} (h : i ≠ j) :
    Disjoint (Rect.unit (s := S4x256x2048) ![i.val, 0, 0] S1x256x2048.size (inb i)).set (Rect.unit (s := S4x256x2048) ![j.val, 0, 0] S1x256x2048.size (inb j)).set := by
  refine Rect.unit_disjoint 0 ?_
  have : i.val ≠ j.val := fun e => h (Fin.ext e)
  show i.val + 1 ≤ j.val ∨ j.val + 1 ≤ i.val
  omega

theorem part_emb (i : Fin 4) (x : S1x256x2048.Idx) :
    (Rect.unit (s := S4x256x2048) ![i.val, 0, 0] S1x256x2048.size (inb i)).emb x = ix3 i (x 1) (x 2) := by
  funext a; apply Fin.ext
  have h : (x 0).val < 1 := (x 0).isLt
  fin_cases a
  · simp [ix3]; omega
  · simp [ix3]
  · simp [ix3]

theorem src_emb (i : Fin 4) (x : S1x256x2048.Idx) : (srcP i).view.emb x = ix3 i (x 1) (x 2) := part_emb i x

theorem dst_emb (i : Fin 4) (x : S1x256x2048.Idx) :
    (dstP i).view.emb x = ix4 (⟨0, Nat.one_pos⟩ : Fin 1) i (x 1) (x 2) := by
  show (Rect.unit (s := S1x4x256x2048) ![0, 0, 0, 0] S1x4x256x2048.size inb_S1x4x256x2048_S1x4x256x2048_0_0_0_0).emb
    (Shape.reshapeEquiv _ ((Rect.unit (s := S4x256x2048) ![i.val, 0, 0] S1x256x2048.size (inb i)).emb x)) = _
  rw [part_emb]
  refine (congrArg _ (reshapeEquiv_ix3_1abc (a := 4) (b := 256) (c := 2048) _ _ _ _)).trans ?_
  funext a; apply Fin.ext
  fin_cases a <;> simp [ix4]

theorem dst_cover (x : S1x4x256x2048.Idx) : ∃ i, x ∈ (dstP i).view.set := by
  refine ⟨x 1, Finset.mem_map.mpr ⟨ix3 (⟨0, Nat.one_pos⟩ : Fin 1) (x 2) (x 3), Finset.mem_univ _, (dst_emb _ _).trans ?_⟩⟩
  funext a; apply Fin.ext
  have h0 : (x 0).val < 1 := (x 0).isLt
  fin_cases a
  · show 0 = (x 0).val; omega
  · rfl
  · rfl
  · rfl

/-! ## The exchange -/

theorem inb4 (i : Fin 4) : ∀ a, (![i.val] : Fin 1 → Nat) a + S1.size a ≤ S4.size a := by revert i; decide

/-- Semaphore `i` of an array of four. -/
abbrev at4 (a : DmaSems sig S4) (i : Fin 4) : DmaSem sig := ((a.slice (Rect.unit (s := S4) ![i.val] S1.size (inb4 i))).squeeze S_ squeezes_S1_S_).sem

def sem : Wt (Fin 4) (Fin 0) → SemLoc sig
  | .inl i => .dma (at4 cc0_scratch0 i)
  | .inr (.inl i) => .dma (at4 cc0_scratch1 i)
  | .inr (.inr k) => k.elim0

theorem sem_inj : Function.Injective sem := by decide

def plan : Plan nD sig (Fin 4) (Fin 0) where
  sem := sem
  inj := sem_inj
  size i := (srcP i).view.dmaCredit
  size_pos i := (srcP i).view.dmaCredit_pos (by decide)
  copied k := k.elim0
  copied_pos k := k.elim0
  dest _ := mates

variable (m : (ℓ : Loc nD τ sig) → Buf (Elt F) ℓ) (ρ : Dev nD → PrngReg)

/-- What core `c` gave away, as it lands. -/
def gift (c : Dev nD) : S1x4x256x2048.Idx → Elt F .f32 := fun y => m ((c : Thread nD τ).loc main_arg0) (ix3 (y 1) (y 2) (y 3) : S4x256x2048.Idx)

def trade : Deal nD τ sig (Elt F) (Fin 4) where
  plan := plan
  a := main_arg0
  b := main_v1
  ne := by decide
  open_a := rfl
  open_b := rfl
  D _ i := (srcP i).view.set
  apartD _ _ _ h := slices_apart _ _ _ _ _ (parts_apart h)
  E _ i := (dstP i).view.set
  apartE _ _ _ h := slices_apart dstH _ _ _ _ (parts_apart h)
  m := m
  landed n := gift m (mate n)
  same _ x h := absurd (dst_cover x) fun ⟨i, hi⟩ => h i hi

abbrev 𝒱₀ : Variants := Variants.none

theorem arrives (c : Dev nD) (i : Fin 4) :
    ((dstP i).view.loc ((mates c : Dev nD) : Thread nD τ) ↦[(dstP i).view.set]{fullShare}
      ((dstP i).view.write (Elt F) (m (((mates c : Dev nD) : Thread nD τ).loc main_v1)) ((srcP i).view.read (Elt F) (m ((c : Thread nD τ).loc main_arg0))) Finset.univ) : sProp 𝕄)
      ⊢ (trade m).got (mates c) i := by
  refine Entails.of_eq (pointsTo_congr fun y hy => ?_)
  obtain ⟨x, -, rfl⟩ := Finset.mem_map.mp hy
  refine ((dstP i).view.write_emb_of_mem _ _ (Finset.mem_univ x)).trans ?_
  show m ((c : Thread nD τ).loc main_arg0) ((srcP i).view.emb x) = gift m (mate (mate c)) ((dstP i).view.emb x)
  rw [src_emb, dst_emb, mate_mate]
  rfl

/-- Piece `i` sent. -/
theorem send {κ : Dev nD × Wt (Fin 4) (Fin 0) → ℕ} {c n : Dev nD} {i : Fin 4} {l : List (Fin 4)} (hn : n = mates c) (hi : i ∉ l)
    {hsc : (dstP i : Memref sig (Dev.tc n : Thread nD τ).2.kind .hbm S1x256x2048 .f32).view.ref.isScScratch = false}
    {hsrc : (srcP i).view.WordExact} {hdst : (dstP i : Memref sig (Dev.tc n : Thread nD τ).2.kind .hbm S1x256x2048 .f32).view.WordExact}
    {hsem : DmaTarget.Typed .hbm (.dma (at4 cc0_scratch1 i)) (.remote (Dev.tc n : Thread nD τ) (dstP i : Memref sig (Dev.tc n : Thread nD τ).2.kind .hbm S1x256x2048 .f32) (.dma (at4 cc0_scratch0 i)) hsc)}
    {k : PUnit → Prog (TpuEff nD τ sig (Elt F) Λ₀ .tc) PUnit} (h : Sends (trade m) defs₀ 𝒱₀ κ c l (k ⟨⟩)) :
    Sends (trade m) defs₀ 𝒱₀ κ c (i :: l)
      (.op (.enqueueDma (srcP i) (.remote (Dev.tc n : Thread nD τ) (dstP i) (.dma (at4 cc0_scratch0 i)) hsc) (.dma (at4 cc0_scratch1 i)) hsrc hdst hsem) k) := by
  subst hn
  exact Sends.step (trade m) 𝒱₀ κ c (src := srcP i) (dst := dstP i) hi rfl rfl rfl (m _) (m _) rfl rfl (BI.Entails.refl _) (arrives m c i) (by routes) h

set_option maxRecDepth 65536 in
set_option maxHeartbeats 800000 in
/-- The body: four pieces sent, four awaited, four seen to have left. -/
theorem body (κ : Dev nD × Wt (Fin 4) (Fin 0) → ℕ) (c : Dev nD) :
    Sends (trade m) (defs₀ (F := F)) 𝒱₀ κ c [0, 1, 2, 3]
      (cc0_rs_w_out_sib (Memref.whole main_arg0) (Memref.isWhole_whole _) (Memref.whole main_v1) (Memref.isWhole_whole _) cc0_scratch0 cc0_scratch1 cc0_scratch2) := by
  intro Q
  rw [cc0_rs_w_out_sib_eq_skeleton]; unfold cc0_rs_w_out_sib_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  revert Q
  show Sends _ _ _ _ _ _ _
  iterate 4 refine send m (dev1 c) (by decide) ?_
  refine Sends.done _ _ _ _ (l := [came 0, came 1, came 2, came 3, left 0, left 1, left 2, left 3]) (by decide) ?_
  iterate 8 refine Waits.step _ _ _ _ (by simp) rfl rfl ?_
  exact Waits.done _ _ _ _

/-! ## The launch -/

def dats (_ : Fin 1) (c : Dev nD) : Dat τ (Elt F) Unit ℕ (UU nD τ sig) ℕ cfg0 c where
  A w := w.elim0
  after w := w.elim0
  Φ t := match t with
    | ⟨0, _⟩ => (trade m).before c
    | ⟨_ + 1, _⟩ => (trade m).after c
  q _ := fullShare
  owed t := match t with
    | ⟨0, _⟩ => O₀ plan c
    | ⟨_ + 1, _⟩ => 0

theorem body_obligation (c : Dev nD) : BodyObligationLoose (dats (F := F) m 0 c) (defs₀ (F := F)) 𝒱₀ () Set.univ := fun t => by
  rw [fin_N0 t]
  show iprop((trade m).before c ∗ (dats m 0 c).owesAt () t0_0.castSucc ∗ bigSep (Finset.univ : Finset (Fin 0)) _)
    ⊢ wp frame (wpE (defs₀ (F := F)) 𝒱₀ c none) Set.univ
      (cc0_rs_w_out_sib (Memref.whole main_arg0) (Memref.isWhole_whole _) (Memref.whole main_v1) (Memref.isWhole_whole _) cc0_scratch0 cc0_scratch1 cc0_scratch2)
      fun _ => iprop((trade m).after c ∗ (dats m 0 c).owesAt () t0_0.succ ∗ bigSep (Finset.univ : Finset (Fin 0)) _)
  exact obligation (trade m) 𝒱₀ c (by decide) (fun κ => body m κ c) (owed_of_within c _ _) (within_of_owed c _ _ fun _ => Or.inl trivial) (by rw [show (Finset.univ : Finset (Fin 0)) = ∅ from rfl, bigSep_none])

theorem ownSemFacts : Pipeline.OwnSemFacts cfg0.spec sem := by
  constructor <;> decide

/-- At the end each core's own array is as before, the half the other core gave away has arrived, and all semaphores are zero. -/
theorem run_main : θ_run defs (onTc (τ := τ) (main (F := F))) ⟨m, fun _ => 0, ρ⟩ fun r =>
    (∀ c : Dev nD, r.2.mem ((c : Thread nD τ).loc main_v1) = gift m (mate c) ∧ r.2.mem ((c : Thread nD τ).loc main_arg0) = m ((c : Thread nD τ).loc main_arg0))
      ∧ r.2.sem = fun _ => 0 :=
  (θ_run defs _ _).mono (fun _ h => ⟨fun c => ⟨(h.1 c main_v1 rfl).trans (ends_b (trade m) c), (h.1 c main_arg0 rfl).trans (ends_of_ne (trade m) c (show main_arg0 ≠ main_v1 by decide))⟩, h.2⟩)
    (Trade.run (trade m) pcfgs (fun p => (cfgs p).toPCfg_adm) (dats m) cellOf_inj defs₀ 𝒱₀ (p := 0) ρ main
      winFacts0.to₀ ownSemFacts (body_obligation m) Fin.isEmpty Fin.isEmpty
      (fun c => Pipeline.cellsWaits_intro cfgs (dats m) () 0 c (R := iprop(emp)) fun w => w.elim0)
      (fun _ => []) (fun _ => rfl) (fun _ => List.nodup_singleton _)
      (fun c => scopedRest0_eq c) (fun _ => rfl) (fun _ => rfl)
      (fun c => within_of_owed c _ _ fun _ => Or.inl trivial) (fun c => owed_of_within c _ _)
      (fun c => (trade m).ends c) (fun _ => BI.Entails.refl _) (by decide))

end Cert.WOutSib
-- ==== Proof.WOutSibClaims.lean ====
/-
  The claims about the exchange of the w_out gradient's halves between the two cores of a chip.
-/
module

public import proofs.«01_k».proof.Defs
public import proofs.«01_k».proof.Proof.Blocks
public import proofs.«01_k».proof.Proof.WOutSib
public import proofs.«01_k».proof.Proof.Gen.WOutSib
public import proofs.«01_k».proof.Proof.Gen.WOutSibReferenceIdeal
public import proofs.«01_k».proof.Proof.Gen.WOutSibReferenceIdeal.Run
public import Idealize.ShloMosaic.Lib.Pointwise
public import Idealize.ShloMosaic.Lib.Quiescent

@[expose] public section

noncomputable section

namespace Cert.WOutSib

open Cert.Blocks Cert.Trade
open Idealize.ShloMosaic Idealize.ShloMosaic.TcCoe Idealize.SL.Sem

theorem frame_kernel : Cert.quiescent_WOutSib := fun m ρ _ =>
  (θ_run Cert.WOutSibIdeal.defs _ _).mono (fun _ h => ⟨fun c => (h.1 c).2, h.2⟩) (run_main (F := Bits) m ρ)

theorem frame_ideal : Cert.quiescent_WOutSibIdeal := fun m ρ _ =>
  (θ_run Cert.WOutSibIdeal.defs _ _).mono (fun _ h => ⟨fun c => (h.1 c).2, h.2⟩) (run_main (F := Ideal) m ρ)

theorem frame_reference : Cert.quiescent_WOutSibReferenceIdeal := fun m ρ _ =>
  (θ_run Cert.WOutSibReferenceIdeal.defs _ _).mono (fun r h => ⟨fun c => (h c).2, sem_eq_zero_of_no_sems (by decide) r.2⟩) (Cert.WOutSibReferenceIdeal.Value.run m ρ)

section Value

open Cert.WOutSibReferenceIdeal Cert.WOutSibReferenceIdeal.Gen

variable {α : Type}

/-- The reference's result from its argument. -/
def stacked (x : S32x256x2048.Idx → α) : S8x4x256x2048.Idx → α :=
  shapeCast _ (concatenate S4x2x4x256x2048 1 [⟨S4x1x4x256x2048, (broadcastInDim S4x1x4x256x2048 ![0, 2, 3, 4] bcast_S4x4x256x2048_S4x1x4x256x2048_0_2_3_4 (shapeCast _ (extractStridedSlice S4x1x4x256x2048 ![0, 1, 0, 0, 0] (shapeCast _ x shapeCasts_S32x256x2048_S4x2x4x256x2048) slices_S4x2x4x256x2048_S4x1x4x256x2048_0_1_0_0_0) shapeCasts_S4x1x4x256x2048_S4x4x256x2048))⟩, ⟨S4x1x4x256x2048, (broadcastInDim S4x1x4x256x2048 ![0, 2, 3, 4] bcast_S4x4x256x2048_S4x1x4x256x2048_0_2_3_4 (shapeCast _ (extractStridedSlice S4x1x4x256x2048 ![0, 0, 0, 0, 0] (shapeCast _ x shapeCasts_S32x256x2048_S4x2x4x256x2048) slices_S4x2x4x256x2048_S4x1x4x256x2048_0_0_0_0_0) shapeCasts_S4x1x4x256x2048_S4x4x256x2048))⟩] concatenates_S4x1x4x256x2048_S4x1x4x256x2048_S4x2x4x256x2048_d1) shapeCasts_S4x2x4x256x2048_S8x4x256x2048

theorem stacked_at (x : S32x256x2048.Idx → α) (j : S8x4x256x2048.Idx) (k : S32x256x2048.Idx)
    (h0 : (k 0).val = 4 * (2 * ((j 0).val / 2) + (1 - (j 0).val % 2)) + (j 1).val) (h1 : (k 1).val = (j 2).val) (h2 : (k 2).val = (j 3).val) : stacked x j = x k := by
  unfold stacked
  pointwise
  have hj : (j 0).val < 8 := (j 0).isLt
  split
  · refine congrArg x (funext fun a => Fin.ext ?_)
    fin_cases a
    · show _ = (k 0).val; simp; omega
    · exact h1.symm
    · exact h2.symm
  · refine congrArg x (funext fun a => Fin.ext ?_)
    fin_cases a
    · show _ = (k 0).val; simp; omega
    · exact h1.symm
    · exact h2.symm

end Value

/-- What a core holds in the end is its block of the reference's result. -/
theorem landed_eq (m : (ℓ : Loc Cert.WOutSibIdeal.nD Cert.WOutSibIdeal.τ Cert.WOutSibIdeal.sig) → Buf (Elt Ideal) ℓ) (x : Cert.WOutSibReferenceIdeal.S32x256x2048.Idx → Elt Ideal .f32)
    (h : ∀ c : Dev Cert.WOutSibIdeal.nD, m ((c : Thread Cert.WOutSibIdeal.nD Cert.WOutSibIdeal.τ).loc Cert.WOutSibIdeal.main_arg0) = Layout.block ⟨3, ![4, 256, 2048]⟩ ⟨3, ![32, 256, 2048]⟩ 0 8 c x)
    (c : Dev Cert.WOutSibIdeal.nD) : gift m (mate c) = Layout.block ⟨4, ![1, 4, 256, 2048]⟩ ⟨4, ![8, 4, 256, 2048]⟩ 0 8 c (stacked x) := by
  funext y
  have hy : (y 0).val < 1 := (y 0).isLt
  have hc : c.val < 8 := c.isLt
  have hn : (mate c).val = 2 * (c.val / 2) + (1 - c.val % 2) := rfl
  refine (congrFun (h (mate c)) (ValueIdx.ix3 (y 1) (y 2) (y 3))).trans ?_
  rw [Layout.block_apply, Layout.block_apply]
  refine (stacked_at x _ _ ?_ ?_ ?_).symm
  · rw [front0 (n := 4) (r := (y 1).val) _ _ _ rfl rfl, four0 (n := 1) (r := (y 0).val) _ _ _ rfl rfl, four1, hn]
    omega
  · rw [front1, four2]
  · rw [front2, four3]

theorem algebraic : Cert.algebraic_WOutSibIdeal_WOutSibReferenceIdeal := fun m ρ m' ρ' _ h =>
  ⟨stacked (m' (((0 : Dev Cert.WOutSibReferenceIdeal.nD) : Thread Cert.WOutSibReferenceIdeal.nD Cert.WOutSibReferenceIdeal.τ).loc Cert.WOutSibReferenceIdeal.main_arg0)),
    (θ_run Cert.WOutSibIdeal.defs _ _).mono (fun _ hr c => ⟨((hr.1 c).1).trans (landed_eq m _ h c), (hr.1 c).2⟩) (run_main (F := Ideal) m ρ),
    (θ_run Cert.WOutSibReferenceIdeal.defs _ _).mono (fun _ hr => ⟨(hr 0).1, (hr 0).2⟩) (Cert.WOutSibReferenceIdeal.Value.run m' ρ')⟩

end Cert.WOutSib
-- ==== Proof.Halves.lean ====
/-
  What the exchanges between the two cores of a chip that keep both halves share: which half the other core
  fills, how the operations after the call reckon it, and how a list of operations splits.
-/
module

public import proofs.«01_k».proof.Proof.Trade
public import proofs.«01_k».proof.Proof.Blocks
public import Idealize.ShloMosaic.Lib.WordCmp
public import Idealize.ShloMosaic.Lib.ValueLayout

@[expose] public section

noncomputable section

namespace Cert.Halves

open Cert.Blocks Cert.Exchange Cert.Trade
open Idealize.ShloMosaic.ValueIdx
open Idealize.ShloMosaic Idealize.ShloMosaic.TcCoe Idealize.SL.Sem

/-- The half of core `n`'s result that the other core fills. -/
def slot (n : Dev 8) : Fin 2 := ⟨1 - n.val % 2, by omega⟩

/-- The half a core's own array goes to, as the operations after the call reckon it from the core's number. -/
theorem slot_word : ∀ (c : Dev 8) (i : (⟨0, ![]⟩ : Shape).Idx), BitVec.toInt (select
    (cmpi .slt (Host.remui (Host.divui (constantI ⟨0, ![]⟩ 32 (Dev.word c)) (constantI ⟨0, ![]⟩ 32 1#32)) (constantI ⟨0, ![]⟩ 32 2#32)) (constantI ⟨0, ![]⟩ 32 0#32))
    (addi (Host.remui (Host.divui (constantI ⟨0, ![]⟩ 32 (Dev.word c)) (constantI ⟨0, ![]⟩ 32 1#32)) (constantI ⟨0, ![]⟩ 32 2#32)) (constantI ⟨0, ![]⟩ 32 2#32))
    (Host.remui (Host.divui (constantI ⟨0, ![]⟩ 32 (Dev.word c)) (constantI ⟨0, ![]⟩ 32 1#32)) (constantI ⟨0, ![]⟩ 32 2#32)) i) = ((c.val % 2 : Nat) : Int) := by decide +kernel

/-- Operations run one stretch after another. -/
theorem after_split {τ : Topo} {sig : RefSig} {Val : EltTy → Type} (l : List (HloOp τ sig Val)) (n : Nat) (v : Valuation τ sig Val) :
    StableHlo.after l v = StableHlo.after (l.drop n) (StableHlo.after (l.take n) v) := by
  induction l generalizing n v with
  | nil => cases n <;> rfl
  | cons o l ih => cases n with
    | zero => rfl
    | succ n => exact ih n _

/-- What a core awaits of a piece, come or left. -/
theorem amt_came {nD : Nat} {sig : RefSig} {J : Type} [DecidableEq J] (X : Plan nD sig J (Fin 0)) (i : J) : X.amt (came i) = X.size i := rfl
theorem amt_left {nD : Nat} {sig : RefSig} {J : Type} [DecidableEq J] (X : Plan nD sig J (Fin 0)) (i : J) : X.amt (left i) = X.size i := rfl

/-! ## Arrays cut into pieces of `p` rows -/

section Rows

variable {R p C : Nat}

theorem piece_row {i : Nat} (h : ∀ a, (![p * i, 0] : Fin 2 → Nat) a + (⟨2, ![p, C]⟩ : Shape).size a ≤ (⟨2, ![R, C]⟩ : Shape).size a) (r : Fin p) : p * i + r.val < R := by
  have h0 : p * i + p ≤ R := h 0
  omega

theorem piece_emb {i : Nat} (h : ∀ a, (![p * i, 0] : Fin 2 → Nat) a + (⟨2, ![p, C]⟩ : Shape).size a ≤ (⟨2, ![R, C]⟩ : Shape).size a) (x : (⟨2, ![p, C]⟩ : Shape).Idx) :
    (Rect.unit (s := ⟨2, ![R, C]⟩) ![p * i, 0] (⟨2, ![p, C]⟩ : Shape).size h).emb x = ix2 (⟨p * i + (x 0).val, piece_row h (x 0)⟩ : Fin R) (x 1) := by
  funext a; apply Fin.ext
  fin_cases a
  · simp [ix2]
  · simp [ix2]

theorem piece_apart {i j : Nat} (hij : i ≠ j) (h : ∀ a, (![p * i, 0] : Fin 2 → Nat) a + (⟨2, ![p, C]⟩ : Shape).size a ≤ (⟨2, ![R, C]⟩ : Shape).size a)
    (h' : ∀ a, (![p * j, 0] : Fin 2 → Nat) a + (⟨2, ![p, C]⟩ : Shape).size a ≤ (⟨2, ![R, C]⟩ : Shape).size a) :
    Disjoint (Rect.unit (s := ⟨2, ![R, C]⟩) ![p * i, 0] (⟨2, ![p, C]⟩ : Shape).size h).set (Rect.unit (s := ⟨2, ![R, C]⟩) ![p * j, 0] (⟨2, ![p, C]⟩ : Shape).size h').set := by
  refine Rect.unit_disjoint 0 ?_
  show p * i + p ≤ p * j ∨ p * j + p ≤ p * i
  rcases Nat.lt_or_gt_of_ne hij with h | h
  · exact Or.inl (by rw [← Nat.mul_succ]; exact Nat.mul_le_mul_left p h)
  · exact Or.inr (by rw [← Nat.mul_succ]; exact Nat.mul_le_mul_left p h)

/-- A half of the pair, as the array it holds. -/
theorem half_emb {k : Fin 2} (h : ∀ a, (![k.val, 0, 0] : Fin 3 → Nat) a + (⟨3, ![1, R, C]⟩ : Shape).size a ≤ (⟨3, ![2, R, C]⟩ : Shape).size a)
    (e : (⟨2, ![R, C]⟩ : Shape).numel = (⟨3, ![1, R, C]⟩ : Shape).numel) (r : Fin R) (q : Fin C) :
    (Rect.unit (s := ⟨3, ![2, R, C]⟩) ![k.val, 0, 0] (⟨3, ![1, R, C]⟩ : Shape).size h).emb (Shape.reshapeEquiv e (ix2 r q)) = ix3 k r q := by
  refine (congrArg _ (reshapeEquiv_ix2_1ab (a := R) (b := C) _ _ _)).trans ?_
  funext a; apply Fin.ext
  fin_cases a <;> simp [ix3]

variable {V : Type}

/-- What core `n` holds after the call: the other core's array in the half kept for it, its own half as before. -/
def both (n : Dev 8) (other : (⟨2, ![R, C]⟩ : Shape).Idx → V) (was : (⟨3, ![2, R, C]⟩ : Shape).Idx → V) : (⟨3, ![2, R, C]⟩ : Shape).Idx → V := fun y =>
  if (y 0).val = (slot n).val then other (ix2 (y 1) (y 2)) else was y

theorem fits (c : Dev 8) : (⟨3, ![2, R, C]⟩ : Shape).Slices ![c.val % 2, 0, 0] ⟨3, ![1, R, C]⟩ := by
  refine ⟨rfl, fun a => ?_⟩
  fin_cases a
  · show c.val % 2 + 1 ≤ 2; omega
  · show 0 + R ≤ R; omega
  · show 0 + C ≤ C; omega

variable {N M : Nat} (T : Layout.Tiles ⟨2, ![R, C]⟩ ⟨2, ![N, C]⟩ 0 8) (T' : Layout.Tiles ⟨3, ![2, R, C]⟩ ⟨3, ![M, R, C]⟩ 0 8)
  (arr : Dev 8 → (⟨2, ![R, C]⟩ : Shape).Idx → V) (x : (⟨2, ![N, C]⟩ : Shape).Idx → V) (st : (⟨3, ![M, R, C]⟩ : Shape).Idx → V)
  (h : ∀ d, arr d = Layout.block ⟨2, ![R, C]⟩ ⟨2, ![N, C]⟩ 0 8 d x T)
  (hst : ∀ j k, (k 0).val = R * (2 * ((j 0).val / 4) + (j 0).val % 2) + (j 1).val → (k 1).val = (j 2).val → st j = x k)
include h hst

/-- An element of a core's array, in the array whose blocks are the pairs. -/
theorem at_pair (c d : Dev 8) (y : (⟨3, ![2, R, C]⟩ : Shape).Idx) (k : (⟨2, ![R, C]⟩ : Shape).Idx) (hd : d.val = 2 * (c.val / 2) + (y 0).val)
    (h0 : (k 0).val = (y 1).val) (h1 : (k 1).val = (y 2).val) : arr d k = (Layout.block ⟨3, ![2, R, C]⟩ ⟨3, ![M, R, C]⟩ 0 8 c st T') y := by
  have hy : (y 0).val < 2 := (y 0).isLt
  refine (congrFun (h d) k).trans ?_
  rw [Layout.block_apply, Layout.block_apply]
  refine (hst _ _ ?_ ?_).symm
  · rw [rows0 (n := R) (r := (k 0).val) _ _ _ rfl rfl, front0 (n := 2) (r := (y 0).val) _ _ _ rfl rfl, front1, h0, hd, Nat.mul_comm R]
    have e1 : (c.val * 2 + (y 0).val) / 4 = c.val / 2 := by omega
    have e2 : (c.val * 2 + (y 0).val) % 2 = (y 0).val := by omega
    rw [e1, e2]
  · rw [rows1 (r := (k 1).val) _ _ _ rfl, front2, h1]

/-- The other core's array beside its own makes a core's block of the pairs. -/
theorem pair_eq (c : Dev 8) (was : (⟨3, ![2, R, C]⟩ : Shape).Idx → V) (hb : (⟨2, ![R, C]⟩ : Shape).BroadcastsInDim ⟨3, ![1, R, C]⟩ ![1, 2]) :
    updateSlice (both c (arr (mate c)) was) (broadcastInDim ⟨3, ![1, R, C]⟩ ![1, 2] hb (arr c)) ![c.val % 2, 0, 0] (fits c)
      = Layout.block ⟨3, ![2, R, C]⟩ ⟨3, ![M, R, C]⟩ 0 8 c st T' := by
  funext y
  have hy : (y 0).val < 2 := (y 0).isLt
  unfold updateSlice
  split
  · rename_i hin
    have hs : c.val % 2 ≤ (y 0).val ∧ (y 0).val < c.val % 2 + 1 := hin 0
    refine at_pair T T' arr x st h hst c c y _ (by omega) ?_ ?_
    · split
      · rename_i e
        have hR : R = 1 := e
        have h1 : (y 1).val < R := (y 1).isLt
        show 0 = (y 1).val
        omega
      · rfl
    · split
      · rename_i e
        have hC : C = 1 := e
        have h2 : (y 2).val < C := (y 2).isLt
        show 0 = (y 2).val
        omega
      · rfl
  · rename_i hin
    have hs : (y 0).val = 1 - c.val % 2 := by
      refine Decidable.byContradiction fun hne => hin fun a => ?_
      fin_cases a
      · show c.val % 2 ≤ (y 0).val ∧ (y 0).val < c.val % 2 + 1; omega
      · exact ⟨Nat.zero_le _, (y 1).isLt.trans_le (Nat.le_of_eq (Nat.zero_add _).symm)⟩
      · exact ⟨Nat.zero_le _, (y 2).isLt.trans_le (Nat.le_of_eq (Nat.zero_add _).symm)⟩
    have hm : (mate c).val = 2 * (c.val / 2) + (1 - c.val % 2) := rfl
    exact (if_pos hs).trans (at_pair T T' arr x st h hst c (mate c) y _ (by omega) rfl rfl)

end Rows

/-! ## Arrays cut into slabs -/

section Slabs

variable {S R C : Nat}

theorem slab_emb {i : Fin S} (h : ∀ a, (![i.val, 0, 0] : Fin 3 → Nat) a + (⟨3, ![1, R, C]⟩ : Shape).size a ≤ (⟨3, ![S, R, C]⟩ : Shape).size a) (x : (⟨3, ![1, R, C]⟩ : Shape).Idx) :
    (Rect.unit (s := ⟨3, ![S, R, C]⟩) ![i.val, 0, 0] (⟨3, ![1, R, C]⟩ : Shape).size h).emb x = ix3 i (x 1) (x 2) := by
  have h0 : (x 0).val < 1 := (x 0).isLt
  have h0 : (x 0).val = 0 := by omega
  funext a; apply Fin.ext
  fin_cases a
  · simpa [ix3] using h0
  · simp [ix3]
  · simp [ix3]

theorem slab_apart {i j : Nat} (hij : i ≠ j) (h : ∀ a, (![i, 0, 0] : Fin 3 → Nat) a + (⟨3, ![1, R, C]⟩ : Shape).size a ≤ (⟨3, ![S, R, C]⟩ : Shape).size a)
    (h' : ∀ a, (![j, 0, 0] : Fin 3 → Nat) a + (⟨3, ![1, R, C]⟩ : Shape).size a ≤ (⟨3, ![S, R, C]⟩ : Shape).size a) :
    Disjoint (Rect.unit (s := ⟨3, ![S, R, C]⟩) ![i, 0, 0] (⟨3, ![1, R, C]⟩ : Shape).size h).set (Rect.unit (s := ⟨3, ![S, R, C]⟩) ![j, 0, 0] (⟨3, ![1, R, C]⟩ : Shape).size h').set := by
  refine Rect.unit_disjoint 0 ?_
  show i + 1 ≤ j ∨ j + 1 ≤ i
  omega

/-- A slab of a half of the pair, as the slab it holds. -/
theorem half_slab_emb {k : Fin 2} {i : Fin S} (h : ∀ a, (![k.val, i.val, 0, 0] : Fin 4 → Nat) a + (⟨4, ![1, 1, R, C]⟩ : Shape).size a ≤ (⟨4, ![2, S, R, C]⟩ : Shape).size a)
    (e : (⟨3, ![1, R, C]⟩ : Shape).numel = (⟨4, ![1, 1, R, C]⟩ : Shape).numel) (x : (⟨3, ![1, R, C]⟩ : Shape).Idx) :
    (Rect.unit (s := ⟨4, ![2, S, R, C]⟩) ![k.val, i.val, 0, 0] (⟨4, ![1, 1, R, C]⟩ : Shape).size h).emb (Shape.reshapeEquiv e x) = ix4 k i (x 1) (x 2) := by
  have h0 : (x 0).val < 1 := (x 0).isLt
  have h0 : (x 0).val = 0 := by omega
  refine (congrArg _ ((congrArg _ (show x = ix3 (x 0) (x 1) (x 2) from by funext a; fin_cases a <;> rfl)).trans (reshapeEquiv_ix3_1abc (a := 1) (b := R) (c := C) _ _ _ _))).trans ?_
  funext a; apply Fin.ext
  fin_cases a
  · simp [ix4]
  · simpa [ix4] using h0
  · simp [ix4]
  · simp [ix4]

variable {V : Type}

/-- What core `n` holds after the call: the other core's array in the half kept for it, its own half as before. -/
def bothSlabs (n : Dev 8) (other : (⟨3, ![S, R, C]⟩ : Shape).Idx → V) (was : (⟨4, ![2, S, R, C]⟩ : Shape).Idx → V) : (⟨4, ![2, S, R, C]⟩ : Shape).Idx → V := fun y =>
  if (y 0).val = (slot n).val then other (ix3 (y 1) (y 2) (y 3)) else was y

theorem fitsSlabs (c : Dev 8) : (⟨4, ![2, S, R, C]⟩ : Shape).Slices ![c.val % 2, 0, 0, 0] ⟨4, ![1, S, R, C]⟩ := by
  refine ⟨rfl, fun a => ?_⟩
  fin_cases a
  · show c.val % 2 + 1 ≤ 2; omega
  · show 0 + S ≤ S; omega
  · show 0 + R ≤ R; omega
  · show 0 + C ≤ C; omega

variable {N M : Nat} (T : Layout.Tiles ⟨3, ![S, R, C]⟩ ⟨3, ![N, R, C]⟩ 0 8) (T' : Layout.Tiles ⟨4, ![2, S, R, C]⟩ ⟨4, ![M, S, R, C]⟩ 0 8)
  (arr : Dev 8 → (⟨3, ![S, R, C]⟩ : Shape).Idx → V) (x : (⟨3, ![N, R, C]⟩ : Shape).Idx → V) (st : (⟨4, ![M, S, R, C]⟩ : Shape).Idx → V)
  (h : ∀ d, arr d = Layout.block ⟨3, ![S, R, C]⟩ ⟨3, ![N, R, C]⟩ 0 8 d x T)
  (hst : ∀ j k, (k 0).val = S * (2 * ((j 0).val / 4) + (j 0).val % 2) + (j 1).val → (k 1).val = (j 2).val → (k 2).val = (j 3).val → st j = x k)
include h hst

/-- An element of a core's array, in the array whose blocks are the pairs. -/
theorem at_pair_slabs (c d : Dev 8) (y : (⟨4, ![2, S, R, C]⟩ : Shape).Idx) (k : (⟨3, ![S, R, C]⟩ : Shape).Idx) (hd : d.val = 2 * (c.val / 2) + (y 0).val)
    (h0 : (k 0).val = (y 1).val) (h1 : (k 1).val = (y 2).val) (h2 : (k 2).val = (y 3).val) :
    arr d k = (Layout.block ⟨4, ![2, S, R, C]⟩ ⟨4, ![M, S, R, C]⟩ 0 8 c st T') y := by
  have hy : (y 0).val < 2 := (y 0).isLt
  refine (congrFun (h d) k).trans ?_
  rw [Layout.block_apply, Layout.block_apply]
  refine (hst _ _ ?_ ?_ ?_).symm
  · rw [front0 (n := S) (r := (k 0).val) _ _ _ rfl rfl, four0 (n := 2) (r := (y 0).val) _ _ _ rfl rfl, four1, h0, hd, Nat.mul_comm S]
    have e1 : (c.val * 2 + (y 0).val) / 4 = c.val / 2 := by omega
    have e2 : (c.val * 2 + (y 0).val) % 2 = (y 0).val := by omega
    rw [e1, e2]
  · rw [front1, four2, h1]
  · rw [front2, four3, h2]

/-- The other core's array beside its own makes a core's block of the pairs. -/
theorem pair_eq_slabs (c : Dev 8) (was : (⟨4, ![2, S, R, C]⟩ : Shape).Idx → V) (hb : (⟨3, ![S, R, C]⟩ : Shape).BroadcastsInDim ⟨4, ![1, S, R, C]⟩ ![1, 2, 3]) :
    updateSlice (bothSlabs c (arr (mate c)) was) (broadcastInDim ⟨4, ![1, S, R, C]⟩ ![1, 2, 3] hb (arr c)) ![c.val % 2, 0, 0, 0] (fitsSlabs c)
      = Layout.block ⟨4, ![2, S, R, C]⟩ ⟨4, ![M, S, R, C]⟩ 0 8 c st T' := by
  funext y
  have hy : (y 0).val < 2 := (y 0).isLt
  unfold updateSlice
  split
  · rename_i hin
    have hs : c.val % 2 ≤ (y 0).val ∧ (y 0).val < c.val % 2 + 1 := hin 0
    refine at_pair_slabs T T' arr x st h hst c c y _ (by omega) ?_ ?_ ?_
    · split
      · rename_i e
        have hS : S = 1 := e
        have h1 : (y 1).val < S := (y 1).isLt
        show 0 = (y 1).val
        omega
      · rfl
    · split
      · rename_i e
        have hR : R = 1 := e
        have h2 : (y 2).val < R := (y 2).isLt
        show 0 = (y 2).val
        omega
      · rfl
    · split
      · rename_i e
        have hC : C = 1 := e
        have h3 : (y 3).val < C := (y 3).isLt
        show 0 = (y 3).val
        omega
      · rfl
  · rename_i hin
    have hs : (y 0).val = 1 - c.val % 2 := by
      refine Decidable.byContradiction fun hne => hin fun a => ?_
      fin_cases a
      · show c.val % 2 ≤ (y 0).val ∧ (y 0).val < c.val % 2 + 1; omega
      · exact ⟨Nat.zero_le _, (y 1).isLt.trans_le (Nat.le_of_eq (Nat.zero_add _).symm)⟩
      · exact ⟨Nat.zero_le _, (y 2).isLt.trans_le (Nat.le_of_eq (Nat.zero_add _).symm)⟩
      · exact ⟨Nat.zero_le _, (y 3).isLt.trans_le (Nat.le_of_eq (Nat.zero_add _).symm)⟩
    have hm : (mate c).val = 2 * (c.val / 2) + (1 - c.val % 2) := rfl
    exact (if_pos hs).trans (at_pair_slabs T T' arr x st h hst c (mate c) y _ (by omega) rfl rfl rfl)

end Slabs

end Cert.Halves
-- ==== Proof.WInPair.lean ====
/-
  The exchange by which each core of a chip comes to hold both cores' halves of the w_in parameter, from the
  launch: every run ends with each core's own array unchanged, every semaphore at zero, and the result being
  what the operations after the call make of the pair.
-/
module

public import proofs.«01_k».proof.Proof.Halves
public import proofs.«01_k».proof.Proof.Gen.WInPairIdeal
public import proofs.«01_k».proof.Proof.Gen.WInPairIdeal.Skeleton
public import proofs.«01_k».proof.Proof.Gen.WInPairIdeal.Launch
public import proofs.«01_k».proof.Proof.Gen.WInPairIdeal.Regions
public import Idealize.ShloMosaic.Lib.ValueLayout

@[expose] public section

set_option Elab.async false

noncomputable section

namespace Cert.WInPair

open Idealize.ShloMosaic.ValueIdx
open Cert.WInPairIdeal Cert.WInPairIdeal.Gen Cert.Exchange Cert.Trade Cert.Halves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg BodyObligationLoose cellOf)

variable {F : FTy → Type} [FloatOps F]

local notation "𝕄" => MT nD τ sig Unit (Elt F) ℕ (UU nD τ sig) ℕ

theorem dev1 : ∀ c : Dev nD, (⟨k0_dev1 c, k0_dev1_lt c⟩ : Dev nD) = mates c := by decide +kernel

/-! ## The pieces -/

theorem inb (i : Fin 4) : ∀ a, (![256 * i.val, 0] : Fin 2 → Nat) a + S256x8448.size a ≤ S1024x8448.size a := by revert i; decide

/-- Piece `i` of the array a core sends. -/
abbrev srcP (i : Fin 4) : Memref sig .tc .hbm S256x8448 .bf16 :=
  (Memref.whole main_arg0).slice (Rect.unit (s := S1024x8448) ![256 * i.val, 0] S256x8448.size (inb i)) (fun _ => rfl)

/-- Where piece `i` of the half that the other core fills starts. -/
abbrev off (n : Dev nD) (i : Fin 4) : Fin 3 → Nat := ![(slot n).val, 256 * i.val, 0]

theorem off_inb (n : Dev nD) (i : Fin 4) : ∀ a, off n i a + S1x256x8448.size a ≤ S2x1024x8448.size a := by revert n i; decide

abbrev dstAt (o : Fin 3 → Nat) (h : ∀ a, o a + S1x256x8448.size a ≤ S2x1024x8448.size a) : Memref sig .tc .hbm S256x8448 .bf16 :=
  ((Memref.whole main_v1).slice (Rect.unit (s := S2x1024x8448) o S1x256x8448.size h) (fun _ => rfl)).squeeze S256x8448 squeezes_S1x256x8448_S256x8448

abbrev dstP (n : Dev nD) (i : Fin 4) : Memref sig .tc .hbm S256x8448 .bf16 := dstAt (off n i) (off_inb n i)

theorem off2 (c : Dev nD) : k0_off2 c = off (mate c) 0 := by revert c; decide +kernel
theorem off3 (c : Dev nD) : k0_off3 c = off (mate c) 1 := by revert c; decide +kernel
theorem off4 (c : Dev nD) : k0_off4 c = off (mate c) 2 := by revert c; decide +kernel
theorem off5 (c : Dev nD) : k0_off5 c = off (mate c) 3 := by revert c; decide +kernel

/-- Row `r` of piece `i`. -/
abbrev row (i : Fin 4) (r : Fin 256) : Fin 1024 := ⟨256 * i.val + r.val, by omega⟩

theorem src_emb (i : Fin 4) (x : S256x8448.Idx) : (srcP i).view.emb x = ix2 (row i (x 0)) (x 1) := piece_emb (inb i) x

theorem src_apart {i j : Fin 4} (h : i ≠ j) : Disjoint (srcP i).view.set (srcP j).view.set :=
  slices_apart (Memref.whole main_arg0) _ _ (fun _ => rfl) (fun _ => rfl) (piece_apart (fun e => h (Fin.ext e)) (inb i) (inb j))

theorem dst_emb (n : Dev nD) (i : Fin 4) (x : S256x8448.Idx) :
    (dstP n i).view.emb x = ix3 (slot n) (row i (x 0)) (x 1) := by
  refine (congrArg (Rect.unit (s := S2x1024x8448) (off n i) S1x256x8448.size (off_inb n i)).emb
    ((congrArg _ (show x = ix2 (x 0) (x 1) from by funext a; fin_cases a <;> rfl)).trans (reshapeEquiv_ix2_1ab (a := 256) (b := 8448) _ _ _))).trans ?_
  funext a; apply Fin.ext
  fin_cases a <;> simp [ix3]

theorem dst_apart (n : Dev nD) {i j : Fin 4} (h : i ≠ j) : Disjoint (dstP n i).view.set (dstP n j).view.set := by
  refine Finset.disjoint_left.mpr fun y hi hj => ?_
  obtain ⟨x, -, rfl⟩ := Finset.mem_map.mp hi
  obtain ⟨z, -, hz⟩ := Finset.mem_map.mp hj
  have e := congrArg Fin.val (congrFun ((dst_emb n j z).symm.trans (hz.trans (dst_emb n i x))) 1)
  have hx : (x 0).val < 256 := (x 0).isLt
  have hz' : (z 0).val < 256 := (z 0).isLt
  have hij : i.val ≠ j.val := fun e => h (Fin.ext e)
  have e : 256 * j.val + (z 0).val = 256 * i.val + (x 0).val := e
  omega

theorem credit (o : Fin 3 → Nat) (h : ∀ a, o a + S1x256x8448.size a ≤ S2x1024x8448.size a) (i : Fin 4) : (dstAt o h).view.dmaCredit = (srcP i).view.dmaCredit := rfl

theorem row_split (r : Fin 1024) : ∃ i j, row i j = r :=
  ⟨⟨r.val / 256, by omega⟩, ⟨r.val % 256, by omega⟩, Fin.ext (Nat.div_add_mod _ _)⟩

theorem dst_cover (n : Dev nD) (x : S2x1024x8448.Idx) (h : x 0 = slot n) : ∃ i, x ∈ (dstP n i).view.set := by
  obtain ⟨i, j, e⟩ := row_split (x 1)
  refine ⟨i, Finset.mem_map.mpr ⟨ix2 j (x 2), Finset.mem_univ _, (dst_emb _ _ _).trans ?_⟩⟩
  funext a
  fin_cases a
  · exact h.symm
  · exact e
  · rfl

/-! ## The exchange -/

theorem inb4 (i : Fin 4) : ∀ a, (![i.val] : Fin 1 → Nat) a + S1.size a ≤ S4.size a := by revert i; decide

/-- Semaphore `i` of an array of four. -/
abbrev at4 (a : DmaSems sig S4) (i : Fin 4) : DmaSem sig := ((a.slice (Rect.unit (s := S4) ![i.val] S1.size (inb4 i))).squeeze S_ squeezes_S1_S_).sem

def sem : Wt (Fin 4) (Fin 0) → SemLoc sig
  | .inl i => .dma (at4 cc0_scratch0 i)
  | .inr (.inl i) => .dma (at4 cc0_scratch1 i)
  | .inr (.inr k) => k.elim0

theorem sem_inj : Function.Injective sem := by decide

def plan : Plan nD sig (Fin 4) (Fin 0) where
  sem := sem
  inj := sem_inj
  size i := (srcP i).view.dmaCredit
  size_pos i := (srcP i).view.dmaCredit_pos (by decide)
  copied k := k.elim0
  copied_pos k := k.elim0
  dest _ := mates

variable (m : (ℓ : Loc nD τ sig) → Buf (Elt F) ℓ) (ρ : Dev nD → PrngReg)

/-- What core `n` holds after the call. -/
abbrev landed (n : Dev nD) : S2x1024x8448.Idx → Elt F .bf16 := both n (m ((mate n : Thread nD τ).loc main_arg0)) (m ((n : Thread nD τ).loc main_v1))

def trade : Deal nD τ sig (Elt F) (Fin 4) where
  plan := plan
  a := main_arg0
  b := main_v1
  ne := by decide
  open_a := rfl
  open_b := rfl
  D _ i := (srcP i).view.set
  apartD _ _ _ h := src_apart h
  E n i := (dstP n i).view.set
  apartE n _ _ h := dst_apart n h
  m := m
  landed := landed m
  same n x h := by
    unfold landed both
    rw [if_neg fun e => (dst_cover n x (Fin.ext e)).elim fun i hi => h i hi]

abbrev 𝒱₀ : Variants := Variants.none

theorem size_eq (i : Fin 4) : (trade m).plan.size i = (srcP i).view.dmaCredit := by
  delta trade plan; dsimp only

theorem came_amt (o : Fin 3 → Nat) (h : ∀ a, o a + S1x256x8448.size a ≤ S2x1024x8448.size a) (i : Fin 4) : (dstAt o h).view.dmaCredit = (trade m).plan.amt (came i) :=
  (credit o h i).trans ((size_eq m i).symm.trans (amt_came _ i).symm)

theorem left_amt (i : Fin 4) : (srcP i).view.dmaCredit = (trade m).plan.amt (left i) :=
  (size_eq m i).symm.trans (amt_left _ i).symm

theorem arrives (c : Dev nD) (i : Fin 4) :
    ((dstP (mates c) i).view.loc ((mates c : Dev nD) : Thread nD τ) ↦[(dstP (mates c) i).view.set]{fullShare}
      ((dstP (mates c) i).view.write (Elt F) (m (((mates c : Dev nD) : Thread nD τ).loc main_v1)) ((srcP i).view.read (Elt F) (m ((c : Thread nD τ).loc main_arg0))) Finset.univ) : sProp 𝕄)
      ⊢ (trade m).got (mates c) i := by
  refine Entails.of_eq (pointsTo_congr fun y hy => ?_)
  obtain ⟨x, -, rfl⟩ := Finset.mem_map.mp hy
  refine ((dstP (mates c) i).view.write_emb_of_mem _ _ (Finset.mem_univ x)).trans ?_
  show m ((c : Thread nD τ).loc main_arg0) ((srcP i).view.emb x) = landed m (mate c) ((dstP (mate c) i).view.emb x)
  rw [src_emb, dst_emb]
  unfold landed both
  rw [if_pos rfl, mate_mate]
  rfl

/-- Piece `i` sent. -/
theorem send {κ : Dev nD × Wt (Fin 4) (Fin 0) → ℕ} {c n : Dev nD} {i : Fin 4} {l : List (Fin 4)} {o : Fin 3 → Nat} {ho : ∀ a, o a + S1x256x8448.size a ≤ S2x1024x8448.size a}
    (hn : n = mates c) (he : o = off (mate c) i) (hi : i ∉ l)
    {hsc : (dstAt o ho : Memref sig (Dev.tc n : Thread nD τ).2.kind .hbm S256x8448 .bf16).view.ref.isScScratch = false}
    {hsrc : (srcP i).view.WordExact} {hdst : (dstAt o ho : Memref sig (Dev.tc n : Thread nD τ).2.kind .hbm S256x8448 .bf16).view.WordExact}
    {hsem : DmaTarget.Typed .hbm (.dma (at4 cc0_scratch1 i)) (.remote (Dev.tc n : Thread nD τ) (dstAt o ho : Memref sig (Dev.tc n : Thread nD τ).2.kind .hbm S256x8448 .bf16) (.dma (at4 cc0_scratch0 i)) hsc)}
    {k : PUnit → Prog (TpuEff nD τ sig (Elt F) Λ₀ .tc) PUnit} (h : Sends (trade m) defs₀ 𝒱₀ κ c l (k ⟨⟩)) :
    Sends (trade m) defs₀ 𝒱₀ κ c (i :: l)
      (.op (.enqueueDma (srcP i) (.remote (Dev.tc n : Thread nD τ) (dstAt o ho) (.dma (at4 cc0_scratch0 i)) hsc) (.dma (at4 cc0_scratch1 i)) hsrc hdst hsem) k) := by
  subst hn; subst he
  exact Sends.step (trade m) 𝒱₀ κ c (src := srcP i) (dst := dstP (mates c) i) hi rfl rfl rfl (m _) (m _) rfl rfl (BI.Entails.refl _) (arrives m c i) (by routes) h

set_option maxRecDepth 65536 in
set_option maxHeartbeats 800000 in
/-- The body: four pieces sent, four awaited, four seen to have left. -/
theorem body (κ : Dev nD × Wt (Fin 4) (Fin 0) → ℕ) (c : Dev nD) :
    Sends (trade m) (defs₀ (F := F)) 𝒱₀ κ c [0, 1, 2, 3]
      (cc0_gather_w_in_cores (Memref.whole main_arg0) (Memref.isWhole_whole _) (Memref.whole main_v1) (Memref.isWhole_whole _) cc0_scratch0 cc0_scratch1 cc0_scratch2) := by
  intro Q
  rw [cc0_gather_w_in_cores_eq_skeleton]; unfold cc0_gather_w_in_cores_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, wp_deviceId]
  revert Q
  show Sends _ _ _ _ _ _ _
  refine send m (dev1 c) (off2 c) (by decide) ?_
  refine send m (dev1 c) (off3 c) (by decide) ?_
  refine send m (dev1 c) (off4 c) (by decide) ?_
  refine send m (dev1 c) (off5 c) (by decide) ?_
  refine Sends.done _ _ _ _ (l := [came 0, came 1, came 2, came 3, left 0, left 1, left 2, left 3]) (by decide) ?_
  iterate 4 refine Waits.step _ _ _ _ (by simp) rfl (came_amt m _ _ _) ?_
  iterate 4 refine Waits.step _ _ _ _ (by simp) rfl (left_amt m _) ?_
  exact Waits.done _ _ _ _

/-! ## The launch -/

def dats (_ : Fin 1) (c : Dev nD) : Dat τ (Elt F) Unit ℕ (UU nD τ sig) ℕ cfg0 c where
  A w := w.elim0
  after w := w.elim0
  Φ t := match t with
    | ⟨0, _⟩ => (trade m).before c
    | ⟨_ + 1, _⟩ => (trade m).after c
  q _ := fullShare
  owed t := match t with
    | ⟨0, _⟩ => O₀ plan c
    | ⟨_ + 1, _⟩ => 0

theorem body_obligation (c : Dev nD) : BodyObligationLoose (dats (F := F) m 0 c) (defs₀ (F := F)) 𝒱₀ () Set.univ := fun t => by
  rw [fin_N0 t]
  show iprop((trade m).before c ∗ (dats m 0 c).owesAt () t0_0.castSucc ∗ bigSep (Finset.univ : Finset (Fin 0)) _)
    ⊢ wp frame (wpE (defs₀ (F := F)) 𝒱₀ c none) Set.univ
      (cc0_gather_w_in_cores (Memref.whole main_arg0) (Memref.isWhole_whole _) (Memref.whole main_v1) (Memref.isWhole_whole _) cc0_scratch0 cc0_scratch1 cc0_scratch2)
      fun _ => iprop((trade m).after c ∗ (dats m 0 c).owesAt () t0_0.succ ∗ bigSep (Finset.univ : Finset (Fin 0)) _)
  exact obligation (trade m) 𝒱₀ c (by decide) (fun κ => body m κ c) (owed_of_within c _ _) (within_of_owed c _ _ fun _ => Or.inl trivial) (by rw [show (Finset.univ : Finset (Fin 0)) = ∅ from rfl, bigSep_none])

theorem ownSemFacts : Pipeline.OwnSemFacts cfg0.spec sem := by
  constructor <;> decide

/-- The contents of the arrays when the call returns. -/
def outs : Outs (F := F) := fun _ r c => Function.update (V0 m c) main_v1 (landed m c) r

theorem outs_landed (c : Dev nD) : outs m 1 main_v1 c = landed m c := by
  delta outs; exact Function.update_self ..

theorem V1_ends (c : Dev nD) : V1 m (outs m) c = (trade m).ends c :=
  congrArg (Function.update (V0 m c) (Proc.devRef .tc main_v1)) (outs_landed m c)

/-- Beside the arrays a core owes nothing. -/
abbrev rest (_ : Fin 2) (c : Dev nD) : sProp 𝕄 := iprop(∃ W, owes (c : Thread nD τ) (0 : CellTallies nD τ sig Unit) W)

/-- The operations after the call. -/
abbrev tail (c : Dev nD) : List (Seg (pcfgs (F := F)) (fun p => (cfgs p).toPCfg_adm) (dats m) () defs₀ 𝒱₀ Cert.Dealt.noL fun _ _ => 0) :=
  [.host (seg1 m (outs m) 𝒱₀ Cert.Dealt.noL (fun _ _ => 0) rest c), .host (seg2 m (outs m) 𝒱₀ Cert.Dealt.noL (fun _ _ => 0) rest)]

theorem main_tail (c : Dev nD) : main (F := F) c = .op (.customCall (Pipeline.entry 0) ()) fun _ => Pipeline.Seg.run (tail m c) := by
  rw [main_chain c]
  simp only [Pipeline.Seg.run_eq_chain]
  rfl

/-- At the end each core's own array is as before, its result is what the operations after the call make of what it then held, and all semaphores are zero. -/
theorem run_main : θ_run defs (onTc (τ := τ) (main (F := F))) ⟨m, fun _ => 0, ρ⟩ fun r =>
    (∀ c : Dev nD, r.2.mem ((c : Thread nD τ).loc main_v6) = V3 m (outs m) c main_v6 ∧ r.2.mem ((c : Thread nD τ).loc main_arg0) = m ((c : Thread nD τ).loc main_arg0))
      ∧ r.2.sem = fun _ => 0 :=
  (θ_run defs _ _).mono (fun _ h => ⟨fun c => ⟨h.1 c main_v6 rfl, (h.1 c main_arg0 rfl).trans (V3_main_arg0 m (outs m) c)⟩, h.2⟩)
    (Trade.run (trade m) pcfgs (fun p => (cfgs p).toPCfg_adm) (dats m) cellOf_inj defs₀ 𝒱₀ (p := 0) ρ main
      winFacts0.to₀ ownSemFacts (body_obligation m) Fin.isEmpty Fin.isEmpty
      (fun c => Pipeline.cellsWaits_intro cfgs (dats m) () 0 c (R := iprop(emp)) fun w => w.elim0)
      (tail m) (main_tail m) (fun _ => List.nodup_singleton _)
      (fun c => scopedRest0_eq c) (fun _ => rfl) (fun _ => rfl)
      (fun c => within_of_owed c _ _ fun _ => Or.inl trivial) (fun c => owed_of_within c _ _)
      (fun c => V3 m (outs m) c) (fun c => ⟨Entails.of_eq (by unfold Deal.finish; rw [← V1_ends]; rfl), BI.Entails.refl _, BI.Entails.refl _⟩) (by decide))

end Cert.WInPair
-- ==== Proof.WInPairClaims.lean ====
/-
  The claims about the exchange by which both cores of a chip come to hold both halves of the w_in parameter.
-/
module

public import proofs.«01_k».proof.Defs
public import proofs.«01_k».proof.Proof.WInPair
public import proofs.«01_k».proof.Proof.Gen.WInPair
public import proofs.«01_k».proof.Proof.Gen.WInPairReferenceIdeal
public import proofs.«01_k».proof.Proof.Gen.WInPairReferenceIdeal.Run
public import Idealize.ShloMosaic.Lib.Pointwise
public import Idealize.ShloMosaic.Lib.Quiescent
public import Idealize.ShloMosaic.Lib.WordCmp

@[expose] public section

noncomputable section

namespace Cert.WInPair

open Cert.Blocks Cert.Trade Cert.Halves
open Idealize.ShloMosaic Idealize.ShloMosaic.TcCoe Idealize.SL.Sem

theorem frame_kernel : Cert.quiescent_WInPair := fun m ρ _ =>
  (θ_run Cert.WInPairIdeal.defs _ _).mono (fun _ h => ⟨fun c => (h.1 c).2, h.2⟩) (run_main (F := Bits) m ρ)

theorem frame_ideal : Cert.quiescent_WInPairIdeal := fun m ρ _ =>
  (θ_run Cert.WInPairIdeal.defs _ _).mono (fun _ h => ⟨fun c => (h.1 c).2, h.2⟩) (run_main (F := Ideal) m ρ)

theorem frame_reference : Cert.quiescent_WInPairReferenceIdeal := fun m ρ _ =>
  (θ_run Cert.WInPairReferenceIdeal.defs _ _).mono (fun r h => ⟨fun c => (h c).2, sem_eq_zero_of_no_sems (by decide) r.2⟩) (Cert.WInPairReferenceIdeal.Value.run m ρ)

/-! ## The operations after the call -/

section Tail

open Cert.WInPairIdeal Cert.WInPairIdeal.Gen

variable {F : FTy → Type} [FloatOps F]
variable (m : (ℓ : Loc nD τ sig) → Buf (Elt F) ℓ)

/-- The last operation puts a core's own array in its half. -/
theorem put (c : Dev nD) (W : Valuation τ sig (Elt F)) (h0 : BitVec.toInt (W main_call0_v3 (Shape.Idx.first h_S_)) = ((c.val % 2 : Nat) : Int))
    (h1 : BitVec.toInt (W main_call0_c_1 (Shape.Idx.first h_S_)) = 0) (h2 : BitVec.toInt (W main_call0_c_2 (Shape.Idx.first h_S_)) = 0) :
    StableHlo.after (hostOps1_1.drop 8) W main_v6 = updateSlice (s := S2x1024x8448) (u := S1x1024x8448) (W main_v1) (W main_call0_v0) ![c.val % 2, 0, 0] (fits c) := by
  simp only [List.drop]
  after_results
  simp only [StableHlo.TRef.toBuf, StableHlo.TRef.ofBuf, cast_eq]
  refine WordCmp.dynamicUpdateSlice_eq_update _ _ _ _ _ (fits c) fun a => ?_
  fin_cases a
  · exact h0
  · exact h1
  · exact h2

/-- The arrays before the last operation. -/
abbrev mid (c : Dev nD) (v : Valuation τ sig (Elt F)) : Valuation τ sig (Elt F) := StableHlo.after (hostOps1_1.take 8) (StableHlo.after (hostOps1 c) v)

theorem mid_v3 (c : Dev nD) (v : Valuation τ sig (Elt F)) : BitVec.toInt (mid c v main_call0_v3 (Shape.Idx.first h_S_)) = ((c.val % 2 : Nat) : Int) := by
  unfold mid
  simp only [List.take]
  after_results
  simp only [StableHlo.TRef.toBuf, StableHlo.TRef.ofBuf, cast_eq, id]
  exact slot_word c _

theorem mid_c1 (c : Dev nD) (v : Valuation τ sig (Elt F)) : BitVec.toInt (mid c v main_call0_c_1 (Shape.Idx.first h_S_)) = 0 := by
  unfold mid
  simp only [List.take]
  after_results
  rfl

theorem mid_c2 (c : Dev nD) (v : Valuation τ sig (Elt F)) : BitVec.toInt (mid c v main_call0_c_2 (Shape.Idx.first h_S_)) = 0 := by
  unfold mid
  simp only [List.take]
  after_results
  rfl

theorem mid_v1 (c : Dev nD) (v : Valuation τ sig (Elt F)) : mid c v main_v1 = v main_v1 := by
  unfold mid
  simp only [List.take]
  after_results

theorem mid_v0 (c : Dev nD) (v : Valuation τ sig (Elt F)) : mid c v main_call0_v0 = broadcastInDim S1x1024x8448 ![1, 2] bcast_S1024x8448_S1x1024x8448_1_2 (v main_arg0) := by
  unfold mid
  simp only [List.take]
  after_results
  rfl

theorem V3_v6 (c : Dev nD) : V3 m (outs m) c main_v6 = updateSlice (s := S2x1024x8448) (u := S1x1024x8448) (landed m c) (broadcastInDim S1x1024x8448 ![1, 2] bcast_S1024x8448_S1x1024x8448_1_2 (m ((c : Thread nD τ).loc main_arg0))) ![c.val % 2, 0, 0] (fits c) := by
  have e1 : V1 m (outs m) c main_v1 = landed m c := (congrFun (V1_ends m c) _).trans (ends_b (trade m) c)
  have e0 : V1 m (outs m) c main_arg0 = m ((c : Thread nD τ).loc main_arg0) := V1_of m (outs m) c main_arg0 (by decide)
  have e : V3 m (outs m) c = StableHlo.after (hostOps1_1.drop 8) (mid c (V1 m (outs m) c)) :=
    after_split hostOps1_1 8 _
  refine (congrFun e main_v6).trans ((put c (mid c _) (mid_v3 c _) (mid_c1 c _) (mid_c2 c _)).trans ?_)
  rw [mid_v1, mid_v0, e1, e0]

end Tail

/-! ## The value -/

section Value

open Cert.WInPairReferenceIdeal Cert.WInPairReferenceIdeal.Gen

variable {α : Type}

/-- The reference's result from its argument. -/
def stacked (x : S8192x8448.Idx → α) : S16x1024x8448.Idx → α :=
  shapeCast _ (broadcastInDim S4x2x2x1024x8448 ![0, 1, 2, 3, 4] bcast_S4x1x2x1024x8448_S4x2x2x1024x8448_0_1_2_3_4 (shapeCast _ x shapeCasts_S8192x8448_S4x1x2x1024x8448)) shapeCasts_S4x2x2x1024x8448_S16x1024x8448

theorem stacked_at (x : S8192x8448.Idx → α) (j : S16x1024x8448.Idx) (k : S8192x8448.Idx)
    (h0 : (k 0).val = 1024 * (2 * ((j 0).val / 4) + (j 0).val % 2) + (j 1).val) (h1 : (k 1).val = (j 2).val) : stacked x j = x k := by
  unfold stacked
  pointwise
  have hj : (j 0).val < 16 := (j 0).isLt
  refine congrArg x (funext fun a => Fin.ext ?_)
  fin_cases a
  · show _ = (k 0).val; simp; omega
  · exact h1.symm

end Value

/-- What a core holds in the end is its block of the reference's result. -/
theorem result_eq (m : (ℓ : Loc Cert.WInPairIdeal.nD Cert.WInPairIdeal.τ Cert.WInPairIdeal.sig) → Buf (Elt Ideal) ℓ) (x : Cert.WInPairReferenceIdeal.S8192x8448.Idx → Elt Ideal .bf16)
    (h : ∀ c : Dev Cert.WInPairIdeal.nD, m ((c : Thread Cert.WInPairIdeal.nD Cert.WInPairIdeal.τ).loc Cert.WInPairIdeal.main_arg0) = Layout.block ⟨2, ![1024, 8448]⟩ ⟨2, ![8192, 8448]⟩ 0 8 c x)
    (c : Dev Cert.WInPairIdeal.nD) : Cert.WInPairIdeal.Gen.V3 m (outs m) c Cert.WInPairIdeal.main_v6 = Layout.block ⟨3, ![2, 1024, 8448]⟩ ⟨3, ![16, 1024, 8448]⟩ 0 8 c (stacked x) :=
  (V3_v6 m c).trans (pair_eq _ _ (fun d => m ((d : Thread Cert.WInPairIdeal.nD Cert.WInPairIdeal.τ).loc Cert.WInPairIdeal.main_arg0)) x (stacked x) h (stacked_at x) c _ _)

theorem algebraic : Cert.algebraic_WInPairIdeal_WInPairReferenceIdeal := fun m ρ m' ρ' _ h =>
  ⟨stacked (m' (((0 : Dev Cert.WInPairReferenceIdeal.nD) : Thread Cert.WInPairReferenceIdeal.nD Cert.WInPairReferenceIdeal.τ).loc Cert.WInPairReferenceIdeal.main_arg0)),
    (θ_run Cert.WInPairIdeal.defs _ _).mono (fun _ hr c => ⟨((hr.1 c).1).trans (result_eq m _ h c), (hr.1 c).2⟩) (run_main (F := Ideal) m ρ),
    (θ_run Cert.WInPairReferenceIdeal.defs _ _).mono (fun _ hr => ⟨(hr 0).1, (hr 0).2⟩) (Cert.WInPairReferenceIdeal.Value.run m' ρ')⟩

end Cert.WInPair
-- ==== Proof.WOutPair.lean ====
/-
  The exchange by which each core of a chip comes to hold both cores' halves of the w_out parameter, from the
  launch: every run ends with each core's own array unchanged, every semaphore at zero, and the result being
  what the operations after the call make of the pair.
-/
module

public import proofs.«01_k».proof.Proof.Halves
public import proofs.«01_k».proof.Proof.Gen.WOutPairIdeal
public import proofs.«01_k».proof.Proof.Gen.WOutPairIdeal.Skeleton
public import proofs.«01_k».proof.Proof.Gen.WOutPairIdeal.Launch
public import proofs.«01_k».proof.Proof.Gen.WOutPairIdeal.Regions
public import Idealize.ShloMosaic.Lib.ValueLayout

@[expose] public section

set_option Elab.async false

noncomputable section

namespace Cert.WOutPair

open Idealize.ShloMosaic.ValueIdx
open Cert.WOutPairIdeal Cert.WOutPairIdeal.Gen Cert.Exchange Cert.Trade Cert.Halves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg BodyObligationLoose cellOf)

variable {F : FTy → Type} [FloatOps F]

local notation "𝕄" => MT nD τ sig Unit (Elt F) ℕ (UU nD τ sig) ℕ

theorem dev1 : ∀ c : Dev nD, (⟨k0_dev1 c, k0_dev1_lt c⟩ : Dev nD) = mates c := by decide +kernel

/-! ## The slabs -/

theorem inb (i : Fin 4) : ∀ a, (![i.val, 0, 0] : Fin 3 → Nat) a + S1x256x2048.size a ≤ S4x256x2048.size a := by revert i; decide

/-- Slab `i` of the array a core sends. -/
abbrev srcP (i : Fin 4) : Memref sig .tc .hbm S1x256x2048 .bf16 :=
  (Memref.whole main_arg0).slice (Rect.unit (s := S4x256x2048) ![i.val, 0, 0] S1x256x2048.size (inb i)) (fun _ => rfl)

/-- Where slab `i` of the half that the other core fills starts. -/
abbrev off (n : Dev nD) (i : Fin 4) : Fin 4 → Nat := ![(slot n).val, i.val, 0, 0]

theorem off_inb (n : Dev nD) (i : Fin 4) : ∀ a, off n i a + S1x1x256x2048.size a ≤ S2x4x256x2048.size a := by revert n i; decide

abbrev dstAt (o : Fin 4 → Nat) (h : ∀ a, o a + S1x1x256x2048.size a ≤ S2x4x256x2048.size a) : Memref sig .tc .hbm S1x256x2048 .bf16 :=
  ((Memref.whole main_v1).slice (Rect.unit (s := S2x4x256x2048) o S1x1x256x2048.size h) (fun _ => rfl)).squeeze S1x256x2048 squeezes_S1x1x256x2048_S1x256x2048

abbrev dstP (n : Dev nD) (i : Fin 4) : Memref sig .tc .hbm S1x256x2048 .bf16 := dstAt (off n i) (off_inb n i)

theorem off2 (c : Dev nD) : k0_off2 c = off (mate c) 0 := by revert c; decide +kernel
theorem off3 (c : Dev nD) : k0_off3 c = off (mate c) 1 := by revert c; decide +kernel
theorem off4 (c : Dev nD) : k0_off4 c = off (mate c) 2 := by revert c; decide +kernel
theorem off5 (c : Dev nD) : k0_off5 c = off (mate c) 3 := by revert c; decide +kernel

theorem src_emb (i : Fin 4) (x : S1x256x2048.Idx) : (srcP i).view.emb x = ix3 i (x 1) (x 2) := slab_emb (inb i) x

theorem src_apart {i j : Fin 4} (h : i ≠ j) : Disjoint (srcP i).view.set (srcP j).view.set :=
  slices_apart (Memref.whole main_arg0) _ _ (fun _ => rfl) (fun _ => rfl) (slab_apart (fun e => h (Fin.ext e)) (inb i) (inb j))

theorem dst_emb (n : Dev nD) (i : Fin 4) (x : S1x256x2048.Idx) : (dstP n i).view.emb x = ix4 (slot n) i (x 1) (x 2) :=
  half_slab_emb (off_inb n i) _ x

theorem dst_apart (n : Dev nD) {i j : Fin 4} (h : i ≠ j) : Disjoint (dstP n i).view.set (dstP n j).view.set := by
  refine Finset.disjoint_left.mpr fun y hi hj => ?_
  obtain ⟨x, -, rfl⟩ := Finset.mem_map.mp hi
  obtain ⟨z, -, hz⟩ := Finset.mem_map.mp hj
  exact h (congrFun ((dst_emb n j z).symm.trans (hz.trans (dst_emb n i x))) 1).symm

theorem credit (o : Fin 4 → Nat) (h : ∀ a, o a + S1x1x256x2048.size a ≤ S2x4x256x2048.size a) (i : Fin 4) : (dstAt o h).view.dmaCredit = (srcP i).view.dmaCredit := rfl

theorem dst_cover (n : Dev nD) (x : S2x4x256x2048.Idx) (h : x 0 = slot n) : ∃ i, x ∈ (dstP n i).view.set := by
  refine ⟨x 1, Finset.mem_map.mpr ⟨ix3 0 (x 2) (x 3), Finset.mem_univ _, (dst_emb _ _ _).trans ?_⟩⟩
  funext a
  fin_cases a
  · exact h.symm
  · rfl
  · rfl
  · rfl

/-! ## The exchange -/

theorem inb4 (i : Fin 4) : ∀ a, (![i.val] : Fin 1 → Nat) a + S1.size a ≤ S4.size a := by revert i; decide

/-- Semaphore `i` of an array of four. -/
abbrev at4 (a : DmaSems sig S4) (i : Fin 4) : DmaSem sig := ((a.slice (Rect.unit (s := S4) ![i.val] S1.size (inb4 i))).squeeze S_ squeezes_S1_S_).sem

def sem : Wt (Fin 4) (Fin 0) → SemLoc sig
  | .inl i => .dma (at4 cc0_scratch0 i)
  | .inr (.inl i) => .dma (at4 cc0_scratch1 i)
  | .inr (.inr k) => k.elim0

theorem sem_inj : Function.Injective sem := by decide

def plan : Plan nD sig (Fin 4) (Fin 0) where
  sem := sem
  inj := sem_inj
  size i := (srcP i).view.dmaCredit
  size_pos i := (srcP i).view.dmaCredit_pos (by decide)
  copied k := k.elim0
  copied_pos k := k.elim0
  dest _ := mates

variable (m : (ℓ : Loc nD τ sig) → Buf (Elt F) ℓ) (ρ : Dev nD → PrngReg)

/-- What core `n` holds after the call. -/
abbrev landed (n : Dev nD) : S2x4x256x2048.Idx → Elt F .bf16 := bothSlabs n (m ((mate n : Thread nD τ).loc main_arg0)) (m ((n : Thread nD τ).loc main_v1))

def trade : Deal nD τ sig (Elt F) (Fin 4) where
  plan := plan
  a := main_arg0
  b := main_v1
  ne := by decide
  open_a := rfl
  open_b := rfl
  D _ i := (srcP i).view.set
  apartD _ _ _ h := src_apart h
  E n i := (dstP n i).view.set
  apartE n _ _ h := dst_apart n h
  m := m
  landed := landed m
  same n x h := by
    unfold landed bothSlabs
    rw [if_neg fun e => (dst_cover n x (Fin.ext e)).elim fun i hi => h i hi]

abbrev 𝒱₀ : Variants := Variants.none

theorem size_eq (i : Fin 4) : (trade m).plan.size i = (srcP i).view.dmaCredit := by
  delta trade plan; dsimp only

theorem came_amt (o : Fin 4 → Nat) (h : ∀ a, o a + S1x1x256x2048.size a ≤ S2x4x256x2048.size a) (i : Fin 4) : (dstAt o h).view.dmaCredit = (trade m).plan.amt (came i) :=
  (credit o h i).trans ((size_eq m i).symm.trans (amt_came _ i).symm)

theorem left_amt (i : Fin 4) : (srcP i).view.dmaCredit = (trade m).plan.amt (left i) :=
  (size_eq m i).symm.trans (amt_left _ i).symm

theorem arrives (c : Dev nD) (i : Fin 4) :
    ((dstP (mates c) i).view.loc ((mates c : Dev nD) : Thread nD τ) ↦[(dstP (mates c) i).view.set]{fullShare}
      ((dstP (mates c) i).view.write (Elt F) (m (((mates c : Dev nD) : Thread nD τ).loc main_v1)) ((srcP i).view.read (Elt F) (m ((c : Thread nD τ).loc main_arg0))) Finset.univ) : sProp 𝕄)
      ⊢ (trade m).got (mates c) i := by
  refine Entails.of_eq (pointsTo_congr fun y hy => ?_)
  obtain ⟨x, -, rfl⟩ := Finset.mem_map.mp hy
  refine ((dstP (mates c) i).view.write_emb_of_mem _ _ (Finset.mem_univ x)).trans ?_
  show m ((c : Thread nD τ).loc main_arg0) ((srcP i).view.emb x) = landed m (mate c) ((dstP (mate c) i).view.emb x)
  rw [src_emb, dst_emb]
  unfold landed bothSlabs
  rw [if_pos rfl, mate_mate]
  rfl

/-- Slab `i` sent. -/
theorem send {κ : Dev nD × Wt (Fin 4) (Fin 0) → ℕ} {c n : Dev nD} {i : Fin 4} {l : List (Fin 4)} {o : Fin 4 → Nat} {ho : ∀ a, o a + S1x1x256x2048.size a ≤ S2x4x256x2048.size a}
    (hn : n = mates c) (he : o = off (mate c) i) (hi : i ∉ l)
    {hsc : (dstAt o ho : Memref sig (Dev.tc n : Thread nD τ).2.kind .hbm S1x256x2048 .bf16).view.ref.isScScratch = false}
    {hsrc : (srcP i).view.WordExact} {hdst : (dstAt o ho : Memref sig (Dev.tc n : Thread nD τ).2.kind .hbm S1x256x2048 .bf16).view.WordExact}
    {hsem : DmaTarget.Typed .hbm (.dma (at4 cc0_scratch1 i)) (.remote (Dev.tc n : Thread nD τ) (dstAt o ho : Memref sig (Dev.tc n : Thread nD τ).2.kind .hbm S1x256x2048 .bf16) (.dma (at4 cc0_scratch0 i)) hsc)}
    {k : PUnit → Prog (TpuEff nD τ sig (Elt F) Λ₀ .tc) PUnit} (h : Sends (trade m) defs₀ 𝒱₀ κ c l (k ⟨⟩)) :
    Sends (trade m) defs₀ 𝒱₀ κ c (i :: l)
      (.op (.enqueueDma (srcP i) (.remote (Dev.tc n : Thread nD τ) (dstAt o ho) (.dma (at4 cc0_scratch0 i)) hsc) (.dma (at4 cc0_scratch1 i)) hsrc hdst hsem) k) := by
  subst hn; subst he
  exact Sends.step (trade m) 𝒱₀ κ c (src := srcP i) (dst := dstP (mates c) i) hi rfl rfl rfl (m _) (m _) rfl rfl (BI.Entails.refl _) (arrives m c i) (by routes) h

set_option maxRecDepth 65536 in
set_option maxHeartbeats 800000 in
/-- The body: four slabs sent, four awaited, four seen to have left. -/
theorem body (κ : Dev nD × Wt (Fin 4) (Fin 0) → ℕ) (c : Dev nD) :
    Sends (trade m) (defs₀ (F := F)) 𝒱₀ κ c [0, 1, 2, 3]
      (cc0_gather_w_out_cores (Memref.whole main_arg0) (Memref.isWhole_whole _) (Memref.whole main_v1) (Memref.isWhole_whole _) cc0_scratch0 cc0_scratch1 cc0_scratch2) := by
  intro Q
  rw [cc0_gather_w_out_cores_eq_skeleton]; unfold cc0_gather_w_out_cores_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  revert Q
  show Sends _ _ _ _ _ _ _
  refine send m (dev1 c) (off2 c) (by decide) ?_
  refine send m (dev1 c) (off3 c) (by decide) ?_
  refine send m (dev1 c) (off4 c) (by decide) ?_
  refine send m (dev1 c) (off5 c) (by decide) ?_
  refine Sends.done _ _ _ _ (l := [came 0, came 1, came 2, came 3, left 0, left 1, left 2, left 3]) (by decide) ?_
  iterate 4 refine Waits.step _ _ _ _ (by simp) rfl (came_amt m _ _ _) ?_
  iterate 4 refine Waits.step _ _ _ _ (by simp) rfl (left_amt m _) ?_
  exact Waits.done _ _ _ _

/-! ## The launch -/

def dats (_ : Fin 1) (c : Dev nD) : Dat τ (Elt F) Unit ℕ (UU nD τ sig) ℕ cfg0 c where
  A w := w.elim0
  after w := w.elim0
  Φ t := match t with
    | ⟨0, _⟩ => (trade m).before c
    | ⟨_ + 1, _⟩ => (trade m).after c
  q _ := fullShare
  owed t := match t with
    | ⟨0, _⟩ => O₀ plan c
    | ⟨_ + 1, _⟩ => 0

theorem body_obligation (c : Dev nD) : BodyObligationLoose (dats (F := F) m 0 c) (defs₀ (F := F)) 𝒱₀ () Set.univ := fun t => by
  rw [fin_N0 t]
  show iprop((trade m).before c ∗ (dats m 0 c).owesAt () t0_0.castSucc ∗ bigSep (Finset.univ : Finset (Fin 0)) _)
    ⊢ wp frame (wpE (defs₀ (F := F)) 𝒱₀ c none) Set.univ
      (cc0_gather_w_out_cores (Memref.whole main_arg0) (Memref.isWhole_whole _) (Memref.whole main_v1) (Memref.isWhole_whole _) cc0_scratch0 cc0_scratch1 cc0_scratch2)
      fun _ => iprop((trade m).after c ∗ (dats m 0 c).owesAt () t0_0.succ ∗ bigSep (Finset.univ : Finset (Fin 0)) _)
  exact obligation (trade m) 𝒱₀ c (by decide) (fun κ => body m κ c) (owed_of_within c _ _) (within_of_owed c _ _ fun _ => Or.inl trivial) (by rw [show (Finset.univ : Finset (Fin 0)) = ∅ from rfl, bigSep_none])

theorem ownSemFacts : Pipeline.OwnSemFacts cfg0.spec sem := by
  constructor <;> decide

/-- The contents of the arrays when the call returns. -/
def outs : Outs (F := F) := fun _ r c => Function.update (V0 m c) main_v1 (landed m c) r

theorem outs_landed (c : Dev nD) : outs m 1 main_v1 c = landed m c := by
  delta outs; exact Function.update_self ..

theorem V1_ends (c : Dev nD) : V1 m (outs m) c = (trade m).ends c :=
  congrArg (Function.update (V0 m c) (Proc.devRef .tc main_v1)) (outs_landed m c)

/-- Beside the arrays a core owes nothing. -/
abbrev rest (_ : Fin 2) (c : Dev nD) : sProp 𝕄 := iprop(∃ W, owes (c : Thread nD τ) (0 : CellTallies nD τ sig Unit) W)

/-- The operations after the call. -/
abbrev tail (c : Dev nD) : List (Seg (pcfgs (F := F)) (fun p => (cfgs p).toPCfg_adm) (dats m) () defs₀ 𝒱₀ Cert.Dealt.noL fun _ _ => 0) :=
  [.host (seg1 m (outs m) 𝒱₀ Cert.Dealt.noL (fun _ _ => 0) rest c), .host (seg2 m (outs m) 𝒱₀ Cert.Dealt.noL (fun _ _ => 0) rest)]

theorem main_tail (c : Dev nD) : main (F := F) c = .op (.customCall (Pipeline.entry 0) ()) fun _ => Pipeline.Seg.run (tail m c) := by
  rw [main_chain c]
  simp only [Pipeline.Seg.run_eq_chain]
  rfl

/-- At the end each core's own array is as before, its result is what the operations after the call make of what it then held, and all semaphores are zero. -/
theorem run_main : θ_run defs (onTc (τ := τ) (main (F := F))) ⟨m, fun _ => 0, ρ⟩ fun r =>
    (∀ c : Dev nD, r.2.mem ((c : Thread nD τ).loc main_v6) = V3 m (outs m) c main_v6 ∧ r.2.mem ((c : Thread nD τ).loc main_arg0) = m ((c : Thread nD τ).loc main_arg0))
      ∧ r.2.sem = fun _ => 0 :=
  (θ_run defs _ _).mono (fun _ h => ⟨fun c => ⟨h.1 c main_v6 rfl, (h.1 c main_arg0 rfl).trans (V3_main_arg0 m (outs m) c)⟩, h.2⟩)
    (Trade.run (trade m) pcfgs (fun p => (cfgs p).toPCfg_adm) (dats m) cellOf_inj defs₀ 𝒱₀ (p := 0) ρ main
      winFacts0.to₀ ownSemFacts (body_obligation m) Fin.isEmpty Fin.isEmpty
      (fun c => Pipeline.cellsWaits_intro cfgs (dats m) () 0 c (R := iprop(emp)) fun w => w.elim0)
      (tail m) (main_tail m) (fun _ => List.nodup_singleton _)
      (fun c => scopedRest0_eq c) (fun _ => rfl) (fun _ => rfl)
      (fun c => within_of_owed c _ _ fun _ => Or.inl trivial) (fun c => owed_of_within c _ _)
      (fun c => V3 m (outs m) c) (fun c => ⟨Entails.of_eq (by unfold Deal.finish; rw [← V1_ends]; rfl), BI.Entails.refl _, BI.Entails.refl _⟩) (by decide))

end Cert.WOutPair
-- ==== Proof.WOutPairClaims.lean ====
/-
  The claims about the exchange by which both cores of a chip come to hold both halves of the w_out parameter.
-/
module

public import proofs.«01_k».proof.Defs
public import proofs.«01_k».proof.Proof.WOutPair
public import proofs.«01_k».proof.Proof.Gen.WOutPair
public import proofs.«01_k».proof.Proof.Gen.WOutPairReferenceIdeal
public import proofs.«01_k».proof.Proof.Gen.WOutPairReferenceIdeal.Run
public import Idealize.ShloMosaic.Lib.Pointwise
public import Idealize.ShloMosaic.Lib.Quiescent
public import Idealize.ShloMosaic.Lib.WordCmp

@[expose] public section

noncomputable section

namespace Cert.WOutPair

open Cert.Blocks Cert.Trade Cert.Halves
open Idealize.ShloMosaic Idealize.ShloMosaic.TcCoe Idealize.SL.Sem

theorem frame_kernel : Cert.quiescent_WOutPair := fun m ρ _ =>
  (θ_run Cert.WOutPairIdeal.defs _ _).mono (fun _ h => ⟨fun c => (h.1 c).2, h.2⟩) (run_main (F := Bits) m ρ)

theorem frame_ideal : Cert.quiescent_WOutPairIdeal := fun m ρ _ =>
  (θ_run Cert.WOutPairIdeal.defs _ _).mono (fun _ h => ⟨fun c => (h.1 c).2, h.2⟩) (run_main (F := Ideal) m ρ)

theorem frame_reference : Cert.quiescent_WOutPairReferenceIdeal := fun m ρ _ =>
  (θ_run Cert.WOutPairReferenceIdeal.defs _ _).mono (fun r h => ⟨fun c => (h c).2, sem_eq_zero_of_no_sems (by decide) r.2⟩) (Cert.WOutPairReferenceIdeal.Value.run m ρ)

/-! ## The operations after the call -/

section Tail

open Cert.WOutPairIdeal Cert.WOutPairIdeal.Gen

variable {F : FTy → Type} [FloatOps F]
variable (m : (ℓ : Loc nD τ sig) → Buf (Elt F) ℓ)

/-- The last operation puts a core's own array in its half. -/
theorem put (c : Dev nD) (W : Valuation τ sig (Elt F)) (h0 : BitVec.toInt (W main_call0_v3 (Shape.Idx.first h_S_)) = ((c.val % 2 : Nat) : Int))
    (h1 : BitVec.toInt (W main_call0_c_1 (Shape.Idx.first h_S_)) = 0) (h2 : BitVec.toInt (W main_call0_c_2 (Shape.Idx.first h_S_)) = 0)
    (h3 : BitVec.toInt (W main_call0_c_3 (Shape.Idx.first h_S_)) = 0) :
    StableHlo.after (hostOps1_1.drop 9) W main_v6 = updateSlice (s := S2x4x256x2048) (u := S1x4x256x2048) (W main_v1) (W main_call0_v0) ![c.val % 2, 0, 0, 0] (fitsSlabs c) := by
  simp only [List.drop]
  after_results
  simp only [StableHlo.TRef.toBuf, StableHlo.TRef.ofBuf, cast_eq]
  refine WordCmp.dynamicUpdateSlice_eq_update _ _ _ _ _ (fitsSlabs c) fun a => ?_
  fin_cases a
  · exact h0
  · exact h1
  · exact h2
  · exact h3

/-- The arrays before the last operation. -/
abbrev mid (c : Dev nD) (v : Valuation τ sig (Elt F)) : Valuation τ sig (Elt F) := StableHlo.after (hostOps1_1.take 9) (StableHlo.after (hostOps1 c) v)

theorem mid_v3 (c : Dev nD) (v : Valuation τ sig (Elt F)) : BitVec.toInt (mid c v main_call0_v3 (Shape.Idx.first h_S_)) = ((c.val % 2 : Nat) : Int) := by
  unfold mid
  simp only [List.take]
  after_results
  simp only [StableHlo.TRef.toBuf, StableHlo.TRef.ofBuf, cast_eq, id]
  exact slot_word c _

theorem mid_c1 (c : Dev nD) (v : Valuation τ sig (Elt F)) : BitVec.toInt (mid c v main_call0_c_1 (Shape.Idx.first h_S_)) = 0 := by
  unfold mid
  simp only [List.take]
  after_results
  rfl

theorem mid_c2 (c : Dev nD) (v : Valuation τ sig (Elt F)) : BitVec.toInt (mid c v main_call0_c_2 (Shape.Idx.first h_S_)) = 0 := by
  unfold mid
  simp only [List.take]
  after_results
  rfl

theorem mid_c3 (c : Dev nD) (v : Valuation τ sig (Elt F)) : BitVec.toInt (mid c v main_call0_c_3 (Shape.Idx.first h_S_)) = 0 := by
  unfold mid
  simp only [List.take]
  after_results
  rfl

theorem mid_v1 (c : Dev nD) (v : Valuation τ sig (Elt F)) : mid c v main_v1 = v main_v1 := by
  unfold mid
  simp only [List.take]
  after_results

theorem mid_v0 (c : Dev nD) (v : Valuation τ sig (Elt F)) : mid c v main_call0_v0 = broadcastInDim S1x4x256x2048 ![1, 2, 3] bcast_S4x256x2048_S1x4x256x2048_1_2_3 (v main_arg0) := by
  unfold mid
  simp only [List.take]
  after_results
  rfl

theorem V3_v6 (c : Dev nD) : V3 m (outs m) c main_v6 = updateSlice (s := S2x4x256x2048) (u := S1x4x256x2048) (landed m c) (broadcastInDim S1x4x256x2048 ![1, 2, 3] bcast_S4x256x2048_S1x4x256x2048_1_2_3 (m ((c : Thread nD τ).loc main_arg0))) ![c.val % 2, 0, 0, 0] (fitsSlabs c) := by
  have e1 : V1 m (outs m) c main_v1 = landed m c := (congrFun (V1_ends m c) _).trans (ends_b (trade m) c)
  have e0 : V1 m (outs m) c main_arg0 = m ((c : Thread nD τ).loc main_arg0) := V1_of m (outs m) c main_arg0 (by decide)
  have e : V3 m (outs m) c = StableHlo.after (hostOps1_1.drop 9) (mid c (V1 m (outs m) c)) :=
    after_split hostOps1_1 9 _
  refine (congrFun e main_v6).trans ((put c (mid c _) (mid_v3 c _) (mid_c1 c _) (mid_c2 c _) (mid_c3 c _)).trans ?_)
  rw [mid_v1, mid_v0, e1, e0]

end Tail

/-! ## The value -/

section Value

open Cert.WOutPairReferenceIdeal Cert.WOutPairReferenceIdeal.Gen

variable {α : Type}

/-- The reference's result from its argument. -/
def stacked (x : S32x256x2048.Idx → α) : S16x4x256x2048.Idx → α :=
  shapeCast _ (broadcastInDim S4x2x2x4x256x2048 ![0, 1, 2, 3, 4, 5] bcast_S4x1x2x4x256x2048_S4x2x2x4x256x2048_0_1_2_3_4_5 (shapeCast _ x shapeCasts_S32x256x2048_S4x1x2x4x256x2048)) shapeCasts_S4x2x2x4x256x2048_S16x4x256x2048

theorem stacked_at (x : S32x256x2048.Idx → α) (j : S16x4x256x2048.Idx) (k : S32x256x2048.Idx)
    (h0 : (k 0).val = 4 * (2 * ((j 0).val / 4) + (j 0).val % 2) + (j 1).val) (h1 : (k 1).val = (j 2).val) (h2 : (k 2).val = (j 3).val) : stacked x j = x k := by
  unfold stacked
  pointwise
  have hj : (j 0).val < 16 := (j 0).isLt
  refine congrArg x (funext fun a => Fin.ext ?_)
  fin_cases a
  · show _ = (k 0).val; simp; omega
  · exact h1.symm
  · exact h2.symm

end Value

/-- What a core holds in the end is its block of the reference's result. -/
theorem result_eq (m : (ℓ : Loc Cert.WOutPairIdeal.nD Cert.WOutPairIdeal.τ Cert.WOutPairIdeal.sig) → Buf (Elt Ideal) ℓ) (x : Cert.WOutPairReferenceIdeal.S32x256x2048.Idx → Elt Ideal .bf16)
    (h : ∀ c : Dev Cert.WOutPairIdeal.nD, m ((c : Thread Cert.WOutPairIdeal.nD Cert.WOutPairIdeal.τ).loc Cert.WOutPairIdeal.main_arg0) = Layout.block ⟨3, ![4, 256, 2048]⟩ ⟨3, ![32, 256, 2048]⟩ 0 8 c x)
    (c : Dev Cert.WOutPairIdeal.nD) : Cert.WOutPairIdeal.Gen.V3 m (outs m) c Cert.WOutPairIdeal.main_v6 = Layout.block ⟨4, ![2, 4, 256, 2048]⟩ ⟨4, ![16, 4, 256, 2048]⟩ 0 8 c (stacked x) :=
  (V3_v6 m c).trans (pair_eq_slabs _ _ (fun d => m ((d : Thread Cert.WOutPairIdeal.nD Cert.WOutPairIdeal.τ).loc Cert.WOutPairIdeal.main_arg0)) x (stacked x) h (stacked_at x) c _ _)

theorem algebraic : Cert.algebraic_WOutPairIdeal_WOutPairReferenceIdeal := fun m ρ m' ρ' _ h =>
  ⟨stacked (m' (((0 : Dev Cert.WOutPairReferenceIdeal.nD) : Thread Cert.WOutPairReferenceIdeal.nD Cert.WOutPairReferenceIdeal.τ).loc Cert.WOutPairReferenceIdeal.main_arg0)),
    (θ_run Cert.WOutPairIdeal.defs _ _).mono (fun _ hr c => ⟨((hr.1 c).1).trans (result_eq m _ h c), (hr.1 c).2⟩) (run_main (F := Ideal) m ρ),
    (θ_run Cert.WOutPairReferenceIdeal.defs _ _).mono (fun _ hr => ⟨(hr 0).1, (hr 0).2⟩) (Cert.WOutPairReferenceIdeal.Value.run m' ρ')⟩

end Cert.WOutPair
-- ==== Proof.WInShare.lean ====
/-
  The exchange by which each core of a chip comes to hold both cores' halves of the w_in gradient's share, from the
  launch: every run ends with each core's own array unchanged, every semaphore at zero, and the result being
  what the operations after the call make of the pair.
-/
module

public import proofs.«01_k».proof.Proof.Halves
public import proofs.«01_k».proof.Proof.Gen.WInShareIdeal
public import proofs.«01_k».proof.Proof.Gen.WInShareIdeal.Skeleton
public import proofs.«01_k».proof.Proof.Gen.WInShareIdeal.Launch
public import proofs.«01_k».proof.Proof.Gen.WInShareIdeal.Regions
public import Idealize.ShloMosaic.Lib.ValueLayout

@[expose] public section

set_option Elab.async false

noncomputable section

namespace Cert.WInShare

open Idealize.ShloMosaic.ValueIdx
open Cert.WInShareIdeal Cert.WInShareIdeal.Gen Cert.Exchange Cert.Trade Cert.Halves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg BodyObligationLoose cellOf)

variable {F : FTy → Type} [FloatOps F]

local notation "𝕄" => MT nD τ sig Unit (Elt F) ℕ (UU nD τ sig) ℕ

theorem dev1 : ∀ c : Dev nD, (⟨k0_dev1 c, k0_dev1_lt c⟩ : Dev nD) = mates c := by decide +kernel

/-! ## The pieces -/

theorem inb (i : Fin 8) : ∀ a, (![128 * i.val, 0] : Fin 2 → Nat) a + S128x2084.size a ≤ S1024x2084.size a := by revert i; decide

/-- Piece `i` of the array a core sends. -/
abbrev srcP (i : Fin 8) : Memref sig .tc .hbm S128x2084 .f32 :=
  (Memref.whole main_arg0).slice (Rect.unit (s := S1024x2084) ![128 * i.val, 0] S128x2084.size (inb i)) (fun _ => rfl)

/-- Where the half that the other core fills starts. -/
abbrev off (n : Dev nD) : Fin 3 → Nat := ![(slot n).val, 0, 0]

theorem off_inb (n : Dev nD) : ∀ a, off n a + S1x1024x2084.size a ≤ S2x1024x2084.size a := by revert n; decide

abbrev dstH (o : Fin 3 → Nat) (h : ∀ a, o a + S1x1024x2084.size a ≤ S2x1024x2084.size a) : Memref sig .tc .hbm S1024x2084 .f32 :=
  ((Memref.whole main_v1).slice (Rect.unit (s := S2x1024x2084) o S1x1024x2084.size h) (fun _ => rfl)).squeeze S1024x2084 squeezes_S1x1024x2084_S1024x2084

abbrev dstAt (o : Fin 3 → Nat) (h : ∀ a, o a + S1x1024x2084.size a ≤ S2x1024x2084.size a) (i : Fin 8) : Memref sig .tc .hbm S128x2084 .f32 :=
  (dstH o h).slice (Rect.unit (s := S1024x2084) ![128 * i.val, 0] S128x2084.size (inb i)) (fun _ => rfl)

abbrev dstP (n : Dev nD) (i : Fin 8) : Memref sig .tc .hbm S128x2084 .f32 := dstAt (off n) (off_inb n) i

theorem off1 (c : Dev nD) : k0_off1 c = off (mate c) := by revert c; decide +kernel

/-- Row `r` of piece `i`. -/
abbrev row (i : Fin 8) (r : Fin 128) : Fin 1024 := ⟨128 * i.val + r.val, by omega⟩

theorem src_emb (i : Fin 8) (x : S128x2084.Idx) : (srcP i).view.emb x = ix2 (row i (x 0)) (x 1) := piece_emb (inb i) x

theorem dst_emb (n : Dev nD) (i : Fin 8) (x : S128x2084.Idx) :
    (dstP n i).view.emb x = ix3 (slot n) (row i (x 0)) (x 1) := by
  show (Rect.unit (s := S2x1024x2084) (off n) S1x1024x2084.size (off_inb n)).emb
    (Shape.reshapeEquiv _ ((Rect.unit (s := S1024x2084) ![128 * i.val, 0] S128x2084.size (inb i)).emb x)) = _
  exact (congrArg (fun z => (Rect.unit (s := S2x1024x2084) (off n) S1x1024x2084.size (off_inb n)).emb (Shape.reshapeEquiv _ z)) (piece_emb (inb i) x)).trans (half_emb (off_inb n) _ _ _)

theorem pieces_apart {i j : Fin 8} (h : i ≠ j) :
    Disjoint (Rect.unit (s := S1024x2084) ![128 * i.val, 0] S128x2084.size (inb i)).set (Rect.unit (s := S1024x2084) ![128 * j.val, 0] S128x2084.size (inb j)).set :=
  piece_apart (fun e => h (Fin.ext e)) (inb i) (inb j)

theorem dst_apart (n : Dev nD) {i j : Fin 8} (h : i ≠ j) : Disjoint (dstP n i).view.set (dstP n j).view.set :=
  slices_apart (dstH (off n) (off_inb n)) _ _ (fun _ => rfl) (fun _ => rfl) (pieces_apart h)

theorem credit (o : Fin 3 → Nat) (h : ∀ a, o a + S1x1024x2084.size a ≤ S2x1024x2084.size a) (i : Fin 8) : (dstAt o h i).view.dmaCredit = (srcP i).view.dmaCredit := rfl

theorem row_split (r : Fin 1024) : ∃ i j, row i j = r :=
  ⟨⟨r.val / 128, by omega⟩, ⟨r.val % 128, by omega⟩, Fin.ext (Nat.div_add_mod _ _)⟩

theorem dst_cover (n : Dev nD) (x : S2x1024x2084.Idx) (h : x 0 = slot n) : ∃ i, x ∈ (dstP n i).view.set := by
  obtain ⟨i, j, e⟩ := row_split (x 1)
  refine ⟨i, Finset.mem_map.mpr ⟨ix2 j (x 2), Finset.mem_univ _, (dst_emb _ _ _).trans ?_⟩⟩
  funext a
  fin_cases a
  · exact h.symm
  · exact e
  · rfl

/-! ## The exchange -/

theorem inb8 (i : Fin 8) : ∀ a, (![i.val] : Fin 1 → Nat) a + S1.size a ≤ S8.size a := by revert i; decide

/-- Semaphore `i` of an array of eight. -/
abbrev at8 (a : DmaSems sig S8) (i : Fin 8) : DmaSem sig := ((a.slice (Rect.unit (s := S8) ![i.val] S1.size (inb8 i))).squeeze S_ squeezes_S1_S_).sem

def sem : Wt (Fin 8) (Fin 0) → SemLoc sig
  | .inl i => .dma (at8 cc0_scratch0 i)
  | .inr (.inl i) => .dma (at8 cc0_scratch1 i)
  | .inr (.inr k) => k.elim0

theorem sem_inj : Function.Injective sem := by decide

def plan : Plan nD sig (Fin 8) (Fin 0) where
  sem := sem
  inj := sem_inj
  size i := (srcP i).view.dmaCredit
  size_pos i := (srcP i).view.dmaCredit_pos (by decide)
  copied k := k.elim0
  copied_pos k := k.elim0
  dest _ := mates

variable (m : (ℓ : Loc nD τ sig) → Buf (Elt F) ℓ) (ρ : Dev nD → PrngReg)

/-- What core `n` holds after the call. -/
abbrev landed (n : Dev nD) : S2x1024x2084.Idx → Elt F .f32 := both n (m ((mate n : Thread nD τ).loc main_arg0)) (m ((n : Thread nD τ).loc main_v1))

def trade : Deal nD τ sig (Elt F) (Fin 8) where
  plan := plan
  a := main_arg0
  b := main_v1
  ne := by decide
  open_a := rfl
  open_b := rfl
  D _ i := (srcP i).view.set
  apartD _ _ _ h := slices_apart _ _ _ _ _ (pieces_apart h)
  E n i := (dstP n i).view.set
  apartE n _ _ h := dst_apart n h
  m := m
  landed := landed m
  same n x h := by
    unfold landed both
    rw [if_neg fun e => (dst_cover n x (Fin.ext e)).elim fun i hi => h i hi]

abbrev 𝒱₀ : Variants := Variants.none

theorem size_eq (i : Fin 8) : (trade m).plan.size i = (srcP i).view.dmaCredit := by
  delta trade plan; dsimp only

theorem came_amt (o : Fin 3 → Nat) (h : ∀ a, o a + S1x1024x2084.size a ≤ S2x1024x2084.size a) (i : Fin 8) : (dstAt o h i).view.dmaCredit = (trade m).plan.amt (came i) :=
  (credit o h i).trans ((size_eq m i).symm.trans (amt_came _ i).symm)

theorem left_amt (i : Fin 8) : (srcP i).view.dmaCredit = (trade m).plan.amt (left i) :=
  (size_eq m i).symm.trans (amt_left _ i).symm

theorem arrives (c : Dev nD) (i : Fin 8) :
    ((dstP (mates c) i).view.loc ((mates c : Dev nD) : Thread nD τ) ↦[(dstP (mates c) i).view.set]{fullShare}
      ((dstP (mates c) i).view.write (Elt F) (m (((mates c : Dev nD) : Thread nD τ).loc main_v1)) ((srcP i).view.read (Elt F) (m ((c : Thread nD τ).loc main_arg0))) Finset.univ) : sProp 𝕄)
      ⊢ (trade m).got (mates c) i := by
  refine Entails.of_eq (pointsTo_congr fun y hy => ?_)
  obtain ⟨x, -, rfl⟩ := Finset.mem_map.mp hy
  refine ((dstP (mates c) i).view.write_emb_of_mem _ _ (Finset.mem_univ x)).trans ?_
  show m ((c : Thread nD τ).loc main_arg0) ((srcP i).view.emb x) = landed m (mate c) ((dstP (mate c) i).view.emb x)
  rw [src_emb, dst_emb]
  unfold landed both
  rw [if_pos rfl, mate_mate]
  rfl

/-- Piece `i` sent. -/
theorem send {κ : Dev nD × Wt (Fin 8) (Fin 0) → ℕ} {c n : Dev nD} {i : Fin 8} {l : List (Fin 8)} {o : Fin 3 → Nat} {ho : ∀ a, o a + S1x1024x2084.size a ≤ S2x1024x2084.size a}
    (hn : n = mates c) (he : o = off (mate c)) (hi : i ∉ l)
    {hsc : (dstAt o ho i : Memref sig (Dev.tc n : Thread nD τ).2.kind .hbm S128x2084 .f32).view.ref.isScScratch = false}
    {hsrc : (srcP i).view.WordExact} {hdst : (dstAt o ho i : Memref sig (Dev.tc n : Thread nD τ).2.kind .hbm S128x2084 .f32).view.WordExact}
    {hsem : DmaTarget.Typed .hbm (.dma (at8 cc0_scratch1 i)) (.remote (Dev.tc n : Thread nD τ) (dstAt o ho i : Memref sig (Dev.tc n : Thread nD τ).2.kind .hbm S128x2084 .f32) (.dma (at8 cc0_scratch0 i)) hsc)}
    {k : PUnit → Prog (TpuEff nD τ sig (Elt F) Λ₀ .tc) PUnit} (h : Sends (trade m) defs₀ 𝒱₀ κ c l (k ⟨⟩)) :
    Sends (trade m) defs₀ 𝒱₀ κ c (i :: l)
      (.op (.enqueueDma (srcP i) (.remote (Dev.tc n : Thread nD τ) (dstAt o ho i) (.dma (at8 cc0_scratch0 i)) hsc) (.dma (at8 cc0_scratch1 i)) hsrc hdst hsem) k) := by
  subst hn; subst he
  exact Sends.step (trade m) 𝒱₀ κ c (src := srcP i) (dst := dstP (mates c) i) hi rfl rfl rfl (m _) (m _) rfl rfl (BI.Entails.refl _) (arrives m c i) (by routes) h

set_option maxRecDepth 65536 in
set_option maxHeartbeats 800000 in
/-- The body: eight pieces sent, eight awaited, eight seen to have left. -/
theorem body (κ : Dev nD × Wt (Fin 8) (Fin 0) → ℕ) (c : Dev nD) :
    Sends (trade m) (defs₀ (F := F)) 𝒱₀ κ c [0, 1, 2, 3, 4, 5, 6, 7]
      (cc0_rs_w_in_cores (Memref.whole main_arg0) (Memref.isWhole_whole _) (Memref.whole main_v1) (Memref.isWhole_whole _) cc0_scratch0 cc0_scratch1 cc0_scratch2) := by
  intro Q
  rw [cc0_rs_w_in_cores_eq_skeleton]; unfold cc0_rs_w_in_cores_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [Prog.lift, Prog.bind_op, Prog.bind_ret, Prog.pure_eq_ret, wp_deviceId]
  revert Q
  show Sends _ _ _ _ _ _ _
  iterate 8 refine send m (dev1 c) (off1 c) (by decide) ?_
  refine Sends.done _ _ _ _ (l := [came 0, came 1, came 2, came 3, came 4, came 5, came 6, came 7, left 0, left 1, left 2, left 3, left 4, left 5, left 6, left 7]) (by decide) ?_
  iterate 8 refine Waits.step _ _ _ _ (by simp) rfl (came_amt m _ _ _) ?_
  iterate 8 refine Waits.step _ _ _ _ (by simp) rfl (left_amt m _) ?_
  exact Waits.done _ _ _ _

/-! ## The launch -/

def dats (_ : Fin 1) (c : Dev nD) : Dat τ (Elt F) Unit ℕ (UU nD τ sig) ℕ cfg0 c where
  A w := w.elim0
  after w := w.elim0
  Φ t := match t with
    | ⟨0, _⟩ => (trade m).before c
    | ⟨_ + 1, _⟩ => (trade m).after c
  q _ := fullShare
  owed t := match t with
    | ⟨0, _⟩ => O₀ plan c
    | ⟨_ + 1, _⟩ => 0

theorem body_obligation (c : Dev nD) : BodyObligationLoose (dats (F := F) m 0 c) (defs₀ (F := F)) 𝒱₀ () Set.univ := fun t => by
  rw [fin_N0 t]
  show iprop((trade m).before c ∗ (dats m 0 c).owesAt () t0_0.castSucc ∗ bigSep (Finset.univ : Finset (Fin 0)) _)
    ⊢ wp frame (wpE (defs₀ (F := F)) 𝒱₀ c none) Set.univ
      (cc0_rs_w_in_cores (Memref.whole main_arg0) (Memref.isWhole_whole _) (Memref.whole main_v1) (Memref.isWhole_whole _) cc0_scratch0 cc0_scratch1 cc0_scratch2)
      fun _ => iprop((trade m).after c ∗ (dats m 0 c).owesAt () t0_0.succ ∗ bigSep (Finset.univ : Finset (Fin 0)) _)
  exact obligation (trade m) 𝒱₀ c (by decide) (fun κ => body m κ c) (owed_of_within c _ _) (within_of_owed c _ _ fun _ => Or.inl trivial) (by rw [show (Finset.univ : Finset (Fin 0)) = ∅ from rfl, bigSep_none])

theorem ownSemFacts : Pipeline.OwnSemFacts cfg0.spec sem := by
  constructor <;> decide

/-- The contents of the arrays when the call returns. -/
def outs : Outs (F := F) := fun _ r c => Function.update (V0 m c) main_v1 (landed m c) r

theorem outs_landed (c : Dev nD) : outs m 1 main_v1 c = landed m c := by
  delta outs; exact Function.update_self ..

theorem V1_ends (c : Dev nD) : V1 m (outs m) c = (trade m).ends c :=
  congrArg (Function.update (V0 m c) (Proc.devRef .tc main_v1)) (outs_landed m c)

/-- Beside the arrays a core owes nothing. -/
abbrev rest (_ : Fin 2) (c : Dev nD) : sProp 𝕄 := iprop(∃ W, owes (c : Thread nD τ) (0 : CellTallies nD τ sig Unit) W)

/-- The operations after the call. -/
abbrev tail (c : Dev nD) : List (Seg (pcfgs (F := F)) (fun p => (cfgs p).toPCfg_adm) (dats m) () defs₀ 𝒱₀ Cert.Dealt.noL fun _ _ => 0) :=
  [.host (seg1 m (outs m) 𝒱₀ Cert.Dealt.noL (fun _ _ => 0) rest c), .host (seg2 m (outs m) 𝒱₀ Cert.Dealt.noL (fun _ _ => 0) rest)]

theorem main_tail (c : Dev nD) : main (F := F) c = .op (.customCall (Pipeline.entry 0) ()) fun _ => Pipeline.Seg.run (tail m c) := by
  rw [main_chain c]
  simp only [Pipeline.Seg.run_eq_chain]
  rfl

/-- At the end each core's own array is as before, its result is what the operations after the call make of what it then held, and all semaphores are zero. -/
theorem run_main : θ_run defs (onTc (τ := τ) (main (F := F))) ⟨m, fun _ => 0, ρ⟩ fun r =>
    (∀ c : Dev nD, r.2.mem ((c : Thread nD τ).loc main_v6) = V3 m (outs m) c main_v6 ∧ r.2.mem ((c : Thread nD τ).loc main_arg0) = m ((c : Thread nD τ).loc main_arg0))
      ∧ r.2.sem = fun _ => 0 :=
  (θ_run defs _ _).mono (fun _ h => ⟨fun c => ⟨h.1 c main_v6 rfl, (h.1 c main_arg0 rfl).trans (V3_main_arg0 m (outs m) c)⟩, h.2⟩)
    (Trade.run (trade m) pcfgs (fun p => (cfgs p).toPCfg_adm) (dats m) cellOf_inj defs₀ 𝒱₀ (p := 0) ρ main
      winFacts0.to₀ ownSemFacts (body_obligation m) Fin.isEmpty Fin.isEmpty
      (fun c => Pipeline.cellsWaits_intro cfgs (dats m) () 0 c (R := iprop(emp)) fun w => w.elim0)
      (tail m) (main_tail m) (fun _ => List.nodup_singleton _)
      (fun c => scopedRest0_eq c) (fun _ => rfl) (fun _ => rfl)
      (fun c => within_of_owed c _ _ fun _ => Or.inl trivial) (fun c => owed_of_within c _ _)
      (fun c => V3 m (outs m) c) (fun c => ⟨Entails.of_eq (by unfold Deal.finish; rw [← V1_ends]; rfl), BI.Entails.refl _, BI.Entails.refl _⟩) (by decide))

end Cert.WInShare
-- ==== Proof.WInShareClaims.lean ====
/-
  The claims about the exchange by which both cores of a chip come to hold both halves of the w_in gradient's share.
-/
module

public import proofs.«01_k».proof.Defs
public import proofs.«01_k».proof.Proof.WInShare
public import proofs.«01_k».proof.Proof.Gen.WInShare
public import proofs.«01_k».proof.Proof.Gen.WInShareReferenceIdeal
public import proofs.«01_k».proof.Proof.Gen.WInShareReferenceIdeal.Run
public import Idealize.ShloMosaic.Lib.Pointwise
public import Idealize.ShloMosaic.Lib.Quiescent
public import Idealize.ShloMosaic.Lib.WordCmp

@[expose] public section

noncomputable section

namespace Cert.WInShare

open Cert.Blocks Cert.Trade Cert.Halves
open Idealize.ShloMosaic Idealize.ShloMosaic.TcCoe Idealize.SL.Sem

theorem frame_kernel : Cert.quiescent_WInShare := fun m ρ _ =>
  (θ_run Cert.WInShareIdeal.defs _ _).mono (fun _ h => ⟨fun c => (h.1 c).2, h.2⟩) (run_main (F := Bits) m ρ)

theorem frame_ideal : Cert.quiescent_WInShareIdeal := fun m ρ _ =>
  (θ_run Cert.WInShareIdeal.defs _ _).mono (fun _ h => ⟨fun c => (h.1 c).2, h.2⟩) (run_main (F := Ideal) m ρ)

theorem frame_reference : Cert.quiescent_WInShareReferenceIdeal := fun m ρ _ =>
  (θ_run Cert.WInShareReferenceIdeal.defs _ _).mono (fun r h => ⟨fun c => (h c).2, sem_eq_zero_of_no_sems (by decide) r.2⟩) (Cert.WInShareReferenceIdeal.Value.run m ρ)

/-! ## The operations after the call -/

section Tail

open Cert.WInShareIdeal Cert.WInShareIdeal.Gen

variable {F : FTy → Type} [FloatOps F]
variable (m : (ℓ : Loc nD τ sig) → Buf (Elt F) ℓ)

/-- The last operation puts a core's own array in its half. -/
theorem put (c : Dev nD) (W : Valuation τ sig (Elt F)) (h0 : BitVec.toInt (W main_call0_v3 (Shape.Idx.first h_S_)) = ((c.val % 2 : Nat) : Int))
    (h1 : BitVec.toInt (W main_call0_c_1 (Shape.Idx.first h_S_)) = 0) (h2 : BitVec.toInt (W main_call0_c_2 (Shape.Idx.first h_S_)) = 0) :
    StableHlo.after (hostOps1_1.drop 8) W main_v6 = updateSlice (s := S2x1024x2084) (u := S1x1024x2084) (W main_v1) (W main_call0_v0) ![c.val % 2, 0, 0] (fits c) := by
  simp only [List.drop]
  after_results
  simp only [StableHlo.TRef.toBuf, StableHlo.TRef.ofBuf, cast_eq]
  refine WordCmp.dynamicUpdateSlice_eq_update _ _ _ _ _ (fits c) fun a => ?_
  fin_cases a
  · exact h0
  · exact h1
  · exact h2

/-- The arrays before the last operation. -/
abbrev mid (c : Dev nD) (v : Valuation τ sig (Elt F)) : Valuation τ sig (Elt F) := StableHlo.after (hostOps1_1.take 8) (StableHlo.after (hostOps1 c) v)

theorem mid_v3 (c : Dev nD) (v : Valuation τ sig (Elt F)) : BitVec.toInt (mid c v main_call0_v3 (Shape.Idx.first h_S_)) = ((c.val % 2 : Nat) : Int) := by
  unfold mid
  simp only [List.take]
  after_results
  simp only [StableHlo.TRef.toBuf, StableHlo.TRef.ofBuf, cast_eq, id]
  exact slot_word c _

theorem mid_c1 (c : Dev nD) (v : Valuation τ sig (Elt F)) : BitVec.toInt (mid c v main_call0_c_1 (Shape.Idx.first h_S_)) = 0 := by
  unfold mid
  simp only [List.take]
  after_results
  rfl

theorem mid_c2 (c : Dev nD) (v : Valuation τ sig (Elt F)) : BitVec.toInt (mid c v main_call0_c_2 (Shape.Idx.first h_S_)) = 0 := by
  unfold mid
  simp only [List.take]
  after_results
  rfl

theorem mid_v1 (c : Dev nD) (v : Valuation τ sig (Elt F)) : mid c v main_v1 = v main_v1 := by
  unfold mid
  simp only [List.take]
  after_results

theorem mid_v0 (c : Dev nD) (v : Valuation τ sig (Elt F)) : mid c v main_call0_v0 = broadcastInDim S1x1024x2084 ![1, 2] bcast_S1024x2084_S1x1024x2084_1_2 (v main_arg0) := by
  unfold mid
  simp only [List.take]
  after_results
  rfl

theorem V3_v6 (c : Dev nD) : V3 m (outs m) c main_v6 = updateSlice (s := S2x1024x2084) (u := S1x1024x2084) (landed m c) (broadcastInDim S1x1024x2084 ![1, 2] bcast_S1024x2084_S1x1024x2084_1_2 (m ((c : Thread nD τ).loc main_arg0))) ![c.val % 2, 0, 0] (fits c) := by
  have e1 : V1 m (outs m) c main_v1 = landed m c := (congrFun (V1_ends m c) _).trans (ends_b (trade m) c)
  have e0 : V1 m (outs m) c main_arg0 = m ((c : Thread nD τ).loc main_arg0) := V1_of m (outs m) c main_arg0 (by decide)
  have e : V3 m (outs m) c = StableHlo.after (hostOps1_1.drop 8) (mid c (V1 m (outs m) c)) :=
    after_split hostOps1_1 8 _
  refine (congrFun e main_v6).trans ((put c (mid c _) (mid_v3 c _) (mid_c1 c _) (mid_c2 c _)).trans ?_)
  rw [mid_v1, mid_v0, e1, e0]

end Tail

/-! ## The value -/

section Value

open Cert.WInShareReferenceIdeal Cert.WInShareReferenceIdeal.Gen

variable {α : Type}

/-- The reference's result from its argument. -/
def stacked (x : S8192x2084.Idx → α) : S16x1024x2084.Idx → α :=
  shapeCast _ (broadcastInDim S4x2x2x1024x2084 ![0, 1, 2, 3, 4] bcast_S4x1x2x1024x2084_S4x2x2x1024x2084_0_1_2_3_4 (shapeCast _ x shapeCasts_S8192x2084_S4x1x2x1024x2084)) shapeCasts_S4x2x2x1024x2084_S16x1024x2084

theorem stacked_at (x : S8192x2084.Idx → α) (j : S16x1024x2084.Idx) (k : S8192x2084.Idx)
    (h0 : (k 0).val = 1024 * (2 * ((j 0).val / 4) + (j 0).val % 2) + (j 1).val) (h1 : (k 1).val = (j 2).val) : stacked x j = x k := by
  unfold stacked
  pointwise
  have hj : (j 0).val < 16 := (j 0).isLt
  refine congrArg x (funext fun a => Fin.ext ?_)
  fin_cases a
  · show _ = (k 0).val; simp; omega
  · exact h1.symm

end Value

/-- What a core holds in the end is its block of the reference's result. -/
theorem result_eq (m : (ℓ : Loc Cert.WInShareIdeal.nD Cert.WInShareIdeal.τ Cert.WInShareIdeal.sig) → Buf (Elt Ideal) ℓ) (x : Cert.WInShareReferenceIdeal.S8192x2084.Idx → Elt Ideal .f32)
    (h : ∀ c : Dev Cert.WInShareIdeal.nD, m ((c : Thread Cert.WInShareIdeal.nD Cert.WInShareIdeal.τ).loc Cert.WInShareIdeal.main_arg0) = Layout.block ⟨2, ![1024, 2084]⟩ ⟨2, ![8192, 2084]⟩ 0 8 c x)
    (c : Dev Cert.WInShareIdeal.nD) : Cert.WInShareIdeal.Gen.V3 m (outs m) c Cert.WInShareIdeal.main_v6 = Layout.block ⟨3, ![2, 1024, 2084]⟩ ⟨3, ![16, 1024, 2084]⟩ 0 8 c (stacked x) :=
  (V3_v6 m c).trans (pair_eq _ _ (fun d => m ((d : Thread Cert.WInShareIdeal.nD Cert.WInShareIdeal.τ).loc Cert.WInShareIdeal.main_arg0)) x (stacked x) h (stacked_at x) c _ _)

theorem algebraic : Cert.algebraic_WInShareIdeal_WInShareReferenceIdeal := fun m ρ m' ρ' _ h =>
  ⟨stacked (m' (((0 : Dev Cert.WInShareReferenceIdeal.nD) : Thread Cert.WInShareReferenceIdeal.nD Cert.WInShareReferenceIdeal.τ).loc Cert.WInShareReferenceIdeal.main_arg0)),
    (θ_run Cert.WInShareIdeal.defs _ _).mono (fun _ hr c => ⟨((hr.1 c).1).trans (result_eq m _ h c), (hr.1 c).2⟩) (run_main (F := Ideal) m ρ),
    (θ_run Cert.WInShareReferenceIdeal.defs _ _).mono (fun _ hr => ⟨(hr 0).1, (hr 0).2⟩) (Cert.WInShareReferenceIdeal.Value.run m' ρ')⟩

end Cert.WInShare
-- ==== Proof.WOutShare.lean ====
/-
  The exchange by which each core of a chip comes to hold both cores' halves of the w_out gradient's share, from the
  launch: every run ends with each core's own array unchanged, every semaphore at zero, and the result being
  what the operations after the call make of the pair.
-/
module

public import proofs.«01_k».proof.Proof.Halves
public import proofs.«01_k».proof.Proof.Gen.WOutShareIdeal
public import proofs.«01_k».proof.Proof.Gen.WOutShareIdeal.Skeleton
public import proofs.«01_k».proof.Proof.Gen.WOutShareIdeal.Launch
public import proofs.«01_k».proof.Proof.Gen.WOutShareIdeal.Regions
public import Idealize.ShloMosaic.Lib.ValueLayout

@[expose] public section

set_option Elab.async false

noncomputable section

namespace Cert.WOutShare

open Idealize.ShloMosaic.ValueIdx
open Cert.WOutShareIdeal Cert.WOutShareIdeal.Gen Cert.Exchange Cert.Trade Cert.Halves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg BodyObligationLoose cellOf)

variable {F : FTy → Type} [FloatOps F]

local notation "𝕄" => MT nD τ sig Unit (Elt F) ℕ (UU nD τ sig) ℕ

theorem dev1 : ∀ c : Dev nD, (⟨k0_dev1 c, k0_dev1_lt c⟩ : Dev nD) = mates c := by decide +kernel

/-! ## The pieces -/

theorem inb (i : Fin 8) : ∀ a, (![32 * i.val, 0] : Fin 2 → Nat) a + S32x2048.size a ≤ S256x2048.size a := by revert i; decide

/-- Piece `i` of the array a core sends. -/
abbrev srcP (i : Fin 8) : Memref sig .tc .hbm S32x2048 .f32 :=
  (Memref.whole main_arg0).slice (Rect.unit (s := S256x2048) ![32 * i.val, 0] S32x2048.size (inb i)) (fun _ => rfl)

/-- Where the half that the other core fills starts. -/
abbrev off (n : Dev nD) : Fin 3 → Nat := ![(slot n).val, 0, 0]

theorem off_inb (n : Dev nD) : ∀ a, off n a + S1x256x2048.size a ≤ S2x256x2048.size a := by revert n; decide

abbrev dstH (o : Fin 3 → Nat) (h : ∀ a, o a + S1x256x2048.size a ≤ S2x256x2048.size a) : Memref sig .tc .hbm S256x2048 .f32 :=
  ((Memref.whole main_v1).slice (Rect.unit (s := S2x256x2048) o S1x256x2048.size h) (fun _ => rfl)).squeeze S256x2048 squeezes_S1x256x2048_S256x2048

abbrev dstAt (o : Fin 3 → Nat) (h : ∀ a, o a + S1x256x2048.size a ≤ S2x256x2048.size a) (i : Fin 8) : Memref sig .tc .hbm S32x2048 .f32 :=
  (dstH o h).slice (Rect.unit (s := S256x2048) ![32 * i.val, 0] S32x2048.size (inb i)) (fun _ => rfl)

abbrev dstP (n : Dev nD) (i : Fin 8) : Memref sig .tc .hbm S32x2048 .f32 := dstAt (off n) (off_inb n) i

theorem off1 (c : Dev nD) : k0_off1 c = off (mate c) := by revert c; decide +kernel

/-- Row `r` of piece `i`. -/
abbrev row (i : Fin 8) (r : Fin 32) : Fin 256 := ⟨32 * i.val + r.val, by omega⟩

theorem src_emb (i : Fin 8) (x : S32x2048.Idx) : (srcP i).view.emb x = ix2 (row i (x 0)) (x 1) := piece_emb (inb i) x

theorem dst_emb (n : Dev nD) (i : Fin 8) (x : S32x2048.Idx) :
    (dstP n i).view.emb x = ix3 (slot n) (row i (x 0)) (x 1) := by
  show (Rect.unit (s := S2x256x2048) (off n) S1x256x2048.size (off_inb n)).emb
    (Shape.reshapeEquiv _ ((Rect.unit (s := S256x2048) ![32 * i.val, 0] S32x2048.size (inb i)).emb x)) = _
  exact (congrArg (fun z => (Rect.unit (s := S2x256x2048) (off n) S1x256x2048.size (off_inb n)).emb (Shape.reshapeEquiv _ z)) (piece_emb (inb i) x)).trans (half_emb (off_inb n) _ _ _)

theorem pieces_apart {i j : Fin 8} (h : i ≠ j) :
    Disjoint (Rect.unit (s := S256x2048) ![32 * i.val, 0] S32x2048.size (inb i)).set (Rect.unit (s := S256x2048) ![32 * j.val, 0] S32x2048.size (inb j)).set :=
  piece_apart (fun e => h (Fin.ext e)) (inb i) (inb j)

theorem dst_apart (n : Dev nD) {i j : Fin 8} (h : i ≠ j) : Disjoint (dstP n i).view.set (dstP n j).view.set :=
  slices_apart (dstH (off n) (off_inb n)) _ _ (fun _ => rfl) (fun _ => rfl) (pieces_apart h)

theorem credit (o : Fin 3 → Nat) (h : ∀ a, o a + S1x256x2048.size a ≤ S2x256x2048.size a) (i : Fin 8) : (dstAt o h i).view.dmaCredit = (srcP i).view.dmaCredit := rfl

theorem row_split (r : Fin 256) : ∃ i j, row i j = r :=
  ⟨⟨r.val / 32, by omega⟩, ⟨r.val % 32, by omega⟩, Fin.ext (Nat.div_add_mod _ _)⟩

theorem dst_cover (n : Dev nD) (x : S2x256x2048.Idx) (h : x 0 = slot n) : ∃ i, x ∈ (dstP n i).view.set := by
  obtain ⟨i, j, e⟩ := row_split (x 1)
  refine ⟨i, Finset.mem_map.mpr ⟨ix2 j (x 2), Finset.mem_univ _, (dst_emb _ _ _).trans ?_⟩⟩
  funext a
  fin_cases a
  · exact h.symm
  · exact e
  · rfl

/-! ## The exchange -/

theorem inb8 (i : Fin 8) : ∀ a, (![i.val] : Fin 1 → Nat) a + S1.size a ≤ S8.size a := by revert i; decide

/-- Semaphore `i` of an array of eight. -/
abbrev at8 (a : DmaSems sig S8) (i : Fin 8) : DmaSem sig := ((a.slice (Rect.unit (s := S8) ![i.val] S1.size (inb8 i))).squeeze S_ squeezes_S1_S_).sem

def sem : Wt (Fin 8) (Fin 0) → SemLoc sig
  | .inl i => .dma (at8 cc0_scratch0 i)
  | .inr (.inl i) => .dma (at8 cc0_scratch1 i)
  | .inr (.inr k) => k.elim0

theorem sem_inj : Function.Injective sem := by decide

def plan : Plan nD sig (Fin 8) (Fin 0) where
  sem := sem
  inj := sem_inj
  size i := (srcP i).view.dmaCredit
  size_pos i := (srcP i).view.dmaCredit_pos (by decide)
  copied k := k.elim0
  copied_pos k := k.elim0
  dest _ := mates

variable (m : (ℓ : Loc nD τ sig) → Buf (Elt F) ℓ) (ρ : Dev nD → PrngReg)

/-- What core `n` holds after the call. -/
abbrev landed (n : Dev nD) : S2x256x2048.Idx → Elt F .f32 := both n (m ((mate n : Thread nD τ).loc main_arg0)) (m ((n : Thread nD τ).loc main_v1))

def trade : Deal nD τ sig (Elt F) (Fin 8) where
  plan := plan
  a := main_arg0
  b := main_v1
  ne := by decide
  open_a := rfl
  open_b := rfl
  D _ i := (srcP i).view.set
  apartD _ _ _ h := slices_apart _ _ _ _ _ (pieces_apart h)
  E n i := (dstP n i).view.set
  apartE n _ _ h := dst_apart n h
  m := m
  landed := landed m
  same n x h := by
    unfold landed both
    rw [if_neg fun e => (dst_cover n x (Fin.ext e)).elim fun i hi => h i hi]

abbrev 𝒱₀ : Variants := Variants.none

theorem size_eq (i : Fin 8) : (trade m).plan.size i = (srcP i).view.dmaCredit := by
  delta trade plan; dsimp only

theorem came_amt (o : Fin 3 → Nat) (h : ∀ a, o a + S1x256x2048.size a ≤ S2x256x2048.size a) (i : Fin 8) : (dstAt o h i).view.dmaCredit = (trade m).plan.amt (came i) :=
  (credit o h i).trans ((size_eq m i).symm.trans (amt_came _ i).symm)

theorem left_amt (i : Fin 8) : (srcP i).view.dmaCredit = (trade m).plan.amt (left i) :=
  (size_eq m i).symm.trans (amt_left _ i).symm

theorem arrives (c : Dev nD) (i : Fin 8) :
    ((dstP (mates c) i).view.loc ((mates c : Dev nD) : Thread nD τ) ↦[(dstP (mates c) i).view.set]{fullShare}
      ((dstP (mates c) i).view.write (Elt F) (m (((mates c : Dev nD) : Thread nD τ).loc main_v1)) ((srcP i).view.read (Elt F) (m ((c : Thread nD τ).loc main_arg0))) Finset.univ) : sProp 𝕄)
      ⊢ (trade m).got (mates c) i := by
  refine Entails.of_eq (pointsTo_congr fun y hy => ?_)
  obtain ⟨x, -, rfl⟩ := Finset.mem_map.mp hy
  refine ((dstP (mates c) i).view.write_emb_of_mem _ _ (Finset.mem_univ x)).trans ?_
  show m ((c : Thread nD τ).loc main_arg0) ((srcP i).view.emb x) = landed m (mate c) ((dstP (mate c) i).view.emb x)
  rw [src_emb, dst_emb]
  unfold landed both
  rw [if_pos rfl, mate_mate]
  rfl

/-- Piece `i` sent. -/
theorem send {κ : Dev nD × Wt (Fin 8) (Fin 0) → ℕ} {c n : Dev nD} {i : Fin 8} {l : List (Fin 8)} {o : Fin 3 → Nat} {ho : ∀ a, o a + S1x256x2048.size a ≤ S2x256x2048.size a}
    (hn : n = mates c) (he : o = off (mate c)) (hi : i ∉ l)
    {hsc : (dstAt o ho i : Memref sig (Dev.tc n : Thread nD τ).2.kind .hbm S32x2048 .f32).view.ref.isScScratch = false}
    {hsrc : (srcP i).view.WordExact} {hdst : (dstAt o ho i : Memref sig (Dev.tc n : Thread nD τ).2.kind .hbm S32x2048 .f32).view.WordExact}
    {hsem : DmaTarget.Typed .hbm (.dma (at8 cc0_scratch1 i)) (.remote (Dev.tc n : Thread nD τ) (dstAt o ho i : Memref sig (Dev.tc n : Thread nD τ).2.kind .hbm S32x2048 .f32) (.dma (at8 cc0_scratch0 i)) hsc)}
    {k : PUnit → Prog (TpuEff nD τ sig (Elt F) Λ₀ .tc) PUnit} (h : Sends (trade m) defs₀ 𝒱₀ κ c l (k ⟨⟩)) :
    Sends (trade m) defs₀ 𝒱₀ κ c (i :: l)
      (.op (.enqueueDma (srcP i) (.remote (Dev.tc n : Thread nD τ) (dstAt o ho i) (.dma (at8 cc0_scratch0 i)) hsc) (.dma (at8 cc0_scratch1 i)) hsrc hdst hsem) k) := by
  subst hn; subst he
  exact Sends.step (trade m) 𝒱₀ κ c (src := srcP i) (dst := dstP (mates c) i) hi rfl rfl rfl (m _) (m _) rfl rfl (BI.Entails.refl _) (arrives m c i) (by routes) h

set_option maxRecDepth 65536 in
set_option maxHeartbeats 800000 in
/-- The body: eight pieces sent, eight awaited, eight seen to have left. -/
theorem body (κ : Dev nD × Wt (Fin 8) (Fin 0) → ℕ) (c : Dev nD) :
    Sends (trade m) (defs₀ (F := F)) 𝒱₀ κ c [0, 1, 2, 3, 4, 5, 6, 7]
      (cc0_rs_w_out_cores (Memref.whole main_arg0) (Memref.isWhole_whole _) (Memref.whole main_v1) (Memref.isWhole_whole _) cc0_scratch0 cc0_scratch1 cc0_scratch2) := by
  intro Q
  rw [cc0_rs_w_out_cores_eq_skeleton]; unfold cc0_rs_w_out_cores_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [Prog.lift, Prog.bind_op, Prog.bind_ret, Prog.pure_eq_ret, wp_deviceId]
  revert Q
  show Sends _ _ _ _ _ _ _
  iterate 8 refine send m (dev1 c) (off1 c) (by decide) ?_
  refine Sends.done _ _ _ _ (l := [came 0, came 1, came 2, came 3, came 4, came 5, came 6, came 7, left 0, left 1, left 2, left 3, left 4, left 5, left 6, left 7]) (by decide) ?_
  iterate 8 refine Waits.step _ _ _ _ (by simp) rfl (came_amt m _ _ _) ?_
  iterate 8 refine Waits.step _ _ _ _ (by simp) rfl (left_amt m _) ?_
  exact Waits.done _ _ _ _

/-! ## The launch -/

def dats (_ : Fin 1) (c : Dev nD) : Dat τ (Elt F) Unit ℕ (UU nD τ sig) ℕ cfg0 c where
  A w := w.elim0
  after w := w.elim0
  Φ t := match t with
    | ⟨0, _⟩ => (trade m).before c
    | ⟨_ + 1, _⟩ => (trade m).after c
  q _ := fullShare
  owed t := match t with
    | ⟨0, _⟩ => O₀ plan c
    | ⟨_ + 1, _⟩ => 0

theorem body_obligation (c : Dev nD) : BodyObligationLoose (dats (F := F) m 0 c) (defs₀ (F := F)) 𝒱₀ () Set.univ := fun t => by
  rw [fin_N0 t]
  show iprop((trade m).before c ∗ (dats m 0 c).owesAt () t0_0.castSucc ∗ bigSep (Finset.univ : Finset (Fin 0)) _)
    ⊢ wp frame (wpE (defs₀ (F := F)) 𝒱₀ c none) Set.univ
      (cc0_rs_w_out_cores (Memref.whole main_arg0) (Memref.isWhole_whole _) (Memref.whole main_v1) (Memref.isWhole_whole _) cc0_scratch0 cc0_scratch1 cc0_scratch2)
      fun _ => iprop((trade m).after c ∗ (dats m 0 c).owesAt () t0_0.succ ∗ bigSep (Finset.univ : Finset (Fin 0)) _)
  exact obligation (trade m) 𝒱₀ c (by decide) (fun κ => body m κ c) (owed_of_within c _ _) (within_of_owed c _ _ fun _ => Or.inl trivial) (by rw [show (Finset.univ : Finset (Fin 0)) = ∅ from rfl, bigSep_none])

theorem ownSemFacts : Pipeline.OwnSemFacts cfg0.spec sem := by
  constructor <;> decide

/-- The contents of the arrays when the call returns. -/
def outs : Outs (F := F) := fun _ r c => Function.update (V0 m c) main_v1 (landed m c) r

theorem outs_landed (c : Dev nD) : outs m 1 main_v1 c = landed m c := by
  delta outs; exact Function.update_self ..

theorem V1_ends (c : Dev nD) : V1 m (outs m) c = (trade m).ends c :=
  congrArg (Function.update (V0 m c) (Proc.devRef .tc main_v1)) (outs_landed m c)

/-- Beside the arrays a core owes nothing. -/
abbrev rest (_ : Fin 2) (c : Dev nD) : sProp 𝕄 := iprop(∃ W, owes (c : Thread nD τ) (0 : CellTallies nD τ sig Unit) W)

/-- The operations after the call. -/
abbrev tail (c : Dev nD) : List (Seg (pcfgs (F := F)) (fun p => (cfgs p).toPCfg_adm) (dats m) () defs₀ 𝒱₀ Cert.Dealt.noL fun _ _ => 0) :=
  [.host (seg1 m (outs m) 𝒱₀ Cert.Dealt.noL (fun _ _ => 0) rest c), .host (seg2 m (outs m) 𝒱₀ Cert.Dealt.noL (fun _ _ => 0) rest)]

theorem main_tail (c : Dev nD) : main (F := F) c = .op (.customCall (Pipeline.entry 0) ()) fun _ => Pipeline.Seg.run (tail m c) := by
  rw [main_chain c]
  simp only [Pipeline.Seg.run_eq_chain]
  rfl

/-- At the end each core's own array is as before, its result is what the operations after the call make of what it then held, and all semaphores are zero. -/
theorem run_main : θ_run defs (onTc (τ := τ) (main (F := F))) ⟨m, fun _ => 0, ρ⟩ fun r =>
    (∀ c : Dev nD, r.2.mem ((c : Thread nD τ).loc main_v6) = V3 m (outs m) c main_v6 ∧ r.2.mem ((c : Thread nD τ).loc main_arg0) = m ((c : Thread nD τ).loc main_arg0))
      ∧ r.2.sem = fun _ => 0 :=
  (θ_run defs _ _).mono (fun _ h => ⟨fun c => ⟨h.1 c main_v6 rfl, (h.1 c main_arg0 rfl).trans (V3_main_arg0 m (outs m) c)⟩, h.2⟩)
    (Trade.run (trade m) pcfgs (fun p => (cfgs p).toPCfg_adm) (dats m) cellOf_inj defs₀ 𝒱₀ (p := 0) ρ main
      winFacts0.to₀ ownSemFacts (body_obligation m) Fin.isEmpty Fin.isEmpty
      (fun c => Pipeline.cellsWaits_intro cfgs (dats m) () 0 c (R := iprop(emp)) fun w => w.elim0)
      (tail m) (main_tail m) (fun _ => List.nodup_singleton _)
      (fun c => scopedRest0_eq c) (fun _ => rfl) (fun _ => rfl)
      (fun c => within_of_owed c _ _ fun _ => Or.inl trivial) (fun c => owed_of_within c _ _)
      (fun c => V3 m (outs m) c) (fun c => ⟨Entails.of_eq (by unfold Deal.finish; rw [← V1_ends]; rfl), BI.Entails.refl _, BI.Entails.refl _⟩) (by decide))

end Cert.WOutShare
-- ==== Proof.WOutShareClaims.lean ====
/-
  The claims about the exchange by which both cores of a chip come to hold both halves of the w_out gradient's share.
-/
module

public import proofs.«01_k».proof.Defs
public import proofs.«01_k».proof.Proof.WOutShare
public import proofs.«01_k».proof.Proof.Gen.WOutShare
public import proofs.«01_k».proof.Proof.Gen.WOutShareReferenceIdeal
public import proofs.«01_k».proof.Proof.Gen.WOutShareReferenceIdeal.Run
public import Idealize.ShloMosaic.Lib.Pointwise
public import Idealize.ShloMosaic.Lib.Quiescent
public import Idealize.ShloMosaic.Lib.WordCmp

@[expose] public section

noncomputable section

namespace Cert.WOutShare

open Cert.Blocks Cert.Trade Cert.Halves
open Idealize.ShloMosaic Idealize.ShloMosaic.TcCoe Idealize.SL.Sem

theorem frame_kernel : Cert.quiescent_WOutShare := fun m ρ _ =>
  (θ_run Cert.WOutShareIdeal.defs _ _).mono (fun _ h => ⟨fun c => (h.1 c).2, h.2⟩) (run_main (F := Bits) m ρ)

theorem frame_ideal : Cert.quiescent_WOutShareIdeal := fun m ρ _ =>
  (θ_run Cert.WOutShareIdeal.defs _ _).mono (fun _ h => ⟨fun c => (h.1 c).2, h.2⟩) (run_main (F := Ideal) m ρ)

theorem frame_reference : Cert.quiescent_WOutShareReferenceIdeal := fun m ρ _ =>
  (θ_run Cert.WOutShareReferenceIdeal.defs _ _).mono (fun r h => ⟨fun c => (h c).2, sem_eq_zero_of_no_sems (by decide) r.2⟩) (Cert.WOutShareReferenceIdeal.Value.run m ρ)

/-! ## The operations after the call -/

section Tail

open Cert.WOutShareIdeal Cert.WOutShareIdeal.Gen

variable {F : FTy → Type} [FloatOps F]
variable (m : (ℓ : Loc nD τ sig) → Buf (Elt F) ℓ)

/-- The last operation puts a core's own array in its half. -/
theorem put (c : Dev nD) (W : Valuation τ sig (Elt F)) (h0 : BitVec.toInt (W main_call0_v3 (Shape.Idx.first h_S_)) = ((c.val % 2 : Nat) : Int))
    (h1 : BitVec.toInt (W main_call0_c_1 (Shape.Idx.first h_S_)) = 0) (h2 : BitVec.toInt (W main_call0_c_2 (Shape.Idx.first h_S_)) = 0) :
    StableHlo.after (hostOps1_1.drop 8) W main_v6 = updateSlice (s := S2x256x2048) (u := S1x256x2048) (W main_v1) (W main_call0_v0) ![c.val % 2, 0, 0] (fits c) := by
  simp only [List.drop]
  after_results
  simp only [StableHlo.TRef.toBuf, StableHlo.TRef.ofBuf, cast_eq]
  refine WordCmp.dynamicUpdateSlice_eq_update _ _ _ _ _ (fits c) fun a => ?_
  fin_cases a
  · exact h0
  · exact h1
  · exact h2

/-- The arrays before the last operation. -/
abbrev mid (c : Dev nD) (v : Valuation τ sig (Elt F)) : Valuation τ sig (Elt F) := StableHlo.after (hostOps1_1.take 8) (StableHlo.after (hostOps1 c) v)

theorem mid_v3 (c : Dev nD) (v : Valuation τ sig (Elt F)) : BitVec.toInt (mid c v main_call0_v3 (Shape.Idx.first h_S_)) = ((c.val % 2 : Nat) : Int) := by
  unfold mid
  simp only [List.take]
  after_results
  simp only [StableHlo.TRef.toBuf, StableHlo.TRef.ofBuf, cast_eq, id]
  exact slot_word c _

theorem mid_c1 (c : Dev nD) (v : Valuation τ sig (Elt F)) : BitVec.toInt (mid c v main_call0_c_1 (Shape.Idx.first h_S_)) = 0 := by
  unfold mid
  simp only [List.take]
  after_results
  rfl

theorem mid_c2 (c : Dev nD) (v : Valuation τ sig (Elt F)) : BitVec.toInt (mid c v main_call0_c_2 (Shape.Idx.first h_S_)) = 0 := by
  unfold mid
  simp only [List.take]
  after_results
  rfl

theorem mid_v1 (c : Dev nD) (v : Valuation τ sig (Elt F)) : mid c v main_v1 = v main_v1 := by
  unfold mid
  simp only [List.take]
  after_results

theorem mid_v0 (c : Dev nD) (v : Valuation τ sig (Elt F)) : mid c v main_call0_v0 = broadcastInDim S1x256x2048 ![1, 2] bcast_S256x2048_S1x256x2048_1_2 (v main_arg0) := by
  unfold mid
  simp only [List.take]
  after_results
  rfl

theorem V3_v6 (c : Dev nD) : V3 m (outs m) c main_v6 = updateSlice (s := S2x256x2048) (u := S1x256x2048) (landed m c) (broadcastInDim S1x256x2048 ![1, 2] bcast_S256x2048_S1x256x2048_1_2 (m ((c : Thread nD τ).loc main_arg0))) ![c.val % 2, 0, 0] (fits c) := by
  have e1 : V1 m (outs m) c main_v1 = landed m c := (congrFun (V1_ends m c) _).trans (ends_b (trade m) c)
  have e0 : V1 m (outs m) c main_arg0 = m ((c : Thread nD τ).loc main_arg0) := V1_of m (outs m) c main_arg0 (by decide)
  have e : V3 m (outs m) c = StableHlo.after (hostOps1_1.drop 8) (mid c (V1 m (outs m) c)) :=
    after_split hostOps1_1 8 _
  refine (congrFun e main_v6).trans ((put c (mid c _) (mid_v3 c _) (mid_c1 c _) (mid_c2 c _)).trans ?_)
  rw [mid_v1, mid_v0, e1, e0]

end Tail

/-! ## The value -/

section Value

open Cert.WOutShareReferenceIdeal Cert.WOutShareReferenceIdeal.Gen

variable {α : Type}

/-- The reference's result from its argument. -/
def stacked (x : S2048x2048.Idx → α) : S16x256x2048.Idx → α :=
  shapeCast _ (broadcastInDim S4x2x2x256x2048 ![0, 1, 2, 3, 4] bcast_S4x1x2x256x2048_S4x2x2x256x2048_0_1_2_3_4 (shapeCast _ x shapeCasts_S2048x2048_S4x1x2x256x2048)) shapeCasts_S4x2x2x256x2048_S16x256x2048

theorem stacked_at (x : S2048x2048.Idx → α) (j : S16x256x2048.Idx) (k : S2048x2048.Idx)
    (h0 : (k 0).val = 256 * (2 * ((j 0).val / 4) + (j 0).val % 2) + (j 1).val) (h1 : (k 1).val = (j 2).val) : stacked x j = x k := by
  unfold stacked
  pointwise
  have hj : (j 0).val < 16 := (j 0).isLt
  refine congrArg x (funext fun a => Fin.ext ?_)
  fin_cases a
  · show _ = (k 0).val; simp; omega
  · exact h1.symm

end Value

/-- What a core holds in the end is its block of the reference's result. -/
theorem result_eq (m : (ℓ : Loc Cert.WOutShareIdeal.nD Cert.WOutShareIdeal.τ Cert.WOutShareIdeal.sig) → Buf (Elt Ideal) ℓ) (x : Cert.WOutShareReferenceIdeal.S2048x2048.Idx → Elt Ideal .f32)
    (h : ∀ c : Dev Cert.WOutShareIdeal.nD, m ((c : Thread Cert.WOutShareIdeal.nD Cert.WOutShareIdeal.τ).loc Cert.WOutShareIdeal.main_arg0) = Layout.block ⟨2, ![256, 2048]⟩ ⟨2, ![2048, 2048]⟩ 0 8 c x)
    (c : Dev Cert.WOutShareIdeal.nD) : Cert.WOutShareIdeal.Gen.V3 m (outs m) c Cert.WOutShareIdeal.main_v6 = Layout.block ⟨3, ![2, 256, 2048]⟩ ⟨3, ![16, 256, 2048]⟩ 0 8 c (stacked x) :=
  (V3_v6 m c).trans (pair_eq _ _ (fun d => m ((d : Thread Cert.WOutShareIdeal.nD Cert.WOutShareIdeal.τ).loc Cert.WOutShareIdeal.main_arg0)) x (stacked x) h (stacked_at x) c _ _)

theorem algebraic : Cert.algebraic_WOutShareIdeal_WOutShareReferenceIdeal := fun m ρ m' ρ' _ h =>
  ⟨stacked (m' (((0 : Dev Cert.WOutShareReferenceIdeal.nD) : Thread Cert.WOutShareReferenceIdeal.nD Cert.WOutShareReferenceIdeal.τ).loc Cert.WOutShareReferenceIdeal.main_arg0)),
    (θ_run Cert.WOutShareIdeal.defs _ _).mono (fun _ hr c => ⟨((hr.1 c).1).trans (result_eq m _ h c), (hr.1 c).2⟩) (run_main (F := Ideal) m ρ),
    (θ_run Cert.WOutShareReferenceIdeal.defs _ _).mono (fun _ hr => ⟨(hr 0).1, (hr 0).2⟩) (Cert.WOutShareReferenceIdeal.Value.run m' ρ')⟩

end Cert.WOutShare
-- ==== Proof.GradX.lean ====
/-
  The gradient with respect to the activations through a row's norm and the residual around it: the call's claims.
-/
module

public import proofs.«01_k».proof.Defs
public import proofs.«01_k».proof.Proof.Gen.GradX.Frame
public import proofs.«01_k».proof.Proof.Gen.GradXIdeal.Value
public import proofs.«01_k».proof.Proof.Gen.GradXReferenceIdeal.Run
public import Idealize.ShloMosaic.Lib.Pointwise
public import Idealize.ShloMosaic.Lib.Quiescent

@[expose] public section

noncomputable section

namespace Cert.GradX.Row

open Idealize.ShloMosaic

variable (x w d : Fin 2048 → EReal) (z : EReal)

/-- A row's mean square, and the constant that keeps it from zero. -/
def square : EReal := Ideal.div (∑ k, x k * x k) (Ideal.ofBits .f32 0x45000000#32) + Ideal.ofBits .f32 0x358637BD#32

/-- How the result moves with the mean of the row's squares: the row's product with the weighted gradient,
    by the derivative of the inverse root, shared out over the row's entries. -/
def share : EReal :=
  Ideal.div ((∑ k, x k * (d k * w k)) * (Ideal.ofBits .f32 0xBF000000#32 * Ideal.div (Ideal.rsqrt (square x)) (square x)))
    (Ideal.ofBits .f32 0x45000000#32)

/-- The gradient that reaches an entry of the row: straight through the scaling, through the square on both
    sides, and past the norm. The mean is kept as an array of one entry, hence the sum over one. -/
def grad (k : Fin 2048) : EReal :=
  d k * w k * Ideal.rsqrt (square x) + x k * (∑ _ : Fin 1, share x w d) + (∑ _ : Fin 1, share x w d) * x k + z

/-- The row of an argument that a row of the result comes from: the first sixteen are not differentiated. -/
abbrev from_ (r : Fin 4096) : Fin 4160 := ⟨16 + r.val, by omega⟩

end Cert.GradX.Row

namespace Cert.GradXIdeal.Value

open Cert.GradXIdeal Cert.GradXIdeal.Gen Idealize.ShloMosaic Idealize.ShloMosaic.TcCoe Idealize.SL.Sem
open Cert.GradX

/-- What a point computes at an entry of its block depends on that row alone. -/
theorem body_at (x : Vec Ideal S256x2048 .f32) (w : Vec Ideal S1x2048 .f32) (d z : Vec Ideal S256x2048 .f32) (y : S256x2048.Idx) :
    k0_pay6 (F := Ideal) x w d z y
      = Row.grad (fun k => x (ix2 (y 0) k)) (fun k => w (ix2 (0 : Fin 1) k)) (fun k => d (ix2 (y 0) k)) (z y) (y 1) := by
  have hx : x y = x (ix2 (y 0) (y 1)) := congrArg x (eq_ix2 y)
  have hd : d y = d (ix2 (y 0) (y 1)) := congrArg d (eq_ix2 y)
  unfold k0_pay6 k0_pay4 k0_pay3
  pointwise
  rw [hx, hd, add_assoc, add_assoc, add_comm (z y), ← add_assoc]
  rfl

variable (m : (ℓ : Loc nD τ sig) → Buf (Elt Ideal) ℓ) (ρ : Dev nD → PrngReg)

theorem hz2 : (![0, 0] : Fin 2 → ℕ) = fun _ => 0 := by decide

/-- The gradient, an entry at a time. -/
abbrev gradient (c : Dev nD) : S4096x2048.Idx → Ideal .f32 := fun i =>
  Row.grad (fun k => m ((c : Thread nD τ).loc main_arg0) (ix2 (Row.from_ (i 0)) k)) (fun k => m ((c : Thread nD τ).loc main_arg1) (ix2 (0 : Fin 1) k))
    (fun k => m ((c : Thread nD τ).loc main_arg2) (ix2 (Row.from_ (i 0)) k)) (m ((c : Thread nD τ).loc main_arg3) (ix2 (Row.from_ (i 0)) (i 1))) (i 1)

/-- Where an element of a point's block is in the array. -/
abbrev at_ (t : Fin cfg0.N) (y : S256x2048.Idx) : S4096x2048.Idx := (win0_4.blk t).view.emb y

/-- The block a point stores, its four loads read back: each is the whole of a buffer. -/
theorem stored (a0 : Memref sig .tc .vmem S256x2048 .f32) (h0 : a0.IsWhole) (a1 : Memref sig .tc .vmem S1x2048 .f32) (h1 : a1.IsWhole)
    (a2 : Memref sig .tc .vmem S256x2048 .f32) (h2 : a2.IsWhole) (a3 : Memref sig .tc .vmem S256x2048 .f32) (h3 : a3.IsWhole)
    (x0 : Vec Ideal S256x2048 .f32) (x1 : Vec Ideal S1x2048 .f32) (x2 x3 : Vec Ideal S256x2048 .f32) :
    View.canon ([⟨Rect.unit ![0, 0] S256x2048.size inb_S256x2048_S256x2048_0_0, k0_pay6
      (View.readAt (Elt Ideal) a0.view (Rect.unit ![0, 0] S256x2048.size inb_S256x2048_S256x2048_0_0).toLoadRect (h0.unread x0))
      (View.readAt (Elt Ideal) a1.view (Rect.unit ![0, 0] S1x2048.size inb_S1x2048_S1x2048_0_0).toLoadRect (h1.unread x1))
      (View.readAt (Elt Ideal) a2.view (Rect.unit ![0, 0] S256x2048.size inb_S256x2048_S256x2048_0_0).toLoadRect (h2.unread x2))
      (View.readAt (Elt Ideal) a3.view (Rect.unit ![0, 0] S256x2048.size inb_S256x2048_S256x2048_0_0).toLoadRect (h3.unread x3))⟩] :
      List (View.Piece (Elt Ideal) S256x2048 .f32)) = k0_pay6 x0 x1 x2 x3 := by
  rw [View.canon_unit_zero hz2, View.readAt_eq_ld, View.readAt_eq_ld, View.readAt_eq_ld, View.readAt_eq_ld,
    h0.read_unread, h1.read_unread, h2.read_unread, h3.read_unread,
    View.ld_unit_zero hz2, View.ld_unit_zero hz2, View.ld_unit_zero hz2, View.ld_unit_zero hz2]

/-- The first point and the others store the same block: they differ in the other output only. -/
theorem flushed4_body (c : Dev nD) (t : Fin cfg0.N) : (dats m 0 c).flushed 4 t
    = (cfg0.win 4).cut (grid0.coords t) (k0_pay6 (F := Ideal) (iblk m c 0 t) (iblk m c 1 t) (iblk m c 2 t) (iblk m c 3 t)) := by
  by_cases h : t.val % 16 = 0
  · rw [flushed4_A m c t h]
    unfold out0_A_4
    rw [View.read_writes_junk_eq_canon]
    exact congrArg ((cfg0.win 4).cut (grid0.coords t)) (stored ..)
  · rw [flushed4_B m c t h]
    unfold out0_B_4
    rw [View.read_writes_junk_eq_canon]
    exact congrArg ((cfg0.win 4).cut (grid0.coords t)) (stored ..)

theorem start0 : ∀ t : Fin grid0.N, win0_0.index t 0 = 16 + win0_4.index t 0 * 256 ∧ win0_0.index t 1 = 0 := by decide +kernel
theorem start2 : ∀ t : Fin grid0.N, win0_2.index t 0 = 16 + win0_4.index t 0 * 256 ∧ win0_2.index t 1 = 0 := by decide +kernel
theorem start3 : ∀ t : Fin grid0.N, win0_3.index t 0 = 16 + win0_4.index t 0 * 256 ∧ win0_3.index t 1 = 0 := by decide +kernel

theorem row_at (t : Fin cfg0.N) (y : S256x2048.Idx) : (at_ t y 0).val = win0_4.index t 0 * 256 + (y 0).val := win0_4.rect_emb_val t y 0
theorem lane_at (t : Fin cfg0.N) (y : S256x2048.Idx) : at_ t y 1 = y 1 := Fin.ext (win0_4.rect_emb_val_of_index_zero t 1 rfl y)

/-- Where an argument's block of rows puts an entry. -/
theorem placed {t : Fin cfg0.N} {y : S256x2048.Idx} {k : Fin 2048} {j : S4160x2048.Idx} {o : Fin 2 → ℕ}
    (h : o 0 = 16 + win0_4.index t 0 * 256 ∧ o 1 = 0) (h0 : (j 0).val = o 0 + (y 0).val) (h1 : (j 1).val = o 1 + k.val) :
    j = ix2 (Row.from_ (at_ t y 0)) k :=
  funext fun a => Fin.ext (by
    fin_cases a
    · show (j 0).val = 16 + (at_ t y 0).val
      rw [h0, h.1, row_at, Nat.add_assoc]
    · show (j 1).val = k.val
      rw [h1, h.2, Nat.zero_add])

theorem block0 (c : Dev nD) (t : Fin cfg0.N) (y : S256x2048.Idx) (k : Fin 2048) :
    iblk m c 0 t (ix2 (y 0) k) = m ((c : Thread nD τ).loc main_arg0) (ix2 (Row.from_ (at_ t y 0)) k) :=
  congrArg (m ((c : Thread nD τ).loc main_arg0)) (placed (start0 t) (win0_0.rect_emb_val_off t _ 0) (win0_0.rect_emb_val_off t _ 1))

theorem block2 (c : Dev nD) (t : Fin cfg0.N) (y : S256x2048.Idx) (k : Fin 2048) :
    iblk m c 2 t (ix2 (y 0) k) = m ((c : Thread nD τ).loc main_arg2) (ix2 (Row.from_ (at_ t y 0)) k) :=
  congrArg (m ((c : Thread nD τ).loc main_arg2)) (placed (start2 t) (win0_2.rect_emb_val_off t _ 0) (win0_2.rect_emb_val_off t _ 1))

theorem block3 (c : Dev nD) (t : Fin cfg0.N) (y : S256x2048.Idx) (k : Fin 2048) :
    iblk m c 3 t (ix2 (y 0) k) = m ((c : Thread nD τ).loc main_arg3) (ix2 (Row.from_ (at_ t y 0)) k) :=
  congrArg (m ((c : Thread nD τ).loc main_arg3)) (placed (start3 t) (win0_3.rect_emb_val_off t _ 0) (win0_3.rect_emb_val_off t _ 1))

theorem block1 (c : Dev nD) (t : Fin cfg0.N) (k : Fin 2048) :
    iblk m c 1 t (ix2 (0 : Fin 1) k) = m ((c : Thread nD τ).loc main_arg1) (ix2 (0 : Fin 1) k) := by
  refine congrArg (m ((c : Thread nD τ).loc main_arg1)) (funext fun a => Fin.ext ?_)
  fin_cases a
  · exact win0_1.rect_emb_val_of_index_zero t 0 rfl _
  · exact win0_1.rect_emb_val_of_index_zero t 1 rfl _

theorem body_block (c : Dev nD) (t : Fin cfg0.N) (y : S256x2048.Idx) :
    k0_pay6 (F := Ideal) (iblk m c 0 t) (iblk m c 1 t) (iblk m c 2 t) (iblk m c 3 t) y = gradient m c (at_ t y) := by
  have h0 : (fun k => iblk m c 0 t (ix2 (y 0) k)) = fun k => m ((c : Thread nD τ).loc main_arg0) (ix2 (Row.from_ (at_ t y 0)) k) := funext (block0 m c t y)
  have h1 : (fun k => iblk m c 1 t (ix2 (0 : Fin 1) k)) = fun k => m ((c : Thread nD τ).loc main_arg1) (ix2 (0 : Fin 1) k) := funext (block1 m c t)
  have h2 : (fun k => iblk m c 2 t (ix2 (y 0) k)) = fun k => m ((c : Thread nD τ).loc main_arg2) (ix2 (Row.from_ (at_ t y 0)) k) := funext (block2 m c t y)
  have h3 : iblk m c 3 t y = m ((c : Thread nD τ).loc main_arg3) (ix2 (Row.from_ (at_ t y 0)) (y 1)) :=
    (congrArg (iblk m c 3 t) (eq_ix2 y)).trans (block3 m c t y (y 1))
  refine (body_at _ _ _ _ y).trans ?_
  unfold gradient
  rw [lane_at]
  exact congrFun (congr (congr (congr (congrArg Row.grad h0) h1) h2) h3) (y 1)

theorem flushed4_eq (c : Dev nD) (t : Fin cfg0.N) : (dats m 0 c).flushed 4 t = (win0_4.blk t).view.read (Elt Ideal) (gradient m c) :=
  (flushed4_body m c t).trans (funext fun y => body_block m c t y)

/-- The point that writes a row. -/
theorem point (i : S4096x2048.Idx) : ∃ t : Fin cfg0.N, win0_4.index t 0 * 256 ≤ (i 0).val ∧ (i 0).val < win0_4.index t 0 * 256 + 256 := by
  have hi : (i 0).val < 4096 := (i 0).isLt
  have hN : grid0.N = 16 := N_0
  have h : ∀ t : Fin grid0.N, win0_4.index t 0 = t.val := by decide +kernel
  refine ⟨⟨(i 0).val / 256, by show _ < grid0.N; omega⟩, ?_⟩
  rw [h ⟨(i 0).val / 256, by omega⟩]
  show (i 0).val / 256 * 256 ≤ (i 0).val ∧ (i 0).val < (i 0).val / 256 * 256 + 256
  omega

/-- The points' blocks cover the array. -/
theorem covered (i : S4096x2048.Idx) : ∃ t : Fin cfg0.N, i ∈ (win0_4.blk t).view.set := by
  obtain ⟨t, h0, h1⟩ := point i
  refine ⟨t, ?_⟩
  show i ∈ ((View.whole main_v0_0).slice (win0_4.rect t)).set
  rw [View.set_slice_whole, Rect.mem_set_unit]
  intro a
  fin_cases a
  · exact ⟨h0, h1⟩
  · have h : (i 1).val < 2048 := (i 1).isLt
    have e : win0_4.index t 1 * win0_4.size 1 = 0 := by rw [show win0_4.index t 1 = 0 from rfl, Nat.zero_mul]
    refine ⟨?_, ?_⟩
    · show win0_4.index t 1 * win0_4.size 1 ≤ (i 1).val
      rw [e]; exact Nat.zero_le _
    · show (i 1).val < win0_4.index t 1 * win0_4.size 1 + 2048
      rw [e]; omega

theorem final4 (c : Dev nD) : (dats m 0 c).arrAt 4 cfg0.N = gradient m c :=
  (dats m 0 c).arrAt_eq_of_cover 4 (gradient m c) (fun t _ => flushed4_eq m c t) fun i => (covered i).imp fun t h => ⟨flush0_4 t, h⟩

end Cert.GradXIdeal.Value

namespace Cert.GradXReferenceIdeal.Value

open Cert.GradXReferenceIdeal Cert.GradXReferenceIdeal.Gen Idealize.ShloMosaic Idealize.ShloMosaic.TcCoe Idealize.SL.Sem
open Cert.GradX

theorem result_at (m : (ℓ : Loc nD τ sig) → Buf (Elt Ideal) ℓ) (c : Dev nD) (i : S4096x2048.Idx) :
    (res_main_v34 m c : S4096x2048.Idx → Ideal .f32) i
      = Row.grad (fun k => m ((c : Thread nD τ).loc main_arg0) (ix2 (Row.from_ (i 0)) k)) (fun k => m ((c : Thread nD τ).loc main_arg1) (ix2 (0 : Fin 1) k))
        (fun k => m ((c : Thread nD τ).loc main_arg2) (ix2 (Row.from_ (i 0)) k)) (m ((c : Thread nD τ).loc main_arg3) (ix2 (Row.from_ (i 0)) (i 1))) (i 1) := by
  unfold res_main_v34
  pointwise
  rfl

end Cert.GradXReferenceIdeal.Value

namespace Cert.GradX

open Idealize.ShloMosaic Idealize.ShloMosaic.TcCoe Idealize.SL.Sem

theorem frame_kernel : Cert.quiescent_GradX := fun m ρ _ => Cert.GradX.Gen.frame m ρ

theorem frame_ideal : Cert.quiescent_GradXIdeal := fun m ρ _ => Cert.GradXIdeal.Gen.frame m ρ

theorem frame_reference : Cert.quiescent_GradXReferenceIdeal := fun m ρ _ =>
  (θ_run Cert.GradXReferenceIdeal.defs _ _).mono (fun r h => ⟨fun c => (h c).2, sem_eq_zero_of_no_sems (by decide) r.2⟩)
    (Cert.GradXReferenceIdeal.Value.run m ρ)

theorem algebraic : Cert.algebraic_GradXIdeal_GradXReferenceIdeal := fun m ρ m' ρ' _ h =>
  ⟨_, (θ_run Cert.GradXIdeal.defs _ _).mono (fun _ hr c => ⟨(hr c).1.trans (Cert.GradXIdeal.Value.final4 m c), (hr c).2.2⟩)
      (Cert.GradXIdeal.Value.run_blocks m ρ),
    (θ_run Cert.GradXReferenceIdeal.defs _ _).mono (fun _ hr c => by
      obtain ⟨r0, hk⟩ := hr c
      obtain ⟨h0, h1, h2, h3⟩ := h c
      refine ⟨r0.trans (funext fun i => ?_), hk⟩
      refine (Cert.GradXReferenceIdeal.Value.result_at m' c i).trans ?_
      rw [h0, h1, h2, h3])
      (Cert.GradXReferenceIdeal.Value.run m' ρ')⟩

end Cert.GradX

end
-- ==== Proof.WInSum.lean ====
/-
  The sum of the four chips' parts of a core's rows of the w_in gradient: the call's claims.
-/
module

public import proofs.«01_k».proof.Defs
public import proofs.«01_k».proof.Proof.Gen.WInSum.Frame
public import proofs.«01_k».proof.Proof.Gen.WInSumIdeal.Value
public import proofs.«01_k».proof.Proof.Gen.WInSumReferenceIdeal.Run
public import Idealize.ShloMosaic.Lib.Pointwise
public import Idealize.ShloMosaic.Lib.Quiescent

@[expose] public section

noncomputable section

namespace Cert.WInSumIdeal.Value

open Cert.WInSumIdeal Cert.WInSumIdeal.Gen Idealize.ShloMosaic Idealize.ShloMosaic.TcCoe Idealize.SL.Sem

variable (m : (ℓ : Loc nD τ sig) → Buf (Elt Ideal) ℓ) (ρ : Dev nD → PrngReg)

/-- One chip's part at an index. -/
abbrev part (c : Dev nD) (k : Fin 4) (i : S1024x2084.Idx) : EReal := m ((c : Thread nD τ).loc main_arg0) (ValueIdx.ix3 k (i 0) (i 1))

abbrev total (c : Dev nD) : S1024x2084.Idx → Ideal .f32 := fun i => part m c 0 i + part m c 1 i + part m c 2 i + part m c 3 i

/-- Addition, named for the congruences. -/
abbrev plus (a b : EReal) : EReal := a + b

/-- Where an element of a point's block is in the array. -/
abbrev at_ (t : Fin cfg0.N) (y : S128x2084.Idx) : S1024x2084.Idx := (win0_1.blk t).view.emb y

theorem block0 (c : Dev nD) (t : Fin cfg0.N) (y : S128x2084.Idx) (k : Fin 4) (x : S4x128x2084.Idx) (h0 : (x 0).val = k.val) (h1 : (x 1).val = (y 0).val)
    (h2 : (x 2).val = (y 1).val) : iblk m c 0 t x = part m c k (at_ t y) := by
  refine congrArg (m ((c : Thread nD τ).loc main_arg0)) (funext fun a => Fin.ext ?_)
  fin_cases a
  · exact (win0_0.rect_emb_val_of_index_zero t 0 rfl x).trans h0
  · exact (win0_0.rect_emb_val t x 1).trans (.trans (by rw [h1]; rfl) (win0_1.rect_emb_val t y 0).symm)
  · exact (win0_0.rect_emb_val_of_index_zero t 2 rfl x).trans (h2.trans (win0_1.rect_emb_val_of_index_zero t 1 rfl y).symm)

theorem flushed1_total (c : Dev nD) (t : Fin cfg0.N) : (dats m 0 c).flushed 1 t = (win0_1.blk t).view.read (Elt Ideal) (total m c) := by
  rw [flushed1]
  funext y
  show out0_1 (iblk m c 0 t) y = total m c (at_ t y)
  unfold out0_1
  rw [canon1_eq]
  exact congrArg₂ plus (congrArg₂ plus (congrArg₂ plus
    (block0 m c t y 0 (r0_0.idx (ix1_0 y)) rfl (by show 0 + 1 * (y 0).val = (y 0).val; omega) (by show 0 + 1 * (y 1).val = (y 1).val; omega))
    (block0 m c t y 1 (r0_1.idx (ix1_1 y)) rfl (by show 0 + 1 * (y 0).val = (y 0).val; omega) (by show 0 + 1 * (y 1).val = (y 1).val; omega)))
    (block0 m c t y 2 (r0_2.idx (ix1_2 y)) rfl (by show 0 + 1 * (y 0).val = (y 0).val; omega) (by show 0 + 1 * (y 1).val = (y 1).val; omega)))
    (block0 m c t y 3 (r0_3.idx (ix1_3 y)) rfl (by show 0 + 1 * (y 0).val = (y 0).val; omega) (by show 0 + 1 * (y 1).val = (y 1).val; omega))

/-- The point that writes a row. -/
theorem point (i : S1024x2084.Idx) : ∃ t : Fin cfg0.N, win0_1.index t 0 * 128 ≤ (i 0).val ∧ (i 0).val < win0_1.index t 0 * 128 + 128 := by
  have hi : (i 0).val < 1024 := (i 0).isLt
  have hN : grid0.N = 8 := N_0
  have h : ∀ t : Fin grid0.N, win0_1.index t 0 = t.val := by decide +kernel
  refine ⟨⟨(i 0).val / 128, by show _ < grid0.N; omega⟩, ?_⟩
  rw [h ⟨(i 0).val / 128, by omega⟩]
  show (i 0).val / 128 * 128 ≤ (i 0).val ∧ (i 0).val < (i 0).val / 128 * 128 + 128
  omega

/-- The points' blocks cover the array. -/
theorem covered (i : S1024x2084.Idx) : ∃ t : Fin cfg0.N, i ∈ (win0_1.blk t).view.set := by
  obtain ⟨t, h0, h1⟩ := point i
  refine ⟨t, ?_⟩
  show i ∈ ((View.whole main_v0).slice (win0_1.rect t)).set
  rw [View.set_slice_whole, Rect.mem_set_unit]
  intro a
  fin_cases a
  · exact ⟨h0, h1⟩
  · have h : (i 1).val < 2084 := (i 1).isLt
    have e : win0_1.index t 1 * win0_1.size 1 = 0 := by rw [show win0_1.index t 1 = 0 from rfl, Nat.zero_mul]
    refine ⟨?_, ?_⟩
    · show win0_1.index t 1 * win0_1.size 1 ≤ (i 1).val
      rw [e]; exact Nat.zero_le _
    · show (i 1).val < win0_1.index t 1 * win0_1.size 1 + 2084
      rw [e]; omega

theorem final (c : Dev nD) : (dats m 0 c).arrAt 1 cfg0.N = total m c :=
  (dats m 0 c).arrAt_eq_of_cover 1 (total m c) (fun t _ => flushed1_total m c t) fun i => (covered i).imp fun t h => ⟨flush0_1 t, h⟩

end Cert.WInSumIdeal.Value

namespace Cert.WInSum

open Idealize.ShloMosaic Idealize.ShloMosaic.TcCoe Idealize.SL.Sem

theorem frame_kernel : Cert.quiescent_WInSum := fun m ρ _ => Cert.WInSum.Gen.frame m ρ

theorem frame_ideal : Cert.quiescent_WInSumIdeal := fun m ρ _ => Cert.WInSumIdeal.Gen.frame m ρ

theorem frame_reference : Cert.quiescent_WInSumReferenceIdeal := fun m ρ _ =>
  (θ_run Cert.WInSumReferenceIdeal.defs _ _).mono (fun r h => ⟨fun c => (h c).2, sem_eq_zero_of_no_sems (by decide) r.2⟩)
    (Cert.WInSumReferenceIdeal.Value.run m ρ)

section Reference

open Cert.WInSumReferenceIdeal Cert.WInSumReferenceIdeal.Gen

theorem sum_at (p : FVec Ideal S4x1024x2084 .bf16) (i : S1024x2084.Idx) :
    Host.reduceAdd (extf .f32 p bitsLt_bf16_f32) (constant S_ .f32 0x00000000#32) reducesTo_S4x1024x2084_S1024x2084_d0 h_S_ i
      = p (ValueIdx.ix3 (0 : Fin 4) (i 0) (i 1)) + p (ValueIdx.ix3 (1 : Fin 4) (i 0) (i 1)) + p (ValueIdx.ix3 (2 : Fin 4) (i 0) (i 1))
        + p (ValueIdx.ix3 (3 : Fin 4) (i 0) (i 1)) := by
  pointwise
  rw [Fin.sum_univ_four]
  rfl

end Reference

open Cert.WInSumIdeal.Value in
theorem algebraic : Cert.algebraic_WInSumIdeal_WInSumReferenceIdeal := fun m ρ m' ρ' _ h =>
  ⟨fun c => total m c,
    (θ_run Cert.WInSumIdeal.defs _ _).mono (fun _ hr c => ⟨(hr c).1.trans (final m c), (hr c).2⟩) (run_blocks m ρ),
    (θ_run Cert.WInSumReferenceIdeal.defs _ _).mono (fun _ hr c => by
      obtain ⟨r0, hk⟩ := hr c
      refine ⟨r0.trans (funext fun i => ?_), hk⟩
      rw [h c]
      exact sum_at _ i) (Cert.WInSumReferenceIdeal.Value.run m' ρ')⟩

end Cert.WInSum

end
-- ==== Proof.WOutSum.lean ====
/-
  The sum of the four chips' parts of a core's rows of the w_out gradient: the call's claims.
-/
module

public import proofs.«01_k».proof.Defs
public import proofs.«01_k».proof.Proof.Gen.WOutSum.Frame
public import proofs.«01_k».proof.Proof.Gen.WOutSumIdeal.Value
public import proofs.«01_k».proof.Proof.Gen.WOutSumReferenceIdeal.Run
public import Idealize.ShloMosaic.Lib.Pointwise
public import Idealize.ShloMosaic.Lib.Quiescent

@[expose] public section

noncomputable section

namespace Cert.WOutSumIdeal.Value

open Cert.WOutSumIdeal Cert.WOutSumIdeal.Gen Idealize.ShloMosaic Idealize.ShloMosaic.TcCoe Idealize.SL.Sem

variable (m : (ℓ : Loc nD τ sig) → Buf (Elt Ideal) ℓ) (ρ : Dev nD → PrngReg)

/-- One chip's part at an index. -/
abbrev part (c : Dev nD) (k : Fin 4) (i : S256x2048.Idx) : EReal := m ((c : Thread nD τ).loc main_arg0) (ValueIdx.ix3 k (i 0) (i 1))

abbrev total (c : Dev nD) : S256x2048.Idx → Ideal .f32 := fun i => part m c 0 i + part m c 1 i + part m c 2 i + part m c 3 i

/-- Addition, named for the congruences. -/
abbrev plus (a b : EReal) : EReal := a + b

/-- Where an element of a point's block is in the array. -/
abbrev at_ (t : Fin cfg0.N) (y : S128x2048.Idx) : S256x2048.Idx := (win0_1.blk t).view.emb y

theorem block0 (c : Dev nD) (t : Fin cfg0.N) (y : S128x2048.Idx) (k : Fin 4) (x : S4x128x2048.Idx) (h0 : (x 0).val = k.val) (h1 : (x 1).val = (y 0).val)
    (h2 : (x 2).val = (y 1).val) : iblk m c 0 t x = part m c k (at_ t y) := by
  refine congrArg (m ((c : Thread nD τ).loc main_arg0)) (funext fun a => Fin.ext ?_)
  fin_cases a
  · exact (win0_0.rect_emb_val_of_index_zero t 0 rfl x).trans h0
  · exact (win0_0.rect_emb_val t x 1).trans (.trans (by rw [h1]; rfl) (win0_1.rect_emb_val t y 0).symm)
  · exact (win0_0.rect_emb_val_of_index_zero t 2 rfl x).trans (h2.trans (win0_1.rect_emb_val_of_index_zero t 1 rfl y).symm)

theorem flushed1_total (c : Dev nD) (t : Fin cfg0.N) : (dats m 0 c).flushed 1 t = (win0_1.blk t).view.read (Elt Ideal) (total m c) := by
  rw [flushed1]
  funext y
  show out0_1 (iblk m c 0 t) y = total m c (at_ t y)
  unfold out0_1
  rw [canon1_eq]
  exact congrArg₂ plus (congrArg₂ plus (congrArg₂ plus
    (block0 m c t y 0 (r0_0.idx (ix1_0 y)) rfl (by show 0 + 1 * (y 0).val = (y 0).val; omega) (by show 0 + 1 * (y 1).val = (y 1).val; omega))
    (block0 m c t y 1 (r0_1.idx (ix1_1 y)) rfl (by show 0 + 1 * (y 0).val = (y 0).val; omega) (by show 0 + 1 * (y 1).val = (y 1).val; omega)))
    (block0 m c t y 2 (r0_2.idx (ix1_2 y)) rfl (by show 0 + 1 * (y 0).val = (y 0).val; omega) (by show 0 + 1 * (y 1).val = (y 1).val; omega)))
    (block0 m c t y 3 (r0_3.idx (ix1_3 y)) rfl (by show 0 + 1 * (y 0).val = (y 0).val; omega) (by show 0 + 1 * (y 1).val = (y 1).val; omega))

/-- The point that writes a row. -/
theorem point (i : S256x2048.Idx) : ∃ t : Fin cfg0.N, win0_1.index t 0 * 128 ≤ (i 0).val ∧ (i 0).val < win0_1.index t 0 * 128 + 128 := by
  have hi : (i 0).val < 256 := (i 0).isLt
  have hN : grid0.N = 2 := N_0
  have h : ∀ t : Fin grid0.N, win0_1.index t 0 = t.val := by decide +kernel
  refine ⟨⟨(i 0).val / 128, by show _ < grid0.N; omega⟩, ?_⟩
  rw [h ⟨(i 0).val / 128, by omega⟩]
  show (i 0).val / 128 * 128 ≤ (i 0).val ∧ (i 0).val < (i 0).val / 128 * 128 + 128
  omega

/-- The points' blocks cover the array. -/
theorem covered (i : S256x2048.Idx) : ∃ t : Fin cfg0.N, i ∈ (win0_1.blk t).view.set := by
  obtain ⟨t, h0, h1⟩ := point i
  refine ⟨t, ?_⟩
  show i ∈ ((View.whole main_v0).slice (win0_1.rect t)).set
  rw [View.set_slice_whole, Rect.mem_set_unit]
  intro a
  fin_cases a
  · exact ⟨h0, h1⟩
  · have h : (i 1).val < 2048 := (i 1).isLt
    have e : win0_1.index t 1 * win0_1.size 1 = 0 := by rw [show win0_1.index t 1 = 0 from rfl, Nat.zero_mul]
    refine ⟨?_, ?_⟩
    · show win0_1.index t 1 * win0_1.size 1 ≤ (i 1).val
      rw [e]; exact Nat.zero_le _
    · show (i 1).val < win0_1.index t 1 * win0_1.size 1 + 2048
      rw [e]; omega

theorem final (c : Dev nD) : (dats m 0 c).arrAt 1 cfg0.N = total m c :=
  (dats m 0 c).arrAt_eq_of_cover 1 (total m c) (fun t _ => flushed1_total m c t) fun i => (covered i).imp fun t h => ⟨flush0_1 t, h⟩

end Cert.WOutSumIdeal.Value

namespace Cert.WOutSum

open Idealize.ShloMosaic Idealize.ShloMosaic.TcCoe Idealize.SL.Sem

theorem frame_kernel : Cert.quiescent_WOutSum := fun m ρ _ => Cert.WOutSum.Gen.frame m ρ

theorem frame_ideal : Cert.quiescent_WOutSumIdeal := fun m ρ _ => Cert.WOutSumIdeal.Gen.frame m ρ

theorem frame_reference : Cert.quiescent_WOutSumReferenceIdeal := fun m ρ _ =>
  (θ_run Cert.WOutSumReferenceIdeal.defs _ _).mono (fun r h => ⟨fun c => (h c).2, sem_eq_zero_of_no_sems (by decide) r.2⟩)
    (Cert.WOutSumReferenceIdeal.Value.run m ρ)

section Reference

open Cert.WOutSumReferenceIdeal Cert.WOutSumReferenceIdeal.Gen

theorem sum_at (p : FVec Ideal S4x256x2048 .bf16) (i : S256x2048.Idx) :
    Host.reduceAdd (extf .f32 p bitsLt_bf16_f32) (constant S_ .f32 0x00000000#32) reducesTo_S4x256x2048_S256x2048_d0 h_S_ i
      = p (ValueIdx.ix3 (0 : Fin 4) (i 0) (i 1)) + p (ValueIdx.ix3 (1 : Fin 4) (i 0) (i 1)) + p (ValueIdx.ix3 (2 : Fin 4) (i 0) (i 1))
        + p (ValueIdx.ix3 (3 : Fin 4) (i 0) (i 1)) := by
  pointwise
  rw [Fin.sum_univ_four]
  rfl

end Reference

open Cert.WOutSumIdeal.Value in
theorem algebraic : Cert.algebraic_WOutSumIdeal_WOutSumReferenceIdeal := fun m ρ m' ρ' _ h =>
  ⟨fun c => total m c,
    (θ_run Cert.WOutSumIdeal.defs _ _).mono (fun _ hr c => ⟨(hr c).1.trans (final m c), (hr c).2⟩) (run_blocks m ρ),
    (θ_run Cert.WOutSumReferenceIdeal.defs _ _).mono (fun _ hr c => by
      obtain ⟨r0, hk⟩ := hr c
      refine ⟨r0.trans (funext fun i => ?_), hk⟩
      rw [h c]
      exact sum_at _ i) (Cert.WOutSumReferenceIdeal.Value.run m' ρ')⟩

end Cert.WOutSum

end
-- ==== Proof.SmallSum.lean ====
/-
  The sum of the four chips' parts of a core's rows of the small sharded tensors' gradient: the call's claims.
-/
module

public import proofs.«01_k».proof.Defs
public import proofs.«01_k».proof.Proof.Gen.SmallSum.Frame
public import proofs.«01_k».proof.Proof.Gen.SmallSumIdeal.Value
public import proofs.«01_k».proof.Proof.Gen.SmallSumReferenceIdeal.Run
public import Idealize.ShloMosaic.Lib.Pointwise
public import Idealize.ShloMosaic.Lib.Quiescent

@[expose] public section

noncomputable section

namespace Cert.SmallSumIdeal.Value

open Cert.SmallSumIdeal Cert.SmallSumIdeal.Gen Idealize.ShloMosaic Idealize.ShloMosaic.TcCoe Idealize.SL.Sem

variable (m : (ℓ : Loc nD τ sig) → Buf (Elt Ideal) ℓ) (ρ : Dev nD → PrngReg)

/-- One chip's part at an index. -/
abbrev part (c : Dev nD) (k : Fin 4) (i : S32x1024.Idx) : EReal := m ((c : Thread nD τ).loc main_arg0) (ValueIdx.ix3 k (i 0) (i 1))

abbrev total (c : Dev nD) : S32x1024.Idx → Ideal .f32 := fun i => part m c 0 i + part m c 1 i + part m c 2 i + part m c 3 i

/-- Addition, named for the congruences. -/
abbrev plus (a b : EReal) : EReal := a + b

/-- Where an element of a point's block is in the array. -/
abbrev at_ (t : Fin cfg0.N) (y : S32x1024.Idx) : S32x1024.Idx := (win0_1.blk t).view.emb y

theorem block0 (c : Dev nD) (t : Fin cfg0.N) (y : S32x1024.Idx) (k : Fin 4) (x : S4x32x1024.Idx) (h0 : (x 0).val = k.val) (h1 : (x 1).val = (y 0).val)
    (h2 : (x 2).val = (y 1).val) : iblk m c 0 t x = part m c k (at_ t y) := by
  refine congrArg (m ((c : Thread nD τ).loc main_arg0)) (funext fun a => Fin.ext ?_)
  fin_cases a
  · exact (win0_0.rect_emb_val_of_index_zero t 0 rfl x).trans h0
  · exact (win0_0.rect_emb_val t x 1).trans (.trans (by rw [h1]; rfl) (win0_1.rect_emb_val t y 0).symm)
  · exact (win0_0.rect_emb_val_of_index_zero t 2 rfl x).trans (h2.trans (win0_1.rect_emb_val_of_index_zero t 1 rfl y).symm)

theorem flushed1_total (c : Dev nD) (t : Fin cfg0.N) : (dats m 0 c).flushed 1 t = (win0_1.blk t).view.read (Elt Ideal) (total m c) := by
  rw [flushed1]
  funext y
  show out0_1 (iblk m c 0 t) y = total m c (at_ t y)
  unfold out0_1
  rw [canon1_eq]
  exact congrArg₂ plus (congrArg₂ plus (congrArg₂ plus
    (block0 m c t y 0 (r0_0.idx (ix1_0 y)) rfl (by show 0 + 1 * (y 0).val = (y 0).val; omega) (by show 0 + 1 * (y 1).val = (y 1).val; omega))
    (block0 m c t y 1 (r0_1.idx (ix1_1 y)) rfl (by show 0 + 1 * (y 0).val = (y 0).val; omega) (by show 0 + 1 * (y 1).val = (y 1).val; omega)))
    (block0 m c t y 2 (r0_2.idx (ix1_2 y)) rfl (by show 0 + 1 * (y 0).val = (y 0).val; omega) (by show 0 + 1 * (y 1).val = (y 1).val; omega)))
    (block0 m c t y 3 (r0_3.idx (ix1_3 y)) rfl (by show 0 + 1 * (y 0).val = (y 0).val; omega) (by show 0 + 1 * (y 1).val = (y 1).val; omega))

/-- The point that writes a row. -/
theorem point (i : S32x1024.Idx) : ∃ t : Fin cfg0.N, win0_1.index t 0 * 32 ≤ (i 0).val ∧ (i 0).val < win0_1.index t 0 * 32 + 32 := by
  have hi : (i 0).val < 32 := (i 0).isLt
  have hN : grid0.N = 1 := N_0
  have h : ∀ t : Fin grid0.N, win0_1.index t 0 = t.val := by decide +kernel
  refine ⟨⟨(i 0).val / 32, by show _ < grid0.N; omega⟩, ?_⟩
  rw [h ⟨(i 0).val / 32, by omega⟩]
  show (i 0).val / 32 * 32 ≤ (i 0).val ∧ (i 0).val < (i 0).val / 32 * 32 + 32
  omega

/-- The points' blocks cover the array. -/
theorem covered (i : S32x1024.Idx) : ∃ t : Fin cfg0.N, i ∈ (win0_1.blk t).view.set := by
  obtain ⟨t, h0, h1⟩ := point i
  refine ⟨t, ?_⟩
  show i ∈ ((View.whole main_v0).slice (win0_1.rect t)).set
  rw [View.set_slice_whole, Rect.mem_set_unit]
  intro a
  fin_cases a
  · exact ⟨h0, h1⟩
  · have h : (i 1).val < 1024 := (i 1).isLt
    have e : win0_1.index t 1 * win0_1.size 1 = 0 := by rw [show win0_1.index t 1 = 0 from rfl, Nat.zero_mul]
    refine ⟨?_, ?_⟩
    · show win0_1.index t 1 * win0_1.size 1 ≤ (i 1).val
      rw [e]; exact Nat.zero_le _
    · show (i 1).val < win0_1.index t 1 * win0_1.size 1 + 1024
      rw [e]; omega

theorem final (c : Dev nD) : (dats m 0 c).arrAt 1 cfg0.N = total m c :=
  (dats m 0 c).arrAt_eq_of_cover 1 (total m c) (fun t _ => flushed1_total m c t) fun i => (covered i).imp fun t h => ⟨flush0_1 t, h⟩

end Cert.SmallSumIdeal.Value

namespace Cert.SmallSum

open Idealize.ShloMosaic Idealize.ShloMosaic.TcCoe Idealize.SL.Sem

theorem frame_kernel : Cert.quiescent_SmallSum := fun m ρ _ => Cert.SmallSum.Gen.frame m ρ

theorem frame_ideal : Cert.quiescent_SmallSumIdeal := fun m ρ _ => Cert.SmallSumIdeal.Gen.frame m ρ

theorem frame_reference : Cert.quiescent_SmallSumReferenceIdeal := fun m ρ _ =>
  (θ_run Cert.SmallSumReferenceIdeal.defs _ _).mono (fun r h => ⟨fun c => (h c).2, sem_eq_zero_of_no_sems (by decide) r.2⟩)
    (Cert.SmallSumReferenceIdeal.Value.run m ρ)

section Reference

open Cert.SmallSumReferenceIdeal Cert.SmallSumReferenceIdeal.Gen

theorem sum_at (p : FVec Ideal S4x32x1024 .bf16) (i : S32x1024.Idx) :
    Host.reduceAdd (extf .f32 p bitsLt_bf16_f32) (constant S_ .f32 0x00000000#32) reducesTo_S4x32x1024_S32x1024_d0 h_S_ i
      = p (ValueIdx.ix3 (0 : Fin 4) (i 0) (i 1)) + p (ValueIdx.ix3 (1 : Fin 4) (i 0) (i 1)) + p (ValueIdx.ix3 (2 : Fin 4) (i 0) (i 1))
        + p (ValueIdx.ix3 (3 : Fin 4) (i 0) (i 1)) := by
  pointwise
  rw [Fin.sum_univ_four]
  rfl

end Reference

open Cert.SmallSumIdeal.Value in
theorem algebraic : Cert.algebraic_SmallSumIdeal_SmallSumReferenceIdeal := fun m ρ m' ρ' _ h =>
  ⟨fun c => total m c,
    (θ_run Cert.SmallSumIdeal.defs _ _).mono (fun _ hr c => ⟨(hr c).1.trans (final m c), (hr c).2⟩) (run_blocks m ρ),
    (θ_run Cert.SmallSumReferenceIdeal.defs _ _).mono (fun _ hr c => by
      obtain ⟨r0, hk⟩ := hr c
      refine ⟨r0.trans (funext fun i => ?_), hk⟩
      rw [h c]
      exact sum_at _ i) (Cert.SmallSumReferenceIdeal.Value.run m' ρ')⟩

end Cert.SmallSum

end
-- ==== Proof.WOutAdd.lean ====
/-
  The sum of a core's half of the w_out gradient and its sibling's: the call's claims.
-/
module

public import proofs.«01_k».proof.Defs
public import proofs.«01_k».proof.Proof.Gen.WOutAdd.Frame
public import proofs.«01_k».proof.Proof.Gen.WOutAddIdeal.Value
public import proofs.«01_k».proof.Proof.Gen.WOutAddReferenceIdeal.Run
public import Idealize.ShloMosaic.Lib.Quiescent

@[expose] public section

noncomputable section

namespace Cert.WOutAdd

open Idealize.ShloMosaic Idealize.ShloMosaic.TcCoe Idealize.SL.Sem

theorem frame_kernel : Cert.quiescent_WOutAdd := fun m ρ _ => Cert.WOutAdd.Gen.frame m ρ

theorem frame_ideal : Cert.quiescent_WOutAddIdeal := fun m ρ _ => Cert.WOutAddIdeal.Gen.frame m ρ

theorem frame_reference : Cert.quiescent_WOutAddReferenceIdeal := fun m ρ _ =>
  (θ_run Cert.WOutAddReferenceIdeal.defs _ _).mono (fun r h => ⟨fun c => (h c).2, sem_eq_zero_of_no_sems (by decide) r.2⟩)
    (Cert.WOutAddReferenceIdeal.Value.run m ρ)

theorem algebraic : Cert.algebraic_WOutAddIdeal_WOutAddReferenceIdeal := fun m ρ m' ρ' _ h =>
  ⟨_, Cert.WOutAddIdeal.Value.run m ρ,
    (θ_run Cert.WOutAddReferenceIdeal.defs _ _).mono (fun _ hr c => by
      obtain ⟨r0, hk⟩ := hr c
      obtain ⟨h0, h1⟩ := h c
      refine ⟨r0.trans ?_, hk⟩
      rw [h0, h1]
      rfl) (Cert.WOutAddReferenceIdeal.Value.run m' ρ')⟩

end Cert.WOutAdd

end
-- ==== Proof.SmallAdd.lean ====
/-
  The sum of a core's half of the small sharded tensors' gradient and its sibling's: the call's claims.
-/
module

public import proofs.«01_k».proof.Defs
public import proofs.«01_k».proof.Proof.Gen.SmallAdd.Frame
public import proofs.«01_k».proof.Proof.Gen.SmallAddIdeal.Value
public import proofs.«01_k».proof.Proof.Gen.SmallAddReferenceIdeal.Run
public import Idealize.ShloMosaic.Lib.Quiescent

@[expose] public section

noncomputable section

namespace Cert.SmallAdd

open Idealize.ShloMosaic Idealize.ShloMosaic.TcCoe Idealize.SL.Sem

theorem frame_kernel : Cert.quiescent_SmallAdd := fun m ρ _ => Cert.SmallAdd.Gen.frame m ρ

theorem frame_ideal : Cert.quiescent_SmallAddIdeal := fun m ρ _ => Cert.SmallAddIdeal.Gen.frame m ρ

theorem frame_reference : Cert.quiescent_SmallAddReferenceIdeal := fun m ρ _ =>
  (θ_run Cert.SmallAddReferenceIdeal.defs _ _).mono (fun r h => ⟨fun c => (h c).2, sem_eq_zero_of_no_sems (by decide) r.2⟩)
    (Cert.SmallAddReferenceIdeal.Value.run m ρ)

theorem algebraic : Cert.algebraic_SmallAddIdeal_SmallAddReferenceIdeal := fun m ρ m' ρ' _ h =>
  ⟨_, Cert.SmallAddIdeal.Value.run m ρ,
    (θ_run Cert.SmallAddReferenceIdeal.defs _ _).mono (fun _ hr c => by
      obtain ⟨r0, hk⟩ := hr c
      obtain ⟨h0, h1⟩ := h c
      refine ⟨r0.trans ?_, hk⟩
      rw [h0, h1]
      rfl) (Cert.SmallAddReferenceIdeal.Value.run m' ρ')⟩

end Cert.SmallAdd

end
-- ==== Proof.Norm.lean ====
/-
  The norm in front of the first projection: the call's claims.
-/
module

public import proofs.«01_k».proof.Defs
public import proofs.«01_k».proof.Proof.Gen.Norm.Frame
public import proofs.«01_k».proof.Proof.Gen.NormIdeal.Value
public import proofs.«01_k».proof.Proof.Gen.NormReferenceIdeal.Run
public import Idealize.ShloMosaic.Lib.Pointwise
public import Idealize.ShloMosaic.Lib.Quiescent

@[expose] public section

noncomputable section

namespace Cert.Norm.Row

open Idealize.ShloMosaic

/-- A row scaled by the inverse root of its mean square, then by the weights. -/
def normed (x w : Fin 2048 → EReal) (k : Fin 2048) : EReal :=
  x k * Ideal.rsqrt (Ideal.div (∑ j, x j * x j) (Ideal.ofBits .f32 0x45000000#32) + Ideal.ofBits .f32 0x358637BD#32) * w k

end Cert.Norm.Row

namespace Cert.NormIdeal.Value

open Cert.NormIdeal Cert.NormIdeal.Gen Idealize.ShloMosaic Idealize.ShloMosaic.TcCoe Idealize.SL.Sem
open Cert.Norm

/-- What a point computes at an entry of its block depends on that row alone. -/
theorem body_at (x : Vec Ideal S208x2048 .f32) (w : Vec Ideal S1x2048 .f32) (y : S208x2048.Idx) :
    k0_pay1 (F := Ideal) x w y = Row.normed (fun k => x (ix2 (y 0) k)) (fun k => w (ix2 (0 : Fin 1) k)) (y 1) := by
  have hx : x y = x (ix2 (y 0) (y 1)) := congrArg x (eq_ix2 y)
  unfold k0_pay1
  pointwise
  rw [hx]
  rfl

variable (m : (ℓ : Loc nD τ sig) → Buf (Elt Ideal) ℓ) (ρ : Dev nD → PrngReg)

theorem hz2 : (![0, 0] : Fin 2 → ℕ) = fun _ => 0 := by decide

/-- The normed array, an entry at a time. -/
abbrev result (c : Dev nD) : S4160x2048.Idx → Ideal .bf16 := fun i =>
  Row.normed (fun k => m ((c : Thread nD τ).loc main_arg0) (ix2 (i 0) k)) (fun k => m ((c : Thread nD τ).loc main_arg1) (ix2 (0 : Fin 1) k)) (i 1)

/-- Where an element of a point's block is in the array. -/
abbrev at_ (t : Fin cfg0.N) (y : S208x2048.Idx) : S4160x2048.Idx := (win0_2.blk t).view.emb y

theorem row_at (t : Fin cfg0.N) (y : S208x2048.Idx) : (at_ t y 0).val = win0_2.index t 0 * 208 + (y 0).val := win0_2.rect_emb_val t y 0
theorem lane_at (t : Fin cfg0.N) (y : S208x2048.Idx) : at_ t y 1 = y 1 := Fin.ext (win0_2.rect_emb_val_of_index_zero t 1 rfl y)

theorem block0 (c : Dev nD) (t : Fin cfg0.N) (y : S208x2048.Idx) (k : Fin 2048) :
    iblk m c 0 t (ix2 (y 0) k) = m ((c : Thread nD τ).loc main_arg0) (ix2 (at_ t y 0) k) := by
  refine congrArg (m ((c : Thread nD τ).loc main_arg0)) (funext fun a => Fin.ext ?_)
  fin_cases a
  · exact (win0_0.rect_emb_val t (ix2 (y 0) k) 0).trans (row_at t y).symm
  · exact win0_0.rect_emb_val_of_index_zero t 1 rfl (ix2 (y 0) k)

theorem block1 (c : Dev nD) (t : Fin cfg0.N) (k : Fin 2048) :
    iblk m c 1 t (ix2 (0 : Fin 1) k) = m ((c : Thread nD τ).loc main_arg1) (ix2 (0 : Fin 1) k) := by
  refine congrArg (m ((c : Thread nD τ).loc main_arg1)) (funext fun a => Fin.ext ?_)
  fin_cases a
  · exact win0_1.rect_emb_val_of_index_zero t 0 rfl _
  · exact win0_1.rect_emb_val_of_index_zero t 1 rfl _

theorem body_block (c : Dev nD) (t : Fin cfg0.N) (y : S208x2048.Idx) :
    k0_pay1 (F := Ideal) (iblk m c 0 t) (iblk m c 1 t) y = result m c (at_ t y) := by
  have h0 : (fun k => iblk m c 0 t (ix2 (y 0) k)) = fun k => m ((c : Thread nD τ).loc main_arg0) (ix2 (at_ t y 0) k) := funext (block0 m c t y)
  have h1 : (fun k => iblk m c 1 t (ix2 (0 : Fin 1) k)) = fun k => m ((c : Thread nD τ).loc main_arg1) (ix2 (0 : Fin 1) k) := funext (block1 m c t)
  refine (body_at _ _ y).trans ?_
  unfold result
  rw [lane_at]
  exact congrFun (congr (congrArg Row.normed h0) h1) (y 1)

theorem flushed2_total (c : Dev nD) (t : Fin cfg0.N) : (dats m 0 c).flushed 2 t = (win0_2.blk t).view.read (Elt Ideal) (result m c) := by
  rw [flushed2]
  funext y
  show out0_2 (iblk m c 0 t) (iblk m c 1 t) y = result m c (at_ t y)
  unfold out0_2
  rw [View.canon_unit_zero hz2, View.ld_unit_zero hz2, View.ld_unit_zero hz2]
  exact body_block m c t y

/-- The point that writes a row. -/
theorem point (i : S4160x2048.Idx) : ∃ t : Fin cfg0.N, win0_2.index t 0 * 208 ≤ (i 0).val ∧ (i 0).val < win0_2.index t 0 * 208 + 208 := by
  have hi : (i 0).val < 4160 := (i 0).isLt
  have hN : grid0.N = 20 := N_0
  have h : ∀ t : Fin grid0.N, win0_2.index t 0 = t.val := by decide +kernel
  refine ⟨⟨(i 0).val / 208, by show _ < grid0.N; omega⟩, ?_⟩
  rw [h ⟨(i 0).val / 208, by omega⟩]
  show (i 0).val / 208 * 208 ≤ (i 0).val ∧ (i 0).val < (i 0).val / 208 * 208 + 208
  omega

/-- The points' blocks cover the array. -/
theorem covered (i : S4160x2048.Idx) : ∃ t : Fin cfg0.N, i ∈ (win0_2.blk t).view.set := by
  obtain ⟨t, h0, h1⟩ := point i
  refine ⟨t, ?_⟩
  show i ∈ ((View.whole main_v0).slice (win0_2.rect t)).set
  rw [View.set_slice_whole, Rect.mem_set_unit]
  intro a
  fin_cases a
  · exact ⟨h0, h1⟩
  · have h : (i 1).val < 2048 := (i 1).isLt
    have e : win0_2.index t 1 * win0_2.size 1 = 0 := by rw [show win0_2.index t 1 = 0 from rfl, Nat.zero_mul]
    refine ⟨?_, ?_⟩
    · show win0_2.index t 1 * win0_2.size 1 ≤ (i 1).val
      rw [e]; exact Nat.zero_le _
    · show (i 1).val < win0_2.index t 1 * win0_2.size 1 + 2048
      rw [e]; omega

theorem final (c : Dev nD) : (dats m 0 c).arrAt 2 cfg0.N = result m c :=
  (dats m 0 c).arrAt_eq_of_cover 2 (result m c) (fun t _ => flushed2_total m c t) fun i => (covered i).imp fun t h => ⟨flush0_2 t, h⟩

end Cert.NormIdeal.Value

namespace Cert.Norm

open Idealize.ShloMosaic Idealize.ShloMosaic.TcCoe Idealize.SL.Sem

theorem frame_kernel : Cert.quiescent_Norm := fun m ρ _ => Cert.Norm.Gen.frame m ρ

theorem frame_ideal : Cert.quiescent_NormIdeal := fun m ρ _ => Cert.NormIdeal.Gen.frame m ρ

theorem frame_reference : Cert.quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run m ρ)

open Cert.NormIdeal.Value in
theorem algebraic : Cert.algebraic_NormIdeal_NormReferenceIdeal := fun m ρ m' ρ' _ h =>
  ⟨fun c => result m c,
    (θ_run Cert.NormIdeal.defs _ _).mono (fun _ hr c => ⟨(hr c).1.trans (final m c), (hr c).2⟩) (run_blocks m ρ),
    (θ_run Cert.NormReferenceIdeal.defs _ _).mono (fun _ hr c => by
      obtain ⟨r0, hk⟩ := hr c
      obtain ⟨h0, h1⟩ := h c
      refine ⟨r0.trans (funext fun i => ?_), hk⟩
      rw [h0, h1]
      have hx := congrArg (m ((c : Thread Cert.NormIdeal.nD Cert.NormIdeal.τ).loc Cert.NormIdeal.main_arg0)) (eq_ix2 i)
      pointwise
      rw [hx]
      rfl) (Cert.NormReferenceIdeal.Value.run m' ρ')⟩

end Cert.Norm

end
-- ==== Proof.MetaGrads.lean ====
/-
  The gradients through the norm of the first sixteen rows, the rows that the chips share: the call's claims.
-/
module

public import proofs.«01_k».proof.Defs
public import proofs.«01_k».proof.Proof.Gen.MetaGrads.Frame
public import proofs.«01_k».proof.Proof.Gen.MetaGradsIdeal.Value
public import proofs.«01_k».proof.Proof.Gen.MetaGradsReferenceIdeal.Run
public import Idealize.ShloMosaic.Lib.Pointwise
public import Idealize.ShloMosaic.Lib.Quiescent
public import Idealize.ShloMosaic.Lib.VecWindow

@[expose] public section

noncomputable section

namespace Cert.MetaGrads.Row

open Idealize.ShloMosaic

variable (x w d : Fin 2048 → EReal) (z : EReal)

/-- A row's mean square, and the constant that keeps it from zero. -/
def square : EReal := Ideal.div (∑ k, x k * x k) (Ideal.ofBits .f32 0x45000000#32) + Ideal.ofBits .f32 0x358637BD#32

/-- What moving the mean of the row's squares does to the result, per entry of the row. -/
def share : EReal :=
  Ideal.div ((∑ k, x k * (d k * w k)) * (Ideal.ofBits .f32 0xBF000000#32 * Ideal.div (Ideal.rsqrt (square x)) (square x)))
    (Ideal.ofBits .f32 0x45000000#32)

/-- The gradient of an entry of the row: through the scaling, through the square on both sides, and past the norm. -/
def grad (k : Fin 2048) : EReal :=
  d k * w k * Ideal.rsqrt (square x) + x k * (∑ _ : Fin 1, share x w d) + (∑ _ : Fin 1, share x w d) * x k + z

/-- What the row adds to the gradient of a weight. -/
def weight (k : Fin 2048) : EReal := x k * Ideal.rsqrt (square x) * d k

/-- The row of an argument that a row of the result comes from: the same, of many more. -/
abbrev of_ (r : Fin 16) : Fin 4160 := ⟨r.val, by omega⟩

end Cert.MetaGrads.Row

namespace Cert.MetaGradsIdeal.Value

open Cert.MetaGradsIdeal Cert.MetaGradsIdeal.Gen Idealize.ShloMosaic Idealize.ShloMosaic.TcCoe Idealize.SL.Sem
open Cert.MetaGrads

/-- The first result's block at an entry depends on that row alone. -/
theorem grad_at (x : Vec Ideal S16x2048 .f32) (w : Vec Ideal S1x2048 .f32) (d z : Vec Ideal S16x2048 .f32) (y : S16x2048.Idx) :
    k0_pay6 (F := Ideal) x w d z y
      = Row.grad (fun k => x (ix2 (y 0) k)) (fun k => w (ix2 (0 : Fin 1) k)) (fun k => d (ix2 (y 0) k)) (z y) (y 1) := by
  have hx : x y = x (ix2 (y 0) (y 1)) := congrArg x (eq_ix2 y)
  have hd : d y = d (ix2 (y 0) (y 1)) := congrArg d (eq_ix2 y)
  unfold k0_pay6 k0_pay4 k0_pay3
  pointwise
  rw [hx, hd, add_assoc, add_assoc, add_comm (z y), ← add_assoc]
  rfl

/-- The second result's block at an entry: what was there and the rows' sum. -/
theorem weight_at (v : Vec Ideal S1x2048 .f32) (x d : Vec Ideal S16x2048 .f32) (y : S1x2048.Idx) :
    k0_pay2 (F := Ideal) (k0_pay5 (F := Ideal) x d) v y
      = v y + ∑ r : Fin 16, Row.weight (fun k => x (ix2 r k)) (fun k => d (ix2 r k)) (y 1) := by
  unfold k0_pay2 k0_pay5 k0_pay4 k0_pay3
  pointwise
  rfl

variable (m : (ℓ : Loc nD τ sig) → Buf (Elt Ideal) ℓ) (ρ : Dev nD → PrngReg)

theorem hz2 : (![0, 0] : Fin 2 → ℕ) = fun _ => 0 := by decide

/-- A row of the activations, the weights, and a row of the incoming gradient. -/
abbrev acts (c : Dev nD) (r : Fin 16) : Fin 2048 → EReal := fun k => m ((c : Thread nD τ).loc main_arg0) (ix2 (Row.of_ r) k)
abbrev weights (c : Dev nD) : Fin 2048 → EReal := fun k => m ((c : Thread nD τ).loc main_arg1) (ix2 (0 : Fin 1) k)
abbrev into (c : Dev nD) (r : Fin 16) : Fin 2048 → EReal := fun k => m ((c : Thread nD τ).loc main_arg2) (ix2 (Row.of_ r) k)

/-- The two results, an entry at a time. -/
abbrev rows (c : Dev nD) : S16x2048.Idx → Ideal .f32 := fun i =>
  Row.grad (acts m c (i 0)) (weights m c) (into m c (i 0)) (m ((c : Thread nD τ).loc main_arg3) (ix2 (Row.of_ (i 0)) (i 1))) (i 1)
abbrev total (c : Dev nD) : S1x2048.Idx → Ideal .f32 := fun i => ∑ r : Fin 16, Row.weight (acts m c r) (into m c r) (i 1)

theorem flushed4_body (c : Dev nD) (t : Fin cfg0.N) : (dats m 0 c).flushed 4 t
    = (cfg0.win 4).cut (grid0.coords t) (k0_pay6 (F := Ideal) (iblk m c 0 t) (iblk m c 1 t) (iblk m c 2 t) (iblk m c 3 t)) := by
  rw [flushed4_A m c t]
  unfold out0_A_4
  rw [View.read_writes_junk_eq_canon]
  refine congrArg ((cfg0.win 4).cut (grid0.coords t)) ?_
  dsimp only [kernelRun0_A]
  rw [View.canon_unit_zero hz2, View.readAt_eq_ld, View.readAt_eq_ld, View.readAt_eq_ld, View.readAt_eq_ld,
    Memref.IsWhole.read_unread, Memref.IsWhole.read_unread, Memref.IsWhole.read_unread, Memref.IsWhole.read_unread,
    View.ld_unit_zero hz2, View.ld_unit_zero hz2, View.ld_unit_zero hz2, View.ld_unit_zero hz2]

/-- The one point sets the sum to zero, then adds to it. -/
theorem flushed5_body (c : Dev nD) (t : Fin cfg0.N) : (dats m 0 c).flushed 5 t
    = (cfg0.win 5).cut (grid0.coords t)
      (k0_pay2 (F := Ideal) (k0_pay5 (F := Ideal) (iblk m c 0 t) (iblk m c 2 t)) (k0_pay1 (F := Ideal))) := by
  rw [flushed5_A m c t]
  unfold out0_A_5
  rw [View.read_writes_junk_eq_canon]
  refine congrArg ((cfg0.win 5).cut (grid0.coords t)) ?_
  dsimp only [kernelRun0_A]
  unfold kernelRun0_A.sl.r kernelRun0_A.sl.v42 kernelRun0_A.sl.H5_1
  rw [View.canon_cons_unit_zero hz2, View.readAt_eq_ld, View.readAt_eq_ld, Memref.IsWhole.read_unread, Memref.IsWhole.read_unread,
    View.ld_unit_zero hz2, View.ld_unit_zero hz2]
  exact congrArg (fun v => k0_pay2 (k0_pay5 (iblk m c 0 t) (iblk m c 2 t)) v) (View.readCov_full ..)

theorem start0 : ∀ t : Fin grid0.N, win0_0.index t 0 = 0 ∧ win0_0.index t 1 = 0 := by decide +kernel
theorem start2 : ∀ t : Fin grid0.N, win0_2.index t 0 = 0 ∧ win0_2.index t 1 = 0 := by decide +kernel
theorem start3 : ∀ t : Fin grid0.N, win0_3.index t 0 = 0 ∧ win0_3.index t 1 = 0 := by decide +kernel
theorem start4 : ∀ t : Fin grid0.N, win0_4.index t 0 = 0 ∧ win0_4.index t 1 = 0 := by decide +kernel
theorem start5 : ∀ t : Fin grid0.N, win0_5.index t 0 = 0 ∧ win0_5.index t 1 = 0 := by decide +kernel

theorem block0 (c : Dev nD) (t : Fin cfg0.N) (r : Fin 16) (k : Fin 2048) :
    iblk m c 0 t (ix2 r k) = m ((c : Thread nD τ).loc main_arg0) (ix2 (Row.of_ r) k) := by
  refine congrArg (m ((c : Thread nD τ).loc main_arg0)) (funext fun a => Fin.ext ?_)
  fin_cases a
  · exact win0_0.rect_emb_val_of_index_zero t 0 (start0 t).1 (ix2 r k)
  · exact win0_0.rect_emb_val_of_index_zero t 1 (start0 t).2 (ix2 r k)

theorem block1 (c : Dev nD) (t : Fin cfg0.N) (k : Fin 2048) :
    iblk m c 1 t (ix2 (0 : Fin 1) k) = m ((c : Thread nD τ).loc main_arg1) (ix2 (0 : Fin 1) k) := by
  refine congrArg (m ((c : Thread nD τ).loc main_arg1)) (funext fun a => Fin.ext ?_)
  fin_cases a
  · exact win0_1.rect_emb_val_of_index_zero t 0 rfl _
  · exact win0_1.rect_emb_val_of_index_zero t 1 rfl _

theorem block2 (c : Dev nD) (t : Fin cfg0.N) (r : Fin 16) (k : Fin 2048) :
    iblk m c 2 t (ix2 r k) = m ((c : Thread nD τ).loc main_arg2) (ix2 (Row.of_ r) k) := by
  refine congrArg (m ((c : Thread nD τ).loc main_arg2)) (funext fun a => Fin.ext ?_)
  fin_cases a
  · exact win0_2.rect_emb_val_of_index_zero t 0 (start2 t).1 (ix2 r k)
  · exact win0_2.rect_emb_val_of_index_zero t 1 (start2 t).2 (ix2 r k)

theorem block3 (c : Dev nD) (t : Fin cfg0.N) (r : Fin 16) (k : Fin 2048) :
    iblk m c 3 t (ix2 r k) = m ((c : Thread nD τ).loc main_arg3) (ix2 (Row.of_ r) k) := by
  refine congrArg (m ((c : Thread nD τ).loc main_arg3)) (funext fun a => Fin.ext ?_)
  fin_cases a
  · exact win0_3.rect_emb_val_of_index_zero t 0 (start3 t).1 (ix2 r k)
  · exact win0_3.rect_emb_val_of_index_zero t 1 (start3 t).2 (ix2 r k)

/-- The one point's blocks are the whole of the two results. -/
theorem whole4 (t : Fin cfg0.N) (y : S16x2048.Idx) : ((win0_4.blk t).view.emb y : S16x2048.Idx) = y :=
  funext fun a => Fin.ext (by
    fin_cases a
    · exact win0_4.rect_emb_val_of_index_zero t 0 (start4 t).1 y
    · exact win0_4.rect_emb_val_of_index_zero t 1 (start4 t).2 y)

theorem whole5 (t : Fin cfg0.N) (y : S1x2048.Idx) : ((win0_5.blk t).view.emb y : S1x2048.Idx) = y :=
  funext fun a => Fin.ext (by
    fin_cases a
    · exact win0_5.rect_emb_val_of_index_zero t 0 (start5 t).1 y
    · exact win0_5.rect_emb_val_of_index_zero t 1 (start5 t).2 y)

theorem flushed4_total (c : Dev nD) (t : Fin cfg0.N) : (dats m 0 c).flushed 4 t = (win0_4.blk t).view.read (Elt Ideal) (rows m c) :=
  (flushed4_body m c t).trans (funext fun y => by
    have h0 : (fun k => iblk m c 0 t (ix2 (y 0) k)) = acts m c (y 0) := funext (block0 m c t (y 0))
    have h1 : (fun k => iblk m c 1 t (ix2 (0 : Fin 1) k)) = weights m c := funext (block1 m c t)
    have h2 : (fun k => iblk m c 2 t (ix2 (y 0) k)) = into m c (y 0) := funext (block2 m c t (y 0))
    have h3 : iblk m c 3 t y = m ((c : Thread nD τ).loc main_arg3) (ix2 (Row.of_ (y 0)) (y 1)) :=
      (congrArg (iblk m c 3 t) (eq_ix2 y)).trans (block3 m c t (y 0) (y 1))
    refine (grad_at _ _ _ _ y).trans ((congrFun (congr (congr (congr (congrArg Row.grad h0) h1) h2) h3) (y 1)).trans ?_)
    exact congrArg (rows m c) (whole4 t y).symm)

theorem flushed5_total (c : Dev nD) (t : Fin cfg0.N) : (dats m 0 c).flushed 5 t = (win0_5.blk t).view.read (Elt Ideal) (total m c) :=
  (flushed5_body m c t).trans (funext fun y => by
    have h0 : ∀ r, (fun k => iblk m c 0 t (ix2 r k)) = acts m c r := fun r => funext (block0 m c t r)
    have h2 : ∀ r, (fun k => iblk m c 2 t (ix2 r k)) = into m c r := fun r => funext (block2 m c t r)
    have hz : (k0_pay1 (F := Ideal) y : EReal) = 0 := Ideal.ofBits_zero .f32
    refine (weight_at _ _ _ y).trans ?_
    rw [hz, zero_add]
    refine (Finset.sum_congr rfl fun r _ => congrFun (congr (congrArg Row.weight (h0 r)) (h2 r)) (y 1)).trans ?_
    exact congrArg (total m c) (whole5 t y).symm)

abbrev only : Fin cfg0.N := ⟨0, by decide⟩

theorem final4 (c : Dev nD) : (dats m 0 c).arrAt 4 cfg0.N = rows m c :=
  (dats m 0 c).arrAt_eq_of_cover 4 (rows m c) (fun t _ => flushed4_total m c t) fun i =>
    ⟨only, flush0_4 only, by
      have h : (win0_4.blk only).view.emb i ∈ (win0_4.blk only).view.set := View.emb_mem_set ..
      rwa [whole4] at h⟩

theorem final5 (c : Dev nD) : (dats m 0 c).arrAt 5 cfg0.N = total m c :=
  (dats m 0 c).arrAt_eq_of_cover 5 (total m c) (fun t _ => flushed5_total m c t) fun i =>
    ⟨only, (by decide +kernel : ∀ t : Fin grid0.N, win0_5.flush t = true) only, by
      have h : (win0_5.blk only).view.emb i ∈ (win0_5.blk only).view.set := View.emb_mem_set ..
      rwa [whole5] at h⟩

end Cert.MetaGradsIdeal.Value

namespace Cert.MetaGrads

open Idealize.ShloMosaic Idealize.ShloMosaic.TcCoe Idealize.SL.Sem

theorem frame_kernel : Cert.quiescent_MetaGrads := fun m ρ _ => Cert.MetaGrads.Gen.frame m ρ

theorem frame_ideal : Cert.quiescent_MetaGradsIdeal := fun m ρ _ => Cert.MetaGradsIdeal.Gen.frame m ρ

theorem frame_reference : Cert.quiescent_MetaGradsReferenceIdeal := fun m ρ _ =>
  (θ_run Cert.MetaGradsReferenceIdeal.defs _ _).mono (fun r h => ⟨fun c => (h c).2.2, sem_eq_zero_of_no_sems (by decide) r.2⟩)
    (Cert.MetaGradsReferenceIdeal.Value.run m ρ)

open Cert.MetaGradsIdeal.Value in
theorem algebraic : Cert.algebraic_MetaGradsIdeal_MetaGradsReferenceIdeal := fun m ρ m' ρ' _ h =>
  ⟨fun c => rows m c, fun c => total m c,
    (θ_run Cert.MetaGradsIdeal.defs _ _).mono
      (fun _ hr c => ⟨(hr c).1.trans (final4 m c), (hr c).2.1.trans (final5 m c), (hr c).2.2⟩) (run_blocks m ρ),
    (θ_run Cert.MetaGradsReferenceIdeal.defs _ _).mono (fun _ hr c => by
      obtain ⟨r0, r1, hk⟩ := hr c
      obtain ⟨h0, h1, h2, h3⟩ := h c
      refine ⟨r0.trans (funext fun i => ?_), r1.trans (funext fun i => ?_), hk⟩
      · unfold Cert.MetaGradsReferenceIdeal.Value.res_main_v37
        rw [h0, h1, h2, h3]
        pointwise
        rfl
      · rw [h0, h2]
        pointwise
        rfl) (Cert.MetaGradsReferenceIdeal.Value.run m' ρ')⟩

end Cert.MetaGrads

end
-- ==== Proof.InProj.lean ====
/-
  The first projection, a product of the normed activations and w_in: the call's claims.
-/
module

public import proofs.«01_k».proof.Defs
public import proofs.«01_k».proof.Proof.Gen.InProj.Frame
public import proofs.«01_k».proof.Proof.Gen.InProjIdeal.Value
public import proofs.«01_k».proof.Proof.Gen.InProjReferenceIdeal.Run
public import Idealize.ShloMosaic.Lib.Pointwise
public import Idealize.ShloMosaic.Lib.Quiescent
public import Idealize.ShloMosaic.Lib.VecWindow

@[expose] public section

noncomputable section

namespace Cert.InProjIdeal.Value

open Cert.InProjIdeal Cert.InProjIdeal.Gen Idealize.ShloMosaic Idealize.ShloMosaic.TcCoe Idealize.SL.Sem

/-- What a point adds at an entry of its block: a row times a column. -/
theorem body_at (v : Vec Ideal S832x1408 .f32) (x : Vec Ideal S832x2048 .bf16) (w : Vec Ideal S2048x1408 .bf16) (y : S832x1408.Idx) :
    k0_pay2 (F := Ideal) v x w y = v y + ∑ k : Fin 2048, x (ix2 (y 0) k) * w (ix2 k (y 1)) := by
  unfold k0_pay2
  pointwise

variable (m : (ℓ : Loc nD τ sig) → Buf (Elt Ideal) ℓ) (ρ : Dev nD → PrngReg)

theorem hz2 : (![0, 0] : Fin 2 → ℕ) = fun _ => 0 := by decide

/-- The two factors. -/
abbrev left (c : Dev nD) : S4160x2048.Idx → EReal := m ((c : Thread nD τ).loc main_arg0)
abbrev right (c : Dev nD) : S2048x8448.Idx → EReal := m ((c : Thread nD τ).loc main_arg1)

/-- The product, an entry at a time. -/
abbrev prod (c : Dev nD) : S4160x8448.Idx → Ideal .f32 := fun i => ∑ k : Fin 2048, left m c (ix2 (i 0) k) * right m c (ix2 k (i 1))

/-- Where an element of a point's block is in the array. -/
abbrev at_ (t : Fin cfg0.N) (y : S832x1408.Idx) : S4160x8448.Idx := (win0_3.blk t).view.emb y

/-- A point sets its block to zero, then adds its one product. -/
theorem flushed_body (c : Dev nD) (t : Fin cfg0.N) : (dats m 0 c).flushed 3 t
    = (cfg0.win 3).cut (grid0.coords t) (k0_pay2 (F := Ideal) (k0_pay1 (F := Ideal)) (iblk m c 0 t) (iblk m c 1 t)) := by
  rw [flushed3_A m c t]
  unfold out0_A_3
  rw [View.read_writes_junk_eq_canon]
  refine congrArg ((cfg0.win 3).cut (grid0.coords t)) ?_
  dsimp only [kernelRun0_A]
  unfold kernelRun0_A.sl.v3 kernelRun0_A.sl.H3_1
  rw [View.canon_cons_unit_zero hz2, View.readAt_eq_ld, View.readAt_eq_ld, Memref.IsWhole.read_unread, Memref.IsWhole.read_unread,
    View.ld_unit_zero hz2, View.ld_unit_zero hz2]
  exact congrArg (fun v => k0_pay2 v (iblk m c 0 t) (iblk m c 1 t)) (View.readCov_full ..)

theorem with0 : ∀ t : Fin grid0.N, win0_0.index t 0 = win0_3.index t 0 ∧ win0_0.index t 1 = 0 := by decide +kernel
theorem with1 : ∀ t : Fin grid0.N, win0_1.index t 1 = win0_3.index t 1 ∧ win0_1.index t 0 = 0 := by decide +kernel

theorem row_at (t : Fin cfg0.N) (y : S832x1408.Idx) : (at_ t y 0).val = win0_3.index t 0 * 832 + (y 0).val := win0_3.rect_emb_val t y 0
theorem lane_at (t : Fin cfg0.N) (y : S832x1408.Idx) : (at_ t y 1).val = win0_3.index t 1 * 1408 + (y 1).val := win0_3.rect_emb_val t y 1

theorem block0 (c : Dev nD) (t : Fin cfg0.N) (y : S832x1408.Idx) (k : Fin 2048) :
    iblk m c 0 t (ix2 (y 0) k) = m ((c : Thread nD τ).loc main_arg0) (ix2 (at_ t y 0) k) := by
  refine congrArg (m ((c : Thread nD τ).loc main_arg0)) (funext fun a => Fin.ext ?_)
  fin_cases a
  · refine (win0_0.rect_emb_val t (ix2 (y 0) k) 0).trans (.trans ?_ (row_at t y).symm)
    rw [(with0 t).1]; rfl
  · exact win0_0.rect_emb_val_of_index_zero t 1 (with0 t).2 (ix2 (y 0) k)

theorem block1 (c : Dev nD) (t : Fin cfg0.N) (y : S832x1408.Idx) (k : Fin 2048) :
    iblk m c 1 t (ix2 k (y 1)) = m ((c : Thread nD τ).loc main_arg1) (ix2 k (at_ t y 1)) := by
  refine congrArg (m ((c : Thread nD τ).loc main_arg1)) (funext fun a => Fin.ext ?_)
  fin_cases a
  · exact win0_1.rect_emb_val_of_index_zero t 0 (with1 t).2 (ix2 k (y 1))
  · refine (win0_1.rect_emb_val t (ix2 k (y 1)) 1).trans (.trans ?_ (lane_at t y).symm)
    rw [(with1 t).1]; rfl

theorem flushed_eq (c : Dev nD) (t : Fin cfg0.N) : (dats m 0 c).flushed 3 t = (win0_3.blk t).view.read (Elt Ideal) (prod m c) :=
  (flushed_body m c t).trans (funext fun y => by
    show k0_pay2 (F := Ideal) (k0_pay1 (F := Ideal)) (iblk m c 0 t) (iblk m c 1 t) y = prod m c (at_ t y)
    refine (body_at _ _ _ y).trans ?_
    have hz : (k0_pay1 (F := Ideal) y : EReal) = 0 := Ideal.ofBits_zero .f32
    rw [hz, zero_add]
    exact Finset.sum_congr rfl fun k _ => congrArg₂ (fun a b : EReal => a * b) (block0 m c t y k) (block1 m c t y k))

/-- The point that writes an entry. -/
theorem point : ∀ (a : Fin 5) (b : Fin 6), ∃ t : Fin grid0.N, win0_3.index t 0 = a.val ∧ win0_3.index t 1 = b.val := by decide +kernel

/-- The points' blocks cover the array. -/
theorem covered (i : S4160x8448.Idx) : ∃ t : Fin cfg0.N, i ∈ (win0_3.blk t).view.set := by
  have h0 : (i 0).val < 4160 := (i 0).isLt
  have h1 : (i 1).val < 8448 := (i 1).isLt
  obtain ⟨t, e0, e1⟩ := point ⟨(i 0).val / 832, by omega⟩ ⟨(i 1).val / 1408, by omega⟩
  refine ⟨t, ?_⟩
  show i ∈ ((View.whole main_v0).slice (win0_3.rect t)).set
  rw [View.set_slice_whole, Rect.mem_set_unit]
  intro a
  fin_cases a
  · show win0_3.index t 0 * 832 ≤ (i 0).val ∧ (i 0).val < win0_3.index t 0 * 832 + 832
    rw [e0]; show (i 0).val / 832 * 832 ≤ (i 0).val ∧ (i 0).val < (i 0).val / 832 * 832 + 832
    omega
  · show win0_3.index t 1 * 1408 ≤ (i 1).val ∧ (i 1).val < win0_3.index t 1 * 1408 + 1408
    rw [e1]; show (i 1).val / 1408 * 1408 ≤ (i 1).val ∧ (i 1).val < (i 1).val / 1408 * 1408 + 1408
    omega

theorem final (c : Dev nD) : (dats m 0 c).arrAt 3 cfg0.N = prod m c :=
  (dats m 0 c).arrAt_eq_of_cover 3 (prod m c) (fun t _ => flushed_eq m c t) fun i => (covered i).imp fun t h => ⟨flush0_3 t, h⟩

end Cert.InProjIdeal.Value

namespace Cert.InProj

open Idealize.ShloMosaic Idealize.ShloMosaic.TcCoe Idealize.SL.Sem

theorem frame_kernel : Cert.quiescent_InProj := fun m ρ _ => Cert.InProj.Gen.frame m ρ

theorem frame_ideal : Cert.quiescent_InProjIdeal := fun m ρ _ => Cert.InProjIdeal.Gen.frame m ρ

theorem frame_reference : Cert.quiescent_InProjReferenceIdeal := fun m ρ _ =>
  (θ_run Cert.InProjReferenceIdeal.defs _ _).mono (fun r h => ⟨fun c => (h c).2, sem_eq_zero_of_no_sems (by decide) r.2⟩)
    (Cert.InProjReferenceIdeal.Value.run m ρ)

section Reference

open Cert.InProjReferenceIdeal Cert.InProjReferenceIdeal.Gen

theorem product_at (x : FVec Ideal S4160x2048 .bf16) (w : FVec Ideal S2048x8448 .bf16) (i : S4160x8448.Idx) :
    (Host.dotGeneral dot_S4160x2048_S2048x8448_S4160x8448_1_0_0_1_n_n none x w : FVec Ideal S4160x8448 .f32) i
      = ∑ k : Fin 2048, x (ix2 (i 0) k) * w (ix2 k (i 1)) := by
  pointwise

end Reference

open Cert.InProjIdeal.Value in
theorem algebraic : Cert.algebraic_InProjIdeal_InProjReferenceIdeal := fun m ρ m' ρ' _ h =>
  ⟨fun c => prod m c,
    (θ_run Cert.InProjIdeal.defs _ _).mono (fun _ hr c => ⟨(hr c).1.trans (final m c), (hr c).2⟩) (run_blocks m ρ),
    (θ_run Cert.InProjReferenceIdeal.defs _ _).mono (fun _ hr c => by
      obtain ⟨r0, hk⟩ := hr c
      obtain ⟨h0, h1, _⟩ := h c
      refine ⟨r0.trans (funext fun i => ?_), hk⟩
      rw [h0, h1]
      exact product_at _ _ i) (Cert.InProjReferenceIdeal.Value.run m' ρ')⟩

end Cert.InProj

end
-- ==== Proof.DWOut.lean ====
/-
  The gradient of w_out, a product of the mixers' output and the gradient that reaches it: the call's claims.
-/
module

public import proofs.«01_k».proof.Defs
public import proofs.«01_k».proof.Proof.Gen.DWOut.Frame
public import proofs.«01_k».proof.Proof.Gen.DWOutIdeal.Value
public import proofs.«01_k».proof.Proof.Gen.DWOutReferenceIdeal.Run
public import Idealize.ShloMosaic.Lib.Pointwise
public import Idealize.ShloMosaic.Lib.Quiescent
public import Idealize.ShloMosaic.Lib.VecWindow

@[expose] public section

noncomputable section

namespace Cert.DWOutIdeal.Value

open Cert.DWOutIdeal Cert.DWOutIdeal.Gen Idealize.ShloMosaic Idealize.ShloMosaic.TcCoe Idealize.SL.Sem

/-- What a point adds at an entry of its block: a row times a column. -/
theorem body_at (v : Vec Ideal S512x1024 .f32) (x : Vec Ideal S512x4160 .bf16) (w : Vec Ideal S4160x1024 .bf16) (y : S512x1024.Idx) :
    k0_pay2 (F := Ideal) v x w y = v y + ∑ k : Fin 4160, x (ix2 (y 0) k) * w (ix2 k (y 1)) := by
  unfold k0_pay2
  pointwise

variable (m : (ℓ : Loc nD τ sig) → Buf (Elt Ideal) ℓ) (ρ : Dev nD → PrngReg)

theorem hz2 : (![0, 0] : Fin 2 → ℕ) = fun _ => 0 := by decide

/-- The two factors. -/
abbrev left (c : Dev nD) : S2048x4160.Idx → EReal := m ((c : Thread nD τ).loc main_arg0)
abbrev right (c : Dev nD) : S4160x2048.Idx → EReal := m ((c : Thread nD τ).loc main_arg1)

/-- The product, an entry at a time. -/
abbrev prod (c : Dev nD) : S2048x2048.Idx → Ideal .f32 := fun i => ∑ k : Fin 4160, left m c (ix2 (i 0) k) * right m c (ix2 k (i 1))

/-- Where an element of a point's block is in the array. -/
abbrev at_ (t : Fin cfg0.N) (y : S512x1024.Idx) : S2048x2048.Idx := (win0_2.blk t).view.emb y

/-- A point sets its block to zero, then adds its one product. -/
theorem flushed_body (c : Dev nD) (t : Fin cfg0.N) : (dats m 0 c).flushed 2 t
    = (cfg0.win 2).cut (grid0.coords t) (k0_pay2 (F := Ideal) (k0_pay1 (F := Ideal)) (iblk m c 0 t) (iblk m c 1 t)) := by
  rw [flushed2_A m c t]
  unfold out0_A_2
  rw [View.read_writes_junk_eq_canon]
  refine congrArg ((cfg0.win 2).cut (grid0.coords t)) ?_
  dsimp only [kernelRun0_A]
  unfold kernelRun0_A.sl.v3 kernelRun0_A.sl.H2_1
  rw [View.canon_cons_unit_zero hz2, View.readAt_eq_ld, View.readAt_eq_ld, Memref.IsWhole.read_unread, Memref.IsWhole.read_unread,
    View.ld_unit_zero hz2, View.ld_unit_zero hz2]
  exact congrArg (fun v => k0_pay2 v (iblk m c 0 t) (iblk m c 1 t)) (View.readCov_full ..)

theorem with0 : ∀ t : Fin grid0.N, win0_0.index t 0 = win0_2.index t 0 ∧ win0_0.index t 1 = 0 := by decide +kernel
theorem with1 : ∀ t : Fin grid0.N, win0_1.index t 1 = win0_2.index t 1 ∧ win0_1.index t 0 = 0 := by decide +kernel

theorem row_at (t : Fin cfg0.N) (y : S512x1024.Idx) : (at_ t y 0).val = win0_2.index t 0 * 512 + (y 0).val := win0_2.rect_emb_val t y 0
theorem lane_at (t : Fin cfg0.N) (y : S512x1024.Idx) : (at_ t y 1).val = win0_2.index t 1 * 1024 + (y 1).val := win0_2.rect_emb_val t y 1

theorem block0 (c : Dev nD) (t : Fin cfg0.N) (y : S512x1024.Idx) (k : Fin 4160) :
    iblk m c 0 t (ix2 (y 0) k) = m ((c : Thread nD τ).loc main_arg0) (ix2 (at_ t y 0) k) := by
  refine congrArg (m ((c : Thread nD τ).loc main_arg0)) (funext fun a => Fin.ext ?_)
  fin_cases a
  · refine (win0_0.rect_emb_val t (ix2 (y 0) k) 0).trans (.trans ?_ (row_at t y).symm)
    rw [(with0 t).1]; rfl
  · exact win0_0.rect_emb_val_of_index_zero t 1 (with0 t).2 (ix2 (y 0) k)

theorem block1 (c : Dev nD) (t : Fin cfg0.N) (y : S512x1024.Idx) (k : Fin 4160) :
    iblk m c 1 t (ix2 k (y 1)) = m ((c : Thread nD τ).loc main_arg1) (ix2 k (at_ t y 1)) := by
  refine congrArg (m ((c : Thread nD τ).loc main_arg1)) (funext fun a => Fin.ext ?_)
  fin_cases a
  · exact win0_1.rect_emb_val_of_index_zero t 0 (with1 t).2 (ix2 k (y 1))
  · refine (win0_1.rect_emb_val t (ix2 k (y 1)) 1).trans (.trans ?_ (lane_at t y).symm)
    rw [(with1 t).1]; rfl

theorem flushed_eq (c : Dev nD) (t : Fin cfg0.N) : (dats m 0 c).flushed 2 t = (win0_2.blk t).view.read (Elt Ideal) (prod m c) :=
  (flushed_body m c t).trans (funext fun y => by
    show k0_pay2 (F := Ideal) (k0_pay1 (F := Ideal)) (iblk m c 0 t) (iblk m c 1 t) y = prod m c (at_ t y)
    refine (body_at _ _ _ y).trans ?_
    have hz : (k0_pay1 (F := Ideal) y : EReal) = 0 := Ideal.ofBits_zero .f32
    rw [hz, zero_add]
    exact Finset.sum_congr rfl fun k _ => congrArg₂ (fun a b : EReal => a * b) (block0 m c t y k) (block1 m c t y k))

/-- The point that writes an entry. -/
theorem point : ∀ (a : Fin 4) (b : Fin 2), ∃ t : Fin grid0.N, win0_2.index t 0 = a.val ∧ win0_2.index t 1 = b.val := by decide +kernel

/-- The points' blocks cover the array. -/
theorem covered (i : S2048x2048.Idx) : ∃ t : Fin cfg0.N, i ∈ (win0_2.blk t).view.set := by
  have h0 : (i 0).val < 2048 := (i 0).isLt
  have h1 : (i 1).val < 2048 := (i 1).isLt
  obtain ⟨t, e0, e1⟩ := point ⟨(i 0).val / 512, by omega⟩ ⟨(i 1).val / 1024, by omega⟩
  refine ⟨t, ?_⟩
  show i ∈ ((View.whole main_v0).slice (win0_2.rect t)).set
  rw [View.set_slice_whole, Rect.mem_set_unit]
  intro a
  fin_cases a
  · show win0_2.index t 0 * 512 ≤ (i 0).val ∧ (i 0).val < win0_2.index t 0 * 512 + 512
    rw [e0]; show (i 0).val / 512 * 512 ≤ (i 0).val ∧ (i 0).val < (i 0).val / 512 * 512 + 512
    omega
  · show win0_2.index t 1 * 1024 ≤ (i 1).val ∧ (i 1).val < win0_2.index t 1 * 1024 + 1024
    rw [e1]; show (i 1).val / 1024 * 1024 ≤ (i 1).val ∧ (i 1).val < (i 1).val / 1024 * 1024 + 1024
    omega

theorem final (c : Dev nD) : (dats m 0 c).arrAt 2 cfg0.N = prod m c :=
  (dats m 0 c).arrAt_eq_of_cover 2 (prod m c) (fun t _ => flushed_eq m c t) fun i => (covered i).imp fun t h => ⟨flush0_2 t, h⟩

end Cert.DWOutIdeal.Value

namespace Cert.DWOut

open Idealize.ShloMosaic Idealize.ShloMosaic.TcCoe Idealize.SL.Sem

theorem frame_kernel : Cert.quiescent_DWOut := fun m ρ _ => Cert.DWOut.Gen.frame m ρ

theorem frame_ideal : Cert.quiescent_DWOutIdeal := fun m ρ _ => Cert.DWOutIdeal.Gen.frame m ρ

theorem frame_reference : Cert.quiescent_DWOutReferenceIdeal := fun m ρ _ =>
  (θ_run Cert.DWOutReferenceIdeal.defs _ _).mono (fun r h => ⟨fun c => (h c).2, sem_eq_zero_of_no_sems (by decide) r.2⟩)
    (Cert.DWOutReferenceIdeal.Value.run m ρ)

section Reference

open Cert.DWOutReferenceIdeal Cert.DWOutReferenceIdeal.Gen

theorem product_at (x : FVec Ideal S2048x4160 .bf16) (w : FVec Ideal S4160x2048 .bf16) (i : S2048x2048.Idx) :
    (Host.dotGeneral dot_S2048x4160_S4160x2048_S2048x2048_1_0_0_1_n_n none x w : FVec Ideal S2048x2048 .f32) i
      = ∑ k : Fin 4160, x (ix2 (i 0) k) * w (ix2 k (i 1)) := by
  pointwise

end Reference

open Cert.DWOutIdeal.Value in
theorem algebraic : Cert.algebraic_DWOutIdeal_DWOutReferenceIdeal := fun m ρ m' ρ' _ h =>
  ⟨fun c => prod m c,
    (θ_run Cert.DWOutIdeal.defs _ _).mono (fun _ hr c => ⟨(hr c).1.trans (final m c), (hr c).2⟩) (run_blocks m ρ),
    (θ_run Cert.DWOutReferenceIdeal.defs _ _).mono (fun _ hr c => by
      obtain ⟨r0, hk⟩ := hr c
      obtain ⟨h0, h1⟩ := h c
      refine ⟨r0.trans (funext fun i => ?_), hk⟩
      rw [h0, h1]
      exact product_at _ _ i) (Cert.DWOutReferenceIdeal.Value.run m' ρ')⟩

end Cert.DWOut

end
-- ==== Proof.DOutProj.lean ====
/-
  The gradient with respect to the mixers' output, a product with the transpose of w_out: the call's claims.
-/
module

public import proofs.«01_k».proof.Defs
public import proofs.«01_k».proof.Proof.Gen.DOutProj.Frame
public import proofs.«01_k».proof.Proof.Gen.DOutProjIdeal.Value
public import proofs.«01_k».proof.Proof.Gen.DOutProjReferenceIdeal.Run
public import Idealize.ShloMosaic.Lib.Pointwise
public import Idealize.ShloMosaic.Lib.Quiescent
public import Idealize.ShloMosaic.Lib.VecWindow

@[expose] public section

noncomputable section

namespace Cert.DOutProjIdeal.Value

open Cert.DOutProjIdeal Cert.DOutProjIdeal.Gen Idealize.ShloMosaic Idealize.ShloMosaic.TcCoe Idealize.SL.Sem

/-- What a point adds at an entry of its block: a row times a column. -/
theorem body_at (v : Vec Ideal S832x1024 .f32) (x : Vec Ideal S832x2048 .bf16) (w : Vec Ideal S1024x2048 .bf16) (y : S832x1024.Idx) :
    k0_pay2 (F := Ideal) v x w y = v y + ∑ k : Fin 2048, x (ix2 (y 0) k) * w (ix2 (y 1) k) := by
  unfold k0_pay2
  pointwise

variable (m : (ℓ : Loc nD τ sig) → Buf (Elt Ideal) ℓ) (ρ : Dev nD → PrngReg)

theorem hz2 : (![0, 0] : Fin 2 → ℕ) = fun _ => 0 := by decide

/-- The two factors. -/
abbrev left (c : Dev nD) : S4160x2048.Idx → EReal := m ((c : Thread nD τ).loc main_arg0)
abbrev right (c : Dev nD) : S2048x2048.Idx → EReal := m ((c : Thread nD τ).loc main_arg1)

/-- The product, an entry at a time. -/
abbrev prod (c : Dev nD) : S4160x2048.Idx → Ideal .f32 := fun i => ∑ k : Fin 2048, left m c (ix2 (i 0) k) * right m c (ix2 (i 1) k)

/-- Where an element of a point's block is in the array. -/
abbrev at_ (t : Fin cfg0.N) (y : S832x1024.Idx) : S4160x2048.Idx := (win0_3.blk t).view.emb y

/-- A point sets its block to zero, then adds its one product. -/
theorem flushed_body (c : Dev nD) (t : Fin cfg0.N) : (dats m 0 c).flushed 3 t
    = (cfg0.win 3).cut (grid0.coords t) (k0_pay2 (F := Ideal) (k0_pay1 (F := Ideal)) (iblk m c 0 t) (iblk m c 1 t)) := by
  rw [flushed3_A m c t]
  unfold out0_A_3
  rw [View.read_writes_junk_eq_canon]
  refine congrArg ((cfg0.win 3).cut (grid0.coords t)) ?_
  dsimp only [kernelRun0_A]
  unfold kernelRun0_A.sl.v3 kernelRun0_A.sl.H3_1
  rw [View.canon_cons_unit_zero hz2, View.readAt_eq_ld, View.readAt_eq_ld, Memref.IsWhole.read_unread, Memref.IsWhole.read_unread,
    View.ld_unit_zero hz2, View.ld_unit_zero hz2]
  exact congrArg (fun v => k0_pay2 v (iblk m c 0 t) (iblk m c 1 t)) (View.readCov_full ..)

theorem with0 : ∀ t : Fin grid0.N, win0_0.index t 0 = win0_3.index t 0 ∧ win0_0.index t 1 = 0 := by decide +kernel
theorem with1 : ∀ t : Fin grid0.N, win0_1.index t 0 = win0_3.index t 1 ∧ win0_1.index t 1 = 0 := by decide +kernel

theorem row_at (t : Fin cfg0.N) (y : S832x1024.Idx) : (at_ t y 0).val = win0_3.index t 0 * 832 + (y 0).val := win0_3.rect_emb_val t y 0
theorem lane_at (t : Fin cfg0.N) (y : S832x1024.Idx) : (at_ t y 1).val = win0_3.index t 1 * 1024 + (y 1).val := win0_3.rect_emb_val t y 1

theorem block0 (c : Dev nD) (t : Fin cfg0.N) (y : S832x1024.Idx) (k : Fin 2048) :
    iblk m c 0 t (ix2 (y 0) k) = m ((c : Thread nD τ).loc main_arg0) (ix2 (at_ t y 0) k) := by
  refine congrArg (m ((c : Thread nD τ).loc main_arg0)) (funext fun a => Fin.ext ?_)
  fin_cases a
  · refine (win0_0.rect_emb_val t (ix2 (y 0) k) 0).trans (.trans ?_ (row_at t y).symm)
    rw [(with0 t).1]; rfl
  · exact win0_0.rect_emb_val_of_index_zero t 1 (with0 t).2 (ix2 (y 0) k)

theorem block1 (c : Dev nD) (t : Fin cfg0.N) (y : S832x1024.Idx) (k : Fin 2048) :
    iblk m c 1 t (ix2 (y 1) k) = m ((c : Thread nD τ).loc main_arg1) (ix2 (at_ t y 1) k) := by
  refine congrArg (m ((c : Thread nD τ).loc main_arg1)) (funext fun a => Fin.ext ?_)
  fin_cases a
  · refine (win0_1.rect_emb_val t (ix2 (y 1) k) 0).trans (.trans ?_ (lane_at t y).symm)
    rw [(with1 t).1]; rfl
  · exact win0_1.rect_emb_val_of_index_zero t 1 (with1 t).2 (ix2 (y 1) k)

theorem flushed_eq (c : Dev nD) (t : Fin cfg0.N) : (dats m 0 c).flushed 3 t = (win0_3.blk t).view.read (Elt Ideal) (prod m c) :=
  (flushed_body m c t).trans (funext fun y => by
    show k0_pay2 (F := Ideal) (k0_pay1 (F := Ideal)) (iblk m c 0 t) (iblk m c 1 t) y = prod m c (at_ t y)
    refine (body_at _ _ _ y).trans ?_
    have hz : (k0_pay1 (F := Ideal) y : EReal) = 0 := Ideal.ofBits_zero .f32
    rw [hz, zero_add]
    exact Finset.sum_congr rfl fun k _ => congrArg₂ (fun a b : EReal => a * b) (block0 m c t y k) (block1 m c t y k))

/-- The point that writes an entry. -/
theorem point : ∀ (a : Fin 5) (b : Fin 2), ∃ t : Fin grid0.N, win0_3.index t 0 = a.val ∧ win0_3.index t 1 = b.val := by decide +kernel

/-- The points' blocks cover the array. -/
theorem covered (i : S4160x2048.Idx) : ∃ t : Fin cfg0.N, i ∈ (win0_3.blk t).view.set := by
  have h0 : (i 0).val < 4160 := (i 0).isLt
  have h1 : (i 1).val < 2048 := (i 1).isLt
  obtain ⟨t, e0, e1⟩ := point ⟨(i 0).val / 832, by omega⟩ ⟨(i 1).val / 1024, by omega⟩
  refine ⟨t, ?_⟩
  show i ∈ ((View.whole main_v0).slice (win0_3.rect t)).set
  rw [View.set_slice_whole, Rect.mem_set_unit]
  intro a
  fin_cases a
  · show win0_3.index t 0 * 832 ≤ (i 0).val ∧ (i 0).val < win0_3.index t 0 * 832 + 832
    rw [e0]; show (i 0).val / 832 * 832 ≤ (i 0).val ∧ (i 0).val < (i 0).val / 832 * 832 + 832
    omega
  · show win0_3.index t 1 * 1024 ≤ (i 1).val ∧ (i 1).val < win0_3.index t 1 * 1024 + 1024
    rw [e1]; show (i 1).val / 1024 * 1024 ≤ (i 1).val ∧ (i 1).val < (i 1).val / 1024 * 1024 + 1024
    omega

theorem final (c : Dev nD) : (dats m 0 c).arrAt 3 cfg0.N = prod m c :=
  (dats m 0 c).arrAt_eq_of_cover 3 (prod m c) (fun t _ => flushed_eq m c t) fun i => (covered i).imp fun t h => ⟨flush0_3 t, h⟩

end Cert.DOutProjIdeal.Value

namespace Cert.DOutProj

open Idealize.ShloMosaic Idealize.ShloMosaic.TcCoe Idealize.SL.Sem

theorem frame_kernel : Cert.quiescent_DOutProj := fun m ρ _ => Cert.DOutProj.Gen.frame m ρ

theorem frame_ideal : Cert.quiescent_DOutProjIdeal := fun m ρ _ => Cert.DOutProjIdeal.Gen.frame m ρ

theorem frame_reference : Cert.quiescent_DOutProjReferenceIdeal := fun m ρ _ =>
  (θ_run Cert.DOutProjReferenceIdeal.defs _ _).mono (fun r h => ⟨fun c => (h c).2, sem_eq_zero_of_no_sems (by decide) r.2⟩)
    (Cert.DOutProjReferenceIdeal.Value.run m ρ)

section Reference

open Cert.DOutProjReferenceIdeal Cert.DOutProjReferenceIdeal.Gen

theorem product_at (x : FVec Ideal S4160x2048 .bf16) (w : FVec Ideal S2048x2048 .bf16) (i : S4160x2048.Idx) :
    (Host.dotGeneral dot_S4160x2048_S2048x2048_S4160x2048_1_0_0_1_n_n none x (transpose S2048x2048 [1, 0] w transposes_S2048x2048_S2048x2048_1_0) : FVec Ideal S4160x2048 .f32) i
      = ∑ k : Fin 2048, x (ix2 (i 0) k) * w (ix2 (i 1) k) := by
  pointwise

end Reference

open Cert.DOutProjIdeal.Value in
theorem algebraic : Cert.algebraic_DOutProjIdeal_DOutProjReferenceIdeal := fun m ρ m' ρ' _ h =>
  ⟨fun c => prod m c,
    (θ_run Cert.DOutProjIdeal.defs _ _).mono (fun _ hr c => ⟨(hr c).1.trans (final m c), (hr c).2⟩) (run_blocks m ρ),
    (θ_run Cert.DOutProjReferenceIdeal.defs _ _).mono (fun _ hr c => by
      obtain ⟨r0, hk⟩ := hr c
      obtain ⟨h0, h1, _⟩ := h c
      refine ⟨r0.trans (funext fun i => ?_), hk⟩
      rw [h0, h1]
      exact product_at _ _ i) (Cert.DOutProjReferenceIdeal.Value.run m' ρ')⟩

end Cert.DOutProj

end
-- ==== Proof.DWIn.lean ====
/-
  The gradient of w_in, a product of the normed activations and the gradient that reaches the projection: the call's claims.
-/
module

public import proofs.«01_k».proof.Defs
public import proofs.«01_k».proof.Proof.Gen.DWIn.Frame
public import proofs.«01_k».proof.Proof.Gen.DWInIdeal.Value
public import proofs.«01_k».proof.Proof.Gen.DWInReferenceIdeal.Run
public import Idealize.ShloMosaic.Lib.Pointwise
public import Idealize.ShloMosaic.Lib.Quiescent
public import Idealize.ShloMosaic.Lib.VecWindow

@[expose] public section

noncomputable section

namespace Cert.DWInIdeal.Value

open Cert.DWInIdeal Cert.DWInIdeal.Gen Idealize.ShloMosaic Idealize.ShloMosaic.TcCoe Idealize.SL.Sem

/-- What a point adds at an entry of its block: a row times a column. -/
theorem body_at (v : Vec Ideal S1024x768 .f32) (x : Vec Ideal S1024x4160 .bf16) (w : Vec Ideal S4160x768 .bf16) (y : S1024x768.Idx) :
    k0_pay2 (F := Ideal) v x w y = v y + ∑ k : Fin 4160, x (ix2 (y 0) k) * w (ix2 k (y 1)) := by
  unfold k0_pay2
  pointwise

variable (m : (ℓ : Loc nD τ sig) → Buf (Elt Ideal) ℓ) (ρ : Dev nD → PrngReg)

theorem hz2 : (![0, 0] : Fin 2 → ℕ) = fun _ => 0 := by decide

/-- The two factors. -/
abbrev left (c : Dev nD) : S2048x4160.Idx → EReal := m ((c : Thread nD τ).loc main_arg0)
abbrev right (c : Dev nD) : S4160x8448.Idx → EReal := m ((c : Thread nD τ).loc main_arg1)

/-- The product, an entry at a time. -/
abbrev prod (c : Dev nD) : S2048x8448.Idx → Ideal .f32 := fun i => ∑ k : Fin 4160, left m c (ix2 (i 0) k) * right m c (ix2 k (i 1))

/-- Where an element of a point's block is in the array. -/
abbrev at_ (t : Fin cfg0.N) (y : S1024x768.Idx) : S2048x8448.Idx := (win0_2.blk t).view.emb y

/-- A point sets its block to zero, then adds its one product. -/
theorem flushed_body (c : Dev nD) (t : Fin cfg0.N) : (dats m 0 c).flushed 2 t
    = (cfg0.win 2).cut (grid0.coords t) (k0_pay2 (F := Ideal) (k0_pay1 (F := Ideal)) (iblk m c 0 t) (iblk m c 1 t)) := by
  rw [flushed2_A m c t]
  unfold out0_A_2
  rw [View.read_writes_junk_eq_canon]
  refine congrArg ((cfg0.win 2).cut (grid0.coords t)) ?_
  dsimp only [kernelRun0_A]
  unfold kernelRun0_A.sl.v3 kernelRun0_A.sl.H2_1
  rw [View.canon_cons_unit_zero hz2, View.readAt_eq_ld, View.readAt_eq_ld, Memref.IsWhole.read_unread, Memref.IsWhole.read_unread,
    View.ld_unit_zero hz2, View.ld_unit_zero hz2]
  exact congrArg (fun v => k0_pay2 v (iblk m c 0 t) (iblk m c 1 t)) (View.readCov_full ..)

theorem with0 : ∀ t : Fin grid0.N, win0_0.index t 0 = win0_2.index t 0 ∧ win0_0.index t 1 = 0 := by decide +kernel
theorem with1 : ∀ t : Fin grid0.N, win0_1.index t 1 = win0_2.index t 1 ∧ win0_1.index t 0 = 0 := by decide +kernel

theorem row_at (t : Fin cfg0.N) (y : S1024x768.Idx) : (at_ t y 0).val = win0_2.index t 0 * 1024 + (y 0).val := win0_2.rect_emb_val t y 0
theorem lane_at (t : Fin cfg0.N) (y : S1024x768.Idx) : (at_ t y 1).val = win0_2.index t 1 * 768 + (y 1).val := win0_2.rect_emb_val t y 1

theorem block0 (c : Dev nD) (t : Fin cfg0.N) (y : S1024x768.Idx) (k : Fin 4160) :
    iblk m c 0 t (ix2 (y 0) k) = m ((c : Thread nD τ).loc main_arg0) (ix2 (at_ t y 0) k) := by
  refine congrArg (m ((c : Thread nD τ).loc main_arg0)) (funext fun a => Fin.ext ?_)
  fin_cases a
  · refine (win0_0.rect_emb_val t (ix2 (y 0) k) 0).trans (.trans ?_ (row_at t y).symm)
    rw [(with0 t).1]; rfl
  · exact win0_0.rect_emb_val_of_index_zero t 1 (with0 t).2 (ix2 (y 0) k)

theorem block1 (c : Dev nD) (t : Fin cfg0.N) (y : S1024x768.Idx) (k : Fin 4160) :
    iblk m c 1 t (ix2 k (y 1)) = m ((c : Thread nD τ).loc main_arg1) (ix2 k (at_ t y 1)) := by
  refine congrArg (m ((c : Thread nD τ).loc main_arg1)) (funext fun a => Fin.ext ?_)
  fin_cases a
  · exact win0_1.rect_emb_val_of_index_zero t 0 (with1 t).2 (ix2 k (y 1))
  · refine (win0_1.rect_emb_val t (ix2 k (y 1)) 1).trans (.trans ?_ (lane_at t y).symm)
    rw [(with1 t).1]; rfl

theorem flushed_eq (c : Dev nD) (t : Fin cfg0.N) : (dats m 0 c).flushed 2 t = (win0_2.blk t).view.read (Elt Ideal) (prod m c) :=
  (flushed_body m c t).trans (funext fun y => by
    show k0_pay2 (F := Ideal) (k0_pay1 (F := Ideal)) (iblk m c 0 t) (iblk m c 1 t) y = prod m c (at_ t y)
    refine (body_at _ _ _ y).trans ?_
    have hz : (k0_pay1 (F := Ideal) y : EReal) = 0 := Ideal.ofBits_zero .f32
    rw [hz, zero_add]
    exact Finset.sum_congr rfl fun k _ => congrArg₂ (fun a b : EReal => a * b) (block0 m c t y k) (block1 m c t y k))

/-- The point that writes an entry. -/
theorem point : ∀ (a : Fin 2) (b : Fin 11), ∃ t : Fin grid0.N, win0_2.index t 0 = a.val ∧ win0_2.index t 1 = b.val := by decide +kernel

/-- The points' blocks cover the array. -/
theorem covered (i : S2048x8448.Idx) : ∃ t : Fin cfg0.N, i ∈ (win0_2.blk t).view.set := by
  have h0 : (i 0).val < 2048 := (i 0).isLt
  have h1 : (i 1).val < 8448 := (i 1).isLt
  obtain ⟨t, e0, e1⟩ := point ⟨(i 0).val / 1024, by omega⟩ ⟨(i 1).val / 768, by omega⟩
  refine ⟨t, ?_⟩
  show i ∈ ((View.whole main_v0).slice (win0_2.rect t)).set
  rw [View.set_slice_whole, Rect.mem_set_unit]
  intro a
  fin_cases a
  · show win0_2.index t 0 * 1024 ≤ (i 0).val ∧ (i 0).val < win0_2.index t 0 * 1024 + 1024
    rw [e0]; show (i 0).val / 1024 * 1024 ≤ (i 0).val ∧ (i 0).val < (i 0).val / 1024 * 1024 + 1024
    omega
  · show win0_2.index t 1 * 768 ≤ (i 1).val ∧ (i 1).val < win0_2.index t 1 * 768 + 768
    rw [e1]; show (i 1).val / 768 * 768 ≤ (i 1).val ∧ (i 1).val < (i 1).val / 768 * 768 + 768
    omega

theorem final (c : Dev nD) : (dats m 0 c).arrAt 2 cfg0.N = prod m c :=
  (dats m 0 c).arrAt_eq_of_cover 2 (prod m c) (fun t _ => flushed_eq m c t) fun i => (covered i).imp fun t h => ⟨flush0_2 t, h⟩

end Cert.DWInIdeal.Value

namespace Cert.DWIn

open Idealize.ShloMosaic Idealize.ShloMosaic.TcCoe Idealize.SL.Sem

theorem frame_kernel : Cert.quiescent_DWIn := fun m ρ _ => Cert.DWIn.Gen.frame m ρ

theorem frame_ideal : Cert.quiescent_DWInIdeal := fun m ρ _ => Cert.DWInIdeal.Gen.frame m ρ

theorem frame_reference : Cert.quiescent_DWInReferenceIdeal := fun m ρ _ =>
  (θ_run Cert.DWInReferenceIdeal.defs _ _).mono (fun r h => ⟨fun c => (h c).2, sem_eq_zero_of_no_sems (by decide) r.2⟩)
    (Cert.DWInReferenceIdeal.Value.run m ρ)

section Reference

open Cert.DWInReferenceIdeal Cert.DWInReferenceIdeal.Gen

theorem product_at (x : FVec Ideal S2048x4160 .bf16) (w : FVec Ideal S4160x8448 .bf16) (i : S2048x8448.Idx) :
    (Host.dotGeneral dot_S2048x4160_S4160x8448_S2048x8448_1_0_0_1_n_n none x w : FVec Ideal S2048x8448 .f32) i
      = ∑ k : Fin 4160, x (ix2 (i 0) k) * w (ix2 k (i 1)) := by
  pointwise

end Reference

open Cert.DWInIdeal.Value in
theorem algebraic : Cert.algebraic_DWInIdeal_DWInReferenceIdeal := fun m ρ m' ρ' _ h =>
  ⟨fun c => prod m c,
    (θ_run Cert.DWInIdeal.defs _ _).mono (fun _ hr c => ⟨(hr c).1.trans (final m c), (hr c).2⟩) (run_blocks m ρ),
    (θ_run Cert.DWInReferenceIdeal.defs _ _).mono (fun _ hr c => by
      obtain ⟨r0, hk⟩ := hr c
      obtain ⟨h0, h1⟩ := h c
      refine ⟨r0.trans (funext fun i => ?_), hk⟩
      rw [h0, h1]
      exact product_at _ _ i) (Cert.DWInReferenceIdeal.Value.run m' ρ')⟩

end Cert.DWIn

end
-- ==== Proof.DInProj.lean ====
/-
  The gradient through the first projection, a product with the transpose of w_in in six parts: the call's claims.
-/
module

public import proofs.«01_k».proof.Defs
public import proofs.«01_k».proof.Proof.Gen.DInProj.Frame
public import proofs.«01_k».proof.Proof.Gen.DInProjIdeal.Value
public import proofs.«01_k».proof.Proof.Gen.DInProjReferenceIdeal.Run
public import Idealize.ShloMosaic.Lib.Pointwise
public import Idealize.ShloMosaic.Lib.Quiescent
public import Idealize.ShloMosaic.Lib.VecWindow

@[expose] public section

noncomputable section

namespace Cert.DInProjIdeal.Value

open Cert.DInProjIdeal Cert.DInProjIdeal.Gen Idealize.ShloMosaic Idealize.ShloMosaic.TcCoe Idealize.SL.Sem

/-- What a point adds at an entry of its block: a part of a row times a part of a column. -/
theorem body_at (v : Vec Ideal S832x2048 .f32) (x : Vec Ideal S832x1408 .bf16) (w : Vec Ideal S2048x1408 .bf16) (y : S832x2048.Idx) :
    k0_pay2 (F := Ideal) v x w y = v y + ∑ k : Fin 1408, x (ix2 (y 0) k) * w (ix2 (y 1) k) := by
  unfold k0_pay2
  pointwise

variable (m : (ℓ : Loc nD τ sig) → Buf (Elt Ideal) ℓ) (ρ : Dev nD → PrngReg)

/-- The two factors. -/
abbrev left (c : Dev nD) : S4160x8448.Idx → EReal := m ((c : Thread nD τ).loc main_arg0)
abbrev right (c : Dev nD) : S2048x8448.Idx → EReal := m ((c : Thread nD τ).loc main_arg1)

/-- The product, an entry at a time. -/
abbrev prod (c : Dev nD) : S4160x2048.Idx → Ideal .f32 := fun i => ∑ k : Fin 8448, left m c (ix2 (i 0) k) * right m c (ix2 (i 1) k)

/-- One summand of an entry, over all numbers. -/
def term (c : Dev nD) (i : S4160x2048.Idx) (k : ℕ) : EReal :=
  if h : k < 8448 then left m c (ix2 (i 0) ⟨k, h⟩) * right m c (ix2 (i 1) ⟨k, h⟩) else 0

theorem with0 : ∀ t : Fin grid0.N, win0_0.index t 0 = t.val / 6 ∧ win0_0.index t 1 = t.val % 6 := by decide +kernel
theorem with1 : ∀ t : Fin grid0.N, win0_1.index t 0 = 0 ∧ win0_1.index t 1 = t.val % 6 := by decide +kernel

theorem block0 (c : Dev nD) (t : Fin cfg0.N) (i : S4160x2048.Idx) (y : S832x2048.Idx) (hy : (i 0).val = t.val / 6 * 832 + (y 0).val)
    (k : Fin 1408) (hk : t.val % 6 * 1408 + k.val < 8448) :
    iblk m c 0 t (ix2 (y 0) k) = left m c (ix2 (i 0) ⟨t.val % 6 * 1408 + k.val, hk⟩) := by
  refine congrArg (m ((c : Thread nD τ).loc main_arg0)) (funext fun a => Fin.ext ?_)
  fin_cases a
  · refine (win0_0.rect_emb_val t (ix2 (y 0) k) 0).trans (.trans ?_ hy.symm)
    rw [(with0 t).1]; rfl
  · refine (win0_0.rect_emb_val t (ix2 (y 0) k) 1).trans ?_
    rw [(with0 t).2]; rfl

theorem block1 (c : Dev nD) (t : Fin cfg0.N) (i : S4160x2048.Idx) (y : S832x2048.Idx) (hy : (i 1).val = (y 1).val)
    (k : Fin 1408) (hk : t.val % 6 * 1408 + k.val < 8448) :
    iblk m c 1 t (ix2 (y 1) k) = right m c (ix2 (i 1) ⟨t.val % 6 * 1408 + k.val, hk⟩) := by
  refine congrArg (m ((c : Thread nD τ).loc main_arg1)) (funext fun a => Fin.ext ?_)
  fin_cases a
  · exact (win0_1.rect_emb_val_of_index_zero t 0 (with1 t).1 (ix2 (y 1) k)).trans hy.symm
  · refine (win0_1.rect_emb_val t (ix2 (y 1) k) 1).trans ?_
    rw [(with1 t).2]; rfl

/-- A point's part of an entry. -/
theorem part (c : Dev nD) (t : Fin cfg0.N) (i : S4160x2048.Idx) (y : S832x2048.Idx) (hy0 : (i 0).val = t.val / 6 * 832 + (y 0).val)
    (hy1 : (i 1).val = (y 1).val) (x : Vec Ideal S832x1408 .bf16) (hx : x = iblk m c 0 t) (w : Vec Ideal S2048x1408 .bf16) (hw : w = iblk m c 1 t) :
    (∑ k : Fin 1408, x (ix2 (y 0) k) * w (ix2 (y 1) k) : EReal) = ∑ k ∈ Finset.range 1408, term m c i (t.val % 6 * 1408 + k) := by
  rw [Finset.sum_range]
  refine Finset.sum_congr rfl fun k _ => ?_
  have hk : t.val % 6 * 1408 + k.val < 8448 := by have := k.isLt; omega
  subst hx hw
  unfold term
  rw [dif_pos hk]
  exact congrArg₂ (fun a b : EReal => a * b) (block0 m c t i y hy0 k hk) (block1 m c t i y hy1 k hk)

/-- After the j-th of its six points, an entry has the first j + 1 parts of its sum. -/
theorem parts (c : Dev nD) (q : ℕ) (i : S4160x2048.Idx) (y : S832x2048.Idx) (hy0 : (i 0).val = q * 832 + (y 0).val) (hy1 : (i 1).val = (y 1).val) :
    ∀ (j : ℕ) (h : 6 * q + j < cfg0.N), j < 6 →
      (Pipeline.accAt (reset3 m c) (step3 m c) (6 * q) j h y : EReal) = ∑ k ∈ Finset.range (j * 1408 + 1408), term m c i k
  | 0, h, _ => by
    have e : (6 * q + 0) % 6 = 0 := by omega
    have d : (6 * q + 0) / 6 = q := by omega
    refine (body_at _ _ _ y).trans ?_
    have hz : (k0_pay1 (F := Ideal) y : EReal) = 0 := Ideal.ofBits_zero .f32
    rw [hz, zero_add]
    refine (part m c ⟨6 * q + 0, h⟩ i y (by show _ = (6 * q + 0) / 6 * 832 + _; rw [d]; exact hy0) hy1 _ rfl _ rfl).trans ?_
    show ∑ k ∈ Finset.range 1408, term m c i ((6 * q + 0) % 6 * 1408 + k) = _
    rw [e]
    simp only [Nat.zero_mul, Nat.zero_add]
  | j + 1, h, hj => by
    have e : (6 * q + (j + 1)) % 6 = j + 1 := by omega
    have d : (6 * q + (j + 1)) / 6 = q := by omega
    refine (body_at _ _ _ y).trans ?_
    rw [Finset.sum_range_add]
    refine congrArg₂ (fun a b : EReal => a + b) ?_ ?_
    · refine (parts c q i y hy0 hy1 j (by omega) (by omega)).trans ?_
      rw [Nat.succ_mul]
    · refine (part m c ⟨6 * q + (j + 1), h⟩ i y (by show _ = (6 * q + (j + 1)) / 6 * 832 + _; rw [d]; exact hy0) hy1 _ rfl _ rfl).trans ?_
      show ∑ k ∈ Finset.range 1408, term m c i ((6 * q + (j + 1)) % 6 * 1408 + k) = _
      rw [e]

theorem whole_eq (c : Dev nD) : G3 m c = prod m c := funext fun i => by
  have h0 : (i 0).val < 4160 := (i 0).isLt
  have h1 : (i 1).val < 2048 := (i 1).isLt
  have hr : run3Of i = (i 0).val / 832 := by unfold run3Of; omega
  have hN : cfg0.N = 30 := N_0
  unfold G3
  rw [dif_pos (by rw [hr]; omega)]
  refine (parts m c (run3Of i) i (loc3Of i) (by rw [hr]; show _ = _ + (i 0).val % 832; omega) (by show _ = (i 1).val % 2048; omega) 5
    (by rw [hr]; omega) (by omega)).trans ?_
  show ∑ k ∈ Finset.range 8448, term m c i k = _
  rw [Finset.sum_range]
  refine Finset.sum_congr rfl fun k _ => ?_
  unfold term
  rw [dif_pos k.isLt]

end Cert.DInProjIdeal.Value

namespace Cert.DInProj

open Idealize.ShloMosaic Idealize.ShloMosaic.TcCoe Idealize.SL.Sem

theorem frame_kernel : Cert.quiescent_DInProj := fun m ρ _ => Cert.DInProj.Gen.frame m ρ

theorem frame_ideal : Cert.quiescent_DInProjIdeal := fun m ρ _ => Cert.DInProjIdeal.Gen.frame m ρ

theorem frame_reference : Cert.quiescent_DInProjReferenceIdeal := fun m ρ _ =>
  (θ_run Cert.DInProjReferenceIdeal.defs _ _).mono (fun r h => ⟨fun c => (h c).2, sem_eq_zero_of_no_sems (by decide) r.2⟩)
    (Cert.DInProjReferenceIdeal.Value.run m ρ)

section Reference

open Cert.DInProjReferenceIdeal Cert.DInProjReferenceIdeal.Gen

theorem product_at (x : FVec Ideal S4160x8448 .bf16) (w : FVec Ideal S2048x8448 .bf16) (i : S4160x2048.Idx) :
    (Host.dotGeneral dot_S4160x8448_S8448x2048_S4160x2048_1_0_0_1_n_n none x (transpose S8448x2048 [1, 0] w transposes_S2048x8448_S8448x2048_1_0) : FVec Ideal S4160x2048 .f32) i
      = ∑ k : Fin 8448, x (ix2 (i 0) k) * w (ix2 (i 1) k) := by
  pointwise

end Reference

open Cert.DInProjIdeal.Value in
theorem algebraic : Cert.algebraic_DInProjIdeal_DInProjReferenceIdeal := fun m ρ m' ρ' _ h =>
  ⟨fun c => prod m c,
    (θ_run Cert.DInProjIdeal.defs _ _).mono (fun _ hr c => ⟨(hr c).1.trans (whole_eq m c), (hr c).2⟩) (Cert.DInProjIdeal.Value.run m ρ),
    (θ_run Cert.DInProjReferenceIdeal.defs _ _).mono (fun _ hr c => by
      obtain ⟨r0, hk⟩ := hr c
      obtain ⟨h0, h1, _⟩ := h c
      refine ⟨r0.trans (funext fun i => ?_), hk⟩
      rw [h0, h1]
      exact product_at _ _ i) (Cert.DInProjReferenceIdeal.Value.run m' ρ')⟩

end Cert.DInProj

end
-- ==== Proof.Loss.lean ====
/-
  The loss head's first result, the loss of a device's own rows: the call's claims. The kernel goes over all the
  rows in twenty blocks and multiplies the error of a row without a target by zero; the reference sums over the
  rows with a target.
-/
module

public import proofs.«01_k».proof.Defs
public import proofs.«01_k».proof.Proof.Gen.Loss.Frame
public import proofs.«01_k».proof.Proof.Gen.LossIdeal.Value
public import proofs.«01_k».proof.Proof.Gen.LossReferenceIdeal.Run
public import Idealize.ShloMosaic.Lib.Pointwise
public import Idealize.ShloMosaic.Lib.Quiescent
public import Idealize.ShloMosaic.Lib.VecWindow
public import Idealize.ShloMosaic.Lib.IdealHost

@[expose] public section

noncomputable section

namespace Cert.Loss

open Idealize.ShloMosaic

/-- An entry of the residual stream after the last mixer, rms-normed and scaled. -/
def scaled {n : ℕ} (h : Fin n → Fin 2048 → EReal) (y : Fin n → Fin 2048 → EReal) (w : Fin 2048 → Fin 2048 → EReal) (f : Fin 2048 → EReal)
    (r : Fin n) (k : Fin 2048) : EReal :=
  (h r k + ∑ j, y r j * w j k) * Ideal.rsqrt (Ideal.div (∑ i, (h r i + ∑ j, y r j * w j i) * (h r i + ∑ j, y r j * w j i))
    (Ideal.ofBits .f32 0x45000000#32) + Ideal.ofBits .f32 0x358637BD#32) * f k

/-- The mean of the squares of a row's errors. -/
def mean (e : Fin 2048 → EReal) : EReal := Ideal.div (∑ k, e k * e k) (Ideal.ofBits .f32 0x45000000#32)

end Cert.Loss

namespace Cert.LossIdeal.Value
open Cert.LossIdeal Cert.LossIdeal.Gen Idealize.ShloMosaic Idealize.ShloMosaic.TcCoe Idealize.SL.Sem
open Cert.Loss (scaled mean)
/-- The constants. -/
theorem half_eq : Ideal.ofBits .f32 0x3F000000#32 = ((1 / 2 : ℝ) : EReal) := by
  simp [Ideal.ofBits, Ideal.ieee, -EReal.coe_mul]
  norm_num
theorem size_eq : Ideal.ofBits .f32 0x45000000#32 = ((2048 : ℝ) : EReal) := by
  simp [Ideal.ofBits, Ideal.ieee, -EReal.coe_mul]
  norm_num

/-- Which rows have a target, as the kernel computes it. -/
theorem mask_bits : ∀ (t : Fin 20) (r : Fin 208), BitVec.setWidth 32
        (IntOp.andi
          (IntOp.cmpi CmpIPredicate.sge (IntOp.addi (Scalar.muli (BitVec.ofNat 32 t.val) 208#32) (BitVec.ofNat 32 r.val)) 16#32)
          (IntOp.cmpi CmpIPredicate.slt (IntOp.addi (Scalar.muli (BitVec.ofNat 32 t.val) 208#32) (BitVec.ofNat 32 r.val)) 4112#32))
      = if 16 ≤ 208 * t.val + r.val ∧ 208 * t.val + r.val < 4112 then 1#32 else 0#32 := by decide +kernel

theorem s1 : (FloatOps.sitofp FTy.f32 1#32 : Ideal .f32) = (1 : EReal) := by
  show ((((1#32).toInt : ℝ)) : EReal) = 1
  norm_num
theorem s0 : (FloatOps.sitofp FTy.f32 0#32 : Ideal .f32) = (0 : EReal) := by
  show ((((0#32).toInt : ℝ)) : EReal) = 0
  norm_num

/-- The kernel's tests for the first and for the last point. -/
theorem first : ∀ t : Fin 20, Scalar.cmpi CmpIPredicate.eq (BitVec.ofNat 32 t.val) 0#32 = if t.val = 0 then 1#1 else 0#1 := by decide +kernel
theorem last : ∀ t : Fin 20, Scalar.cmpi CmpIPredicate.eq (BitVec.ofNat 32 t.val) 19#32 = if t.val = 19 then 1#1 else 0#1 := by decide +kernel
theorem coord : ∀ t : Fin grid0.N, (grid0.coords t 0).val = t.val := by decide +kernel
/-- Where a point's block of targets starts. -/
theorem off : ∀ t : Fin grid0.N, cc0_transform_3 (grid0.coords t) 0 = (if t.val = 0 then 0 else if t.val = 19 then 3888 else 208 * t.val - 16) ∧ cc0_transform_3 (grid0.coords t) 1 = 0 := by decide +kernel

theorem with0 : ∀ t : Fin grid0.N, win0_0.index t 0 = t.val ∧ win0_0.index t 1 = 0 := by decide +kernel
theorem with1 : ∀ t : Fin grid0.N, win0_1.index t 0 = t.val ∧ win0_1.index t 1 = 0 := by decide +kernel
theorem with2 : ∀ t : Fin grid0.N, win0_2.index t 0 = 0 ∧ win0_2.index t 1 = 0 := by decide +kernel
theorem with4 : ∀ t : Fin grid0.N, win0_4.index t 0 = 0 ∧ win0_4.index t 1 = 0 := by decide +kernel
theorem with5 : ∀ t : Fin grid0.N, win0_5.index t 0 = 0 ∧ win0_5.index t 1 = 0 := by decide +kernel

variable (m : (ℓ : Loc nD τ sig) → Buf (Elt Ideal) ℓ) (ρ : Dev nD → PrngReg)

theorem block3 (c : Dev nD) (t : Fin cfg0.N) (r : Fin 208) (k : Fin 2048) (R : Fin 4096) (hr : R.val = cc0_transform_3 (grid0.coords t) 0 + r.val) :
    iblk m c 3 t (ix2 r k) = m ((c : Thread nD τ).loc main_arg3) (ix2 R k) := by
  refine congrArg (m ((c : Thread nD τ).loc main_arg3)) (funext fun a => Fin.ext ?_)
  fin_cases a
  · show cc0_transform_3 (grid0.coords t) 0 + 1 * r.val = _
    rw [Nat.one_mul]; exact hr.symm
  · show cc0_transform_3 (grid0.coords t) 1 + 1 * k.val = _
    rw [(off t).2, Nat.one_mul, Nat.zero_add]; rfl

/-- A half of a sum. -/
theorem half_sum {ι : Type} [DecidableEq ι] (s : Finset ι) (f : ι → EReal) : ((1 / 2 : ℝ) : EReal) * ∑ i ∈ s, f i = ∑ i ∈ s, ((1 / 2 : ℝ) : EReal) * f i := by
  induction s using Finset.induction_on with
  | empty => simp
  | insert a s ha ih =>
    rw [Finset.sum_insert ha, Finset.sum_insert ha, ← ih]
    exact EReal.left_distrib_of_nonneg_of_ne_top (by norm_num) (EReal.coe_ne_top _) _ _

theorem hz2' : (![0, 0] : Fin 2 → ℕ) = fun _ => 0 := by decide

/-- What a point adds to every entry. -/
theorem weight_at (arg0 : BitVec 32) (v13 : FVec Ideal S208x1 .f32) (v34 v35 : FVec Ideal S208x2048 .f32) (v36 : BitVec 1) (v74 : Vec Ideal S8x128 .f32) (y : S8x128.Idx) :
    k0_pay16 (F := Ideal) arg0 v13 v34 v35 v36 v74 y
      = v74 y + ∑ r : Fin 208, ((1 / 2 : ℝ) : EReal) * mean (fun k => k0_pay12 (F := Ideal) arg0 v13 v34 v35 v36 (ix2 r k)) := by
  unfold k0_pay16 mean
  generalize k0_pay12 (F := Ideal) arg0 v13 v34 v35 v36 = e
  rw [← half_eq]
  pointwise

theorem mask_at (i : grid0.Coords) (r : Fin 208) :
    k0_pay5 (F := Ideal) i (ix2 r 0) = if 16 ≤ 208 * (i 0).val + r.val ∧ 208 * (i 0).val + r.val < 4112 then (1 : EReal) else 0 := by
  have e : k0_pay5 (F := Ideal) i (ix2 r 0) = FloatOps.sitofp .f32 (BitVec.setWidth 32
        (IntOp.andi
          (IntOp.cmpi CmpIPredicate.sge (IntOp.addi (Scalar.muli (BitVec.ofNat 32 (i 0).val) 208#32) (BitVec.ofNat 32 r.val)) 16#32)
          (IntOp.cmpi CmpIPredicate.slt (IntOp.addi (Scalar.muli (BitVec.ofNat 32 (i 0).val) 208#32) (BitVec.ofNat 32 r.val)) 4112#32))) := by
    unfold k0_pay5
    pointwise
  rw [e, mask_bits (i 0) r]
  split
  · exact s1
  · exact s0

theorem err_at (arg0 : BitVec 32) (v13 : FVec Ideal S208x1 .f32) (v34 v35 : FVec Ideal S208x2048 .f32) (v36 : BitVec 1) (r : Fin 208) (k : Fin 2048) :
    k0_pay12 (F := Ideal) arg0 v13 v34 v35 v36 (ix2 r k) = (v34 (ix2 r k) -
        Scalar.select (Scalar.cmpi CmpIPredicate.eq arg0 19#32)
          (Scalar.select v36 (v35 (ix2 ⟨((r.val + 208 - 160) % 208 + 208 - 16) % 208, Nat.mod_lt _ (by decide)⟩ k))
            (v35 (ix2 ⟨(r.val + 208 - 160) % 208, Nat.mod_lt _ (by decide)⟩ k)))
          (Scalar.select v36 (v35 (ix2 ⟨(r.val + 208 - 16) % 208, Nat.mod_lt _ (by decide)⟩ k)) (v35 (ix2 r k)))) * v13 (ix2 r 0) := by
  unfold k0_pay12
  pointwise

theorem out_at (x : FVec Ideal S208x2048 .f32) (v : FVec Ideal S208x2048 .bf16) (w : FVec Ideal S2048x2048 .bf16) (f : FVec Ideal S1x2048 .f32) (r : Fin 208) (k : Fin 2048) :
    k0_pay11 (F := Ideal) x v w f (ix2 r k)
      = scaled (fun r k => x (ix2 r k)) (fun r k => v (ix2 r k)) (fun j k => w (ix2 j k)) (fun k => f (ix2 0 k)) r k := by
  unfold k0_pay11 k0_pay10 k0_pay8 k0_pay7 k0_pay6 scaled
  pointwise

/-- What the first point leaves. -/
theorem start (c : Dev nD) (t : Fin cfg0.N) (h : t.val % 20 = 0) : (outsAt0 m c t.val t.isLt).1
    = k0_pay16 (F := Ideal) (BitVec.ofNat 32 (grid0.coords t 0).val) (k0_pay5 (grid0.coords t))
      (k0_pay11 (iblk m c 0 t) (iblk m c 1 t) (iblk m c 2 t) (iblk m c 4 t)) (iblk m c 3 t)
      (Scalar.cmpi CmpIPredicate.eq (BitVec.ofNat 32 (grid0.coords t 0).val) 0#32) (k0_pay3 (F := Ideal)) := by
  rw [outsAt0_A m c t h]
  dsimp only
  unfold out0_A_5
  rw [View.read_writes_junk_eq_canon]
  dsimp only [kernelRun0_A]
  rw [View.canon_cons_unit_zero hz2']
  sl_unfold_words
  dsimp only
  simp only [View.readAt_eq_ld, Memref.IsWhole.read_unread, View.ld_unit_zero (S := S208x2048) hz2', View.ld_unit_zero (S := S2048x2048) hz2', View.ld_unit_zero (S := S1x2048) hz2', View.ld_unit_zero (S := S8x128) hz2']
  exact congrArg (fun v => k0_pay16 (F := Ideal) (BitVec.ofNat 32 (grid0.coords t 0).val) (k0_pay5 (grid0.coords t))
      (k0_pay11 (iblk m c 0 t) (iblk m c 1 t) (iblk m c 2 t) (iblk m c 4 t)) (iblk m c 3 t)
      (Scalar.cmpi CmpIPredicate.eq (BitVec.ofNat 32 (grid0.coords t 0).val) 0#32) v) (View.readCov_full ..)

/-- What a later point leaves, over what the point before it left. -/
theorem next (c : Dev nD) (t : Fin cfg0.N) (h : ¬t.val % 20 = 0) : (outsAt0 m c t.val t.isLt).1
    = k0_pay16 (F := Ideal) (BitVec.ofNat 32 (grid0.coords t 0).val) (k0_pay5 (grid0.coords t))
      (k0_pay11 (iblk m c 0 t) (iblk m c 1 t) (iblk m c 2 t) (iblk m c 4 t)) (iblk m c 3 t)
      (Scalar.cmpi CmpIPredicate.eq (BitVec.ofNat 32 (grid0.coords t 0).val) 0#32)
      (outsAt0 m c (t.val - 1) (Nat.lt_of_le_of_lt (Nat.sub_le _ _) t.isLt)).1 := by
  rw [outsAt0_B m c t h]
  dsimp only
  unfold out0_B_5
  rw [View.read_writes_junk_eq_canon]
  dsimp only [kernelRun0_B]
  rw [View.canon_unit_zero hz2']
  sl_unfold_words
  dsimp only
  simp only [View.readAt_eq_ld, Memref.IsWhole.read_unread, View.ld_unit_zero (S := S208x2048) hz2', View.ld_unit_zero (S := S2048x2048) hz2', View.ld_unit_zero (S := S1x2048) hz2', View.ld_unit_zero (S := S8x128) hz2']

/-- The scaled entries and the targets, as functions of the arguments. -/
abbrev out (c : Dev nD) (R : Fin 4160) (k : Fin 2048) : EReal :=
  scaled (fun r k => m ((c : Thread nD τ).loc main_arg0) (ix2 r k)) (fun r k => m ((c : Thread nD τ).loc main_arg1) (ix2 r k))
    (fun j k => m ((c : Thread nD τ).loc main_arg2) (ix2 j k)) (fun k => m ((c : Thread nD τ).loc main_arg4) (ix2 0 k)) R k
abbrev target (c : Dev nD) (R : Fin 4096) (k : Fin 2048) : EReal := m ((c : Thread nD τ).loc main_arg3) (ix2 R k)

/-- A row's part of the loss: zero without a target. -/
def term (c : Dev nD) (R : ℕ) : EReal :=
  if h : 16 ≤ R ∧ R < 4112 then ((1 / 2 : ℝ) : EReal) * mean (fun k => out m c ⟨R, by omega⟩ k - target m c ⟨R - 16, by omega⟩ k) else 0

theorem block0 (c : Dev nD) (t : Fin cfg0.N) (r : Fin 208) (k : Fin 2048) (R : Fin 4160) (hr : R.val = 208 * t.val + r.val) :
    iblk m c 0 t (ix2 r k) = m ((c : Thread nD τ).loc main_arg0) (ix2 R k) := by
  refine congrArg (m ((c : Thread nD τ).loc main_arg0)) (funext fun a => Fin.ext ?_)
  fin_cases a
  · refine (win0_0.rect_emb_val t (ix2 r k) 0).trans ?_
    rw [(with0 t).1]; show t.val * 208 + r.val = R.val; omega
  · exact win0_0.rect_emb_val_of_index_zero t 1 (with0 t).2 (ix2 r k)

theorem block1 (c : Dev nD) (t : Fin cfg0.N) (r : Fin 208) (k : Fin 2048) (R : Fin 4160) (hr : R.val = 208 * t.val + r.val) :
    iblk m c 1 t (ix2 r k) = m ((c : Thread nD τ).loc main_arg1) (ix2 R k) := by
  refine congrArg (m ((c : Thread nD τ).loc main_arg1)) (funext fun a => Fin.ext ?_)
  fin_cases a
  · refine (win0_1.rect_emb_val t (ix2 r k) 0).trans ?_
    rw [(with1 t).1]; show t.val * 208 + r.val = R.val; omega
  · exact win0_1.rect_emb_val_of_index_zero t 1 (with1 t).2 (ix2 r k)

theorem block2 (c : Dev nD) (t : Fin cfg0.N) (j k : Fin 2048) :
    iblk m c 2 t (ix2 j k) = m ((c : Thread nD τ).loc main_arg2) (ix2 j k) := by
  refine congrArg (m ((c : Thread nD τ).loc main_arg2)) (funext fun a => Fin.ext ?_)
  fin_cases a
  · exact win0_2.rect_emb_val_of_index_zero t 0 (with2 t).1 (ix2 j k)
  · exact win0_2.rect_emb_val_of_index_zero t 1 (with2 t).2 (ix2 j k)

theorem block4 (c : Dev nD) (t : Fin cfg0.N) (k : Fin 2048) :
    iblk m c 4 t (ix2 0 k) = m ((c : Thread nD τ).loc main_arg4) (ix2 0 k) := by
  refine congrArg (m ((c : Thread nD τ).loc main_arg4)) (funext fun a => Fin.ext ?_)
  fin_cases a
  · exact win0_4.rect_emb_val_of_index_zero t 0 (with4 t).1 (ix2 0 k)
  · exact win0_4.rect_emb_val_of_index_zero t 1 (with4 t).2 (ix2 0 k)

/-- The scaled entries a point computes. -/
theorem out_eq (c : Dev nD) (t : Fin cfg0.N) (r : Fin 208) (k : Fin 2048) (R : Fin 4160) (hr : R.val = 208 * t.val + r.val) :
    (k0_pay11 (F := Ideal) (iblk m c 0 t) (iblk m c 1 t) (iblk m c 2 t) (iblk m c 4 t) (ix2 r k) : EReal) = out m c R k := by
  refine (out_at _ _ _ _ r k).trans ?_
  unfold out scaled
  simp only [block0 m c t r _ R hr, block1 m c t r _ R hr, block2 m c t, block4 m c t]

/-- The error a point computes for one of its rows. -/
theorem err_eq (c : Dev nD) (t : Fin cfg0.N) (r : Fin 208) (k : Fin 2048) (h : 16 ≤ 208 * t.val + r.val ∧ 208 * t.val + r.val < 4112) :
    (k0_pay12 (F := Ideal) (BitVec.ofNat 32 (grid0.coords t 0).val) (k0_pay5 (grid0.coords t))
      (k0_pay11 (iblk m c 0 t) (iblk m c 1 t) (iblk m c 2 t) (iblk m c 4 t)) (iblk m c 3 t)
      (Scalar.cmpi CmpIPredicate.eq (BitVec.ofNat 32 (grid0.coords t 0).val) 0#32) (ix2 r k) : EReal)
      = out m c ⟨208 * t.val + r.val, by omega⟩ k - target m c ⟨208 * t.val + r.val - 16, by omega⟩ k := by
  have hr := r.isLt
  have ht : t.val < 20 := t.isLt
  refine (err_at _ _ _ _ _ r k).trans ?_
  rw [mask_at, coord t, if_pos h, mul_one]
  refine congrArg₂ (fun a b : EReal => a - b) (out_eq m c t r k _ rfl) ?_
  rw [first ⟨t.val, ht⟩, last ⟨t.val, ht⟩]
  have ho := (off t).1
  by_cases h0 : t.val = 0
  · rw [if_neg (by show ¬t.val = 19; omega), if_pos (show t.val = 0 from h0)]
    refine block3 m c t _ k _ ?_
    rw [ho, if_pos h0]
    show 208 * t.val + r.val - 16 = 0 + (r.val + 208 - 16) % 208
    omega
  · rw [if_neg (show ¬t.val = 0 from h0)]
    by_cases h1 : t.val = 19
    · rw [if_pos (show t.val = 19 from h1)]
      refine block3 m c t _ k _ ?_
      rw [ho, if_neg h0, if_pos h1]
      show 208 * t.val + r.val - 16 = 3888 + (r.val + 208 - 160) % 208
      omega
    · rw [if_neg (show ¬t.val = 19 from h1)]
      refine block3 m c t _ k _ ?_
      rw [ho, if_neg h0, if_neg h1]
      show 208 * t.val + r.val - 16 = 208 * t.val - 16 + r.val
      omega

theorem mean_zero (e : Fin 2048 → EReal) (h : ∀ k, e k = 0) : mean e = 0 := by
  unfold mean
  rw [Finset.sum_eq_zero fun k _ => by rw [h k, mul_zero]]
  refine Ideal.zero_div ?_
  rw [size_eq]
  norm_num

/-- What a point adds, by rows. -/
theorem point (c : Dev nD) (t : Fin cfg0.N) (v : Vec Ideal S8x128 .f32) (y : S8x128.Idx) :
    (k0_pay16 (F := Ideal) (BitVec.ofNat 32 (grid0.coords t 0).val) (k0_pay5 (grid0.coords t))
      (k0_pay11 (iblk m c 0 t) (iblk m c 1 t) (iblk m c 2 t) (iblk m c 4 t)) (iblk m c 3 t)
      (Scalar.cmpi CmpIPredicate.eq (BitVec.ofNat 32 (grid0.coords t 0).val) 0#32) v y : EReal)
      = v y + ∑ r ∈ Finset.range 208, term m c (208 * t.val + r) := by
  refine (weight_at _ _ _ _ _ v y).trans ?_
  rw [Finset.sum_range]
  refine congrArg (fun s : EReal => v y + s) (Finset.sum_congr rfl fun r _ => ?_)
  unfold term
  split
  · rename_i h
    exact congrArg (fun e => ((1 / 2 : ℝ) : EReal) * mean e) (funext fun k => err_eq m c t r k h)
  · rename_i h
    rw [mean_zero _ fun k => (err_at _ _ _ _ _ r k).trans (by rw [mask_at, coord t, if_neg h, mul_zero]), mul_zero]

/-- After a point every entry has the sum over the rows so far. -/
theorem sofar (c : Dev nD) (y : S8x128.Idx) : ∀ (n : ℕ) (h : n < cfg0.N),
    ((outsAt0 m c n h).1 y : EReal) = ∑ R ∈ Finset.range (208 * n + 208), term m c R
  | 0, h => by
    refine (congrFun (start m c ⟨0, h⟩ rfl) y).trans ((point m c ⟨0, h⟩ _ y).trans ?_)
    have hz : (k0_pay3 (F := Ideal) y : EReal) = 0 := Ideal.ofBits_zero .f32
    rw [hz, zero_add]
    simp only [Nat.mul_zero, Nat.zero_add]
  | n + 1, h => by
    have hn : n + 1 < 20 := h
    refine (congrFun (next m c ⟨n + 1, h⟩ (by show ¬(n + 1) % 20 = 0; omega)) y).trans ((point m c ⟨n + 1, h⟩ _ y).trans ?_)
    rw [Finset.sum_range_add]
    exact congrArg (fun s : EReal => s + _) (sofar c y n (by omega))

/-- The loss: a half of the sum over the rows with a target. -/
abbrev loss (c : Dev nD) : S8x128.Idx → Ideal .f32 := fun _ =>
  (((1 / 2 : ℝ) : EReal) * ∑ b : Fin 4096, mean (fun k => out m c ⟨16 + b.val, by omega⟩ k - target m c b k) : EReal)

theorem total (c : Dev nD) : ∑ R ∈ Finset.range 4160, term m c R
    = ((1 / 2 : ℝ) : EReal) * ∑ b : Fin 4096, mean (fun k => out m c ⟨16 + b.val, by omega⟩ k - target m c b k) := by
  refine (Finset.sum_range_add (term m c) (16 + 4096) 48).trans ?_
  rw [Finset.sum_range_add]
  rw [Finset.sum_eq_zero (s := Finset.range 16) fun R hR => by
    have := Finset.mem_range.1 hR
    exact dif_neg (by omega)]
  rw [Finset.sum_eq_zero (s := Finset.range 48) fun R hR => dif_neg (by omega)]
  rw [zero_add, add_zero, Finset.sum_range]
  have f : ∀ b : Fin 4096, term m c (16 + b.val)
      = ((1 / 2 : ℝ) : EReal) * mean (fun k => out m c ⟨16 + b.val, by omega⟩ k - target m c b k) := fun b => by
    unfold term
    rw [dif_pos (by omega)]
    refine congrArg (fun e => ((1 / 2 : ℝ) : EReal) * mean e) (funext fun k => ?_)
    exact congrArg (fun r => out m c ⟨16 + b.val, by omega⟩ k - target m c r k) (Fin.ext (Nat.add_sub_cancel_left ..))
  rw [Finset.sum_congr rfl fun b _ => f b]
  exact (half_sum Finset.univ _).symm

theorem flushed_eq (c : Dev nD) (t : Fin cfg0.N) (hf : (cfg0.win 5).flush t = true) :
    (dats m 0 c).flushed 5 t = (win0_5.blk t).view.read (Elt Ideal) (loss m c) :=
  (flushed5 m c t).trans (funext fun y => by
    have ht : t.val % 20 = 19 := (flush0_5 t).1 hf
    have h20 : t.val < 20 := t.isLt
    show ((outsAt0 m c t.val t.isLt).1 y : EReal) = _
    refine (sofar m c y t.val t.isLt).trans ?_
    rw [show 208 * t.val + 208 = 4160 by omega]
    exact total m c)

/-- The last point's block is the whole array. -/
theorem covered (i : S8x128.Idx) (t : Fin cfg0.N) : i ∈ (win0_5.blk t).view.set := by
  have h0 : (i 0).val < 8 := (i 0).isLt
  have h1 : (i 1).val < 128 := (i 1).isLt
  show i ∈ ((View.whole main_v0_0).slice (win0_5.rect t)).set
  rw [View.set_slice_whole, Rect.mem_set_unit]
  intro a
  fin_cases a
  · show win0_5.index t 0 * 8 ≤ (i 0).val ∧ (i 0).val < win0_5.index t 0 * 8 + 8
    rw [(with5 t).1]; omega
  · show win0_5.index t 1 * 128 ≤ (i 1).val ∧ (i 1).val < win0_5.index t 1 * 128 + 128
    rw [(with5 t).2]; omega

theorem final (c : Dev nD) : (dats m 0 c).arrAt 5 cfg0.N = loss m c :=
  (dats m 0 c).arrAt_eq_of_cover 5 (loss m c) (fun t hf => flushed_eq m c t hf) fun i =>
    ⟨⟨19, by decide⟩, (flush0_5 _).2 rfl, covered i _⟩

end Cert.LossIdeal.Value

namespace Cert.Loss

open Idealize.ShloMosaic Idealize.ShloMosaic.TcCoe Idealize.SL.Sem

theorem frame_kernel : Cert.quiescent_Loss := fun m ρ _ => Cert.Loss.Gen.frame m ρ

theorem frame_ideal : Cert.quiescent_LossIdeal := fun m ρ _ => Cert.LossIdeal.Gen.frame m ρ

theorem frame_reference : Cert.quiescent_LossReferenceIdeal := fun m ρ _ =>
  (θ_run Cert.LossReferenceIdeal.defs _ _).mono (fun r h => ⟨fun c => (h c).2, sem_eq_zero_of_no_sems (by decide) r.2⟩)
    (Cert.LossReferenceIdeal.Value.run m ρ)

section Reference

open Cert.LossReferenceIdeal Cert.LossReferenceIdeal.Gen

theorem loss_at (h : FVec Ideal S4160x2048 .f32) (y : FVec Ideal S4160x2048 .bf16) (w : FVec Ideal S2048x2048 .bf16) (t : FVec Ideal S4096x2048 .f32) (f : FVec Ideal S1x2048 .f32) (i : S8x128.Idx) :
    (broadcastInDim S8x128 ![] bcast_S_S8x128 (mulf (constant S_ .f32 0x3F000000#32) (Host.reduceAdd (Host.divf (Host.reduceAdd (mulf (subf (extractStridedSlice S4096x2048 ![16, 0] (mulf (mulf (addf h (Host.dotGeneral dot_S4160x2048_S2048x2048_S4160x2048_1_0_0_1_n_n none y w)) (broadcastInDim S4160x2048 ![0, 1] bcast_S4160x1_S4160x2048_0_1 (Host.rsqrt (addf (Host.divf (broadcastInDim S4160x1 ![0] bcast_S4160_S4160x1_0 (Host.reduceAdd (mulf (addf h (Host.dotGeneral dot_S4160x2048_S2048x2048_S4160x2048_1_0_0_1_n_n none y w)) (addf h (Host.dotGeneral dot_S4160x2048_S2048x2048_S4160x2048_1_0_0_1_n_n none y w))) (constant S_ .f32 0x00000000#32) reducesTo_S4160x2048_S4160_d1 h_S_)) (broadcastInDim S4160x1 ![] bcast_S_S4160x1 (constant S_ .f32 0x45000000#32))) (broadcastInDim S4160x1 ![] bcast_S_S4160x1 (constant S_ .f32 0x358637BD#32)))))) (broadcastInDim S4160x2048 ![0, 1] bcast_S1x2048_S4160x2048_0_1 f)) slices_S4160x2048_S4096x2048_16_0) t) (subf (extractStridedSlice S4096x2048 ![16, 0] (mulf (mulf (addf h (Host.dotGeneral dot_S4160x2048_S2048x2048_S4160x2048_1_0_0_1_n_n none y w)) (broadcastInDim S4160x2048 ![0, 1] bcast_S4160x1_S4160x2048_0_1 (Host.rsqrt (addf (Host.divf (broadcastInDim S4160x1 ![0] bcast_S4160_S4160x1_0 (Host.reduceAdd (mulf (addf h (Host.dotGeneral dot_S4160x2048_S2048x2048_S4160x2048_1_0_0_1_n_n none y w)) (addf h (Host.dotGeneral dot_S4160x2048_S2048x2048_S4160x2048_1_0_0_1_n_n none y w))) (constant S_ .f32 0x00000000#32) reducesTo_S4160x2048_S4160_d1 h_S_)) (broadcastInDim S4160x1 ![] bcast_S_S4160x1 (constant S_ .f32 0x45000000#32))) (broadcastInDim S4160x1 ![] bcast_S_S4160x1 (constant S_ .f32 0x358637BD#32)))))) (broadcastInDim S4160x2048 ![0, 1] bcast_S1x2048_S4160x2048_0_1 f)) slices_S4160x2048_S4096x2048_16_0) t)) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_)) : FVec Ideal S8x128 .f32) i
      = (((1 / 2 : ℝ) : EReal) * ∑ b : Fin 4096, mean (fun k => scaled (fun r k => h (ix2 r k)) (fun r k => y (ix2 r k)) (fun j k => w (ix2 j k))
          (fun k => f (ix2 0 k)) (⟨16 + b.val, by omega⟩ : Fin 4160) k - t (ix2 b k)) : EReal) := by
  unfold mean scaled
  rw [← Cert.LossIdeal.Value.half_eq]
  pointwise

end Reference

open Cert.LossIdeal.Value in
theorem algebraic : Cert.algebraic_LossIdeal_LossReferenceIdeal := fun m ρ m' ρ' _ h =>
  ⟨fun c => loss m c,
    (θ_run Cert.LossIdeal.defs _ _).mono (fun _ hr c => by
      obtain ⟨r0, _, _, _, hk⟩ := hr c
      exact ⟨r0.trans (final m c), hk⟩) (run_blocks m ρ),
    (θ_run Cert.LossReferenceIdeal.defs _ _).mono (fun _ hr c => by
      obtain ⟨r0, hk⟩ := hr c
      obtain ⟨h0, h1, h2, h3, h4⟩ := h c
      refine ⟨r0.trans (funext fun i => ?_), hk⟩
      rw [h0, h1, h2, h3, h4]
      exact loss_at _ _ _ _ _ i) (Cert.LossReferenceIdeal.Value.run m' ρ')⟩

end Cert.Loss

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.RepStep
public import proofs.«01_k».proof.Proof.Gen.RepStep.Frame
public import proofs.«01_k».proof.Proof.Gen.RepStepIdeal
public import proofs.«01_k».proof.Proof.Gen.RepStepIdeal.Value
public import proofs.«01_k».proof.Proof.Gen.RepStepReferenceIdeal
public import proofs.«01_k».proof.Proof.Gen.RepStepReferenceIdeal.Run
public import proofs.«01_k».proof.Proof.Gen.SmallStep
public import proofs.«01_k».proof.Proof.Gen.SmallStep.Frame
public import proofs.«01_k».proof.Proof.Gen.SmallStepIdeal
public import proofs.«01_k».proof.Proof.Gen.SmallStepIdeal.Value
public import proofs.«01_k».proof.Proof.Gen.SmallStepReferenceIdeal
public import proofs.«01_k».proof.Proof.Gen.SmallStepReferenceIdeal.Run
public import proofs.«01_k».proof.Proof.Gen.WInStep
public import proofs.«01_k».proof.Proof.Gen.WInStep.Frame
public import proofs.«01_k».proof.Proof.Gen.WInStepIdeal
public import proofs.«01_k».proof.Proof.Gen.WInStepIdeal.Value
public import proofs.«01_k».proof.Proof.Gen.WInStepReferenceIdeal
public import proofs.«01_k».proof.Proof.Gen.WInStepReferenceIdeal.Run
public import proofs.«01_k».proof.Proof.Gen.WOutStep
public import proofs.«01_k».proof.Proof.Gen.WOutStep.Frame
public import proofs.«01_k».proof.Proof.Gen.WOutStepIdeal
public import proofs.«01_k».proof.Proof.Gen.WOutStepIdeal.Value
public import proofs.«01_k».proof.Proof.Gen.WOutStepReferenceIdeal
public import proofs.«01_k».proof.Proof.Gen.WOutStepReferenceIdeal.Run
public import proofs.«01_k».proof.Proof.Gen.WOutSib
public import proofs.«01_k».proof.Proof.Gen.WOutSibIdeal
public import proofs.«01_k».proof.Proof.Gen.WOutSibIdeal.Skeleton
public import proofs.«01_k».proof.Proof.Gen.WOutSibIdeal.Launch
public import proofs.«01_k».proof.Proof.Gen.WOutSibReferenceIdeal
public import proofs.«01_k».proof.Proof.Gen.WOutSibReferenceIdeal.Run
public import proofs.«01_k».proof.Proof.Gen.WInPair
public import proofs.«01_k».proof.Proof.Gen.WInPairIdeal
public import proofs.«01_k».proof.Proof.Gen.WInPairIdeal.Skeleton
public import proofs.«01_k».proof.Proof.Gen.WInPairIdeal.Launch
public import proofs.«01_k».proof.Proof.Gen.WInPairIdeal.Regions
public import proofs.«01_k».proof.Proof.Gen.WInPairReferenceIdeal
public import proofs.«01_k».proof.Proof.Gen.WInPairReferenceIdeal.Run
public import proofs.«01_k».proof.Proof.Gen.WOutPair
public import proofs.«01_k».proof.Proof.Gen.WOutPairIdeal
public import proofs.«01_k».proof.Proof.Gen.WOutPairIdeal.Skeleton
public import proofs.«01_k».proof.Proof.Gen.WOutPairIdeal.Launch
public import proofs.«01_k».proof.Proof.Gen.WOutPairIdeal.Regions
public import proofs.«01_k».proof.Proof.Gen.WOutPairReferenceIdeal
public import proofs.«01_k».proof.Proof.Gen.WOutPairReferenceIdeal.Run
public import proofs.«01_k».proof.Proof.Gen.WInShare
public import proofs.«01_k».proof.Proof.Gen.WInShareIdeal
public import proofs.«01_k».proof.Proof.Gen.WInShareIdeal.Skeleton
public import proofs.«01_k».proof.Proof.Gen.WInShareIdeal.Launch
public import proofs.«01_k».proof.Proof.Gen.WInShareIdeal.Regions
public import proofs.«01_k».proof.Proof.Gen.WInShareReferenceIdeal
public import proofs.«01_k».proof.Proof.Gen.WInShareReferenceIdeal.Run
public import proofs.«01_k».proof.Proof.Gen.WOutShare
public import proofs.«01_k».proof.Proof.Gen.WOutShareIdeal
public import proofs.«01_k».proof.Proof.Gen.WOutShareIdeal.Skeleton
public import proofs.«01_k».proof.Proof.Gen.WOutShareIdeal.Launch
public import proofs.«01_k».proof.Proof.Gen.WOutShareIdeal.Regions
public import proofs.«01_k».proof.Proof.Gen.WOutShareReferenceIdeal
public import proofs.«01_k».proof.Proof.Gen.WOutShareReferenceIdeal.Run
public import proofs.«01_k».proof.Proof.Gen.GradX
public import proofs.«01_k».proof.Proof.Gen.GradX.Frame
public import proofs.«01_k».proof.Proof.Gen.GradXIdeal
public import proofs.«01_k».proof.Proof.Gen.GradXIdeal.Value
public import proofs.«01_k».proof.Proof.Gen.GradXReferenceIdeal
public import proofs.«01_k».proof.Proof.Gen.GradXReferenceIdeal.Run
public import proofs.«01_k».proof.Proof.Gen.WInSum
public import proofs.«01_k».proof.Proof.Gen.WInSum.Frame
public import proofs.«01_k».proof.Proof.Gen.WInSumIdeal
public import proofs.«01_k».proof.Proof.Gen.WInSumIdeal.Value
public import proofs.«01_k».proof.Proof.Gen.WInSumReferenceIdeal
public import proofs.«01_k».proof.Proof.Gen.WInSumReferenceIdeal.Run
public import proofs.«01_k».proof.Proof.Gen.WOutSum
public import proofs.«01_k».proof.Proof.Gen.WOutSum.Frame
public import proofs.«01_k».proof.Proof.Gen.WOutSumIdeal
public import proofs.«01_k».proof.Proof.Gen.WOutSumIdeal.Value
public import proofs.«01_k».proof.Proof.Gen.WOutSumReferenceIdeal
public import proofs.«01_k».proof.Proof.Gen.WOutSumReferenceIdeal.Run
public import proofs.«01_k».proof.Proof.Gen.SmallSum
public import proofs.«01_k».proof.Proof.Gen.SmallSum.Frame
public import proofs.«01_k».proof.Proof.Gen.SmallSumIdeal
public import proofs.«01_k».proof.Proof.Gen.SmallSumIdeal.Value
public import proofs.«01_k».proof.Proof.Gen.SmallSumReferenceIdeal
public import proofs.«01_k».proof.Proof.Gen.SmallSumReferenceIdeal.Run
public import proofs.«01_k».proof.Proof.Gen.WOutAdd
public import proofs.«01_k».proof.Proof.Gen.WOutAdd.Frame
public import proofs.«01_k».proof.Proof.Gen.WOutAddIdeal
public import proofs.«01_k».proof.Proof.Gen.WOutAddIdeal.Value
public import proofs.«01_k».proof.Proof.Gen.WOutAddReferenceIdeal
public import proofs.«01_k».proof.Proof.Gen.WOutAddReferenceIdeal.Run
public import proofs.«01_k».proof.Proof.Gen.SmallAdd
public import proofs.«01_k».proof.Proof.Gen.SmallAdd.Frame
public import proofs.«01_k».proof.Proof.Gen.SmallAddIdeal
public import proofs.«01_k».proof.Proof.Gen.SmallAddIdeal.Value
public import proofs.«01_k».proof.Proof.Gen.SmallAddReferenceIdeal
public import proofs.«01_k».proof.Proof.Gen.SmallAddReferenceIdeal.Run
public import proofs.«01_k».proof.Proof.Gen.Norm
public import proofs.«01_k».proof.Proof.Gen.Norm.Frame
public import proofs.«01_k».proof.Proof.Gen.NormIdeal
public import proofs.«01_k».proof.Proof.Gen.NormIdeal.Value
public import proofs.«01_k».proof.Proof.Gen.NormReferenceIdeal
public import proofs.«01_k».proof.Proof.Gen.NormReferenceIdeal.Run
public import proofs.«01_k».proof.Proof.Gen.MetaGrads
public import proofs.«01_k».proof.Proof.Gen.MetaGrads.Frame
public import proofs.«01_k».proof.Proof.Gen.MetaGradsIdeal
public import proofs.«01_k».proof.Proof.Gen.MetaGradsIdeal.Value
public import proofs.«01_k».proof.Proof.Gen.MetaGradsReferenceIdeal
public import proofs.«01_k».proof.Proof.Gen.MetaGradsReferenceIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.DWOut
public import proofs.«01_k».proof.Proof.Gen.DWOut.Frame
public import proofs.«01_k».proof.Proof.Gen.DWOutIdeal
public import proofs.«01_k».proof.Proof.Gen.DWOutIdeal.Value
public import proofs.«01_k».proof.Proof.Gen.DWOutReferenceIdeal
public import proofs.«01_k».proof.Proof.Gen.DWOutReferenceIdeal.Run
public import proofs.«01_k».proof.Proof.Gen.DOutProj
public import proofs.«01_k».proof.Proof.Gen.DOutProj.Frame
public import proofs.«01_k».proof.Proof.Gen.DOutProjIdeal
public import proofs.«01_k».proof.Proof.Gen.DOutProjIdeal.Value
public import proofs.«01_k».proof.Proof.Gen.DOutProjReferenceIdeal
public import proofs.«01_k».proof.Proof.Gen.DOutProjReferenceIdeal.Run
public import proofs.«01_k».proof.Proof.Gen.DWIn
public import proofs.«01_k».proof.Proof.Gen.DWIn.Frame
public import proofs.«01_k».proof.Proof.Gen.DWInIdeal
public import proofs.«01_k».proof.Proof.Gen.DWInIdeal.Value
public import proofs.«01_k».proof.Proof.Gen.DWInReferenceIdeal
public import proofs.«01_k».proof.Proof.Gen.DWInReferenceIdeal.Run
public import proofs.«01_k».proof.Proof.Gen.DInProj
public import proofs.«01_k».proof.Proof.Gen.DInProj.Frame
public import proofs.«01_k».proof.Proof.Gen.DInProjIdeal
public import proofs.«01_k».proof.Proof.Gen.DInProjIdeal.Value
public import proofs.«01_k».proof.Proof.Gen.DInProjReferenceIdeal
public import proofs.«01_k».proof.Proof.Gen.DInProjReferenceIdeal.Run
public import proofs.«01_k».proof.Proof.Gen.Loss
public import proofs.«01_k».proof.Proof.Gen.Loss.Frame
public import proofs.«01_k».proof.Proof.Gen.LossIdeal
public import proofs.«01_k».proof.Proof.Gen.LossIdeal.Value
public import proofs.«01_k».proof.Proof.Gen.LossReferenceIdeal
public import proofs.«01_k».proof.Proof.Gen.LossReferenceIdeal.Run
public import proofs.«01_k».proof.Proof.SibClaims
public import proofs.«01_k».proof.Proof.RepStep
public import proofs.«01_k».proof.Proof.SmallStep
public import proofs.«01_k».proof.Proof.WInStep
public import proofs.«01_k».proof.Proof.WOutStep
public import proofs.«01_k».proof.Proof.WOutSibClaims
public import proofs.«01_k».proof.Proof.WInPairClaims
public import proofs.«01_k».proof.Proof.WOutPairClaims
public import proofs.«01_k».proof.Proof.WInShareClaims
public import proofs.«01_k».proof.Proof.WOutShareClaims
public import proofs.«01_k».proof.Proof.GradX
public import proofs.«01_k».proof.Proof.WInSum
public import proofs.«01_k».proof.Proof.WOutSum
public import proofs.«01_k».proof.Proof.SmallSum
public import proofs.«01_k».proof.Proof.WOutAdd
public import proofs.«01_k».proof.Proof.SmallAdd
public import proofs.«01_k».proof.Proof.Norm
public import proofs.«01_k».proof.Proof.MetaGrads
public import proofs.«01_k».proof.Proof.InProj
public import proofs.«01_k».proof.Proof.DWOut
public import proofs.«01_k».proof.Proof.DOutProj
public import proofs.«01_k».proof.Proof.DWIn
public import proofs.«01_k».proof.Proof.DInProj
public import proofs.«01_k».proof.Proof.Loss

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.WOutSib.Gen.facts, Cert.WOutSibIdeal.Gen.facts, Cert.WOutSibReferenceIdeal.Gen.facts,
  Cert.WInPair.Gen.facts, Cert.WInPairIdeal.Gen.facts, Cert.WInPairReferenceIdeal.Gen.facts,
  Cert.WOutPair.Gen.facts, Cert.WOutPairIdeal.Gen.facts, Cert.WOutPairReferenceIdeal.Gen.facts,
  Cert.WInShare.Gen.facts, Cert.WInShareIdeal.Gen.facts, Cert.WInShareReferenceIdeal.Gen.facts,
  Cert.WOutShare.Gen.facts, Cert.WOutShareIdeal.Gen.facts, Cert.WOutShareReferenceIdeal.Gen.facts,
  Cert.RepStep.Gen.facts, Cert.RepStepIdeal.Gen.facts, Cert.RepStepReferenceIdeal.Gen.facts,
  Cert.SmallStep.Gen.facts, Cert.SmallStepIdeal.Gen.facts, Cert.SmallStepReferenceIdeal.Gen.facts,
  Cert.WInStep.Gen.facts, Cert.WInStepIdeal.Gen.facts, Cert.WInStepReferenceIdeal.Gen.facts,
  Cert.WOutStep.Gen.facts, Cert.WOutStepIdeal.Gen.facts, Cert.WOutStepReferenceIdeal.Gen.facts,
  Cert.GradX.Gen.facts, Cert.GradXIdeal.Gen.facts, Cert.GradXReferenceIdeal.Gen.facts,
  Cert.WInSum.Gen.facts, Cert.WInSumIdeal.Gen.facts, Cert.WInSumReferenceIdeal.Gen.facts,
  Cert.WOutSum.Gen.facts, Cert.WOutSumIdeal.Gen.facts, Cert.WOutSumReferenceIdeal.Gen.facts,
  Cert.SmallSum.Gen.facts, Cert.SmallSumIdeal.Gen.facts, Cert.SmallSumReferenceIdeal.Gen.facts,
  Cert.WOutAdd.Gen.facts, Cert.WOutAddIdeal.Gen.facts, Cert.WOutAddReferenceIdeal.Gen.facts,
  Cert.SmallAdd.Gen.facts, Cert.SmallAddIdeal.Gen.facts, Cert.SmallAddReferenceIdeal.Gen.facts,
  Cert.Norm.Gen.facts, Cert.NormIdeal.Gen.facts, Cert.NormReferenceIdeal.Gen.facts,
  Cert.MetaGrads.Gen.facts, Cert.MetaGradsIdeal.Gen.facts, Cert.MetaGradsReferenceIdeal.Gen.facts,
  Cert.InProj.Gen.facts, Cert.InProjIdeal.Gen.facts, Cert.InProjReferenceIdeal.Gen.facts,
  Cert.DWOut.Gen.facts, Cert.DWOutIdeal.Gen.facts, Cert.DWOutReferenceIdeal.Gen.facts,
  Cert.DOutProj.Gen.facts, Cert.DOutProjIdeal.Gen.facts, Cert.DOutProjReferenceIdeal.Gen.facts,
  Cert.DWIn.Gen.facts, Cert.DWInIdeal.Gen.facts, Cert.DWInReferenceIdeal.Gen.facts,
  Cert.DInProj.Gen.facts, Cert.DInProjIdeal.Gen.facts, Cert.DInProjReferenceIdeal.Gen.facts,
  Cert.Loss.Gen.facts, Cert.LossIdeal.Gen.facts, Cert.LossReferenceIdeal.Gen.facts,
  Cert.Sib.frame_kernel, Cert.Sib.frame_ideal, Cert.Sib.frame_reference,
  Cert.WOutSib.frame_kernel, Cert.WOutSib.frame_ideal, Cert.WOutSib.frame_reference,
  Cert.WInPair.frame_kernel, Cert.WInPair.frame_ideal, Cert.WInPair.frame_reference,
  Cert.WOutPair.frame_kernel, Cert.WOutPair.frame_ideal, Cert.WOutPair.frame_reference,
  Cert.WInShare.frame_kernel, Cert.WInShare.frame_ideal, Cert.WInShare.frame_reference,
  Cert.WOutShare.frame_kernel, Cert.WOutShare.frame_ideal, Cert.WOutShare.frame_reference,
  Cert.RepStep.frame_kernel, Cert.RepStep.frame_ideal, Cert.RepStep.frame_reference,
  Cert.SmallStep.frame_kernel, Cert.SmallStep.frame_ideal, Cert.SmallStep.frame_reference,
  Cert.WInStep.frame_kernel, Cert.WInStep.frame_ideal, Cert.WInStep.frame_reference,
  Cert.WOutStep.frame_kernel, Cert.WOutStep.frame_ideal, Cert.WOutStep.frame_reference,
  Cert.GradX.frame_kernel, Cert.GradX.frame_ideal, Cert.GradX.frame_reference,
  Cert.WInSum.frame_kernel, Cert.WInSum.frame_ideal, Cert.WInSum.frame_reference,
  Cert.WOutSum.frame_kernel, Cert.WOutSum.frame_ideal, Cert.WOutSum.frame_reference,
  Cert.SmallSum.frame_kernel, Cert.SmallSum.frame_ideal, Cert.SmallSum.frame_reference,
  Cert.WOutAdd.frame_kernel, Cert.WOutAdd.frame_ideal, Cert.WOutAdd.frame_reference,
  Cert.SmallAdd.frame_kernel, Cert.SmallAdd.frame_ideal, Cert.SmallAdd.frame_reference,
  Cert.Norm.frame_kernel, Cert.Norm.frame_ideal, Cert.Norm.frame_reference,
  Cert.MetaGrads.frame_kernel, Cert.MetaGrads.frame_ideal, Cert.MetaGrads.frame_reference,
  Cert.InProj.frame_kernel, Cert.InProj.frame_ideal, Cert.InProj.frame_reference,
  Cert.DWOut.frame_kernel, Cert.DWOut.frame_ideal, Cert.DWOut.frame_reference,
  Cert.DOutProj.frame_kernel, Cert.DOutProj.frame_ideal, Cert.DOutProj.frame_reference,
  Cert.DWIn.frame_kernel, Cert.DWIn.frame_ideal, Cert.DWIn.frame_reference,
  Cert.DInProj.frame_kernel, Cert.DInProj.frame_ideal, Cert.DInProj.frame_reference,
  Cert.Loss.frame_kernel, Cert.Loss.frame_ideal, Cert.Loss.frame_reference,
  trivial, Cert.Sib.algebraic,
  trivial, Cert.WOutSib.algebraic,
  trivial, Cert.WInPair.algebraic,
  trivial, Cert.WOutPair.algebraic,
  trivial, Cert.WInShare.algebraic,
  trivial, Cert.WOutShare.algebraic,
  trivial, Cert.RepStep.algebraic,
  trivial, Cert.SmallStep.algebraic,
  trivial, Cert.WInStep.algebraic,
  trivial, Cert.WOutStep.algebraic,
  trivial, Cert.GradX.algebraic,
  trivial, Cert.WInSum.algebraic,
  trivial, Cert.WOutSum.algebraic,
  trivial, Cert.SmallSum.algebraic,
  trivial, Cert.WOutAdd.algebraic,
  trivial, Cert.SmallAdd.algebraic,
  trivial, Cert.Norm.algebraic,
  trivial, Cert.MetaGrads.algebraic,
  trivial, Cert.InProj.algebraic,
  trivial, Cert.DWOut.algebraic,
  trivial, Cert.DOutProj.algebraic,
  trivial, Cert.DWIn.algebraic,
  trivial, Cert.DInProj.algebraic,
  trivial, Cert.Loss.algebraic⟩

end Cert.Proof

end
